-- ==== Defs.lean ====
def Pre_ScConv (m : (ℓ : Loc Cert.ScConv.nD Cert.ScConv.τ Cert.ScConv.sig) → Buf (Elt Bits) ℓ) : Prop :=
  True

def Pre_ScConvIdeal (m : (ℓ : Loc Cert.ScConvIdeal.nD Cert.ScConvIdeal.τ Cert.ScConvIdeal.sig) → Buf (Elt Ideal) ℓ) : Prop :=
  True

def Pre_ScConvRefIdeal (m : (ℓ : Loc Cert.ScConvRefIdeal.nD Cert.ScConvRefIdeal.τ Cert.ScConvRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActIdeal_dact_finite [hPre_dact_finite : Cert.Pre_dact_finite.Facts] (m : (ℓ : Loc Cert.DActIdeal.nD Cert.DActIdeal.τ Cert.DActIdeal.sig) → Buf (Elt Ideal) ℓ) : Prop :=
  ∀ c : Dev Cert.DActIdeal.nD,
    (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).1 = (fun _ => 1#1)
    ∧ (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.1 = (fun _ => 1#1)
    ∧ (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.2 = (fun _ => 1#1)

def Pre_DActRefIdeal (m : (ℓ : Loc Cert.DActRefIdeal.nD Cert.DActRefIdeal.τ Cert.DActRefIdeal.sig) → Buf (Elt Ideal) ℓ) : Prop :=
  True

def Pre_DActRefIdeal_dact_finite [hPre_dact_finite : Cert.Pre_dact_finite.Facts] (m : (ℓ : Loc Cert.DActRefIdeal.nD Cert.DActRefIdeal.τ Cert.DActRefIdeal.sig) → Buf (Elt Ideal) ℓ) : Prop :=
  ∀ c : Dev Cert.DActRefIdeal.nD,
    (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).1 = (fun _ => 1#1)
    ∧ (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.1 = (fun _ => 1#1)
    ∧ (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.2 = (fun _ => 1#1)

def Pre_DWd (m : (ℓ : Loc Cert.DWd.nD Cert.DWd.τ Cert.DWd.sig) → Buf (Elt Bits) ℓ) : Prop :=
  True

def Pre_DWdIdeal (m : (ℓ : Loc Cert.DWdIdeal.nD Cert.DWdIdeal.τ Cert.DWdIdeal.sig) → Buf (Elt Ideal) ℓ) : Prop :=
  True

def Pre_DWdRefIdeal (m : (ℓ : Loc Cert.DWdRefIdeal.nD Cert.DWdRefIdeal.τ Cert.DWdRefIdeal.sig) → Buf (Elt Ideal) ℓ) : Prop :=
  True

def Pre_DWg (m : (ℓ : Loc Cert.DWg.nD Cert.DWg.τ Cert.DWg.sig) → Buf (Elt Bits) ℓ) : Prop :=
  True

def Pre_DWgIdeal (m : (ℓ : Loc Cert.DWgIdeal.nD Cert.DWgIdeal.τ Cert.DWgIdeal.sig) → Buf (Elt Ideal) ℓ) : Prop :=
  True

def Pre_DWgRefIdeal (m : (ℓ : Loc Cert.DWgRefIdeal.nD Cert.DWgRefIdeal.τ Cert.DWgRefIdeal.sig) → Buf (Elt Ideal) ℓ) : Prop :=
  True

def Pre_DXn (m : (ℓ : Loc Cert.DXn.nD Cert.DXn.τ Cert.DXn.sig) → Buf (Elt Bits) ℓ) : Prop :=
  True

def Pre_DXnIdeal (m : (ℓ : Loc Cert.DXnIdeal.nD Cert.DXnIdeal.τ Cert.DXnIdeal.sig) → Buf (Elt Ideal) ℓ) : Prop :=
  True

def Pre_DXnRefIdeal (m : (ℓ : Loc Cert.DXnRefIdeal.nD Cert.DXnRefIdeal.τ Cert.DXnRefIdeal.sig) → Buf (Elt Ideal) ℓ) : Prop :=
  True

def Pre_DXnU (m : (ℓ : Loc Cert.DXnU.nD Cert.DXnU.τ Cert.DXnU.sig) → Buf (Elt Bits) ℓ) : Prop :=
  True

def Pre_DXnUIdeal (m : (ℓ : Loc Cert.DXnUIdeal.nD Cert.DXnUIdeal.τ Cert.DXnUIdeal.sig) → Buf (Elt Ideal) ℓ) : Prop :=
  True

def Pre_DXnURefIdeal (m : (ℓ : Loc Cert.DXnURefIdeal.nD Cert.DXnURefIdeal.τ Cert.DXnURefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DWo (m : (ℓ : Loc Cert.DWo.nD Cert.DWo.τ Cert.DWo.sig) → Buf (Elt Bits) ℓ) : Prop :=
  True

def Pre_DWoIdeal (m : (ℓ : Loc Cert.DWoIdeal.nD Cert.DWoIdeal.τ Cert.DWoIdeal.sig) → Buf (Elt Ideal) ℓ) : Prop :=
  True

def Pre_DWoRefIdeal (m : (ℓ : Loc Cert.DWoRefIdeal.nD Cert.DWoRefIdeal.τ Cert.DWoRefIdeal.sig) → Buf (Elt Ideal) ℓ) : Prop :=
  True

def Pre_DScW (m : (ℓ : Loc Cert.DScW.nD Cert.DScW.τ Cert.DScW.sig) → Buf (Elt Bits) ℓ) : Prop :=
  True

def Pre_DScWIdeal (m : (ℓ : Loc Cert.DScWIdeal.nD Cert.DScWIdeal.τ Cert.DScWIdeal.sig) → Buf (Elt Ideal) ℓ) : Prop :=
  True

def Pre_DScWRefIdeal (m : (ℓ : Loc Cert.DScWRefIdeal.nD Cert.DScWRefIdeal.τ Cert.DScWRefIdeal.sig) → Buf (Elt Ideal) ℓ) : Prop :=
  True

def Pre_DV (m : (ℓ : Loc Cert.DV.nD Cert.DV.τ Cert.DV.sig) → Buf (Elt Bits) ℓ) : Prop :=
  True

def Pre_DVIdeal (m : (ℓ : Loc Cert.DVIdeal.nD Cert.DVIdeal.τ Cert.DVIdeal.sig) → Buf (Elt Ideal) ℓ) : Prop :=
  True

def Pre_DVRefIdeal (m : (ℓ : Loc Cert.DVRefIdeal.nD Cert.DVRefIdeal.τ Cert.DVRefIdeal.sig) → Buf (Elt Ideal) ℓ) : Prop :=
  True

def Pre_DMW (m : (ℓ : Loc Cert.DMW.nD Cert.DMW.τ Cert.DMW.sig) → Buf (Elt Bits) ℓ) : Prop :=
  True

def Pre_DMWIdeal (m : (ℓ : Loc Cert.DMWIdeal.nD Cert.DMWIdeal.τ Cert.DMWIdeal.sig) → Buf (Elt Ideal) ℓ) : Prop :=
  True

def Pre_DMWRefIdeal (m : (ℓ : Loc Cert.DMWRefIdeal.nD Cert.DMWRefIdeal.τ Cert.DMWRefIdeal.sig) → Buf (Elt Ideal) ℓ) : Prop :=
  True

def Pre_DYn (m : (ℓ : Loc Cert.DYn.nD Cert.DYn.τ Cert.DYn.sig) → Buf (Elt Bits) ℓ) : Prop :=
  True

def Pre_DYnIdeal (m : (ℓ : Loc Cert.DYnIdeal.nD Cert.DYnIdeal.τ Cert.DYnIdeal.sig) → Buf (Elt Ideal) ℓ) : Prop :=
  True

def Pre_DYnRefIdeal (m : (ℓ : Loc Cert.DYnRefIdeal.nD Cert.DYnRefIdeal.τ Cert.DYnRefIdeal.sig) → Buf (Elt Ideal) ℓ) : Prop :=
  True

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DUDt (m : (ℓ : Loc Cert.DUDt.nD Cert.DUDt.τ Cert.DUDt.sig) → Buf (Elt Bits) ℓ) : Prop :=
  True

def Pre_DUDtIdeal (m : (ℓ : Loc Cert.DUDtIdeal.nD Cert.DUDtIdeal.τ Cert.DUDtIdeal.sig) → Buf (Elt Ideal) ℓ) : Prop :=
  True

def Pre_DUDtRefIdeal (m : (ℓ : Loc Cert.DUDtRefIdeal.nD Cert.DUDtRefIdeal.τ Cert.DUDtRefIdeal.sig) → Buf (Elt Ideal) ℓ) : Prop :=
  True

def Pre_DWinDt (m : (ℓ : Loc Cert.DWinDt.nD Cert.DWinDt.τ Cert.DWinDt.sig) → Buf (Elt Bits) ℓ) : Prop :=
  True

def Pre_DWinDtIdeal (m : (ℓ : Loc Cert.DWinDtIdeal.nD Cert.DWinDtIdeal.τ Cert.DWinDtIdeal.sig) → Buf (Elt Ideal) ℓ) : Prop :=
  True

def Pre_DWinDtRefIdeal (m : (ℓ : Loc Cert.DWinDtRefIdeal.nD Cert.DWinDtRefIdeal.τ Cert.DWinDtRefIdeal.sig) → Buf (Elt Ideal) ℓ) : Prop :=
  True

def Pre_DPle (m : (ℓ : Loc Cert.DPle.nD Cert.DPle.τ Cert.DPle.sig) → Buf (Elt Bits) ℓ) : Prop :=
  True

def Pre_DPleIdeal (m : (ℓ : Loc Cert.DPleIdeal.nD Cert.DPleIdeal.τ Cert.DPleIdeal.sig) → Buf (Elt Ideal) ℓ) : Prop :=
  True

def Pre_DPleRefIdeal (m : (ℓ : Loc Cert.DPleRefIdeal.nD Cert.DPleRefIdeal.τ Cert.DPleRefIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjRefIdeal (m : (ℓ : Loc Cert.DPleProjRefIdeal.nD Cert.DPleProjRefIdeal.τ Cert.DPleProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDt (m : (ℓ : Loc Cert.InProjDt.nD Cert.InProjDt.τ Cert.InProjDt.sig) → Buf (Elt Bits) ℓ) : Prop :=
  True

def Pre_InProjDtIdeal (m : (ℓ : Loc Cert.InProjDtIdeal.nD Cert.InProjDtIdeal.τ Cert.InProjDtIdeal.sig) → Buf (Elt Ideal) ℓ) : Prop :=
  True

def Pre_InProjDtRefIdeal (m : (ℓ : Loc Cert.InProjDtRefIdeal.nD Cert.InProjDtRefIdeal.τ Cert.InProjDtRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_ScOut (m : (ℓ : Loc Cert.ScOut.nD Cert.ScOut.τ Cert.ScOut.sig) → Buf (Elt Bits) ℓ) : Prop :=
  True

def Pre_ScOutIdeal (m : (ℓ : Loc Cert.ScOutIdeal.nD Cert.ScOutIdeal.τ Cert.ScOutIdeal.sig) → Buf (Elt Ideal) ℓ) : Prop :=
  True

def Pre_ScOutRefIdeal (m : (ℓ : Loc Cert.ScOutRefIdeal.nD Cert.ScOutRefIdeal.τ Cert.ScOutRefIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_MOutRefIdeal (m : (ℓ : Loc Cert.MOutRefIdeal.nD Cert.MOutRefIdeal.τ Cert.MOutRefIdeal.sig) → Buf (Elt Ideal) ℓ) : Prop :=
  True

def Pre_WO (m : (ℓ : Loc Cert.WO.nD Cert.WO.τ Cert.WO.sig) → Buf (Elt Bits) ℓ) : Prop :=
  True

def Pre_WOIdeal (m : (ℓ : Loc Cert.WOIdeal.nD Cert.WOIdeal.τ Cert.WOIdeal.sig) → Buf (Elt Ideal) ℓ) : Prop :=
  True

def Pre_WORefIdeal (m : (ℓ : Loc Cert.WORefIdeal.nD Cert.WORefIdeal.τ Cert.WORefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_PleB (m : (ℓ : Loc Cert.PleB.nD Cert.PleB.τ Cert.PleB.sig) → Buf (Elt Bits) ℓ) : Prop :=
  True

def Pre_PleBIdeal (m : (ℓ : Loc Cert.PleBIdeal.nD Cert.PleBIdeal.τ Cert.PleBIdeal.sig) → Buf (Elt Ideal) ℓ) : Prop :=
  True

def Pre_PleBRefIdeal (m : (ℓ : Loc Cert.PleBRefIdeal.nD Cert.PleBRefIdeal.τ Cert.PleBRefIdeal.sig) → Buf (Elt Ideal) ℓ) : Prop :=
  True

def Pre_MConvB (m : (ℓ : Loc Cert.MConvB.nD Cert.MConvB.τ Cert.MConvB.sig) → Buf (Elt Bits) ℓ) : Prop :=
  True

def Pre_MConvBIdeal (m : (ℓ : Loc Cert.MConvBIdeal.nD Cert.MConvBIdeal.τ Cert.MConvBIdeal.sig) → Buf (Elt Ideal) ℓ) : Prop :=
  True

def Pre_MConvBIdeal_mcb_finite [hPre_mcb_finite : Cert.Pre_mcb_finite.Facts] (m : (ℓ : Loc Cert.MConvBIdeal.nD Cert.MConvBIdeal.τ Cert.MConvBIdeal.sig) → Buf (Elt Ideal) ℓ) : Prop :=
  ∀ c : Dev Cert.MConvBIdeal.nD,
    (Cert.Pre_mcb_finite.fn (F := Ideal) (m ((c.tc : Thread Cert.MConvBIdeal.nD Cert.MConvBIdeal.τ).loc Cert.MConvBIdeal.main_arg0)) (m ((c.tc : Thread Cert.MConvBIdeal.nD Cert.MConvBIdeal.τ).loc Cert.MConvBIdeal.main_arg1)) (m ((c.tc : Thread Cert.MConvBIdeal.nD Cert.MConvBIdeal.τ).loc Cert.MConvBIdeal.main_arg2)) (m ((c.tc : Thread Cert.MConvBIdeal.nD Cert.MConvBIdeal.τ).loc Cert.MConvBIdeal.main_arg3))) = (fun _ => 1#1)

def Pre_MConvBRefIdeal (m : (ℓ : Loc Cert.MConvBRefIdeal.nD Cert.MConvBRefIdeal.τ Cert.MConvBRefIdeal.sig) → Buf (Elt Ideal) ℓ) : Prop :=
  True

def Pre_MConvBRefIdeal_mcb_finite [hPre_mcb_finite : Cert.Pre_mcb_finite.Facts] (m : (ℓ : Loc Cert.MConvBRefIdeal.nD Cert.MConvBRefIdeal.τ Cert.MConvBRefIdeal.sig) → Buf (Elt Ideal) ℓ) : Prop :=
  ∀ c : Dev Cert.MConvBRefIdeal.nD,
    (Cert.Pre_mcb_finite.fn (F := Ideal) (m ((c.tc : Thread Cert.MConvBRefIdeal.nD Cert.MConvBRefIdeal.τ).loc Cert.MConvBRefIdeal.main_arg0)) (m ((c.tc : Thread Cert.MConvBRefIdeal.nD Cert.MConvBRefIdeal.τ).loc Cert.MConvBRefIdeal.main_arg1)) (m ((c.tc : Thread Cert.MConvBRefIdeal.nD Cert.MConvBRefIdeal.τ).loc Cert.MConvBRefIdeal.main_arg2)) (m ((c.tc : Thread Cert.MConvBRefIdeal.nD Cert.MConvBRefIdeal.τ).loc Cert.MConvBRefIdeal.main_arg3))) = (fun _ => 1#1)

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_PleF (m : (ℓ : Loc Cert.PleF.nD Cert.PleF.τ Cert.PleF.sig) → Buf (Elt Bits) ℓ) : Prop :=
  True

def Pre_PleFIdeal (m : (ℓ : Loc Cert.PleFIdeal.nD Cert.PleFIdeal.τ Cert.PleFIdeal.sig) → Buf (Elt Ideal) ℓ) : Prop :=
  True

def Pre_PleFRefIdeal (m : (ℓ : Loc Cert.PleFRefIdeal.nD Cert.PleFRefIdeal.τ Cert.PleFRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_GNormF (m : (ℓ : Loc Cert.GNormF.nD Cert.GNormF.τ Cert.GNormF.sig) → Buf (Elt Bits) ℓ) : Prop :=
  True

def Pre_GNormFIdeal (m : (ℓ : Loc Cert.GNormFIdeal.nD Cert.GNormFIdeal.τ Cert.GNormFIdeal.sig) → Buf (Elt Ideal) ℓ) : Prop :=
  True

def Pre_GNormFRefIdeal (m : (ℓ : Loc Cert.GNormFRefIdeal.nD Cert.GNormFRefIdeal.τ Cert.GNormFRefIdeal.sig) → Buf (Elt Ideal) ℓ) : Prop :=
  True

def Pre_ScConvF (m : (ℓ : Loc Cert.ScConvF.nD Cert.ScConvF.τ Cert.ScConvF.sig) → Buf (Elt Bits) ℓ) : Prop :=
  True

def Pre_ScConvFIdeal (m : (ℓ : Loc Cert.ScConvFIdeal.nD Cert.ScConvFIdeal.τ Cert.ScConvFIdeal.sig) → Buf (Elt Ideal) ℓ) : Prop :=
  True

def Pre_ScConvFRefIdeal (m : (ℓ : Loc Cert.ScConvFRefIdeal.nD Cert.ScConvFRefIdeal.τ Cert.ScConvFRefIdeal.sig) → Buf (Elt Ideal) ℓ) : Prop :=
  True

def Pre_MConvF (m : (ℓ : Loc Cert.MConvF.nD Cert.MConvF.τ Cert.MConvF.sig) → Buf (Elt Bits) ℓ) : Prop :=
  True

def Pre_MConvFIdeal (m : (ℓ : Loc Cert.MConvFIdeal.nD Cert.MConvFIdeal.τ Cert.MConvFIdeal.sig) → Buf (Elt Ideal) ℓ) : Prop :=
  True

def Pre_MConvFRefIdeal (m : (ℓ : Loc Cert.MConvFRefIdeal.nD Cert.MConvFRefIdeal.τ Cert.MConvFRefIdeal.sig) → Buf (Elt Ideal) ℓ) : Prop :=
  True

def Pre_LossH (m : (ℓ : Loc Cert.LossH.nD Cert.LossH.τ Cert.LossH.sig) → Buf (Elt Bits) ℓ) : Prop :=
  True

def Pre_LossHIdeal (m : (ℓ : Loc Cert.LossHIdeal.nD Cert.LossHIdeal.τ Cert.LossHIdeal.sig) → Buf (Elt Ideal) ℓ) : Prop :=
  True

def Pre_LossHRefIdeal (m : (ℓ : Loc Cert.LossHRefIdeal.nD Cert.LossHRefIdeal.τ Cert.LossHRefIdeal.sig) → Buf (Elt Ideal) ℓ) : Prop :=
  True

def quiescent_ScConv [hScConv : Cert.ScConv.Facts] : Prop :=
  ∀ (m : (ℓ : Loc Cert.ScConv.nD Cert.ScConv.τ Cert.ScConv.sig) → Buf (Elt Bits) ℓ) (g : Dev Cert.ScConv.nD → PrngReg), Pre_ScConv m →
    θ_run (Cert.ScConv.defs (F := Bits)) (onTc (τ := Cert.ScConv.τ) (Cert.ScConv.main (F := Bits))) ⟨m, fun _ => 0, g⟩ (fun r => (∀ c : Dev Cert.ScConv.nD,
      r.2.mem ((c.tc : Thread Cert.ScConv.nD Cert.ScConv.τ).loc Cert.ScConv.main_arg0) = m ((c.tc : Thread Cert.ScConv.nD Cert.ScConv.τ).loc Cert.ScConv.main_arg0)
      ∧ r.2.mem ((c.tc : Thread Cert.ScConv.nD Cert.ScConv.τ).loc Cert.ScConv.main_arg1) = m ((c.tc : Thread Cert.ScConv.nD Cert.ScConv.τ).loc Cert.ScConv.main_arg1)
      ∧ r.2.mem ((c.tc : Thread Cert.ScConv.nD Cert.ScConv.τ).loc Cert.ScConv.main_arg2) = m ((c.tc : Thread Cert.ScConv.nD Cert.ScConv.τ).loc Cert.ScConv.main_arg2))
      ∧ r.2.sem = fun _ => 0)

def quiescent_ScConvIdeal [hScConvIdeal : Cert.ScConvIdeal.Facts] : Prop :=
  ∀ (m : (ℓ : Loc Cert.ScConvIdeal.nD Cert.ScConvIdeal.τ Cert.ScConvIdeal.sig) → Buf (Elt Ideal) ℓ) (g : Dev Cert.ScConvIdeal.nD → PrngReg), Pre_ScConvIdeal m →
    θ_run (Cert.ScConvIdeal.defs (F := Ideal)) (onTc (τ := Cert.ScConvIdeal.τ) (Cert.ScConvIdeal.main (F := Ideal))) ⟨m, fun _ => 0, g⟩ (fun r => (∀ c : Dev Cert.ScConvIdeal.nD,
      r.2.mem ((c.tc : Thread Cert.ScConvIdeal.nD Cert.ScConvIdeal.τ).loc Cert.ScConvIdeal.main_arg0) = m ((c.tc : Thread Cert.ScConvIdeal.nD Cert.ScConvIdeal.τ).loc Cert.ScConvIdeal.main_arg0)
      ∧ r.2.mem ((c.tc : Thread Cert.ScConvIdeal.nD Cert.ScConvIdeal.τ).loc Cert.ScConvIdeal.main_arg1) = m ((c.tc : Thread Cert.ScConvIdeal.nD Cert.ScConvIdeal.τ).loc Cert.ScConvIdeal.main_arg1)
      ∧ r.2.mem ((c.tc : Thread Cert.ScConvIdeal.nD Cert.ScConvIdeal.τ).loc Cert.ScConvIdeal.main_arg2) = m ((c.tc : Thread Cert.ScConvIdeal.nD Cert.ScConvIdeal.τ).loc Cert.ScConvIdeal.main_arg2))
      ∧ r.2.sem = fun _ => 0)

def quiescent_ScConvRefIdeal [hScConvRefIdeal : Cert.ScConvRefIdeal.Facts] : Prop :=
  ∀ (m : (ℓ : Loc Cert.ScConvRefIdeal.nD Cert.ScConvRefIdeal.τ Cert.ScConvRefIdeal.sig) → Buf (Elt Ideal) ℓ) (g : Dev Cert.ScConvRefIdeal.nD → PrngReg), Pre_ScConvRefIdeal m →
    θ_run (Cert.ScConvRefIdeal.defs (F := Ideal)) (onTc (τ := Cert.ScConvRefIdeal.τ) (Cert.ScConvRefIdeal.main (F := Ideal))) ⟨m, fun _ => 0, g⟩ (fun r => (∀ c : Dev Cert.ScConvRefIdeal.nD,
      r.2.mem ((c.tc : Thread Cert.ScConvRefIdeal.nD Cert.ScConvRefIdeal.τ).loc Cert.ScConvRefIdeal.main_arg0) = m ((c.tc : Thread Cert.ScConvRefIdeal.nD Cert.ScConvRefIdeal.τ).loc Cert.ScConvRefIdeal.main_arg0)
      ∧ r.2.mem ((c.tc : Thread Cert.ScConvRefIdeal.nD Cert.ScConvRefIdeal.τ).loc Cert.ScConvRefIdeal.main_arg1) = m ((c.tc : Thread Cert.ScConvRefIdeal.nD Cert.ScConvRefIdeal.τ).loc Cert.ScConvRefIdeal.main_arg1)
      ∧ r.2.mem ((c.tc : Thread Cert.ScConvRefIdeal.nD Cert.ScConvRefIdeal.τ).loc Cert.ScConvRefIdeal.main_arg2) = m ((c.tc : Thread Cert.ScConvRefIdeal.nD Cert.ScConvRefIdeal.τ).loc Cert.ScConvRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2)
      ∧ r.2.mem ((c.tc : Thread Cert.DAct.nD Cert.DAct.τ).loc Cert.DAct.main_arg3) = m ((c.tc : Thread Cert.DAct.nD Cert.DAct.τ).loc Cert.DAct.main_arg3))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActIdeal_pre_dact_finite [hDActIdeal : Cert.DActIdeal.Facts] [hPre_dact_finite : Cert.Pre_dact_finite.Facts] : Prop :=
  ∀ (m : (ℓ : Loc Cert.DActIdeal.nD Cert.DActIdeal.τ Cert.DActIdeal.sig) → Buf (Elt Ideal) ℓ) (g : Dev Cert.DActIdeal.nD → PrngReg), Pre_DActIdeal_dact_finite m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_DActRefIdeal_pre_dact_finite [hDActRefIdeal : Cert.DActRefIdeal.Facts] [hPre_dact_finite : Cert.Pre_dact_finite.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal_dact_finite m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_DWd [hDWd : Cert.DWd.Facts] : Prop :=
  ∀ (m : (ℓ : Loc Cert.DWd.nD Cert.DWd.τ Cert.DWd.sig) → Buf (Elt Bits) ℓ) (g : Dev Cert.DWd.nD → PrngReg), Pre_DWd m →
    θ_run (Cert.DWd.defs (F := Bits)) (onTc (τ := Cert.DWd.τ) (Cert.DWd.main (F := Bits))) ⟨m, fun _ => 0, g⟩ (fun r => (∀ c : Dev Cert.DWd.nD,
      r.2.mem ((c.tc : Thread Cert.DWd.nD Cert.DWd.τ).loc Cert.DWd.main_arg0) = m ((c.tc : Thread Cert.DWd.nD Cert.DWd.τ).loc Cert.DWd.main_arg0)
      ∧ r.2.mem ((c.tc : Thread Cert.DWd.nD Cert.DWd.τ).loc Cert.DWd.main_arg1) = m ((c.tc : Thread Cert.DWd.nD Cert.DWd.τ).loc Cert.DWd.main_arg1))
      ∧ r.2.sem = fun _ => 0)

def quiescent_DWdIdeal [hDWdIdeal : Cert.DWdIdeal.Facts] : Prop :=
  ∀ (m : (ℓ : Loc Cert.DWdIdeal.nD Cert.DWdIdeal.τ Cert.DWdIdeal.sig) → Buf (Elt Ideal) ℓ) (g : Dev Cert.DWdIdeal.nD → PrngReg), Pre_DWdIdeal m →
    θ_run (Cert.DWdIdeal.defs (F := Ideal)) (onTc (τ := Cert.DWdIdeal.τ) (Cert.DWdIdeal.main (F := Ideal))) ⟨m, fun _ => 0, g⟩ (fun r => (∀ c : Dev Cert.DWdIdeal.nD,
      r.2.mem ((c.tc : Thread Cert.DWdIdeal.nD Cert.DWdIdeal.τ).loc Cert.DWdIdeal.main_arg0) = m ((c.tc : Thread Cert.DWdIdeal.nD Cert.DWdIdeal.τ).loc Cert.DWdIdeal.main_arg0)
      ∧ r.2.mem ((c.tc : Thread Cert.DWdIdeal.nD Cert.DWdIdeal.τ).loc Cert.DWdIdeal.main_arg1) = m ((c.tc : Thread Cert.DWdIdeal.nD Cert.DWdIdeal.τ).loc Cert.DWdIdeal.main_arg1))
      ∧ r.2.sem = fun _ => 0)

def quiescent_DWdRefIdeal [hDWdRefIdeal : Cert.DWdRefIdeal.Facts] : Prop :=
  ∀ (m : (ℓ : Loc Cert.DWdRefIdeal.nD Cert.DWdRefIdeal.τ Cert.DWdRefIdeal.sig) → Buf (Elt Ideal) ℓ) (g : Dev Cert.DWdRefIdeal.nD → PrngReg), Pre_DWdRefIdeal m →
    θ_run (Cert.DWdRefIdeal.defs (F := Ideal)) (onTc (τ := Cert.DWdRefIdeal.τ) (Cert.DWdRefIdeal.main (F := Ideal))) ⟨m, fun _ => 0, g⟩ (fun r => (∀ c : Dev Cert.DWdRefIdeal.nD,
      r.2.mem ((c.tc : Thread Cert.DWdRefIdeal.nD Cert.DWdRefIdeal.τ).loc Cert.DWdRefIdeal.main_arg0) = m ((c.tc : Thread Cert.DWdRefIdeal.nD Cert.DWdRefIdeal.τ).loc Cert.DWdRefIdeal.main_arg0)
      ∧ r.2.mem ((c.tc : Thread Cert.DWdRefIdeal.nD Cert.DWdRefIdeal.τ).loc Cert.DWdRefIdeal.main_arg1) = m ((c.tc : Thread Cert.DWdRefIdeal.nD Cert.DWdRefIdeal.τ).loc Cert.DWdRefIdeal.main_arg1))
      ∧ r.2.sem = fun _ => 0)

def quiescent_DWg [hDWg : Cert.DWg.Facts] : Prop :=
  ∀ (m : (ℓ : Loc Cert.DWg.nD Cert.DWg.τ Cert.DWg.sig) → Buf (Elt Bits) ℓ) (g : Dev Cert.DWg.nD → PrngReg), Pre_DWg m →
    θ_run (Cert.DWg.defs (F := Bits)) (onTc (τ := Cert.DWg.τ) (Cert.DWg.main (F := Bits))) ⟨m, fun _ => 0, g⟩ (fun r => (∀ c : Dev Cert.DWg.nD,
      r.2.mem ((c.tc : Thread Cert.DWg.nD Cert.DWg.τ).loc Cert.DWg.main_arg0) = m ((c.tc : Thread Cert.DWg.nD Cert.DWg.τ).loc Cert.DWg.main_arg0)
      ∧ r.2.mem ((c.tc : Thread Cert.DWg.nD Cert.DWg.τ).loc Cert.DWg.main_arg1) = m ((c.tc : Thread Cert.DWg.nD Cert.DWg.τ).loc Cert.DWg.main_arg1))
      ∧ r.2.sem = fun _ => 0)

def quiescent_DWgIdeal [hDWgIdeal : Cert.DWgIdeal.Facts] : Prop :=
  ∀ (m : (ℓ : Loc Cert.DWgIdeal.nD Cert.DWgIdeal.τ Cert.DWgIdeal.sig) → Buf (Elt Ideal) ℓ) (g : Dev Cert.DWgIdeal.nD → PrngReg), Pre_DWgIdeal m →
    θ_run (Cert.DWgIdeal.defs (F := Ideal)) (onTc (τ := Cert.DWgIdeal.τ) (Cert.DWgIdeal.main (F := Ideal))) ⟨m, fun _ => 0, g⟩ (fun r => (∀ c : Dev Cert.DWgIdeal.nD,
      r.2.mem ((c.tc : Thread Cert.DWgIdeal.nD Cert.DWgIdeal.τ).loc Cert.DWgIdeal.main_arg0) = m ((c.tc : Thread Cert.DWgIdeal.nD Cert.DWgIdeal.τ).loc Cert.DWgIdeal.main_arg0)
      ∧ r.2.mem ((c.tc : Thread Cert.DWgIdeal.nD Cert.DWgIdeal.τ).loc Cert.DWgIdeal.main_arg1) = m ((c.tc : Thread Cert.DWgIdeal.nD Cert.DWgIdeal.τ).loc Cert.DWgIdeal.main_arg1))
      ∧ r.2.sem = fun _ => 0)

def quiescent_DWgRefIdeal [hDWgRefIdeal : Cert.DWgRefIdeal.Facts] : Prop :=
  ∀ (m : (ℓ : Loc Cert.DWgRefIdeal.nD Cert.DWgRefIdeal.τ Cert.DWgRefIdeal.sig) → Buf (Elt Ideal) ℓ) (g : Dev Cert.DWgRefIdeal.nD → PrngReg), Pre_DWgRefIdeal m →
    θ_run (Cert.DWgRefIdeal.defs (F := Ideal)) (onTc (τ := Cert.DWgRefIdeal.τ) (Cert.DWgRefIdeal.main (F := Ideal))) ⟨m, fun _ => 0, g⟩ (fun r => (∀ c : Dev Cert.DWgRefIdeal.nD,
      r.2.mem ((c.tc : Thread Cert.DWgRefIdeal.nD Cert.DWgRefIdeal.τ).loc Cert.DWgRefIdeal.main_arg0) = m ((c.tc : Thread Cert.DWgRefIdeal.nD Cert.DWgRefIdeal.τ).loc Cert.DWgRefIdeal.main_arg0)
      ∧ r.2.mem ((c.tc : Thread Cert.DWgRefIdeal.nD Cert.DWgRefIdeal.τ).loc Cert.DWgRefIdeal.main_arg1) = m ((c.tc : Thread Cert.DWgRefIdeal.nD Cert.DWgRefIdeal.τ).loc Cert.DWgRefIdeal.main_arg1))
      ∧ r.2.sem = fun _ => 0)

def quiescent_DXn [hDXn : Cert.DXn.Facts] : Prop :=
  ∀ (m : (ℓ : Loc Cert.DXn.nD Cert.DXn.τ Cert.DXn.sig) → Buf (Elt Bits) ℓ) (g : Dev Cert.DXn.nD → PrngReg), Pre_DXn m →
    θ_run (Cert.DXn.defs (F := Bits)) (onTc (τ := Cert.DXn.τ) (Cert.DXn.main (F := Bits))) ⟨m, fun _ => 0, g⟩ (fun r => (∀ c : Dev Cert.DXn.nD,
      r.2.mem ((c.tc : Thread Cert.DXn.nD Cert.DXn.τ).loc Cert.DXn.main_arg0) = m ((c.tc : Thread Cert.DXn.nD Cert.DXn.τ).loc Cert.DXn.main_arg0)
      ∧ r.2.mem ((c.tc : Thread Cert.DXn.nD Cert.DXn.τ).loc Cert.DXn.main_arg1) = m ((c.tc : Thread Cert.DXn.nD Cert.DXn.τ).loc Cert.DXn.main_arg1))
      ∧ r.2.sem = fun _ => 0)

def quiescent_DXnIdeal [hDXnIdeal : Cert.DXnIdeal.Facts] : Prop :=
  ∀ (m : (ℓ : Loc Cert.DXnIdeal.nD Cert.DXnIdeal.τ Cert.DXnIdeal.sig) → Buf (Elt Ideal) ℓ) (g : Dev Cert.DXnIdeal.nD → PrngReg), Pre_DXnIdeal m →
    θ_run (Cert.DXnIdeal.defs (F := Ideal)) (onTc (τ := Cert.DXnIdeal.τ) (Cert.DXnIdeal.main (F := Ideal))) ⟨m, fun _ => 0, g⟩ (fun r => (∀ c : Dev Cert.DXnIdeal.nD,
      r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
      ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ r.2.sem = fun _ => 0)

def quiescent_DXnRefIdeal [hDXnRefIdeal : Cert.DXnRefIdeal.Facts] : Prop :=
  ∀ (m : (ℓ : Loc Cert.DXnRefIdeal.nD Cert.DXnRefIdeal.τ Cert.DXnRefIdeal.sig) → Buf (Elt Ideal) ℓ) (g : Dev Cert.DXnRefIdeal.nD → PrngReg), Pre_DXnRefIdeal m →
    θ_run (Cert.DXnRefIdeal.defs (F := Ideal)) (onTc (τ := Cert.DXnRefIdeal.τ) (Cert.DXnRefIdeal.main (F := Ideal))) ⟨m, fun _ => 0, g⟩ (fun r => (∀ c : Dev Cert.DXnRefIdeal.nD,
      r.2.mem ((c.tc : Thread Cert.DXnRefIdeal.nD Cert.DXnRefIdeal.τ).loc Cert.DXnRefIdeal.main_arg0) = m ((c.tc : Thread Cert.DXnRefIdeal.nD Cert.DXnRefIdeal.τ).loc Cert.DXnRefIdeal.main_arg0)
      ∧ r.2.mem ((c.tc : Thread Cert.DXnRefIdeal.nD Cert.DXnRefIdeal.τ).loc Cert.DXnRefIdeal.main_arg1) = m ((c.tc : Thread Cert.DXnRefIdeal.nD Cert.DXnRefIdeal.τ).loc Cert.DXnRefIdeal.main_arg1))
      ∧ r.2.sem = fun _ => 0)

def quiescent_DXnU [hDXnU : Cert.DXnU.Facts] : Prop :=
  ∀ (m : (ℓ : Loc Cert.DXnU.nD Cert.DXnU.τ Cert.DXnU.sig) → Buf (Elt Bits) ℓ) (g : Dev Cert.DXnU.nD → PrngReg), Pre_DXnU m →
    θ_run (Cert.DXnU.defs (F := Bits)) (onTc (τ := Cert.DXnU.τ) (Cert.DXnU.main (F := Bits))) ⟨m, fun _ => 0, g⟩ (fun r => (∀ c : Dev Cert.DXnU.nD,
      r.2.mem ((c.tc : Thread Cert.DXnU.nD Cert.DXnU.τ).loc Cert.DXnU.main_arg0) = m ((c.tc : Thread Cert.DXnU.nD Cert.DXnU.τ).loc Cert.DXnU.main_arg0)
      ∧ r.2.mem ((c.tc : Thread Cert.DXnU.nD Cert.DXnU.τ).loc Cert.DXnU.main_arg1) = m ((c.tc : Thread Cert.DXnU.nD Cert.DXnU.τ).loc Cert.DXnU.main_arg1)
      ∧ r.2.mem ((c.tc : Thread Cert.DXnU.nD Cert.DXnU.τ).loc Cert.DXnU.main_arg2) = m ((c.tc : Thread Cert.DXnU.nD Cert.DXnU.τ).loc Cert.DXnU.main_arg2)
      ∧ r.2.mem ((c.tc : Thread Cert.DXnU.nD Cert.DXnU.τ).loc Cert.DXnU.main_arg3) = m ((c.tc : Thread Cert.DXnU.nD Cert.DXnU.τ).loc Cert.DXnU.main_arg3)
      ∧ r.2.mem ((c.tc : Thread Cert.DXnU.nD Cert.DXnU.τ).loc Cert.DXnU.main_arg4) = m ((c.tc : Thread Cert.DXnU.nD Cert.DXnU.τ).loc Cert.DXnU.main_arg4)
      ∧ r.2.mem ((c.tc : Thread Cert.DXnU.nD Cert.DXnU.τ).loc Cert.DXnU.main_arg5) = m ((c.tc : Thread Cert.DXnU.nD Cert.DXnU.τ).loc Cert.DXnU.main_arg5))
      ∧ r.2.sem = fun _ => 0)

def quiescent_DXnUIdeal [hDXnUIdeal : Cert.DXnUIdeal.Facts] : Prop :=
  ∀ (m : (ℓ : Loc Cert.DXnUIdeal.nD Cert.DXnUIdeal.τ Cert.DXnUIdeal.sig) → Buf (Elt Ideal) ℓ) (g : Dev Cert.DXnUIdeal.nD → PrngReg), Pre_DXnUIdeal m →
    θ_run (Cert.DXnUIdeal.defs (F := Ideal)) (onTc (τ := Cert.DXnUIdeal.τ) (Cert.DXnUIdeal.main (F := Ideal))) ⟨m, fun _ => 0, g⟩ (fun r => (∀ c : Dev Cert.DXnUIdeal.nD,
      r.2.mem ((c.tc : Thread Cert.DXnUIdeal.nD Cert.DXnUIdeal.τ).loc Cert.DXnUIdeal.main_arg0) = m ((c.tc : Thread Cert.DXnUIdeal.nD Cert.DXnUIdeal.τ).loc Cert.DXnUIdeal.main_arg0)
      ∧ r.2.mem ((c.tc : Thread Cert.DXnUIdeal.nD Cert.DXnUIdeal.τ).loc Cert.DXnUIdeal.main_arg1) = m ((c.tc : Thread Cert.DXnUIdeal.nD Cert.DXnUIdeal.τ).loc Cert.DXnUIdeal.main_arg1)
      ∧ r.2.mem ((c.tc : Thread Cert.DXnUIdeal.nD Cert.DXnUIdeal.τ).loc Cert.DXnUIdeal.main_arg2) = m ((c.tc : Thread Cert.DXnUIdeal.nD Cert.DXnUIdeal.τ).loc Cert.DXnUIdeal.main_arg2)
      ∧ r.2.mem ((c.tc : Thread Cert.DXnUIdeal.nD Cert.DXnUIdeal.τ).loc Cert.DXnUIdeal.main_arg3) = m ((c.tc : Thread Cert.DXnUIdeal.nD Cert.DXnUIdeal.τ).loc Cert.DXnUIdeal.main_arg3)
      ∧ r.2.mem ((c.tc : Thread Cert.DXnUIdeal.nD Cert.DXnUIdeal.τ).loc Cert.DXnUIdeal.main_arg4) = m ((c.tc : Thread Cert.DXnUIdeal.nD Cert.DXnUIdeal.τ).loc Cert.DXnUIdeal.main_arg4)
      ∧ r.2.mem ((c.tc : Thread Cert.DXnUIdeal.nD Cert.DXnUIdeal.τ).loc Cert.DXnUIdeal.main_arg5) = m ((c.tc : Thread Cert.DXnUIdeal.nD Cert.DXnUIdeal.τ).loc Cert.DXnUIdeal.main_arg5))
      ∧ r.2.sem = fun _ => 0)

def quiescent_DXnURefIdeal [hDXnURefIdeal : Cert.DXnURefIdeal.Facts] : Prop :=
  ∀ (m : (ℓ : Loc Cert.DXnURefIdeal.nD Cert.DXnURefIdeal.τ Cert.DXnURefIdeal.sig) → Buf (Elt Ideal) ℓ) (g : Dev Cert.DXnURefIdeal.nD → PrngReg), Pre_DXnURefIdeal m →
    θ_run (Cert.DXnURefIdeal.defs (F := Ideal)) (onTc (τ := Cert.DXnURefIdeal.τ) (Cert.DXnURefIdeal.main (F := Ideal))) ⟨m, fun _ => 0, g⟩ (fun r => (∀ c : Dev Cert.DXnURefIdeal.nD,
      r.2.mem ((c.tc : Thread Cert.DXnURefIdeal.nD Cert.DXnURefIdeal.τ).loc Cert.DXnURefIdeal.main_arg0) = m ((c.tc : Thread Cert.DXnURefIdeal.nD Cert.DXnURefIdeal.τ).loc Cert.DXnURefIdeal.main_arg0)
      ∧ r.2.mem ((c.tc : Thread Cert.DXnURefIdeal.nD Cert.DXnURefIdeal.τ).loc Cert.DXnURefIdeal.main_arg1) = m ((c.tc : Thread Cert.DXnURefIdeal.nD Cert.DXnURefIdeal.τ).loc Cert.DXnURefIdeal.main_arg1)
      ∧ r.2.mem ((c.tc : Thread Cert.DXnURefIdeal.nD Cert.DXnURefIdeal.τ).loc Cert.DXnURefIdeal.main_arg2) = m ((c.tc : Thread Cert.DXnURefIdeal.nD Cert.DXnURefIdeal.τ).loc Cert.DXnURefIdeal.main_arg2)
      ∧ r.2.mem ((c.tc : Thread Cert.DXnURefIdeal.nD Cert.DXnURefIdeal.τ).loc Cert.DXnURefIdeal.main_arg3) = m ((c.tc : Thread Cert.DXnURefIdeal.nD Cert.DXnURefIdeal.τ).loc Cert.DXnURefIdeal.main_arg3)
      ∧ r.2.mem ((c.tc : Thread Cert.DXnURefIdeal.nD Cert.DXnURefIdeal.τ).loc Cert.DXnURefIdeal.main_arg4) = m ((c.tc : Thread Cert.DXnURefIdeal.nD Cert.DXnURefIdeal.τ).loc Cert.DXnURefIdeal.main_arg4)
      ∧ r.2.mem ((c.tc : Thread Cert.DXnURefIdeal.nD Cert.DXnURefIdeal.τ).loc Cert.DXnURefIdeal.main_arg5) = m ((c.tc : Thread Cert.DXnURefIdeal.nD Cert.DXnURefIdeal.τ).loc Cert.DXnURefIdeal.main_arg5))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DWo [hDWo : Cert.DWo.Facts] : Prop :=
  ∀ (m : (ℓ : Loc Cert.DWo.nD Cert.DWo.τ Cert.DWo.sig) → Buf (Elt Bits) ℓ) (g : Dev Cert.DWo.nD → PrngReg), Pre_DWo m →
    θ_run (Cert.DWo.defs (F := Bits)) (onTc (τ := Cert.DWo.τ) (Cert.DWo.main (F := Bits))) ⟨m, fun _ => 0, g⟩ (fun r => (∀ c : Dev Cert.DWo.nD,
      r.2.mem ((c.tc : Thread Cert.DWo.nD Cert.DWo.τ).loc Cert.DWo.main_arg0) = m ((c.tc : Thread Cert.DWo.nD Cert.DWo.τ).loc Cert.DWo.main_arg0)
      ∧ r.2.mem ((c.tc : Thread Cert.DWo.nD Cert.DWo.τ).loc Cert.DWo.main_arg1) = m ((c.tc : Thread Cert.DWo.nD Cert.DWo.τ).loc Cert.DWo.main_arg1))
      ∧ r.2.sem = fun _ => 0)

def quiescent_DWoIdeal [hDWoIdeal : Cert.DWoIdeal.Facts] : Prop :=
  ∀ (m : (ℓ : Loc Cert.DWoIdeal.nD Cert.DWoIdeal.τ Cert.DWoIdeal.sig) → Buf (Elt Ideal) ℓ) (g : Dev Cert.DWoIdeal.nD → PrngReg), Pre_DWoIdeal m →
    θ_run (Cert.DWoIdeal.defs (F := Ideal)) (onTc (τ := Cert.DWoIdeal.τ) (Cert.DWoIdeal.main (F := Ideal))) ⟨m, fun _ => 0, g⟩ (fun r => (∀ c : Dev Cert.DWoIdeal.nD,
      r.2.mem ((c.tc : Thread Cert.DWoIdeal.nD Cert.DWoIdeal.τ).loc Cert.DWoIdeal.main_arg0) = m ((c.tc : Thread Cert.DWoIdeal.nD Cert.DWoIdeal.τ).loc Cert.DWoIdeal.main_arg0)
      ∧ r.2.mem ((c.tc : Thread Cert.DWoIdeal.nD Cert.DWoIdeal.τ).loc Cert.DWoIdeal.main_arg1) = m ((c.tc : Thread Cert.DWoIdeal.nD Cert.DWoIdeal.τ).loc Cert.DWoIdeal.main_arg1))
      ∧ r.2.sem = fun _ => 0)

def quiescent_DWoRefIdeal [hDWoRefIdeal : Cert.DWoRefIdeal.Facts] : Prop :=
  ∀ (m : (ℓ : Loc Cert.DWoRefIdeal.nD Cert.DWoRefIdeal.τ Cert.DWoRefIdeal.sig) → Buf (Elt Ideal) ℓ) (g : Dev Cert.DWoRefIdeal.nD → PrngReg), Pre_DWoRefIdeal m →
    θ_run (Cert.DWoRefIdeal.defs (F := Ideal)) (onTc (τ := Cert.DWoRefIdeal.τ) (Cert.DWoRefIdeal.main (F := Ideal))) ⟨m, fun _ => 0, g⟩ (fun r => (∀ c : Dev Cert.DWoRefIdeal.nD,
      r.2.mem ((c.tc : Thread Cert.DWoRefIdeal.nD Cert.DWoRefIdeal.τ).loc Cert.DWoRefIdeal.main_arg0) = m ((c.tc : Thread Cert.DWoRefIdeal.nD Cert.DWoRefIdeal.τ).loc Cert.DWoRefIdeal.main_arg0)
      ∧ r.2.mem ((c.tc : Thread Cert.DWoRefIdeal.nD Cert.DWoRefIdeal.τ).loc Cert.DWoRefIdeal.main_arg1) = m ((c.tc : Thread Cert.DWoRefIdeal.nD Cert.DWoRefIdeal.τ).loc Cert.DWoRefIdeal.main_arg1))
      ∧ r.2.sem = fun _ => 0)

def quiescent_DScW [hDScW : Cert.DScW.Facts] : Prop :=
  ∀ (m : (ℓ : Loc Cert.DScW.nD Cert.DScW.τ Cert.DScW.sig) → Buf (Elt Bits) ℓ) (g : Dev Cert.DScW.nD → PrngReg), Pre_DScW m →
    θ_run (Cert.DScW.defs (F := Bits)) (onTc (τ := Cert.DScW.τ) (Cert.DScW.main (F := Bits))) ⟨m, fun _ => 0, g⟩ (fun r => (∀ c : Dev Cert.DScW.nD,
      r.2.mem ((c.tc : Thread Cert.DScW.nD Cert.DScW.τ).loc Cert.DScW.main_arg0) = m ((c.tc : Thread Cert.DScW.nD Cert.DScW.τ).loc Cert.DScW.main_arg0)
      ∧ r.2.mem ((c.tc : Thread Cert.DScW.nD Cert.DScW.τ).loc Cert.DScW.main_arg1) = m ((c.tc : Thread Cert.DScW.nD Cert.DScW.τ).loc Cert.DScW.main_arg1))
      ∧ r.2.sem = fun _ => 0)

def quiescent_DScWIdeal [hDScWIdeal : Cert.DScWIdeal.Facts] : Prop :=
  ∀ (m : (ℓ : Loc Cert.DScWIdeal.nD Cert.DScWIdeal.τ Cert.DScWIdeal.sig) → Buf (Elt Ideal) ℓ) (g : Dev Cert.DScWIdeal.nD → PrngReg), Pre_DScWIdeal m →
    θ_run (Cert.DScWIdeal.defs (F := Ideal)) (onTc (τ := Cert.DScWIdeal.τ) (Cert.DScWIdeal.main (F := Ideal))) ⟨m, fun _ => 0, g⟩ (fun r => (∀ c : Dev Cert.DScWIdeal.nD,
      r.2.mem ((c.tc : Thread Cert.DScWIdeal.nD Cert.DScWIdeal.τ).loc Cert.DScWIdeal.main_arg0) = m ((c.tc : Thread Cert.DScWIdeal.nD Cert.DScWIdeal.τ).loc Cert.DScWIdeal.main_arg0)
      ∧ r.2.mem ((c.tc : Thread Cert.DScWIdeal.nD Cert.DScWIdeal.τ).loc Cert.DScWIdeal.main_arg1) = m ((c.tc : Thread Cert.DScWIdeal.nD Cert.DScWIdeal.τ).loc Cert.DScWIdeal.main_arg1))
      ∧ r.2.sem = fun _ => 0)

def quiescent_DScWRefIdeal [hDScWRefIdeal : Cert.DScWRefIdeal.Facts] : Prop :=
  ∀ (m : (ℓ : Loc Cert.DScWRefIdeal.nD Cert.DScWRefIdeal.τ Cert.DScWRefIdeal.sig) → Buf (Elt Ideal) ℓ) (g : Dev Cert.DScWRefIdeal.nD → PrngReg), Pre_DScWRefIdeal m →
    θ_run (Cert.DScWRefIdeal.defs (F := Ideal)) (onTc (τ := Cert.DScWRefIdeal.τ) (Cert.DScWRefIdeal.main (F := Ideal))) ⟨m, fun _ => 0, g⟩ (fun r => (∀ c : Dev Cert.DScWRefIdeal.nD,
      r.2.mem ((c.tc : Thread Cert.DScWRefIdeal.nD Cert.DScWRefIdeal.τ).loc Cert.DScWRefIdeal.main_arg0) = m ((c.tc : Thread Cert.DScWRefIdeal.nD Cert.DScWRefIdeal.τ).loc Cert.DScWRefIdeal.main_arg0)
      ∧ r.2.mem ((c.tc : Thread Cert.DScWRefIdeal.nD Cert.DScWRefIdeal.τ).loc Cert.DScWRefIdeal.main_arg1) = m ((c.tc : Thread Cert.DScWRefIdeal.nD Cert.DScWRefIdeal.τ).loc Cert.DScWRefIdeal.main_arg1))
      ∧ r.2.sem = fun _ => 0)

def quiescent_DV [hDV : Cert.DV.Facts] : Prop :=
  ∀ (m : (ℓ : Loc Cert.DV.nD Cert.DV.τ Cert.DV.sig) → Buf (Elt Bits) ℓ) (g : Dev Cert.DV.nD → PrngReg), Pre_DV m →
    θ_run (Cert.DV.defs (F := Bits)) (onTc (τ := Cert.DV.τ) (Cert.DV.main (F := Bits))) ⟨m, fun _ => 0, g⟩ (fun r => (∀ c : Dev Cert.DV.nD,
      r.2.mem ((c.tc : Thread Cert.DV.nD Cert.DV.τ).loc Cert.DV.main_arg0) = m ((c.tc : Thread Cert.DV.nD Cert.DV.τ).loc Cert.DV.main_arg0)
      ∧ r.2.mem ((c.tc : Thread Cert.DV.nD Cert.DV.τ).loc Cert.DV.main_arg1) = m ((c.tc : Thread Cert.DV.nD Cert.DV.τ).loc Cert.DV.main_arg1))
      ∧ r.2.sem = fun _ => 0)

def quiescent_DVIdeal [hDVIdeal : Cert.DVIdeal.Facts] : Prop :=
  ∀ (m : (ℓ : Loc Cert.DVIdeal.nD Cert.DVIdeal.τ Cert.DVIdeal.sig) → Buf (Elt Ideal) ℓ) (g : Dev Cert.DVIdeal.nD → PrngReg), Pre_DVIdeal m →
    θ_run (Cert.DVIdeal.defs (F := Ideal)) (onTc (τ := Cert.DVIdeal.τ) (Cert.DVIdeal.main (F := Ideal))) ⟨m, fun _ => 0, g⟩ (fun r => (∀ c : Dev Cert.DVIdeal.nD,
      r.2.mem ((c.tc : Thread Cert.DVIdeal.nD Cert.DVIdeal.τ).loc Cert.DVIdeal.main_arg0) = m ((c.tc : Thread Cert.DVIdeal.nD Cert.DVIdeal.τ).loc Cert.DVIdeal.main_arg0)
      ∧ r.2.mem ((c.tc : Thread Cert.DVIdeal.nD Cert.DVIdeal.τ).loc Cert.DVIdeal.main_arg1) = m ((c.tc : Thread Cert.DVIdeal.nD Cert.DVIdeal.τ).loc Cert.DVIdeal.main_arg1))
      ∧ r.2.sem = fun _ => 0)

def quiescent_DVRefIdeal [hDVRefIdeal : Cert.DVRefIdeal.Facts] : Prop :=
  ∀ (m : (ℓ : Loc Cert.DVRefIdeal.nD Cert.DVRefIdeal.τ Cert.DVRefIdeal.sig) → Buf (Elt Ideal) ℓ) (g : Dev Cert.DVRefIdeal.nD → PrngReg), Pre_DVRefIdeal m →
    θ_run (Cert.DVRefIdeal.defs (F := Ideal)) (onTc (τ := Cert.DVRefIdeal.τ) (Cert.DVRefIdeal.main (F := Ideal))) ⟨m, fun _ => 0, g⟩ (fun r => (∀ c : Dev Cert.DVRefIdeal.nD,
      r.2.mem ((c.tc : Thread Cert.DVRefIdeal.nD Cert.DVRefIdeal.τ).loc Cert.DVRefIdeal.main_arg0) = m ((c.tc : Thread Cert.DVRefIdeal.nD Cert.DVRefIdeal.τ).loc Cert.DVRefIdeal.main_arg0)
      ∧ r.2.mem ((c.tc : Thread Cert.DVRefIdeal.nD Cert.DVRefIdeal.τ).loc Cert.DVRefIdeal.main_arg1) = m ((c.tc : Thread Cert.DVRefIdeal.nD Cert.DVRefIdeal.τ).loc Cert.DVRefIdeal.main_arg1))
      ∧ r.2.sem = fun _ => 0)

def quiescent_DMW [hDMW : Cert.DMW.Facts] : Prop :=
  ∀ (m : (ℓ : Loc Cert.DMW.nD Cert.DMW.τ Cert.DMW.sig) → Buf (Elt Bits) ℓ) (g : Dev Cert.DMW.nD → PrngReg), Pre_DMW m →
    θ_run (Cert.DMW.defs (F := Bits)) (onTc (τ := Cert.DMW.τ) (Cert.DMW.main (F := Bits))) ⟨m, fun _ => 0, g⟩ (fun r => (∀ c : Dev Cert.DMW.nD,
      r.2.mem ((c.tc : Thread Cert.DMW.nD Cert.DMW.τ).loc Cert.DMW.main_arg0) = m ((c.tc : Thread Cert.DMW.nD Cert.DMW.τ).loc Cert.DMW.main_arg0)
      ∧ r.2.mem ((c.tc : Thread Cert.DMW.nD Cert.DMW.τ).loc Cert.DMW.main_arg1) = m ((c.tc : Thread Cert.DMW.nD Cert.DMW.τ).loc Cert.DMW.main_arg1))
      ∧ r.2.sem = fun _ => 0)

def quiescent_DMWIdeal [hDMWIdeal : Cert.DMWIdeal.Facts] : Prop :=
  ∀ (m : (ℓ : Loc Cert.DMWIdeal.nD Cert.DMWIdeal.τ Cert.DMWIdeal.sig) → Buf (Elt Ideal) ℓ) (g : Dev Cert.DMWIdeal.nD → PrngReg), Pre_DMWIdeal m →
    θ_run (Cert.DMWIdeal.defs (F := Ideal)) (onTc (τ := Cert.DMWIdeal.τ) (Cert.DMWIdeal.main (F := Ideal))) ⟨m, fun _ => 0, g⟩ (fun r => (∀ c : Dev Cert.DMWIdeal.nD,
      r.2.mem ((c.tc : Thread Cert.DMWIdeal.nD Cert.DMWIdeal.τ).loc Cert.DMWIdeal.main_arg0) = m ((c.tc : Thread Cert.DMWIdeal.nD Cert.DMWIdeal.τ).loc Cert.DMWIdeal.main_arg0)
      ∧ r.2.mem ((c.tc : Thread Cert.DMWIdeal.nD Cert.DMWIdeal.τ).loc Cert.DMWIdeal.main_arg1) = m ((c.tc : Thread Cert.DMWIdeal.nD Cert.DMWIdeal.τ).loc Cert.DMWIdeal.main_arg1))
      ∧ r.2.sem = fun _ => 0)

def quiescent_DMWRefIdeal [hDMWRefIdeal : Cert.DMWRefIdeal.Facts] : Prop :=
  ∀ (m : (ℓ : Loc Cert.DMWRefIdeal.nD Cert.DMWRefIdeal.τ Cert.DMWRefIdeal.sig) → Buf (Elt Ideal) ℓ) (g : Dev Cert.DMWRefIdeal.nD → PrngReg), Pre_DMWRefIdeal m →
    θ_run (Cert.DMWRefIdeal.defs (F := Ideal)) (onTc (τ := Cert.DMWRefIdeal.τ) (Cert.DMWRefIdeal.main (F := Ideal))) ⟨m, fun _ => 0, g⟩ (fun r => (∀ c : Dev Cert.DMWRefIdeal.nD,
      r.2.mem ((c.tc : Thread Cert.DMWRefIdeal.nD Cert.DMWRefIdeal.τ).loc Cert.DMWRefIdeal.main_arg0) = m ((c.tc : Thread Cert.DMWRefIdeal.nD Cert.DMWRefIdeal.τ).loc Cert.DMWRefIdeal.main_arg0)
      ∧ r.2.mem ((c.tc : Thread Cert.DMWRefIdeal.nD Cert.DMWRefIdeal.τ).loc Cert.DMWRefIdeal.main_arg1) = m ((c.tc : Thread Cert.DMWRefIdeal.nD Cert.DMWRefIdeal.τ).loc Cert.DMWRefIdeal.main_arg1))
      ∧ r.2.sem = fun _ => 0)

def quiescent_DYn [hDYn : Cert.DYn.Facts] : Prop :=
  ∀ (m : (ℓ : Loc Cert.DYn.nD Cert.DYn.τ Cert.DYn.sig) → Buf (Elt Bits) ℓ) (g : Dev Cert.DYn.nD → PrngReg), Pre_DYn m →
    θ_run (Cert.DYn.defs (F := Bits)) (onTc (τ := Cert.DYn.τ) (Cert.DYn.main (F := Bits))) ⟨m, fun _ => 0, g⟩ (fun r => (∀ c : Dev Cert.DYn.nD,
      r.2.mem ((c.tc : Thread Cert.DYn.nD Cert.DYn.τ).loc Cert.DYn.main_arg0) = m ((c.tc : Thread Cert.DYn.nD Cert.DYn.τ).loc Cert.DYn.main_arg0)
      ∧ r.2.mem ((c.tc : Thread Cert.DYn.nD Cert.DYn.τ).loc Cert.DYn.main_arg1) = m ((c.tc : Thread Cert.DYn.nD Cert.DYn.τ).loc Cert.DYn.main_arg1))
      ∧ r.2.sem = fun _ => 0)

def quiescent_DYnIdeal [hDYnIdeal : Cert.DYnIdeal.Facts] : Prop :=
  ∀ (m : (ℓ : Loc Cert.DYnIdeal.nD Cert.DYnIdeal.τ Cert.DYnIdeal.sig) → Buf (Elt Ideal) ℓ) (g : Dev Cert.DYnIdeal.nD → PrngReg), Pre_DYnIdeal m →
    θ_run (Cert.DYnIdeal.defs (F := Ideal)) (onTc (τ := Cert.DYnIdeal.τ) (Cert.DYnIdeal.main (F := Ideal))) ⟨m, fun _ => 0, g⟩ (fun r => (∀ c : Dev Cert.DYnIdeal.nD,
      r.2.mem ((c.tc : Thread Cert.DYnIdeal.nD Cert.DYnIdeal.τ).loc Cert.DYnIdeal.main_arg0) = m ((c.tc : Thread Cert.DYnIdeal.nD Cert.DYnIdeal.τ).loc Cert.DYnIdeal.main_arg0)
      ∧ r.2.mem ((c.tc : Thread Cert.DYnIdeal.nD Cert.DYnIdeal.τ).loc Cert.DYnIdeal.main_arg1) = m ((c.tc : Thread Cert.DYnIdeal.nD Cert.DYnIdeal.τ).loc Cert.DYnIdeal.main_arg1))
      ∧ r.2.sem = fun _ => 0)

def quiescent_DYnRefIdeal [hDYnRefIdeal : Cert.DYnRefIdeal.Facts] : Prop :=
  ∀ (m : (ℓ : Loc Cert.DYnRefIdeal.nD Cert.DYnRefIdeal.τ Cert.DYnRefIdeal.sig) → Buf (Elt Ideal) ℓ) (g : Dev Cert.DYnRefIdeal.nD → PrngReg), Pre_DYnRefIdeal m →
    θ_run (Cert.DYnRefIdeal.defs (F := Ideal)) (onTc (τ := Cert.DYnRefIdeal.τ) (Cert.DYnRefIdeal.main (F := Ideal))) ⟨m, fun _ => 0, g⟩ (fun r => (∀ c : Dev Cert.DYnRefIdeal.nD,
      r.2.mem ((c.tc : Thread Cert.DYnRefIdeal.nD Cert.DYnRefIdeal.τ).loc Cert.DYnRefIdeal.main_arg0) = m ((c.tc : Thread Cert.DYnRefIdeal.nD Cert.DYnRefIdeal.τ).loc Cert.DYnRefIdeal.main_arg0)
      ∧ r.2.mem ((c.tc : Thread Cert.DYnRefIdeal.nD Cert.DYnRefIdeal.τ).loc Cert.DYnRefIdeal.main_arg1) = m ((c.tc : Thread Cert.DYnRefIdeal.nD Cert.DYnRefIdeal.τ).loc Cert.DYnRefIdeal.main_arg1))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1))
      ∧ r.2.sem = fun _ => 0)

def quiescent_DUDt [hDUDt : Cert.DUDt.Facts] : Prop :=
  ∀ (m : (ℓ : Loc Cert.DUDt.nD Cert.DUDt.τ Cert.DUDt.sig) → Buf (Elt Bits) ℓ) (g : Dev Cert.DUDt.nD → PrngReg), Pre_DUDt m →
    θ_run (Cert.DUDt.defs (F := Bits)) (onTc (τ := Cert.DUDt.τ) (Cert.DUDt.main (F := Bits))) ⟨m, fun _ => 0, g⟩ (fun r => (∀ c : Dev Cert.DUDt.nD,
      r.2.mem ((c.tc : Thread Cert.DUDt.nD Cert.DUDt.τ).loc Cert.DUDt.main_arg0) = m ((c.tc : Thread Cert.DUDt.nD Cert.DUDt.τ).loc Cert.DUDt.main_arg0)
      ∧ r.2.mem ((c.tc : Thread Cert.DUDt.nD Cert.DUDt.τ).loc Cert.DUDt.main_arg1) = m ((c.tc : Thread Cert.DUDt.nD Cert.DUDt.τ).loc Cert.DUDt.main_arg1)
      ∧ r.2.mem ((c.tc : Thread Cert.DUDt.nD Cert.DUDt.τ).loc Cert.DUDt.main_arg2) = m ((c.tc : Thread Cert.DUDt.nD Cert.DUDt.τ).loc Cert.DUDt.main_arg2)
      ∧ r.2.mem ((c.tc : Thread Cert.DUDt.nD Cert.DUDt.τ).loc Cert.DUDt.main_arg3) = m ((c.tc : Thread Cert.DUDt.nD Cert.DUDt.τ).loc Cert.DUDt.main_arg3)
      ∧ r.2.mem ((c.tc : Thread Cert.DUDt.nD Cert.DUDt.τ).loc Cert.DUDt.main_arg4) = m ((c.tc : Thread Cert.DUDt.nD Cert.DUDt.τ).loc Cert.DUDt.main_arg4)
      ∧ r.2.mem ((c.tc : Thread Cert.DUDt.nD Cert.DUDt.τ).loc Cert.DUDt.main_arg5) = m ((c.tc : Thread Cert.DUDt.nD Cert.DUDt.τ).loc Cert.DUDt.main_arg5))
      ∧ r.2.sem = fun _ => 0)

def quiescent_DUDtIdeal [hDUDtIdeal : Cert.DUDtIdeal.Facts] : Prop :=
  ∀ (m : (ℓ : Loc Cert.DUDtIdeal.nD Cert.DUDtIdeal.τ Cert.DUDtIdeal.sig) → Buf (Elt Ideal) ℓ) (g : Dev Cert.DUDtIdeal.nD → PrngReg), Pre_DUDtIdeal m →
    θ_run (Cert.DUDtIdeal.defs (F := Ideal)) (onTc (τ := Cert.DUDtIdeal.τ) (Cert.DUDtIdeal.main (F := Ideal))) ⟨m, fun _ => 0, g⟩ (fun r => (∀ c : Dev Cert.DUDtIdeal.nD,
      r.2.mem ((c.tc : Thread Cert.DUDtIdeal.nD Cert.DUDtIdeal.τ).loc Cert.DUDtIdeal.main_arg0) = m ((c.tc : Thread Cert.DUDtIdeal.nD Cert.DUDtIdeal.τ).loc Cert.DUDtIdeal.main_arg0)
      ∧ r.2.mem ((c.tc : Thread Cert.DUDtIdeal.nD Cert.DUDtIdeal.τ).loc Cert.DUDtIdeal.main_arg1) = m ((c.tc : Thread Cert.DUDtIdeal.nD Cert.DUDtIdeal.τ).loc Cert.DUDtIdeal.main_arg1)
      ∧ r.2.mem ((c.tc : Thread Cert.DUDtIdeal.nD Cert.DUDtIdeal.τ).loc Cert.DUDtIdeal.main_arg2) = m ((c.tc : Thread Cert.DUDtIdeal.nD Cert.DUDtIdeal.τ).loc Cert.DUDtIdeal.main_arg2)
      ∧ r.2.mem ((c.tc : Thread Cert.DUDtIdeal.nD Cert.DUDtIdeal.τ).loc Cert.DUDtIdeal.main_arg3) = m ((c.tc : Thread Cert.DUDtIdeal.nD Cert.DUDtIdeal.τ).loc Cert.DUDtIdeal.main_arg3)
      ∧ r.2.mem ((c.tc : Thread Cert.DUDtIdeal.nD Cert.DUDtIdeal.τ).loc Cert.DUDtIdeal.main_arg4) = m ((c.tc : Thread Cert.DUDtIdeal.nD Cert.DUDtIdeal.τ).loc Cert.DUDtIdeal.main_arg4)
      ∧ r.2.mem ((c.tc : Thread Cert.DUDtIdeal.nD Cert.DUDtIdeal.τ).loc Cert.DUDtIdeal.main_arg5) = m ((c.tc : Thread Cert.DUDtIdeal.nD Cert.DUDtIdeal.τ).loc Cert.DUDtIdeal.main_arg5))
      ∧ r.2.sem = fun _ => 0)

def quiescent_DUDtRefIdeal [hDUDtRefIdeal : Cert.DUDtRefIdeal.Facts] : Prop :=
  ∀ (m : (ℓ : Loc Cert.DUDtRefIdeal.nD Cert.DUDtRefIdeal.τ Cert.DUDtRefIdeal.sig) → Buf (Elt Ideal) ℓ) (g : Dev Cert.DUDtRefIdeal.nD → PrngReg), Pre_DUDtRefIdeal m →
    θ_run (Cert.DUDtRefIdeal.defs (F := Ideal)) (onTc (τ := Cert.DUDtRefIdeal.τ) (Cert.DUDtRefIdeal.main (F := Ideal))) ⟨m, fun _ => 0, g⟩ (fun r => (∀ c : Dev Cert.DUDtRefIdeal.nD,
      r.2.mem ((c.tc : Thread Cert.DUDtRefIdeal.nD Cert.DUDtRefIdeal.τ).loc Cert.DUDtRefIdeal.main_arg0) = m ((c.tc : Thread Cert.DUDtRefIdeal.nD Cert.DUDtRefIdeal.τ).loc Cert.DUDtRefIdeal.main_arg0)
      ∧ r.2.mem ((c.tc : Thread Cert.DUDtRefIdeal.nD Cert.DUDtRefIdeal.τ).loc Cert.DUDtRefIdeal.main_arg1) = m ((c.tc : Thread Cert.DUDtRefIdeal.nD Cert.DUDtRefIdeal.τ).loc Cert.DUDtRefIdeal.main_arg1)
      ∧ r.2.mem ((c.tc : Thread Cert.DUDtRefIdeal.nD Cert.DUDtRefIdeal.τ).loc Cert.DUDtRefIdeal.main_arg2) = m ((c.tc : Thread Cert.DUDtRefIdeal.nD Cert.DUDtRefIdeal.τ).loc Cert.DUDtRefIdeal.main_arg2)
      ∧ r.2.mem ((c.tc : Thread Cert.DUDtRefIdeal.nD Cert.DUDtRefIdeal.τ).loc Cert.DUDtRefIdeal.main_arg3) = m ((c.tc : Thread Cert.DUDtRefIdeal.nD Cert.DUDtRefIdeal.τ).loc Cert.DUDtRefIdeal.main_arg3)
      ∧ r.2.mem ((c.tc : Thread Cert.DUDtRefIdeal.nD Cert.DUDtRefIdeal.τ).loc Cert.DUDtRefIdeal.main_arg4) = m ((c.tc : Thread Cert.DUDtRefIdeal.nD Cert.DUDtRefIdeal.τ).loc Cert.DUDtRefIdeal.main_arg4)
      ∧ r.2.mem ((c.tc : Thread Cert.DUDtRefIdeal.nD Cert.DUDtRefIdeal.τ).loc Cert.DUDtRefIdeal.main_arg5) = m ((c.tc : Thread Cert.DUDtRefIdeal.nD Cert.DUDtRefIdeal.τ).loc Cert.DUDtRefIdeal.main_arg5))
      ∧ r.2.sem = fun _ => 0)

def quiescent_DWinDt [hDWinDt : Cert.DWinDt.Facts] : Prop :=
  ∀ (m : (ℓ : Loc Cert.DWinDt.nD Cert.DWinDt.τ Cert.DWinDt.sig) → Buf (Elt Bits) ℓ) (g : Dev Cert.DWinDt.nD → PrngReg), Pre_DWinDt m →
    θ_run (Cert.DWinDt.defs (F := Bits)) (onTc (τ := Cert.DWinDt.τ) (Cert.DWinDt.main (F := Bits))) ⟨m, fun _ => 0, g⟩ (fun r => (∀ c : Dev Cert.DWinDt.nD,
      r.2.mem ((c.tc : Thread Cert.DWinDt.nD Cert.DWinDt.τ).loc Cert.DWinDt.main_arg0) = m ((c.tc : Thread Cert.DWinDt.nD Cert.DWinDt.τ).loc Cert.DWinDt.main_arg0)
      ∧ r.2.mem ((c.tc : Thread Cert.DWinDt.nD Cert.DWinDt.τ).loc Cert.DWinDt.main_arg1) = m ((c.tc : Thread Cert.DWinDt.nD Cert.DWinDt.τ).loc Cert.DWinDt.main_arg1))
      ∧ r.2.sem = fun _ => 0)

def quiescent_DWinDtIdeal [hDWinDtIdeal : Cert.DWinDtIdeal.Facts] : Prop :=
  ∀ (m : (ℓ : Loc Cert.DWinDtIdeal.nD Cert.DWinDtIdeal.τ Cert.DWinDtIdeal.sig) → Buf (Elt Ideal) ℓ) (g : Dev Cert.DWinDtIdeal.nD → PrngReg), Pre_DWinDtIdeal m →
    θ_run (Cert.DWinDtIdeal.defs (F := Ideal)) (onTc (τ := Cert.DWinDtIdeal.τ) (Cert.DWinDtIdeal.main (F := Ideal))) ⟨m, fun _ => 0, g⟩ (fun r => (∀ c : Dev Cert.DWinDtIdeal.nD,
      r.2.mem ((c.tc : Thread Cert.DWinDtIdeal.nD Cert.DWinDtIdeal.τ).loc Cert.DWinDtIdeal.main_arg0) = m ((c.tc : Thread Cert.DWinDtIdeal.nD Cert.DWinDtIdeal.τ).loc Cert.DWinDtIdeal.main_arg0)
      ∧ r.2.mem ((c.tc : Thread Cert.DWinDtIdeal.nD Cert.DWinDtIdeal.τ).loc Cert.DWinDtIdeal.main_arg1) = m ((c.tc : Thread Cert.DWinDtIdeal.nD Cert.DWinDtIdeal.τ).loc Cert.DWinDtIdeal.main_arg1))
      ∧ r.2.sem = fun _ => 0)

def quiescent_DWinDtRefIdeal [hDWinDtRefIdeal : Cert.DWinDtRefIdeal.Facts] : Prop :=
  ∀ (m : (ℓ : Loc Cert.DWinDtRefIdeal.nD Cert.DWinDtRefIdeal.τ Cert.DWinDtRefIdeal.sig) → Buf (Elt Ideal) ℓ) (g : Dev Cert.DWinDtRefIdeal.nD → PrngReg), Pre_DWinDtRefIdeal m →
    θ_run (Cert.DWinDtRefIdeal.defs (F := Ideal)) (onTc (τ := Cert.DWinDtRefIdeal.τ) (Cert.DWinDtRefIdeal.main (F := Ideal))) ⟨m, fun _ => 0, g⟩ (fun r => (∀ c : Dev Cert.DWinDtRefIdeal.nD,
      r.2.mem ((c.tc : Thread Cert.DWinDtRefIdeal.nD Cert.DWinDtRefIdeal.τ).loc Cert.DWinDtRefIdeal.main_arg0) = m ((c.tc : Thread Cert.DWinDtRefIdeal.nD Cert.DWinDtRefIdeal.τ).loc Cert.DWinDtRefIdeal.main_arg0)
      ∧ r.2.mem ((c.tc : Thread Cert.DWinDtRefIdeal.nD Cert.DWinDtRefIdeal.τ).loc Cert.DWinDtRefIdeal.main_arg1) = m ((c.tc : Thread Cert.DWinDtRefIdeal.nD Cert.DWinDtRefIdeal.τ).loc Cert.DWinDtRefIdeal.main_arg1))
      ∧ r.2.sem = fun _ => 0)

def quiescent_DPle [hDPle : Cert.DPle.Facts] : Prop :=
  ∀ (m : (ℓ : Loc Cert.DPle.nD Cert.DPle.τ Cert.DPle.sig) → Buf (Elt Bits) ℓ) (g : Dev Cert.DPle.nD → PrngReg), Pre_DPle m →
    θ_run (Cert.DPle.defs (F := Bits)) (onTc (τ := Cert.DPle.τ) (Cert.DPle.main (F := Bits))) ⟨m, fun _ => 0, g⟩ (fun r => (∀ c : Dev Cert.DPle.nD,
      r.2.mem ((c.tc : Thread Cert.DPle.nD Cert.DPle.τ).loc Cert.DPle.main_arg0) = m ((c.tc : Thread Cert.DPle.nD Cert.DPle.τ).loc Cert.DPle.main_arg0)
      ∧ r.2.mem ((c.tc : Thread Cert.DPle.nD Cert.DPle.τ).loc Cert.DPle.main_arg1) = m ((c.tc : Thread Cert.DPle.nD Cert.DPle.τ).loc Cert.DPle.main_arg1)
      ∧ r.2.mem ((c.tc : Thread Cert.DPle.nD Cert.DPle.τ).loc Cert.DPle.main_arg2) = m ((c.tc : Thread Cert.DPle.nD Cert.DPle.τ).loc Cert.DPle.main_arg2)
      ∧ r.2.mem ((c.tc : Thread Cert.DPle.nD Cert.DPle.τ).loc Cert.DPle.main_arg3) = m ((c.tc : Thread Cert.DPle.nD Cert.DPle.τ).loc Cert.DPle.main_arg3)
      ∧ r.2.mem ((c.tc : Thread Cert.DPle.nD Cert.DPle.τ).loc Cert.DPle.main_arg4) = m ((c.tc : Thread Cert.DPle.nD Cert.DPle.τ).loc Cert.DPle.main_arg4))
      ∧ r.2.sem = fun _ => 0)

def quiescent_DPleIdeal [hDPleIdeal : Cert.DPleIdeal.Facts] : Prop :=
  ∀ (m : (ℓ : Loc Cert.DPleIdeal.nD Cert.DPleIdeal.τ Cert.DPleIdeal.sig) → Buf (Elt Ideal) ℓ) (g : Dev Cert.DPleIdeal.nD → PrngReg), Pre_DPleIdeal m →
    θ_run (Cert.DPleIdeal.defs (F := Ideal)) (onTc (τ := Cert.DPleIdeal.τ) (Cert.DPleIdeal.main (F := Ideal))) ⟨m, fun _ => 0, g⟩ (fun r => (∀ c : Dev Cert.DPleIdeal.nD,
      r.2.mem ((c.tc : Thread Cert.DPleIdeal.nD Cert.DPleIdeal.τ).loc Cert.DPleIdeal.main_arg0) = m ((c.tc : Thread Cert.DPleIdeal.nD Cert.DPleIdeal.τ).loc Cert.DPleIdeal.main_arg0)
      ∧ r.2.mem ((c.tc : Thread Cert.DPleIdeal.nD Cert.DPleIdeal.τ).loc Cert.DPleIdeal.main_arg1) = m ((c.tc : Thread Cert.DPleIdeal.nD Cert.DPleIdeal.τ).loc Cert.DPleIdeal.main_arg1)
      ∧ r.2.mem ((c.tc : Thread Cert.DPleIdeal.nD Cert.DPleIdeal.τ).loc Cert.DPleIdeal.main_arg2) = m ((c.tc : Thread Cert.DPleIdeal.nD Cert.DPleIdeal.τ).loc Cert.DPleIdeal.main_arg2)
      ∧ r.2.mem ((c.tc : Thread Cert.DPleIdeal.nD Cert.DPleIdeal.τ).loc Cert.DPleIdeal.main_arg3) = m ((c.tc : Thread Cert.DPleIdeal.nD Cert.DPleIdeal.τ).loc Cert.DPleIdeal.main_arg3)
      ∧ r.2.mem ((c.tc : Thread Cert.DPleIdeal.nD Cert.DPleIdeal.τ).loc Cert.DPleIdeal.main_arg4) = m ((c.tc : Thread Cert.DPleIdeal.nD Cert.DPleIdeal.τ).loc Cert.DPleIdeal.main_arg4))
      ∧ r.2.sem = fun _ => 0)

def quiescent_DPleRefIdeal [hDPleRefIdeal : Cert.DPleRefIdeal.Facts] : Prop :=
  ∀ (m : (ℓ : Loc Cert.DPleRefIdeal.nD Cert.DPleRefIdeal.τ Cert.DPleRefIdeal.sig) → Buf (Elt Ideal) ℓ) (g : Dev Cert.DPleRefIdeal.nD → PrngReg), Pre_DPleRefIdeal m →
    θ_run (Cert.DPleRefIdeal.defs (F := Ideal)) (onTc (τ := Cert.DPleRefIdeal.τ) (Cert.DPleRefIdeal.main (F := Ideal))) ⟨m, fun _ => 0, g⟩ (fun r => (∀ c : Dev Cert.DPleRefIdeal.nD,
      r.2.mem ((c.tc : Thread Cert.DPleRefIdeal.nD Cert.DPleRefIdeal.τ).loc Cert.DPleRefIdeal.main_arg0) = m ((c.tc : Thread Cert.DPleRefIdeal.nD Cert.DPleRefIdeal.τ).loc Cert.DPleRefIdeal.main_arg0)
      ∧ r.2.mem ((c.tc : Thread Cert.DPleRefIdeal.nD Cert.DPleRefIdeal.τ).loc Cert.DPleRefIdeal.main_arg1) = m ((c.tc : Thread Cert.DPleRefIdeal.nD Cert.DPleRefIdeal.τ).loc Cert.DPleRefIdeal.main_arg1)
      ∧ r.2.mem ((c.tc : Thread Cert.DPleRefIdeal.nD Cert.DPleRefIdeal.τ).loc Cert.DPleRefIdeal.main_arg2) = m ((c.tc : Thread Cert.DPleRefIdeal.nD Cert.DPleRefIdeal.τ).loc Cert.DPleRefIdeal.main_arg2)
      ∧ r.2.mem ((c.tc : Thread Cert.DPleRefIdeal.nD Cert.DPleRefIdeal.τ).loc Cert.DPleRefIdeal.main_arg3) = m ((c.tc : Thread Cert.DPleRefIdeal.nD Cert.DPleRefIdeal.τ).loc Cert.DPleRefIdeal.main_arg3)
      ∧ r.2.mem ((c.tc : Thread Cert.DPleRefIdeal.nD Cert.DPleRefIdeal.τ).loc Cert.DPleRefIdeal.main_arg4) = m ((c.tc : Thread Cert.DPleRefIdeal.nD Cert.DPleRefIdeal.τ).loc Cert.DPleRefIdeal.main_arg4))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ r.2.sem = fun _ => 0)

def quiescent_DPleProjRefIdeal [hDPleProjRefIdeal : Cert.DPleProjRefIdeal.Facts] : Prop :=
  ∀ (m : (ℓ : Loc Cert.DPleProjRefIdeal.nD Cert.DPleProjRefIdeal.τ Cert.DPleProjRefIdeal.sig) → Buf (Elt Ideal) ℓ) (g : Dev Cert.DPleProjRefIdeal.nD → PrngReg), Pre_DPleProjRefIdeal m →
    θ_run (Cert.DPleProjRefIdeal.defs (F := Ideal)) (onTc (τ := Cert.DPleProjRefIdeal.τ) (Cert.DPleProjRefIdeal.main (F := Ideal))) ⟨m, fun _ => 0, g⟩ (fun r => (∀ c : Dev Cert.DPleProjRefIdeal.nD,
      r.2.mem ((c.tc : Thread Cert.DPleProjRefIdeal.nD Cert.DPleProjRefIdeal.τ).loc Cert.DPleProjRefIdeal.main_arg0) = m ((c.tc : Thread Cert.DPleProjRefIdeal.nD Cert.DPleProjRefIdeal.τ).loc Cert.DPleProjRefIdeal.main_arg0)
      ∧ r.2.mem ((c.tc : Thread Cert.DPleProjRefIdeal.nD Cert.DPleProjRefIdeal.τ).loc Cert.DPleProjRefIdeal.main_arg1) = m ((c.tc : Thread Cert.DPleProjRefIdeal.nD Cert.DPleProjRefIdeal.τ).loc Cert.DPleProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjDt [hInProjDt : Cert.InProjDt.Facts] : Prop :=
  ∀ (m : (ℓ : Loc Cert.InProjDt.nD Cert.InProjDt.τ Cert.InProjDt.sig) → Buf (Elt Bits) ℓ) (g : Dev Cert.InProjDt.nD → PrngReg), Pre_InProjDt m →
    θ_run (Cert.InProjDt.defs (F := Bits)) (onTc (τ := Cert.InProjDt.τ) (Cert.InProjDt.main (F := Bits))) ⟨m, fun _ => 0, g⟩ (fun r => (∀ c : Dev Cert.InProjDt.nD,
      r.2.mem ((c.tc : Thread Cert.InProjDt.nD Cert.InProjDt.τ).loc Cert.InProjDt.main_arg0) = m ((c.tc : Thread Cert.InProjDt.nD Cert.InProjDt.τ).loc Cert.InProjDt.main_arg0)
      ∧ r.2.mem ((c.tc : Thread Cert.InProjDt.nD Cert.InProjDt.τ).loc Cert.InProjDt.main_arg1) = m ((c.tc : Thread Cert.InProjDt.nD Cert.InProjDt.τ).loc Cert.InProjDt.main_arg1))
      ∧ r.2.sem = fun _ => 0)

def quiescent_InProjDtIdeal [hInProjDtIdeal : Cert.InProjDtIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg), Pre_InProjDtIdeal m →
    θ_run (Cert.InProjDtIdeal.defs (F := Ideal)) (onTc (τ := Cert.InProjDtIdeal.τ) (Cert.InProjDtIdeal.main (F := Ideal))) ⟨m, fun _ => 0, g⟩ (fun r => (∀ c : Dev Cert.InProjDtIdeal.nD,
      r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
      ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ r.2.sem = fun _ => 0)

def quiescent_InProjDtRefIdeal [hInProjDtRefIdeal : Cert.InProjDtRefIdeal.Facts] : Prop :=
  ∀ (m : (ℓ : Loc Cert.InProjDtRefIdeal.nD Cert.InProjDtRefIdeal.τ Cert.InProjDtRefIdeal.sig) → Buf (Elt Ideal) ℓ) (g : Dev Cert.InProjDtRefIdeal.nD → PrngReg), Pre_InProjDtRefIdeal m →
    θ_run (Cert.InProjDtRefIdeal.defs (F := Ideal)) (onTc (τ := Cert.InProjDtRefIdeal.τ) (Cert.InProjDtRefIdeal.main (F := Ideal))) ⟨m, fun _ => 0, g⟩ (fun r => (∀ c : Dev Cert.InProjDtRefIdeal.nD,
      r.2.mem ((c.tc : Thread Cert.InProjDtRefIdeal.nD Cert.InProjDtRefIdeal.τ).loc Cert.InProjDtRefIdeal.main_arg0) = m ((c.tc : Thread Cert.InProjDtRefIdeal.nD Cert.InProjDtRefIdeal.τ).loc Cert.InProjDtRefIdeal.main_arg0)
      ∧ r.2.mem ((c.tc : Thread Cert.InProjDtRefIdeal.nD Cert.InProjDtRefIdeal.τ).loc Cert.InProjDtRefIdeal.main_arg1) = m ((c.tc : Thread Cert.InProjDtRefIdeal.nD Cert.InProjDtRefIdeal.τ).loc Cert.InProjDtRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_ScOut [hScOut : Cert.ScOut.Facts] : Prop :=
  ∀ (m : (ℓ : Loc Cert.ScOut.nD Cert.ScOut.τ Cert.ScOut.sig) → Buf (Elt Bits) ℓ) (g : Dev Cert.ScOut.nD → PrngReg), Pre_ScOut m →
    θ_run (Cert.ScOut.defs (F := Bits)) (onTc (τ := Cert.ScOut.τ) (Cert.ScOut.main (F := Bits))) ⟨m, fun _ => 0, g⟩ (fun r => (∀ c : Dev Cert.ScOut.nD,
      r.2.mem ((c.tc : Thread Cert.ScOut.nD Cert.ScOut.τ).loc Cert.ScOut.main_arg0) = m ((c.tc : Thread Cert.ScOut.nD Cert.ScOut.τ).loc Cert.ScOut.main_arg0)
      ∧ r.2.mem ((c.tc : Thread Cert.ScOut.nD Cert.ScOut.τ).loc Cert.ScOut.main_arg1) = m ((c.tc : Thread Cert.ScOut.nD Cert.ScOut.τ).loc Cert.ScOut.main_arg1))
      ∧ r.2.sem = fun _ => 0)

def quiescent_ScOutIdeal [hScOutIdeal : Cert.ScOutIdeal.Facts] : Prop :=
  ∀ (m : (ℓ : Loc Cert.ScOutIdeal.nD Cert.ScOutIdeal.τ Cert.ScOutIdeal.sig) → Buf (Elt Ideal) ℓ) (g : Dev Cert.ScOutIdeal.nD → PrngReg), Pre_ScOutIdeal m →
    θ_run (Cert.ScOutIdeal.defs (F := Ideal)) (onTc (τ := Cert.ScOutIdeal.τ) (Cert.ScOutIdeal.main (F := Ideal))) ⟨m, fun _ => 0, g⟩ (fun r => (∀ c : Dev Cert.ScOutIdeal.nD,
      r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
      ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1))
      ∧ r.2.sem = fun _ => 0)

def quiescent_ScOutRefIdeal [hScOutRefIdeal : Cert.ScOutRefIdeal.Facts] : Prop :=
  ∀ (m : (ℓ : Loc Cert.ScOutRefIdeal.nD Cert.ScOutRefIdeal.τ Cert.ScOutRefIdeal.sig) → Buf (Elt Ideal) ℓ) (g : Dev Cert.ScOutRefIdeal.nD → PrngReg), Pre_ScOutRefIdeal m →
    θ_run (Cert.ScOutRefIdeal.defs (F := Ideal)) (onTc (τ := Cert.ScOutRefIdeal.τ) (Cert.ScOutRefIdeal.main (F := Ideal))) ⟨m, fun _ => 0, g⟩ (fun r => (∀ c : Dev Cert.ScOutRefIdeal.nD,
      r.2.mem ((c.tc : Thread Cert.ScOutRefIdeal.nD Cert.ScOutRefIdeal.τ).loc Cert.ScOutRefIdeal.main_arg0) = m ((c.tc : Thread Cert.ScOutRefIdeal.nD Cert.ScOutRefIdeal.τ).loc Cert.ScOutRefIdeal.main_arg0)
      ∧ r.2.mem ((c.tc : Thread Cert.ScOutRefIdeal.nD Cert.ScOutRefIdeal.τ).loc Cert.ScOutRefIdeal.main_arg1) = m ((c.tc : Thread Cert.ScOutRefIdeal.nD Cert.ScOutRefIdeal.τ).loc Cert.ScOutRefIdeal.main_arg1))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1))
      ∧ r.2.sem = fun _ => 0)

def quiescent_MOutRefIdeal [hMOutRefIdeal : Cert.MOutRefIdeal.Facts] : Prop :=
  ∀ (m : (ℓ : Loc Cert.MOutRefIdeal.nD Cert.MOutRefIdeal.τ Cert.MOutRefIdeal.sig) → Buf (Elt Ideal) ℓ) (g : Dev Cert.MOutRefIdeal.nD → PrngReg), Pre_MOutRefIdeal m →
    θ_run (Cert.MOutRefIdeal.defs (F := Ideal)) (onTc (τ := Cert.MOutRefIdeal.τ) (Cert.MOutRefIdeal.main (F := Ideal))) ⟨m, fun _ => 0, g⟩ (fun r => (∀ c : Dev Cert.MOutRefIdeal.nD,
      r.2.mem ((c.tc : Thread Cert.MOutRefIdeal.nD Cert.MOutRefIdeal.τ).loc Cert.MOutRefIdeal.main_arg0) = m ((c.tc : Thread Cert.MOutRefIdeal.nD Cert.MOutRefIdeal.τ).loc Cert.MOutRefIdeal.main_arg0)
      ∧ r.2.mem ((c.tc : Thread Cert.MOutRefIdeal.nD Cert.MOutRefIdeal.τ).loc Cert.MOutRefIdeal.main_arg1) = m ((c.tc : Thread Cert.MOutRefIdeal.nD Cert.MOutRefIdeal.τ).loc Cert.MOutRefIdeal.main_arg1))
      ∧ r.2.sem = fun _ => 0)

def quiescent_WO [hWO : Cert.WO.Facts] : Prop :=
  ∀ (m : (ℓ : Loc Cert.WO.nD Cert.WO.τ Cert.WO.sig) → Buf (Elt Bits) ℓ) (g : Dev Cert.WO.nD → PrngReg), Pre_WO m →
    θ_run (Cert.WO.defs (F := Bits)) (onTc (τ := Cert.WO.τ) (Cert.WO.main (F := Bits))) ⟨m, fun _ => 0, g⟩ (fun r => (∀ c : Dev Cert.WO.nD,
      r.2.mem ((c.tc : Thread Cert.WO.nD Cert.WO.τ).loc Cert.WO.main_arg0) = m ((c.tc : Thread Cert.WO.nD Cert.WO.τ).loc Cert.WO.main_arg0)
      ∧ r.2.mem ((c.tc : Thread Cert.WO.nD Cert.WO.τ).loc Cert.WO.main_arg1) = m ((c.tc : Thread Cert.WO.nD Cert.WO.τ).loc Cert.WO.main_arg1)
      ∧ r.2.mem ((c.tc : Thread Cert.WO.nD Cert.WO.τ).loc Cert.WO.main_arg2) = m ((c.tc : Thread Cert.WO.nD Cert.WO.τ).loc Cert.WO.main_arg2))
      ∧ r.2.sem = fun _ => 0)

def quiescent_WOIdeal [hWOIdeal : Cert.WOIdeal.Facts] : Prop :=
  ∀ (m : (ℓ : Loc Cert.WOIdeal.nD Cert.WOIdeal.τ Cert.WOIdeal.sig) → Buf (Elt Ideal) ℓ) (g : Dev Cert.WOIdeal.nD → PrngReg), Pre_WOIdeal m →
    θ_run (Cert.WOIdeal.defs (F := Ideal)) (onTc (τ := Cert.WOIdeal.τ) (Cert.WOIdeal.main (F := Ideal))) ⟨m, fun _ => 0, g⟩ (fun r => (∀ c : Dev Cert.WOIdeal.nD,
      r.2.mem ((c.tc : Thread Cert.WOIdeal.nD Cert.WOIdeal.τ).loc Cert.WOIdeal.main_arg0) = m ((c.tc : Thread Cert.WOIdeal.nD Cert.WOIdeal.τ).loc Cert.WOIdeal.main_arg0)
      ∧ r.2.mem ((c.tc : Thread Cert.WOIdeal.nD Cert.WOIdeal.τ).loc Cert.WOIdeal.main_arg1) = m ((c.tc : Thread Cert.WOIdeal.nD Cert.WOIdeal.τ).loc Cert.WOIdeal.main_arg1)
      ∧ r.2.mem ((c.tc : Thread Cert.WOIdeal.nD Cert.WOIdeal.τ).loc Cert.WOIdeal.main_arg2) = m ((c.tc : Thread Cert.WOIdeal.nD Cert.WOIdeal.τ).loc Cert.WOIdeal.main_arg2))
      ∧ r.2.sem = fun _ => 0)

def quiescent_WORefIdeal [hWORefIdeal : Cert.WORefIdeal.Facts] : Prop :=
  ∀ (m : (ℓ : Loc Cert.WORefIdeal.nD Cert.WORefIdeal.τ Cert.WORefIdeal.sig) → Buf (Elt Ideal) ℓ) (g : Dev Cert.WORefIdeal.nD → PrngReg), Pre_WORefIdeal m →
    θ_run (Cert.WORefIdeal.defs (F := Ideal)) (onTc (τ := Cert.WORefIdeal.τ) (Cert.WORefIdeal.main (F := Ideal))) ⟨m, fun _ => 0, g⟩ (fun r => (∀ c : Dev Cert.WORefIdeal.nD,
      r.2.mem ((c.tc : Thread Cert.WORefIdeal.nD Cert.WORefIdeal.τ).loc Cert.WORefIdeal.main_arg0) = m ((c.tc : Thread Cert.WORefIdeal.nD Cert.WORefIdeal.τ).loc Cert.WORefIdeal.main_arg0)
      ∧ r.2.mem ((c.tc : Thread Cert.WORefIdeal.nD Cert.WORefIdeal.τ).loc Cert.WORefIdeal.main_arg1) = m ((c.tc : Thread Cert.WORefIdeal.nD Cert.WORefIdeal.τ).loc Cert.WORefIdeal.main_arg1)
      ∧ r.2.mem ((c.tc : Thread Cert.WORefIdeal.nD Cert.WORefIdeal.τ).loc Cert.WORefIdeal.main_arg2) = m ((c.tc : Thread Cert.WORefIdeal.nD Cert.WORefIdeal.τ).loc Cert.WORefIdeal.main_arg2))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_PleB [hPleB : Cert.PleB.Facts] : Prop :=
  ∀ (m : (ℓ : Loc Cert.PleB.nD Cert.PleB.τ Cert.PleB.sig) → Buf (Elt Bits) ℓ) (g : Dev Cert.PleB.nD → PrngReg), Pre_PleB m →
    θ_run (Cert.PleB.defs (F := Bits)) (onTc (τ := Cert.PleB.τ) (Cert.PleB.main (F := Bits))) ⟨m, fun _ => 0, g⟩ (fun r => (∀ c : Dev Cert.PleB.nD,
      r.2.mem ((c.tc : Thread Cert.PleB.nD Cert.PleB.τ).loc Cert.PleB.main_arg0) = m ((c.tc : Thread Cert.PleB.nD Cert.PleB.τ).loc Cert.PleB.main_arg0)
      ∧ r.2.mem ((c.tc : Thread Cert.PleB.nD Cert.PleB.τ).loc Cert.PleB.main_arg1) = m ((c.tc : Thread Cert.PleB.nD Cert.PleB.τ).loc Cert.PleB.main_arg1)
      ∧ r.2.mem ((c.tc : Thread Cert.PleB.nD Cert.PleB.τ).loc Cert.PleB.main_arg2) = m ((c.tc : Thread Cert.PleB.nD Cert.PleB.τ).loc Cert.PleB.main_arg2))
      ∧ r.2.sem = fun _ => 0)

def quiescent_PleBIdeal [hPleBIdeal : Cert.PleBIdeal.Facts] : Prop :=
  ∀ (m : (ℓ : Loc Cert.PleBIdeal.nD Cert.PleBIdeal.τ Cert.PleBIdeal.sig) → Buf (Elt Ideal) ℓ) (g : Dev Cert.PleBIdeal.nD → PrngReg), Pre_PleBIdeal m →
    θ_run (Cert.PleBIdeal.defs (F := Ideal)) (onTc (τ := Cert.PleBIdeal.τ) (Cert.PleBIdeal.main (F := Ideal))) ⟨m, fun _ => 0, g⟩ (fun r => (∀ c : Dev Cert.PleBIdeal.nD,
      r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
      ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
      ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ r.2.sem = fun _ => 0)

def quiescent_PleBRefIdeal [hPleBRefIdeal : Cert.PleBRefIdeal.Facts] : Prop :=
  ∀ (m : (ℓ : Loc Cert.PleBRefIdeal.nD Cert.PleBRefIdeal.τ Cert.PleBRefIdeal.sig) → Buf (Elt Ideal) ℓ) (g : Dev Cert.PleBRefIdeal.nD → PrngReg), Pre_PleBRefIdeal m →
    θ_run (Cert.PleBRefIdeal.defs (F := Ideal)) (onTc (τ := Cert.PleBRefIdeal.τ) (Cert.PleBRefIdeal.main (F := Ideal))) ⟨m, fun _ => 0, g⟩ (fun r => (∀ c : Dev Cert.PleBRefIdeal.nD,
      r.2.mem ((c.tc : Thread Cert.PleBRefIdeal.nD Cert.PleBRefIdeal.τ).loc Cert.PleBRefIdeal.main_arg0) = m ((c.tc : Thread Cert.PleBRefIdeal.nD Cert.PleBRefIdeal.τ).loc Cert.PleBRefIdeal.main_arg0)
      ∧ r.2.mem ((c.tc : Thread Cert.PleBRefIdeal.nD Cert.PleBRefIdeal.τ).loc Cert.PleBRefIdeal.main_arg1) = m ((c.tc : Thread Cert.PleBRefIdeal.nD Cert.PleBRefIdeal.τ).loc Cert.PleBRefIdeal.main_arg1)
      ∧ r.2.mem ((c.tc : Thread Cert.PleBRefIdeal.nD Cert.PleBRefIdeal.τ).loc Cert.PleBRefIdeal.main_arg2) = m ((c.tc : Thread Cert.PleBRefIdeal.nD Cert.PleBRefIdeal.τ).loc Cert.PleBRefIdeal.main_arg2))
      ∧ r.2.sem = fun _ => 0)

def quiescent_MConvB [hMConvB : Cert.MConvB.Facts] : Prop :=
  ∀ (m : (ℓ : Loc Cert.MConvB.nD Cert.MConvB.τ Cert.MConvB.sig) → Buf (Elt Bits) ℓ) (g : Dev Cert.MConvB.nD → PrngReg), Pre_MConvB m →
    θ_run (Cert.MConvB.defs (F := Bits)) (onTc (τ := Cert.MConvB.τ) (Cert.MConvB.main (F := Bits))) ⟨m, fun _ => 0, g⟩ (fun r => (∀ c : Dev Cert.MConvB.nD,
      r.2.mem ((c.tc : Thread Cert.MConvB.nD Cert.MConvB.τ).loc Cert.MConvB.main_arg0) = m ((c.tc : Thread Cert.MConvB.nD Cert.MConvB.τ).loc Cert.MConvB.main_arg0)
      ∧ r.2.mem ((c.tc : Thread Cert.MConvB.nD Cert.MConvB.τ).loc Cert.MConvB.main_arg1) = m ((c.tc : Thread Cert.MConvB.nD Cert.MConvB.τ).loc Cert.MConvB.main_arg1)
      ∧ r.2.mem ((c.tc : Thread Cert.MConvB.nD Cert.MConvB.τ).loc Cert.MConvB.main_arg2) = m ((c.tc : Thread Cert.MConvB.nD Cert.MConvB.τ).loc Cert.MConvB.main_arg2)
      ∧ r.2.mem ((c.tc : Thread Cert.MConvB.nD Cert.MConvB.τ).loc Cert.MConvB.main_arg3) = m ((c.tc : Thread Cert.MConvB.nD Cert.MConvB.τ).loc Cert.MConvB.main_arg3))
      ∧ r.2.sem = fun _ => 0)

def quiescent_MConvBIdeal [hMConvBIdeal : Cert.MConvBIdeal.Facts] : Prop :=
  ∀ (m : (ℓ : Loc Cert.MConvBIdeal.nD Cert.MConvBIdeal.τ Cert.MConvBIdeal.sig) → Buf (Elt Ideal) ℓ) (g : Dev Cert.MConvBIdeal.nD → PrngReg), Pre_MConvBIdeal m →
    θ_run (Cert.MConvBIdeal.defs (F := Ideal)) (onTc (τ := Cert.MConvBIdeal.τ) (Cert.MConvBIdeal.main (F := Ideal))) ⟨m, fun _ => 0, g⟩ (fun r => (∀ c : Dev Cert.MConvBIdeal.nD,
      r.2.mem ((c.tc : Thread Cert.MConvBIdeal.nD Cert.MConvBIdeal.τ).loc Cert.MConvBIdeal.main_arg0) = m ((c.tc : Thread Cert.MConvBIdeal.nD Cert.MConvBIdeal.τ).loc Cert.MConvBIdeal.main_arg0)
      ∧ r.2.mem ((c.tc : Thread Cert.MConvBIdeal.nD Cert.MConvBIdeal.τ).loc Cert.MConvBIdeal.main_arg1) = m ((c.tc : Thread Cert.MConvBIdeal.nD Cert.MConvBIdeal.τ).loc Cert.MConvBIdeal.main_arg1)
      ∧ r.2.mem ((c.tc : Thread Cert.MConvBIdeal.nD Cert.MConvBIdeal.τ).loc Cert.MConvBIdeal.main_arg2) = m ((c.tc : Thread Cert.MConvBIdeal.nD Cert.MConvBIdeal.τ).loc Cert.MConvBIdeal.main_arg2)
      ∧ r.2.mem ((c.tc : Thread Cert.MConvBIdeal.nD Cert.MConvBIdeal.τ).loc Cert.MConvBIdeal.main_arg3) = m ((c.tc : Thread Cert.MConvBIdeal.nD Cert.MConvBIdeal.τ).loc Cert.MConvBIdeal.main_arg3))
      ∧ r.2.sem = fun _ => 0)

def quiescent_MConvBIdeal_pre_mcb_finite [hMConvBIdeal : Cert.MConvBIdeal.Facts] [hPre_mcb_finite : Cert.Pre_mcb_finite.Facts] : Prop :=
  ∀ (m : (ℓ : Loc Cert.MConvBIdeal.nD Cert.MConvBIdeal.τ Cert.MConvBIdeal.sig) → Buf (Elt Ideal) ℓ) (g : Dev Cert.MConvBIdeal.nD → PrngReg), Pre_MConvBIdeal_mcb_finite m →
    θ_run (Cert.MConvBIdeal.defs (F := Ideal)) (onTc (τ := Cert.MConvBIdeal.τ) (Cert.MConvBIdeal.main (F := Ideal))) ⟨m, fun _ => 0, g⟩ (fun r => (∀ c : Dev Cert.MConvBIdeal.nD,
      r.2.mem ((c.tc : Thread Cert.MConvBIdeal.nD Cert.MConvBIdeal.τ).loc Cert.MConvBIdeal.main_arg0) = m ((c.tc : Thread Cert.MConvBIdeal.nD Cert.MConvBIdeal.τ).loc Cert.MConvBIdeal.main_arg0)
      ∧ r.2.mem ((c.tc : Thread Cert.MConvBIdeal.nD Cert.MConvBIdeal.τ).loc Cert.MConvBIdeal.main_arg1) = m ((c.tc : Thread Cert.MConvBIdeal.nD Cert.MConvBIdeal.τ).loc Cert.MConvBIdeal.main_arg1)
      ∧ r.2.mem ((c.tc : Thread Cert.MConvBIdeal.nD Cert.MConvBIdeal.τ).loc Cert.MConvBIdeal.main_arg2) = m ((c.tc : Thread Cert.MConvBIdeal.nD Cert.MConvBIdeal.τ).loc Cert.MConvBIdeal.main_arg2)
      ∧ r.2.mem ((c.tc : Thread Cert.MConvBIdeal.nD Cert.MConvBIdeal.τ).loc Cert.MConvBIdeal.main_arg3) = m ((c.tc : Thread Cert.MConvBIdeal.nD Cert.MConvBIdeal.τ).loc Cert.MConvBIdeal.main_arg3))
      ∧ r.2.sem = fun _ => 0)

def quiescent_MConvBRefIdeal [hMConvBRefIdeal : Cert.MConvBRefIdeal.Facts] : Prop :=
  ∀ (m : (ℓ : Loc Cert.MConvBRefIdeal.nD Cert.MConvBRefIdeal.τ Cert.MConvBRefIdeal.sig) → Buf (Elt Ideal) ℓ) (g : Dev Cert.MConvBRefIdeal.nD → PrngReg), Pre_MConvBRefIdeal m →
    θ_run (Cert.MConvBRefIdeal.defs (F := Ideal)) (onTc (τ := Cert.MConvBRefIdeal.τ) (Cert.MConvBRefIdeal.main (F := Ideal))) ⟨m, fun _ => 0, g⟩ (fun r => (∀ c : Dev Cert.MConvBRefIdeal.nD,
      r.2.mem ((c.tc : Thread Cert.MConvBRefIdeal.nD Cert.MConvBRefIdeal.τ).loc Cert.MConvBRefIdeal.main_arg0) = m ((c.tc : Thread Cert.MConvBRefIdeal.nD Cert.MConvBRefIdeal.τ).loc Cert.MConvBRefIdeal.main_arg0)
      ∧ r.2.mem ((c.tc : Thread Cert.MConvBRefIdeal.nD Cert.MConvBRefIdeal.τ).loc Cert.MConvBRefIdeal.main_arg1) = m ((c.tc : Thread Cert.MConvBRefIdeal.nD Cert.MConvBRefIdeal.τ).loc Cert.MConvBRefIdeal.main_arg1)
      ∧ r.2.mem ((c.tc : Thread Cert.MConvBRefIdeal.nD Cert.MConvBRefIdeal.τ).loc Cert.MConvBRefIdeal.main_arg2) = m ((c.tc : Thread Cert.MConvBRefIdeal.nD Cert.MConvBRefIdeal.τ).loc Cert.MConvBRefIdeal.main_arg2)
      ∧ r.2.mem ((c.tc : Thread Cert.MConvBRefIdeal.nD Cert.MConvBRefIdeal.τ).loc Cert.MConvBRefIdeal.main_arg3) = m ((c.tc : Thread Cert.MConvBRefIdeal.nD Cert.MConvBRefIdeal.τ).loc Cert.MConvBRefIdeal.main_arg3))
      ∧ r.2.sem = fun _ => 0)

def quiescent_MConvBRefIdeal_pre_mcb_finite [hMConvBRefIdeal : Cert.MConvBRefIdeal.Facts] [hPre_mcb_finite : Cert.Pre_mcb_finite.Facts] : Prop :=
  ∀ (m : (ℓ : Loc Cert.MConvBRefIdeal.nD Cert.MConvBRefIdeal.τ Cert.MConvBRefIdeal.sig) → Buf (Elt Ideal) ℓ) (g : Dev Cert.MConvBRefIdeal.nD → PrngReg), Pre_MConvBRefIdeal_mcb_finite m →
    θ_run (Cert.MConvBRefIdeal.defs (F := Ideal)) (onTc (τ := Cert.MConvBRefIdeal.τ) (Cert.MConvBRefIdeal.main (F := Ideal))) ⟨m, fun _ => 0, g⟩ (fun r => (∀ c : Dev Cert.MConvBRefIdeal.nD,
      r.2.mem ((c.tc : Thread Cert.MConvBRefIdeal.nD Cert.MConvBRefIdeal.τ).loc Cert.MConvBRefIdeal.main_arg0) = m ((c.tc : Thread Cert.MConvBRefIdeal.nD Cert.MConvBRefIdeal.τ).loc Cert.MConvBRefIdeal.main_arg0)
      ∧ r.2.mem ((c.tc : Thread Cert.MConvBRefIdeal.nD Cert.MConvBRefIdeal.τ).loc Cert.MConvBRefIdeal.main_arg1) = m ((c.tc : Thread Cert.MConvBRefIdeal.nD Cert.MConvBRefIdeal.τ).loc Cert.MConvBRefIdeal.main_arg1)
      ∧ r.2.mem ((c.tc : Thread Cert.MConvBRefIdeal.nD Cert.MConvBRefIdeal.τ).loc Cert.MConvBRefIdeal.main_arg2) = m ((c.tc : Thread Cert.MConvBRefIdeal.nD Cert.MConvBRefIdeal.τ).loc Cert.MConvBRefIdeal.main_arg2)
      ∧ r.2.mem ((c.tc : Thread Cert.MConvBRefIdeal.nD Cert.MConvBRefIdeal.τ).loc Cert.MConvBRefIdeal.main_arg3) = m ((c.tc : Thread Cert.MConvBRefIdeal.nD Cert.MConvBRefIdeal.τ).loc Cert.MConvBRefIdeal.main_arg3))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_PleF [hPleF : Cert.PleF.Facts] : Prop :=
  ∀ (m : (ℓ : Loc Cert.PleF.nD Cert.PleF.τ Cert.PleF.sig) → Buf (Elt Bits) ℓ) (g : Dev Cert.PleF.nD → PrngReg), Pre_PleF m →
    θ_run (Cert.PleF.defs (F := Bits)) (onTc (τ := Cert.PleF.τ) (Cert.PleF.main (F := Bits))) ⟨m, fun _ => 0, g⟩ (fun r => (∀ c : Dev Cert.PleF.nD,
      r.2.mem ((c.tc : Thread Cert.PleF.nD Cert.PleF.τ).loc Cert.PleF.main_arg0) = m ((c.tc : Thread Cert.PleF.nD Cert.PleF.τ).loc Cert.PleF.main_arg0)
      ∧ r.2.mem ((c.tc : Thread Cert.PleF.nD Cert.PleF.τ).loc Cert.PleF.main_arg1) = m ((c.tc : Thread Cert.PleF.nD Cert.PleF.τ).loc Cert.PleF.main_arg1)
      ∧ r.2.mem ((c.tc : Thread Cert.PleF.nD Cert.PleF.τ).loc Cert.PleF.main_arg2) = m ((c.tc : Thread Cert.PleF.nD Cert.PleF.τ).loc Cert.PleF.main_arg2))
      ∧ r.2.sem = fun _ => 0)

def quiescent_PleFIdeal [hPleFIdeal : Cert.PleFIdeal.Facts] : Prop :=
  ∀ (m : (ℓ : Loc Cert.PleFIdeal.nD Cert.PleFIdeal.τ Cert.PleFIdeal.sig) → Buf (Elt Ideal) ℓ) (g : Dev Cert.PleFIdeal.nD → PrngReg), Pre_PleFIdeal m →
    θ_run (Cert.PleFIdeal.defs (F := Ideal)) (onTc (τ := Cert.PleFIdeal.τ) (Cert.PleFIdeal.main (F := Ideal))) ⟨m, fun _ => 0, g⟩ (fun r => (∀ c : Dev Cert.PleFIdeal.nD,
      r.2.mem ((c.tc : Thread Cert.PleFIdeal.nD Cert.PleFIdeal.τ).loc Cert.PleFIdeal.main_arg0) = m ((c.tc : Thread Cert.PleFIdeal.nD Cert.PleFIdeal.τ).loc Cert.PleFIdeal.main_arg0)
      ∧ r.2.mem ((c.tc : Thread Cert.PleFIdeal.nD Cert.PleFIdeal.τ).loc Cert.PleFIdeal.main_arg1) = m ((c.tc : Thread Cert.PleFIdeal.nD Cert.PleFIdeal.τ).loc Cert.PleFIdeal.main_arg1)
      ∧ r.2.mem ((c.tc : Thread Cert.PleFIdeal.nD Cert.PleFIdeal.τ).loc Cert.PleFIdeal.main_arg2) = m ((c.tc : Thread Cert.PleFIdeal.nD Cert.PleFIdeal.τ).loc Cert.PleFIdeal.main_arg2))
      ∧ r.2.sem = fun _ => 0)

def quiescent_PleFRefIdeal [hPleFRefIdeal : Cert.PleFRefIdeal.Facts] : Prop :=
  ∀ (m : (ℓ : Loc Cert.PleFRefIdeal.nD Cert.PleFRefIdeal.τ Cert.PleFRefIdeal.sig) → Buf (Elt Ideal) ℓ) (g : Dev Cert.PleFRefIdeal.nD → PrngReg), Pre_PleFRefIdeal m →
    θ_run (Cert.PleFRefIdeal.defs (F := Ideal)) (onTc (τ := Cert.PleFRefIdeal.τ) (Cert.PleFRefIdeal.main (F := Ideal))) ⟨m, fun _ => 0, g⟩ (fun r => (∀ c : Dev Cert.PleFRefIdeal.nD,
      r.2.mem ((c.tc : Thread Cert.PleFRefIdeal.nD Cert.PleFRefIdeal.τ).loc Cert.PleFRefIdeal.main_arg0) = m ((c.tc : Thread Cert.PleFRefIdeal.nD Cert.PleFRefIdeal.τ).loc Cert.PleFRefIdeal.main_arg0)
      ∧ r.2.mem ((c.tc : Thread Cert.PleFRefIdeal.nD Cert.PleFRefIdeal.τ).loc Cert.PleFRefIdeal.main_arg1) = m ((c.tc : Thread Cert.PleFRefIdeal.nD Cert.PleFRefIdeal.τ).loc Cert.PleFRefIdeal.main_arg1)
      ∧ r.2.mem ((c.tc : Thread Cert.PleFRefIdeal.nD Cert.PleFRefIdeal.τ).loc Cert.PleFRefIdeal.main_arg2) = m ((c.tc : Thread Cert.PleFRefIdeal.nD Cert.PleFRefIdeal.τ).loc Cert.PleFRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_GNormF [hGNormF : Cert.GNormF.Facts] : Prop :=
  ∀ (m : (ℓ : Loc Cert.GNormF.nD Cert.GNormF.τ Cert.GNormF.sig) → Buf (Elt Bits) ℓ) (g : Dev Cert.GNormF.nD → PrngReg), Pre_GNormF m →
    θ_run (Cert.GNormF.defs (F := Bits)) (onTc (τ := Cert.GNormF.τ) (Cert.GNormF.main (F := Bits))) ⟨m, fun _ => 0, g⟩ (fun r => (∀ c : Dev Cert.GNormF.nD,
      r.2.mem ((c.tc : Thread Cert.GNormF.nD Cert.GNormF.τ).loc Cert.GNormF.main_arg0) = m ((c.tc : Thread Cert.GNormF.nD Cert.GNormF.τ).loc Cert.GNormF.main_arg0)
      ∧ r.2.mem ((c.tc : Thread Cert.GNormF.nD Cert.GNormF.τ).loc Cert.GNormF.main_arg1) = m ((c.tc : Thread Cert.GNormF.nD Cert.GNormF.τ).loc Cert.GNormF.main_arg1)
      ∧ r.2.mem ((c.tc : Thread Cert.GNormF.nD Cert.GNormF.τ).loc Cert.GNormF.main_arg2) = m ((c.tc : Thread Cert.GNormF.nD Cert.GNormF.τ).loc Cert.GNormF.main_arg2))
      ∧ r.2.sem = fun _ => 0)

def quiescent_GNormFIdeal [hGNormFIdeal : Cert.GNormFIdeal.Facts] : Prop :=
  ∀ (m : (ℓ : Loc Cert.GNormFIdeal.nD Cert.GNormFIdeal.τ Cert.GNormFIdeal.sig) → Buf (Elt Ideal) ℓ) (g : Dev Cert.GNormFIdeal.nD → PrngReg), Pre_GNormFIdeal m →
    θ_run (Cert.GNormFIdeal.defs (F := Ideal)) (onTc (τ := Cert.GNormFIdeal.τ) (Cert.GNormFIdeal.main (F := Ideal))) ⟨m, fun _ => 0, g⟩ (fun r => (∀ c : Dev Cert.GNormFIdeal.nD,
      r.2.mem ((c.tc : Thread Cert.GNormFIdeal.nD Cert.GNormFIdeal.τ).loc Cert.GNormFIdeal.main_arg0) = m ((c.tc : Thread Cert.GNormFIdeal.nD Cert.GNormFIdeal.τ).loc Cert.GNormFIdeal.main_arg0)
      ∧ r.2.mem ((c.tc : Thread Cert.GNormFIdeal.nD Cert.GNormFIdeal.τ).loc Cert.GNormFIdeal.main_arg1) = m ((c.tc : Thread Cert.GNormFIdeal.nD Cert.GNormFIdeal.τ).loc Cert.GNormFIdeal.main_arg1)
      ∧ r.2.mem ((c.tc : Thread Cert.GNormFIdeal.nD Cert.GNormFIdeal.τ).loc Cert.GNormFIdeal.main_arg2) = m ((c.tc : Thread Cert.GNormFIdeal.nD Cert.GNormFIdeal.τ).loc Cert.GNormFIdeal.main_arg2))
      ∧ r.2.sem = fun _ => 0)

def quiescent_GNormFRefIdeal [hGNormFRefIdeal : Cert.GNormFRefIdeal.Facts] : Prop :=
  ∀ (m : (ℓ : Loc Cert.GNormFRefIdeal.nD Cert.GNormFRefIdeal.τ Cert.GNormFRefIdeal.sig) → Buf (Elt Ideal) ℓ) (g : Dev Cert.GNormFRefIdeal.nD → PrngReg), Pre_GNormFRefIdeal m →
    θ_run (Cert.GNormFRefIdeal.defs (F := Ideal)) (onTc (τ := Cert.GNormFRefIdeal.τ) (Cert.GNormFRefIdeal.main (F := Ideal))) ⟨m, fun _ => 0, g⟩ (fun r => (∀ c : Dev Cert.GNormFRefIdeal.nD,
      r.2.mem ((c.tc : Thread Cert.GNormFRefIdeal.nD Cert.GNormFRefIdeal.τ).loc Cert.GNormFRefIdeal.main_arg0) = m ((c.tc : Thread Cert.GNormFRefIdeal.nD Cert.GNormFRefIdeal.τ).loc Cert.GNormFRefIdeal.main_arg0)
      ∧ r.2.mem ((c.tc : Thread Cert.GNormFRefIdeal.nD Cert.GNormFRefIdeal.τ).loc Cert.GNormFRefIdeal.main_arg1) = m ((c.tc : Thread Cert.GNormFRefIdeal.nD Cert.GNormFRefIdeal.τ).loc Cert.GNormFRefIdeal.main_arg1)
      ∧ r.2.mem ((c.tc : Thread Cert.GNormFRefIdeal.nD Cert.GNormFRefIdeal.τ).loc Cert.GNormFRefIdeal.main_arg2) = m ((c.tc : Thread Cert.GNormFRefIdeal.nD Cert.GNormFRefIdeal.τ).loc Cert.GNormFRefIdeal.main_arg2))
      ∧ r.2.sem = fun _ => 0)

def quiescent_ScConvF [hScConvF : Cert.ScConvF.Facts] : Prop :=
  ∀ (m : (ℓ : Loc Cert.ScConvF.nD Cert.ScConvF.τ Cert.ScConvF.sig) → Buf (Elt Bits) ℓ) (g : Dev Cert.ScConvF.nD → PrngReg), Pre_ScConvF m →
    θ_run (Cert.ScConvF.defs (F := Bits)) (onTc (τ := Cert.ScConvF.τ) (Cert.ScConvF.main (F := Bits))) ⟨m, fun _ => 0, g⟩ (fun r => (∀ c : Dev Cert.ScConvF.nD,
      r.2.mem ((c.tc : Thread Cert.ScConvF.nD Cert.ScConvF.τ).loc Cert.ScConvF.main_arg0) = m ((c.tc : Thread Cert.ScConvF.nD Cert.ScConvF.τ).loc Cert.ScConvF.main_arg0)
      ∧ r.2.mem ((c.tc : Thread Cert.ScConvF.nD Cert.ScConvF.τ).loc Cert.ScConvF.main_arg1) = m ((c.tc : Thread Cert.ScConvF.nD Cert.ScConvF.τ).loc Cert.ScConvF.main_arg1))
      ∧ r.2.sem = fun _ => 0)

def quiescent_ScConvFIdeal [hScConvFIdeal : Cert.ScConvFIdeal.Facts] : Prop :=
  ∀ (m : (ℓ : Loc Cert.ScConvFIdeal.nD Cert.ScConvFIdeal.τ Cert.ScConvFIdeal.sig) → Buf (Elt Ideal) ℓ) (g : Dev Cert.ScConvFIdeal.nD → PrngReg), Pre_ScConvFIdeal m →
    θ_run (Cert.ScConvFIdeal.defs (F := Ideal)) (onTc (τ := Cert.ScConvFIdeal.τ) (Cert.ScConvFIdeal.main (F := Ideal))) ⟨m, fun _ => 0, g⟩ (fun r => (∀ c : Dev Cert.ScConvFIdeal.nD,
      r.2.mem ((c.tc : Thread Cert.ScConvFIdeal.nD Cert.ScConvFIdeal.τ).loc Cert.ScConvFIdeal.main_arg0) = m ((c.tc : Thread Cert.ScConvFIdeal.nD Cert.ScConvFIdeal.τ).loc Cert.ScConvFIdeal.main_arg0)
      ∧ r.2.mem ((c.tc : Thread Cert.ScConvFIdeal.nD Cert.ScConvFIdeal.τ).loc Cert.ScConvFIdeal.main_arg1) = m ((c.tc : Thread Cert.ScConvFIdeal.nD Cert.ScConvFIdeal.τ).loc Cert.ScConvFIdeal.main_arg1))
      ∧ r.2.sem = fun _ => 0)

def quiescent_ScConvFRefIdeal [hScConvFRefIdeal : Cert.ScConvFRefIdeal.Facts] : Prop :=
  ∀ (m : (ℓ : Loc Cert.ScConvFRefIdeal.nD Cert.ScConvFRefIdeal.τ Cert.ScConvFRefIdeal.sig) → Buf (Elt Ideal) ℓ) (g : Dev Cert.ScConvFRefIdeal.nD → PrngReg), Pre_ScConvFRefIdeal m →
    θ_run (Cert.ScConvFRefIdeal.defs (F := Ideal)) (onTc (τ := Cert.ScConvFRefIdeal.τ) (Cert.ScConvFRefIdeal.main (F := Ideal))) ⟨m, fun _ => 0, g⟩ (fun r => (∀ c : Dev Cert.ScConvFRefIdeal.nD,
      r.2.mem ((c.tc : Thread Cert.ScConvFRefIdeal.nD Cert.ScConvFRefIdeal.τ).loc Cert.ScConvFRefIdeal.main_arg0) = m ((c.tc : Thread Cert.ScConvFRefIdeal.nD Cert.ScConvFRefIdeal.τ).loc Cert.ScConvFRefIdeal.main_arg0)
      ∧ r.2.mem ((c.tc : Thread Cert.ScConvFRefIdeal.nD Cert.ScConvFRefIdeal.τ).loc Cert.ScConvFRefIdeal.main_arg1) = m ((c.tc : Thread Cert.ScConvFRefIdeal.nD Cert.ScConvFRefIdeal.τ).loc Cert.ScConvFRefIdeal.main_arg1))
      ∧ r.2.sem = fun _ => 0)

def quiescent_MConvF [hMConvF : Cert.MConvF.Facts] : Prop :=
  ∀ (m : (ℓ : Loc Cert.MConvF.nD Cert.MConvF.τ Cert.MConvF.sig) → Buf (Elt Bits) ℓ) (g : Dev Cert.MConvF.nD → PrngReg), Pre_MConvF m →
    θ_run (Cert.MConvF.defs (F := Bits)) (onTc (τ := Cert.MConvF.τ) (Cert.MConvF.main (F := Bits))) ⟨m, fun _ => 0, g⟩ (fun r => (∀ c : Dev Cert.MConvF.nD,
      r.2.mem ((c.tc : Thread Cert.MConvF.nD Cert.MConvF.τ).loc Cert.MConvF.main_arg0) = m ((c.tc : Thread Cert.MConvF.nD Cert.MConvF.τ).loc Cert.MConvF.main_arg0)
      ∧ r.2.mem ((c.tc : Thread Cert.MConvF.nD Cert.MConvF.τ).loc Cert.MConvF.main_arg1) = m ((c.tc : Thread Cert.MConvF.nD Cert.MConvF.τ).loc Cert.MConvF.main_arg1)
      ∧ r.2.mem ((c.tc : Thread Cert.MConvF.nD Cert.MConvF.τ).loc Cert.MConvF.main_arg2) = m ((c.tc : Thread Cert.MConvF.nD Cert.MConvF.τ).loc Cert.MConvF.main_arg2))
      ∧ r.2.sem = fun _ => 0)

def quiescent_MConvFIdeal [hMConvFIdeal : Cert.MConvFIdeal.Facts] : Prop :=
  ∀ (m : (ℓ : Loc Cert.MConvFIdeal.nD Cert.MConvFIdeal.τ Cert.MConvFIdeal.sig) → Buf (Elt Ideal) ℓ) (g : Dev Cert.MConvFIdeal.nD → PrngReg), Pre_MConvFIdeal m →
    θ_run (Cert.MConvFIdeal.defs (F := Ideal)) (onTc (τ := Cert.MConvFIdeal.τ) (Cert.MConvFIdeal.main (F := Ideal))) ⟨m, fun _ => 0, g⟩ (fun r => (∀ c : Dev Cert.MConvFIdeal.nD,
      r.2.mem ((c.tc : Thread Cert.MConvFIdeal.nD Cert.MConvFIdeal.τ).loc Cert.MConvFIdeal.main_arg0) = m ((c.tc : Thread Cert.MConvFIdeal.nD Cert.MConvFIdeal.τ).loc Cert.MConvFIdeal.main_arg0)
      ∧ r.2.mem ((c.tc : Thread Cert.MConvFIdeal.nD Cert.MConvFIdeal.τ).loc Cert.MConvFIdeal.main_arg1) = m ((c.tc : Thread Cert.MConvFIdeal.nD Cert.MConvFIdeal.τ).loc Cert.MConvFIdeal.main_arg1)
      ∧ r.2.mem ((c.tc : Thread Cert.MConvFIdeal.nD Cert.MConvFIdeal.τ).loc Cert.MConvFIdeal.main_arg2) = m ((c.tc : Thread Cert.MConvFIdeal.nD Cert.MConvFIdeal.τ).loc Cert.MConvFIdeal.main_arg2))
      ∧ r.2.sem = fun _ => 0)

def quiescent_MConvFRefIdeal [hMConvFRefIdeal : Cert.MConvFRefIdeal.Facts] : Prop :=
  ∀ (m : (ℓ : Loc Cert.MConvFRefIdeal.nD Cert.MConvFRefIdeal.τ Cert.MConvFRefIdeal.sig) → Buf (Elt Ideal) ℓ) (g : Dev Cert.MConvFRefIdeal.nD → PrngReg), Pre_MConvFRefIdeal m →
    θ_run (Cert.MConvFRefIdeal.defs (F := Ideal)) (onTc (τ := Cert.MConvFRefIdeal.τ) (Cert.MConvFRefIdeal.main (F := Ideal))) ⟨m, fun _ => 0, g⟩ (fun r => (∀ c : Dev Cert.MConvFRefIdeal.nD,
      r.2.mem ((c.tc : Thread Cert.MConvFRefIdeal.nD Cert.MConvFRefIdeal.τ).loc Cert.MConvFRefIdeal.main_arg0) = m ((c.tc : Thread Cert.MConvFRefIdeal.nD Cert.MConvFRefIdeal.τ).loc Cert.MConvFRefIdeal.main_arg0)
      ∧ r.2.mem ((c.tc : Thread Cert.MConvFRefIdeal.nD Cert.MConvFRefIdeal.τ).loc Cert.MConvFRefIdeal.main_arg1) = m ((c.tc : Thread Cert.MConvFRefIdeal.nD Cert.MConvFRefIdeal.τ).loc Cert.MConvFRefIdeal.main_arg1)
      ∧ r.2.mem ((c.tc : Thread Cert.MConvFRefIdeal.nD Cert.MConvFRefIdeal.τ).loc Cert.MConvFRefIdeal.main_arg2) = m ((c.tc : Thread Cert.MConvFRefIdeal.nD Cert.MConvFRefIdeal.τ).loc Cert.MConvFRefIdeal.main_arg2))
      ∧ r.2.sem = fun _ => 0)

def quiescent_LossH [hLossH : Cert.LossH.Facts] : Prop :=
  ∀ (m : (ℓ : Loc Cert.LossH.nD Cert.LossH.τ Cert.LossH.sig) → Buf (Elt Bits) ℓ) (g : Dev Cert.LossH.nD → PrngReg), Pre_LossH m →
    θ_run (Cert.LossH.defs (F := Bits)) (onTc (τ := Cert.LossH.τ) (Cert.LossH.main (F := Bits))) ⟨m, fun _ => 0, g⟩ (fun r => (∀ c : Dev Cert.LossH.nD,
      r.2.mem ((c.tc : Thread Cert.LossH.nD Cert.LossH.τ).loc Cert.LossH.main_arg0) = m ((c.tc : Thread Cert.LossH.nD Cert.LossH.τ).loc Cert.LossH.main_arg0)
      ∧ r.2.mem ((c.tc : Thread Cert.LossH.nD Cert.LossH.τ).loc Cert.LossH.main_arg1) = m ((c.tc : Thread Cert.LossH.nD Cert.LossH.τ).loc Cert.LossH.main_arg1)
      ∧ r.2.mem ((c.tc : Thread Cert.LossH.nD Cert.LossH.τ).loc Cert.LossH.main_arg2) = m ((c.tc : Thread Cert.LossH.nD Cert.LossH.τ).loc Cert.LossH.main_arg2))
      ∧ r.2.sem = fun _ => 0)

def quiescent_LossHIdeal [hLossHIdeal : Cert.LossHIdeal.Facts] : Prop :=
  ∀ (m : (ℓ : Loc Cert.LossHIdeal.nD Cert.LossHIdeal.τ Cert.LossHIdeal.sig) → Buf (Elt Ideal) ℓ) (g : Dev Cert.LossHIdeal.nD → PrngReg), Pre_LossHIdeal m →
    θ_run (Cert.LossHIdeal.defs (F := Ideal)) (onTc (τ := Cert.LossHIdeal.τ) (Cert.LossHIdeal.main (F := Ideal))) ⟨m, fun _ => 0, g⟩ (fun r => (∀ c : Dev Cert.LossHIdeal.nD,
      r.2.mem ((c.tc : Thread Cert.LossHIdeal.nD Cert.LossHIdeal.τ).loc Cert.LossHIdeal.main_arg0) = m ((c.tc : Thread Cert.LossHIdeal.nD Cert.LossHIdeal.τ).loc Cert.LossHIdeal.main_arg0)
      ∧ r.2.mem ((c.tc : Thread Cert.LossHIdeal.nD Cert.LossHIdeal.τ).loc Cert.LossHIdeal.main_arg1) = m ((c.tc : Thread Cert.LossHIdeal.nD Cert.LossHIdeal.τ).loc Cert.LossHIdeal.main_arg1)
      ∧ r.2.mem ((c.tc : Thread Cert.LossHIdeal.nD Cert.LossHIdeal.τ).loc Cert.LossHIdeal.main_arg2) = m ((c.tc : Thread Cert.LossHIdeal.nD Cert.LossHIdeal.τ).loc Cert.LossHIdeal.main_arg2))
      ∧ r.2.sem = fun _ => 0)

def quiescent_LossHRefIdeal [hLossHRefIdeal : Cert.LossHRefIdeal.Facts] : Prop :=
  ∀ (m : (ℓ : Loc Cert.LossHRefIdeal.nD Cert.LossHRefIdeal.τ Cert.LossHRefIdeal.sig) → Buf (Elt Ideal) ℓ) (g : Dev Cert.LossHRefIdeal.nD → PrngReg), Pre_LossHRefIdeal m →
    θ_run (Cert.LossHRefIdeal.defs (F := Ideal)) (onTc (τ := Cert.LossHRefIdeal.τ) (Cert.LossHRefIdeal.main (F := Ideal))) ⟨m, fun _ => 0, g⟩ (fun r => (∀ c : Dev Cert.LossHRefIdeal.nD,
      r.2.mem ((c.tc : Thread Cert.LossHRefIdeal.nD Cert.LossHRefIdeal.τ).loc Cert.LossHRefIdeal.main_arg0) = m ((c.tc : Thread Cert.LossHRefIdeal.nD Cert.LossHRefIdeal.τ).loc Cert.LossHRefIdeal.main_arg0)
      ∧ r.2.mem ((c.tc : Thread Cert.LossHRefIdeal.nD Cert.LossHRefIdeal.τ).loc Cert.LossHRefIdeal.main_arg1) = m ((c.tc : Thread Cert.LossHRefIdeal.nD Cert.LossHRefIdeal.τ).loc Cert.LossHRefIdeal.main_arg1)
      ∧ r.2.mem ((c.tc : Thread Cert.LossHRefIdeal.nD Cert.LossHRefIdeal.τ).loc Cert.LossHRefIdeal.main_arg2) = m ((c.tc : Thread Cert.LossHRefIdeal.nD Cert.LossHRefIdeal.τ).loc Cert.LossHRefIdeal.main_arg2))
      ∧ r.2.sem = fun _ => 0)

def preserves_ScConv_ScConvIdeal : Prop :=
  True

def algebraic_ScConvIdeal_ScConvRefIdeal [hScConvIdeal : Cert.ScConvIdeal.Facts] [hScConvRefIdeal : Cert.ScConvRefIdeal.Facts] : Prop :=
  ∀ (m : (ℓ : Loc Cert.ScConvIdeal.nD Cert.ScConvIdeal.τ Cert.ScConvIdeal.sig) → Buf (Elt Ideal) ℓ) (g : Dev Cert.ScConvIdeal.nD → PrngReg)
    (m' : (ℓ : Loc Cert.ScConvRefIdeal.nD Cert.ScConvRefIdeal.τ Cert.ScConvRefIdeal.sig) → Buf (Elt Ideal) ℓ) (g' : Dev Cert.ScConvRefIdeal.nD → PrngReg), Pre_ScConvIdeal m →
    (∀ c : Dev Cert.ScConvIdeal.nD,
      m' ((c.tc : Thread Cert.ScConvRefIdeal.nD Cert.ScConvRefIdeal.τ).loc Cert.ScConvRefIdeal.main_arg0) = m ((c.tc : Thread Cert.ScConvIdeal.nD Cert.ScConvIdeal.τ).loc Cert.ScConvIdeal.main_arg0)
      ∧ m' ((c.tc : Thread Cert.ScConvRefIdeal.nD Cert.ScConvRefIdeal.τ).loc Cert.ScConvRefIdeal.main_arg1) = m ((c.tc : Thread Cert.ScConvIdeal.nD Cert.ScConvIdeal.τ).loc Cert.ScConvIdeal.main_arg1)
      ∧ m' ((c.tc : Thread Cert.ScConvRefIdeal.nD Cert.ScConvRefIdeal.τ).loc Cert.ScConvRefIdeal.main_arg2) = m ((c.tc : Thread Cert.ScConvIdeal.nD Cert.ScConvIdeal.τ).loc Cert.ScConvIdeal.main_arg2)) →
    ∃ (v0 : (c : Dev Cert.ScConvIdeal.nD) → Buf (Elt Ideal) ((c.tc : Thread Cert.ScConvIdeal.nD Cert.ScConvIdeal.τ).loc Cert.ScConvIdeal.main_v2_0)) (v1 : (c : Dev Cert.ScConvIdeal.nD) → Buf (Elt Ideal) ((c.tc : Thread Cert.ScConvIdeal.nD Cert.ScConvIdeal.τ).loc Cert.ScConvIdeal.main_v2_1)) (v2 : (c : Dev Cert.ScConvIdeal.nD) → Buf (Elt Ideal) ((c.tc : Thread Cert.ScConvIdeal.nD Cert.ScConvIdeal.τ).loc Cert.ScConvIdeal.main_v2_2)) (v3 : (c : Dev Cert.ScConvIdeal.nD) → Buf (Elt Ideal) ((c.tc : Thread Cert.ScConvIdeal.nD Cert.ScConvIdeal.τ).loc Cert.ScConvIdeal.main_v2_3)),
      θ_run (Cert.ScConvIdeal.defs (F := Ideal)) (onTc (τ := Cert.ScConvIdeal.τ) (Cert.ScConvIdeal.main (F := Ideal))) ⟨m, fun _ => 0, g⟩ (fun r => ∀ c : Dev Cert.ScConvIdeal.nD,
          r.2.mem ((c.tc : Thread Cert.ScConvIdeal.nD Cert.ScConvIdeal.τ).loc Cert.ScConvIdeal.main_v2_0) = v0 c
          ∧ r.2.mem ((c.tc : Thread Cert.ScConvIdeal.nD Cert.ScConvIdeal.τ).loc Cert.ScConvIdeal.main_v2_1) = v1 c
          ∧ r.2.mem ((c.tc : Thread Cert.ScConvIdeal.nD Cert.ScConvIdeal.τ).loc Cert.ScConvIdeal.main_v2_2) = v2 c
          ∧ r.2.mem ((c.tc : Thread Cert.ScConvIdeal.nD Cert.ScConvIdeal.τ).loc Cert.ScConvIdeal.main_v2_3) = v3 c
          ∧ r.2.mem ((c.tc : Thread Cert.ScConvIdeal.nD Cert.ScConvIdeal.τ).loc Cert.ScConvIdeal.main_arg0) = m ((c.tc : Thread Cert.ScConvIdeal.nD Cert.ScConvIdeal.τ).loc Cert.ScConvIdeal.main_arg0)
          ∧ r.2.mem ((c.tc : Thread Cert.ScConvIdeal.nD Cert.ScConvIdeal.τ).loc Cert.ScConvIdeal.main_arg1) = m ((c.tc : Thread Cert.ScConvIdeal.nD Cert.ScConvIdeal.τ).loc Cert.ScConvIdeal.main_arg1)
          ∧ r.2.mem ((c.tc : Thread Cert.ScConvIdeal.nD Cert.ScConvIdeal.τ).loc Cert.ScConvIdeal.main_arg2) = m ((c.tc : Thread Cert.ScConvIdeal.nD Cert.ScConvIdeal.τ).loc Cert.ScConvIdeal.main_arg2))
      ∧ θ_run (Cert.ScConvRefIdeal.defs (F := Ideal)) (onTc (τ := Cert.ScConvRefIdeal.τ) (Cert.ScConvRefIdeal.main (F := Ideal))) ⟨m', fun _ => 0, g'⟩ (fun r => ∀ c : Dev Cert.ScConvRefIdeal.nD,
          r.2.mem ((c.tc : Thread Cert.ScConvRefIdeal.nD Cert.ScConvRefIdeal.τ).loc Cert.ScConvRefIdeal.main_v71) = v0 c
          ∧ r.2.mem ((c.tc : Thread Cert.ScConvRefIdeal.nD Cert.ScConvRefIdeal.τ).loc Cert.ScConvRefIdeal.main_v72) = v1 c
          ∧ r.2.mem ((c.tc : Thread Cert.ScConvRefIdeal.nD Cert.ScConvRefIdeal.τ).loc Cert.ScConvRefIdeal.main_v73) = v2 c
          ∧ r.2.mem ((c.tc : Thread Cert.ScConvRefIdeal.nD Cert.ScConvRefIdeal.τ).loc Cert.ScConvRefIdeal.main_v75) = v3 c
          ∧ r.2.mem ((c.tc : Thread Cert.ScConvRefIdeal.nD Cert.ScConvRefIdeal.τ).loc Cert.ScConvRefIdeal.main_arg0) = m' ((c.tc : Thread Cert.ScConvRefIdeal.nD Cert.ScConvRefIdeal.τ).loc Cert.ScConvRefIdeal.main_arg0)
          ∧ r.2.mem ((c.tc : Thread Cert.ScConvRefIdeal.nD Cert.ScConvRefIdeal.τ).loc Cert.ScConvRefIdeal.main_arg1) = m' ((c.tc : Thread Cert.ScConvRefIdeal.nD Cert.ScConvRefIdeal.τ).loc Cert.ScConvRefIdeal.main_arg1)
          ∧ r.2.mem ((c.tc : Thread Cert.ScConvRefIdeal.nD Cert.ScConvRefIdeal.τ).loc Cert.ScConvRefIdeal.main_arg2) = m' ((c.tc : Thread Cert.ScConvRefIdeal.nD Cert.ScConvRefIdeal.τ).loc Cert.ScConvRefIdeal.main_arg2))

def preserves_DAct_DActIdeal : Prop :=
  True

def algebraic_DActIdeal_DActRefIdeal_pre_dact_finite [hDActIdeal : Cert.DActIdeal.Facts] [hDActRefIdeal : Cert.DActRefIdeal.Facts] [hPre_dact_finite : Cert.Pre_dact_finite.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal_dact_finite m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)
      ∧ m' ((c.tc : Thread Cert.DActRefIdeal.nD Cert.DActRefIdeal.τ).loc Cert.DActRefIdeal.main_arg3) = m ((c.tc : Thread Cert.DActIdeal.nD Cert.DActIdeal.τ).loc Cert.DActIdeal.main_arg3)) →
    ∃ (v0 : (c : Dev Cert.DActIdeal.nD) → Buf (Elt Ideal) ((c.tc : Thread Cert.DActIdeal.nD Cert.DActIdeal.τ).loc Cert.DActIdeal.main_v0_0)) (v1 : (c : Dev Cert.DActIdeal.nD) → Buf (Elt Ideal) ((c.tc : Thread Cert.DActIdeal.nD Cert.DActIdeal.τ).loc Cert.DActIdeal.main_v0_1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0_0) = v0 c
          ∧ r.2.mem ((c.tc : Thread Cert.DActIdeal.nD Cert.DActIdeal.τ).loc Cert.DActIdeal.main_v0_1) = v1 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
          ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v14) = v0 c
          ∧ r.2.mem ((c.tc : Thread Cert.DActRefIdeal.nD Cert.DActRefIdeal.τ).loc Cert.DActRefIdeal.main_v15) = v1 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2)
          ∧ r.2.mem ((c.tc : Thread Cert.DActRefIdeal.nD Cert.DActRefIdeal.τ).loc Cert.DActRefIdeal.main_arg3) = m' ((c.tc : Thread Cert.DActRefIdeal.nD Cert.DActRefIdeal.τ).loc Cert.DActRefIdeal.main_arg3))

def preserves_DWd_DWdIdeal : Prop :=
  True

def algebraic_DWdIdeal_DWdRefIdeal [hDWdIdeal : Cert.DWdIdeal.Facts] [hDWdRefIdeal : Cert.DWdRefIdeal.Facts] : Prop :=
  ∀ (m : (ℓ : Loc Cert.DWdIdeal.nD Cert.DWdIdeal.τ Cert.DWdIdeal.sig) → Buf (Elt Ideal) ℓ) (g : Dev Cert.DWdIdeal.nD → PrngReg)
    (m' : (ℓ : Loc Cert.DWdRefIdeal.nD Cert.DWdRefIdeal.τ Cert.DWdRefIdeal.sig) → Buf (Elt Ideal) ℓ) (g' : Dev Cert.DWdRefIdeal.nD → PrngReg), Pre_DWdIdeal m →
    (∀ c : Dev Cert.DWdIdeal.nD,
      m' ((c.tc : Thread Cert.DWdRefIdeal.nD Cert.DWdRefIdeal.τ).loc Cert.DWdRefIdeal.main_arg0) = m ((c.tc : Thread Cert.DWdIdeal.nD Cert.DWdIdeal.τ).loc Cert.DWdIdeal.main_arg0)
      ∧ m' ((c.tc : Thread Cert.DWdRefIdeal.nD Cert.DWdRefIdeal.τ).loc Cert.DWdRefIdeal.main_arg1) = m ((c.tc : Thread Cert.DWdIdeal.nD Cert.DWdIdeal.τ).loc Cert.DWdIdeal.main_arg1)) →
    ∃ (v0 : (c : Dev Cert.DWdIdeal.nD) → Buf (Elt Ideal) ((c.tc : Thread Cert.DWdIdeal.nD Cert.DWdIdeal.τ).loc Cert.DWdIdeal.main_v0)),
      θ_run (Cert.DWdIdeal.defs (F := Ideal)) (onTc (τ := Cert.DWdIdeal.τ) (Cert.DWdIdeal.main (F := Ideal))) ⟨m, fun _ => 0, g⟩ (fun r => ∀ c : Dev Cert.DWdIdeal.nD,
          r.2.mem ((c.tc : Thread Cert.DWdIdeal.nD Cert.DWdIdeal.τ).loc Cert.DWdIdeal.main_v0) = v0 c
          ∧ r.2.mem ((c.tc : Thread Cert.DWdIdeal.nD Cert.DWdIdeal.τ).loc Cert.DWdIdeal.main_arg0) = m ((c.tc : Thread Cert.DWdIdeal.nD Cert.DWdIdeal.τ).loc Cert.DWdIdeal.main_arg0)
          ∧ r.2.mem ((c.tc : Thread Cert.DWdIdeal.nD Cert.DWdIdeal.τ).loc Cert.DWdIdeal.main_arg1) = m ((c.tc : Thread Cert.DWdIdeal.nD Cert.DWdIdeal.τ).loc Cert.DWdIdeal.main_arg1))
      ∧ θ_run (Cert.DWdRefIdeal.defs (F := Ideal)) (onTc (τ := Cert.DWdRefIdeal.τ) (Cert.DWdRefIdeal.main (F := Ideal))) ⟨m', fun _ => 0, g'⟩ (fun r => ∀ c : Dev Cert.DWdRefIdeal.nD,
          r.2.mem ((c.tc : Thread Cert.DWdRefIdeal.nD Cert.DWdRefIdeal.τ).loc Cert.DWdRefIdeal.main_v9) = v0 c
          ∧ r.2.mem ((c.tc : Thread Cert.DWdRefIdeal.nD Cert.DWdRefIdeal.τ).loc Cert.DWdRefIdeal.main_arg0) = m' ((c.tc : Thread Cert.DWdRefIdeal.nD Cert.DWdRefIdeal.τ).loc Cert.DWdRefIdeal.main_arg0)
          ∧ r.2.mem ((c.tc : Thread Cert.DWdRefIdeal.nD Cert.DWdRefIdeal.τ).loc Cert.DWdRefIdeal.main_arg1) = m' ((c.tc : Thread Cert.DWdRefIdeal.nD Cert.DWdRefIdeal.τ).loc Cert.DWdRefIdeal.main_arg1))

def preserves_DWg_DWgIdeal : Prop :=
  True

def algebraic_DWgIdeal_DWgRefIdeal [hDWgIdeal : Cert.DWgIdeal.Facts] [hDWgRefIdeal : Cert.DWgRefIdeal.Facts] : Prop :=
  ∀ (m : (ℓ : Loc Cert.DWgIdeal.nD Cert.DWgIdeal.τ Cert.DWgIdeal.sig) → Buf (Elt Ideal) ℓ) (g : Dev Cert.DWgIdeal.nD → PrngReg)
    (m' : (ℓ : Loc Cert.DWgRefIdeal.nD Cert.DWgRefIdeal.τ Cert.DWgRefIdeal.sig) → Buf (Elt Ideal) ℓ) (g' : Dev Cert.DWgRefIdeal.nD → PrngReg), Pre_DWgIdeal m →
    (∀ c : Dev Cert.DWgIdeal.nD,
      m' ((c.tc : Thread Cert.DWgRefIdeal.nD Cert.DWgRefIdeal.τ).loc Cert.DWgRefIdeal.main_arg0) = m ((c.tc : Thread Cert.DWgIdeal.nD Cert.DWgIdeal.τ).loc Cert.DWgIdeal.main_arg0)
      ∧ m' ((c.tc : Thread Cert.DWgRefIdeal.nD Cert.DWgRefIdeal.τ).loc Cert.DWgRefIdeal.main_arg1) = m ((c.tc : Thread Cert.DWgIdeal.nD Cert.DWgIdeal.τ).loc Cert.DWgIdeal.main_arg1)) →
    ∃ (v0 : (c : Dev Cert.DWgIdeal.nD) → Buf (Elt Ideal) ((c.tc : Thread Cert.DWgIdeal.nD Cert.DWgIdeal.τ).loc Cert.DWgIdeal.main_v0)),
      θ_run (Cert.DWgIdeal.defs (F := Ideal)) (onTc (τ := Cert.DWgIdeal.τ) (Cert.DWgIdeal.main (F := Ideal))) ⟨m, fun _ => 0, g⟩ (fun r => ∀ c : Dev Cert.DWgIdeal.nD,
          r.2.mem ((c.tc : Thread Cert.DWgIdeal.nD Cert.DWgIdeal.τ).loc Cert.DWgIdeal.main_v0) = v0 c
          ∧ r.2.mem ((c.tc : Thread Cert.DWgIdeal.nD Cert.DWgIdeal.τ).loc Cert.DWgIdeal.main_arg0) = m ((c.tc : Thread Cert.DWgIdeal.nD Cert.DWgIdeal.τ).loc Cert.DWgIdeal.main_arg0)
          ∧ r.2.mem ((c.tc : Thread Cert.DWgIdeal.nD Cert.DWgIdeal.τ).loc Cert.DWgIdeal.main_arg1) = m ((c.tc : Thread Cert.DWgIdeal.nD Cert.DWgIdeal.τ).loc Cert.DWgIdeal.main_arg1))
      ∧ θ_run (Cert.DWgRefIdeal.defs (F := Ideal)) (onTc (τ := Cert.DWgRefIdeal.τ) (Cert.DWgRefIdeal.main (F := Ideal))) ⟨m', fun _ => 0, g'⟩ (fun r => ∀ c : Dev Cert.DWgRefIdeal.nD,
          r.2.mem ((c.tc : Thread Cert.DWgRefIdeal.nD Cert.DWgRefIdeal.τ).loc Cert.DWgRefIdeal.main_v8) = v0 c
          ∧ r.2.mem ((c.tc : Thread Cert.DWgRefIdeal.nD Cert.DWgRefIdeal.τ).loc Cert.DWgRefIdeal.main_arg0) = m' ((c.tc : Thread Cert.DWgRefIdeal.nD Cert.DWgRefIdeal.τ).loc Cert.DWgRefIdeal.main_arg0)
          ∧ r.2.mem ((c.tc : Thread Cert.DWgRefIdeal.nD Cert.DWgRefIdeal.τ).loc Cert.DWgRefIdeal.main_arg1) = m' ((c.tc : Thread Cert.DWgRefIdeal.nD Cert.DWgRefIdeal.τ).loc Cert.DWgRefIdeal.main_arg1))

def preserves_DXn_DXnIdeal : Prop :=
  True

def algebraic_DXnIdeal_DXnRefIdeal [hDXnIdeal : Cert.DXnIdeal.Facts] [hDXnRefIdeal : Cert.DXnRefIdeal.Facts] : Prop :=
  ∀ (m : (ℓ : Loc Cert.DXnIdeal.nD Cert.DXnIdeal.τ Cert.DXnIdeal.sig) → Buf (Elt Ideal) ℓ) (g : Dev Cert.DXnIdeal.nD → PrngReg)
    (m' : (ℓ : Loc Cert.DXnRefIdeal.nD Cert.DXnRefIdeal.τ Cert.DXnRefIdeal.sig) → Buf (Elt Ideal) ℓ) (g' : Dev Cert.DXnRefIdeal.nD → PrngReg), Pre_DXnIdeal m →
    (∀ c : Dev Cert.DXnIdeal.nD,
      m' ((c.tc : Thread Cert.DXnRefIdeal.nD Cert.DXnRefIdeal.τ).loc Cert.DXnRefIdeal.main_arg0) = m ((c.tc : Thread Cert.DXnIdeal.nD Cert.DXnIdeal.τ).loc Cert.DXnIdeal.main_arg0)
      ∧ m' ((c.tc : Thread Cert.DXnRefIdeal.nD Cert.DXnRefIdeal.τ).loc Cert.DXnRefIdeal.main_arg1) = m ((c.tc : Thread Cert.DXnIdeal.nD Cert.DXnIdeal.τ).loc Cert.DXnIdeal.main_arg1)) →
    ∃ (v0 : (c : Dev Cert.DXnIdeal.nD) → Buf (Elt Ideal) ((c.tc : Thread Cert.DXnIdeal.nD Cert.DXnIdeal.τ).loc Cert.DXnIdeal.main_v0)),
      θ_run (Cert.DXnIdeal.defs (F := Ideal)) (onTc (τ := Cert.DXnIdeal.τ) (Cert.DXnIdeal.main (F := Ideal))) ⟨m, fun _ => 0, g⟩ (fun r => ∀ c : Dev Cert.DXnIdeal.nD,
          r.2.mem ((c.tc : Thread Cert.DXnIdeal.nD Cert.DXnIdeal.τ).loc Cert.DXnIdeal.main_v0) = v0 c
          ∧ r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
          ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ θ_run (Cert.DXnRefIdeal.defs (F := Ideal)) (onTc (τ := Cert.DXnRefIdeal.τ) (Cert.DXnRefIdeal.main (F := Ideal))) ⟨m', fun _ => 0, g'⟩ (fun r => ∀ c : Dev Cert.DXnRefIdeal.nD,
          r.2.mem ((c.tc : Thread Cert.DXnRefIdeal.nD Cert.DXnRefIdeal.τ).loc Cert.DXnRefIdeal.main_v5) = v0 c
          ∧ r.2.mem ((c.tc : Thread Cert.DXnRefIdeal.nD Cert.DXnRefIdeal.τ).loc Cert.DXnRefIdeal.main_arg0) = m' ((c.tc : Thread Cert.DXnRefIdeal.nD Cert.DXnRefIdeal.τ).loc Cert.DXnRefIdeal.main_arg0)
          ∧ r.2.mem ((c.tc : Thread Cert.DXnRefIdeal.nD Cert.DXnRefIdeal.τ).loc Cert.DXnRefIdeal.main_arg1) = m' ((c.tc : Thread Cert.DXnRefIdeal.nD Cert.DXnRefIdeal.τ).loc Cert.DXnRefIdeal.main_arg1))

def preserves_DXnU_DXnUIdeal : Prop :=
  True

def algebraic_DXnUIdeal_DXnURefIdeal [hDXnUIdeal : Cert.DXnUIdeal.Facts] [hDXnURefIdeal : Cert.DXnURefIdeal.Facts] : Prop :=
  ∀ (m : (ℓ : Loc Cert.DXnUIdeal.nD Cert.DXnUIdeal.τ Cert.DXnUIdeal.sig) → Buf (Elt Ideal) ℓ) (g : Dev Cert.DXnUIdeal.nD → PrngReg)
    (m' : (ℓ : Loc Cert.DXnURefIdeal.nD Cert.DXnURefIdeal.τ Cert.DXnURefIdeal.sig) → Buf (Elt Ideal) ℓ) (g' : Dev Cert.DXnURefIdeal.nD → PrngReg), Pre_DXnUIdeal m →
    (∀ c : Dev Cert.DXnUIdeal.nD,
      m' ((c.tc : Thread Cert.DXnURefIdeal.nD Cert.DXnURefIdeal.τ).loc Cert.DXnURefIdeal.main_arg0) = m ((c.tc : Thread Cert.DXnUIdeal.nD Cert.DXnUIdeal.τ).loc Cert.DXnUIdeal.main_arg0)
      ∧ m' ((c.tc : Thread Cert.DXnURefIdeal.nD Cert.DXnURefIdeal.τ).loc Cert.DXnURefIdeal.main_arg1) = m ((c.tc : Thread Cert.DXnUIdeal.nD Cert.DXnUIdeal.τ).loc Cert.DXnUIdeal.main_arg1)
      ∧ m' ((c.tc : Thread Cert.DXnURefIdeal.nD Cert.DXnURefIdeal.τ).loc Cert.DXnURefIdeal.main_arg2) = m ((c.tc : Thread Cert.DXnUIdeal.nD Cert.DXnUIdeal.τ).loc Cert.DXnUIdeal.main_arg2)
      ∧ m' ((c.tc : Thread Cert.DXnURefIdeal.nD Cert.DXnURefIdeal.τ).loc Cert.DXnURefIdeal.main_arg3) = m ((c.tc : Thread Cert.DXnUIdeal.nD Cert.DXnUIdeal.τ).loc Cert.DXnUIdeal.main_arg3)
      ∧ m' ((c.tc : Thread Cert.DXnURefIdeal.nD Cert.DXnURefIdeal.τ).loc Cert.DXnURefIdeal.main_arg4) = m ((c.tc : Thread Cert.DXnUIdeal.nD Cert.DXnUIdeal.τ).loc Cert.DXnUIdeal.main_arg4)
      ∧ m' ((c.tc : Thread Cert.DXnURefIdeal.nD Cert.DXnURefIdeal.τ).loc Cert.DXnURefIdeal.main_arg5) = m ((c.tc : Thread Cert.DXnUIdeal.nD Cert.DXnUIdeal.τ).loc Cert.DXnUIdeal.main_arg5)) →
    ∃ (v0 : (c : Dev Cert.DXnUIdeal.nD) → Buf (Elt Ideal) ((c.tc : Thread Cert.DXnUIdeal.nD Cert.DXnUIdeal.τ).loc Cert.DXnUIdeal.main_v1_0)) (v1 : (c : Dev Cert.DXnUIdeal.nD) → Buf (Elt Ideal) ((c.tc : Thread Cert.DXnUIdeal.nD Cert.DXnUIdeal.τ).loc Cert.DXnUIdeal.main_v1_1)),
      θ_run (Cert.DXnUIdeal.defs (F := Ideal)) (onTc (τ := Cert.DXnUIdeal.τ) (Cert.DXnUIdeal.main (F := Ideal))) ⟨m, fun _ => 0, g⟩ (fun r => ∀ c : Dev Cert.DXnUIdeal.nD,
          r.2.mem ((c.tc : Thread Cert.DXnUIdeal.nD Cert.DXnUIdeal.τ).loc Cert.DXnUIdeal.main_v1_0) = v0 c
          ∧ r.2.mem ((c.tc : Thread Cert.DXnUIdeal.nD Cert.DXnUIdeal.τ).loc Cert.DXnUIdeal.main_v1_1) = v1 c
          ∧ r.2.mem ((c.tc : Thread Cert.DXnUIdeal.nD Cert.DXnUIdeal.τ).loc Cert.DXnUIdeal.main_arg0) = m ((c.tc : Thread Cert.DXnUIdeal.nD Cert.DXnUIdeal.τ).loc Cert.DXnUIdeal.main_arg0)
          ∧ r.2.mem ((c.tc : Thread Cert.DXnUIdeal.nD Cert.DXnUIdeal.τ).loc Cert.DXnUIdeal.main_arg1) = m ((c.tc : Thread Cert.DXnUIdeal.nD Cert.DXnUIdeal.τ).loc Cert.DXnUIdeal.main_arg1)
          ∧ r.2.mem ((c.tc : Thread Cert.DXnUIdeal.nD Cert.DXnUIdeal.τ).loc Cert.DXnUIdeal.main_arg2) = m ((c.tc : Thread Cert.DXnUIdeal.nD Cert.DXnUIdeal.τ).loc Cert.DXnUIdeal.main_arg2)
          ∧ r.2.mem ((c.tc : Thread Cert.DXnUIdeal.nD Cert.DXnUIdeal.τ).loc Cert.DXnUIdeal.main_arg3) = m ((c.tc : Thread Cert.DXnUIdeal.nD Cert.DXnUIdeal.τ).loc Cert.DXnUIdeal.main_arg3)
          ∧ r.2.mem ((c.tc : Thread Cert.DXnUIdeal.nD Cert.DXnUIdeal.τ).loc Cert.DXnUIdeal.main_arg4) = m ((c.tc : Thread Cert.DXnUIdeal.nD Cert.DXnUIdeal.τ).loc Cert.DXnUIdeal.main_arg4)
          ∧ r.2.mem ((c.tc : Thread Cert.DXnUIdeal.nD Cert.DXnUIdeal.τ).loc Cert.DXnUIdeal.main_arg5) = m ((c.tc : Thread Cert.DXnUIdeal.nD Cert.DXnUIdeal.τ).loc Cert.DXnUIdeal.main_arg5))
      ∧ θ_run (Cert.DXnURefIdeal.defs (F := Ideal)) (onTc (τ := Cert.DXnURefIdeal.τ) (Cert.DXnURefIdeal.main (F := Ideal))) ⟨m', fun _ => 0, g'⟩ (fun r => ∀ c : Dev Cert.DXnURefIdeal.nD,
          r.2.mem ((c.tc : Thread Cert.DXnURefIdeal.nD Cert.DXnURefIdeal.τ).loc Cert.DXnURefIdeal.main_v44) = v0 c
          ∧ r.2.mem ((c.tc : Thread Cert.DXnURefIdeal.nD Cert.DXnURefIdeal.τ).loc Cert.DXnURefIdeal.main_v45) = v1 c
          ∧ r.2.mem ((c.tc : Thread Cert.DXnURefIdeal.nD Cert.DXnURefIdeal.τ).loc Cert.DXnURefIdeal.main_arg0) = m' ((c.tc : Thread Cert.DXnURefIdeal.nD Cert.DXnURefIdeal.τ).loc Cert.DXnURefIdeal.main_arg0)
          ∧ r.2.mem ((c.tc : Thread Cert.DXnURefIdeal.nD Cert.DXnURefIdeal.τ).loc Cert.DXnURefIdeal.main_arg1) = m' ((c.tc : Thread Cert.DXnURefIdeal.nD Cert.DXnURefIdeal.τ).loc Cert.DXnURefIdeal.main_arg1)
          ∧ r.2.mem ((c.tc : Thread Cert.DXnURefIdeal.nD Cert.DXnURefIdeal.τ).loc Cert.DXnURefIdeal.main_arg2) = m' ((c.tc : Thread Cert.DXnURefIdeal.nD Cert.DXnURefIdeal.τ).loc Cert.DXnURefIdeal.main_arg2)
          ∧ r.2.mem ((c.tc : Thread Cert.DXnURefIdeal.nD Cert.DXnURefIdeal.τ).loc Cert.DXnURefIdeal.main_arg3) = m' ((c.tc : Thread Cert.DXnURefIdeal.nD Cert.DXnURefIdeal.τ).loc Cert.DXnURefIdeal.main_arg3)
          ∧ r.2.mem ((c.tc : Thread Cert.DXnURefIdeal.nD Cert.DXnURefIdeal.τ).loc Cert.DXnURefIdeal.main_arg4) = m' ((c.tc : Thread Cert.DXnURefIdeal.nD Cert.DXnURefIdeal.τ).loc Cert.DXnURefIdeal.main_arg4)
          ∧ r.2.mem ((c.tc : Thread Cert.DXnURefIdeal.nD Cert.DXnURefIdeal.τ).loc Cert.DXnURefIdeal.main_arg5) = m' ((c.tc : Thread Cert.DXnURefIdeal.nD Cert.DXnURefIdeal.τ).loc Cert.DXnURefIdeal.main_arg5))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DWo_DWoIdeal : Prop :=
  True

def algebraic_DWoIdeal_DWoRefIdeal [hDWoIdeal : Cert.DWoIdeal.Facts] [hDWoRefIdeal : Cert.DWoRefIdeal.Facts] : Prop :=
  ∀ (m : (ℓ : Loc Cert.DWoIdeal.nD Cert.DWoIdeal.τ Cert.DWoIdeal.sig) → Buf (Elt Ideal) ℓ) (g : Dev Cert.DWoIdeal.nD → PrngReg)
    (m' : (ℓ : Loc Cert.DWoRefIdeal.nD Cert.DWoRefIdeal.τ Cert.DWoRefIdeal.sig) → Buf (Elt Ideal) ℓ) (g' : Dev Cert.DWoRefIdeal.nD → PrngReg), Pre_DWoIdeal m →
    (∀ c : Dev Cert.DWoIdeal.nD,
      m' ((c.tc : Thread Cert.DWoRefIdeal.nD Cert.DWoRefIdeal.τ).loc Cert.DWoRefIdeal.main_arg0) = m ((c.tc : Thread Cert.DWoIdeal.nD Cert.DWoIdeal.τ).loc Cert.DWoIdeal.main_arg0)
      ∧ m' ((c.tc : Thread Cert.DWoRefIdeal.nD Cert.DWoRefIdeal.τ).loc Cert.DWoRefIdeal.main_arg1) = m ((c.tc : Thread Cert.DWoIdeal.nD Cert.DWoIdeal.τ).loc Cert.DWoIdeal.main_arg1)) →
    ∃ (v0 : (c : Dev Cert.DWoIdeal.nD) → Buf (Elt Ideal) ((c.tc : Thread Cert.DWoIdeal.nD Cert.DWoIdeal.τ).loc Cert.DWoIdeal.main_v0)),
      θ_run (Cert.DWoIdeal.defs (F := Ideal)) (onTc (τ := Cert.DWoIdeal.τ) (Cert.DWoIdeal.main (F := Ideal))) ⟨m, fun _ => 0, g⟩ (fun r => ∀ c : Dev Cert.DWoIdeal.nD,
          r.2.mem ((c.tc : Thread Cert.DWoIdeal.nD Cert.DWoIdeal.τ).loc Cert.DWoIdeal.main_v0) = v0 c
          ∧ r.2.mem ((c.tc : Thread Cert.DWoIdeal.nD Cert.DWoIdeal.τ).loc Cert.DWoIdeal.main_arg0) = m ((c.tc : Thread Cert.DWoIdeal.nD Cert.DWoIdeal.τ).loc Cert.DWoIdeal.main_arg0)
          ∧ r.2.mem ((c.tc : Thread Cert.DWoIdeal.nD Cert.DWoIdeal.τ).loc Cert.DWoIdeal.main_arg1) = m ((c.tc : Thread Cert.DWoIdeal.nD Cert.DWoIdeal.τ).loc Cert.DWoIdeal.main_arg1))
      ∧ θ_run (Cert.DWoRefIdeal.defs (F := Ideal)) (onTc (τ := Cert.DWoRefIdeal.τ) (Cert.DWoRefIdeal.main (F := Ideal))) ⟨m', fun _ => 0, g'⟩ (fun r => ∀ c : Dev Cert.DWoRefIdeal.nD,
          r.2.mem ((c.tc : Thread Cert.DWoRefIdeal.nD Cert.DWoRefIdeal.τ).loc Cert.DWoRefIdeal.main_v5) = v0 c
          ∧ r.2.mem ((c.tc : Thread Cert.DWoRefIdeal.nD Cert.DWoRefIdeal.τ).loc Cert.DWoRefIdeal.main_arg0) = m' ((c.tc : Thread Cert.DWoRefIdeal.nD Cert.DWoRefIdeal.τ).loc Cert.DWoRefIdeal.main_arg0)
          ∧ r.2.mem ((c.tc : Thread Cert.DWoRefIdeal.nD Cert.DWoRefIdeal.τ).loc Cert.DWoRefIdeal.main_arg1) = m' ((c.tc : Thread Cert.DWoRefIdeal.nD Cert.DWoRefIdeal.τ).loc Cert.DWoRefIdeal.main_arg1))

def preserves_DScW_DScWIdeal : Prop :=
  True

def algebraic_DScWIdeal_DScWRefIdeal [hDScWIdeal : Cert.DScWIdeal.Facts] [hDScWRefIdeal : Cert.DScWRefIdeal.Facts] : Prop :=
  ∀ (m : (ℓ : Loc Cert.DScWIdeal.nD Cert.DScWIdeal.τ Cert.DScWIdeal.sig) → Buf (Elt Ideal) ℓ) (g : Dev Cert.DScWIdeal.nD → PrngReg)
    (m' : (ℓ : Loc Cert.DScWRefIdeal.nD Cert.DScWRefIdeal.τ Cert.DScWRefIdeal.sig) → Buf (Elt Ideal) ℓ) (g' : Dev Cert.DScWRefIdeal.nD → PrngReg), Pre_DScWIdeal m →
    (∀ c : Dev Cert.DScWIdeal.nD,
      m' ((c.tc : Thread Cert.DScWRefIdeal.nD Cert.DScWRefIdeal.τ).loc Cert.DScWRefIdeal.main_arg0) = m ((c.tc : Thread Cert.DScWIdeal.nD Cert.DScWIdeal.τ).loc Cert.DScWIdeal.main_arg0)
      ∧ m' ((c.tc : Thread Cert.DScWRefIdeal.nD Cert.DScWRefIdeal.τ).loc Cert.DScWRefIdeal.main_arg1) = m ((c.tc : Thread Cert.DScWIdeal.nD Cert.DScWIdeal.τ).loc Cert.DScWIdeal.main_arg1)) →
    ∃ (v0 : (c : Dev Cert.DScWIdeal.nD) → Buf (Elt Ideal) ((c.tc : Thread Cert.DScWIdeal.nD Cert.DScWIdeal.τ).loc Cert.DScWIdeal.main_v0)),
      θ_run (Cert.DScWIdeal.defs (F := Ideal)) (onTc (τ := Cert.DScWIdeal.τ) (Cert.DScWIdeal.main (F := Ideal))) ⟨m, fun _ => 0, g⟩ (fun r => ∀ c : Dev Cert.DScWIdeal.nD,
          r.2.mem ((c.tc : Thread Cert.DScWIdeal.nD Cert.DScWIdeal.τ).loc Cert.DScWIdeal.main_v0) = v0 c
          ∧ r.2.mem ((c.tc : Thread Cert.DScWIdeal.nD Cert.DScWIdeal.τ).loc Cert.DScWIdeal.main_arg0) = m ((c.tc : Thread Cert.DScWIdeal.nD Cert.DScWIdeal.τ).loc Cert.DScWIdeal.main_arg0)
          ∧ r.2.mem ((c.tc : Thread Cert.DScWIdeal.nD Cert.DScWIdeal.τ).loc Cert.DScWIdeal.main_arg1) = m ((c.tc : Thread Cert.DScWIdeal.nD Cert.DScWIdeal.τ).loc Cert.DScWIdeal.main_arg1))
      ∧ θ_run (Cert.DScWRefIdeal.defs (F := Ideal)) (onTc (τ := Cert.DScWRefIdeal.τ) (Cert.DScWRefIdeal.main (F := Ideal))) ⟨m', fun _ => 0, g'⟩ (fun r => ∀ c : Dev Cert.DScWRefIdeal.nD,
          r.2.mem ((c.tc : Thread Cert.DScWRefIdeal.nD Cert.DScWRefIdeal.τ).loc Cert.DScWRefIdeal.main_v6) = v0 c
          ∧ r.2.mem ((c.tc : Thread Cert.DScWRefIdeal.nD Cert.DScWRefIdeal.τ).loc Cert.DScWRefIdeal.main_arg0) = m' ((c.tc : Thread Cert.DScWRefIdeal.nD Cert.DScWRefIdeal.τ).loc Cert.DScWRefIdeal.main_arg0)
          ∧ r.2.mem ((c.tc : Thread Cert.DScWRefIdeal.nD Cert.DScWRefIdeal.τ).loc Cert.DScWRefIdeal.main_arg1) = m' ((c.tc : Thread Cert.DScWRefIdeal.nD Cert.DScWRefIdeal.τ).loc Cert.DScWRefIdeal.main_arg1))

def preserves_DV_DVIdeal : Prop :=
  True

def algebraic_DVIdeal_DVRefIdeal [hDVIdeal : Cert.DVIdeal.Facts] [hDVRefIdeal : Cert.DVRefIdeal.Facts] : Prop :=
  ∀ (m : (ℓ : Loc Cert.DVIdeal.nD Cert.DVIdeal.τ Cert.DVIdeal.sig) → Buf (Elt Ideal) ℓ) (g : Dev Cert.DVIdeal.nD → PrngReg)
    (m' : (ℓ : Loc Cert.DVRefIdeal.nD Cert.DVRefIdeal.τ Cert.DVRefIdeal.sig) → Buf (Elt Ideal) ℓ) (g' : Dev Cert.DVRefIdeal.nD → PrngReg), Pre_DVIdeal m →
    (∀ c : Dev Cert.DVIdeal.nD,
      m' ((c.tc : Thread Cert.DVRefIdeal.nD Cert.DVRefIdeal.τ).loc Cert.DVRefIdeal.main_arg0) = m ((c.tc : Thread Cert.DVIdeal.nD Cert.DVIdeal.τ).loc Cert.DVIdeal.main_arg0)
      ∧ m' ((c.tc : Thread Cert.DVRefIdeal.nD Cert.DVRefIdeal.τ).loc Cert.DVRefIdeal.main_arg1) = m ((c.tc : Thread Cert.DVIdeal.nD Cert.DVIdeal.τ).loc Cert.DVIdeal.main_arg1)) →
    ∃ (v0 : (c : Dev Cert.DVIdeal.nD) → Buf (Elt Ideal) ((c.tc : Thread Cert.DVIdeal.nD Cert.DVIdeal.τ).loc Cert.DVIdeal.main_v0)),
      θ_run (Cert.DVIdeal.defs (F := Ideal)) (onTc (τ := Cert.DVIdeal.τ) (Cert.DVIdeal.main (F := Ideal))) ⟨m, fun _ => 0, g⟩ (fun r => ∀ c : Dev Cert.DVIdeal.nD,
          r.2.mem ((c.tc : Thread Cert.DVIdeal.nD Cert.DVIdeal.τ).loc Cert.DVIdeal.main_v0) = v0 c
          ∧ r.2.mem ((c.tc : Thread Cert.DVIdeal.nD Cert.DVIdeal.τ).loc Cert.DVIdeal.main_arg0) = m ((c.tc : Thread Cert.DVIdeal.nD Cert.DVIdeal.τ).loc Cert.DVIdeal.main_arg0)
          ∧ r.2.mem ((c.tc : Thread Cert.DVIdeal.nD Cert.DVIdeal.τ).loc Cert.DVIdeal.main_arg1) = m ((c.tc : Thread Cert.DVIdeal.nD Cert.DVIdeal.τ).loc Cert.DVIdeal.main_arg1))
      ∧ θ_run (Cert.DVRefIdeal.defs (F := Ideal)) (onTc (τ := Cert.DVRefIdeal.τ) (Cert.DVRefIdeal.main (F := Ideal))) ⟨m', fun _ => 0, g'⟩ (fun r => ∀ c : Dev Cert.DVRefIdeal.nD,
          r.2.mem ((c.tc : Thread Cert.DVRefIdeal.nD Cert.DVRefIdeal.τ).loc Cert.DVRefIdeal.main_v5) = v0 c
          ∧ r.2.mem ((c.tc : Thread Cert.DVRefIdeal.nD Cert.DVRefIdeal.τ).loc Cert.DVRefIdeal.main_arg0) = m' ((c.tc : Thread Cert.DVRefIdeal.nD Cert.DVRefIdeal.τ).loc Cert.DVRefIdeal.main_arg0)
          ∧ r.2.mem ((c.tc : Thread Cert.DVRefIdeal.nD Cert.DVRefIdeal.τ).loc Cert.DVRefIdeal.main_arg1) = m' ((c.tc : Thread Cert.DVRefIdeal.nD Cert.DVRefIdeal.τ).loc Cert.DVRefIdeal.main_arg1))

def preserves_DMW_DMWIdeal : Prop :=
  True

def algebraic_DMWIdeal_DMWRefIdeal [hDMWIdeal : Cert.DMWIdeal.Facts] [hDMWRefIdeal : Cert.DMWRefIdeal.Facts] : Prop :=
  ∀ (m : (ℓ : Loc Cert.DMWIdeal.nD Cert.DMWIdeal.τ Cert.DMWIdeal.sig) → Buf (Elt Ideal) ℓ) (g : Dev Cert.DMWIdeal.nD → PrngReg)
    (m' : (ℓ : Loc Cert.DMWRefIdeal.nD Cert.DMWRefIdeal.τ Cert.DMWRefIdeal.sig) → Buf (Elt Ideal) ℓ) (g' : Dev Cert.DMWRefIdeal.nD → PrngReg), Pre_DMWIdeal m →
    (∀ c : Dev Cert.DMWIdeal.nD,
      m' ((c.tc : Thread Cert.DMWRefIdeal.nD Cert.DMWRefIdeal.τ).loc Cert.DMWRefIdeal.main_arg0) = m ((c.tc : Thread Cert.DMWIdeal.nD Cert.DMWIdeal.τ).loc Cert.DMWIdeal.main_arg0)
      ∧ m' ((c.tc : Thread Cert.DMWRefIdeal.nD Cert.DMWRefIdeal.τ).loc Cert.DMWRefIdeal.main_arg1) = m ((c.tc : Thread Cert.DMWIdeal.nD Cert.DMWIdeal.τ).loc Cert.DMWIdeal.main_arg1)) →
    ∃ (v0 : (c : Dev Cert.DMWIdeal.nD) → Buf (Elt Ideal) ((c.tc : Thread Cert.DMWIdeal.nD Cert.DMWIdeal.τ).loc Cert.DMWIdeal.main_v0)),
      θ_run (Cert.DMWIdeal.defs (F := Ideal)) (onTc (τ := Cert.DMWIdeal.τ) (Cert.DMWIdeal.main (F := Ideal))) ⟨m, fun _ => 0, g⟩ (fun r => ∀ c : Dev Cert.DMWIdeal.nD,
          r.2.mem ((c.tc : Thread Cert.DMWIdeal.nD Cert.DMWIdeal.τ).loc Cert.DMWIdeal.main_v0) = v0 c
          ∧ r.2.mem ((c.tc : Thread Cert.DMWIdeal.nD Cert.DMWIdeal.τ).loc Cert.DMWIdeal.main_arg0) = m ((c.tc : Thread Cert.DMWIdeal.nD Cert.DMWIdeal.τ).loc Cert.DMWIdeal.main_arg0)
          ∧ r.2.mem ((c.tc : Thread Cert.DMWIdeal.nD Cert.DMWIdeal.τ).loc Cert.DMWIdeal.main_arg1) = m ((c.tc : Thread Cert.DMWIdeal.nD Cert.DMWIdeal.τ).loc Cert.DMWIdeal.main_arg1))
      ∧ θ_run (Cert.DMWRefIdeal.defs (F := Ideal)) (onTc (τ := Cert.DMWRefIdeal.τ) (Cert.DMWRefIdeal.main (F := Ideal))) ⟨m', fun _ => 0, g'⟩ (fun r => ∀ c : Dev Cert.DMWRefIdeal.nD,
          r.2.mem ((c.tc : Thread Cert.DMWRefIdeal.nD Cert.DMWRefIdeal.τ).loc Cert.DMWRefIdeal.main_v6) = v0 c
          ∧ r.2.mem ((c.tc : Thread Cert.DMWRefIdeal.nD Cert.DMWRefIdeal.τ).loc Cert.DMWRefIdeal.main_arg0) = m' ((c.tc : Thread Cert.DMWRefIdeal.nD Cert.DMWRefIdeal.τ).loc Cert.DMWRefIdeal.main_arg0)
          ∧ r.2.mem ((c.tc : Thread Cert.DMWRefIdeal.nD Cert.DMWRefIdeal.τ).loc Cert.DMWRefIdeal.main_arg1) = m' ((c.tc : Thread Cert.DMWRefIdeal.nD Cert.DMWRefIdeal.τ).loc Cert.DMWRefIdeal.main_arg1))

def preserves_DYn_DYnIdeal : Prop :=
  True

def algebraic_DYnIdeal_DYnRefIdeal [hDYnIdeal : Cert.DYnIdeal.Facts] [hDYnRefIdeal : Cert.DYnRefIdeal.Facts] : Prop :=
  ∀ (m : (ℓ : Loc Cert.DYnIdeal.nD Cert.DYnIdeal.τ Cert.DYnIdeal.sig) → Buf (Elt Ideal) ℓ) (g : Dev Cert.DYnIdeal.nD → PrngReg)
    (m' : (ℓ : Loc Cert.DYnRefIdeal.nD Cert.DYnRefIdeal.τ Cert.DYnRefIdeal.sig) → Buf (Elt Ideal) ℓ) (g' : Dev Cert.DYnRefIdeal.nD → PrngReg), Pre_DYnIdeal m →
    (∀ c : Dev Cert.DYnIdeal.nD,
      m' ((c.tc : Thread Cert.DYnRefIdeal.nD Cert.DYnRefIdeal.τ).loc Cert.DYnRefIdeal.main_arg0) = m ((c.tc : Thread Cert.DYnIdeal.nD Cert.DYnIdeal.τ).loc Cert.DYnIdeal.main_arg0)
      ∧ m' ((c.tc : Thread Cert.DYnRefIdeal.nD Cert.DYnRefIdeal.τ).loc Cert.DYnRefIdeal.main_arg1) = m ((c.tc : Thread Cert.DYnIdeal.nD Cert.DYnIdeal.τ).loc Cert.DYnIdeal.main_arg1)) →
    ∃ (v0 : (c : Dev Cert.DYnIdeal.nD) → Buf (Elt Ideal) ((c.tc : Thread Cert.DYnIdeal.nD Cert.DYnIdeal.τ).loc Cert.DYnIdeal.main_v0)),
      θ_run (Cert.DYnIdeal.defs (F := Ideal)) (onTc (τ := Cert.DYnIdeal.τ) (Cert.DYnIdeal.main (F := Ideal))) ⟨m, fun _ => 0, g⟩ (fun r => ∀ c : Dev Cert.DYnIdeal.nD,
          r.2.mem ((c.tc : Thread Cert.DYnIdeal.nD Cert.DYnIdeal.τ).loc Cert.DYnIdeal.main_v0) = v0 c
          ∧ r.2.mem ((c.tc : Thread Cert.DYnIdeal.nD Cert.DYnIdeal.τ).loc Cert.DYnIdeal.main_arg0) = m ((c.tc : Thread Cert.DYnIdeal.nD Cert.DYnIdeal.τ).loc Cert.DYnIdeal.main_arg0)
          ∧ r.2.mem ((c.tc : Thread Cert.DYnIdeal.nD Cert.DYnIdeal.τ).loc Cert.DYnIdeal.main_arg1) = m ((c.tc : Thread Cert.DYnIdeal.nD Cert.DYnIdeal.τ).loc Cert.DYnIdeal.main_arg1))
      ∧ θ_run (Cert.DYnRefIdeal.defs (F := Ideal)) (onTc (τ := Cert.DYnRefIdeal.τ) (Cert.DYnRefIdeal.main (F := Ideal))) ⟨m', fun _ => 0, g'⟩ (fun r => ∀ c : Dev Cert.DYnRefIdeal.nD,
          r.2.mem ((c.tc : Thread Cert.DYnRefIdeal.nD Cert.DYnRefIdeal.τ).loc Cert.DYnRefIdeal.main_v5) = v0 c
          ∧ r.2.mem ((c.tc : Thread Cert.DYnRefIdeal.nD Cert.DYnRefIdeal.τ).loc Cert.DYnRefIdeal.main_arg0) = m' ((c.tc : Thread Cert.DYnRefIdeal.nD Cert.DYnRefIdeal.τ).loc Cert.DYnRefIdeal.main_arg0)
          ∧ r.2.mem ((c.tc : Thread Cert.DYnRefIdeal.nD Cert.DYnRefIdeal.τ).loc Cert.DYnRefIdeal.main_arg1) = m' ((c.tc : Thread Cert.DYnRefIdeal.nD Cert.DYnRefIdeal.τ).loc Cert.DYnRefIdeal.main_arg1))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)) →
    ∃ (v0 : (c : Dev Cert.DUIdeal.nD) → Buf (Elt Ideal) ((c.tc : Thread Cert.DUIdeal.nD Cert.DUIdeal.τ).loc Cert.DUIdeal.main_v0)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v0) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v5) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)) →
    ∃ (v0 : (c : Dev Cert.DWinIdeal.nD) → Buf (Elt Ideal) ((c.tc : Thread Cert.DWinIdeal.nD Cert.DWinIdeal.τ).loc Cert.DWinIdeal.main_v0)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v0) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v8) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1))

def preserves_DUDt_DUDtIdeal : Prop :=
  True

def algebraic_DUDtIdeal_DUDtRefIdeal [hDUDtIdeal : Cert.DUDtIdeal.Facts] [hDUDtRefIdeal : Cert.DUDtRefIdeal.Facts] : Prop :=
  ∀ (m : (ℓ : Loc Cert.DUDtIdeal.nD Cert.DUDtIdeal.τ Cert.DUDtIdeal.sig) → Buf (Elt Ideal) ℓ) (g : Dev Cert.DUDtIdeal.nD → PrngReg)
    (m' : (ℓ : Loc Cert.DUDtRefIdeal.nD Cert.DUDtRefIdeal.τ Cert.DUDtRefIdeal.sig) → Buf (Elt Ideal) ℓ) (g' : Dev Cert.DUDtRefIdeal.nD → PrngReg), Pre_DUDtIdeal m →
    (∀ c : Dev Cert.DUDtIdeal.nD,
      m' ((c.tc : Thread Cert.DUDtRefIdeal.nD Cert.DUDtRefIdeal.τ).loc Cert.DUDtRefIdeal.main_arg0) = m ((c.tc : Thread Cert.DUDtIdeal.nD Cert.DUDtIdeal.τ).loc Cert.DUDtIdeal.main_arg0)
      ∧ m' ((c.tc : Thread Cert.DUDtRefIdeal.nD Cert.DUDtRefIdeal.τ).loc Cert.DUDtRefIdeal.main_arg1) = m ((c.tc : Thread Cert.DUDtIdeal.nD Cert.DUDtIdeal.τ).loc Cert.DUDtIdeal.main_arg1)
      ∧ m' ((c.tc : Thread Cert.DUDtRefIdeal.nD Cert.DUDtRefIdeal.τ).loc Cert.DUDtRefIdeal.main_arg2) = m ((c.tc : Thread Cert.DUDtIdeal.nD Cert.DUDtIdeal.τ).loc Cert.DUDtIdeal.main_arg2)
      ∧ m' ((c.tc : Thread Cert.DUDtRefIdeal.nD Cert.DUDtRefIdeal.τ).loc Cert.DUDtRefIdeal.main_arg3) = m ((c.tc : Thread Cert.DUDtIdeal.nD Cert.DUDtIdeal.τ).loc Cert.DUDtIdeal.main_arg3)
      ∧ m' ((c.tc : Thread Cert.DUDtRefIdeal.nD Cert.DUDtRefIdeal.τ).loc Cert.DUDtRefIdeal.main_arg4) = m ((c.tc : Thread Cert.DUDtIdeal.nD Cert.DUDtIdeal.τ).loc Cert.DUDtIdeal.main_arg4)
      ∧ m' ((c.tc : Thread Cert.DUDtRefIdeal.nD Cert.DUDtRefIdeal.τ).loc Cert.DUDtRefIdeal.main_arg5) = m ((c.tc : Thread Cert.DUDtIdeal.nD Cert.DUDtIdeal.τ).loc Cert.DUDtIdeal.main_arg5)) →
    ∃ (v0 : (c : Dev Cert.DUDtIdeal.nD) → Buf (Elt Ideal) ((c.tc : Thread Cert.DUDtIdeal.nD Cert.DUDtIdeal.τ).loc Cert.DUDtIdeal.main_v1_0)) (v1 : (c : Dev Cert.DUDtIdeal.nD) → Buf (Elt Ideal) ((c.tc : Thread Cert.DUDtIdeal.nD Cert.DUDtIdeal.τ).loc Cert.DUDtIdeal.main_v1_1)),
      θ_run (Cert.DUDtIdeal.defs (F := Ideal)) (onTc (τ := Cert.DUDtIdeal.τ) (Cert.DUDtIdeal.main (F := Ideal))) ⟨m, fun _ => 0, g⟩ (fun r => ∀ c : Dev Cert.DUDtIdeal.nD,
          r.2.mem ((c.tc : Thread Cert.DUDtIdeal.nD Cert.DUDtIdeal.τ).loc Cert.DUDtIdeal.main_v1_0) = v0 c
          ∧ r.2.mem ((c.tc : Thread Cert.DUDtIdeal.nD Cert.DUDtIdeal.τ).loc Cert.DUDtIdeal.main_v1_1) = v1 c
          ∧ r.2.mem ((c.tc : Thread Cert.DUDtIdeal.nD Cert.DUDtIdeal.τ).loc Cert.DUDtIdeal.main_arg0) = m ((c.tc : Thread Cert.DUDtIdeal.nD Cert.DUDtIdeal.τ).loc Cert.DUDtIdeal.main_arg0)
          ∧ r.2.mem ((c.tc : Thread Cert.DUDtIdeal.nD Cert.DUDtIdeal.τ).loc Cert.DUDtIdeal.main_arg1) = m ((c.tc : Thread Cert.DUDtIdeal.nD Cert.DUDtIdeal.τ).loc Cert.DUDtIdeal.main_arg1)
          ∧ r.2.mem ((c.tc : Thread Cert.DUDtIdeal.nD Cert.DUDtIdeal.τ).loc Cert.DUDtIdeal.main_arg2) = m ((c.tc : Thread Cert.DUDtIdeal.nD Cert.DUDtIdeal.τ).loc Cert.DUDtIdeal.main_arg2)
          ∧ r.2.mem ((c.tc : Thread Cert.DUDtIdeal.nD Cert.DUDtIdeal.τ).loc Cert.DUDtIdeal.main_arg3) = m ((c.tc : Thread Cert.DUDtIdeal.nD Cert.DUDtIdeal.τ).loc Cert.DUDtIdeal.main_arg3)
          ∧ r.2.mem ((c.tc : Thread Cert.DUDtIdeal.nD Cert.DUDtIdeal.τ).loc Cert.DUDtIdeal.main_arg4) = m ((c.tc : Thread Cert.DUDtIdeal.nD Cert.DUDtIdeal.τ).loc Cert.DUDtIdeal.main_arg4)
          ∧ r.2.mem ((c.tc : Thread Cert.DUDtIdeal.nD Cert.DUDtIdeal.τ).loc Cert.DUDtIdeal.main_arg5) = m ((c.tc : Thread Cert.DUDtIdeal.nD Cert.DUDtIdeal.τ).loc Cert.DUDtIdeal.main_arg5))
      ∧ θ_run (Cert.DUDtRefIdeal.defs (F := Ideal)) (onTc (τ := Cert.DUDtRefIdeal.τ) (Cert.DUDtRefIdeal.main (F := Ideal))) ⟨m', fun _ => 0, g'⟩ (fun r => ∀ c : Dev Cert.DUDtRefIdeal.nD,
          r.2.mem ((c.tc : Thread Cert.DUDtRefIdeal.nD Cert.DUDtRefIdeal.τ).loc Cert.DUDtRefIdeal.main_v43) = v0 c
          ∧ r.2.mem ((c.tc : Thread Cert.DUDtRefIdeal.nD Cert.DUDtRefIdeal.τ).loc Cert.DUDtRefIdeal.main_v44) = v1 c
          ∧ r.2.mem ((c.tc : Thread Cert.DUDtRefIdeal.nD Cert.DUDtRefIdeal.τ).loc Cert.DUDtRefIdeal.main_arg0) = m' ((c.tc : Thread Cert.DUDtRefIdeal.nD Cert.DUDtRefIdeal.τ).loc Cert.DUDtRefIdeal.main_arg0)
          ∧ r.2.mem ((c.tc : Thread Cert.DUDtRefIdeal.nD Cert.DUDtRefIdeal.τ).loc Cert.DUDtRefIdeal.main_arg1) = m' ((c.tc : Thread Cert.DUDtRefIdeal.nD Cert.DUDtRefIdeal.τ).loc Cert.DUDtRefIdeal.main_arg1)
          ∧ r.2.mem ((c.tc : Thread Cert.DUDtRefIdeal.nD Cert.DUDtRefIdeal.τ).loc Cert.DUDtRefIdeal.main_arg2) = m' ((c.tc : Thread Cert.DUDtRefIdeal.nD Cert.DUDtRefIdeal.τ).loc Cert.DUDtRefIdeal.main_arg2)
          ∧ r.2.mem ((c.tc : Thread Cert.DUDtRefIdeal.nD Cert.DUDtRefIdeal.τ).loc Cert.DUDtRefIdeal.main_arg3) = m' ((c.tc : Thread Cert.DUDtRefIdeal.nD Cert.DUDtRefIdeal.τ).loc Cert.DUDtRefIdeal.main_arg3)
          ∧ r.2.mem ((c.tc : Thread Cert.DUDtRefIdeal.nD Cert.DUDtRefIdeal.τ).loc Cert.DUDtRefIdeal.main_arg4) = m' ((c.tc : Thread Cert.DUDtRefIdeal.nD Cert.DUDtRefIdeal.τ).loc Cert.DUDtRefIdeal.main_arg4)
          ∧ r.2.mem ((c.tc : Thread Cert.DUDtRefIdeal.nD Cert.DUDtRefIdeal.τ).loc Cert.DUDtRefIdeal.main_arg5) = m' ((c.tc : Thread Cert.DUDtRefIdeal.nD Cert.DUDtRefIdeal.τ).loc Cert.DUDtRefIdeal.main_arg5))

def preserves_DWinDt_DWinDtIdeal : Prop :=
  True

def algebraic_DWinDtIdeal_DWinDtRefIdeal [hDWinDtIdeal : Cert.DWinDtIdeal.Facts] [hDWinDtRefIdeal : Cert.DWinDtRefIdeal.Facts] : Prop :=
  ∀ (m : (ℓ : Loc Cert.DWinDtIdeal.nD Cert.DWinDtIdeal.τ Cert.DWinDtIdeal.sig) → Buf (Elt Ideal) ℓ) (g : Dev Cert.DWinDtIdeal.nD → PrngReg)
    (m' : (ℓ : Loc Cert.DWinDtRefIdeal.nD Cert.DWinDtRefIdeal.τ Cert.DWinDtRefIdeal.sig) → Buf (Elt Ideal) ℓ) (g' : Dev Cert.DWinDtRefIdeal.nD → PrngReg), Pre_DWinDtIdeal m →
    (∀ c : Dev Cert.DWinDtIdeal.nD,
      m' ((c.tc : Thread Cert.DWinDtRefIdeal.nD Cert.DWinDtRefIdeal.τ).loc Cert.DWinDtRefIdeal.main_arg0) = m ((c.tc : Thread Cert.DWinDtIdeal.nD Cert.DWinDtIdeal.τ).loc Cert.DWinDtIdeal.main_arg0)
      ∧ m' ((c.tc : Thread Cert.DWinDtRefIdeal.nD Cert.DWinDtRefIdeal.τ).loc Cert.DWinDtRefIdeal.main_arg1) = m ((c.tc : Thread Cert.DWinDtIdeal.nD Cert.DWinDtIdeal.τ).loc Cert.DWinDtIdeal.main_arg1)) →
    ∃ (v0 : (c : Dev Cert.DWinDtIdeal.nD) → Buf (Elt Ideal) ((c.tc : Thread Cert.DWinDtIdeal.nD Cert.DWinDtIdeal.τ).loc Cert.DWinDtIdeal.main_v0)),
      θ_run (Cert.DWinDtIdeal.defs (F := Ideal)) (onTc (τ := Cert.DWinDtIdeal.τ) (Cert.DWinDtIdeal.main (F := Ideal))) ⟨m, fun _ => 0, g⟩ (fun r => ∀ c : Dev Cert.DWinDtIdeal.nD,
          r.2.mem ((c.tc : Thread Cert.DWinDtIdeal.nD Cert.DWinDtIdeal.τ).loc Cert.DWinDtIdeal.main_v0) = v0 c
          ∧ r.2.mem ((c.tc : Thread Cert.DWinDtIdeal.nD Cert.DWinDtIdeal.τ).loc Cert.DWinDtIdeal.main_arg0) = m ((c.tc : Thread Cert.DWinDtIdeal.nD Cert.DWinDtIdeal.τ).loc Cert.DWinDtIdeal.main_arg0)
          ∧ r.2.mem ((c.tc : Thread Cert.DWinDtIdeal.nD Cert.DWinDtIdeal.τ).loc Cert.DWinDtIdeal.main_arg1) = m ((c.tc : Thread Cert.DWinDtIdeal.nD Cert.DWinDtIdeal.τ).loc Cert.DWinDtIdeal.main_arg1))
      ∧ θ_run (Cert.DWinDtRefIdeal.defs (F := Ideal)) (onTc (τ := Cert.DWinDtRefIdeal.τ) (Cert.DWinDtRefIdeal.main (F := Ideal))) ⟨m', fun _ => 0, g'⟩ (fun r => ∀ c : Dev Cert.DWinDtRefIdeal.nD,
          r.2.mem ((c.tc : Thread Cert.DWinDtRefIdeal.nD Cert.DWinDtRefIdeal.τ).loc Cert.DWinDtRefIdeal.main_v7) = v0 c
          ∧ r.2.mem ((c.tc : Thread Cert.DWinDtRefIdeal.nD Cert.DWinDtRefIdeal.τ).loc Cert.DWinDtRefIdeal.main_arg0) = m' ((c.tc : Thread Cert.DWinDtRefIdeal.nD Cert.DWinDtRefIdeal.τ).loc Cert.DWinDtRefIdeal.main_arg0)
          ∧ r.2.mem ((c.tc : Thread Cert.DWinDtRefIdeal.nD Cert.DWinDtRefIdeal.τ).loc Cert.DWinDtRefIdeal.main_arg1) = m' ((c.tc : Thread Cert.DWinDtRefIdeal.nD Cert.DWinDtRefIdeal.τ).loc Cert.DWinDtRefIdeal.main_arg1))

def preserves_DPle_DPleIdeal : Prop :=
  True

def algebraic_DPleIdeal_DPleRefIdeal [hDPleIdeal : Cert.DPleIdeal.Facts] [hDPleRefIdeal : Cert.DPleRefIdeal.Facts] : Prop :=
  ∀ (m : (ℓ : Loc Cert.DPleIdeal.nD Cert.DPleIdeal.τ Cert.DPleIdeal.sig) → Buf (Elt Ideal) ℓ) (g : Dev Cert.DPleIdeal.nD → PrngReg)
    (m' : (ℓ : Loc Cert.DPleRefIdeal.nD Cert.DPleRefIdeal.τ Cert.DPleRefIdeal.sig) → Buf (Elt Ideal) ℓ) (g' : Dev Cert.DPleRefIdeal.nD → PrngReg), Pre_DPleIdeal m →
    (∀ c : Dev Cert.DPleIdeal.nD,
      m' ((c.tc : Thread Cert.DPleRefIdeal.nD Cert.DPleRefIdeal.τ).loc Cert.DPleRefIdeal.main_arg0) = m ((c.tc : Thread Cert.DPleIdeal.nD Cert.DPleIdeal.τ).loc Cert.DPleIdeal.main_arg0)
      ∧ m' ((c.tc : Thread Cert.DPleRefIdeal.nD Cert.DPleRefIdeal.τ).loc Cert.DPleRefIdeal.main_arg1) = m ((c.tc : Thread Cert.DPleIdeal.nD Cert.DPleIdeal.τ).loc Cert.DPleIdeal.main_arg1)
      ∧ m' ((c.tc : Thread Cert.DPleRefIdeal.nD Cert.DPleRefIdeal.τ).loc Cert.DPleRefIdeal.main_arg2) = m ((c.tc : Thread Cert.DPleIdeal.nD Cert.DPleIdeal.τ).loc Cert.DPleIdeal.main_arg2)
      ∧ m' ((c.tc : Thread Cert.DPleRefIdeal.nD Cert.DPleRefIdeal.τ).loc Cert.DPleRefIdeal.main_arg3) = m ((c.tc : Thread Cert.DPleIdeal.nD Cert.DPleIdeal.τ).loc Cert.DPleIdeal.main_arg3)
      ∧ m' ((c.tc : Thread Cert.DPleRefIdeal.nD Cert.DPleRefIdeal.τ).loc Cert.DPleRefIdeal.main_arg4) = m ((c.tc : Thread Cert.DPleIdeal.nD Cert.DPleIdeal.τ).loc Cert.DPleIdeal.main_arg4)) →
    ∃ (v0 : (c : Dev Cert.DPleIdeal.nD) → Buf (Elt Ideal) ((c.tc : Thread Cert.DPleIdeal.nD Cert.DPleIdeal.τ).loc Cert.DPleIdeal.main_v1_0)) (v1 : (c : Dev Cert.DPleIdeal.nD) → Buf (Elt Ideal) ((c.tc : Thread Cert.DPleIdeal.nD Cert.DPleIdeal.τ).loc Cert.DPleIdeal.main_v1_1)),
      θ_run (Cert.DPleIdeal.defs (F := Ideal)) (onTc (τ := Cert.DPleIdeal.τ) (Cert.DPleIdeal.main (F := Ideal))) ⟨m, fun _ => 0, g⟩ (fun r => ∀ c : Dev Cert.DPleIdeal.nD,
          r.2.mem ((c.tc : Thread Cert.DPleIdeal.nD Cert.DPleIdeal.τ).loc Cert.DPleIdeal.main_v1_0) = v0 c
          ∧ r.2.mem ((c.tc : Thread Cert.DPleIdeal.nD Cert.DPleIdeal.τ).loc Cert.DPleIdeal.main_v1_1) = v1 c
          ∧ r.2.mem ((c.tc : Thread Cert.DPleIdeal.nD Cert.DPleIdeal.τ).loc Cert.DPleIdeal.main_arg0) = m ((c.tc : Thread Cert.DPleIdeal.nD Cert.DPleIdeal.τ).loc Cert.DPleIdeal.main_arg0)
          ∧ r.2.mem ((c.tc : Thread Cert.DPleIdeal.nD Cert.DPleIdeal.τ).loc Cert.DPleIdeal.main_arg1) = m ((c.tc : Thread Cert.DPleIdeal.nD Cert.DPleIdeal.τ).loc Cert.DPleIdeal.main_arg1)
          ∧ r.2.mem ((c.tc : Thread Cert.DPleIdeal.nD Cert.DPleIdeal.τ).loc Cert.DPleIdeal.main_arg2) = m ((c.tc : Thread Cert.DPleIdeal.nD Cert.DPleIdeal.τ).loc Cert.DPleIdeal.main_arg2)
          ∧ r.2.mem ((c.tc : Thread Cert.DPleIdeal.nD Cert.DPleIdeal.τ).loc Cert.DPleIdeal.main_arg3) = m ((c.tc : Thread Cert.DPleIdeal.nD Cert.DPleIdeal.τ).loc Cert.DPleIdeal.main_arg3)
          ∧ r.2.mem ((c.tc : Thread Cert.DPleIdeal.nD Cert.DPleIdeal.τ).loc Cert.DPleIdeal.main_arg4) = m ((c.tc : Thread Cert.DPleIdeal.nD Cert.DPleIdeal.τ).loc Cert.DPleIdeal.main_arg4))
      ∧ θ_run (Cert.DPleRefIdeal.defs (F := Ideal)) (onTc (τ := Cert.DPleRefIdeal.τ) (Cert.DPleRefIdeal.main (F := Ideal))) ⟨m', fun _ => 0, g'⟩ (fun r => ∀ c : Dev Cert.DPleRefIdeal.nD,
          r.2.mem ((c.tc : Thread Cert.DPleRefIdeal.nD Cert.DPleRefIdeal.τ).loc Cert.DPleRefIdeal.main_v42) = v0 c
          ∧ r.2.mem ((c.tc : Thread Cert.DPleRefIdeal.nD Cert.DPleRefIdeal.τ).loc Cert.DPleRefIdeal.main_v43) = v1 c
          ∧ r.2.mem ((c.tc : Thread Cert.DPleRefIdeal.nD Cert.DPleRefIdeal.τ).loc Cert.DPleRefIdeal.main_arg0) = m' ((c.tc : Thread Cert.DPleRefIdeal.nD Cert.DPleRefIdeal.τ).loc Cert.DPleRefIdeal.main_arg0)
          ∧ r.2.mem ((c.tc : Thread Cert.DPleRefIdeal.nD Cert.DPleRefIdeal.τ).loc Cert.DPleRefIdeal.main_arg1) = m' ((c.tc : Thread Cert.DPleRefIdeal.nD Cert.DPleRefIdeal.τ).loc Cert.DPleRefIdeal.main_arg1)
          ∧ r.2.mem ((c.tc : Thread Cert.DPleRefIdeal.nD Cert.DPleRefIdeal.τ).loc Cert.DPleRefIdeal.main_arg2) = m' ((c.tc : Thread Cert.DPleRefIdeal.nD Cert.DPleRefIdeal.τ).loc Cert.DPleRefIdeal.main_arg2)
          ∧ r.2.mem ((c.tc : Thread Cert.DPleRefIdeal.nD Cert.DPleRefIdeal.τ).loc Cert.DPleRefIdeal.main_arg3) = m' ((c.tc : Thread Cert.DPleRefIdeal.nD Cert.DPleRefIdeal.τ).loc Cert.DPleRefIdeal.main_arg3)
          ∧ r.2.mem ((c.tc : Thread Cert.DPleRefIdeal.nD Cert.DPleRefIdeal.τ).loc Cert.DPleRefIdeal.main_arg4) = m' ((c.tc : Thread Cert.DPleRefIdeal.nD Cert.DPleRefIdeal.τ).loc Cert.DPleRefIdeal.main_arg4))

def preserves_DPleProj_DPleProjIdeal : Prop :=
  True

def algebraic_DPleProjIdeal_DPleProjRefIdeal [hDPleProjIdeal : Cert.DPleProjIdeal.Facts] [hDPleProjRefIdeal : Cert.DPleProjRefIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjRefIdeal.nD Cert.DPleProjRefIdeal.τ Cert.DPleProjRefIdeal.sig) → Buf (Elt Ideal) ℓ) (g' : Dev Cert.DPleProjRefIdeal.nD → PrngReg), Pre_DPleProjIdeal m →
    (∀ c : Dev Cert.DPleProjIdeal.nD,
      m' ((c.tc : Thread Cert.DPleProjRefIdeal.nD Cert.DPleProjRefIdeal.τ).loc Cert.DPleProjRefIdeal.main_arg0) = m ((c.tc : Thread Cert.DPleProjIdeal.nD Cert.DPleProjIdeal.τ).loc Cert.DPleProjIdeal.main_arg0)
      ∧ m' ((c.tc : Thread Cert.DPleProjRefIdeal.nD Cert.DPleProjRefIdeal.τ).loc Cert.DPleProjRefIdeal.main_arg1) = m ((c.tc : Thread Cert.DPleProjIdeal.nD Cert.DPleProjIdeal.τ).loc Cert.DPleProjIdeal.main_arg1)) →
    ∃ (v0 : (c : Dev Cert.DPleProjIdeal.nD) → Buf (Elt Ideal) ((c.tc : Thread Cert.DPleProjIdeal.nD Cert.DPleProjIdeal.τ).loc Cert.DPleProjIdeal.main_v0)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v0) = v0 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ θ_run (Cert.DPleProjRefIdeal.defs (F := Ideal)) (onTc (τ := Cert.DPleProjRefIdeal.τ) (Cert.DPleProjRefIdeal.main (F := Ideal))) ⟨m', fun _ => 0, g'⟩ (fun r => ∀ c : Dev Cert.DPleProjRefIdeal.nD,
          r.2.mem ((c.tc : Thread Cert.DPleProjRefIdeal.nD Cert.DPleProjRefIdeal.τ).loc Cert.DPleProjRefIdeal.main_v7) = v0 c
          ∧ r.2.mem ((c.tc : Thread Cert.DPleProjRefIdeal.nD Cert.DPleProjRefIdeal.τ).loc Cert.DPleProjRefIdeal.main_arg0) = m' ((c.tc : Thread Cert.DPleProjRefIdeal.nD Cert.DPleProjRefIdeal.τ).loc Cert.DPleProjRefIdeal.main_arg0)
          ∧ r.2.mem ((c.tc : Thread Cert.DPleProjRefIdeal.nD Cert.DPleProjRefIdeal.τ).loc Cert.DPleProjRefIdeal.main_arg1) = m' ((c.tc : Thread Cert.DPleProjRefIdeal.nD Cert.DPleProjRefIdeal.τ).loc Cert.DPleProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_v12) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjDt_InProjDtIdeal : Prop :=
  True

def algebraic_InProjDtIdeal_InProjDtRefIdeal [hInProjDtIdeal : Cert.InProjDtIdeal.Facts] [hInProjDtRefIdeal : Cert.InProjDtRefIdeal.Facts] : Prop :=
  ∀ (m : (ℓ : Loc Cert.InProjDtIdeal.nD Cert.InProjDtIdeal.τ Cert.InProjDtIdeal.sig) → Buf (Elt Ideal) ℓ) (g : Dev Cert.InProjDtIdeal.nD → PrngReg)
    (m' : (ℓ : Loc Cert.InProjDtRefIdeal.nD Cert.InProjDtRefIdeal.τ Cert.InProjDtRefIdeal.sig) → Buf (Elt Ideal) ℓ) (g' : Dev Cert.InProjDtRefIdeal.nD → PrngReg), Pre_InProjDtIdeal m →
    (∀ c : Dev Cert.InProjDtIdeal.nD,
      m' ((c.tc : Thread Cert.InProjDtRefIdeal.nD Cert.InProjDtRefIdeal.τ).loc Cert.InProjDtRefIdeal.main_arg0) = m ((c.tc : Thread Cert.InProjDtIdeal.nD Cert.InProjDtIdeal.τ).loc Cert.InProjDtIdeal.main_arg0)
      ∧ m' ((c.tc : Thread Cert.InProjDtRefIdeal.nD Cert.InProjDtRefIdeal.τ).loc Cert.InProjDtRefIdeal.main_arg1) = m ((c.tc : Thread Cert.InProjDtIdeal.nD Cert.InProjDtIdeal.τ).loc Cert.InProjDtIdeal.main_arg1)) →
    ∃ (v0 : (c : Dev Cert.InProjDtIdeal.nD) → Buf (Elt Ideal) ((c.tc : Thread Cert.InProjDtIdeal.nD Cert.InProjDtIdeal.τ).loc Cert.InProjDtIdeal.main_v0)),
      θ_run (Cert.InProjDtIdeal.defs (F := Ideal)) (onTc (τ := Cert.InProjDtIdeal.τ) (Cert.InProjDtIdeal.main (F := Ideal))) ⟨m, fun _ => 0, g⟩ (fun r => ∀ c : Dev Cert.InProjDtIdeal.nD,
          r.2.mem ((c.tc : Thread Cert.InProjDtIdeal.nD Cert.InProjDtIdeal.τ).loc Cert.InProjDtIdeal.main_v0) = v0 c
          ∧ r.2.mem ((c.tc : Thread Cert.InProjDtIdeal.nD Cert.InProjDtIdeal.τ).loc Cert.InProjDtIdeal.main_arg0) = m ((c.tc : Thread Cert.InProjDtIdeal.nD Cert.InProjDtIdeal.τ).loc Cert.InProjDtIdeal.main_arg0)
          ∧ r.2.mem ((c.tc : Thread Cert.InProjDtIdeal.nD Cert.InProjDtIdeal.τ).loc Cert.InProjDtIdeal.main_arg1) = m ((c.tc : Thread Cert.InProjDtIdeal.nD Cert.InProjDtIdeal.τ).loc Cert.InProjDtIdeal.main_arg1))
      ∧ θ_run (Cert.InProjDtRefIdeal.defs (F := Ideal)) (onTc (τ := Cert.InProjDtRefIdeal.τ) (Cert.InProjDtRefIdeal.main (F := Ideal))) ⟨m', fun _ => 0, g'⟩ (fun r => ∀ c : Dev Cert.InProjDtRefIdeal.nD,
          r.2.mem ((c.tc : Thread Cert.InProjDtRefIdeal.nD Cert.InProjDtRefIdeal.τ).loc Cert.InProjDtRefIdeal.main_v3) = v0 c
          ∧ r.2.mem ((c.tc : Thread Cert.InProjDtRefIdeal.nD Cert.InProjDtRefIdeal.τ).loc Cert.InProjDtRefIdeal.main_arg0) = m' ((c.tc : Thread Cert.InProjDtRefIdeal.nD Cert.InProjDtRefIdeal.τ).loc Cert.InProjDtRefIdeal.main_arg0)
          ∧ r.2.mem ((c.tc : Thread Cert.InProjDtRefIdeal.nD Cert.InProjDtRefIdeal.τ).loc Cert.InProjDtRefIdeal.main_arg1) = m' ((c.tc : Thread Cert.InProjDtRefIdeal.nD Cert.InProjDtRefIdeal.τ).loc Cert.InProjDtRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v3) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_ScOut_ScOutIdeal : Prop :=
  True

def algebraic_ScOutIdeal_ScOutRefIdeal [hScOutIdeal : Cert.ScOutIdeal.Facts] [hScOutRefIdeal : Cert.ScOutRefIdeal.Facts] : Prop :=
  ∀ (m : (ℓ : Loc Cert.ScOutIdeal.nD Cert.ScOutIdeal.τ Cert.ScOutIdeal.sig) → Buf (Elt Ideal) ℓ) (g : Dev Cert.ScOutIdeal.nD → PrngReg)
    (m' : (ℓ : Loc Cert.ScOutRefIdeal.nD Cert.ScOutRefIdeal.τ Cert.ScOutRefIdeal.sig) → Buf (Elt Ideal) ℓ) (g' : Dev Cert.ScOutRefIdeal.nD → PrngReg), Pre_ScOutIdeal m →
    (∀ c : Dev Cert.ScOutIdeal.nD,
      m' ((c.tc : Thread Cert.ScOutRefIdeal.nD Cert.ScOutRefIdeal.τ).loc Cert.ScOutRefIdeal.main_arg0) = m ((c.tc : Thread Cert.ScOutIdeal.nD Cert.ScOutIdeal.τ).loc Cert.ScOutIdeal.main_arg0)
      ∧ m' ((c.tc : Thread Cert.ScOutRefIdeal.nD Cert.ScOutRefIdeal.τ).loc Cert.ScOutRefIdeal.main_arg1) = m ((c.tc : Thread Cert.ScOutIdeal.nD Cert.ScOutIdeal.τ).loc Cert.ScOutIdeal.main_arg1)) →
    ∃ (v0 : (c : Dev Cert.ScOutIdeal.nD) → Buf (Elt Ideal) ((c.tc : Thread Cert.ScOutIdeal.nD Cert.ScOutIdeal.τ).loc Cert.ScOutIdeal.main_v0)),
      θ_run (Cert.ScOutIdeal.defs (F := Ideal)) (onTc (τ := Cert.ScOutIdeal.τ) (Cert.ScOutIdeal.main (F := Ideal))) ⟨m, fun _ => 0, g⟩ (fun r => ∀ c : Dev Cert.ScOutIdeal.nD,
          r.2.mem ((c.tc : Thread Cert.ScOutIdeal.nD Cert.ScOutIdeal.τ).loc Cert.ScOutIdeal.main_v0) = v0 c
          ∧ r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
          ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1))
      ∧ θ_run (Cert.ScOutRefIdeal.defs (F := Ideal)) (onTc (τ := Cert.ScOutRefIdeal.τ) (Cert.ScOutRefIdeal.main (F := Ideal))) ⟨m', fun _ => 0, g'⟩ (fun r => ∀ c : Dev Cert.ScOutRefIdeal.nD,
          r.2.mem ((c.tc : Thread Cert.ScOutRefIdeal.nD Cert.ScOutRefIdeal.τ).loc Cert.ScOutRefIdeal.main_v3) = v0 c
          ∧ r.2.mem ((c.tc : Thread Cert.ScOutRefIdeal.nD Cert.ScOutRefIdeal.τ).loc Cert.ScOutRefIdeal.main_arg0) = m' ((c.tc : Thread Cert.ScOutRefIdeal.nD Cert.ScOutRefIdeal.τ).loc Cert.ScOutRefIdeal.main_arg0)
          ∧ r.2.mem ((c.tc : Thread Cert.ScOutRefIdeal.nD Cert.ScOutRefIdeal.τ).loc Cert.ScOutRefIdeal.main_arg1) = m' ((c.tc : Thread Cert.ScOutRefIdeal.nD Cert.ScOutRefIdeal.τ).loc Cert.ScOutRefIdeal.main_arg1))

def preserves_MOut_MOutIdeal : Prop :=
  True

def algebraic_MOutIdeal_MOutRefIdeal [hMOutIdeal : Cert.MOutIdeal.Facts] [hMOutRefIdeal : Cert.MOutRefIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.MOutRefIdeal.nD Cert.MOutRefIdeal.τ Cert.MOutRefIdeal.sig) → Buf (Elt Ideal) ℓ) (g' : Dev Cert.MOutRefIdeal.nD → PrngReg), Pre_MOutIdeal m →
    (∀ c : Dev Cert.MOutIdeal.nD,
      m' ((c.tc : Thread Cert.MOutRefIdeal.nD Cert.MOutRefIdeal.τ).loc Cert.MOutRefIdeal.main_arg0) = m ((c.tc : Thread Cert.MOutIdeal.nD Cert.MOutIdeal.τ).loc Cert.MOutIdeal.main_arg0)
      ∧ m' ((c.tc : Thread Cert.MOutRefIdeal.nD Cert.MOutRefIdeal.τ).loc Cert.MOutRefIdeal.main_arg1) = m ((c.tc : Thread Cert.MOutIdeal.nD Cert.MOutIdeal.τ).loc Cert.MOutIdeal.main_arg1)) →
    ∃ (v0 : (c : Dev Cert.MOutIdeal.nD) → Buf (Elt Ideal) ((c.tc : Thread Cert.MOutIdeal.nD Cert.MOutIdeal.τ).loc Cert.MOutIdeal.main_v0)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v0) = v0 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1))
      ∧ θ_run (Cert.MOutRefIdeal.defs (F := Ideal)) (onTc (τ := Cert.MOutRefIdeal.τ) (Cert.MOutRefIdeal.main (F := Ideal))) ⟨m', fun _ => 0, g'⟩ (fun r => ∀ c : Dev Cert.MOutRefIdeal.nD,
          r.2.mem ((c.tc : Thread Cert.MOutRefIdeal.nD Cert.MOutRefIdeal.τ).loc Cert.MOutRefIdeal.main_v3) = v0 c
          ∧ r.2.mem ((c.tc : Thread Cert.MOutRefIdeal.nD Cert.MOutRefIdeal.τ).loc Cert.MOutRefIdeal.main_arg0) = m' ((c.tc : Thread Cert.MOutRefIdeal.nD Cert.MOutRefIdeal.τ).loc Cert.MOutRefIdeal.main_arg0)
          ∧ r.2.mem ((c.tc : Thread Cert.MOutRefIdeal.nD Cert.MOutRefIdeal.τ).loc Cert.MOutRefIdeal.main_arg1) = m' ((c.tc : Thread Cert.MOutRefIdeal.nD Cert.MOutRefIdeal.τ).loc Cert.MOutRefIdeal.main_arg1))

def preserves_WO_WOIdeal : Prop :=
  True

def algebraic_WOIdeal_WORefIdeal [hWOIdeal : Cert.WOIdeal.Facts] [hWORefIdeal : Cert.WORefIdeal.Facts] : Prop :=
  ∀ (m : (ℓ : Loc Cert.WOIdeal.nD Cert.WOIdeal.τ Cert.WOIdeal.sig) → Buf (Elt Ideal) ℓ) (g : Dev Cert.WOIdeal.nD → PrngReg)
    (m' : (ℓ : Loc Cert.WORefIdeal.nD Cert.WORefIdeal.τ Cert.WORefIdeal.sig) → Buf (Elt Ideal) ℓ) (g' : Dev Cert.WORefIdeal.nD → PrngReg), Pre_WOIdeal m →
    (∀ c : Dev Cert.WOIdeal.nD,
      m' ((c.tc : Thread Cert.WORefIdeal.nD Cert.WORefIdeal.τ).loc Cert.WORefIdeal.main_arg0) = m ((c.tc : Thread Cert.WOIdeal.nD Cert.WOIdeal.τ).loc Cert.WOIdeal.main_arg0)
      ∧ m' ((c.tc : Thread Cert.WORefIdeal.nD Cert.WORefIdeal.τ).loc Cert.WORefIdeal.main_arg1) = m ((c.tc : Thread Cert.WOIdeal.nD Cert.WOIdeal.τ).loc Cert.WOIdeal.main_arg1)
      ∧ m' ((c.tc : Thread Cert.WORefIdeal.nD Cert.WORefIdeal.τ).loc Cert.WORefIdeal.main_arg2) = m ((c.tc : Thread Cert.WOIdeal.nD Cert.WOIdeal.τ).loc Cert.WOIdeal.main_arg2)) →
    ∃ (v0 : (c : Dev Cert.WOIdeal.nD) → Buf (Elt Ideal) ((c.tc : Thread Cert.WOIdeal.nD Cert.WOIdeal.τ).loc Cert.WOIdeal.main_v0)),
      θ_run (Cert.WOIdeal.defs (F := Ideal)) (onTc (τ := Cert.WOIdeal.τ) (Cert.WOIdeal.main (F := Ideal))) ⟨m, fun _ => 0, g⟩ (fun r => ∀ c : Dev Cert.WOIdeal.nD,
          r.2.mem ((c.tc : Thread Cert.WOIdeal.nD Cert.WOIdeal.τ).loc Cert.WOIdeal.main_v0) = v0 c
          ∧ r.2.mem ((c.tc : Thread Cert.WOIdeal.nD Cert.WOIdeal.τ).loc Cert.WOIdeal.main_arg0) = m ((c.tc : Thread Cert.WOIdeal.nD Cert.WOIdeal.τ).loc Cert.WOIdeal.main_arg0)
          ∧ r.2.mem ((c.tc : Thread Cert.WOIdeal.nD Cert.WOIdeal.τ).loc Cert.WOIdeal.main_arg1) = m ((c.tc : Thread Cert.WOIdeal.nD Cert.WOIdeal.τ).loc Cert.WOIdeal.main_arg1)
          ∧ r.2.mem ((c.tc : Thread Cert.WOIdeal.nD Cert.WOIdeal.τ).loc Cert.WOIdeal.main_arg2) = m ((c.tc : Thread Cert.WOIdeal.nD Cert.WOIdeal.τ).loc Cert.WOIdeal.main_arg2))
      ∧ θ_run (Cert.WORefIdeal.defs (F := Ideal)) (onTc (τ := Cert.WORefIdeal.τ) (Cert.WORefIdeal.main (F := Ideal))) ⟨m', fun _ => 0, g'⟩ (fun r => ∀ c : Dev Cert.WORefIdeal.nD,
          r.2.mem ((c.tc : Thread Cert.WORefIdeal.nD Cert.WORefIdeal.τ).loc Cert.WORefIdeal.main_v3) = v0 c
          ∧ r.2.mem ((c.tc : Thread Cert.WORefIdeal.nD Cert.WORefIdeal.τ).loc Cert.WORefIdeal.main_arg0) = m' ((c.tc : Thread Cert.WORefIdeal.nD Cert.WORefIdeal.τ).loc Cert.WORefIdeal.main_arg0)
          ∧ r.2.mem ((c.tc : Thread Cert.WORefIdeal.nD Cert.WORefIdeal.τ).loc Cert.WORefIdeal.main_arg1) = m' ((c.tc : Thread Cert.WORefIdeal.nD Cert.WORefIdeal.τ).loc Cert.WORefIdeal.main_arg1)
          ∧ r.2.mem ((c.tc : Thread Cert.WORefIdeal.nD Cert.WORefIdeal.τ).loc Cert.WORefIdeal.main_arg2) = m' ((c.tc : Thread Cert.WORefIdeal.nD Cert.WORefIdeal.τ).loc Cert.WORefIdeal.main_arg2))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v34) = v0 c
          ∧ r.2.mem ((c.tc : Thread Cert.MergeBRefIdeal.nD Cert.MergeBRefIdeal.τ).loc Cert.MergeBRefIdeal.main_v35) = v1 c
          ∧ r.2.mem ((c.tc : Thread Cert.MergeBRefIdeal.nD Cert.MergeBRefIdeal.τ).loc Cert.MergeBRefIdeal.main_v36) = v2 c
          ∧ r.2.mem ((c.tc : Thread Cert.MergeBRefIdeal.nD Cert.MergeBRefIdeal.τ).loc Cert.MergeBRefIdeal.main_v37) = v3 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_PleB_PleBIdeal : Prop :=
  True

def algebraic_PleBIdeal_PleBRefIdeal [hPleBIdeal : Cert.PleBIdeal.Facts] [hPleBRefIdeal : Cert.PleBRefIdeal.Facts] : Prop :=
  ∀ (m : (ℓ : Loc Cert.PleBIdeal.nD Cert.PleBIdeal.τ Cert.PleBIdeal.sig) → Buf (Elt Ideal) ℓ) (g : Dev Cert.PleBIdeal.nD → PrngReg)
    (m' : (ℓ : Loc Cert.PleBRefIdeal.nD Cert.PleBRefIdeal.τ Cert.PleBRefIdeal.sig) → Buf (Elt Ideal) ℓ) (g' : Dev Cert.PleBRefIdeal.nD → PrngReg), Pre_PleBIdeal m →
    (∀ c : Dev Cert.PleBIdeal.nD,
      m' ((c.tc : Thread Cert.PleBRefIdeal.nD Cert.PleBRefIdeal.τ).loc Cert.PleBRefIdeal.main_arg0) = m ((c.tc : Thread Cert.PleBIdeal.nD Cert.PleBIdeal.τ).loc Cert.PleBIdeal.main_arg0)
      ∧ m' ((c.tc : Thread Cert.PleBRefIdeal.nD Cert.PleBRefIdeal.τ).loc Cert.PleBRefIdeal.main_arg1) = m ((c.tc : Thread Cert.PleBIdeal.nD Cert.PleBIdeal.τ).loc Cert.PleBIdeal.main_arg1)
      ∧ m' ((c.tc : Thread Cert.PleBRefIdeal.nD Cert.PleBRefIdeal.τ).loc Cert.PleBRefIdeal.main_arg2) = m ((c.tc : Thread Cert.PleBIdeal.nD Cert.PleBIdeal.τ).loc Cert.PleBIdeal.main_arg2)) →
    ∃ (v0 : (c : Dev Cert.PleBIdeal.nD) → Buf (Elt Ideal) ((c.tc : Thread Cert.PleBIdeal.nD Cert.PleBIdeal.τ).loc Cert.PleBIdeal.main_v0_0)) (v1 : (c : Dev Cert.PleBIdeal.nD) → Buf (Elt Ideal) ((c.tc : Thread Cert.PleBIdeal.nD Cert.PleBIdeal.τ).loc Cert.PleBIdeal.main_v0_1)),
      θ_run (Cert.PleBIdeal.defs (F := Ideal)) (onTc (τ := Cert.PleBIdeal.τ) (Cert.PleBIdeal.main (F := Ideal))) ⟨m, fun _ => 0, g⟩ (fun r => ∀ c : Dev Cert.PleBIdeal.nD,
          r.2.mem ((c.tc : Thread Cert.PleBIdeal.nD Cert.PleBIdeal.τ).loc Cert.PleBIdeal.main_v0_0) = v0 c
          ∧ r.2.mem ((c.tc : Thread Cert.PleBIdeal.nD Cert.PleBIdeal.τ).loc Cert.PleBIdeal.main_v0_1) = v1 c
          ∧ r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
          ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
          ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ θ_run (Cert.PleBRefIdeal.defs (F := Ideal)) (onTc (τ := Cert.PleBRefIdeal.τ) (Cert.PleBRefIdeal.main (F := Ideal))) ⟨m', fun _ => 0, g'⟩ (fun r => ∀ c : Dev Cert.PleBRefIdeal.nD,
          r.2.mem ((c.tc : Thread Cert.PleBRefIdeal.nD Cert.PleBRefIdeal.τ).loc Cert.PleBRefIdeal.main_v17) = v0 c
          ∧ r.2.mem ((c.tc : Thread Cert.PleBRefIdeal.nD Cert.PleBRefIdeal.τ).loc Cert.PleBRefIdeal.main_v18) = v1 c
          ∧ r.2.mem ((c.tc : Thread Cert.PleBRefIdeal.nD Cert.PleBRefIdeal.τ).loc Cert.PleBRefIdeal.main_arg0) = m' ((c.tc : Thread Cert.PleBRefIdeal.nD Cert.PleBRefIdeal.τ).loc Cert.PleBRefIdeal.main_arg0)
          ∧ r.2.mem ((c.tc : Thread Cert.PleBRefIdeal.nD Cert.PleBRefIdeal.τ).loc Cert.PleBRefIdeal.main_arg1) = m' ((c.tc : Thread Cert.PleBRefIdeal.nD Cert.PleBRefIdeal.τ).loc Cert.PleBRefIdeal.main_arg1)
          ∧ r.2.mem ((c.tc : Thread Cert.PleBRefIdeal.nD Cert.PleBRefIdeal.τ).loc Cert.PleBRefIdeal.main_arg2) = m' ((c.tc : Thread Cert.PleBRefIdeal.nD Cert.PleBRefIdeal.τ).loc Cert.PleBRefIdeal.main_arg2))

def preserves_MConvB_MConvBIdeal : Prop :=
  True

def algebraic_MConvBIdeal_MConvBRefIdeal_pre_mcb_finite [hMConvBIdeal : Cert.MConvBIdeal.Facts] [hMConvBRefIdeal : Cert.MConvBRefIdeal.Facts] [hPre_mcb_finite : Cert.Pre_mcb_finite.Facts] : Prop :=
  ∀ (m : (ℓ : Loc Cert.MConvBIdeal.nD Cert.MConvBIdeal.τ Cert.MConvBIdeal.sig) → Buf (Elt Ideal) ℓ) (g : Dev Cert.MConvBIdeal.nD → PrngReg)
    (m' : (ℓ : Loc Cert.MConvBRefIdeal.nD Cert.MConvBRefIdeal.τ Cert.MConvBRefIdeal.sig) → Buf (Elt Ideal) ℓ) (g' : Dev Cert.MConvBRefIdeal.nD → PrngReg), Pre_MConvBIdeal_mcb_finite m →
    (∀ c : Dev Cert.MConvBIdeal.nD,
      m' ((c.tc : Thread Cert.MConvBRefIdeal.nD Cert.MConvBRefIdeal.τ).loc Cert.MConvBRefIdeal.main_arg0) = m ((c.tc : Thread Cert.MConvBIdeal.nD Cert.MConvBIdeal.τ).loc Cert.MConvBIdeal.main_arg0)
      ∧ m' ((c.tc : Thread Cert.MConvBRefIdeal.nD Cert.MConvBRefIdeal.τ).loc Cert.MConvBRefIdeal.main_arg1) = m ((c.tc : Thread Cert.MConvBIdeal.nD Cert.MConvBIdeal.τ).loc Cert.MConvBIdeal.main_arg1)
      ∧ m' ((c.tc : Thread Cert.MConvBRefIdeal.nD Cert.MConvBRefIdeal.τ).loc Cert.MConvBRefIdeal.main_arg2) = m ((c.tc : Thread Cert.MConvBIdeal.nD Cert.MConvBIdeal.τ).loc Cert.MConvBIdeal.main_arg2)
      ∧ m' ((c.tc : Thread Cert.MConvBRefIdeal.nD Cert.MConvBRefIdeal.τ).loc Cert.MConvBRefIdeal.main_arg3) = m ((c.tc : Thread Cert.MConvBIdeal.nD Cert.MConvBIdeal.τ).loc Cert.MConvBIdeal.main_arg3)) →
    ∃ (v0 : (c : Dev Cert.MConvBIdeal.nD) → Buf (Elt Ideal) ((c.tc : Thread Cert.MConvBIdeal.nD Cert.MConvBIdeal.τ).loc Cert.MConvBIdeal.main_v3_0)) (v1 : (c : Dev Cert.MConvBIdeal.nD) → Buf (Elt Ideal) ((c.tc : Thread Cert.MConvBIdeal.nD Cert.MConvBIdeal.τ).loc Cert.MConvBIdeal.main_v3_1)) (v2 : (c : Dev Cert.MConvBIdeal.nD) → Buf (Elt Ideal) ((c.tc : Thread Cert.MConvBIdeal.nD Cert.MConvBIdeal.τ).loc Cert.MConvBIdeal.main_v3_2)),
      θ_run (Cert.MConvBIdeal.defs (F := Ideal)) (onTc (τ := Cert.MConvBIdeal.τ) (Cert.MConvBIdeal.main (F := Ideal))) ⟨m, fun _ => 0, g⟩ (fun r => ∀ c : Dev Cert.MConvBIdeal.nD,
          r.2.mem ((c.tc : Thread Cert.MConvBIdeal.nD Cert.MConvBIdeal.τ).loc Cert.MConvBIdeal.main_v3_0) = v0 c
          ∧ r.2.mem ((c.tc : Thread Cert.MConvBIdeal.nD Cert.MConvBIdeal.τ).loc Cert.MConvBIdeal.main_v3_1) = v1 c
          ∧ r.2.mem ((c.tc : Thread Cert.MConvBIdeal.nD Cert.MConvBIdeal.τ).loc Cert.MConvBIdeal.main_v3_2) = v2 c
          ∧ r.2.mem ((c.tc : Thread Cert.MConvBIdeal.nD Cert.MConvBIdeal.τ).loc Cert.MConvBIdeal.main_arg0) = m ((c.tc : Thread Cert.MConvBIdeal.nD Cert.MConvBIdeal.τ).loc Cert.MConvBIdeal.main_arg0)
          ∧ r.2.mem ((c.tc : Thread Cert.MConvBIdeal.nD Cert.MConvBIdeal.τ).loc Cert.MConvBIdeal.main_arg1) = m ((c.tc : Thread Cert.MConvBIdeal.nD Cert.MConvBIdeal.τ).loc Cert.MConvBIdeal.main_arg1)
          ∧ r.2.mem ((c.tc : Thread Cert.MConvBIdeal.nD Cert.MConvBIdeal.τ).loc Cert.MConvBIdeal.main_arg2) = m ((c.tc : Thread Cert.MConvBIdeal.nD Cert.MConvBIdeal.τ).loc Cert.MConvBIdeal.main_arg2)
          ∧ r.2.mem ((c.tc : Thread Cert.MConvBIdeal.nD Cert.MConvBIdeal.τ).loc Cert.MConvBIdeal.main_arg3) = m ((c.tc : Thread Cert.MConvBIdeal.nD Cert.MConvBIdeal.τ).loc Cert.MConvBIdeal.main_arg3))
      ∧ θ_run (Cert.MConvBRefIdeal.defs (F := Ideal)) (onTc (τ := Cert.MConvBRefIdeal.τ) (Cert.MConvBRefIdeal.main (F := Ideal))) ⟨m', fun _ => 0, g'⟩ (fun r => ∀ c : Dev Cert.MConvBRefIdeal.nD,
          r.2.mem ((c.tc : Thread Cert.MConvBRefIdeal.nD Cert.MConvBRefIdeal.τ).loc Cert.MConvBRefIdeal.main_v89) = v0 c
          ∧ r.2.mem ((c.tc : Thread Cert.MConvBRefIdeal.nD Cert.MConvBRefIdeal.τ).loc Cert.MConvBRefIdeal.main_v91) = v1 c
          ∧ r.2.mem ((c.tc : Thread Cert.MConvBRefIdeal.nD Cert.MConvBRefIdeal.τ).loc Cert.MConvBRefIdeal.main_v92) = v2 c
          ∧ r.2.mem ((c.tc : Thread Cert.MConvBRefIdeal.nD Cert.MConvBRefIdeal.τ).loc Cert.MConvBRefIdeal.main_arg0) = m' ((c.tc : Thread Cert.MConvBRefIdeal.nD Cert.MConvBRefIdeal.τ).loc Cert.MConvBRefIdeal.main_arg0)
          ∧ r.2.mem ((c.tc : Thread Cert.MConvBRefIdeal.nD Cert.MConvBRefIdeal.τ).loc Cert.MConvBRefIdeal.main_arg1) = m' ((c.tc : Thread Cert.MConvBRefIdeal.nD Cert.MConvBRefIdeal.τ).loc Cert.MConvBRefIdeal.main_arg1)
          ∧ r.2.mem ((c.tc : Thread Cert.MConvBRefIdeal.nD Cert.MConvBRefIdeal.τ).loc Cert.MConvBRefIdeal.main_arg2) = m' ((c.tc : Thread Cert.MConvBRefIdeal.nD Cert.MConvBRefIdeal.τ).loc Cert.MConvBRefIdeal.main_arg2)
          ∧ r.2.mem ((c.tc : Thread Cert.MConvBRefIdeal.nD Cert.MConvBRefIdeal.τ).loc Cert.MConvBRefIdeal.main_arg3) = m' ((c.tc : Thread Cert.MConvBRefIdeal.nD Cert.MConvBRefIdeal.τ).loc Cert.MConvBRefIdeal.main_arg3))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v21) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_PleF_PleFIdeal : Prop :=
  True

def algebraic_PleFIdeal_PleFRefIdeal [hPleFIdeal : Cert.PleFIdeal.Facts] [hPleFRefIdeal : Cert.PleFRefIdeal.Facts] : Prop :=
  ∀ (m : (ℓ : Loc Cert.PleFIdeal.nD Cert.PleFIdeal.τ Cert.PleFIdeal.sig) → Buf (Elt Ideal) ℓ) (g : Dev Cert.PleFIdeal.nD → PrngReg)
    (m' : (ℓ : Loc Cert.PleFRefIdeal.nD Cert.PleFRefIdeal.τ Cert.PleFRefIdeal.sig) → Buf (Elt Ideal) ℓ) (g' : Dev Cert.PleFRefIdeal.nD → PrngReg), Pre_PleFIdeal m →
    (∀ c : Dev Cert.PleFIdeal.nD,
      m' ((c.tc : Thread Cert.PleFRefIdeal.nD Cert.PleFRefIdeal.τ).loc Cert.PleFRefIdeal.main_arg0) = m ((c.tc : Thread Cert.PleFIdeal.nD Cert.PleFIdeal.τ).loc Cert.PleFIdeal.main_arg0)
      ∧ m' ((c.tc : Thread Cert.PleFRefIdeal.nD Cert.PleFRefIdeal.τ).loc Cert.PleFRefIdeal.main_arg1) = m ((c.tc : Thread Cert.PleFIdeal.nD Cert.PleFIdeal.τ).loc Cert.PleFIdeal.main_arg1)
      ∧ m' ((c.tc : Thread Cert.PleFRefIdeal.nD Cert.PleFRefIdeal.τ).loc Cert.PleFRefIdeal.main_arg2) = m ((c.tc : Thread Cert.PleFIdeal.nD Cert.PleFIdeal.τ).loc Cert.PleFIdeal.main_arg2)) →
    ∃ (v0 : (c : Dev Cert.PleFIdeal.nD) → Buf (Elt Ideal) ((c.tc : Thread Cert.PleFIdeal.nD Cert.PleFIdeal.τ).loc Cert.PleFIdeal.main_v0)),
      θ_run (Cert.PleFIdeal.defs (F := Ideal)) (onTc (τ := Cert.PleFIdeal.τ) (Cert.PleFIdeal.main (F := Ideal))) ⟨m, fun _ => 0, g⟩ (fun r => ∀ c : Dev Cert.PleFIdeal.nD,
          r.2.mem ((c.tc : Thread Cert.PleFIdeal.nD Cert.PleFIdeal.τ).loc Cert.PleFIdeal.main_v0) = v0 c
          ∧ r.2.mem ((c.tc : Thread Cert.PleFIdeal.nD Cert.PleFIdeal.τ).loc Cert.PleFIdeal.main_arg0) = m ((c.tc : Thread Cert.PleFIdeal.nD Cert.PleFIdeal.τ).loc Cert.PleFIdeal.main_arg0)
          ∧ r.2.mem ((c.tc : Thread Cert.PleFIdeal.nD Cert.PleFIdeal.τ).loc Cert.PleFIdeal.main_arg1) = m ((c.tc : Thread Cert.PleFIdeal.nD Cert.PleFIdeal.τ).loc Cert.PleFIdeal.main_arg1)
          ∧ r.2.mem ((c.tc : Thread Cert.PleFIdeal.nD Cert.PleFIdeal.τ).loc Cert.PleFIdeal.main_arg2) = m ((c.tc : Thread Cert.PleFIdeal.nD Cert.PleFIdeal.τ).loc Cert.PleFIdeal.main_arg2))
      ∧ θ_run (Cert.PleFRefIdeal.defs (F := Ideal)) (onTc (τ := Cert.PleFRefIdeal.τ) (Cert.PleFRefIdeal.main (F := Ideal))) ⟨m', fun _ => 0, g'⟩ (fun r => ∀ c : Dev Cert.PleFRefIdeal.nD,
          r.2.mem ((c.tc : Thread Cert.PleFRefIdeal.nD Cert.PleFRefIdeal.τ).loc Cert.PleFRefIdeal.main_v9) = v0 c
          ∧ r.2.mem ((c.tc : Thread Cert.PleFRefIdeal.nD Cert.PleFRefIdeal.τ).loc Cert.PleFRefIdeal.main_arg0) = m' ((c.tc : Thread Cert.PleFRefIdeal.nD Cert.PleFRefIdeal.τ).loc Cert.PleFRefIdeal.main_arg0)
          ∧ r.2.mem ((c.tc : Thread Cert.PleFRefIdeal.nD Cert.PleFRefIdeal.τ).loc Cert.PleFRefIdeal.main_arg1) = m' ((c.tc : Thread Cert.PleFRefIdeal.nD Cert.PleFRefIdeal.τ).loc Cert.PleFRefIdeal.main_arg1)
          ∧ r.2.mem ((c.tc : Thread Cert.PleFRefIdeal.nD Cert.PleFRefIdeal.τ).loc Cert.PleFRefIdeal.main_arg2) = m' ((c.tc : Thread Cert.PleFRefIdeal.nD Cert.PleFRefIdeal.τ).loc Cert.PleFRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v15) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_GNormF_GNormFIdeal : Prop :=
  True

def algebraic_GNormFIdeal_GNormFRefIdeal [hGNormFIdeal : Cert.GNormFIdeal.Facts] [hGNormFRefIdeal : Cert.GNormFRefIdeal.Facts] : Prop :=
  ∀ (m : (ℓ : Loc Cert.GNormFIdeal.nD Cert.GNormFIdeal.τ Cert.GNormFIdeal.sig) → Buf (Elt Ideal) ℓ) (g : Dev Cert.GNormFIdeal.nD → PrngReg)
    (m' : (ℓ : Loc Cert.GNormFRefIdeal.nD Cert.GNormFRefIdeal.τ Cert.GNormFRefIdeal.sig) → Buf (Elt Ideal) ℓ) (g' : Dev Cert.GNormFRefIdeal.nD → PrngReg), Pre_GNormFIdeal m →
    (∀ c : Dev Cert.GNormFIdeal.nD,
      m' ((c.tc : Thread Cert.GNormFRefIdeal.nD Cert.GNormFRefIdeal.τ).loc Cert.GNormFRefIdeal.main_arg0) = m ((c.tc : Thread Cert.GNormFIdeal.nD Cert.GNormFIdeal.τ).loc Cert.GNormFIdeal.main_arg0)
      ∧ m' ((c.tc : Thread Cert.GNormFRefIdeal.nD Cert.GNormFRefIdeal.τ).loc Cert.GNormFRefIdeal.main_arg1) = m ((c.tc : Thread Cert.GNormFIdeal.nD Cert.GNormFIdeal.τ).loc Cert.GNormFIdeal.main_arg1)
      ∧ m' ((c.tc : Thread Cert.GNormFRefIdeal.nD Cert.GNormFRefIdeal.τ).loc Cert.GNormFRefIdeal.main_arg2) = m ((c.tc : Thread Cert.GNormFIdeal.nD Cert.GNormFIdeal.τ).loc Cert.GNormFIdeal.main_arg2)) →
    ∃ (v0 : (c : Dev Cert.GNormFIdeal.nD) → Buf (Elt Ideal) ((c.tc : Thread Cert.GNormFIdeal.nD Cert.GNormFIdeal.τ).loc Cert.GNormFIdeal.main_v1)),
      θ_run (Cert.GNormFIdeal.defs (F := Ideal)) (onTc (τ := Cert.GNormFIdeal.τ) (Cert.GNormFIdeal.main (F := Ideal))) ⟨m, fun _ => 0, g⟩ (fun r => ∀ c : Dev Cert.GNormFIdeal.nD,
          r.2.mem ((c.tc : Thread Cert.GNormFIdeal.nD Cert.GNormFIdeal.τ).loc Cert.GNormFIdeal.main_v1) = v0 c
          ∧ r.2.mem ((c.tc : Thread Cert.GNormFIdeal.nD Cert.GNormFIdeal.τ).loc Cert.GNormFIdeal.main_arg0) = m ((c.tc : Thread Cert.GNormFIdeal.nD Cert.GNormFIdeal.τ).loc Cert.GNormFIdeal.main_arg0)
          ∧ r.2.mem ((c.tc : Thread Cert.GNormFIdeal.nD Cert.GNormFIdeal.τ).loc Cert.GNormFIdeal.main_arg1) = m ((c.tc : Thread Cert.GNormFIdeal.nD Cert.GNormFIdeal.τ).loc Cert.GNormFIdeal.main_arg1)
          ∧ r.2.mem ((c.tc : Thread Cert.GNormFIdeal.nD Cert.GNormFIdeal.τ).loc Cert.GNormFIdeal.main_arg2) = m ((c.tc : Thread Cert.GNormFIdeal.nD Cert.GNormFIdeal.τ).loc Cert.GNormFIdeal.main_arg2))
      ∧ θ_run (Cert.GNormFRefIdeal.defs (F := Ideal)) (onTc (τ := Cert.GNormFRefIdeal.τ) (Cert.GNormFRefIdeal.main (F := Ideal))) ⟨m', fun _ => 0, g'⟩ (fun r => ∀ c : Dev Cert.GNormFRefIdeal.nD,
          r.2.mem ((c.tc : Thread Cert.GNormFRefIdeal.nD Cert.GNormFRefIdeal.τ).loc Cert.GNormFRefIdeal.main_v22) = v0 c
          ∧ r.2.mem ((c.tc : Thread Cert.GNormFRefIdeal.nD Cert.GNormFRefIdeal.τ).loc Cert.GNormFRefIdeal.main_arg0) = m' ((c.tc : Thread Cert.GNormFRefIdeal.nD Cert.GNormFRefIdeal.τ).loc Cert.GNormFRefIdeal.main_arg0)
          ∧ r.2.mem ((c.tc : Thread Cert.GNormFRefIdeal.nD Cert.GNormFRefIdeal.τ).loc Cert.GNormFRefIdeal.main_arg1) = m' ((c.tc : Thread Cert.GNormFRefIdeal.nD Cert.GNormFRefIdeal.τ).loc Cert.GNormFRefIdeal.main_arg1)
          ∧ r.2.mem ((c.tc : Thread Cert.GNormFRefIdeal.nD Cert.GNormFRefIdeal.τ).loc Cert.GNormFRefIdeal.main_arg2) = m' ((c.tc : Thread Cert.GNormFRefIdeal.nD Cert.GNormFRefIdeal.τ).loc Cert.GNormFRefIdeal.main_arg2))

def preserves_ScConvF_ScConvFIdeal : Prop :=
  True

def algebraic_ScConvFIdeal_ScConvFRefIdeal [hScConvFIdeal : Cert.ScConvFIdeal.Facts] [hScConvFRefIdeal : Cert.ScConvFRefIdeal.Facts] : Prop :=
  ∀ (m : (ℓ : Loc Cert.ScConvFIdeal.nD Cert.ScConvFIdeal.τ Cert.ScConvFIdeal.sig) → Buf (Elt Ideal) ℓ) (g : Dev Cert.ScConvFIdeal.nD → PrngReg)
    (m' : (ℓ : Loc Cert.ScConvFRefIdeal.nD Cert.ScConvFRefIdeal.τ Cert.ScConvFRefIdeal.sig) → Buf (Elt Ideal) ℓ) (g' : Dev Cert.ScConvFRefIdeal.nD → PrngReg), Pre_ScConvFIdeal m →
    (∀ c : Dev Cert.ScConvFIdeal.nD,
      m' ((c.tc : Thread Cert.ScConvFRefIdeal.nD Cert.ScConvFRefIdeal.τ).loc Cert.ScConvFRefIdeal.main_arg0) = m ((c.tc : Thread Cert.ScConvFIdeal.nD Cert.ScConvFIdeal.τ).loc Cert.ScConvFIdeal.main_arg0)
      ∧ m' ((c.tc : Thread Cert.ScConvFRefIdeal.nD Cert.ScConvFRefIdeal.τ).loc Cert.ScConvFRefIdeal.main_arg1) = m ((c.tc : Thread Cert.ScConvFIdeal.nD Cert.ScConvFIdeal.τ).loc Cert.ScConvFIdeal.main_arg1)) →
    ∃ (v0 : (c : Dev Cert.ScConvFIdeal.nD) → Buf (Elt Ideal) ((c.tc : Thread Cert.ScConvFIdeal.nD Cert.ScConvFIdeal.τ).loc Cert.ScConvFIdeal.main_v2)),
      θ_run (Cert.ScConvFIdeal.defs (F := Ideal)) (onTc (τ := Cert.ScConvFIdeal.τ) (Cert.ScConvFIdeal.main (F := Ideal))) ⟨m, fun _ => 0, g⟩ (fun r => ∀ c : Dev Cert.ScConvFIdeal.nD,
          r.2.mem ((c.tc : Thread Cert.ScConvFIdeal.nD Cert.ScConvFIdeal.τ).loc Cert.ScConvFIdeal.main_v2) = v0 c
          ∧ r.2.mem ((c.tc : Thread Cert.ScConvFIdeal.nD Cert.ScConvFIdeal.τ).loc Cert.ScConvFIdeal.main_arg0) = m ((c.tc : Thread Cert.ScConvFIdeal.nD Cert.ScConvFIdeal.τ).loc Cert.ScConvFIdeal.main_arg0)
          ∧ r.2.mem ((c.tc : Thread Cert.ScConvFIdeal.nD Cert.ScConvFIdeal.τ).loc Cert.ScConvFIdeal.main_arg1) = m ((c.tc : Thread Cert.ScConvFIdeal.nD Cert.ScConvFIdeal.τ).loc Cert.ScConvFIdeal.main_arg1))
      ∧ θ_run (Cert.ScConvFRefIdeal.defs (F := Ideal)) (onTc (τ := Cert.ScConvFRefIdeal.τ) (Cert.ScConvFRefIdeal.main (F := Ideal))) ⟨m', fun _ => 0, g'⟩ (fun r => ∀ c : Dev Cert.ScConvFRefIdeal.nD,
          r.2.mem ((c.tc : Thread Cert.ScConvFRefIdeal.nD Cert.ScConvFRefIdeal.τ).loc Cert.ScConvFRefIdeal.main_v32) = v0 c
          ∧ r.2.mem ((c.tc : Thread Cert.ScConvFRefIdeal.nD Cert.ScConvFRefIdeal.τ).loc Cert.ScConvFRefIdeal.main_arg0) = m' ((c.tc : Thread Cert.ScConvFRefIdeal.nD Cert.ScConvFRefIdeal.τ).loc Cert.ScConvFRefIdeal.main_arg0)
          ∧ r.2.mem ((c.tc : Thread Cert.ScConvFRefIdeal.nD Cert.ScConvFRefIdeal.τ).loc Cert.ScConvFRefIdeal.main_arg1) = m' ((c.tc : Thread Cert.ScConvFRefIdeal.nD Cert.ScConvFRefIdeal.τ).loc Cert.ScConvFRefIdeal.main_arg1))

def preserves_MConvF_MConvFIdeal : Prop :=
  True

def algebraic_MConvFIdeal_MConvFRefIdeal [hMConvFIdeal : Cert.MConvFIdeal.Facts] [hMConvFRefIdeal : Cert.MConvFRefIdeal.Facts] : Prop :=
  ∀ (m : (ℓ : Loc Cert.MConvFIdeal.nD Cert.MConvFIdeal.τ Cert.MConvFIdeal.sig) → Buf (Elt Ideal) ℓ) (g : Dev Cert.MConvFIdeal.nD → PrngReg)
    (m' : (ℓ : Loc Cert.MConvFRefIdeal.nD Cert.MConvFRefIdeal.τ Cert.MConvFRefIdeal.sig) → Buf (Elt Ideal) ℓ) (g' : Dev Cert.MConvFRefIdeal.nD → PrngReg), Pre_MConvFIdeal m →
    (∀ c : Dev Cert.MConvFIdeal.nD,
      m' ((c.tc : Thread Cert.MConvFRefIdeal.nD Cert.MConvFRefIdeal.τ).loc Cert.MConvFRefIdeal.main_arg0) = m ((c.tc : Thread Cert.MConvFIdeal.nD Cert.MConvFIdeal.τ).loc Cert.MConvFIdeal.main_arg0)
      ∧ m' ((c.tc : Thread Cert.MConvFRefIdeal.nD Cert.MConvFRefIdeal.τ).loc Cert.MConvFRefIdeal.main_arg1) = m ((c.tc : Thread Cert.MConvFIdeal.nD Cert.MConvFIdeal.τ).loc Cert.MConvFIdeal.main_arg1)
      ∧ m' ((c.tc : Thread Cert.MConvFRefIdeal.nD Cert.MConvFRefIdeal.τ).loc Cert.MConvFRefIdeal.main_arg2) = m ((c.tc : Thread Cert.MConvFIdeal.nD Cert.MConvFIdeal.τ).loc Cert.MConvFIdeal.main_arg2)) →
    ∃ (v0 : (c : Dev Cert.MConvFIdeal.nD) → Buf (Elt Ideal) ((c.tc : Thread Cert.MConvFIdeal.nD Cert.MConvFIdeal.τ).loc Cert.MConvFIdeal.main_v3)),
      θ_run (Cert.MConvFIdeal.defs (F := Ideal)) (onTc (τ := Cert.MConvFIdeal.τ) (Cert.MConvFIdeal.main (F := Ideal))) ⟨m, fun _ => 0, g⟩ (fun r => ∀ c : Dev Cert.MConvFIdeal.nD,
          r.2.mem ((c.tc : Thread Cert.MConvFIdeal.nD Cert.MConvFIdeal.τ).loc Cert.MConvFIdeal.main_v3) = v0 c
          ∧ r.2.mem ((c.tc : Thread Cert.MConvFIdeal.nD Cert.MConvFIdeal.τ).loc Cert.MConvFIdeal.main_arg0) = m ((c.tc : Thread Cert.MConvFIdeal.nD Cert.MConvFIdeal.τ).loc Cert.MConvFIdeal.main_arg0)
          ∧ r.2.mem ((c.tc : Thread Cert.MConvFIdeal.nD Cert.MConvFIdeal.τ).loc Cert.MConvFIdeal.main_arg1) = m ((c.tc : Thread Cert.MConvFIdeal.nD Cert.MConvFIdeal.τ).loc Cert.MConvFIdeal.main_arg1)
          ∧ r.2.mem ((c.tc : Thread Cert.MConvFIdeal.nD Cert.MConvFIdeal.τ).loc Cert.MConvFIdeal.main_arg2) = m ((c.tc : Thread Cert.MConvFIdeal.nD Cert.MConvFIdeal.τ).loc Cert.MConvFIdeal.main_arg2))
      ∧ θ_run (Cert.MConvFRefIdeal.defs (F := Ideal)) (onTc (τ := Cert.MConvFRefIdeal.τ) (Cert.MConvFRefIdeal.main (F := Ideal))) ⟨m', fun _ => 0, g'⟩ (fun r => ∀ c : Dev Cert.MConvFRefIdeal.nD,
          r.2.mem ((c.tc : Thread Cert.MConvFRefIdeal.nD Cert.MConvFRefIdeal.τ).loc Cert.MConvFRefIdeal.main_v39) = v0 c
          ∧ r.2.mem ((c.tc : Thread Cert.MConvFRefIdeal.nD Cert.MConvFRefIdeal.τ).loc Cert.MConvFRefIdeal.main_arg0) = m' ((c.tc : Thread Cert.MConvFRefIdeal.nD Cert.MConvFRefIdeal.τ).loc Cert.MConvFRefIdeal.main_arg0)
          ∧ r.2.mem ((c.tc : Thread Cert.MConvFRefIdeal.nD Cert.MConvFRefIdeal.τ).loc Cert.MConvFRefIdeal.main_arg1) = m' ((c.tc : Thread Cert.MConvFRefIdeal.nD Cert.MConvFRefIdeal.τ).loc Cert.MConvFRefIdeal.main_arg1)
          ∧ r.2.mem ((c.tc : Thread Cert.MConvFRefIdeal.nD Cert.MConvFRefIdeal.τ).loc Cert.MConvFRefIdeal.main_arg2) = m' ((c.tc : Thread Cert.MConvFRefIdeal.nD Cert.MConvFRefIdeal.τ).loc Cert.MConvFRefIdeal.main_arg2))

def preserves_LossH_LossHIdeal : Prop :=
  True

def algebraic_LossHIdeal_LossHRefIdeal [hLossHIdeal : Cert.LossHIdeal.Facts] [hLossHRefIdeal : Cert.LossHRefIdeal.Facts] : Prop :=
  ∀ (m : (ℓ : Loc Cert.LossHIdeal.nD Cert.LossHIdeal.τ Cert.LossHIdeal.sig) → Buf (Elt Ideal) ℓ) (g : Dev Cert.LossHIdeal.nD → PrngReg)
    (m' : (ℓ : Loc Cert.LossHRefIdeal.nD Cert.LossHRefIdeal.τ Cert.LossHRefIdeal.sig) → Buf (Elt Ideal) ℓ) (g' : Dev Cert.LossHRefIdeal.nD → PrngReg), Pre_LossHIdeal m →
    (∀ c : Dev Cert.LossHIdeal.nD,
      m' ((c.tc : Thread Cert.LossHRefIdeal.nD Cert.LossHRefIdeal.τ).loc Cert.LossHRefIdeal.main_arg0) = m ((c.tc : Thread Cert.LossHIdeal.nD Cert.LossHIdeal.τ).loc Cert.LossHIdeal.main_arg0)
      ∧ m' ((c.tc : Thread Cert.LossHRefIdeal.nD Cert.LossHRefIdeal.τ).loc Cert.LossHRefIdeal.main_arg1) = m ((c.tc : Thread Cert.LossHIdeal.nD Cert.LossHIdeal.τ).loc Cert.LossHIdeal.main_arg1)
      ∧ m' ((c.tc : Thread Cert.LossHRefIdeal.nD Cert.LossHRefIdeal.τ).loc Cert.LossHRefIdeal.main_arg2) = m ((c.tc : Thread Cert.LossHIdeal.nD Cert.LossHIdeal.τ).loc Cert.LossHIdeal.main_arg2)) →
    ∃ (v0 : (c : Dev Cert.LossHIdeal.nD) → Buf (Elt Ideal) ((c.tc : Thread Cert.LossHIdeal.nD Cert.LossHIdeal.τ).loc Cert.LossHIdeal.main_v1_0)) (v1 : (c : Dev Cert.LossHIdeal.nD) → Buf (Elt Ideal) ((c.tc : Thread Cert.LossHIdeal.nD Cert.LossHIdeal.τ).loc Cert.LossHIdeal.main_v1_1)) (v2 : (c : Dev Cert.LossHIdeal.nD) → Buf (Elt Ideal) ((c.tc : Thread Cert.LossHIdeal.nD Cert.LossHIdeal.τ).loc Cert.LossHIdeal.main_v1_2)),
      θ_run (Cert.LossHIdeal.defs (F := Ideal)) (onTc (τ := Cert.LossHIdeal.τ) (Cert.LossHIdeal.main (F := Ideal))) ⟨m, fun _ => 0, g⟩ (fun r => ∀ c : Dev Cert.LossHIdeal.nD,
          r.2.mem ((c.tc : Thread Cert.LossHIdeal.nD Cert.LossHIdeal.τ).loc Cert.LossHIdeal.main_v1_0) = v0 c
          ∧ r.2.mem ((c.tc : Thread Cert.LossHIdeal.nD Cert.LossHIdeal.τ).loc Cert.LossHIdeal.main_v1_1) = v1 c
          ∧ r.2.mem ((c.tc : Thread Cert.LossHIdeal.nD Cert.LossHIdeal.τ).loc Cert.LossHIdeal.main_v1_2) = v2 c
          ∧ r.2.mem ((c.tc : Thread Cert.LossHIdeal.nD Cert.LossHIdeal.τ).loc Cert.LossHIdeal.main_arg0) = m ((c.tc : Thread Cert.LossHIdeal.nD Cert.LossHIdeal.τ).loc Cert.LossHIdeal.main_arg0)
          ∧ r.2.mem ((c.tc : Thread Cert.LossHIdeal.nD Cert.LossHIdeal.τ).loc Cert.LossHIdeal.main_arg1) = m ((c.tc : Thread Cert.LossHIdeal.nD Cert.LossHIdeal.τ).loc Cert.LossHIdeal.main_arg1)
          ∧ r.2.mem ((c.tc : Thread Cert.LossHIdeal.nD Cert.LossHIdeal.τ).loc Cert.LossHIdeal.main_arg2) = m ((c.tc : Thread Cert.LossHIdeal.nD Cert.LossHIdeal.τ).loc Cert.LossHIdeal.main_arg2))
      ∧ θ_run (Cert.LossHRefIdeal.defs (F := Ideal)) (onTc (τ := Cert.LossHRefIdeal.τ) (Cert.LossHRefIdeal.main (F := Ideal))) ⟨m', fun _ => 0, g'⟩ (fun r => ∀ c : Dev Cert.LossHRefIdeal.nD,
          r.2.mem ((c.tc : Thread Cert.LossHRefIdeal.nD Cert.LossHRefIdeal.τ).loc Cert.LossHRefIdeal.main_v50) = v0 c
          ∧ r.2.mem ((c.tc : Thread Cert.LossHRefIdeal.nD Cert.LossHRefIdeal.τ).loc Cert.LossHRefIdeal.main_v51) = v1 c
          ∧ r.2.mem ((c.tc : Thread Cert.LossHRefIdeal.nD Cert.LossHRefIdeal.τ).loc Cert.LossHRefIdeal.main_v52) = v2 c
          ∧ r.2.mem ((c.tc : Thread Cert.LossHRefIdeal.nD Cert.LossHRefIdeal.τ).loc Cert.LossHRefIdeal.main_arg0) = m' ((c.tc : Thread Cert.LossHRefIdeal.nD Cert.LossHRefIdeal.τ).loc Cert.LossHRefIdeal.main_arg0)
          ∧ r.2.mem ((c.tc : Thread Cert.LossHRefIdeal.nD Cert.LossHRefIdeal.τ).loc Cert.LossHRefIdeal.main_arg1) = m' ((c.tc : Thread Cert.LossHRefIdeal.nD Cert.LossHRefIdeal.τ).loc Cert.LossHRefIdeal.main_arg1)
          ∧ r.2.mem ((c.tc : Thread Cert.LossHRefIdeal.nD Cert.LossHRefIdeal.τ).loc Cert.LossHRefIdeal.main_arg2) = m' ((c.tc : Thread Cert.LossHRefIdeal.nD Cert.LossHRefIdeal.τ).loc Cert.LossHRefIdeal.main_arg2))

def Claim : Prop :=
  ∃ (hScConv : Cert.ScConv.Facts) (hScConvIdeal : Cert.ScConvIdeal.Facts) (hScConvRefIdeal : Cert.ScConvRefIdeal.Facts) (hDAct : Cert.DAct.Facts) (hDActIdeal : Cert.DActIdeal.Facts) (hDActRefIdeal : Cert.DActRefIdeal.Facts) (hDWd : Cert.DWd.Facts) (hDWdIdeal : Cert.DWdIdeal.Facts) (hDWdRefIdeal : Cert.DWdRefIdeal.Facts) (hDWg : Cert.DWg.Facts) (hDWgIdeal : Cert.DWgIdeal.Facts) (hDWgRefIdeal : Cert.DWgRefIdeal.Facts) (hDXn : Cert.DXn.Facts) (hDXnIdeal : Cert.DXnIdeal.Facts) (hDXnRefIdeal : Cert.DXnRefIdeal.Facts) (hDXnU : Cert.DXnU.Facts) (hDXnUIdeal : Cert.DXnUIdeal.Facts) (hDXnURefIdeal : Cert.DXnURefIdeal.Facts) (hDMerged : Cert.DMerged.Facts) (hDMergedIdeal : Cert.DMergedIdeal.Facts) (hDMergedRefIdeal : Cert.DMergedRefIdeal.Facts) (hDWo : Cert.DWo.Facts) (hDWoIdeal : Cert.DWoIdeal.Facts) (hDWoRefIdeal : Cert.DWoRefIdeal.Facts) (hDScW : Cert.DScW.Facts) (hDScWIdeal : Cert.DScWIdeal.Facts) (hDScWRefIdeal : Cert.DScWRefIdeal.Facts) (hDV : Cert.DV.Facts) (hDVIdeal : Cert.DVIdeal.Facts) (hDVRefIdeal : Cert.DVRefIdeal.Facts) (hDMW : Cert.DMW.Facts) (hDMWIdeal : Cert.DMWIdeal.Facts) (hDMWRefIdeal : Cert.DMWRefIdeal.Facts) (hDYn : Cert.DYn.Facts) (hDYnIdeal : Cert.DYnIdeal.Facts) (hDYnRefIdeal : Cert.DYnRefIdeal.Facts) (hDU : Cert.DU.Facts) (hDUIdeal : Cert.DUIdeal.Facts) (hDURefIdeal : Cert.DURefIdeal.Facts) (hDWin : Cert.DWin.Facts) (hDWinIdeal : Cert.DWinIdeal.Facts) (hDWinRefIdeal : Cert.DWinRefIdeal.Facts) (hDUDt : Cert.DUDt.Facts) (hDUDtIdeal : Cert.DUDtIdeal.Facts) (hDUDtRefIdeal : Cert.DUDtRefIdeal.Facts) (hDWinDt : Cert.DWinDt.Facts) (hDWinDtIdeal : Cert.DWinDtIdeal.Facts) (hDWinDtRefIdeal : Cert.DWinDtRefIdeal.Facts) (hDPle : Cert.DPle.Facts) (hDPleIdeal : Cert.DPleIdeal.Facts) (hDPleRefIdeal : Cert.DPleRefIdeal.Facts) (hDPleProj : Cert.DPleProj.Facts) (hDPleProjIdeal : Cert.DPleProjIdeal.Facts) (hDPleProjRefIdeal : Cert.DPleProjRefIdeal.Facts) (hFfnUp : Cert.FfnUp.Facts) (hFfnUpIdeal : Cert.FfnUpIdeal.Facts) (hFfnUpRefIdeal : Cert.FfnUpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hInProjDt : Cert.InProjDt.Facts) (hInProjDtIdeal : Cert.InProjDtIdeal.Facts) (hInProjDtRefIdeal : Cert.InProjDtRefIdeal.Facts) (hPleProj : Cert.PleProj.Facts) (hPleProjIdeal : Cert.PleProjIdeal.Facts) (hPleProjRefIdeal : Cert.PleProjRefIdeal.Facts) (hScOut : Cert.ScOut.Facts) (hScOutIdeal : Cert.ScOutIdeal.Facts) (hScOutRefIdeal : Cert.ScOutRefIdeal.Facts) (hMOut : Cert.MOut.Facts) (hMOutIdeal : Cert.MOutIdeal.Facts) (hMOutRefIdeal : Cert.MOutRefIdeal.Facts) (hWO : Cert.WO.Facts) (hWOIdeal : Cert.WOIdeal.Facts) (hWORefIdeal : Cert.WORefIdeal.Facts) (hMergeB : Cert.MergeB.Facts) (hMergeBIdeal : Cert.MergeBIdeal.Facts) (hMergeBRefIdeal : Cert.MergeBRefIdeal.Facts) (hPleB : Cert.PleB.Facts) (hPleBIdeal : Cert.PleBIdeal.Facts) (hPleBRefIdeal : Cert.PleBRefIdeal.Facts) (hMConvB : Cert.MConvB.Facts) (hMConvBIdeal : Cert.MConvBIdeal.Facts) (hMConvBRefIdeal : Cert.MConvBRefIdeal.Facts) (hMergeF : Cert.MergeF.Facts) (hMergeFIdeal : Cert.MergeFIdeal.Facts) (hMergeFRefIdeal : Cert.MergeFRefIdeal.Facts) (hPleF : Cert.PleF.Facts) (hPleFIdeal : Cert.PleFIdeal.Facts) (hPleFRefIdeal : Cert.PleFRefIdeal.Facts) (hRms : Cert.Rms.Facts) (hRmsIdeal : Cert.RmsIdeal.Facts) (hRmsRefIdeal : Cert.RmsRefIdeal.Facts) (hGNormF : Cert.GNormF.Facts) (hGNormFIdeal : Cert.GNormFIdeal.Facts) (hGNormFRefIdeal : Cert.GNormFRefIdeal.Facts) (hScConvF : Cert.ScConvF.Facts) (hScConvFIdeal : Cert.ScConvFIdeal.Facts) (hScConvFRefIdeal : Cert.ScConvFRefIdeal.Facts) (hMConvF : Cert.MConvF.Facts) (hMConvFIdeal : Cert.MConvFIdeal.Facts) (hMConvFRefIdeal : Cert.MConvFRefIdeal.Facts) (hLossH : Cert.LossH.Facts) (hLossHIdeal : Cert.LossHIdeal.Facts) (hLossHRefIdeal : Cert.LossHRefIdeal.Facts) (hPre_dact_finite : Cert.Pre_dact_finite.Facts) (hPre_mcb_finite : Cert.Pre_mcb_finite.Facts),
    quiescent_ScConv (hScConv := hScConv)
    ∧ quiescent_ScConvIdeal (hScConvIdeal := hScConvIdeal)
    ∧ quiescent_ScConvRefIdeal (hScConvRefIdeal := hScConvRefIdeal)
    ∧ quiescent_DAct (hDAct := hDAct)
    ∧ quiescent_DActIdeal (hDActIdeal := hDActIdeal)
    ∧ quiescent_DActIdeal_pre_dact_finite (hDActIdeal := hDActIdeal) (hPre_dact_finite := hPre_dact_finite)
    ∧ quiescent_DActRefIdeal (hDActRefIdeal := hDActRefIdeal)
    ∧ quiescent_DActRefIdeal_pre_dact_finite (hDActRefIdeal := hDActRefIdeal) (hPre_dact_finite := hPre_dact_finite)
    ∧ quiescent_DWd (hDWd := hDWd)
    ∧ quiescent_DWdIdeal (hDWdIdeal := hDWdIdeal)
    ∧ quiescent_DWdRefIdeal (hDWdRefIdeal := hDWdRefIdeal)
    ∧ quiescent_DWg (hDWg := hDWg)
    ∧ quiescent_DWgIdeal (hDWgIdeal := hDWgIdeal)
    ∧ quiescent_DWgRefIdeal (hDWgRefIdeal := hDWgRefIdeal)
    ∧ quiescent_DXn (hDXn := hDXn)
    ∧ quiescent_DXnIdeal (hDXnIdeal := hDXnIdeal)
    ∧ quiescent_DXnRefIdeal (hDXnRefIdeal := hDXnRefIdeal)
    ∧ quiescent_DXnU (hDXnU := hDXnU)
    ∧ quiescent_DXnUIdeal (hDXnUIdeal := hDXnUIdeal)
    ∧ quiescent_DXnURefIdeal (hDXnURefIdeal := hDXnURefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DWo (hDWo := hDWo)
    ∧ quiescent_DWoIdeal (hDWoIdeal := hDWoIdeal)
    ∧ quiescent_DWoRefIdeal (hDWoRefIdeal := hDWoRefIdeal)
    ∧ quiescent_DScW (hDScW := hDScW)
    ∧ quiescent_DScWIdeal (hDScWIdeal := hDScWIdeal)
    ∧ quiescent_DScWRefIdeal (hDScWRefIdeal := hDScWRefIdeal)
    ∧ quiescent_DV (hDV := hDV)
    ∧ quiescent_DVIdeal (hDVIdeal := hDVIdeal)
    ∧ quiescent_DVRefIdeal (hDVRefIdeal := hDVRefIdeal)
    ∧ quiescent_DMW (hDMW := hDMW)
    ∧ quiescent_DMWIdeal (hDMWIdeal := hDMWIdeal)
    ∧ quiescent_DMWRefIdeal (hDMWRefIdeal := hDMWRefIdeal)
    ∧ quiescent_DYn (hDYn := hDYn)
    ∧ quiescent_DYnIdeal (hDYnIdeal := hDYnIdeal)
    ∧ quiescent_DYnRefIdeal (hDYnRefIdeal := hDYnRefIdeal)
    ∧ quiescent_DU (hDU := hDU)
    ∧ quiescent_DUIdeal (hDUIdeal := hDUIdeal)
    ∧ quiescent_DURefIdeal (hDURefIdeal := hDURefIdeal)
    ∧ quiescent_DWin (hDWin := hDWin)
    ∧ quiescent_DWinIdeal (hDWinIdeal := hDWinIdeal)
    ∧ quiescent_DWinRefIdeal (hDWinRefIdeal := hDWinRefIdeal)
    ∧ quiescent_DUDt (hDUDt := hDUDt)
    ∧ quiescent_DUDtIdeal (hDUDtIdeal := hDUDtIdeal)
    ∧ quiescent_DUDtRefIdeal (hDUDtRefIdeal := hDUDtRefIdeal)
    ∧ quiescent_DWinDt (hDWinDt := hDWinDt)
    ∧ quiescent_DWinDtIdeal (hDWinDtIdeal := hDWinDtIdeal)
    ∧ quiescent_DWinDtRefIdeal (hDWinDtRefIdeal := hDWinDtRefIdeal)
    ∧ quiescent_DPle (hDPle := hDPle)
    ∧ quiescent_DPleIdeal (hDPleIdeal := hDPleIdeal)
    ∧ quiescent_DPleRefIdeal (hDPleRefIdeal := hDPleRefIdeal)
    ∧ quiescent_DPleProj (hDPleProj := hDPleProj)
    ∧ quiescent_DPleProjIdeal (hDPleProjIdeal := hDPleProjIdeal)
    ∧ quiescent_DPleProjRefIdeal (hDPleProjRefIdeal := hDPleProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjDt (hInProjDt := hInProjDt)
    ∧ quiescent_InProjDtIdeal (hInProjDtIdeal := hInProjDtIdeal)
    ∧ quiescent_InProjDtRefIdeal (hInProjDtRefIdeal := hInProjDtRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_ScOut (hScOut := hScOut)
    ∧ quiescent_ScOutIdeal (hScOutIdeal := hScOutIdeal)
    ∧ quiescent_ScOutRefIdeal (hScOutRefIdeal := hScOutRefIdeal)
    ∧ quiescent_MOut (hMOut := hMOut)
    ∧ quiescent_MOutIdeal (hMOutIdeal := hMOutIdeal)
    ∧ quiescent_MOutRefIdeal (hMOutRefIdeal := hMOutRefIdeal)
    ∧ quiescent_WO (hWO := hWO)
    ∧ quiescent_WOIdeal (hWOIdeal := hWOIdeal)
    ∧ quiescent_WORefIdeal (hWORefIdeal := hWORefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_PleB (hPleB := hPleB)
    ∧ quiescent_PleBIdeal (hPleBIdeal := hPleBIdeal)
    ∧ quiescent_PleBRefIdeal (hPleBRefIdeal := hPleBRefIdeal)
    ∧ quiescent_MConvB (hMConvB := hMConvB)
    ∧ quiescent_MConvBIdeal (hMConvBIdeal := hMConvBIdeal)
    ∧ quiescent_MConvBIdeal_pre_mcb_finite (hMConvBIdeal := hMConvBIdeal) (hPre_mcb_finite := hPre_mcb_finite)
    ∧ quiescent_MConvBRefIdeal (hMConvBRefIdeal := hMConvBRefIdeal)
    ∧ quiescent_MConvBRefIdeal_pre_mcb_finite (hMConvBRefIdeal := hMConvBRefIdeal) (hPre_mcb_finite := hPre_mcb_finite)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_PleF (hPleF := hPleF)
    ∧ quiescent_PleFIdeal (hPleFIdeal := hPleFIdeal)
    ∧ quiescent_PleFRefIdeal (hPleFRefIdeal := hPleFRefIdeal)
    ∧ quiescent_Rms (hRms := hRms)
    ∧ quiescent_RmsIdeal (hRmsIdeal := hRmsIdeal)
    ∧ quiescent_RmsRefIdeal (hRmsRefIdeal := hRmsRefIdeal)
    ∧ quiescent_GNormF (hGNormF := hGNormF)
    ∧ quiescent_GNormFIdeal (hGNormFIdeal := hGNormFIdeal)
    ∧ quiescent_GNormFRefIdeal (hGNormFRefIdeal := hGNormFRefIdeal)
    ∧ quiescent_ScConvF (hScConvF := hScConvF)
    ∧ quiescent_ScConvFIdeal (hScConvFIdeal := hScConvFIdeal)
    ∧ quiescent_ScConvFRefIdeal (hScConvFRefIdeal := hScConvFRefIdeal)
    ∧ quiescent_MConvF (hMConvF := hMConvF)
    ∧ quiescent_MConvFIdeal (hMConvFIdeal := hMConvFIdeal)
    ∧ quiescent_MConvFRefIdeal (hMConvFRefIdeal := hMConvFRefIdeal)
    ∧ quiescent_LossH (hLossH := hLossH)
    ∧ quiescent_LossHIdeal (hLossHIdeal := hLossHIdeal)
    ∧ quiescent_LossHRefIdeal (hLossHRefIdeal := hLossHRefIdeal)
    ∧ preserves_ScConv_ScConvIdeal
    ∧ algebraic_ScConvIdeal_ScConvRefIdeal (hScConvIdeal := hScConvIdeal) (hScConvRefIdeal := hScConvRefIdeal)
    ∧ preserves_DAct_DActIdeal
    ∧ algebraic_DActIdeal_DActRefIdeal_pre_dact_finite (hDActIdeal := hDActIdeal) (hDActRefIdeal := hDActRefIdeal) (hPre_dact_finite := hPre_dact_finite)
    ∧ preserves_DWd_DWdIdeal
    ∧ algebraic_DWdIdeal_DWdRefIdeal (hDWdIdeal := hDWdIdeal) (hDWdRefIdeal := hDWdRefIdeal)
    ∧ preserves_DWg_DWgIdeal
    ∧ algebraic_DWgIdeal_DWgRefIdeal (hDWgIdeal := hDWgIdeal) (hDWgRefIdeal := hDWgRefIdeal)
    ∧ preserves_DXn_DXnIdeal
    ∧ algebraic_DXnIdeal_DXnRefIdeal (hDXnIdeal := hDXnIdeal) (hDXnRefIdeal := hDXnRefIdeal)
    ∧ preserves_DXnU_DXnUIdeal
    ∧ algebraic_DXnUIdeal_DXnURefIdeal (hDXnUIdeal := hDXnUIdeal) (hDXnURefIdeal := hDXnURefIdeal)
    ∧ preserves_DMerged_DMergedIdeal
    ∧ algebraic_DMergedIdeal_DMergedRefIdeal (hDMergedIdeal := hDMergedIdeal) (hDMergedRefIdeal := hDMergedRefIdeal)
    ∧ preserves_DWo_DWoIdeal
    ∧ algebraic_DWoIdeal_DWoRefIdeal (hDWoIdeal := hDWoIdeal) (hDWoRefIdeal := hDWoRefIdeal)
    ∧ preserves_DScW_DScWIdeal
    ∧ algebraic_DScWIdeal_DScWRefIdeal (hDScWIdeal := hDScWIdeal) (hDScWRefIdeal := hDScWRefIdeal)
    ∧ preserves_DV_DVIdeal
    ∧ algebraic_DVIdeal_DVRefIdeal (hDVIdeal := hDVIdeal) (hDVRefIdeal := hDVRefIdeal)
    ∧ preserves_DMW_DMWIdeal
    ∧ algebraic_DMWIdeal_DMWRefIdeal (hDMWIdeal := hDMWIdeal) (hDMWRefIdeal := hDMWRefIdeal)
    ∧ preserves_DYn_DYnIdeal
    ∧ algebraic_DYnIdeal_DYnRefIdeal (hDYnIdeal := hDYnIdeal) (hDYnRefIdeal := hDYnRefIdeal)
    ∧ preserves_DU_DUIdeal
    ∧ algebraic_DUIdeal_DURefIdeal (hDUIdeal := hDUIdeal) (hDURefIdeal := hDURefIdeal)
    ∧ preserves_DWin_DWinIdeal
    ∧ algebraic_DWinIdeal_DWinRefIdeal (hDWinIdeal := hDWinIdeal) (hDWinRefIdeal := hDWinRefIdeal)
    ∧ preserves_DUDt_DUDtIdeal
    ∧ algebraic_DUDtIdeal_DUDtRefIdeal (hDUDtIdeal := hDUDtIdeal) (hDUDtRefIdeal := hDUDtRefIdeal)
    ∧ preserves_DWinDt_DWinDtIdeal
    ∧ algebraic_DWinDtIdeal_DWinDtRefIdeal (hDWinDtIdeal := hDWinDtIdeal) (hDWinDtRefIdeal := hDWinDtRefIdeal)
    ∧ preserves_DPle_DPleIdeal
    ∧ algebraic_DPleIdeal_DPleRefIdeal (hDPleIdeal := hDPleIdeal) (hDPleRefIdeal := hDPleRefIdeal)
    ∧ preserves_DPleProj_DPleProjIdeal
    ∧ algebraic_DPleProjIdeal_DPleProjRefIdeal (hDPleProjIdeal := hDPleProjIdeal) (hDPleProjRefIdeal := hDPleProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_InProjDt_InProjDtIdeal
    ∧ algebraic_InProjDtIdeal_InProjDtRefIdeal (hInProjDtIdeal := hInProjDtIdeal) (hInProjDtRefIdeal := hInProjDtRefIdeal)
    ∧ preserves_PleProj_PleProjIdeal
    ∧ algebraic_PleProjIdeal_PleProjRefIdeal (hPleProjIdeal := hPleProjIdeal) (hPleProjRefIdeal := hPleProjRefIdeal)
    ∧ preserves_ScOut_ScOutIdeal
    ∧ algebraic_ScOutIdeal_ScOutRefIdeal (hScOutIdeal := hScOutIdeal) (hScOutRefIdeal := hScOutRefIdeal)
    ∧ preserves_MOut_MOutIdeal
    ∧ algebraic_MOutIdeal_MOutRefIdeal (hMOutIdeal := hMOutIdeal) (hMOutRefIdeal := hMOutRefIdeal)
    ∧ preserves_WO_WOIdeal
    ∧ algebraic_WOIdeal_WORefIdeal (hWOIdeal := hWOIdeal) (hWORefIdeal := hWORefIdeal)
    ∧ preserves_MergeB_MergeBIdeal
    ∧ algebraic_MergeBIdeal_MergeBRefIdeal (hMergeBIdeal := hMergeBIdeal) (hMergeBRefIdeal := hMergeBRefIdeal)
    ∧ preserves_PleB_PleBIdeal
    ∧ algebraic_PleBIdeal_PleBRefIdeal (hPleBIdeal := hPleBIdeal) (hPleBRefIdeal := hPleBRefIdeal)
    ∧ preserves_MConvB_MConvBIdeal
    ∧ algebraic_MConvBIdeal_MConvBRefIdeal_pre_mcb_finite (hMConvBIdeal := hMConvBIdeal) (hMConvBRefIdeal := hMConvBRefIdeal) (hPre_mcb_finite := hPre_mcb_finite)
    ∧ preserves_MergeF_MergeFIdeal
    ∧ algebraic_MergeFIdeal_MergeFRefIdeal (hMergeFIdeal := hMergeFIdeal) (hMergeFRefIdeal := hMergeFRefIdeal)
    ∧ preserves_PleF_PleFIdeal
    ∧ algebraic_PleFIdeal_PleFRefIdeal (hPleFIdeal := hPleFIdeal) (hPleFRefIdeal := hPleFRefIdeal)
    ∧ preserves_Rms_RmsIdeal
    ∧ algebraic_RmsIdeal_RmsRefIdeal (hRmsIdeal := hRmsIdeal) (hRmsRefIdeal := hRmsRefIdeal)
    ∧ preserves_GNormF_GNormFIdeal
    ∧ algebraic_GNormFIdeal_GNormFRefIdeal (hGNormFIdeal := hGNormFIdeal) (hGNormFRefIdeal := hGNormFRefIdeal)
    ∧ preserves_ScConvF_ScConvFIdeal
    ∧ algebraic_ScConvFIdeal_ScConvFRefIdeal (hScConvFIdeal := hScConvFIdeal) (hScConvFRefIdeal := hScConvFRefIdeal)
    ∧ preserves_MConvF_MConvFIdeal
    ∧ algebraic_MConvFIdeal_MConvFRefIdeal (hMConvFIdeal := hMConvFIdeal) (hMConvFRefIdeal := hMConvFRefIdeal)
    ∧ preserves_LossH_LossHIdeal
    ∧ algebraic_LossHIdeal_LossHRefIdeal (hLossHIdeal := hLossHIdeal) (hLossHRefIdeal := hLossHRefIdeal)
-- ==== Pre_dact_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x2816 .f32 := (extf .f32 · bitsLt_bf16_f32) main_arg3
  let main_v8 : FVec F S4096x2816 .f32 := Host.absf main_v7
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  (main_v2, main_v6, main_v10)
-- ==== Pre_mcb_finite.lean ====
abbrev S4096x3072 : Shape := ⟨2, ![4096, 3072]⟩
abbrev S4096x10240 : Shape := ⟨2, ![4096, 10240]⟩
abbrev S4x4x3072 : Shape := ⟨3, ![4, 4, 3072]⟩
abbrev S4x3072 : Shape := ⟨2, ![4, 3072]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)

variable [Facts]

def fn {F : FTy → Type} [FloatOps F] (main_arg0 : FVec F S4096x3072 .bf16) (main_arg1 : FVec F S4096x10240 .bf16) (main_arg2 : FVec F S4x4x3072 .f32) (main_arg3 : FVec F S4x3072 .f32) : IVec S4096x3072 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  main_v3
-- ==== ScConv.lean ====
abbrev S4096x1024 : Shape := ⟨2, ![4096, 1024]⟩
abbrev S4096x10240 : Shape := ⟨2, ![4096, 10240]⟩
abbrev S4x3x1024 : Shape := ⟨3, ![4, 3, 1024]⟩
abbrev S_ : Shape := ⟨0, ![]⟩
abbrev S4x5x1024 : Shape := ⟨3, ![4, 5, 1024]⟩
abbrev S4x8x1024 : Shape := ⟨3, ![4, 8, 1024]⟩
abbrev S8x1024 : Shape := ⟨2, ![8, 1024]⟩
abbrev S512x512 : Shape := ⟨2, ![512, 512]⟩
abbrev S16x512 : Shape := ⟨2, ![16, 512]⟩
abbrev S1x8x512 : Shape := ⟨3, ![1, 8, 512]⟩
abbrev S8x512 : Shape := ⟨2, ![8, 512]⟩
abbrev S528x512 : Shape := ⟨2, ![528, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 10
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S4x3x1024, .f32⟩
  | .hbm, ⟨3, _⟩ => ⟨S_, .f32⟩
  | .hbm, ⟨4, _⟩ => ⟨S4x5x1024, .f32⟩
  | .hbm, ⟨5, _⟩ => ⟨S4x8x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S1x8x512, .f32⟩
  | .local _ .vmem, ⟨17, _⟩ => ⟨S1x8x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S8x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c4_i32 : BitVec 32 := 4#32
  let v3 : BitVec 32 := Scalar.addi c4_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScConvRefIdeal.lean ====
abbrev S4096x1024 : Shape := ⟨2, ![4096, 1024]⟩
abbrev S4096x10240 : Shape := ⟨2, ![4096, 10240]⟩
abbrev S4x3x1024 : Shape := ⟨3, ![4, 3, 1024]⟩
abbrev S1x3x1024 : Shape := ⟨3, ![1, 3, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S4x3x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1x3x1024, .f32⟩
  | .hbm, ⟨10, _⟩ => ⟨S3x1024, .f32⟩
  | .hbm, ⟨11, _⟩ => ⟨S_, .f32⟩
  | .hbm, ⟨12, _⟩ => ⟨S2x1024, .f32⟩
  | .hbm, ⟨13, _⟩ => ⟨S4096x1024, .f32⟩
  | .hbm, ⟨14, _⟩ => ⟨S4098x1024, .f32⟩
  | .hbm, ⟨15, _⟩ => ⟨S_, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S4098x1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S2x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .bf16⟩
  | .hbm, ⟨89, _⟩ => ⟨S4096x1024, .bf16⟩
  | .hbm, ⟨90, _⟩ => ⟨S4096x1024, .bf16⟩
  | .hbm, ⟨91, _⟩ => ⟨S_, .f32⟩
  | .hbm, ⟨92, _⟩ => ⟨S5x1024, .f32⟩
  | .hbm, ⟨93, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DActRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== DWd.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DWg.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWgRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DXn.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXnRefIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S_, .f32⟩
  | .hbm, ⟨3, _⟩ => ⟨S4096x1024, .f32⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DXnU.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S4x1x1024, .f32⟩
  | .hbm, ⟨7, _⟩ => ⟨S4096x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DXnURefIdeal.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .bf16⟩
  | .hbm, ⟨29, _⟩ => ⟨S1024x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== DMerged.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWo.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWoRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DScW.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DScWRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DV.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DVRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMW.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMWRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DYn.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYnRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DU.lean ====
abbrev S4096x10240 : Shape := ⟨2, ![4096, 10240]⟩
abbrev S10240x1024 : Shape := ⟨2, ![10240, 1024]⟩
abbrev S4096x1024 : Shape := ⟨2, ![4096, 1024]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S10240x1024, .bf16⟩
  | .hbm, ⟨2, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DURefIdeal.lean ====
abbrev S4096x10240 : Shape := ⟨2, ![4096, 10240]⟩
abbrev S10240x1024 : Shape := ⟨2, ![10240, 1024]⟩
abbrev S_ : Shape := ⟨0, ![]⟩
abbrev S4096x1024 : Shape := ⟨2, ![4096, 1024]⟩
abbrev S1024x10240 : Shape := ⟨2, ![1024, 10240]⟩

abbrev nBuf : Space → Nat
  | .hbm => 9
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S10240x1024, .bf16⟩
  | .hbm, ⟨2, _⟩ => ⟨S_, .f32⟩
  | .hbm, ⟨3, _⟩ => ⟨S4096x1024, .f32⟩
  | .hbm, ⟨4, _⟩ => ⟨S1024x10240, .bf16⟩
  | .hbm, ⟨5, _⟩ => ⟨S1024x10240, .f32⟩
  | .hbm, ⟨6, _⟩ => ⟨S4096x10240, .f32⟩
  | .hbm, ⟨7, _⟩ => ⟨S4096x10240, .f32⟩
  | .hbm, ⟨8, _⟩ => ⟨S4096x1024, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWin.lean ====
abbrev S4096x10240 : Shape := ⟨2, ![4096, 10240]⟩
abbrev S4096x1024 : Shape := ⟨2, ![4096, 1024]⟩
abbrev S10240x1024 : Shape := ⟨2, ![10240, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S10240x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWinRefIdeal.lean ====
abbrev S4096x10240 : Shape := ⟨2, ![4096, 10240]⟩
abbrev S4096x1024 : Shape := ⟨2, ![4096, 1024]⟩
abbrev S_ : Shape := ⟨0, ![]⟩
abbrev S10240x1024 : Shape := ⟨2, ![10240, 1024]⟩
abbrev S1024x10240 : Shape := ⟨2, ![1024, 10240]⟩

abbrev nBuf : Space → Nat
  | .hbm => 12
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S_, .f32⟩
  | .hbm, ⟨3, _⟩ => ⟨S10240x1024, .f32⟩
  | .hbm, ⟨4, _⟩ => ⟨S1024x10240, .f32⟩
  | .hbm, ⟨5, _⟩ => ⟨S4096x1024, .f32⟩
  | .hbm, ⟨6, _⟩ => ⟨S4096x10240, .f32⟩
  | .hbm, ⟨7, _⟩ => ⟨S4096x10240, .f32⟩
  | .hbm, ⟨8, _⟩ => ⟨S10240x1024, .f32⟩
  | .hbm, ⟨9, _⟩ => ⟨S1024x10240, .f32⟩
  | .hbm, ⟨10, _⟩ => ⟨S10240x1024, .f32⟩
  | .hbm, ⟨11, _⟩ => ⟨S10240x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DUDt.lean ====
abbrev S4096x32 : Shape := ⟨2, ![4096, 32]⟩
abbrev S32x1024 : Shape := ⟨2, ![32, 1024]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x32 : Shape := ⟨2, ![512, 32]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x32, .f32⟩
  | .hbm, ⟨1, _⟩ => ⟨S32x1024, .bf16⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S4x1x1024, .f32⟩
  | .hbm, ⟨7, _⟩ => ⟨S4096x1024, .f32⟩
  | .hbm, ⟨8, _⟩ => ⟨S1x1024, .f32⟩
  | .local _ .vmem, ⟨0, _⟩ => ⟨S512x32, .f32⟩
  | .local _ .vmem, ⟨1, _⟩ => ⟨S512x32, .f32⟩
  | .local _ .vmem, ⟨2, _⟩ => ⟨S32x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DUDtRefIdeal.lean ====
abbrev S4096x32 : Shape := ⟨2, ![4096, 32]⟩
abbrev S32x1024 : Shape := ⟨2, ![32, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x32 : Shape := ⟨2, ![1024, 32]⟩

abbrev nBuf : Space → Nat
  | .hbm => 60
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S32x1024, .bf16⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x32, .bf16⟩
  | .hbm, ⟨29, _⟩ => ⟨S1024x32, .f32⟩
  | .hbm, ⟨30, _⟩ => ⟨S4096x32, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DWinDt.lean ====
abbrev S4096x32 : Shape := ⟨2, ![4096, 32]⟩
abbrev S4096x1024 : Shape := ⟨2, ![4096, 1024]⟩
abbrev S32x1024 : Shape := ⟨2, ![32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x32, .f32⟩
  | .hbm, ⟨1, _⟩ => ⟨S4096x1024, .bf16⟩
  | .hbm, ⟨2, _⟩ => ⟨S32x1024, .bf16⟩
  | .local _ .vmem, ⟨0, _⟩ => ⟨S4096x32, .f32⟩
  | .local _ .vmem, ⟨1, _⟩ => ⟨S4096x1024, .bf16⟩
  | .local _ .vmem, ⟨2, _⟩ => ⟨S32x1024, .bf16⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWinDtRefIdeal.lean ====
abbrev S4096x32 : Shape := ⟨2, ![4096, 32]⟩
abbrev S4096x1024 : Shape := ⟨2, ![4096, 1024]⟩
abbrev S_ : Shape := ⟨0, ![]⟩
abbrev S32x1024 : Shape := ⟨2, ![32, 1024]⟩
abbrev S1024x32 : Shape := ⟨2, ![1024, 32]⟩

abbrev nBuf : Space → Nat
  | .hbm => 11
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x1024, .bf16⟩
  | .hbm, ⟨2, _⟩ => ⟨S_, .f32⟩
  | .hbm, ⟨3, _⟩ => ⟨S32x1024, .f32⟩
  | .hbm, ⟨4, _⟩ => ⟨S1024x32, .f32⟩
  | .hbm, ⟨5, _⟩ => ⟨S4096x1024, .f32⟩
  | .hbm, ⟨6, _⟩ => ⟨S4096x32, .f32⟩
  | .hbm, ⟨7, _⟩ => ⟨S32x1024, .f32⟩
  | .hbm, ⟨8, _⟩ => ⟨S1024x32, .f32⟩
  | .hbm, ⟨9, _⟩ => ⟨S32x1024, .f32⟩
  | .hbm, ⟨10, _⟩ => ⟨S32x1024, .bf16⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DPle.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DPleRefIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== DPleProj.lean ====
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1024x256, .bf16⟩
  | .local _ .vmem, ⟨0, _⟩ => ⟨S4096x1024, .bf16⟩
  | .local _ .vmem, ⟨1, _⟩ => ⟨S4096x256, .f32⟩
  | .local _ .vmem, ⟨2, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DPleProjRefIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S_, .f32⟩
  | .hbm, ⟨3, _⟩ => ⟨S1024x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnUp.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S1024x2816, .bf16⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S1024x2816, .bf16⟩
  | .hbm, ⟨8, _⟩ => ⟨S4096x1024, .f32⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InProj.lean ====
abbrev S4096x1024 : Shape := ⟨2, ![4096, 1024]⟩
abbrev S10240x1024 : Shape := ⟨2, ![10240, 1024]⟩
abbrev S4096x10240 : Shape := ⟨2, ![4096, 10240]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S10240x1024, .bf16⟩
  | .hbm, ⟨2, _⟩ => ⟨S4096x10240, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S10240x1024 : Shape := ⟨2, ![10240, 1024]⟩
abbrev S1024x10240 : Shape := ⟨2, ![1024, 10240]⟩
abbrev S4096x10240 : Shape := ⟨2, ![4096, 10240]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S10240x1024, .bf16⟩
  | .hbm, ⟨2, _⟩ => ⟨S1024x10240, .bf16⟩
  | .hbm, ⟨3, _⟩ => ⟨S4096x1024, .f32⟩
  | .hbm, ⟨4, _⟩ => ⟨S1024x10240, .f32⟩
  | .hbm, ⟨5, _⟩ => ⟨S4096x10240, .f32⟩
  | .hbm, ⟨6, _⟩ => ⟨S4096x10240, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProjDt.lean ====
abbrev S4096x1024 : Shape := ⟨2, ![4096, 1024]⟩
abbrev S32x1024 : Shape := ⟨2, ![32, 1024]⟩
abbrev S4096x32 : Shape := ⟨2, ![4096, 32]⟩
abbrev S1024x1024 : Shape := ⟨2, ![1024, 1024]⟩
abbrev S1024x32 : Shape := ⟨2, ![1024, 32]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S32x1024, .bf16⟩
  | .hbm, ⟨2, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S32x1024, .bf16⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDtRefIdeal.lean ====
abbrev S4096x1024 : Shape := ⟨2, ![4096, 1024]⟩
abbrev S32x1024 : Shape := ⟨2, ![32, 1024]⟩
abbrev S1024x32 : Shape := ⟨2, ![1024, 32]⟩
abbrev S4096x32 : Shape := ⟨2, ![4096, 32]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S32x1024, .bf16⟩
  | .hbm, ⟨2, _⟩ => ⟨S1024x32, .bf16⟩
  | .hbm, ⟨3, _⟩ => ⟨S4096x1024, .f32⟩
  | .hbm, ⟨4, _⟩ => ⟨S1024x32, .f32⟩
  | .hbm, ⟨5, _⟩ => ⟨S4096x32, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PleProj.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S256x1024, .bf16⟩
  | .hbm, ⟨3, _⟩ => ⟨S256x1024, .f32⟩
  | .hbm, ⟨4, _⟩ => ⟨S4096x1024, .f32⟩
  | .hbm, ⟨5, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WO.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WORefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeB.lean ====
abbrev S4096x1024 : Shape := ⟨2, ![4096, 1024]⟩
abbrev S4096x10240 : Shape := ⟨2, ![4096, 10240]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBRefIdeal.lean ====
abbrev S4096x1024 : Shape := ⟨2, ![4096, 1024]⟩
abbrev S4096x10240 : Shape := ⟨2, ![4096, 10240]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== PleB.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBRefIdeal.lean ====
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MConvB.lean ====
abbrev S4096x3072 : Shape := ⟨2, ![4096, 3072]⟩
abbrev S4096x10240 : Shape := ⟨2, ![4096, 10240]⟩
abbrev S4x4x3072 : Shape := ⟨3, ![4, 4, 3072]⟩
abbrev S4x3072 : Shape := ⟨2, ![4, 3072]⟩
abbrev S_ : Shape := ⟨0, ![]⟩
abbrev S4x8x3072 : Shape := ⟨3, ![4, 8, 3072]⟩
abbrev S4x1x3072 : Shape := ⟨3, ![4, 1, 3072]⟩
abbrev S8x3072 : Shape := ⟨2, ![8, 3072]⟩
abbrev S1x3072 : Shape := ⟨2, ![1, 3072]⟩
abbrev S512x512 : Shape := ⟨2, ![512, 512]⟩
abbrev S16x512 : Shape := ⟨2, ![16, 512]⟩
abbrev S1x8x512 : Shape := ⟨3, ![1, 8, 512]⟩
abbrev S1x1x512 : Shape := ⟨3, ![1, 1, 512]⟩
abbrev S8x512 : Shape := ⟨2, ![8, 512]⟩
abbrev S1x512 : Shape := ⟨2, ![1, 512]⟩
abbrev S544x512 : Shape := ⟨2, ![544, 512]⟩
abbrev S528x512 : Shape := ⟨2, ![528, 512]⟩
abbrev S512 : Shape := ⟨1, ![512]⟩

abbrev nBuf : Space → Nat
  | .hbm => 11
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x10240, .bf16⟩
  | .hbm, ⟨2, _⟩ => ⟨S4x4x3072, .f32⟩
  | .hbm, ⟨3, _⟩ => ⟨S4x3072, .f32⟩
  | .hbm, ⟨4, _⟩ => ⟨S_, .f32⟩
  | .hbm, ⟨5, _⟩ => ⟨S4x4x3072, .f32⟩
  | .hbm, ⟨6, _⟩ => ⟨S4x8x3072, .f32⟩
  | .hbm, ⟨7, _⟩ => ⟨S4x1x3072, .f32⟩
  | .hbm, ⟨8, _⟩ => ⟨S4096x3072, .bf16⟩
  | .hbm, ⟨9, _⟩ => ⟨S8x3072, .f32⟩
  | .hbm, ⟨10, _⟩ => ⟨S1x3072, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S1x8x512, .f32⟩
  | .local _ .vmem, ⟨11, _⟩ => ⟨S1x8x512, .f32⟩
  | .local _ .vmem, ⟨12, _⟩ => ⟨S1x1x512, .f32⟩
  | .local _ .vmem, ⟨13, _⟩ => ⟨S1x1x512, .f32⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let v3 : BitVec 32 := Scalar.addi c14_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c14_i32 : BitVec 32 := 14#32
  let v3 : BitVec 32 := Scalar.addi c14_i32 arg0
  let c0_i32 : BitVec 32 := 0#32
  ![v2.toNat, v3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MConvBRefIdeal.lean ====
abbrev S4096x3072 : Shape := ⟨2, ![4096, 3072]⟩
abbrev S4096x10240 : Shape := ⟨2, ![4096, 10240]⟩
abbrev S4x4x3072 : Shape := ⟨3, ![4, 4, 3072]⟩
abbrev S4x3072 : Shape := ⟨2, ![4, 3072]⟩
abbrev S1x4x3072 : Shape := ⟨3, ![1, 4, 3072]⟩
abbrev S1x3072 : Shape := ⟨2, ![1, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩
abbrev S8x3072 : Shape := ⟨2, ![8, 3072]⟩

abbrev nBuf : Space → Nat
  | .hbm => 133
  | .vmem => 0
  | .smem => 0
  | _ => 0

abbrev hbmTy0_0 (i : Nat) : BufTy := match i % 128 with
  | 0 => ⟨S4096x3072, .bf16⟩
  | 1 => ⟨S4096x10240, .bf16⟩
  | 2 => ⟨S4x4x3072, .f32⟩
  | 3 => ⟨S4x3072, .f32⟩
  | 4 => ⟨S4096x3072, .bf16⟩
  | 5 => ⟨S4096x3072, .f32⟩
  | 6 => ⟨S1x4x3072, .f32⟩
  | 7 => ⟨S4x3072, .f32⟩
  | 8 => ⟨S1x3072, .f32⟩
  | 9 => ⟨S3072, .f32⟩
  | 10 => ⟨S_, .f32⟩
  | 11 => ⟨S3x3072, .f32⟩
  | 12 => ⟨S4099x3072, .f32⟩
  | 13 => ⟨S_, .f32⟩
  | 14 => ⟨S3x3072, .f32⟩
  | 15 => ⟨S1x3072, .f32⟩
  | 16 => ⟨S3072, .f32⟩
  | 17 => ⟨S4096x3072, .f32⟩
  | 18 => ⟨S1x3072, .f32⟩
  | 19 => ⟨S4096x3072, .f32⟩
  | 20 => ⟨S4096x3072, .f32⟩
  | 21 => ⟨S1x3072, .f32⟩
  | 22 => ⟨S3072, .f32⟩
  | 23 => ⟨S4096x3072, .f32⟩
  | 24 => ⟨S1x3072, .f32⟩
  | 25 => ⟨S4096x3072, .f32⟩
  | 26 => ⟨S4096x3072, .f32⟩
  | 27 => ⟨S4096x3072, .f32⟩
  | 28 => ⟨S1x3072, .f32⟩
  | 29 => ⟨S3072, .f32⟩
  | 30 => ⟨S4096x3072, .f32⟩
  | 31 => ⟨S1x3072, .f32⟩
  | 32 => ⟨S4096x3072, .f32⟩
  | 33 => ⟨S4096x3072, .f32⟩
  | 34 => ⟨S4096x3072, .f32⟩
  | 35 => ⟨S1x3072, .f32⟩
  | 36 => ⟨S3072, .f32⟩
  | 37 => ⟨S4096x3072, .f32⟩
  | 38 => ⟨S1x3072, .f32⟩
  | 39 => ⟨S4096x3072, .f32⟩
  | 40 => ⟨S4096x3072, .f32⟩
  | 41 => ⟨S4096x3072, .f32⟩
  | 42 => ⟨S1x3072, .f32⟩
  | 43 => ⟨S4096x3072, .f32⟩
  | 44 => ⟨S4096x3072, .f32⟩
  | 45 => ⟨S4096x3072, .f32⟩
  | 46 => ⟨S4096x3072, .f32⟩
  | 47 => ⟨S_, .f32⟩
  | 48 => ⟨S4096x3072, .f32⟩
  | 49 => ⟨S4096x3072, .f32⟩
  | 50 => ⟨S_, .f32⟩
  | 51 => ⟨S4096x3072, .f32⟩
  | 52 => ⟨S4096x3072, .f32⟩
  | 53 => ⟨S_, .f32⟩
  | 54 => ⟨S4096x3072, .f32⟩
  | 55 => ⟨S4096x3072, .f32⟩
  | 56 => ⟨S4096x3072, .f32⟩
  | 57 => ⟨S4096x3072, .f32⟩
  | 58 => ⟨S4096x3072, .f32⟩
  | 59 => ⟨S4096x3072, .f32⟩
  | 60 => ⟨S4096x3072, .f32⟩
  | 61 => ⟨S4096x3072, .f32⟩
  | 62 => ⟨S4096x3072, .f32⟩
  | 63 => ⟨S_, .f32⟩
  | 64 => ⟨S3072, .f32⟩
  | 65 => ⟨S1x3072, .f32⟩
  | 66 => ⟨S_, .f32⟩
  | 67 => ⟨S3072, .f32⟩
  | 68 => ⟨S4096x3072, .f32⟩
  | 69 => ⟨S4096x3072, .f32⟩
  | 70 => ⟨S4096x3072, .f32⟩
  | 71 => ⟨S_, .f32⟩
  | 72 => ⟨S3072, .f32⟩
  | 73 => ⟨S1x3072, .f32⟩
  | 74 => ⟨S_, .f32⟩
  | 75 => ⟨S3072, .f32⟩
  | 76 => ⟨S_, .f32⟩
  | 77 => ⟨S4099x3072, .f32⟩
  | 78 => ⟨S1x3072, .f32⟩
  | 79 => ⟨S_, .f32⟩
  | 80 => ⟨S4x3072, .f32⟩
  | 81 => ⟨S4096x3072, .f32⟩
  | 82 => ⟨S4096x3072, .f32⟩
  | 83 => ⟨S4096x3072, .f32⟩
  | 84 => ⟨S_, .f32⟩
  | 85 => ⟨S3072, .f32⟩
  | 86 => ⟨S1x3072, .f32⟩
  | 87 => ⟨S_, .f32⟩
  | 88 => ⟨S3072, .f32⟩
  | 89 => ⟨S_, .f32⟩
  | 90 => ⟨S4099x3072, .f32⟩
  | 91 => ⟨S4099x3072, .f32⟩
  | 92 => ⟨S1x3072, .f32⟩
  | 93 => ⟨S_, .f32⟩
  | 94 => ⟨S4x3072, .f32⟩
  | 95 => ⟨S4x3072, .f32⟩
  | 96 => ⟨S4096x3072, .f32⟩
  | 97 => ⟨S4096x3072, .f32⟩
  | 98 => ⟨S4096x3072, .f32⟩
  | 99 => ⟨S_, .f32⟩
  | 100 => ⟨S3072, .f32⟩
  | 101 => ⟨S1x3072, .f32⟩
  | 102 => ⟨S_, .f32⟩
  | 103 => ⟨S3072, .f32⟩
  | 104 => ⟨S_, .f32⟩
  | 105 => ⟨S4099x3072, .f32⟩
  | 106 => ⟨S4099x3072, .f32⟩
  | 107 => ⟨S1x3072, .f32⟩
  | 108 => ⟨S_, .f32⟩
  | 109 => ⟨S4x3072, .f32⟩
  | 110 => ⟨S4x3072, .f32⟩
  | 111 => ⟨S4096x3072, .f32⟩
  | 112 => ⟨S4096x3072, .f32⟩
  | 113 => ⟨S4096x3072, .f32⟩
  | 114 => ⟨S_, .f32⟩
  | 115 => ⟨S3072, .f32⟩
  | 116 => ⟨S1x3072, .f32⟩
  | 117 => ⟨S_, .f32⟩
  | 118 => ⟨S3072, .f32⟩
  | 119 => ⟨S_, .f32⟩
  | 120 => ⟨S4099x3072, .f32⟩
  | 121 => ⟨S4099x3072, .f32⟩
  | 122 => ⟨S1x3072, .f32⟩
  | 123 => ⟨S_, .f32⟩
  | 124 => ⟨S4x3072, .f32⟩
  | 125 => ⟨S4x3072, .f32⟩
  | 126 => ⟨S3x3072, .f32⟩
  | 127 => ⟨S4096x3072, .f32⟩
  | _ => ⟨S4096x3072, .bf16⟩

abbrev hbmTy0_1 (i : Nat) : BufTy := match i % 128 with
  | 0 => ⟨S4096x3072, .bf16⟩
  | 1 => ⟨S_, .f32⟩
  | 2 => ⟨S4x3072, .f32⟩
  | 3 => ⟨S8x3072, .f32⟩
  | 4 => ⟨S1x3072, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v39_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v39_1 : Ref sig .tc := ⟨.hbm, 56, rfl⟩
abbrev main_v39_0 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_v48 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== MergeF.lean ====
abbrev S4096x10240 : Shape := ⟨2, ![4096, 10240]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFRefIdeal.lean ====
abbrev S4096x10240 : Shape := ⟨2, ![4096, 10240]⟩
abbrev S4096x1024 : Shape := ⟨2, ![4096, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== PleF.lean ====
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFRefIdeal.lean ====
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Rms.lean ====
abbrev S4096x1024 : Shape := ⟨2, ![4096, 1024]⟩
abbrev S4x1024 : Shape := ⟨2, ![4, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GNormF.lean ====
abbrev S4096x2048 : Shape := ⟨2, ![4096, 2048]⟩
abbrev S4096x10240 : Shape := ⟨2, ![4096, 10240]⟩
abbrev S4x2048 : Shape := ⟨2, ![4, 2048]⟩
abbrev S4x1x2048 : Shape := ⟨3, ![4, 1, 2048]⟩
abbrev S512x2048 : Shape := ⟨2, ![512, 2048]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x10240, .bf16⟩
  | .hbm, ⟨2, _⟩ => ⟨S4x2048, .f32⟩
  | .hbm, ⟨3, _⟩ => ⟨S4x1x2048, .f32⟩
  | .hbm, ⟨4, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S512x2048, .bf16⟩
  | .local _ .vmem, ⟨6, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GNormFRefIdeal.lean ====
abbrev S4096x2048 : Shape := ⟨2, ![4096, 2048]⟩
abbrev S4096x10240 : Shape := ⟨2, ![4096, 10240]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10240, .bf16⟩
  | .hbm, ⟨2, _⟩ => ⟨S4x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S1x2048, .f32⟩
  | .hbm, ⟨7, _⟩ => ⟨S2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4x512, .f32⟩
  | .hbm, ⟨19, _⟩ => ⟨S4096x4x512, .f32⟩
  | .hbm, ⟨20, _⟩ => ⟨S_, .f32⟩
  | .hbm, ⟨21, _⟩ => ⟨S4096x4, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S_, .f32⟩
  | .hbm, ⟨27, _⟩ => ⟨S4096x4x1, .f32⟩
  | .hbm, ⟨28, _⟩ => ⟨S4096x4x1, .f32⟩
  | .hbm, ⟨29, _⟩ => ⟨S4096x4x1, .f32⟩
  | .hbm, ⟨30, _⟩ => ⟨S4096x4x512, .f32⟩
  | .hbm, ⟨31, _⟩ => ⟨S4096x4x512, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== ScConvF.lean ====
abbrev S4096x10240 : Shape := ⟨2, ![4096, 10240]⟩
abbrev S4x3x1024 : Shape := ⟨3, ![4, 3, 1024]⟩
abbrev S_ : Shape := ⟨0, ![]⟩
abbrev S4x5x1024 : Shape := ⟨3, ![4, 5, 1024]⟩
abbrev S4x8x1024 : Shape := ⟨3, ![4, 8, 1024]⟩
abbrev S4096x1024 : Shape := ⟨2, ![4096, 1024]⟩
abbrev S512x512 : Shape := ⟨2, ![512, 512]⟩
abbrev S16x512 : Shape := ⟨2, ![16, 512]⟩
abbrev S1x8x512 : Shape := ⟨3, ![1, 8, 512]⟩
abbrev S528x512 : Shape := ⟨2, ![528, 512]⟩
abbrev S1x1x512 : Shape := ⟨3, ![1, 1, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x10240, .bf16⟩
  | .hbm, ⟨1, _⟩ => ⟨S4x3x1024, .f32⟩
  | .hbm, ⟨2, _⟩ => ⟨S_, .f32⟩
  | .hbm, ⟨3, _⟩ => ⟨S4x5x1024, .f32⟩
  | .hbm, ⟨4, _⟩ => ⟨S4x8x1024, .f32⟩
  | .hbm, ⟨5, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S1x8x512, .f32⟩
  | .local _ .vmem, ⟨11, _⟩ => ⟨S1x8x512, .f32⟩
  | .local _ .vmem, ⟨12, _⟩ => ⟨S512x512, .bf16⟩
  | .local _ .vmem, ⟨13, _⟩ => ⟨S512x512, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ScConvFRefIdeal.lean ====
abbrev S4096x10240 : Shape := ⟨2, ![4096, 10240]⟩
abbrev S4x3x1024 : Shape := ⟨3, ![4, 3, 1024]⟩
abbrev S4096x1024 : Shape := ⟨2, ![4096, 1024]⟩
abbrev S1x3x1024 : Shape := ⟨3, ![1, 3, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4x3x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S1x3x1024, .f32⟩
  | .hbm, ⟨9, _⟩ => ⟨S3x1024, .f32⟩
  | .hbm, ⟨10, _⟩ => ⟨S_, .f32⟩
  | .hbm, ⟨11, _⟩ => ⟨S2x1024, .f32⟩
  | .hbm, ⟨12, _⟩ => ⟨S4096x1024, .f32⟩
  | .hbm, ⟨13, _⟩ => ⟨S4098x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== MConvF.lean ====
abbrev S4096x10240 : Shape := ⟨2, ![4096, 10240]⟩
abbrev S4x4x3072 : Shape := ⟨3, ![4, 4, 3072]⟩
abbrev S4x3072 : Shape := ⟨2, ![4, 3072]⟩
abbrev S_ : Shape := ⟨0, ![]⟩
abbrev S4x8x3072 : Shape := ⟨3, ![4, 8, 3072]⟩
abbrev S4x1x3072 : Shape := ⟨3, ![4, 1, 3072]⟩
abbrev S4096x3072 : Shape := ⟨2, ![4096, 3072]⟩
abbrev S512x512 : Shape := ⟨2, ![512, 512]⟩
abbrev S16x512 : Shape := ⟨2, ![16, 512]⟩
abbrev S1x8x512 : Shape := ⟨3, ![1, 8, 512]⟩
abbrev S1x1x512 : Shape := ⟨3, ![1, 1, 512]⟩
abbrev S528x512 : Shape := ⟨2, ![528, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x10240, .bf16⟩
  | .hbm, ⟨1, _⟩ => ⟨S4x4x3072, .f32⟩
  | .hbm, ⟨2, _⟩ => ⟨S4x3072, .f32⟩
  | .hbm, ⟨3, _⟩ => ⟨S_, .f32⟩
  | .hbm, ⟨4, _⟩ => ⟨S4x4x3072, .f32⟩
  | .hbm, ⟨5, _⟩ => ⟨S4x8x3072, .f32⟩
  | .hbm, ⟨6, _⟩ => ⟨S4x1x3072, .f32⟩
  | .hbm, ⟨7, _⟩ => ⟨S4096x3072, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S1x8x512, .f32⟩
  | .local _ .vmem, ⟨5, _⟩ => ⟨S1x8x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .bf16⟩
  | .local _ .vmem, ⟨9, _⟩ => ⟨S512x512, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let v3 : BitVec 32 := Scalar.addi c14_i32 arg0
  let c0_i32_0 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MConvFRefIdeal.lean ====
abbrev S4096x10240 : Shape := ⟨2, ![4096, 10240]⟩
abbrev S4x4x3072 : Shape := ⟨3, ![4, 4, 3072]⟩
abbrev S4x3072 : Shape := ⟨2, ![4, 3072]⟩
abbrev S4096x3072 : Shape := ⟨2, ![4096, 3072]⟩
abbrev S1x4x3072 : Shape := ⟨3, ![1, 4, 3072]⟩
abbrev S1x3072 : Shape := ⟨2, ![1, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩

abbrev nBuf : Space → Nat
  | .hbm => 52
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4x4x3072, .f32⟩
  | .hbm, ⟨2, _⟩ => ⟨S4x3072, .f32⟩
  | .hbm, ⟨3, _⟩ => ⟨S4096x3072, .bf16⟩
  | .hbm, ⟨4, _⟩ => ⟨S4096x3072, .f32⟩
  | .hbm, ⟨5, _⟩ => ⟨S1x4x3072, .f32⟩
  | .hbm, ⟨6, _⟩ => ⟨S4x3072, .f32⟩
  | .hbm, ⟨7, _⟩ => ⟨S1x3072, .f32⟩
  | .hbm, ⟨8, _⟩ => ⟨S3072, .f32⟩
  | .hbm, ⟨9, _⟩ => ⟨S_, .f32⟩
  | .hbm, ⟨10, _⟩ => ⟨S3x3072, .f32⟩
  | .hbm, ⟨11, _⟩ => ⟨S4099x3072, .f32⟩
  | .hbm, ⟨12, _⟩ => ⟨S1x3072, .f32⟩
  | .hbm, ⟨13, _⟩ => ⟨S3072, .f32⟩
  | .hbm, ⟨14, _⟩ => ⟨S4096x3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S4096x3072, .f32⟩
  | .hbm, ⟨21, _⟩ => ⟨S1x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S4096x3072, .f32⟩
  | .hbm, ⟨28, _⟩ => ⟨S1x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S4096x3072, .f32⟩
  | .hbm, ⟨35, _⟩ => ⟨S1x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S1x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3072, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== LossH.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x128, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Proof.ScConvSpec.lean ====
/-
  The gradient of the gated causal convolution, one column at a time.

  A column of the forward pass is `out t = B t * (w0 * q (t - 2) + w1 * q (t - 1) + w2 * q t)` with `q t = C t * X t`
  and `q` zero before the first row. `D` is the gradient of `out`. The definitions below are the gradients with respect
  to `B`, `C`, `X` and the three taps, over the extended reals and over 4096 rows.
-/
module

public import Mathlib.Data.EReal.Operations
public import Mathlib.Algebra.BigOperators.Fin

@[expose] public section

noncomputable section

namespace Cert.ScConvSpec

open scoped BigOperators

/-- The product `C * X` at row `t - 2 + k`: what tap `k` of the convolution reads at row `t`; zero before the first row. -/
def lag (C X : ℕ → EReal) (k t : ℕ) : EReal := if t + k < 2 then 0 else C (t + k - 2) * X (t + k - 2)

/-- The convolution at row `t`. -/
def conv (w C X : ℕ → EReal) (t : ℕ) : EReal := w 0 * lag C X 0 t + w 1 * lag C X 1 t + w 2 * lag C X 2 t

/-- The gradient of the convolution's output at row `t`; zero after the last row. -/
def dconv (D B : ℕ → EReal) (t : ℕ) : EReal := if t < 4096 then D t * B t else 0

/-- The gradient of the product `C * X` at row `t`: row `t` is read by tap 2 at `t`, by tap 1 at `t + 1`, by tap 0 at `t + 2`. -/
def dq (w D B : ℕ → EReal) (t : ℕ) : EReal := w 0 * dconv D B (t + 2) + w 1 * dconv D B (t + 1) + w 2 * dconv D B t

/-- The gradient of tap `k`: over the first `n` rows. -/
def dtap (D B C X : ℕ → EReal) (k n : ℕ) : EReal := ∑ t ∈ Finset.range n, D t * B t * lag C X k t

/-- The tap's gradient, 512 rows further. -/
theorem dtap_block (D B C X : ℕ → EReal) (k b : ℕ) :
    dtap D B C X k (512 * (b + 1)) = dtap D B C X k (512 * b)
      + ∑ r : Fin 512, D (512 * b + r) * B (512 * b + r) * lag C X k (512 * b + r) := by
  unfold dtap
  rw [show 512 * (b + 1) = 512 * b + 512 by ring, Finset.sum_range_add,
    ← Fin.sum_univ_eq_sum_range (fun r => D (512 * b + r) * B (512 * b + r) * lag C X k (512 * b + r)) 512]

theorem dtap_zero (D B C X : ℕ → EReal) (k : ℕ) : dtap D B C X k 0 = 0 := rfl

end Cert.ScConvSpec
-- ==== Proof.ScConvPay.lean ====
/-
  The pure computations of the convolution gate's gradient kernel, read at one element of a block: for a column whose
  entries in the block (and in the 16 rows before and after it) are given by functions of the row number, each result is
  the specification's value at that row.
-/
module

public import proofs.«01_k».proof.Proof.Gen.ScConvIdeal.Skeleton
public import proofs.«01_k».proof.Proof.ScConvSpec
public import Idealize.ShloMosaic.Lib.Pointwise

@[expose] public section

noncomputable section

namespace Cert.ScConvPay

open Idealize.ShloMosaic Cert.ScConvIdeal Cert.ScConvIdeal.Gen Cert.ScConvSpec
open scoped BigOperators

variable [Facts]

/-- The kernel's test of its row block's number, as a test of the number. -/
theorem select_eq (n k : ℕ) (hn : n < 8) (hk : k < 8) (x y : EReal) :
    Scalar.select (Scalar.cmpi CmpIPredicate.eq (BitVec.ofNat 32 n) (BitVec.ofNat 32 k)) x y = if n = k then x else y := by
  unfold Scalar.select Scalar.cmpi IntOp.cmpi
  by_cases h : n = k
  · subst h; simp
  · have hne : BitVec.ofNat 32 n ≠ BitVec.ofNat 32 k := by
      intro h'
      have := congrArg BitVec.toNat h'
      simp only [BitVec.toNat_ofNat] at this
      omega
    have hf : (BitVec.ofNat 32 n == BitVec.ofNat 32 k) = false := beq_eq_false_iff_ne.mpr hne
    rw [if_neg h, if_neg]
    simp only [hf]
    decide

variable (i : grid0.Coords) (v0 v2 v4 v38 : Vec Ideal S512x512 .bf16) (v8 v10 v42 v44 : Vec Ideal S16x512 .bf16)
  (v21 v25 v30 : Vec Ideal S1x1x512 .f32) (l : Fin 512) (b : ℕ) (w D B C X : ℕ → EReal)

/-- The block with its 16 rows before it: zero where there is no earlier row. -/
theorem pay9_apply (hi : (i 1).val = b) (h0 : ∀ r : Fin 512, v0 (ix2 r l) = C (512 * b + r)) (h2 : ∀ r : Fin 512, v2 (ix2 r l) = X (512 * b + r))
    (h8 : b ≠ 0 → ∀ r : Fin 16, v8 (ix2 r l) = C (512 * b + r - 16)) (h10 : b ≠ 0 → ∀ r : Fin 16, v10 (ix2 r l) = X (512 * b + r - 16))
    (r : Fin 528) :
    k0_pay9 (F := Ideal) i v0 v2 v8 v10 (ix2 r l)
      = if 512 * b + r < 16 then 0 else C (512 * b + r - 16) * X (512 * b + r - 16) := by
  have hb : (i 1).val < 8 := (i 1).isLt
  pointwise [k0_pay9, k0_pay6, k0_pay7]
  by_cases hr : (r : ℕ) < 16
  · rw [dif_pos hr, select_eq _ 0 hb (by omega), hi]
    by_cases hz : b = 0
    · rw [if_pos hz, if_pos (by omega)]
    · rw [if_neg hz, if_neg (by omega), h8 hz, h10 hz]
  · have hlt := r.isLt
    have e : 512 * b + ((⟨(r : ℕ) - 16, by omega⟩ : Fin 512) : ℕ) = 512 * b + r - 16 := by
      show 512 * b + ((r : ℕ) - 16) = _
      omega
    rw [dif_neg hr, h0, h2, if_neg (show ¬ 512 * b + (r : ℕ) < 16 by omega), e]

section
variable (hi : (i 1).val = b) (h0 : ∀ r : Fin 512, v0 (ix2 r l) = C (512 * b + r)) (h2 : ∀ r : Fin 512, v2 (ix2 r l) = X (512 * b + r))
    (h8 : b ≠ 0 → ∀ r : Fin 16, v8 (ix2 r l) = C (512 * b + r - 16)) (h10 : b ≠ 0 → ∀ r : Fin 16, v10 (ix2 r l) = X (512 * b + r - 16))
    (r : Fin 512)
include hi h0 h2 h8 h10

theorem pay10_apply : k0_pay10 (F := Ideal) i v0 v2 v8 v10 (ix2 r l) = lag C X 0 (512 * b + r) := by
  pointwise [k0_pay10]
  rw [pay9_apply i v0 v2 v8 v10 l b C X hi h0 h2 h8 h10]
  have e : (16 + (r : ℕ) + 528 - 2) % 528 = r + 14 := by omega
  simp only [e, lag]
  rw [show 512 * b + ((r : ℕ) + 14) - 16 = 512 * b + r + 0 - 2 by omega]
  exact if_congr (by omega) rfl rfl

theorem pay11_apply : k0_pay11 (F := Ideal) i v0 v2 v8 v10 (ix2 r l) = lag C X 1 (512 * b + r) := by
  pointwise [k0_pay11]
  rw [pay9_apply i v0 v2 v8 v10 l b C X hi h0 h2 h8 h10]
  have e : (16 + (r : ℕ) + 528 - 1) % 528 = r + 15 := by omega
  simp only [e, lag]
  rw [show 512 * b + ((r : ℕ) + 15) - 16 = 512 * b + r + 1 - 2 by omega]
  exact if_congr (by omega) rfl rfl

theorem pay12_apply : k0_pay12 (F := Ideal) i v0 v2 v8 v10 (ix2 r l) = lag C X 2 (512 * b + r) := by
  pointwise [k0_pay12]
  rw [pay9_apply i v0 v2 v8 v10 l b C X hi h0 h2 h8 h10]
  simp only [lag]
  rw [show 512 * b + (16 + (r : ℕ)) - 16 = 512 * b + r + 2 - 2 by omega]
  exact if_congr (by omega) rfl rfl

variable (h21 : v21 (ix3 0 0 l) = w 0) (h25 : v25 (ix3 0 0 l) = w 1) (h30 : v30 (ix3 0 0 l) = w 2)
include h21 h25 h30

theorem pay13_apply : k0_pay13 (F := Ideal) i v0 v2 v8 v10 v21 v25 v30 (ix2 r l) = conv w C X (512 * b + r) := by
  pointwise [k0_pay13]
  rw [pay10_apply i v0 v2 v8 v10 l b C X hi h0 h2 h8 h10, pay11_apply i v0 v2 v8 v10 l b C X hi h0 h2 h8 h10,
    pay12_apply i v0 v2 v8 v10 l b C X hi h0 h2 h8 h10, h21, h25, h30]
  rfl

theorem pay14_apply (h4 : ∀ r : Fin 512, v4 (ix2 r l) = D (512 * b + r)) :
    k0_pay14 (F := Ideal) (k0_pay8 v4) (k0_pay13 i v0 v2 v8 v10 v21 v25 v30) (ix2 r l)
      = D (512 * b + r) * conv w C X (512 * b + r) := by
  pointwise [k0_pay14, k0_pay8]
  rw [pay13_apply i v0 v2 v8 v10 v21 v25 v30 l b w C X hi h0 h2 h8 h10 r h21 h25 h30, h4]

end

theorem pay15_apply (h4 : ∀ r : Fin 512, v4 (ix2 r l) = D (512 * b + r)) (h38 : ∀ r : Fin 512, v38 (ix2 r l) = B (512 * b + r)) (r : Fin 512) :
    k0_pay15 (F := Ideal) (k0_pay8 v4) v38 (ix2 r l) = D (512 * b + r) * B (512 * b + r) := by
  pointwise [k0_pay15, k0_pay8]
  rw [h4, h38]

section
variable (hi : (i 1).val = b) (h4 : ∀ r : Fin 512, v4 (ix2 r l) = D (512 * b + r)) (h38 : ∀ r : Fin 512, v38 (ix2 r l) = B (512 * b + r))
    (h42 : b ≠ 7 → ∀ r : Fin 16, v42 (ix2 r l) = D (512 * b + 512 + r)) (h44 : b ≠ 7 → ∀ r : Fin 16, v44 (ix2 r l) = B (512 * b + 512 + r))
    (h21 : v21 (ix3 0 0 l) = w 0) (h25 : v25 (ix3 0 0 l) = w 1) (h30 : v30 (ix3 0 0 l) = w 2)
    (r : Fin 512)
include hi h4 h38 h42 h44 h21 h25 h30

theorem pay16_apply :
    k0_pay16 (F := Ideal) (BitVec.ofNat 32 (i 1).val) (k0_pay8 v4) v38 v42 v44 v21 v25 v30 (ix2 r l) = dq w D B (512 * b + r) := by
  have hb : (i 1).val < 8 := (i 1).isLt
  -- the block followed by the 16 rows after it
  have key : ∀ (n : ℕ) (hn : n < 528),
      (if h : n < 512 then k0_pay15 (F := Ideal) (k0_pay8 v4) v38 (ix2 ⟨n, h⟩ l)
        else Scalar.select (Scalar.cmpi CmpIPredicate.eq (BitVec.ofNat 32 (i 1).val) 7#32) 0
          (v42 (ix2 ⟨n - 512, by omega⟩ l) * v44 (ix2 ⟨n - 512, by omega⟩ l))) = dconv D B (512 * b + n) := by
    intro n hn
    unfold dconv
    by_cases h : n < 512
    · rw [dif_pos h, pay15_apply v4 v38 l b D B h4 h38, if_pos (by omega)]
    · rw [dif_neg h, select_eq _ 7 hb (by omega), hi]
      by_cases h7 : b = 7
      · rw [if_pos h7, if_neg (by omega)]
      · rw [if_neg h7, if_pos (by omega), h42 h7, h44 h7]
        have e : 512 * b + 512 + ((⟨n - 512, by omega⟩ : Fin 16) : ℕ) = 512 * b + n := by
          show 512 * b + 512 + (n - 512) = _
          omega
        rw [e]
  have e2 : ((r : ℕ) + 528 - 526) % 528 = r + 2 := by omega
  have e1 : ((r : ℕ) + 528 - 527) % 528 = r + 1 := by omega
  pointwise [k0_pay16]
  simp only [e2, e1]
  rw [key _ (by omega), key _ (by omega), pay15_apply v4 v38 l b D B h4 h38, h21, h25, h30]
  unfold dq
  congr 2
  unfold dconv
  rw [if_pos (by omega)]

theorem pay17_apply (v2 : Vec Ideal S512x512 .bf16) (h2 : ∀ r : Fin 512, v2 (ix2 r l) = X (512 * b + r)) :
    k0_pay17 (F := Ideal) (BitVec.ofNat 32 (i 1).val) (k0_pay7 v2) (k0_pay8 v4) v38 v42 v44 v21 v25 v30 (ix2 r l)
      = dq w D B (512 * b + r) * X (512 * b + r) := by
  pointwise [k0_pay17, k0_pay7]
  rw [pay16_apply i v4 v38 v42 v44 v21 v25 v30 l b w D B hi h4 h38 h42 h44 h21 h25 h30, h2]

theorem pay1_apply (v0 : Vec Ideal S512x512 .bf16) (h0 : ∀ r : Fin 512, v0 (ix2 r l) = C (512 * b + r)) :
    k0_pay1 (F := Ideal) (k0_pay6 v0) (k0_pay16 (BitVec.ofNat 32 (i 1).val) (k0_pay8 v4) v38 v42 v44 v21 v25 v30) (ix2 r l)
      = dq w D B (512 * b + r) * C (512 * b + r) := by
  pointwise [k0_pay1, k0_pay6]
  rw [pay16_apply i v4 v38 v42 v44 v21 v25 v30 l b w D B hi h4 h38 h42 h44 h21 h25 h30, h0]

end

/-- A tap's row of the accumulated gradient: what it held plus the block's sum. -/
theorem pay3_apply (v17 v40 : FVec Ideal S512x512 .f32) (v78 : Vec Ideal S1x512 .f32) (r : Fin 1) :
    k0_pay3 (F := Ideal) v17 v40 v78 (ix2 r l) = v78 (ix2 r l) + ∑ x : Fin 512, v40 (ix2 x l) * v17 (ix2 x l) := by
  pointwise [k0_pay3]

theorem pay4_apply (v17 v40 : FVec Ideal S512x512 .f32) (v78 : Vec Ideal S1x512 .f32) (r : Fin 1) :
    k0_pay4 (F := Ideal) v17 v40 v78 (ix2 r l) = v78 (ix2 r l) + ∑ x : Fin 512, v40 (ix2 x l) * v17 (ix2 x l) := by
  pointwise [k0_pay4]

theorem pay5_apply (v17 v40 : FVec Ideal S512x512 .f32) (v78 : Vec Ideal S1x512 .f32) (r : Fin 1) :
    k0_pay5 (F := Ideal) v17 v40 v78 (ix2 r l) = v78 (ix2 r l) + ∑ x : Fin 512, v40 (ix2 x l) * v17 (ix2 x l) := by
  pointwise [k0_pay5]

end Cert.ScConvPay
-- ==== Proof.Place.lean ====
/-
  Where an element of a window's block lies in its array.
-/
module

public import Idealize.ShloMosaic.Lib.Pipeline.Value

@[expose] public section

noncomputable section

namespace Cert.At

open Idealize.ShloMosaic

/-- On axis `d`: element `y` of block `k` is the array's element `k` times the block's size plus `y`. -/
theorem place {sig : RefSig} {G : Pipeline.Grid} (w : Pipeline.Window sig G) {t : Fin G.N} {y : (w.xblock (G.coords t)).Idx}
    {d : Fin w.shape.rank} {k n : ℕ} (hk : w.index t d = k) (hn : k * w.size d + (y d).val = n)
    (hw : w.kind = .blocked := by first | rfl | decide) : ((w.rect t).emb y d).val = n := by
  rw [Pipeline.Window.rect_emb_val w t y d hw, hk, hn]

/-- An element lies in a block if it does once the block's number is known. -/
theorem between {x k b n : ℕ} (hx : x = k) (h : k * b ≤ n ∧ n < k * b + b) : x * b ≤ n ∧ n < x * b + b := hx ▸ h

end Cert.At
-- ==== Proof.Rows.lean ====
/-
  A block of eight rows that is written and read row by row.
-/
module

public import Idealize.ShloMosaic.Lib.Pipeline.Value
public import Idealize.ShloMosaic.Lib.WritesUnit
public import Idealize.ShloMosaic.Lib.Pointwise

@[expose] public section

noncomputable section

namespace Cert.Rows

open Idealize.ShloMosaic

/-- The block, and one of its rows. -/
abbrev Block : Shape := ⟨2, ![8, 512]⟩
abbrev Row : Shape := ⟨2, ![1, 512]⟩

variable {sig : RefSig} (a : Memref sig .tc .vmem Block .f32) (l : Fin 512)
  (k : ℕ) (inb : ∀ d, (![k, 0] : Fin 2 → ℕ) d + (![1, 512] : Fin 2 → ℕ) d ≤ Block.size d)
  (f : a.view.ty.Contents (Elt Ideal)) (L : List (View.Piece (Elt Ideal) Block .f32)) (r : Fin 8)

/-- After a row is written: the row's new contents there, the other rows as they were. -/
theorem row_apply (Q : Vec Ideal Row .f32) :
    a.view.read (Elt Ideal) (a.view.writes (Elt Ideal) f (⟨Rect.unit ![k, 0] ![1, 512] inb, Q⟩ :: L)) (ix2 r l)
      = if r.val = k then Q (ix2 0 l) else a.view.read (Elt Ideal) (a.view.writes (Elt Ideal) f L) (ix2 r l) := by
  by_cases h : r.val = k
  · rw [if_pos h]
    exact View.read_writes_cons_rows_of_mem a.view f (o := k) _ _ _ _ (ix2 (0 : Fin 1) l) rfl h rfl
  · rw [if_neg h, View.read_writes_cons_rows_of_not_mem a.view f (o := k) (W := 1) _ _ _ _ rfl rfl (by show r.val < k ∨ k + 1 ≤ r.val; omega)]

/-- After the whole block is written. -/
theorem whole_apply (inb0 : ∀ d, (![0, 0] : Fin 2 → ℕ) d + (![8, 512] : Fin 2 → ℕ) d ≤ Block.size d) (Q : Vec Ideal Block .f32) :
    a.view.read (Elt Ideal) (a.view.writes (Elt Ideal) f (⟨Rect.unit ![0, 0] ![8, 512] inb0, Q⟩ :: L)) (ix2 r l) = Q (ix2 r l) :=
  View.read_writes_cons_rows_of_mem a.view f (o := 0) _ _ _ _ (ix2 r l) rfl (by simp) rfl

/-- A row read back, and a row loaded. -/
theorem back_apply (h : r.val = k) :
    a.view.readCov (Val := Elt Ideal) L (Rect.unit (s := Block) ![k, 0] ![1, 512] inb).toLoadRect (ix2 (0 : Fin 1) l)
      = a.view.read (Elt Ideal) (a.view.writes (Elt Ideal) a.view.junk L) (ix2 r l) := by
  subst h
  exact congrArg (a.view.read (Elt Ideal) (a.view.writes (Elt Ideal) a.view.junk L)) (funext fun d => Fin.ext (by fin_cases d <;> simp [Rect.emb, Rect.unit] <;> rfl))

theorem load_apply (x : Vec Ideal Block .f32) (h : r.val = k) : View.ld x (Rect.unit (s := Block) ![k, 0] ![1, 512] inb) (ix2 (0 : Fin 1) l) = x (ix2 r l) := by
  subst h
  exact congrArg x (funext fun d => Fin.ext (by fin_cases d <;> simp [Rect.emb, Rect.unit] <;> rfl))

end Cert.Rows

end
-- ==== Proof.ScConvOuts.lean ====
/-
  What one grid point of the convolution gate's gradient kernel leaves in each of its four output blocks: the kernel's
  pure computations of the input blocks, and for the taps' gradient three rows added to what the block held.
-/
module

public import proofs.«01_k».proof.Proof.Gen.ScConvIdeal.Frame
public import proofs.«01_k».proof.Proof.ScConvPay
public import proofs.«01_k».proof.Proof.Place
public import proofs.«01_k».proof.Proof.Rows
public import Idealize.ShloMosaic.Lib.Pipeline.Value
public import Idealize.ShloMosaic.Lib.WritesUnit
public import Idealize.ShloMosaic.Lib.Tactic

@[expose] public section

noncomputable section

namespace Cert.ScConvOuts

open Idealize.ShloMosaic Idealize.ShloMosaic.TcCoe Cert.ScConvIdeal Cert.ScConvIdeal.Gen Cert.ScConvSpec Cert.Rows
open scoped BigOperators

variable [Facts]

theorem hz : (![0, 0] : Fin 2 → Nat) = fun _ => 0 := funext fun a => by fin_cases a <;> rfl

/-- Tap `k`'s row of the block of taps, as the kernel loads it. -/
abbrev tap0 {F : FTy → Type} [FloatOps F] (x8 : Vec F S1x8x512 .f32) : Vec F S1x1x512 .f32 := View.ld x8 (Rect.unit ![0, 0, 0] ![1, 1, 512] inb_S1x8x512_S1x1x512_0_0_0)
abbrev tap1 {F : FTy → Type} [FloatOps F] (x8 : Vec F S1x8x512 .f32) : Vec F S1x1x512 .f32 := View.ld x8 (Rect.unit ![0, 1, 0] ![1, 1, 512] inb_S1x8x512_S1x1x512_0_1_0)
abbrev tap2 {F : FTy → Type} [FloatOps F] (x8 : Vec F S1x8x512 .f32) : Vec F S1x1x512 .f32 := View.ld x8 (Rect.unit ![0, 2, 0] ![1, 1, 512] inb_S1x8x512_S1x1x512_0_2_0)

/-- The zeros the first point of a column writes, at one element. -/
theorem zeros_apply (r : Fin 8) (l : Fin 512) : (k0_pay2 (F := Ideal) : S8x512.Idx → EReal) (ix2 r l) = 0 := by pointwise [k0_pay2]

variable (c : Dev nD) (i : grid0.Coords) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S16x512 .bf16) (h6 : a6.IsWhole) (a7 : Memref sig .tc .vmem S16x512 .bf16) (h7 : a7.IsWhole) (a8 : Memref sig .tc .vmem S16x512 .bf16) (h8 : a8.IsWhole) (a9 : Memref sig .tc .vmem S16x512 .bf16) (h9 : a9.IsWhole) (a10 : Memref sig .tc .vmem S1x8x512 .f32) (h10 : a10.IsWhole) (a11 : Memref sig .tc .vmem S512x512 .bf16) (h11 : a11.IsWhole) (a12 : Memref sig .tc .vmem S512x512 .bf16) (h12 : a12.IsWhole) (a13 : Memref sig .tc .vmem S512x512 .bf16) (h13 : a13.IsWhole) (a14 : Memref sig .tc .vmem S8x512 .f32) (h14 : a14.IsWhole)

/-- The taps' gradient after the first point of a column: the block's sums in rows 0, 1, 2, zero elsewhere. -/
theorem out_A_12 (hc : cond0_0 i) (x0 x1 x2 x3 : Vec Ideal S512x512 .bf16) (x4 x5 x6 x7 : Vec Ideal S16x512 .bf16) (x8 : Vec Ideal S1x8x512 .f32) (r : Fin 8) (l : Fin 512) :
    out0_A_12 (F := Ideal) c i a2 h2 a3 h3 a4 h4 a5 h5 a6 h6 a7 h7 a8 h8 a9 h9 a10 h10 a11 h11 a12 h12 a13 h13 a14 h14 hc x0 x1 x2 x3 x4 x5 x6 x7 x8 (ix2 r l)
      = if r.val = 2 then 0 + ∑ x : Fin 512, k0_pay15 (F := Ideal) (k0_pay8 x0) x1 (ix2 x l) * k0_pay12 (F := Ideal) i x2 x3 x6 x7 (ix2 x l)
        else if r.val = 1 then 0 + ∑ x : Fin 512, k0_pay15 (F := Ideal) (k0_pay8 x0) x1 (ix2 x l) * k0_pay11 (F := Ideal) i x2 x3 x6 x7 (ix2 x l)
        else if r.val = 0 then 0 + ∑ x : Fin 512, k0_pay15 (F := Ideal) (k0_pay8 x0) x1 (ix2 x l) * k0_pay10 (F := Ideal) i x2 x3 x6 x7 (ix2 x l)
        else 0 := by
  unfold out0_A_12
  unfold kernelRun0_A
  dsimp only
  sl_unfold_words
  simp only [View.readAt_eq_ld, h2.read_unread, h3.read_unread, h4.read_unread, h5.read_unread, h6.read_unread, h7.read_unread, h8.read_unread, h9.read_unread, h10.read_unread, View.ld_unit_zero (S := S512x512) hz, View.ld_unit_zero (S := S16x512) hz]
  rw [row_apply, row_apply, row_apply, whole_apply, zeros_apply]
  split
  · next h => rw [Cert.ScConvPay.pay5_apply, back_apply (r := r) (h := h)]; simp only [row_apply, whole_apply, h, zeros_apply]; rfl
  split
  · next h => rw [Cert.ScConvPay.pay4_apply, back_apply (r := r) (h := h)]; simp only [row_apply, whole_apply, h, zeros_apply]; rfl
  split
  · next h => rw [Cert.ScConvPay.pay3_apply, back_apply (r := r) (h := h)]; simp only [row_apply, whole_apply, h, zeros_apply]
  rfl

/-- The taps' gradient after a later point: the block's sums added to rows 0, 1, 2, the other rows as they were. -/
theorem out_B_12 (hc : ¬cond0_0 i) (x0 x1 x2 x3 : Vec Ideal S512x512 .bf16) (x4 x5 x6 x7 : Vec Ideal S16x512 .bf16) (x8 : Vec Ideal S1x8x512 .f32) (xo : Vec Ideal S8x512 .f32) (r : Fin 8) (l : Fin 512) :
    out0_B_12 (F := Ideal) c i a2 h2 a3 h3 a4 h4 a5 h5 a6 h6 a7 h7 a8 h8 a9 h9 a10 h10 a11 h11 a12 h12 a13 h13 a14 h14 hc x0 x1 x2 x3 x4 x5 x6 x7 x8 xo (ix2 r l)
      = if r.val = 2 then xo (ix2 r l) + ∑ x : Fin 512, k0_pay15 (F := Ideal) (k0_pay8 x0) x1 (ix2 x l) * k0_pay12 (F := Ideal) i x2 x3 x6 x7 (ix2 x l)
        else if r.val = 1 then xo (ix2 r l) + ∑ x : Fin 512, k0_pay15 (F := Ideal) (k0_pay8 x0) x1 (ix2 x l) * k0_pay11 (F := Ideal) i x2 x3 x6 x7 (ix2 x l)
        else if r.val = 0 then xo (ix2 r l) + ∑ x : Fin 512, k0_pay15 (F := Ideal) (k0_pay8 x0) x1 (ix2 x l) * k0_pay10 (F := Ideal) i x2 x3 x6 x7 (ix2 x l)
        else xo (ix2 r l) := by
  unfold out0_B_12
  unfold kernelRun0_B
  dsimp only
  sl_unfold_words
  simp only [View.readAt_eq_ld, h2.read_unread, h3.read_unread, h4.read_unread, h5.read_unread, h6.read_unread, h7.read_unread, h8.read_unread, h9.read_unread, h10.read_unread, View.ld_unit_zero (S := S512x512) hz, View.ld_unit_zero (S := S16x512) hz]
  rw [row_apply, row_apply, row_apply, View.writes_nil, h14.read_unread]
  split
  · next h => rw [Cert.ScConvPay.pay5_apply, load_apply l 2 _ r _ h]
  split
  · next h => rw [Cert.ScConvPay.pay4_apply, load_apply l 1 _ r _ h]
  split
  · next h => rw [Cert.ScConvPay.pay3_apply, load_apply l 0 _ r _ h]
  rfl

end Cert.ScConvOuts
-- ==== Proof.At.lean ====
/-
  An array's element at a row and a column given as natural numbers: zero outside the array. Lets a statement about a
  block and its neighbours be written with row numbers instead of bounded indices.
-/
module

public import Idealize.ShloMosaic.PureOps.Ideal
public import Idealize.ShloMosaic.Lib.Pointwise

@[expose] public section

noncomputable section

namespace Cert.At

open Idealize.ShloMosaic

/-- The element of a matrix at row `r`, column `c`. -/
def at2 {a b : ℕ} (x : (⟨2, ![a, b]⟩ : Shape).Idx → EReal) (r c : ℕ) : EReal :=
  if h : r < a ∧ c < b then x (ix2 ⟨r, h.1⟩ ⟨c, h.2⟩) else 0

/-- The element of a stack of matrices at member `k`, row `r`, column `c`. -/
def at3 {n a b : ℕ} (x : (⟨3, ![n, a, b]⟩ : Shape).Idx → EReal) (k r c : ℕ) : EReal :=
  if h : k < n ∧ r < a ∧ c < b then x (ix3 ⟨k, h.1⟩ ⟨r, h.2.1⟩ ⟨c, h.2.2⟩) else 0

theorem at2_eq {a b : ℕ} (x : (⟨2, ![a, b]⟩ : Shape).Idx → EReal) (i : (⟨2, ![a, b]⟩ : Shape).Idx) (r c : ℕ)
    (hr : (i 0).val = r) (hc : (i 1).val = c) : x i = at2 x r c := by
  subst hr; subst hc
  unfold at2
  rw [dif_pos ⟨(i 0).isLt, (i 1).isLt⟩]
  exact congrArg x (funext fun d => by fin_cases d <;> rfl)

theorem at2_ix2 {a b : ℕ} (x : (⟨2, ![a, b]⟩ : Shape).Idx → EReal) (r : Fin a) (c : Fin b) : x (ix2 r c) = at2 x r c :=
  at2_eq x _ _ _ rfl rfl

theorem at3_eq {n a b : ℕ} (x : (⟨3, ![n, a, b]⟩ : Shape).Idx → EReal) (i : (⟨3, ![n, a, b]⟩ : Shape).Idx) (k r c : ℕ)
    (hk : (i 0).val = k) (hr : (i 1).val = r) (hc : (i 2).val = c) : x i = at3 x k r c := by
  subst hk; subst hr; subst hc
  unfold at3
  rw [dif_pos ⟨(i 0).isLt, (i 1).isLt, (i 2).isLt⟩]
  exact congrArg x (funext fun d => by fin_cases d <;> rfl)

theorem at3_ix3 {n a b : ℕ} (x : (⟨3, ![n, a, b]⟩ : Shape).Idx → EReal) (k : Fin n) (r : Fin a) (c : Fin b) :
    x (ix3 k r c) = at3 x k r c := at3_eq x _ _ _ _ rfl rfl rfl

end Cert.At
-- ==== Proof.ScConvKernel.lean ====
/-
  The convolution gate's gradient kernel over its whole grid: each of its four result arrays, element by element, is the
  specification's gradient of the argument arrays.
-/
module

public import proofs.«01_k».proof.Proof.Gen.ScConvIdeal.Value
public import proofs.«01_k».proof.Proof.ScConvOuts
public import proofs.«01_k».proof.Proof.At
public import Idealize.ShloMosaic.Lib.Pipeline.ValueKit

@[expose] public section

noncomputable section

namespace Cert.ScConvKernel

open Idealize.ShloMosaic Idealize.ShloMosaic.TcCoe Cert.ScConvIdeal Cert.ScConvIdeal.Gen Cert.ScConvSpec Cert.At Cert.ScConvOuts Cert.ScConvPay
open Idealize.ShloMosaic.Pipeline (Dat)
open scoped BigOperators

variable (m : (ℓ : Loc nD τ sig) → Buf (Elt Ideal) ℓ) (c : Dev nD)

/-- Column `j` of the incoming gradient, of the three projections, and the taps of column `j`. -/
abbrev dv : S4096x1024.Idx → EReal := m ((c : Thread nD τ).loc main_arg0)
abbrev proj : S4096x10240.Idx → EReal := m ((c : Thread nD τ).loc main_arg1)
abbrev taps : S4x3x1024.Idx → EReal := m ((c : Thread nD τ).loc main_arg2)
abbrev cD (j t : ℕ) : EReal := at2 (dv m c) t j
abbrev cB (j t : ℕ) : EReal := at2 (proj m c) t (2048 + j)
abbrev cC (j t : ℕ) : EReal := at2 (proj m c) t (3072 + j)
abbrev cX (j t : ℕ) : EReal := at2 (proj m c) t (4096 + j)
abbrev cW (j k : ℕ) : EReal := at3 (taps m c) 0 k j

/-! ## The windows' blocks -/

theorem index0 : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem index1 : ∀ t : Fin cfg0.N, win0_1.index t (0 : Fin 2) = t.val % 8 ∧ win0_1.index t (1 : Fin 2) = 4 + t.val / 8 :=
  (by decide +kernel : ∀ t : Fin grid0.N, win0_1.index t (0 : Fin 2) = t.val % 8 ∧ win0_1.index t (1 : Fin 2) = 4 + t.val / 8)
theorem index2 : ∀ t : Fin cfg0.N, win0_2.index t (0 : Fin 2) = t.val % 8 ∧ win0_2.index t (1 : Fin 2) = 6 + t.val / 8 :=
  (by decide +kernel : ∀ t : Fin grid0.N, win0_2.index t (0 : Fin 2) = t.val % 8 ∧ win0_2.index t (1 : Fin 2) = 6 + t.val / 8)
theorem index3 : ∀ t : Fin cfg0.N, win0_3.index t (0 : Fin 2) = t.val % 8 ∧ win0_3.index t (1 : Fin 2) = 8 + t.val / 8 :=
  (by decide +kernel : ∀ t : Fin grid0.N, win0_3.index t (0 : Fin 2) = t.val % 8 ∧ win0_3.index t (1 : Fin 2) = 8 + t.val / 8)
theorem index4 : ∀ t : Fin cfg0.N, win0_4.index t (0 : Fin 2) = min (32 * (t.val % 8) + 32) 255 ∧ win0_4.index t (1 : Fin 2) = t.val / 8 :=
  (by decide +kernel : ∀ t : Fin grid0.N, win0_4.index t (0 : Fin 2) = min (32 * (t.val % 8) + 32) 255 ∧ win0_4.index t (1 : Fin 2) = t.val / 8)
theorem index5 : ∀ t : Fin cfg0.N, win0_5.index t (0 : Fin 2) = min (32 * (t.val % 8) + 32) 255 ∧ win0_5.index t (1 : Fin 2) = 4 + t.val / 8 :=
  (by decide +kernel : ∀ t : Fin grid0.N, win0_5.index t (0 : Fin 2) = min (32 * (t.val % 8) + 32) 255 ∧ win0_5.index t (1 : Fin 2) = 4 + t.val / 8)
theorem index6 : ∀ t : Fin cfg0.N, win0_6.index t (0 : Fin 2) = 32 * (t.val % 8) - 1 ∧ win0_6.index t (1 : Fin 2) = 6 + t.val / 8 :=
  (by decide +kernel : ∀ t : Fin grid0.N, win0_6.index t (0 : Fin 2) = 32 * (t.val % 8) - 1 ∧ win0_6.index t (1 : Fin 2) = 6 + t.val / 8)
theorem index7 : ∀ t : Fin cfg0.N, win0_7.index t (0 : Fin 2) = 32 * (t.val % 8) - 1 ∧ win0_7.index t (1 : Fin 2) = 8 + t.val / 8 :=
  (by decide +kernel : ∀ t : Fin grid0.N, win0_7.index t (0 : Fin 2) = 32 * (t.val % 8) - 1 ∧ win0_7.index t (1 : Fin 2) = 8 + t.val / 8)
theorem index9 : ∀ t : Fin cfg0.N, win0_9.index t (0 : Fin 2) = t.val % 8 ∧ win0_9.index t (1 : Fin 2) = t.val / 8 :=
  (by decide +kernel : ∀ t : Fin grid0.N, win0_9.index t (0 : Fin 2) = t.val % 8 ∧ win0_9.index t (1 : Fin 2) = t.val / 8)
theorem index10 : ∀ t : Fin cfg0.N, win0_10.index t (0 : Fin 2) = t.val % 8 ∧ win0_10.index t (1 : Fin 2) = t.val / 8 :=
  (by decide +kernel : ∀ t : Fin grid0.N, win0_10.index t (0 : Fin 2) = t.val % 8 ∧ win0_10.index t (1 : Fin 2) = t.val / 8)
theorem index11 : ∀ t : Fin cfg0.N, win0_11.index t (0 : Fin 2) = t.val % 8 ∧ win0_11.index t (1 : Fin 2) = t.val / 8 :=
  (by decide +kernel : ∀ t : Fin grid0.N, win0_11.index t (0 : Fin 2) = t.val % 8 ∧ win0_11.index t (1 : Fin 2) = t.val / 8)
theorem index12 : ∀ t : Fin cfg0.N, win0_12.index t (0 : Fin 2) = 0 ∧ win0_12.index t (1 : Fin 2) = t.val / 8 :=
  (by decide +kernel : ∀ t : Fin grid0.N, win0_12.index t (0 : Fin 2) = 0 ∧ win0_12.index t (1 : Fin 2) = t.val / 8)
theorem index8 : ∀ t : Fin cfg0.N, win0_8.index t (0 : Fin 3) = 0 ∧ win0_8.index t (1 : Fin 3) = 0 ∧ win0_8.index t (2 : Fin 3) = t.val / 8 :=
  (by decide +kernel : ∀ t : Fin grid0.N, win0_8.index t (0 : Fin 3) = 0 ∧ win0_8.index t (1 : Fin 3) = 0 ∧ win0_8.index t (2 : Fin 3) = t.val / 8)
theorem coord1 : ∀ t : Fin cfg0.N, (grid0.coords t 1).val = t.val % 8 :=
  (by decide +kernel : ∀ t : Fin grid0.N, (grid0.coords t 1).val = t.val % 8)

theorem N16 (t : Fin cfg0.N) : t.val < 16 := Nat.lt_of_lt_of_eq t.isLt N_0

variable (t : Fin cfg0.N) (l : Fin 512)

theorem blk0 (r : Fin 512) : (iblk m c 0 t : Vec Ideal S512x512 .bf16) (ix2 r l) = cD m c (512 * (t.val / 8) + l) (512 * (t.val % 8) + r) :=
  (congrFun (V_main_arg0 m c) (((cfg0.win 0).blk t).view.emb (ix2 r l))).trans (at2_eq _ _ _ _
    (place win0_0 (index0 t).1 (by show t.val % 8 * 512 + r.val = _; omega))
    (place win0_0 (index0 t).2 (by show (t.val / 8) * 512 + l.val = _; omega)))

theorem blk1 (r : Fin 512) : (iblk m c 1 t : Vec Ideal S512x512 .bf16) (ix2 r l) = cB m c (512 * (t.val / 8) + l) (512 * (t.val % 8) + r) :=
  (congrFun (V_main_arg1 m c) (((cfg0.win 1).blk t).view.emb (ix2 r l))).trans (at2_eq _ _ _ _
    (place win0_1 (index1 t).1 (by show t.val % 8 * 512 + r.val = _; omega))
    (place win0_1 (index1 t).2 (by show (4 + t.val / 8) * 512 + l.val = _; omega)))

theorem blk2 (r : Fin 512) : (iblk m c 2 t : Vec Ideal S512x512 .bf16) (ix2 r l) = cC m c (512 * (t.val / 8) + l) (512 * (t.val % 8) + r) :=
  (congrFun (V_main_arg1 m c) (((cfg0.win 2).blk t).view.emb (ix2 r l))).trans (at2_eq _ _ _ _
    (place win0_2 (index2 t).1 (by show t.val % 8 * 512 + r.val = _; omega))
    (place win0_2 (index2 t).2 (by show (6 + t.val / 8) * 512 + l.val = _; omega)))

theorem blk3 (r : Fin 512) : (iblk m c 3 t : Vec Ideal S512x512 .bf16) (ix2 r l) = cX m c (512 * (t.val / 8) + l) (512 * (t.val % 8) + r) :=
  (congrFun (V_main_arg1 m c) (((cfg0.win 3).blk t).view.emb (ix2 r l))).trans (at2_eq _ _ _ _
    (place win0_3 (index3 t).1 (by show t.val % 8 * 512 + r.val = _; omega))
    (place win0_3 (index3 t).2 (by show (8 + t.val / 8) * 512 + l.val = _; omega)))

theorem blk4 (hb : t.val % 8 ≠ 7) (r : Fin 16) : (iblk m c 4 t : Vec Ideal S16x512 .bf16) (ix2 r l) = cD m c (512 * (t.val / 8) + l) (512 * (t.val % 8) + 512 + r) :=
  (congrFun (V_main_arg0 m c) (((cfg0.win 4).blk t).view.emb (ix2 r l))).trans (at2_eq _ _ _ _
    (place win0_4 (index4 t).1 (by show (min (32 * (t.val % 8) + 32) 255) * 16 + r.val = _; omega))
    (place win0_4 (index4 t).2 (by show (t.val / 8) * 512 + l.val = _; omega)))

theorem blk5 (hb : t.val % 8 ≠ 7) (r : Fin 16) : (iblk m c 5 t : Vec Ideal S16x512 .bf16) (ix2 r l) = cB m c (512 * (t.val / 8) + l) (512 * (t.val % 8) + 512 + r) :=
  (congrFun (V_main_arg1 m c) (((cfg0.win 5).blk t).view.emb (ix2 r l))).trans (at2_eq _ _ _ _
    (place win0_5 (index5 t).1 (by show (min (32 * (t.val % 8) + 32) 255) * 16 + r.val = _; omega))
    (place win0_5 (index5 t).2 (by show (4 + t.val / 8) * 512 + l.val = _; omega)))

theorem blk6 (hb : t.val % 8 ≠ 0) (r : Fin 16) : (iblk m c 6 t : Vec Ideal S16x512 .bf16) (ix2 r l) = cC m c (512 * (t.val / 8) + l) (512 * (t.val % 8) + r - 16) :=
  (congrFun (V_main_arg1 m c) (((cfg0.win 6).blk t).view.emb (ix2 r l))).trans (at2_eq _ _ _ _
    (place win0_6 (index6 t).1 (by show (32 * (t.val % 8) - 1) * 16 + r.val = _; omega))
    (place win0_6 (index6 t).2 (by show (6 + t.val / 8) * 512 + l.val = _; omega)))

theorem blk7 (hb : t.val % 8 ≠ 0) (r : Fin 16) : (iblk m c 7 t : Vec Ideal S16x512 .bf16) (ix2 r l) = cX m c (512 * (t.val / 8) + l) (512 * (t.val % 8) + r - 16) :=
  (congrFun (V_main_arg1 m c) (((cfg0.win 7).blk t).view.emb (ix2 r l))).trans (at2_eq _ _ _ _
    (place win0_7 (index7 t).1 (by show (32 * (t.val % 8) - 1) * 16 + r.val = _; omega))
    (place win0_7 (index7 t).2 (by show (8 + t.val / 8) * 512 + l.val = _; omega)))

/-- The taps' array as the grid finds it: the three taps followed by five rows of zeros. -/
theorem V_taps : V m c main_v1 = concatenate S4x8x1024 1 [⟨S4x3x1024, taps m c⟩,
    ⟨S4x5x1024, (broadcastInDim S4x5x1024 ![] bcast_S_S4x5x1024 : (⟨S_, .f32⟩ : BufTy).Contents (Elt Ideal) → (⟨S4x5x1024, .f32⟩ : BufTy).Contents (Elt Ideal)) (constant (F := Ideal) S_ .f32 0x00000000#32)⟩] concatenates_S4x3x1024_S4x5x1024_S4x8x1024_d1 := by
  unfold V hostOps0
  after_results

theorem blk8 (k : Fin 8) (hk : k.val < 3) : (iblk m c 8 t : Vec Ideal S1x8x512 .f32) (ix3 0 k l) = cW m c (512 * (t.val / 8) + l) k := by
  unfold iblk
  rw [View.read_apply]
  show V m c main_v1 (((cfg0.win 8).blk t).view.emb (ix3 0 k l)) = _
  have h1 : (((cfg0.win 8).blk t).view.emb (ix3 (0 : Fin 1) k l)) = ix3 (n0 := 4) (n1 := 8) (n2 := 1024) 0 k ⟨512 * (t.val / 8) + l, by have := N16 t; omega⟩ := by
    funext d
    refine Fin.ext ?_
    refine (Pipeline.Window.rect_emb_val win0_8 t (ix3 (0 : Fin 1) k l) d).trans ?_
    obtain ⟨h0, h1, h2⟩ := index8 t
    fin_cases d
    · show win0_8.index t (0 : Fin 3) * 1 + 0 = 0
      rw [h0]
    · show win0_8.index t (1 : Fin 3) * 8 + k.val = k.val
      rw [h1]; omega
    · show win0_8.index t (2 : Fin 3) * 512 + l.val = 512 * (t.val / 8) + l.val
      rw [h2]; omega
  rw [h1, V_taps]
  pointwise
  rw [dif_pos hk]
  exact at3_eq _ _ _ _ _ rfl rfl rfl

theorem tapw0 : tap0 (iblk m c 8 t : Vec Ideal S1x8x512 .f32) (ix3 0 0 l) = cW m c (512 * (t.val / 8) + l) 0 :=
  (congrArg (iblk m c 8 t : Vec Ideal S1x8x512 .f32) (funext fun d => Fin.ext (by fin_cases d <;> simp [Rect.emb, Rect.unit] <;> rfl))).trans (blk8 m c t l 0 (by decide))
theorem tapw1 : tap1 (iblk m c 8 t : Vec Ideal S1x8x512 .f32) (ix3 0 0 l) = cW m c (512 * (t.val / 8) + l) 1 :=
  (congrArg (iblk m c 8 t : Vec Ideal S1x8x512 .f32) (funext fun d => Fin.ext (by fin_cases d <;> simp [Rect.emb, Rect.unit] <;> rfl))).trans (blk8 m c t l 1 (by decide))
theorem tapw2 : tap2 (iblk m c 8 t : Vec Ideal S1x8x512 .f32) (ix3 0 0 l) = cW m c (512 * (t.val / 8) + l) 2 :=
  (congrArg (iblk m c 8 t : Vec Ideal S1x8x512 .f32) (funext fun d => Fin.ext (by fin_cases d <;> simp [Rect.emb, Rect.unit] <;> rfl))).trans (blk8 m c t l 2 (by decide))

/-! ## What each point leaves in the output blocks -/

/-- The three gradients of a block's rows, after the point that computes it. -/
theorem left9 (r : Fin 512) : (outsAt0 m c t.val t.isLt).1 (ix2 r l)
    = cD m c (512 * (t.val / 8) + l) (512 * (t.val % 8) + r) * conv (cW m c (512 * (t.val / 8) + l)) (cC m c (512 * (t.val / 8) + l)) (cX m c (512 * (t.val / 8) + l)) (512 * (t.val % 8) + r) := by
  by_cases h0 : t.val % 8 = 0
  · rw [outsAt0_A m c t h0]
    frame_out
    exact pay14_apply _ _ _ (iblk m c 0 t) _ _ _ _ _ l _ _ _ _ _ (coord1 t) (blk2 m c t l) (blk3 m c t l) (fun h => blk6 m c t l h) (fun h => blk7 m c t l h) r (tapw0 m c t l) (tapw1 m c t l) (tapw2 m c t l) (blk0 m c t l)
  · rw [outsAt0_B m c t h0]
    frame_out
    exact pay14_apply _ _ _ (iblk m c 0 t) _ _ _ _ _ l _ _ _ _ _ (coord1 t) (blk2 m c t l) (blk3 m c t l) (fun h => blk6 m c t l h) (fun h => blk7 m c t l h) r (tapw0 m c t l) (tapw1 m c t l) (tapw2 m c t l) (blk0 m c t l)

theorem left10 (r : Fin 512) : (outsAt0 m c t.val t.isLt).2.1 (ix2 r l)
    = dq (cW m c (512 * (t.val / 8) + l)) (cD m c (512 * (t.val / 8) + l)) (cB m c (512 * (t.val / 8) + l)) (512 * (t.val % 8) + r) * cX m c (512 * (t.val / 8) + l) (512 * (t.val % 8) + r) := by
  by_cases h0 : t.val % 8 = 0
  · rw [outsAt0_A m c t h0]
    frame_out
    exact pay17_apply _ _ _ _ _ _ _ _ l _ _ _ _ _ (coord1 t) (blk0 m c t l) (blk1 m c t l) (fun h => blk4 m c t l h) (fun h => blk5 m c t l h) (tapw0 m c t l) (tapw1 m c t l) (tapw2 m c t l) r _ (blk3 m c t l)
  · rw [outsAt0_B m c t h0]
    frame_out
    exact pay17_apply _ _ _ _ _ _ _ _ l _ _ _ _ _ (coord1 t) (blk0 m c t l) (blk1 m c t l) (fun h => blk4 m c t l h) (fun h => blk5 m c t l h) (tapw0 m c t l) (tapw1 m c t l) (tapw2 m c t l) r _ (blk3 m c t l)

theorem left11 (r : Fin 512) : (outsAt0 m c t.val t.isLt).2.2.1 (ix2 r l)
    = dq (cW m c (512 * (t.val / 8) + l)) (cD m c (512 * (t.val / 8) + l)) (cB m c (512 * (t.val / 8) + l)) (512 * (t.val % 8) + r) * cC m c (512 * (t.val / 8) + l) (512 * (t.val % 8) + r) := by
  by_cases h0 : t.val % 8 = 0
  · rw [outsAt0_A m c t h0]
    frame_out
    exact pay1_apply _ _ _ _ _ _ _ _ l _ _ _ _ _ (coord1 t) (blk0 m c t l) (blk1 m c t l) (fun h => blk4 m c t l h) (fun h => blk5 m c t l h) (tapw0 m c t l) (tapw1 m c t l) (tapw2 m c t l) r _ (blk2 m c t l)
  · rw [outsAt0_B m c t h0]
    frame_out
    exact pay1_apply _ _ _ _ _ _ _ _ l _ _ _ _ _ (coord1 t) (blk0 m c t l) (blk1 m c t l) (fun h => blk4 m c t l h) (fun h => blk5 m c t l h) (tapw0 m c t l) (tapw1 m c t l) (tapw2 m c t l) r _ (blk2 m c t l)

/-- One block's contribution to tap `k`'s gradient. -/
theorem sum_tap (k : ℕ) (j b : ℕ) (u v : FVec Ideal S512x512 .f32) (hu : ∀ r : Fin 512, u (ix2 r l) = cD m c j (512 * b + r) * cB m c j (512 * b + r))
    (hv : ∀ r : Fin 512, v (ix2 r l) = lag (cC m c j) (cX m c j) k (512 * b + r)) :
    dtap (cD m c j) (cB m c j) (cC m c j) (cX m c j) k (512 * b) + ∑ x : Fin 512, u (ix2 x l) * v (ix2 x l)
      = dtap (cD m c j) (cB m c j) (cC m c j) (cX m c j) k (512 * (b + 1)) := by
  rw [dtap_block]
  exact congrArg _ (Finset.sum_congr rfl fun x _ => by rw [hu, hv])

theorem P15 (t : Fin cfg0.N) (r : Fin 512) : k0_pay15 (F := Ideal) (k0_pay8 (iblk m c 0 t)) (iblk m c 1 t) (ix2 r l)
    = cD m c (512 * (t.val / 8) + l) (512 * (t.val % 8) + r) * cB m c (512 * (t.val / 8) + l) (512 * (t.val % 8) + r) :=
  pay15_apply _ _ l _ _ _ (blk0 m c t l) (blk1 m c t l) r

theorem stepB (t : Fin cfg0.N) (r : Fin 8) (x : EReal) (hx : x = if r.val < 3 then dtap (cD m c (512 * (t.val / 8) + l)) (cB m c (512 * (t.val / 8) + l)) (cC m c (512 * (t.val / 8) + l)) (cX m c (512 * (t.val / 8) + l)) r (512 * (t.val % 8)) else 0) :
    (if r.val = 2 then x + ∑ y : Fin 512, k0_pay15 (F := Ideal) (k0_pay8 (iblk m c 0 t)) (iblk m c 1 t) (ix2 y l) * k0_pay12 (F := Ideal) (grid0.coords t) (iblk m c 2 t) (iblk m c 3 t) (iblk m c 6 t) (iblk m c 7 t) (ix2 y l)
      else if r.val = 1 then x + ∑ y : Fin 512, k0_pay15 (F := Ideal) (k0_pay8 (iblk m c 0 t)) (iblk m c 1 t) (ix2 y l) * k0_pay11 (F := Ideal) (grid0.coords t) (iblk m c 2 t) (iblk m c 3 t) (iblk m c 6 t) (iblk m c 7 t) (ix2 y l)
      else if r.val = 0 then x + ∑ y : Fin 512, k0_pay15 (F := Ideal) (k0_pay8 (iblk m c 0 t)) (iblk m c 1 t) (ix2 y l) * k0_pay10 (F := Ideal) (grid0.coords t) (iblk m c 2 t) (iblk m c 3 t) (iblk m c 6 t) (iblk m c 7 t) (ix2 y l)
      else x) = if r.val < 3 then dtap (cD m c (512 * (t.val / 8) + l)) (cB m c (512 * (t.val / 8) + l)) (cC m c (512 * (t.val / 8) + l)) (cX m c (512 * (t.val / 8) + l)) r (512 * (t.val % 8 + 1)) else 0 := by
  by_cases h3 : r.val < 3
  · rw [if_pos h3] at hx ⊢
    subst hx
    split
    · next h =>
      rw [h]
      exact sum_tap m c l 2 _ _ _ _ (P15 m c l t) (fun r => pay12_apply _ _ _ _ _ l _ _ _ (coord1 t) (blk2 m c t l) (blk3 m c t l) (fun h => blk6 m c t l h) (fun h => blk7 m c t l h) r)
    split
    · next h =>
      rw [h]
      exact sum_tap m c l 1 _ _ _ _ (P15 m c l t) (fun r => pay11_apply _ _ _ _ _ l _ _ _ (coord1 t) (blk2 m c t l) (blk3 m c t l) (fun h => blk6 m c t l h) (fun h => blk7 m c t l h) r)
    split
    · next h =>
      rw [h]
      exact sum_tap m c l 0 _ _ _ _ (P15 m c l t) (fun r => pay10_apply _ _ _ _ _ l _ _ _ (coord1 t) (blk2 m c t l) (blk3 m c t l) (fun h => blk6 m c t l h) (fun h => blk7 m c t l h) r)
    omega
  · rw [if_neg h3] at hx ⊢
    rw [if_neg (by omega), if_neg (by omega), if_neg (by omega), hx]

theorem stepA (n : ℕ) (hn : n < cfg0.N) (h0 : n % 8 = 0) (r : Fin 8) : (outsAt0 m c n hn).2.2.2 (ix2 r l)
    = if r.val < 3 then dtap (cD m c (512 * (n / 8) + l)) (cB m c (512 * (n / 8) + l)) (cC m c (512 * (n / 8) + l)) (cX m c (512 * (n / 8) + l)) r (512 * (n % 8 + 1)) else 0 := by
  rw [outsAt0_A m c ⟨n, hn⟩ h0]
  dsimp only
  rw [out_A_12]
  exact stepB m c l ⟨n, hn⟩ r 0 (by
    show (0 : EReal) = if r.val < 3 then dtap _ _ _ _ _ (512 * (n % 8)) else 0
    rw [h0]
    split <;> rfl)

/-- The taps' gradient after a point: the sums over all rows up to and including the point's block. -/
theorem left12 : ∀ (n : ℕ) (hn : n < cfg0.N) (r : Fin 8), (outsAt0 m c n hn).2.2.2 (ix2 r l)
    = if r.val < 3 then dtap (cD m c (512 * (n / 8) + l)) (cB m c (512 * (n / 8) + l)) (cC m c (512 * (n / 8) + l)) (cX m c (512 * (n / 8) + l)) r (512 * (n % 8 + 1)) else 0 := by
  intro n
  induction n with
  | zero =>
    intro hn r
    exact stepA m c l 0 hn rfl r
  | succ n ih =>
    intro hn r
    by_cases h0 : (n + 1) % 8 = 0
    · exact stepA m c l (n + 1) hn h0 r
    · rw [outsAt0_B m c ⟨n + 1, hn⟩ h0]
      dsimp only
      rw [out_B_12]
      have hq : (n + 1) / 8 = n / 8 := by omega
      have hr : (n + 1) % 8 = n % 8 + 1 := by omega
      have hih := ih (Nat.lt_of_succ_lt hn) r
      rw [← hq, ← hr] at hih
      exact stepB m c l ⟨n + 1, hn⟩ r _ hih
/-! ## The result arrays -/

/-- The gradient with respect to the gate `B`. -/
def G9 (i : S4096x1024.Idx) : EReal := cD m c (i 1) (i 0) * conv (cW m c (i 1)) (cC m c (i 1)) (cX m c (i 1)) (i 0)

theorem final9 (i : S4096x1024.Idx) : (dats m 0 c).arrAt 9 cfg0.N i = G9 m c i := by
  refine Dat.arrAt_forall_of_cover (dat := dats m 0 c) 9 (fun i x => x = G9 m c i) ?_ ?_ i
  · intro t hf y
    have e0 : ((((cfg0.win 9).blk t).view.emb y) (0 : Fin 2)).val = 512 * (t.val % 8) + (y (0 : Fin 2)).val := by
      exact place win0_9 (index9 t).1 (by show t.val % 8 * 512 + _ = _; omega)
    have e1 : ((((cfg0.win 9).blk t).view.emb y) (1 : Fin 2)).val = 512 * (t.val / 8) + (y (1 : Fin 2)).val := by
      exact place win0_9 (index9 t).2 (by show t.val / 8 * 512 + _ = _; omega)
    rw [Cert.ScConvIdeal.Value.flushed9]
    have hy : y = ix2 (n0 := 512) (n1 := 512) (y (0 : Fin 2)) (y (1 : Fin 2)) := funext fun d => by fin_cases d <;> rfl
    show (outsAt0 m c t.val t.isLt).1 y = _
    rw [hy]
    refine (left9 m c t (y (1 : Fin 2)) (y (0 : Fin 2))).trans ?_
    rw [← hy]
    unfold G9
    rw [e0, e1]
  · intro i
    have hi0 : (i (0 : Fin 2)).val < 4096 := (i (0 : Fin 2)).isLt
    have hi1 : (i (1 : Fin 2)).val < 1024 := (i (1 : Fin 2)).isLt
    let t : Fin cfg0.N := ⟨8 * ((i (1 : Fin 2)).val / 512) + (i (0 : Fin 2)).val / 512, by rw [show cfg0.N = 16 from N_0]; omega⟩
    refine ⟨t, flush0_9 t, ?_⟩
    show i ∈ ((View.whole main_v2_0).slice (win0_9.rect t)).set
    rw [View.set_slice_whole, Rect.mem_set_unit]
    intro d
    have ht : t.val = 8 * ((i (1 : Fin 2)).val / 512) + (i (0 : Fin 2)).val / 512 := rfl
    fin_cases d
    · exact between (b := 512) (n := (i (0 : Fin 2)).val) (index9 t).1 (by omega)
    · exact between (b := 512) (n := (i (1 : Fin 2)).val) (index9 t).2 (by omega)

/-- The gradient with respect to the factor `C`. -/
def G10 (i : S4096x1024.Idx) : EReal := dq (cW m c (i 1)) (cD m c (i 1)) (cB m c (i 1)) (i 0) * cX m c (i 1) (i 0)

theorem final10 (i : S4096x1024.Idx) : (dats m 0 c).arrAt 10 cfg0.N i = G10 m c i := by
  refine Dat.arrAt_forall_of_cover (dat := dats m 0 c) 10 (fun i x => x = G10 m c i) ?_ ?_ i
  · intro t hf y
    have e0 : ((((cfg0.win 10).blk t).view.emb y) (0 : Fin 2)).val = 512 * (t.val % 8) + (y (0 : Fin 2)).val := by
      exact place win0_10 (index10 t).1 (by show t.val % 8 * 512 + _ = _; omega)
    have e1 : ((((cfg0.win 10).blk t).view.emb y) (1 : Fin 2)).val = 512 * (t.val / 8) + (y (1 : Fin 2)).val := by
      exact place win0_10 (index10 t).2 (by show t.val / 8 * 512 + _ = _; omega)
    rw [Cert.ScConvIdeal.Value.flushed10]
    have hy : y = ix2 (n0 := 512) (n1 := 512) (y (0 : Fin 2)) (y (1 : Fin 2)) := funext fun d => by fin_cases d <;> rfl
    show (outsAt0 m c t.val t.isLt).2.1 y = _
    rw [hy]
    refine (left10 m c t (y (1 : Fin 2)) (y (0 : Fin 2))).trans ?_
    rw [← hy]
    unfold G10
    rw [e0, e1]
  · intro i
    have hi0 : (i (0 : Fin 2)).val < 4096 := (i (0 : Fin 2)).isLt
    have hi1 : (i (1 : Fin 2)).val < 1024 := (i (1 : Fin 2)).isLt
    let t : Fin cfg0.N := ⟨8 * ((i (1 : Fin 2)).val / 512) + (i (0 : Fin 2)).val / 512, by rw [show cfg0.N = 16 from N_0]; omega⟩
    refine ⟨t, flush0_10 t, ?_⟩
    show i ∈ ((View.whole main_v2_1).slice (win0_10.rect t)).set
    rw [View.set_slice_whole, Rect.mem_set_unit]
    intro d
    have ht : t.val = 8 * ((i (1 : Fin 2)).val / 512) + (i (0 : Fin 2)).val / 512 := rfl
    fin_cases d
    · exact between (b := 512) (n := (i (0 : Fin 2)).val) (index10 t).1 (by omega)
    · exact between (b := 512) (n := (i (1 : Fin 2)).val) (index10 t).2 (by omega)

/-- The gradient with respect to the factor `X`. -/
def G11 (i : S4096x1024.Idx) : EReal := dq (cW m c (i 1)) (cD m c (i 1)) (cB m c (i 1)) (i 0) * cC m c (i 1) (i 0)

theorem final11 (i : S4096x1024.Idx) : (dats m 0 c).arrAt 11 cfg0.N i = G11 m c i := by
  refine Dat.arrAt_forall_of_cover (dat := dats m 0 c) 11 (fun i x => x = G11 m c i) ?_ ?_ i
  · intro t hf y
    have e0 : ((((cfg0.win 11).blk t).view.emb y) (0 : Fin 2)).val = 512 * (t.val % 8) + (y (0 : Fin 2)).val := by
      exact place win0_11 (index11 t).1 (by show t.val % 8 * 512 + _ = _; omega)
    have e1 : ((((cfg0.win 11).blk t).view.emb y) (1 : Fin 2)).val = 512 * (t.val / 8) + (y (1 : Fin 2)).val := by
      exact place win0_11 (index11 t).2 (by show t.val / 8 * 512 + _ = _; omega)
    rw [Cert.ScConvIdeal.Value.flushed11]
    have hy : y = ix2 (n0 := 512) (n1 := 512) (y (0 : Fin 2)) (y (1 : Fin 2)) := funext fun d => by fin_cases d <;> rfl
    show (outsAt0 m c t.val t.isLt).2.2.1 y = _
    rw [hy]
    refine (left11 m c t (y (1 : Fin 2)) (y (0 : Fin 2))).trans ?_
    rw [← hy]
    unfold G11
    rw [e0, e1]
  · intro i
    have hi0 : (i (0 : Fin 2)).val < 4096 := (i (0 : Fin 2)).isLt
    have hi1 : (i (1 : Fin 2)).val < 1024 := (i (1 : Fin 2)).isLt
    let t : Fin cfg0.N := ⟨8 * ((i (1 : Fin 2)).val / 512) + (i (0 : Fin 2)).val / 512, by rw [show cfg0.N = 16 from N_0]; omega⟩
    refine ⟨t, flush0_11 t, ?_⟩
    show i ∈ ((View.whole main_v2_2).slice (win0_11.rect t)).set
    rw [View.set_slice_whole, Rect.mem_set_unit]
    intro d
    have ht : t.val = 8 * ((i (1 : Fin 2)).val / 512) + (i (0 : Fin 2)).val / 512 := rfl
    fin_cases d
    · exact between (b := 512) (n := (i (0 : Fin 2)).val) (index11 t).1 (by omega)
    · exact between (b := 512) (n := (i (1 : Fin 2)).val) (index11 t).2 (by omega)

/-- The gradient of the three taps, in the first three of eight rows; the other rows are zero. -/
def G12 (i : S8x1024.Idx) : EReal :=
  if (i 0).val < 3 then dtap (cD m c (i 1)) (cB m c (i 1)) (cC m c (i 1)) (cX m c (i 1)) (i 0) 4096 else 0

theorem final12 (i : S8x1024.Idx) : (dats m 0 c).arrAt 12 cfg0.N i = G12 m c i := by
  refine Dat.arrAt_forall_of_cover (dat := dats m 0 c) 12 (fun i x => x = G12 m c i) ?_ ?_ i
  · intro t hf y
    have h7 : t.val % 8 = 7 := (flush0_12 t).mp hf
    have e0 : ((((cfg0.win 12).blk t).view.emb y) (0 : Fin 2)).val = (y (0 : Fin 2)).val := by
      exact place win0_12 (index12 t).1 (by show 0 * 8 + _ = _; omega)
    have e1 : ((((cfg0.win 12).blk t).view.emb y) (1 : Fin 2)).val = 512 * (t.val / 8) + (y (1 : Fin 2)).val := by
      exact place win0_12 (index12 t).2 (by show t.val / 8 * 512 + _ = _; omega)
    rw [Cert.ScConvIdeal.Value.flushed12]
    have hy : y = ix2 (n0 := 8) (n1 := 512) (y (0 : Fin 2)) (y (1 : Fin 2)) := funext fun d => by fin_cases d <;> rfl
    show (outsAt0 m c t.val t.isLt).2.2.2 y = _
    rw [hy]
    refine (left12 m c (y (1 : Fin 2)) t.val t.isLt (y (0 : Fin 2))).trans ?_
    rw [← hy]
    unfold G12
    rw [e0, e1, h7]
  · intro i
    have hi0 : (i (0 : Fin 2)).val < 8 := (i (0 : Fin 2)).isLt
    have hi1 : (i (1 : Fin 2)).val < 1024 := (i (1 : Fin 2)).isLt
    let t : Fin cfg0.N := ⟨8 * ((i (1 : Fin 2)).val / 512) + 7, by rw [show cfg0.N = 16 from N_0]; omega⟩
    have ht : t.val = 8 * ((i (1 : Fin 2)).val / 512) + 7 := rfl
    refine ⟨t, (flush0_12 t).mpr (by omega), ?_⟩
    show i ∈ ((View.whole main_v2_3).slice (win0_12.rect t)).set
    rw [View.set_slice_whole, Rect.mem_set_unit]
    intro d
    fin_cases d
    · exact between (b := 8) (n := (i (0 : Fin 2)).val) (index12 t).1 (by omega)
    · exact between (b := 512) (n := (i (1 : Fin 2)).val) (index12 t).2 (by omega)

end Cert.ScConvKernel
-- ==== Proof.ScConvRef.lean ====
/-
  The reference gradient of the convolution gate, element by element: the specification's gradient.
-/
module

public import proofs.«01_k».proof.Proof.Gen.ScConvRefIdeal.Read
public import proofs.«01_k».proof.Proof.ScConvSpec
public import proofs.«01_k».proof.Proof.At

@[expose] public section

noncomputable section

namespace Cert.ScConvRef

open Idealize.ShloMosaic Cert.ScConvRefIdeal Cert.ScConvRefIdeal.Gen Cert.ScConvRefIdeal.Read Cert.ScConvSpec Cert.At
open scoped BigOperators

variable (x0 : (⟨S4096x1024, .bf16⟩ : BufTy).Contents (Elt Ideal)) (x1 : (⟨S4096x10240, .bf16⟩ : BufTy).Contents (Elt Ideal))
  (x2 : (⟨S4x3x1024, .f32⟩ : BufTy).Contents (Elt Ideal))

abbrev rD (j t : ℕ) : EReal := at2 (a := 4096) (b := 1024) x0 t j
abbrev rB (j t : ℕ) : EReal := at2 (a := 4096) (b := 10240) x1 t (2048 + j)
abbrev rC (j t : ℕ) : EReal := at2 (a := 4096) (b := 10240) x1 t (3072 + j)
abbrev rX (j t : ℕ) : EReal := at2 (a := 4096) (b := 10240) x1 t (4096 + j)
abbrev rW (j k : ℕ) : EReal := at3 (n := 4) (a := 3) (b := 1024) x2 0 k j

variable (j : Fin 1024)

theorem v1 (r : Fin 4096) : val_main_v1 (F := Ideal) x1 (ix2 r j) = rB x1 j r := by
  rw [val_main_v1_apply, val_main_v0_apply]
  exact at2_eq _ _ _ _ rfl rfl

theorem v3 (r : Fin 4096) : val_main_v3 (F := Ideal) x1 (ix2 r j) = rC x1 j r := by
  rw [val_main_v3_apply, val_main_v2_apply]
  exact at2_eq _ _ _ _ rfl rfl

theorem v5 (r : Fin 4096) : val_main_v5 (F := Ideal) x1 (ix2 r j) = rX x1 j r := by
  rw [val_main_v5_apply, val_main_v4_apply]
  exact at2_eq _ _ _ _ rfl rfl

theorem v33 (r : Fin 4096) : val_main_v33 (F := Ideal) x0 (ix2 r j) = rD x0 j r := by
  rw [val_main_v33_apply]
  exact at2_eq _ _ _ _ rfl rfl

theorem v7 (k : Fin 3) : val_main_v7 (F := Ideal) x2 (ix2 k j) = rW x2 j k := by
  unfold val_main_v7 val_main_v6
  pointwise
  exact at3_eq _ _ _ _ _ rfl rfl rfl

theorem v10 (r : Fin 4098) (k t : ℕ) (h : r.val = t + k) : val_main_v10 (F := Ideal) x1 (ix2 r j) = lag (rC x1 j) (rX x1 j) k t := by
  unfold val_main_v10 val_main_v8 val_main_cst val_main_v9
  pointwise
  unfold lag
  rw [← h]
  split
  · rfl
  · rw [v3, v5]

theorem v14 (r : Fin 4096) : val_main_v14 (F := Ideal) x1 (ix2 r j) = lag (rC x1 j) (rX x1 j) 0 r := by
  unfold val_main_v14
  pointwise
  exact v10 x1 j _ _ _ (by simp)

theorem v20 (r : Fin 4096) : val_main_v20 (F := Ideal) x1 (ix2 r j) = lag (rC x1 j) (rX x1 j) 1 r := by
  unfold val_main_v20
  pointwise
  exact v10 x1 j _ _ _ (by simp; omega)

theorem v27 (r : Fin 4096) : val_main_v27 (F := Ideal) x1 (ix2 r j) = lag (rC x1 j) (rX x1 j) 2 r := by
  unfold val_main_v27
  pointwise
  exact v10 x1 j _ _ _ (by simp; omega)

theorem v15 (u : Fin 1) : val_main_v15 (F := Ideal) x2 (ix2 u j) = rW x2 j 0 := by
  unfold val_main_v15 val_main_v13 val_main_v12
  pointwise
  exact v7 x2 j 0

theorem v21 (u : Fin 1) : val_main_v21 (F := Ideal) x2 (ix2 u j) = rW x2 j 1 := by
  unfold val_main_v21 val_main_v19 val_main_v18
  pointwise
  exact v7 x2 j 1

theorem v28 (u : Fin 1) : val_main_v28 (F := Ideal) x2 (ix2 u j) = rW x2 j 2 := by
  unfold val_main_v28 val_main_v26 val_main_v25
  pointwise
  exact v7 x2 j 2

theorem v31 (r : Fin 4096) : val_main_v31 (F := Ideal) x1 x2 (ix2 r j) = conv (rW x2 j) (rC x1 j) (rX x1 j) r := by
  unfold val_main_v31 val_main_v24 val_main_v17 val_main_v23 val_main_v30 val_main_v16 val_main_v22 val_main_v29
  pointwise
  rw [v14, v20, v27, v15, v21, v28]
  rfl

theorem v34 (r : Fin 4096) : val_main_v34 (F := Ideal) x0 x1 (ix2 r j) = rB x1 j r * rD x0 j r := by
  unfold val_main_v34
  pointwise
  rw [v1, v33]

/-- The gradient with respect to the gate. -/
theorem v71 (r : Fin 4096) : val_main_v71 (F := Ideal) x0 x1 x2 (ix2 r j) = rD x0 j r * conv (rW x2 j) (rC x1 j) (rX x1 j) r := by
  unfold val_main_v71 val_main_v35
  pointwise
  rw [v33, v31]

/-- The gradient with respect to the convolution's input: the taps in reverse. -/
theorem v68 (r : Fin 4096) : val_main_v68 (F := Ideal) x0 x1 x2 (ix2 r j) = dq (rW x2 j) (rD x0 j) (rB x1 j) r := by
  unfold val_main_v68 val_main_v63 val_main_v52 val_main_v42 val_main_v51 val_main_v62 val_main_v37 val_main_v46 val_main_v57
    val_main_cst_3 val_main_cst_7 val_main_cst_11 val_main_v36 val_main_v45 val_main_v56
  pointwise
  simp only [v34, v15, v21, v28]
  have h0 : dconv (rD x0 j) (rB x1 j) r = rB x1 j r * rD x0 j r := by
    unfold dconv
    rw [if_pos r.isLt, mul_comm]
  have h1 : (if h : 1 ≤ 2 + r.val ∧ 2 + r.val - 1 < 4096 then rW x2 j 1 * (rB x1 j (2 + r - 1) * rD x0 j (2 + r - 1)) else 0)
      = rW x2 j 1 * dconv (rD x0 j) (rB x1 j) (r + 1) := by
    unfold dconv
    rw [show 2 + r.val - 1 = r.val + 1 by omega]
    by_cases h : r.val + 1 < 4096
    · rw [dif_pos ⟨by omega, h⟩, if_pos h, mul_comm (rB x1 j (r.val + 1))]
    · rw [dif_neg fun hh => h hh.2, if_neg h, mul_zero]
  have h2 : (if h : 2 + r.val < 4096 then rW x2 j 0 * (rB x1 j (2 + r) * rD x0 j (2 + r)) else 0)
      = rW x2 j 0 * dconv (rD x0 j) (rB x1 j) (r + 2) := by
    unfold dconv
    rw [add_comm 2 r.val]
    by_cases h : r.val + 2 < 4096
    · rw [dif_pos h, if_pos h, mul_comm (rB x1 j (r.val + 2))]
    · rw [dif_neg h, if_neg h, mul_zero]
  rw [h1, h2, ← h0]
  unfold dq
  rw [add_comm, ← add_assoc, add_right_comm]

theorem v75 (r : Fin 8) : val_main_v75 (F := Ideal) x0 x1 (ix2 r j) = if r.val < 3 then dtap (rD x0 j) (rB x1 j) (rC x1 j) (rX x1 j) r 4096 else 0 := by
  unfold val_main_v75 val_main_v74 val_main_cst_13 val_main_v66 val_main_v65 val_main_v64 val_main_v61 val_main_v60 val_main_v59 val_main_v58
   val_main_v55 val_main_v54 val_main_v53 val_main_v50 val_main_v49 val_main_v48 val_main_v47
   val_main_v44 val_main_v43 val_main_v41 val_main_v40 val_main_v39 val_main_v38
   val_main_cst_1 val_main_cst_2 val_main_cst_4 val_main_cst_5 val_main_cst_6 val_main_cst_8 val_main_cst_9 val_main_cst_10 val_main_cst_12
  pointwise
  simp only [v34, v14, v20, v27]
  have hs : ∀ k : ℕ, (∑ _y : Fin 1, ∑ x : Fin 4096, rB x1 j x * rD x0 j x * lag (rC x1 j) (rX x1 j) k x)
      = dtap (rD x0 j) (rB x1 j) (rC x1 j) (rX x1 j) k 4096 := by
    intro k
    unfold dtap
    rw [Fin.sum_univ_one, Finset.sum_range]
    exact Finset.sum_congr rfl fun x _ => by rw [mul_comm (rB x1 j x)]
  simp only [hs]
  obtain ⟨r, hr⟩ := r
  by_cases h3 : r < 3
  · simp only [dif_pos h3, if_pos h3]
    interval_cases r <;> simp
  · simp only [dif_neg h3, if_neg h3]

theorem v72 (r : Fin 4096) : val_main_v72 (F := Ideal) x0 x1 x2 (ix2 r j) = dq (rW x2 j) (rD x0 j) (rB x1 j) r * rX x1 j r := by
  unfold val_main_v72 val_main_v70
  pointwise
  rw [v68, v5]

theorem v73 (r : Fin 4096) : val_main_v73 (F := Ideal) x0 x1 x2 (ix2 r j) = dq (rW x2 j) (rD x0 j) (rB x1 j) r * rC x1 j r := by
  unfold val_main_v73 val_main_v69
  pointwise
  rw [v68, v3, mul_comm]

end Cert.ScConvRef
-- ==== Proof.ScConvClaims.lean ====
/-
  The claims about the convolution gate's gradient: its frames, and its equality with the reference gradient over the
  extended reals.
-/
module

public import proofs.«01_k».proof.Defs
public import proofs.«01_k».proof.Proof.Gen.ScConv.Frame
public import proofs.«01_k».proof.Proof.ScConvKernel
public import proofs.«01_k».proof.Proof.ScConvRef
public import proofs.«01_k».proof.Proof.Gen.ScConvRefIdeal.Run
public import Idealize.ShloMosaic.Lib.Claim

@[expose] public section

noncomputable section

namespace Cert.ScConvClaims

open Idealize.ShloMosaic Idealize.ShloMosaic.TcCoe Idealize.SL.Sem

theorem frame_kernel : Cert.quiescent_ScConv := fun m g _ => Cert.ScConv.Gen.frame m g

theorem frame_ideal : Cert.quiescent_ScConvIdeal := fun m g _ => Cert.ScConvIdeal.Gen.frame m g

theorem frame_reference : Cert.quiescent_ScConvRefIdeal := fun m g _ =>
  (θ_run Cert.ScConvRefIdeal.defs _ _).mono (fun r h => ⟨fun c => (h c).2.2.2.2, sem_eq_zero_of_no_sems (by decide) r.2⟩)
    (Cert.ScConvRefIdeal.Value.run (F := Ideal) m g)

/-- The reference's run, its results named by stages of its text. -/
theorem run_reference (m : (ℓ : Loc Cert.ScConvRefIdeal.nD Cert.ScConvRefIdeal.τ Cert.ScConvRefIdeal.sig) → Buf (Elt Ideal) ℓ)
    (g : Dev Cert.ScConvRefIdeal.nD → PrngReg) :
    θ_run Cert.ScConvRefIdeal.defs (onTc (τ := Cert.ScConvRefIdeal.τ) (Cert.ScConvRefIdeal.main (F := Ideal))) ⟨m, fun _ => 0, g⟩ fun r =>
      ∀ c : Dev Cert.ScConvRefIdeal.nD,
        let x0 := m ((c.tc : Thread Cert.ScConvRefIdeal.nD Cert.ScConvRefIdeal.τ).loc Cert.ScConvRefIdeal.main_arg0)
        let x1 := m ((c.tc : Thread Cert.ScConvRefIdeal.nD Cert.ScConvRefIdeal.τ).loc Cert.ScConvRefIdeal.main_arg1)
        let x2 := m ((c.tc : Thread Cert.ScConvRefIdeal.nD Cert.ScConvRefIdeal.τ).loc Cert.ScConvRefIdeal.main_arg2)
        r.2.mem ((c.tc : Thread Cert.ScConvRefIdeal.nD Cert.ScConvRefIdeal.τ).loc Cert.ScConvRefIdeal.main_v71) = Cert.ScConvRefIdeal.Read.val_main_v71 x0 x1 x2
        ∧ r.2.mem ((c.tc : Thread Cert.ScConvRefIdeal.nD Cert.ScConvRefIdeal.τ).loc Cert.ScConvRefIdeal.main_v72) = Cert.ScConvRefIdeal.Read.val_main_v72 x0 x1 x2
        ∧ r.2.mem ((c.tc : Thread Cert.ScConvRefIdeal.nD Cert.ScConvRefIdeal.τ).loc Cert.ScConvRefIdeal.main_v73) = Cert.ScConvRefIdeal.Read.val_main_v73 x0 x1 x2
        ∧ r.2.mem ((c.tc : Thread Cert.ScConvRefIdeal.nD Cert.ScConvRefIdeal.τ).loc Cert.ScConvRefIdeal.main_v75) = Cert.ScConvRefIdeal.Read.val_main_v75 x0 x1
        ∧ r.2.mem ((c.tc : Thread Cert.ScConvRefIdeal.nD Cert.ScConvRefIdeal.τ).loc Cert.ScConvRefIdeal.main_arg0) = x0
        ∧ r.2.mem ((c.tc : Thread Cert.ScConvRefIdeal.nD Cert.ScConvRefIdeal.τ).loc Cert.ScConvRefIdeal.main_arg1) = x1
        ∧ r.2.mem ((c.tc : Thread Cert.ScConvRefIdeal.nD Cert.ScConvRefIdeal.τ).loc Cert.ScConvRefIdeal.main_arg2) = x2 :=
  (θ_run _ _ _).mono (fun _ h c => ⟨(h c).1.trans (Cert.ScConvRefIdeal.Read.val_main_v71_eq _ _ _).symm,
      (h c).2.1.trans (Cert.ScConvRefIdeal.Read.val_main_v72_eq _ _ _).symm,
      (h c).2.2.1.trans (Cert.ScConvRefIdeal.Read.val_main_v73_eq _ _ _).symm,
      (h c).2.2.2.1.trans (Cert.ScConvRefIdeal.Read.val_main_v75_eq _ _).symm, (h c).2.2.2.2⟩) (Cert.ScConvRefIdeal.Value.run m g)

theorem algebraic : Cert.algebraic_ScConvIdeal_ScConvRefIdeal := by
  pair_intro
  · run_from Cert.ScConvIdeal.Value.run_blocks m g
  · run_from run_reference m' g'
    · refine funext fun i => ?_
      rw [Cert.ScConvKernel.final9 m c]
      exact (congrArg _ (funext fun d => by fin_cases d <;> rfl)).trans (Cert.ScConvRef.v71 _ _ _ (i 1) (i 0))
    · refine funext fun i => ?_
      rw [Cert.ScConvKernel.final10 m c]
      exact (congrArg _ (funext fun d => by fin_cases d <;> rfl)).trans (Cert.ScConvRef.v72 _ _ _ (i 1) (i 0))
    · refine funext fun i => ?_
      rw [Cert.ScConvKernel.final11 m c]
      exact (congrArg _ (funext fun d => by fin_cases d <;> rfl)).trans (Cert.ScConvRef.v73 _ _ _ (i 1) (i 0))
    · refine funext fun i => ?_
      rw [Cert.ScConvKernel.final12 m c]
      exact (congrArg _ (funext fun d => by fin_cases d <;> rfl)).trans (Cert.ScConvRef.v75 _ _ (i 1) (i 0))

end Cert.ScConvClaims

end
-- ==== Proof.Dot.lean ====
/-
  A product of two sequences summed over a range, cut into tiles: the running sum a tiled product keeps.
-/
module

public import proofs.«01_k».proof.Proof.At

@[expose] public section

noncomputable section

namespace Cert.Dot

open Idealize.ShloMosaic
open scoped BigOperators

/-- The sum of the first `n` products of two sequences. -/
def dot (f g : ℕ → EReal) (n : ℕ) : EReal := ∑ k ∈ Finset.range n, f k * g k

/-- A sum over a tile's own index is a sum of the range's terms. -/
theorem dot_fin (f g : ℕ → EReal) (n : ℕ) : ∑ x : Fin n, f x * g x = dot f g n :=
  Fin.sum_univ_eq_sum_range (fun k => f k * g k) n

/-- One tile more: the tile's products, added to what the tiles before it summed to. -/
theorem dot_tile (f g : ℕ → EReal) (T b : ℕ) :
    dot f g (T * b) + ∑ x : Fin T, f (T * b + x) * g (T * b + x) = dot f g (T * (b + 1)) := by
  unfold dot
  rw [Nat.mul_succ, Finset.sum_range_add]
  exact congrArg _ (Fin.sum_univ_eq_sum_range (fun k => f (T * b + k) * g (T * b + k)) T)

/-- The first tile. -/
theorem dot_first (f g : ℕ → EReal) (T b : ℕ) (hb : b = 0) :
    ∑ x : Fin T, f (T * b + x) * g (T * b + x) = dot f g (T * (b + 1)) := by
  refine Eq.trans ?_ (dot_tile f g T b)
  subst hb
  rw [show dot f g (T * 0) = 0 from by unfold dot; simp, zero_add]

theorem dot_comm (f g : ℕ → EReal) (n : ℕ) : dot f g n = dot g f n :=
  Finset.sum_congr rfl fun k _ => mul_comm _ _

/-- A finite factor that is not negative, taken out of the sum. -/
theorem dot_scale (a : EReal) (h0 : 0 ≤ a) (ht : a ≠ ⊤) (f g : ℕ → EReal) (n : ℕ) : dot (fun k => a * f k) g n = dot f g n * a := by
  unfold dot
  induction n with
  | zero => simp
  | succ n ih =>
    rw [Finset.sum_range_succ, Finset.sum_range_succ, ih, EReal.right_distrib_of_nonneg_of_ne_top h0 ht]
    congr 1
    show a * f n * g n = _
    rw [mul_comm a, mul_assoc, mul_comm a, ← mul_assoc]

/-- One half, as the programs write it. -/
theorem half_eq : Ideal.ofBits .f32 0x3F000000#32 = ((1 / 2 : ℝ) : EReal) := by
  simp [Ideal.ofBits, Ideal.ieee, -EReal.coe_mul]; norm_num

theorem half_nonneg : 0 ≤ Ideal.ofBits .f32 0x3F000000#32 := by
  rw [half_eq]
  exact_mod_cast (by norm_num : (0 : ℝ) ≤ 1 / 2)

theorem half_ne_top : Ideal.ofBits .f32 0x3F000000#32 ≠ ⊤ := by
  rw [half_eq]
  exact EReal.coe_ne_top _

end Cert.Dot

end
-- ==== Proof.Gate.lean ====
/-
  The logistic function of the gates, and the two forms of the derivative of `a * sigm a`.
-/
module

public import proofs.«01_k».proof.Proof.Dot
public import Idealize.ShloMosaic.Lib.IdealHost

@[expose] public section

noncomputable section

namespace Cert.Gate

open Idealize.ShloMosaic

/-- The logistic function over the extended reals: one over one plus the exponential of the negated argument. -/
def sigm (a : EReal) : EReal := Ideal.div 1 (1 + Ideal.exp (-a))

theorem sigm_bot : sigm ⊥ = 0 := by
  unfold sigm
  rw [EReal.neg_bot]
  show Ideal.div 1 (1 + ⊤) = 0
  rw [EReal.add_top_of_ne_bot (by exact_mod_cast EReal.coe_ne_bot 1)]
  unfold Ideal.div
  rw [if_neg EReal.top_ne_zero, EReal.inv_top, mul_zero]

theorem sigm_top : sigm ⊤ = 1 := by
  unfold sigm
  rw [EReal.neg_top]
  show Ideal.div 1 (1 + 0) = 1
  rw [add_zero]
  unfold Ideal.div
  rw [if_neg one_ne_zero, one_mul]
  rw [show (1 : EReal) = ((1 : ℝ) : EReal) from rfl, ← EReal.coe_inv, inv_one]

theorem sigm_coe (a : ℝ) : ∃ s : ℝ, sigm a = s := by
  refine ⟨1 * (1 + Real.exp (-a))⁻¹, ?_⟩
  unfold sigm
  show Ideal.div 1 (1 + ((Real.exp (-a) : ℝ) : EReal)) = _
  have h : (1 : EReal) + ((Real.exp (-a) : ℝ) : EReal) = ((1 + Real.exp (-a) : ℝ) : EReal) := by push_cast; rfl
  rw [h]
  unfold Ideal.div
  have hp : (0 : ℝ) < 1 + Real.exp (-a) := by positivity
  rw [if_neg (by exact_mod_cast hp.ne'), ← EReal.coe_inv]
  push_cast
  rfl

/-- The derivative of `a * sigm a` times a finite factor, summed term by term and factored. -/
theorem silu_slope (p : ℝ) (a : EReal) :
    (p : EReal) * sigm a + (a * p) * (sigm a * (1 - sigm a)) = p * (sigm a * (1 + a * (1 - sigm a))) := by
  induction a with
  | bot => rw [sigm_bot]; simp
  | top =>
    rw [sigm_top]
    have h : (1 : EReal) - 1 = 0 := by
      rw [show (1 : EReal) = ((1 : ℝ) : EReal) from rfl, ← EReal.coe_sub, sub_self]; rfl
    rw [h]; simp
  | coe a =>
    obtain ⟨s, hs⟩ := sigm_coe a
    rw [hs]
    have h1 : (1 : EReal) = ((1 : ℝ) : EReal) := rfl
    rw [h1, ← EReal.coe_sub, ← EReal.coe_mul, ← EReal.coe_mul, ← EReal.coe_mul, ← EReal.coe_mul, ← EReal.coe_add, ← EReal.coe_mul, ← EReal.coe_add,
      ← EReal.coe_mul, ← EReal.coe_mul]
    exact congrArg Real.toEReal (by ring)

end Cert.Gate

end
-- ==== Proof.Finite.lean ====
/-
  Real elements: what a test `|x| < ∞` says of an extended real, and sums of products of reals.
-/
module

public import proofs.«01_k».proof.Proof.Dot

@[expose] public section

noncomputable section

namespace Cert.Finite

open Idealize.ShloMosaic Cert.At Cert.Dot
open scoped BigOperators

/-- An extended real that is a real. -/
def IsReal (x : EReal) : Prop := ∃ r : ℝ, x = r

theorem inf_eq : Ideal.ofBits .f32 0x7F800000#32 = ⊤ := by
  simp [Ideal.ofBits, Ideal.ieee]

/-- An element whose absolute value compares below infinity is real. -/
theorem isReal_of_test {x : EReal} (h : Ideal.cmp .olt (max x (-x)) (Ideal.ofBits .f32 0x7F800000#32) = 1#1) : IsReal x := by
  rw [inf_eq] at h
  have hlt : max x (-x) < ⊤ := by
    by_contra hn
    unfold Ideal.cmp at h
    simp [hn] at h
  induction x with
  | bot => simp at hlt
  | top => simp at hlt
  | coe r => exact ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.zero : IsReal 0 := ⟨0, rfl⟩

theorem isReal_at2 {a b : ℕ} {x : (⟨2, ![a, b]⟩ : Shape).Idx → EReal} (h : ∀ i, IsReal (x i)) (r c : ℕ) : IsReal (at2 x r c) := by
  unfold at2
  split
  · exact h _
  · exact IsReal.zero

theorem isReal_dot {f g : ℕ → EReal} (hf : ∀ k, IsReal (f k)) (hg : ∀ k, IsReal (g k)) (n : ℕ) : IsReal (dot f g n) := by
  unfold dot
  induction n with
  | zero => rw [Finset.sum_range_zero]; exact IsReal.zero
  | succ n ih => rw [Finset.sum_range_succ]; exact ih.add ((hf n).mul (hg n))

theorem isReal_half : IsReal (Ideal.ofBits .f32 0x3F000000#32) := ⟨1 / 2, half_eq⟩

end Cert.Finite

end
-- ==== Proof.DActAct.lean ====
/-
  The gradients of the feed-forward block's gate and up values, through the down projection and the gated activation.
-/
module

public import proofs.«01_k».proof.Defs
public import proofs.«01_k».proof.Proof.Gen.DAct.Frame
public import proofs.«01_k».proof.Proof.Gen.DActIdeal.Value
public import proofs.«01_k».proof.Proof.Gen.DActRefIdeal.Run
public import proofs.«01_k».proof.Proof.Gen.DActRefIdeal.Read
public import proofs.«01_k».proof.Proof.Gate
public import proofs.«01_k».proof.Proof.Finite
public import proofs.«01_k».proof.Proof.Gen.Pre_dact_finite
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DActProof

open Idealize.ShloMosaic Idealize.ShloMosaic.TcCoe Cert.DActIdeal Cert.DActIdeal.Gen Cert.At Cert.Dot Idealize.SL.Sem
open Idealize.ShloMosaic.Pipeline (Dat)
open scoped BigOperators
open Cert.Gate Cert.Finite

/-- The gradient of the gated activation, `0.5 * dh @ wd` transposed, at an element. -/
def grad (d : S4096x1024.Idx → EReal) (w : S2816x1024.Idx → EReal) (r q : ℕ) : EReal :=
  Ideal.ofBits .f32 0x3F000000#32 * dot (fun k => at2 d r k) (fun k => at2 w q k) 1024

/-- The gradient of the gate's value. -/
def gradGate (d : S4096x1024.Idx → EReal) (w : S2816x1024.Idx → EReal) (a b : S4096x2816.Idx → EReal) (r q : ℕ) : EReal :=
  grad d w r q * at2 b r q * (sigm (at2 a r q) * (1 + at2 a r q * (1 - sigm (at2 a r q))))

/-- The gradient of the up value. -/
def gradUp (d : S4096x1024.Idx → EReal) (w : S2816x1024.Idx → EReal) (a : S4096x2816.Idx → EReal) (r q : ℕ) : EReal :=
  grad d w r q * at2 a r q * sigm (at2 a r q)

section
variable (m : (ℓ : Loc nD τ sig) → Buf (Elt Ideal) ℓ) (c : Dev nD)

/-- The arguments, as launched. -/
abbrev D : S4096x1024.Idx → EReal := m ((c : Thread nD τ).loc main_arg0)
abbrev W : S2816x1024.Idx → EReal := m ((c : Thread nD τ).loc main_arg1)
abbrev A : S4096x2816.Idx → EReal := m ((c : Thread nD τ).loc main_arg2)
abbrev B : S4096x2816.Idx → EReal := m ((c : Thread nD τ).loc main_arg3)

theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem index2 : ∀ t : Fin cfg0.N, win0_2.index t (0 : Fin 2) = t.val % 8 ∧ win0_2.index t (1 : Fin 2) = t.val / 8 :=
  (by decide +kernel : ∀ t : Fin grid0.N, win0_2.index t (0 : Fin 2) = t.val % 8 ∧ win0_2.index t (1 : Fin 2) = t.val / 8)
theorem index3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)
theorem index4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem index5 : ∀ t : Fin cfg0.N, win0_5.index t (0 : Fin 2) = t.val % 8 ∧ win0_5.index t (1 : Fin 2) = t.val / 8 :=
  (by decide +kernel : ∀ t : Fin grid0.N, win0_5.index t (0 : Fin 2) = t.val % 8 ∧ win0_5.index t (1 : Fin 2) = t.val / 8)

theorem points (t : Fin cfg0.N) : t.val < 16 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .f32) (ix2 a b) = at2 (D m c) (512 * (t.val % 8) + a) (1024 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 1024 + b.val = _; omega)))

theorem block1 (a : Fin 1408) (b : Fin 1024) : (iblk m c 1 t : Vec Ideal S1408x1024 .bf16) (ix2 a b) = at2 (W m c) (1408 * (t.val / 8) + a) (1024 * (0) + b) :=
  (congrFun (V_main_arg1 m c) (((cfg0.win 1).blk t).view.emb (ix2 a b))).trans (at2_eq _ _ _ _
    (place win0_1 (index1 t).1 (by show (t.val / 8) * 1408 + a.val = _; omega))
    (place win0_1 (index1 t).2 (by show (0) * 1024 + b.val = _; omega)))

theorem block2 (a : Fin 512) (b : Fin 1408) : (iblk m c 2 t : Vec Ideal S512x1408 .bf16) (ix2 a b) = at2 (A m c) (512 * (t.val % 8) + a) (1408 * (t.val / 8) + b) :=
  (congrFun (V_main_arg2 m c) (((cfg0.win 2).blk t).view.emb (ix2 a b))).trans (at2_eq _ _ _ _
    (place win0_2 (index2 t).1 (by show (t.val % 8) * 512 + a.val = _; omega))
    (place win0_2 (index2 t).2 (by show (t.val / 8) * 1408 + b.val = _; omega)))

theorem block3 (a : Fin 512) (b : Fin 1408) : (iblk m c 3 t : Vec Ideal S512x1408 .bf16) (ix2 a b) = at2 (B m c) (512 * (t.val % 8) + a) (1408 * (t.val / 8) + b) :=
  (congrFun (V_main_arg3 m c) (((cfg0.win 3).blk t).view.emb (ix2 a b))).trans (at2_eq _ _ _ _
    (place win0_3 (index3 t).1 (by show (t.val % 8) * 512 + a.val = _; omega))
    (place win0_3 (index3 t).2 (by show (t.val / 8) * 1408 + b.val = _; omega)))

theorem grad_apply (v0 : Vec Ideal S512x1024 .f32) (v1 : Vec Ideal S1408x1024 .bf16) (r : Fin 512) (l : Fin 1408) :
    (k0_pay1 (F := Ideal) v0 v1 : S512x1408.Idx → EReal) (ix2 r l) = Ideal.ofBits .f32 0x3F000000#32 * ∑ x : Fin 1024, v0 (ix2 r x) * v1 (ix2 l x) := by
  pointwise [k0_pay1]

theorem grad_block (r : Fin 512) (l : Fin 1408) :
    (k0_pay1 (F := Ideal) (iblk m c 0 t) (iblk m c 1 t) : S512x1408.Idx → EReal) (ix2 r l) = grad (D m c) (W m c) (512 * (t.val % 8) + r) (1408 * (t.val / 8) + l) := by
  unfold grad
  rw [grad_apply, ← dot_fin]
  refine congrArg (_ * ·) ?_
  refine Finset.sum_congr rfl fun x _ => ?_
  rw [block0 m c t, block1 m c t]
  simp only [Nat.mul_zero, Nat.zero_add]

theorem sigm_apply (v6 : Vec Ideal S512x1408 .bf16) (r : Fin 512) (l : Fin 1408) :
    (k0_pay3 (F := Ideal) v6 : S512x1408.Idx → EReal) (ix2 r l) = sigm (v6 (ix2 r l)) := by
  unfold sigm
  rw [← zero_sub, ← Ideal.ofBits_one_f32, ← Ideal.ofBits_zero_f32]
  pointwise [k0_pay3, k0_pay2]

theorem gate_apply (v0 : Vec Ideal S512x1024 .f32) (v2 : Vec Ideal S1408x1024 .bf16) (v6 v15 : Vec Ideal S512x1408 .bf16) (r : Fin 512) (l : Fin 1408) :
    (k0_pay4 (F := Ideal) v0 v2 v6 v15 : S512x1408.Idx → EReal) (ix2 r l)
      = (k0_pay1 (F := Ideal) v0 v2 : S512x1408.Idx → EReal) (ix2 r l) * v15 (ix2 r l)
        * (sigm (v6 (ix2 r l)) * (1 + v6 (ix2 r l) * (1 - sigm (v6 (ix2 r l))))) := by
  rw [← sigm_apply]
  unfold k0_pay4
  generalize k0_pay1 (F := Ideal) v0 v2 = p
  generalize k0_pay3 (F := Ideal) v6 = s
  rw [← Ideal.ofBits_one_f32]
  pointwise [k0_pay2]

theorem up_apply (v0 : Vec Ideal S512x1024 .f32) (v2 : Vec Ideal S1408x1024 .bf16) (v6 : Vec Ideal S512x1408 .bf16) (r : Fin 512) (l : Fin 1408) :
    (k0_pay5 (F := Ideal) v0 v2 v6 : S512x1408.Idx → EReal) (ix2 r l)
      = (k0_pay1 (F := Ideal) v0 v2 : S512x1408.Idx → EReal) (ix2 r l) * v6 (ix2 r l) * sigm (v6 (ix2 r l)) := by
  rw [← sigm_apply]
  unfold k0_pay5
  generalize k0_pay1 (F := Ideal) v0 v2 = p
  generalize k0_pay3 (F := Ideal) v6 = s
  pointwise [k0_pay2]

theorem result_block4 (r : Fin 512) (l : Fin 1408) :
    (out0_4 (F := Ideal) (iblk m c 0 t) (iblk m c 1 t) (iblk m c 2 t) (iblk m c 3 t) : S512x1408.Idx → EReal) (ix2 r l) = gradGate (D m c) (W m c) (A m c) (B m c) (512 * (t.val % 8) + r) (1408 * (t.val / 8) + l) := by
  unfold out0_4 gradGate
  rw [View.canon_unit_zero hz]
  simp only [View.ld_unit_zero (S := S512x1024) hz, View.ld_unit_zero (S := S1408x1024) hz, View.ld_unit_zero (S := S512x1408) hz]
  rw [gate_apply, grad_block m c t, block2 m c t, block3 m c t]

theorem result_block5 (r : Fin 512) (l : Fin 1408) :
    (out0_5 (F := Ideal) (iblk m c 0 t) (iblk m c 1 t) (iblk m c 2 t) (iblk m c 3 t) : S512x1408.Idx → EReal) (ix2 r l) = gradUp (D m c) (W m c) (A m c) (512 * (t.val % 8) + r) (1408 * (t.val / 8) + l) := by
  unfold out0_5 gradUp
  rw [View.canon_unit_zero hz]
  simp only [View.ld_unit_zero (S := S512x1024) hz, View.ld_unit_zero (S := S1408x1024) hz, View.ld_unit_zero (S := S512x1408) hz]
  rw [up_apply, grad_block m c t, block2 m c t]

theorem final4 (i : S4096x2816.Idx) : ((dats m 0 c).arrAt 4 cfg0.N : S4096x2816.Idx → EReal) i = gradGate (D m c) (W m c) (A m c) (B m c) (i 0).val (i 1).val := by
  refine Dat.arrAt_forall_of_cover (dat := dats m 0 c) 4 (fun i x => x = gradGate (D m c) (W m c) (A m c) (B m c) (i 0).val (i 1).val) ?_ ?_ i
  · intro t hft y
    rw [Cert.DActIdeal.Value.flushed4]
    obtain ⟨r, l, rfl⟩ : ∃ (r : Fin 512) (l : Fin 1408), y = ix2 r l := ⟨y 0, y 1, funext fun d => by fin_cases d <;> rfl⟩
    have e0 : (((cfg0.win 4).blk t).view.emb (ix2 r l) 0).val = 512 * (t.val % 8) + r.val := by
      exact place win0_4 (index4 t).1 (by show (t.val % 8) * 512 + r.val = _; omega)
    have e1 : (((cfg0.win 4).blk t).view.emb (ix2 r l) 1).val = 1408 * (t.val / 8) + l.val := by
      exact place win0_4 (index4 t).2 (by show (t.val / 8) * 1408 + l.val = _; omega)
    rw [e0, e1]
    have key := result_block4 m c t r l
    revert key
    generalize out0_4 (F := Ideal) (iblk m c 0 t) (iblk m c 1 t) (iblk m c 2 t) (iblk m c 3 t) = B
    intro key
    exact key
  · intro i
    have h0 : (i 0).val < 4096 := (i 0).isLt
    have h1 : (i 1).val < 2816 := (i 1).isLt
    have hb : 8 * ((i 1).val / 1408) + (i 0).val / 512 < cfg0.N := Nat.lt_of_lt_of_eq (by omega) N_0.symm
    refine ⟨⟨_, hb⟩, flush0_4 _, ?_⟩
    show i ∈ ((View.whole main_v0_0).slice (win0_4.rect ⟨_, hb⟩)).set
    rw [View.set_slice_whole, Rect.mem_set_unit]
    have hi := index4 ⟨_, hb⟩
    dsimp only at hi
    intro d
    fin_cases d
    · exact between (b := 512) (n := (i 0).val) hi.1 (by omega)
    · exact between (b := 1408) (n := (i 1).val) hi.2 (by omega)

theorem final5 (i : S4096x2816.Idx) : ((dats m 0 c).arrAt 5 cfg0.N : S4096x2816.Idx → EReal) i = gradUp (D m c) (W m c) (A m c) (i 0).val (i 1).val := by
  refine Dat.arrAt_forall_of_cover (dat := dats m 0 c) 5 (fun i x => x = gradUp (D m c) (W m c) (A m c) (i 0).val (i 1).val) ?_ ?_ i
  · intro t hft y
    rw [Cert.DActIdeal.Value.flushed5]
    obtain ⟨r, l, rfl⟩ : ∃ (r : Fin 512) (l : Fin 1408), y = ix2 r l := ⟨y 0, y 1, funext fun d => by fin_cases d <;> rfl⟩
    have e0 : (((cfg0.win 5).blk t).view.emb (ix2 r l) 0).val = 512 * (t.val % 8) + r.val := by
      exact place win0_5 (index5 t).1 (by show (t.val % 8) * 512 + r.val = _; omega)
    have e1 : (((cfg0.win 5).blk t).view.emb (ix2 r l) 1).val = 1408 * (t.val / 8) + l.val := by
      exact place win0_5 (index5 t).2 (by show (t.val / 8) * 1408 + l.val = _; omega)
    rw [e0, e1]
    have key := result_block5 m c t r l
    revert key
    generalize out0_5 (F := Ideal) (iblk m c 0 t) (iblk m c 1 t) (iblk m c 2 t) (iblk m c 3 t) = B
    intro key
    exact key
  · intro i
    have h0 : (i 0).val < 4096 := (i 0).isLt
    have h1 : (i 1).val < 2816 := (i 1).isLt
    have hb : 8 * ((i 1).val / 1408) + (i 0).val / 512 < cfg0.N := Nat.lt_of_lt_of_eq (by omega) N_0.symm
    refine ⟨⟨_, hb⟩, flush0_5 _, ?_⟩
    show i ∈ ((View.whole main_v0_1).slice (win0_5.rect ⟨_, hb⟩)).set
    rw [View.set_slice_whole, Rect.mem_set_unit]
    have hi := index5 ⟨_, hb⟩
    dsimp only at hi
    intro d
    fin_cases d
    · exact between (b := 512) (n := (i 0).val) hi.1 (by omega)
    · exact between (b := 1408) (n := (i 1).val) hi.2 (by omega)

end

/-! ## The reference, and the claims -/

open Cert.DActRefIdeal.Read

theorem reference_grad (x0 : Vec Ideal S4096x1024 .f32) (x1 : Vec Ideal S2816x1024 .bf16) (r : Fin 4096) (q : Fin 2816) :
    (val_main_v10 (F := Ideal) x0 x1 : S4096x2816.Idx → EReal) (ix2 r q) = grad x0 x1 r q := by
  have e : (val_main_v10 (F := Ideal) x0 x1 : S4096x2816.Idx → EReal) (ix2 r q) = ∑ x : Fin 1024, Ideal.ofBits .f32 0x3F000000#32 * x0 (ix2 r x) * x1 (ix2 q x) := by
    pointwise [val_main_v10, val_main_v9, val_main_v8, val_main_cst_0, val_main_v4]
  unfold grad
  rw [e, mul_comm, ← dot_scale _ half_nonneg half_ne_top, ← dot_fin]
  refine Finset.sum_congr rfl fun x _ => ?_
  rw [at2_ix2 x0, at2_ix2 x1]

theorem reference_sigm (x2 : Vec Ideal S4096x2816 .bf16) (r : Fin 4096) (q : Fin 2816) :
    (val_main_v2_2 (F := Ideal) x2 : S4096x2816.Idx → EReal) (ix2 r q) = sigm (at2 x2 r q) := by
  rw [← at2_ix2 x2]
  unfold sigm
  rw [← Ideal.ofBits_one_f32]
  pointwise [val_main_v2_2, val_main_call0_v3, val_main_call0_v1, val_main_call0_v0, val_main_v0, val_main_call0_v4, val_main_call0_v2, val_main_call0_cst, val_main_call0_cst_0]

theorem reference_up (x0 : Vec Ideal S4096x1024 .f32) (x1 : Vec Ideal S2816x1024 .bf16) (x2 : Vec Ideal S4096x2816 .bf16) (r : Fin 4096) (q : Fin 2816) :
    (val_main_v15 (F := Ideal) x0 x1 x2 : S4096x2816.Idx → EReal) (ix2 r q) = gradUp x0 x1 x2 r q := by
  have e : (val_main_v15 (F := Ideal) x0 x1 x2 : S4096x2816.Idx → EReal) (ix2 r q)
      = x2 (ix2 r q) * (val_main_v2_2 (F := Ideal) x2 : S4096x2816.Idx → EReal) (ix2 r q) * (val_main_v10 (F := Ideal) x0 x1 : S4096x2816.Idx → EReal) (ix2 r q) := by
    unfold val_main_v15 val_main_v11 val_main_v2_0
    generalize val_main_v2_2 (F := Ideal) x2 = s
    generalize val_main_v10 (F := Ideal) x0 x1 = d
    pointwise [val_main_v0]
  unfold gradUp
  rw [e, reference_sigm, reference_grad, at2_ix2 x2, mul_comm, mul_assoc]

/-- Where the incoming gradient, the weight and the up value are real, the reference's gradient of the gate's value. -/
theorem reference_gate (x0 : Vec Ideal S4096x1024 .f32) (x1 : Vec Ideal S2816x1024 .bf16) (x2 x3 : Vec Ideal S4096x2816 .bf16)
    (h0 : ∀ i, IsReal (x0 i)) (h1 : ∀ i, IsReal (x1 i)) (h3 : ∀ i, IsReal (x3 i)) (r : Fin 4096) (q : Fin 2816) :
    (val_main_v14 (F := Ideal) x0 x1 x2 x3 : S4096x2816.Idx → EReal) (ix2 r q) = gradGate x0 x1 x2 x3 r q := by
  have e : (val_main_v14 (F := Ideal) x0 x1 x2 x3 : S4096x2816.Idx → EReal) (ix2 r q)
      = (val_main_v10 (F := Ideal) x0 x1 : S4096x2816.Idx → EReal) (ix2 r q) * x3 (ix2 r q) * (val_main_v2_2 (F := Ideal) x2 : S4096x2816.Idx → EReal) (ix2 r q)
        + (x2 (ix2 r q) * ((val_main_v10 (F := Ideal) x0 x1 : S4096x2816.Idx → EReal) (ix2 r q) * x3 (ix2 r q)))
          * ((val_main_v2_2 (F := Ideal) x2 : S4096x2816.Idx → EReal) (ix2 r q) * (1 - (val_main_v2_2 (F := Ideal) x2 : S4096x2816.Idx → EReal) (ix2 r q))) := by
    unfold val_main_v14 val_main_v13 val_main_call1_v1 val_main_call1_v2 val_main_call1_v0 val_main_v12 val_main_v2_1 val_main_call0_v7
    generalize val_main_v2_2 (F := Ideal) x2 = s
    generalize val_main_v10 (F := Ideal) x0 x1 = d
    rw [← Ideal.ofBits_one_f32]
    pointwise [val_main_v0, val_main_v1, val_main_call0_v6, val_main_call0_cst_1]
  obtain ⟨p, hp⟩ : IsReal (grad x0 x1 r q * at2 x3 r q) :=
    (isReal_half.mul (isReal_dot (fun k => isReal_at2 h0 r k) (fun k => isReal_at2 h1 q k) 1024)).mul (isReal_at2 h3 r q)
  unfold gradGate
  rw [e, reference_sigm, reference_grad, at2_ix2 x2, at2_ix2 x3, hp]
  exact silu_slope p _

/-- What the precondition says of a launch's arguments. -/
theorem finite_arguments (m : (ℓ : Loc nD τ sig) → Buf (Elt Ideal) ℓ) (h : Cert.Pre_DActIdeal_dact_finite m) (c : Dev nD) :
    (∀ i, IsReal (D m c i)) ∧ (∀ i, IsReal (W m c i)) ∧ (∀ i, IsReal (B m c i)) :=
  ⟨fun i => isReal_of_test (congrFun (h c).1 i), fun i => isReal_of_test (congrFun (h c).2.1 i), fun i => isReal_of_test (congrFun (h c).2.2 i)⟩

theorem frame_kernel : Cert.quiescent_DAct := fun m g _ => Cert.DAct.Gen.frame m g

theorem frame_ideal : Cert.quiescent_DActIdeal := fun m g _ => Cert.DActIdeal.Gen.frame m g

theorem frame_reference : Cert.quiescent_DActRefIdeal := fun m g _ =>
  (θ_run Cert.DActRefIdeal.defs _ _).mono (fun r h => ⟨fun c => (h c).2.2, sem_eq_zero_of_no_sems (by decide) r.2⟩)
    (Cert.DActRefIdeal.Value.run (F := Ideal) m g)

theorem frame_ideal_pre : Cert.quiescent_DActIdeal_pre_dact_finite := fun m g _ => Cert.DActIdeal.Gen.frame m g

theorem frame_reference_pre : Cert.quiescent_DActRefIdeal_pre_dact_finite := fun m g _ =>
  (θ_run Cert.DActRefIdeal.defs _ _).mono (fun r h => ⟨fun c => (h c).2.2, sem_eq_zero_of_no_sems (by decide) r.2⟩)
    (Cert.DActRefIdeal.Value.run (F := Ideal) m g)

theorem algebraic : Cert.algebraic_DActIdeal_DActRefIdeal_pre_dact_finite := by
  pair_intro
  · run_from Cert.DActIdeal.Value.run_blocks m g
  · run_from Cert.DActRefIdeal.Value.run m' g'
    · refine funext fun i => ?_
      rw [final4 m c]
      exact ((congrFun (Cert.DActRefIdeal.Read.val_main_v14_eq _ _ _ _) i).trans (congrArg _ (funext fun d => by fin_cases d <;> rfl))).trans (reference_gate _ _ _ _ (finite_arguments m hpre c).1 (finite_arguments m hpre c).2.1 (finite_arguments m hpre c).2.2 (i 0) (i 1))
    · refine funext fun i => ?_
      rw [final5 m c]
      exact ((congrFun (Cert.DActRefIdeal.Read.val_main_v15_eq _ _ _) i).trans (congrArg _ (funext fun d => by fin_cases d <;> rfl))).trans (reference_up _ _ _ (i 0) (i 1))

end Cert.DActProof

end
-- ==== Proof.DWdProd.lean ====
/-
  The feed-forward block's gradient of its down projection's weight.
-/
module

public import proofs.«01_k».proof.Defs
public import proofs.«01_k».proof.Proof.Gen.DWd.Frame
public import proofs.«01_k».proof.Proof.Gen.DWdIdeal.Value
public import proofs.«01_k».proof.Proof.Gen.DWdRefIdeal.Run
public import proofs.«01_k».proof.Proof.Gen.DWdRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DWdProof

open Idealize.ShloMosaic Idealize.ShloMosaic.TcCoe Cert.DWdIdeal Cert.DWdIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2816.Idx → EReal := m ((c : Thread nD τ).loc main_arg0)
abbrev Y : S4096x1024.Idx → EReal := m ((c : Thread nD τ).loc main_arg1)

theorem index0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem index1 : ∀ t : Fin cfg0.N, win0_1.index t (0 : Fin 2) = t.val % 4 ∧ win0_1.index t (1 : Fin 2) = t.val / 4 % 1 :=
  (by decide +kernel : ∀ t : Fin grid0.N, win0_1.index t (0 : Fin 2) = t.val % 4 ∧ win0_1.index t (1 : Fin 2) = t.val / 4 % 1)
theorem index2 : ∀ t : Fin cfg0.N, win0_2.index t (0 : Fin 2) = t.val / 4 ∧ win0_2.index t (1 : Fin 2) = t.val / 4 % 1 :=
  (by decide +kernel : ∀ t : Fin grid0.N, win0_2.index t (0 : Fin 2) = t.val / 4 ∧ win0_2.index t (1 : Fin 2) = t.val / 4 % 1)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 1024) (b : Fin 1408) : (iblk m c 0 t : Vec Ideal S1024x1408 .bf16) (ix2 a b) = at2 (X m c) (1024 * (t.val % 4) + a) (1408 * (t.val / 4) + b) :=
  (congrFun (V_main_arg0 m c) (((cfg0.win 0).blk t).view.emb (ix2 a b))).trans (at2_eq _ _ _ _
    (place win0_0 (index0 t).1 (by show (t.val % 4) * 1024 + a.val = _; omega))
    (place win0_0 (index0 t).2 (by show (t.val / 4) * 1408 + b.val = _; omega)))

theorem block1 (a : Fin 1024) (b : Fin 1024) : (iblk m c 1 t : Vec Ideal S1024x1024 .f32) (ix2 a b) = at2 (Y m c) (1024 * (t.val % 4) + a) (1024 * (t.val / 4 % 1) + b) :=
  (congrFun (V_main_arg1 m c) (((cfg0.win 1).blk t).view.emb (ix2 a b))).trans (at2_eq _ _ _ _
    (place win0_1 (index1 t).1 (by show (t.val % 4) * 1024 + a.val = _; omega))
    (place win0_1 (index1 t).2 (by show (t.val / 4 % 1) * 1024 + b.val = _; omega)))

/-- A tile's product at one element. -/
theorem tile_apply (v0 : Vec Ideal S1024x1408 .bf16) (v1 : Vec Ideal S1024x1024 .f32) (r : Fin 1408) (l : Fin 1024) :
    (k0_pay1 (F := Ideal) v0 v1 : S1408x1024.Idx → EReal) (ix2 r l) = ∑ x : Fin 1024, v0 (ix2 x r) * v1 (ix2 x l) := by
  pointwise [k0_pay1]

/-- Row `r` of the tile's left factor and column `l` of its right factor, continued over the whole sum. -/
abbrev left (r : ℕ) : ℕ → EReal := fun k => at2 (X m c) k (1408 * (t.val / 4) + r)
abbrev right (l : ℕ) : ℕ → EReal := fun k => at2 (Y m c) k (1024 * (t.val / 4 % 1) + l)

theorem tile_sum (r : Fin 1408) (l : Fin 1024) :
    (k0_pay1 (F := Ideal) (iblk m c 0 t) (iblk m c 1 t) : S1408x1024.Idx → EReal) (ix2 r l)
      = ∑ x : Fin 1024, left m c t r (1024 * (t.val % 4) + x) * right m c t l (1024 * (t.val % 4) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S1024x1408 .bf16) (h3 : a3.IsWhole) (a4 : Memref sig .tc .vmem S1024x1024 .f32) (h4 : a4.IsWhole) (a5 : Memref sig .tc .vmem S1408x1024 .bf16) (h5 : a5.IsWhole) (a6 : Memref sig .tc .vmem S1408x1024 .f32) (h6 : a6.IsWhole) (hc0 : cond0_0 i) (hc1 : ¬cond0_1 i) (hc2 : ¬cond0_2 i) (x0 : Vec Ideal S1024x1408 .bf16) (x1 : Vec Ideal S1024x1024 .f32) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

theorem next_point (c : Dev nD) (i : grid0.Coords) (a3 : Memref sig .tc .vmem S1024x1408 .bf16) (h3 : a3.IsWhole) (a4 : Memref sig .tc .vmem S1024x1024 .f32) (h4 : a4.IsWhole) (a5 : Memref sig .tc .vmem S1408x1024 .bf16) (h5 : a5.IsWhole) (a6 : Memref sig .tc .vmem S1408x1024 .f32) (h6 : a6.IsWhole) (hc0 : ¬cond0_0 i) (hc1 : cond0_1 i) (hc2 : ¬cond0_2 i) (x0 : Vec Ideal S1024x1408 .bf16) (x1 : Vec Ideal S1024x1024 .f32) (xs : Vec Ideal S1408x1024 .f32) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

theorem last_point (c : Dev nD) (i : grid0.Coords) (a3 : Memref sig .tc .vmem S1024x1408 .bf16) (h3 : a3.IsWhole) (a4 : Memref sig .tc .vmem S1024x1024 .f32) (h4 : a4.IsWhole) (a5 : Memref sig .tc .vmem S1408x1024 .bf16) (h5 : a5.IsWhole) (a6 : Memref sig .tc .vmem S1408x1024 .f32) (h6 : a6.IsWhole) (hc0 : ¬cond0_0 i) (hc1 : ¬cond0_1 i) (hc2 : cond0_2 i) (x0 : Vec Ideal S1024x1408 .bf16) (x1 : Vec Ideal S1024x1024 .f32) (xs : Vec Ideal S1408x1024 .f32) :
    out0_C_2 (F := Ideal) c i a3 h3 a4 h4 a5 h5 a6 h6 hc0 hc1 hc2 x0 x1 xs = k0_pay4 x0 x1 xs := by
  unfold out0_C_2
  rw [View.read_writes_eq_canon _ _ _ (cover0_C_2 (F := Ideal) c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

theorem first_apply (v0 : Vec Ideal S1024x1408 .bf16) (v1 : Vec Ideal S1024x1024 .f32) (r : Fin 1408) (l : Fin 1024) :
    (k0_pay2 (F := Ideal) v0 v1 : S1408x1024.Idx → EReal) (ix2 r l) = (k0_pay1 (F := Ideal) v0 v1 : S1408x1024.Idx → EReal) (ix2 r l) := by
  unfold k0_pay2
  generalize k0_pay1 (F := Ideal) v0 v1 = p
  pointwise

theorem next_apply (v0 : Vec Ideal S1024x1408 .bf16) (v1 : Vec Ideal S1024x1024 .f32) (s : Vec Ideal S1408x1024 .f32) (r : Fin 1408) (l : Fin 1024) :
    (k0_pay3 (F := Ideal) v0 v1 s : S1408x1024.Idx → EReal) (ix2 r l) = s (ix2 r l) + (k0_pay1 (F := Ideal) v0 v1 : S1408x1024.Idx → EReal) (ix2 r l) := by
  unfold k0_pay3
  generalize k0_pay1 (F := Ideal) v0 v1 = p
  pointwise

theorem last_apply (v0 : Vec Ideal S1024x1408 .bf16) (v1 : Vec Ideal S1024x1024 .f32) (s : Vec Ideal S1408x1024 .f32) (r : Fin 1408) (l : Fin 1024) :
    (k0_pay4 (F := Ideal) v0 v1 s : S1408x1024.Idx → EReal) (ix2 r l) = (s (ix2 r l) + (k0_pay1 (F := Ideal) v0 v1 : S1408x1024.Idx → EReal) (ix2 r l)) * Ideal.ofBits .f32 0x3F000000#32 := by
  unfold k0_pay4
  generalize k0_pay1 (F := Ideal) v0 v1 = p
  pointwise

/-- The scratch after a point that is not a sum's last holds the sum of the tiles so far. -/
theorem carried (r : Fin 1408) (l : Fin 1024) : ∀ (n : ℕ) (hn : n < cfg0.N), n % 4 < 3 →
    ((outsAt0 m c n hn).2 : S1408x1024.Idx → EReal) (ix2 r l) = dot (left m c ⟨n, hn⟩ r) (right m c ⟨n, hn⟩ l) (1024 * (n % 4 + 1)) := by
  intro n
  induction n using Nat.strong_induction_on with
  | _ n ih =>
    intro hn hlt
    by_cases h0 : n % 4 = 0
    · rw [outsAt0_A m c ⟨n, hn⟩ h0 (by show ¬(1 ≤ n % 4 ∧ _); omega) (by show ¬n % 4 = 3; omega)]
      dsimp only
      rw [first_point, first_apply, tile_sum m c ⟨n, hn⟩ r l]
      exact dot_first _ _ 1024 (n % 4) h0
    · rw [outsAt0_B m c ⟨n, hn⟩ h0 (show 1 ≤ n % 4 ∧ n % 4 ≤ 2 by omega) (show ¬n % 4 = 3 by omega)]
      dsimp only
      rw [next_point, next_apply, tile_sum m c ⟨n, hn⟩ r l, ih (n - 1) (by omega) _ (by omega)]
      have e1 : (n - 1) / 4 = n / 4 := by omega
      have e2 : (n - 1) / 4 = n / 4 := by omega
      have e3 : (n - 1) % 4 + 1 = n % 4 := by omega
      show dot (left m c ⟨n - 1, _⟩ r) (right m c ⟨n - 1, _⟩ l) (1024 * ((n - 1) % 4 + 1)) + _ = _
      rw [e3]
      unfold left right
      dsimp only
      rw [e1]
      exact dot_tile _ _ 1024 (n % 4)

/-- What a sum's last point leaves in the block of the result. -/
theorem result_block (r : Fin 1408) (l : Fin 1024) (hf : t.val % 4 = 3) :
    ((outsAt0 m c t.val t.isLt).1 : S1408x1024.Idx → EReal) (ix2 r l) = dot (left m c t r) (right m c t l) 4096 * Ideal.ofBits .f32 0x3F000000#32 := by
  rw [outsAt0_C m c t (by omega) (by omega) hf]
  dsimp only
  rw [last_point, last_apply, tile_sum m c t r l, carried m c r l (t.val - 1) _ (by omega)]
  have e1 : (t.val - 1) / 4 = t.val / 4 := by omega
  have e2 : (t.val - 1) / 4 = t.val / 4 := by omega
  have e3 : (t.val - 1) % 4 + 1 = t.val % 4 := by omega
  rw [e3]
  have e := dot_tile (left m c t r) (right m c t l) 1024 (t.val % 4)
  have e4 : 1024 * (t.val % 4 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096 * Ideal.ofBits .f32 0x3F000000#32

/-- The result array after the run. -/
theorem final (i : S2816x1024.Idx) : ((dats m 0 c).arrAt 2 cfg0.N : S2816x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DWdIdeal.Value.flushed2]
    obtain ⟨r, l, rfl⟩ : ∃ (r : Fin 1408) (l : Fin 1024), y = ix2 r l := ⟨y 0, y 1, funext fun d => by fin_cases d <;> rfl⟩
    have e0 : (((cfg0.win 2).blk t).view.emb (ix2 r l) 0).val = 1408 * (t.val / 4) + r.val := by
      exact place win0_2 (index2 t).1 (by show (t.val / 4) * 1408 + r.val = _; omega)
    have e1 : (((cfg0.win 2).blk t).view.emb (ix2 r l) 1).val = 1024 * (t.val / 4 % 1) + l.val := by
      exact place win0_2 (index2 t).2 (by show (t.val / 4 % 1) * 1024 + l.val = _; omega)
    rw [e0, e1]
    have key := result_block m c t r l hf
    revert key
    generalize (outsAt0 m c t.val t.isLt).1 = B
    intro key
    exact key
  · intro i
    have h0 : (i 0).val < 2816 := (i 0).isLt
    have h1 : (i 1).val < 1024 := (i 1).isLt
    have hb : 4 * ((i 0).val / 1408) + 4 * ((i 1).val / 1024) + 3 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1408) (n := (i 0).val) hi.1 (by omega)
    · exact between (b := 1024) (n := (i 1).val) hi.2 (by omega)

end

/-! ## The reference, and the claims -/

/-- The reference's result at one element. -/
theorem reference_apply (x0 : Vec Ideal S4096x2816 .bf16) (x1 : Vec Ideal S4096x1024 .f32) (r : Fin 2816) (q : Fin 1024) :
    (Cert.DWdRefIdeal.Read.val_main_v9 (F := Ideal) x0 x1 : S2816x1024.Idx → EReal) (ix2 r q) = dot (fun k => at2 x0 k r) (fun k => at2 x1 k q) 4096 * Ideal.ofBits .f32 0x3F000000#32 := by
  have e : (Cert.DWdRefIdeal.Read.val_main_v9 (F := Ideal) x0 x1 : S2816x1024.Idx → EReal) (ix2 r q) = ∑ x : Fin 4096, ((Ideal.ofBits .f32 0x3F000000#32) * x1 (ix2 x q)) * x0 (ix2 x r) := by
    pointwise [Cert.DWdRefIdeal.Read.val_main_cst, Cert.DWdRefIdeal.Read.val_main_v0, Cert.DWdRefIdeal.Read.val_main_v1, Cert.DWdRefIdeal.Read.val_main_v2, Cert.DWdRefIdeal.Read.val_main_cst_0, Cert.DWdRefIdeal.Read.val_main_v3, Cert.DWdRefIdeal.Read.val_main_v4, Cert.DWdRefIdeal.Read.val_main_cst_1, Cert.DWdRefIdeal.Read.val_main_v5, Cert.DWdRefIdeal.Read.val_main_v6, Cert.DWdRefIdeal.Read.val_main_v7, Cert.DWdRefIdeal.Read.val_main_v8, Cert.DWdRefIdeal.Read.val_main_v9]
  rw [e]
  refine Eq.trans ?_ ((dot_scale (Ideal.ofBits .f32 0x3F000000#32) half_nonneg half_ne_top (fun k => at2 x1 k q) (fun k => at2 x0 k r) 4096).trans (by rw [dot_comm]))
  rw [← dot_fin]
  refine Finset.sum_congr rfl fun x _ => ?_
  rw [at2_ix2 x0, at2_ix2 x1]

theorem frame_kernel : Cert.quiescent_DWd := fun m g _ => Cert.DWd.Gen.frame m g

theorem frame_ideal : Cert.quiescent_DWdIdeal := fun m g _ => Cert.DWdIdeal.Gen.frame m g

theorem frame_reference : Cert.quiescent_DWdRefIdeal := fun m g _ =>
  (θ_run Cert.DWdRefIdeal.defs _ _).mono (fun r h => ⟨fun c => (h c).2, sem_eq_zero_of_no_sems (by decide) r.2⟩)
    (Cert.DWdRefIdeal.Value.run (F := Ideal) m g)

theorem algebraic : Cert.algebraic_DWdIdeal_DWdRefIdeal := by
  pair_intro
  · run_from Cert.DWdIdeal.Value.run_blocks m g
  · run_from Cert.DWdRefIdeal.Value.run m' g'
    refine funext fun i => ?_
    rw [Cert.DWdProof.final m c]
    exact ((congrFun (Cert.DWdRefIdeal.Read.val_main_v9_eq _ _) i).trans (congrArg _ (funext fun d => by fin_cases d <;> rfl))).trans (reference_apply _ _ (i 0) (i 1))

end Cert.DWdProof

end
-- ==== Proof.DWgProd.lean ====
/-
  The feed-forward block's gradient of the weight of its gate (and, the same call, of its up projection).
-/
module

public import proofs.«01_k».proof.Defs
public import proofs.«01_k».proof.Proof.Gen.DWg.Frame
public import proofs.«01_k».proof.Proof.Gen.DWgIdeal.Value
public import proofs.«01_k».proof.Proof.Gen.DWgRefIdeal.Run
public import proofs.«01_k».proof.Proof.Gen.DWgRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DWgProof

open Idealize.ShloMosaic Idealize.ShloMosaic.TcCoe Cert.DWgIdeal Cert.DWgIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2816.Idx → EReal := m ((c : Thread nD τ).loc main_arg0)
abbrev Y : S4096x1024.Idx → EReal := m ((c : Thread nD τ).loc main_arg1)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = t.val / 2 % 1 :=
  (by decide +kernel : ∀ t : Fin grid0.N, win0_1.index t (0 : Fin 2) = t.val % 2 ∧ win0_1.index t (1 : Fin 2) = t.val / 2 % 1)
theorem index2 : ∀ t : Fin cfg0.N, win0_2.index t (0 : Fin 2) = t.val / 2 ∧ win0_2.index t (1 : Fin 2) = t.val / 2 % 1 :=
  (by decide +kernel : ∀ t : Fin grid0.N, win0_2.index t (0 : Fin 2) = t.val / 2 ∧ win0_2.index t (1 : Fin 2) = t.val / 2 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 2048) (b : Fin 1408) : (iblk m c 0 t : Vec Ideal S2048x1408 .bf16) (ix2 a b) = at2 (X m c) (2048 * (t.val % 2) + a) (1408 * (t.val / 2) + b) :=
  (congrFun (V_main_arg0 m c) (((cfg0.win 0).blk t).view.emb (ix2 a b))).trans (at2_eq _ _ _ _
    (place win0_0 (index0 t).1 (by show (t.val % 2) * 2048 + a.val = _; omega))
    (place win0_0 (index0 t).2 (by show (t.val / 2) * 1408 + b.val = _; omega)))

theorem block1 (a : Fin 2048) (b : Fin 1024) : (iblk m c 1 t : Vec Ideal S2048x1024 .bf16) (ix2 a b) = at2 (Y m c) (2048 * (t.val % 2) + a) (1024 * (t.val / 2 % 1) + b) :=
  (congrFun (V_main_arg1 m c) (((cfg0.win 1).blk t).view.emb (ix2 a b))).trans (at2_eq _ _ _ _
    (place win0_1 (index1 t).1 (by show (t.val % 2) * 2048 + a.val = _; omega))
    (place win0_1 (index1 t).2 (by show (t.val / 2 % 1) * 1024 + b.val = _; omega)))

/-- A tile's product at one element. -/
theorem tile_apply (v0 : Vec Ideal S2048x1408 .bf16) (v1 : Vec Ideal S2048x1024 .bf16) (r : Fin 1408) (l : Fin 1024) :
    (k0_pay1 (F := Ideal) v0 v1 : S1408x1024.Idx → EReal) (ix2 r l) = ∑ x : Fin 2048, v0 (ix2 x r) * v1 (ix2 x l) := by
  pointwise [k0_pay1]

/-- Row `r` of the tile's left factor and column `l` of its right factor, continued over the whole sum. -/
abbrev left (r : ℕ) : ℕ → EReal := fun k => at2 (X m c) k (1408 * (t.val / 2) + r)
abbrev right (l : ℕ) : ℕ → EReal := fun k => at2 (Y m c) k (1024 * (t.val / 2 % 1) + l)

theorem tile_sum (r : Fin 1408) (l : Fin 1024) :
    (k0_pay1 (F := Ideal) (iblk m c 0 t) (iblk m c 1 t) : S1408x1024.Idx → EReal) (ix2 r l)
      = ∑ x : Fin 2048, left m c t r (2048 * (t.val % 2) + x) * right m c t l (2048 * (t.val % 2) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S2048x1408 .bf16) (h3 : a3.IsWhole) (a4 : Memref sig .tc .vmem S2048x1024 .bf16) (h4 : a4.IsWhole) (a5 : Memref sig .tc .vmem S1408x1024 .bf16) (h5 : a5.IsWhole) (a6 : Memref sig .tc .vmem S1408x1024 .f32) (h6 : a6.IsWhole) (hc0 : cond0_0 i) (hc1 : ¬cond0_1 i) (hc2 : ¬cond0_2 i) (x0 : Vec Ideal S2048x1408 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem last_point (c : Dev nD) (i : grid0.Coords) (a3 : Memref sig .tc .vmem S2048x1408 .bf16) (h3 : a3.IsWhole) (a4 : Memref sig .tc .vmem S2048x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : ¬cond0_1 i) (hc2 : cond0_2 i) (x0 : Vec Ideal S2048x1408 .bf16) (x1 : Vec Ideal S2048x1024 .bf16) (xs : Vec Ideal S1408x1024 .f32) :
    out0_B_2 (F := Ideal) c i a3 h3 a4 h4 a5 h5 a6 h6 hc0 hc1 hc2 x0 x1 xs = k0_pay4 x0 x1 xs := by
  unfold out0_B_2
  rw [View.read_writes_eq_canon _ _ _ (cover0_B_2 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem first_apply (v0 : Vec Ideal S2048x1408 .bf16) (v1 : Vec Ideal S2048x1024 .bf16) (r : Fin 1408) (l : Fin 1024) :
    (k0_pay2 (F := Ideal) v0 v1 : S1408x1024.Idx → EReal) (ix2 r l) = (k0_pay1 (F := Ideal) v0 v1 : S1408x1024.Idx → EReal) (ix2 r l) := by
  unfold k0_pay2
  generalize k0_pay1 (F := Ideal) v0 v1 = p
  pointwise

theorem last_apply (v0 : Vec Ideal S2048x1408 .bf16) (v1 : Vec Ideal S2048x1024 .bf16) (s : Vec Ideal S1408x1024 .f32) (r : Fin 1408) (l : Fin 1024) :
    (k0_pay4 (F := Ideal) v0 v1 s : S1408x1024.Idx → EReal) (ix2 r l) = (s (ix2 r l) + (k0_pay1 (F := Ideal) v0 v1 : S1408x1024.Idx → EReal) (ix2 r l)) := by
  unfold k0_pay4
  generalize k0_pay1 (F := Ideal) v0 v1 = p
  pointwise

/-- The scratch after a point that is not a sum's last holds the sum of the tiles so far. -/
theorem carried (r : Fin 1408) (l : Fin 1024) : ∀ (n : ℕ) (hn : n < cfg0.N), n % 2 < 1 →
    ((outsAt0 m c n hn).2 : S1408x1024.Idx → EReal) (ix2 r l) = dot (left m c ⟨n, hn⟩ r) (right m c ⟨n, hn⟩ l) (2048 * (n % 2 + 1)) := by
  intro n
  induction n using Nat.strong_induction_on with
  | _ n ih =>
    intro hn hlt
    by_cases h0 : n % 2 = 0
    · rw [outsAt0_A m c ⟨n, hn⟩ h0 (by show ¬n % 2 = 1; omega)]
      dsimp only
      rw [first_point, first_apply, tile_sum m c ⟨n, hn⟩ r l]
      exact dot_first _ _ 2048 (n % 2) h0
    · omega

/-- What a sum's last point leaves in the block of the result. -/
theorem result_block (r : Fin 1408) (l : Fin 1024) (hf : t.val % 2 = 1) :
    ((outsAt0 m c t.val t.isLt).1 : S1408x1024.Idx → EReal) (ix2 r l) = dot (left m c t r) (right m c t l) 4096 := by
  rw [outsAt0_B m c t (by omega) hf]
  dsimp only
  rw [last_point, last_apply, tile_sum m c t r l, carried m c r l (t.val - 1) _ (by omega)]
  have e1 : (t.val - 1) / 2 = t.val / 2 := by omega
  have e2 : (t.val - 1) / 2 = t.val / 2 := by omega
  have e3 : (t.val - 1) % 2 + 1 = t.val % 2 := by omega
  rw [e3]
  have e := dot_tile (left m c t r) (right m c t l) 2048 (t.val % 2)
  have e4 : 2048 * (t.val % 2 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096

/-- The result array after the run. -/
theorem final (i : S2816x1024.Idx) : ((dats m 0 c).arrAt 2 cfg0.N : S2816x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DWgIdeal.Value.flushed2]
    obtain ⟨r, l, rfl⟩ : ∃ (r : Fin 1408) (l : Fin 1024), y = ix2 r l := ⟨y 0, y 1, funext fun d => by fin_cases d <;> rfl⟩
    have e0 : (((cfg0.win 2).blk t).view.emb (ix2 r l) 0).val = 1408 * (t.val / 2) + r.val := by
      exact place win0_2 (index2 t).1 (by show (t.val / 2) * 1408 + r.val = _; omega)
    have e1 : (((cfg0.win 2).blk t).view.emb (ix2 r l) 1).val = 1024 * (t.val / 2 % 1) + l.val := by
      exact place win0_2 (index2 t).2 (by show (t.val / 2 % 1) * 1024 + l.val = _; omega)
    rw [e0, e1]
    have key := result_block m c t r l hf
    revert key
    generalize (outsAt0 m c t.val t.isLt).1 = B
    intro key
    exact key
  · intro i
    have h0 : (i 0).val < 2816 := (i 0).isLt
    have h1 : (i 1).val < 1024 := (i 1).isLt
    have hb : 2 * ((i 0).val / 1408) + 2 * ((i 1).val / 1024) + 1 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1408) (n := (i 0).val) hi.1 (by omega)
    · exact between (b := 1024) (n := (i 1).val) hi.2 (by omega)

end

/-! ## The reference, and the claims -/

/-- The reference's result at one element. -/
theorem reference_apply (x0 : Vec Ideal S4096x2816 .bf16) (x1 : Vec Ideal S4096x1024 .bf16) (r : Fin 2816) (q : Fin 1024) :
    (Cert.DWgRefIdeal.Read.val_main_v8 (F := Ideal) x0 x1 : S2816x1024.Idx → EReal) (ix2 r q) = dot (fun k => at2 x0 k r) (fun k => at2 x1 k q) 4096 := by
  have e : (Cert.DWgRefIdeal.Read.val_main_v8 (F := Ideal) x0 x1 : S2816x1024.Idx → EReal) (ix2 r q) = ∑ x : Fin 4096, x0 (ix2 x r) * x1 (ix2 x q) := by
    pointwise [Cert.DWgRefIdeal.Read.val_main_cst, Cert.DWgRefIdeal.Read.val_main_v0, Cert.DWgRefIdeal.Read.val_main_v1, Cert.DWgRefIdeal.Read.val_main_v2, Cert.DWgRefIdeal.Read.val_main_v3, Cert.DWgRefIdeal.Read.val_main_v4, Cert.DWgRefIdeal.Read.val_main_v5, Cert.DWgRefIdeal.Read.val_main_v6, Cert.DWgRefIdeal.Read.val_main_v7, Cert.DWgRefIdeal.Read.val_main_v8]
  rw [e]
  refine Eq.trans (Finset.sum_congr rfl fun x _ => ?_) (dot_fin (fun k => at2 x0 k r) (fun k => at2 x1 k q) 4096)
  rw [at2_ix2 x0, at2_ix2 x1]

theorem frame_kernel : Cert.quiescent_DWg := fun m g _ => Cert.DWg.Gen.frame m g

theorem frame_ideal : Cert.quiescent_DWgIdeal := fun m g _ => Cert.DWgIdeal.Gen.frame m g

theorem frame_reference : Cert.quiescent_DWgRefIdeal := fun m g _ =>
  (θ_run Cert.DWgRefIdeal.defs _ _).mono (fun r h => ⟨fun c => (h c).2, sem_eq_zero_of_no_sems (by decide) r.2⟩)
    (Cert.DWgRefIdeal.Value.run (F := Ideal) m g)

theorem algebraic : Cert.algebraic_DWgIdeal_DWgRefIdeal := by
  pair_intro
  · run_from Cert.DWgIdeal.Value.run_blocks m g
  · run_from Cert.DWgRefIdeal.Value.run m' g'
    refine funext fun i => ?_
    rw [Cert.DWgProof.final m c]
    exact ((congrFun (Cert.DWgRefIdeal.Read.val_main_v8_eq _ _) i).trans (congrArg _ (funext fun d => by fin_cases d <;> rfl))).trans (reference_apply _ _ (i 0) (i 1))

end Cert.DWgProof

end
-- ==== Proof.DXnProd.lean ====
/-
  The feed-forward block's gradient of its normed input through the gate's product.
-/
module

public import proofs.«01_k».proof.Defs
public import proofs.«01_k».proof.Proof.Gen.DXn.Frame
public import proofs.«01_k».proof.Proof.Gen.DXnIdeal.Value
public import proofs.«01_k».proof.Proof.Gen.DXnRefIdeal.Run
public import proofs.«01_k».proof.Proof.Gen.DXnRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DXnProof

open Idealize.ShloMosaic Idealize.ShloMosaic.TcCoe Cert.DXnIdeal Cert.DXnIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2816.Idx → EReal := m ((c : Thread nD τ).loc main_arg0)
abbrev Y : S2816x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 2816) : (iblk m c 0 t : Vec Ideal S1024x2816 .bf16) (ix2 a b) = at2 (X m c) (1024 * (t.val / 1) + a) (2816 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 2816 + b.val = _; omega)))

theorem block1 (a : Fin 2816) (b : Fin 1024) : (iblk m c 1 t : Vec Ideal S2816x1024 .bf16) (ix2 a b) = at2 (Y m c) (2816 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 2816 + a.val = _; omega))
    (place win0_1 (index1 t).2 (by show (t.val / 1 % 1) * 1024 + b.val = _; omega)))

/-- What a point computes, at one element. -/
theorem tile_apply (v0 : Vec Ideal S1024x2816 .bf16) (v1 : Vec Ideal S2816x1024 .bf16) (r : Fin 1024) (l : Fin 1024) :
    (k0_pay1 (F := Ideal) v0 v1 : S1024x1024.Idx → EReal) (ix2 r l) = ∑ x : Fin 2816, v0 (ix2 r x) * v1 (ix2 x l) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) k (1024 * (t.val / 1 % 1) + l)

theorem tile_sum (r : Fin 1024) (l : Fin 1024) :
    (k0_pay1 (F := Ideal) (iblk m c 0 t) (iblk m c 1 t) : S1024x1024.Idx → EReal) (ix2 r l)
      = ∑ x : Fin 2816, left m c t r (2816 * (t.val % 1) + x) * right m c t l (2816 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 2816 := by
  unfold out0_2
  rw [View.canon_unit_zero hz]
  simp only [View.ld_unit_zero (S := S1024x2816) hz, View.ld_unit_zero (S := S2816x1024) hz]
  rw [tile_sum m c t r l, dot_first _ _ 2816 (t.val % 1) (by omega)]
  have e4 : 2816 * (t.val % 1 + 1) = 2816 := by omega
  rw [e4]

/-- The result at row `r`, column `q`. -/
def value (r q : ℕ) : EReal := dot (fun k => at2 (X m c) r k) (fun k => at2 (Y m c) k q) 2816

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.DXnIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x2816 .bf16) (x1 : Vec Ideal S2816x1024 .bf16) (r : Fin 4096) (q : Fin 1024) :
    (Cert.DXnRefIdeal.Read.val_main_v5 (F := Ideal) x0 x1 : S4096x1024.Idx → EReal) (ix2 r q) = dot (fun k => at2 x0 r k) (fun k => at2 x1 k q) 2816 := by
  have e : (Cert.DXnRefIdeal.Read.val_main_v5 (F := Ideal) x0 x1 : S4096x1024.Idx → EReal) (ix2 r q) = ∑ x : Fin 2816, x0 (ix2 r x) * x1 (ix2 x q) := by
    pointwise [Cert.DXnRefIdeal.Read.val_main_cst, Cert.DXnRefIdeal.Read.val_main_v0, Cert.DXnRefIdeal.Read.val_main_v1, Cert.DXnRefIdeal.Read.val_main_v2, Cert.DXnRefIdeal.Read.val_main_v3, Cert.DXnRefIdeal.Read.val_main_v4, Cert.DXnRefIdeal.Read.val_main_v5]
  rw [e]
  refine Eq.trans (Finset.sum_congr rfl fun x _ => ?_) (dot_fin (fun k => at2 x0 r k) (fun k => at2 x1 k q) 2816)
  rw [at2_ix2 x0, at2_ix2 x1]

theorem frame_kernel : Cert.quiescent_DXn := fun m g _ => Cert.DXn.Gen.frame m g

theorem frame_ideal : Cert.quiescent_DXnIdeal := fun m g _ => Cert.DXnIdeal.Gen.frame m g

theorem frame_reference : Cert.quiescent_DXnRefIdeal := fun m g _ =>
  (θ_run Cert.DXnRefIdeal.defs _ _).mono (fun r h => ⟨fun c => (h c).2, sem_eq_zero_of_no_sems (by decide) r.2⟩)
    (Cert.DXnRefIdeal.Value.run (F := Ideal) m g)

theorem algebraic : Cert.algebraic_DXnIdeal_DXnRefIdeal := by
  pair_intro
  · run_from Cert.DXnIdeal.Value.run_blocks m g
  · run_from Cert.DXnRefIdeal.Value.run m' g'
    refine funext fun i => ?_
    rw [Cert.DXnProof.final m c]
    exact ((congrFun (Cert.DXnRefIdeal.Read.val_main_v5_eq _ _) i).trans (congrArg _ (funext fun d => by fin_cases d <;> rfl))).trans (reference_apply _ _ (i 0) (i 1))

end Cert.DXnProof

end
-- ==== Proof.Norm.lean ====
/-
  The gradient of a row's root-mean-square norm over the extended reals: the two ways of writing it agree for every row,
  the infinite ones included.
-/
module

public import proofs.«01_k».proof.Proof.Dot

@[expose] public section

noncomputable section

namespace Cert.Norm

open Idealize.ShloMosaic Cert.Dot
open scoped BigOperators

/-- The number of elements of a row, and the small number added to the mean of their squares, as the programs write them. -/
abbrev count : EReal := Ideal.ofBits .f32 0x44800000#32
abbrev small : EReal := Ideal.ofBits .f32 0x358637BD#32
abbrev minusHalf : EReal := Ideal.ofBits .f32 0xBF000000#32

/-- The mean of a row's squares with the small number added, and the row's scale. -/
def power (N : EReal) (x : ℕ → EReal) (n : ℕ) : EReal := Ideal.div (dot x x n) N + small
def scale (N : EReal) (x : ℕ → EReal) (n : ℕ) : EReal := Ideal.rsqrt (power N x n)

theorem count_eq : count = ((1024 : ℝ) : EReal) := by
  simp [Ideal.ofBits, Ideal.ieee, -EReal.coe_mul]; norm_num

theorem minusHalf_eq : minusHalf = ((-(1 / 2) : ℝ) : EReal) := by
  simp [Ideal.ofBits, Ideal.ieee, -EReal.coe_mul]; norm_num

theorem small_pos : 0 < small := by
  have e : small = (((0x358637BD - 0x35800000 + 0x800000 : ℝ) * 2 ^ (-43 : ℤ) : ℝ) : EReal) := by
    simp [Ideal.ofBits, Ideal.ieee, -EReal.coe_mul]; norm_num
  rw [e]
  exact_mod_cast (by positivity : (0 : ℝ) < (0x358637BD - 0x35800000 + 0x800000 : ℝ) * 2 ^ (-43 : ℤ))

theorem square_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

theorem dot_self_nonneg (x : ℕ → EReal) (n : ℕ) : 0 ≤ dot x x n := Finset.sum_nonneg fun k _ => square_nonneg _

theorem div_real (a : EReal) {N : ℝ} (hN : N ≠ 0) : Ideal.div a (N : EReal) = a * ((N⁻¹ : ℝ) : EReal) := by
  unfold Ideal.div
  rw [if_neg (by exact_mod_cast hN), ← EReal.coe_inv]

theorem power_pos {N : ℝ} (hN : 0 < N) (x : ℕ → EReal) (n : ℕ) : 0 < power N x n := by
  unfold power
  rw [div_real _ hN.ne']
  exact lt_of_lt_of_le small_pos (le_add_of_nonneg_left (EReal.mul_nonneg (dot_self_nonneg x n) (by exact_mod_cast (inv_pos.mpr hN).le)))

/-- The scale is a real number that is not negative, and divided by the power it is its own cube. -/
theorem scale_real {v : EReal} (hv : 0 < v) : ∃ ρ : ℝ, 0 ≤ ρ ∧ Ideal.rsqrt v = (ρ : EReal) ∧ Ideal.div (Ideal.rsqrt v) v = ((ρ * ρ * ρ : ℝ) : EReal) := by
  induction v with
  | bot => exact absurd hv (by simp)
  | top =>
    refine ⟨0, le_refl _, by rfl, ?_⟩
    rw [Ideal.rsqrt_top, Ideal.div, if_neg (by simp)]
    simp
  | coe r =>
    have hr : 0 < r := by exact_mod_cast hv
    refine ⟨(Real.sqrt r)⁻¹, inv_nonneg.mpr (Real.sqrt_nonneg r), ?_, ?_⟩
    · rw [Ideal.rsqrt_coe, if_neg hr.not_gt, if_neg hr.ne']
    · rw [Ideal.rsqrt_coe, if_neg hr.not_gt, if_neg hr.ne', div_real _ hr.ne', ← EReal.coe_mul]
      congr 1
      have h2 : (Real.sqrt r)⁻¹ * (Real.sqrt r)⁻¹ = r⁻¹ := by rw [← mul_inv, Real.mul_self_sqrt hr.le]
      rw [mul_assoc, h2]

theorem dot_scale_right (a : EReal) (h0 : 0 ≤ a) (ht : a ≠ ⊤) (f g : ℕ → EReal) (n : ℕ) : dot f (fun k => g k * a) n = dot g f n * a := by
  rw [← dot_scale a h0 ht, dot_comm]
  unfold dot
  exact Finset.sum_congr rfl fun k _ => congrArg (· * f k) (mul_comm (g k) a)

/-- The norm's gradient, as the kernel writes it and as the reference does. -/
theorem gradient_eq {N : ℝ} (hN : 0 < N) (x c : ℕ → EReal) (n j : ℕ) (d : EReal) :
    d + scale N x n * (c j - x j * scale N x n * Ideal.div (dot c (fun k => x k * scale N x n) n) N)
      = d + c j * scale N x n
        + x j * Ideal.div (dot x c n * (minusHalf * Ideal.div (scale N x n) (power N x n))) N
        + Ideal.div (dot x c n * (minusHalf * Ideal.div (scale N x n) (power N x n))) N * x j := by
  obtain ⟨ρ, h0, h1, h2⟩ := scale_real (power_pos hN x n)
  have hρ : (0 : EReal) ≤ ρ := by exact_mod_cast h0
  have hs : scale N x n = (ρ : EReal) := h1
  have hd : Ideal.div (scale N x n) (power N x n) = ((ρ * ρ * ρ : ℝ) : EReal) := h2
  rw [hd, hs, dot_scale_right _ hρ (EReal.coe_ne_top _), div_real _ hN.ne', div_real _ hN.ne', minusHalf_eq, mul_comm (_ * _) (x j), ← EReal.coe_mul]
  generalize dot x c n = S
  have e : x j * (S * ((-(1 / 2) * (ρ * ρ * ρ) : ℝ) : EReal) * ((N⁻¹ : ℝ) : EReal)) = -(x j * S) * ((1 / 2 * (ρ * ρ * ρ) * N⁻¹ : ℝ) : EReal) := by
    rw [mul_assoc S, ← EReal.coe_mul, ← mul_assoc, show (-(1 / 2) * (ρ * ρ * ρ) * N⁻¹ : ℝ) = -(1 / 2 * (ρ * ρ * ρ) * N⁻¹) from by ring, EReal.coe_neg, mul_neg]
    exact (neg_mul _ _).symm
  have hN' : 0 ≤ N⁻¹ := (inv_pos.mpr hN).le
  have hk : (0 : EReal) ≤ ((1 / 2 * (ρ * ρ * ρ) * N⁻¹ : ℝ) : EReal) := by
    have : 0 ≤ 1 / 2 * (ρ * ρ * ρ) * N⁻¹ := by positivity
    exact_mod_cast this
  rw [e, add_assoc, ← EReal.left_distrib_of_nonneg hk hk, ← EReal.coe_add, add_assoc, sub_eq_add_neg,
    EReal.left_distrib_of_nonneg_of_ne_top hρ (EReal.coe_ne_top _), mul_comm (c j)]
  congr 2
  rw [mul_neg, neg_mul]
  congr 1
  rw [mul_assoc S, ← EReal.coe_mul, mul_assoc (x j), mul_left_comm (ρ : EReal) (x j), mul_assoc (x j)]
  congr 1
  rw [mul_left_comm (ρ : EReal) S, mul_left_comm (ρ : EReal) S, ← EReal.coe_mul, ← EReal.coe_mul]
  congr 2
  ring

end Cert.Norm

end
-- ==== Proof.DXnUNorm.lean ====
/-
  The feed-forward block's last product backwards and its norm's gradient.
-/
module

public import proofs.«01_k».proof.Defs
public import proofs.«01_k».proof.Proof.Gen.DXnU.Frame
public import proofs.«01_k».proof.Proof.Gen.DXnUIdeal.Value
public import proofs.«01_k».proof.Proof.Gen.DXnURefIdeal.Run
public import proofs.«01_k».proof.Proof.Gen.DXnURefIdeal.Read
public import proofs.«01_k».proof.Proof.Norm
public import proofs.«01_k».proof.Proof.Place
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic
public import Idealize.ShloMosaic.Lib.Claim

@[expose] public section

noncomputable section

namespace Cert.DXnUProof

open Idealize.ShloMosaic Idealize.ShloMosaic.TcCoe Cert.DXnUIdeal Cert.DXnUIdeal.Gen Cert.At Cert.Dot Idealize.SL.Sem
open Idealize.ShloMosaic.Pipeline (Dat)
open scoped BigOperators
open Cert.Norm

/-- The gradient reaching the norm's output, what the other branch handed back plus the product, at row `r` and column `q`. -/
def reach (a : S4096x2816.Idx → EReal) (b : S2816x1024.Idx → EReal) (d : S4096x1024.Idx → EReal) (r q : ℕ) : EReal :=
  at2 d r q + dot (fun k => at2 a r k) (fun k => at2 b k q) 2816

/-- The normed row's element. -/
abbrev rowScale (h : S4096x1024.Idx → EReal) (r : ℕ) : EReal := scale count (fun k => at2 h r k) 1024
abbrev normed (h : S4096x1024.Idx → EReal) (r q : ℕ) : EReal := at2 h r q * rowScale h r

/-- The gradient of the norm's input, the residual's gradient included. -/
def toInput (a : S4096x2816.Idx → EReal) (b : S2816x1024.Idx → EReal) (d : S4096x1024.Idx → EReal) (h : S4096x1024.Idx → EReal) (g : S4x1024.Idx → EReal) (e : S4096x1024.Idx → EReal) (r q : ℕ) : EReal :=
  at2 e r q + rowScale h r * (reach a b d r q * at2 g 0 q
    - normed h r q * Ideal.div (dot (fun k => reach a b d r k * at2 g 0 k) (fun k => normed h r k) 1024) count)

/-- The gradient of the norm's gain, over the first `n` rows. -/
def toGain (a : S4096x2816.Idx → EReal) (b : S2816x1024.Idx → EReal) (d : S4096x1024.Idx → EReal) (h : S4096x1024.Idx → EReal) (q n : ℕ) : EReal :=
  dot (fun k => reach a b d k q) (fun k => normed h k q) n

section
variable (m : (ℓ : Loc nD τ sig) → Buf (Elt Ideal) ℓ) (c : Dev nD)

/-- The arguments, as launched. -/
abbrev A : S4096x2816.Idx → EReal := m ((c : Thread nD τ).loc main_arg0)
abbrev B : S2816x1024.Idx → EReal := m ((c : Thread nD τ).loc main_arg1)
abbrev C : S4096x1024.Idx → EReal := m ((c : Thread nD τ).loc main_arg2)
abbrev H : S4096x1024.Idx → EReal := m ((c : Thread nD τ).loc main_arg3)
abbrev G : S4x1024.Idx → EReal := m ((c : Thread nD τ).loc main_arg4)
abbrev E : S4096x1024.Idx → EReal := m ((c : Thread nD τ).loc main_arg5)
theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem index3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem index5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem index6 : ∀ t : Fin cfg0.N, win0_6.index t (0 : Fin 2) = t.val % 8 ∧ win0_6.index t (1 : Fin 2) = 0 :=
  (by decide +kernel : ∀ t : Fin grid0.N, win0_6.index t (0 : Fin 2) = t.val % 8 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)

theorem points (t : Fin cfg0.N) : t.val < 8 := Nat.lt_of_lt_of_eq t.isLt N_0

variable (t : Fin cfg0.N)

theorem block0 (a : Fin 512) (b : Fin 2816) : (iblk m c 0 t : Vec Ideal S512x2816 .bf16) (ix2 a b) = at2 (A m c) (512 * (t.val % 8) + a) (2816 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 2816 + b.val = _; omega)))

theorem block1 (a : Fin 2816) (b : Fin 1024) : (iblk m c 1 t : Vec Ideal S2816x1024 .bf16) (ix2 a b) = at2 (B m c) (2816 * (0) + a) (1024 * (0) + b) :=
  (congrFun (V_main_arg1 m c) (((cfg0.win 1).blk t).view.emb (ix2 a b))).trans (at2_eq _ _ _ _
    (place win0_1 (index1 t).1 (by show (0) * 2816 + a.val = _; omega))
    (place win0_1 (index1 t).2 (by show (0) * 1024 + b.val = _; omega)))

theorem block2 (a : Fin 512) (b : Fin 1024) : (iblk m c 2 t : Vec Ideal S512x1024 .f32) (ix2 a b) = at2 (C m c) (512 * (t.val % 8) + a) (1024 * (0) + b) :=
  (congrFun (V_main_arg2 m c) (((cfg0.win 2).blk t).view.emb (ix2 a b))).trans (at2_eq _ _ _ _
    (place win0_2 (index2 t).1 (by show (t.val % 8) * 512 + a.val = _; omega))
    (place win0_2 (index2 t).2 (by show (0) * 1024 + b.val = _; omega)))

theorem block3 (a : Fin 512) (b : Fin 1024) : (iblk m c 3 t : Vec Ideal S512x1024 .f32) (ix2 a b) = at2 (H m c) (512 * (t.val % 8) + a) (1024 * (0) + b) :=
  (congrFun (V_main_arg3 m c) (((cfg0.win 3).blk t).view.emb (ix2 a b))).trans (at2_eq _ _ _ _
    (place win0_3 (index3 t).1 (by show (t.val % 8) * 512 + a.val = _; omega))
    (place win0_3 (index3 t).2 (by show (0) * 1024 + b.val = _; omega)))

theorem block5 (a : Fin 512) (b : Fin 1024) : (iblk m c 5 t : Vec Ideal S512x1024 .f32) (ix2 a b) = at2 (E m c) (512 * (t.val % 8) + a) (1024 * (0) + b) :=
  (congrFun (V_main_arg5 m c) (((cfg0.win 5).blk t).view.emb (ix2 a b))).trans (at2_eq _ _ _ _
    (place win0_5 (index5 t).1 (by show (t.val % 8) * 512 + a.val = _; omega))
    (place win0_5 (index5 t).2 (by show (0) * 1024 + b.val = _; omega)))

/-- The gains as the grid finds them. -/
theorem V_gains : V m c main_v0 = shapeCast S4x1x1024 (G m c : Vec Ideal S4x1024 .f32) shapeCasts_S4x1024_S4x1x1024 := by
  unfold V hostOps0
  after_results
  rfl

theorem block4 (l : Fin 1024) : (iblk m c 4 t : Vec Ideal S1x1x1024 .f32) (ix3 0 0 l) = at2 (G m c) 0 l := by
  unfold iblk
  rw [View.read_apply]
  show V m c main_v0 (((cfg0.win 4).blk t).view.emb (ix3 0 0 l)) = _
  have h1 : (((cfg0.win 4).blk t).view.emb (ix3 (0 : Fin 1) (0 : Fin 1) l)) = ix3 (n0 := 4) (n1 := 1) (n2 := 1024) 0 0 l := by
    funext d
    refine Fin.ext ?_
    refine (Pipeline.Window.rect_emb_val win0_4 t (ix3 (0 : Fin 1) (0 : Fin 1) l) d).trans ?_
    obtain ⟨h0, h1, h2⟩ := index4 t
    fin_cases d
    · show win0_4.index t (0 : Fin 3) * 1 + 0 = 0
      rw [h0]
    · show win0_4.index t (1 : Fin 3) * 1 + 0 = 0
      rw [h1]
    · show win0_4.index t (2 : Fin 3) * 1024 + l.val = l.val
      rw [h2]; omega
  rw [h1, V_gains]
  have e : (shapeCast S4x1x1024 (G m c : Vec Ideal S4x1024 .f32) shapeCasts_S4x1024_S4x1x1024 : S4x1x1024.Idx → EReal) (ix3 0 0 l) = G m c (ix2 0 l) := by
    pointwise
  rw [e]
  exact at2_eq _ _ _ _ rfl rfl

/-! ## The computations of one grid point -/

theorem zero_apply (l : Fin 1024) : (k0_pay1 (F := Ideal) : S1x1024.Idx → EReal) (ix2 0 l) = 0 := by
  rw [← Ideal.ofBits_zero_f32]
  pointwise [k0_pay1]

theorem gain_apply (u v : FVec Ideal S512x1024 .f32) (w : Vec Ideal S1x1024 .f32) (l : Fin 1024) :
    (k0_pay2 (F := Ideal) u v w : S1x1024.Idx → EReal) (ix2 0 l) = w (ix2 0 l) + ∑ x : Fin 512, u (ix2 x l) * v (ix2 x l) := by
  pointwise [k0_pay2]

theorem reach_apply (a : Vec Ideal S512x2816 .bf16) (b : Vec Ideal S2816x1024 .bf16) (d : Vec Ideal S512x1024 .f32) (r : Fin 512) (l : Fin 1024) :
    (k0_pay3 (F := Ideal) a b d : S512x1024.Idx → EReal) (ix2 r l) = d (ix2 r l) + ∑ x : Fin 2816, a (ix2 r x) * b (ix2 x l) := by
  pointwise [k0_pay3]

theorem scale_apply (h : Vec Ideal S512x1024 .f32) (r : Fin 512) :
    (k0_pay4 (F := Ideal) h : S512x1.Idx → EReal) (ix2 r 0) = Ideal.rsqrt (Ideal.div (∑ x : Fin 1024, h (ix2 r x) * h (ix2 r x)) count + small) := by
  pointwise [k0_pay4]

theorem normed_apply (h : Vec Ideal S512x1024 .f32) (r : Fin 512) (l : Fin 1024) :
    (k0_pay5 (F := Ideal) h : S512x1024.Idx → EReal) (ix2 r l) = h (ix2 r l) * (k0_pay4 (F := Ideal) h : S512x1.Idx → EReal) (ix2 r 0) := by
  unfold k0_pay5
  generalize k0_pay4 (F := Ideal) h = p
  pointwise

theorem input_apply (a : Vec Ideal S512x2816 .bf16) (b : Vec Ideal S2816x1024 .bf16) (d : Vec Ideal S512x1024 .f32) (h : Vec Ideal S512x1024 .f32) (g : Vec Ideal S1x1x1024 .f32) (e : Vec Ideal S512x1024 .f32) (r : Fin 512) (l : Fin 1024) :
    (k0_pay6 (F := Ideal) a b d h g e : S512x1024.Idx → EReal) (ix2 r l)
      = e (ix2 r l) + (k0_pay4 (F := Ideal) h : S512x1.Idx → EReal) (ix2 r 0)
        * ((k0_pay3 (F := Ideal) a b d : S512x1024.Idx → EReal) (ix2 r l) * g (ix3 0 0 l)
          - (k0_pay5 (F := Ideal) h : S512x1024.Idx → EReal) (ix2 r l)
            * Ideal.div (∑ x : Fin 1024, (k0_pay3 (F := Ideal) a b d : S512x1024.Idx → EReal) (ix2 r x) * g (ix3 0 0 x) * (k0_pay5 (F := Ideal) h : S512x1024.Idx → EReal) (ix2 r x)) count) := by
  unfold k0_pay6
  generalize k0_pay3 (F := Ideal) a b d = p
  generalize k0_pay4 (F := Ideal) h = q
  generalize k0_pay5 (F := Ideal) h = z
  pointwise

theorem reach_block (r : Fin 512) (l : Fin 1024) :
    (k0_pay3 (F := Ideal) (iblk m c 0 t) (iblk m c 1 t) (iblk m c 2 t) : S512x1024.Idx → EReal) (ix2 r l) = reach (A m c) (B m c) (C m c) (512 * (t.val % 8) + r) l := by
  unfold reach
  rw [reach_apply, ← dot_fin, block2 m c t]
  refine congrArg₂ _ (congrArg (at2 (C m c) _) (by omega)) (Finset.sum_congr rfl fun x _ => ?_)
  rw [block0 m c t, block1 m c t]
  simp only [Nat.mul_zero, Nat.zero_add]

theorem scale_block (r : Fin 512) :
    (k0_pay4 (F := Ideal) (iblk m c 3 t) : S512x1.Idx → EReal) (ix2 r 0) = rowScale (H m c) (512 * (t.val % 8) + r) := by
  unfold rowScale scale power
  rw [scale_apply, ← dot_fin]
  refine congrArg (fun z => Ideal.rsqrt (Ideal.div z count + small)) (Finset.sum_congr rfl fun x _ => ?_)
  rw [block3 m c t]
  simp only [Nat.mul_zero, Nat.zero_add]

theorem normed_block (r : Fin 512) (l : Fin 1024) :
    (k0_pay5 (F := Ideal) (iblk m c 3 t) : S512x1024.Idx → EReal) (ix2 r l) = normed (H m c) (512 * (t.val % 8) + r) l := by
  rw [normed_apply, scale_block m c t, block3 m c t]
  simp only [Nat.mul_zero, Nat.zero_add]

theorem input_block (r : Fin 512) (l : Fin 1024) :
    (k0_pay6 (F := Ideal) (iblk m c 0 t) (iblk m c 1 t) (iblk m c 2 t) (iblk m c 3 t) (iblk m c 4 t) (iblk m c 5 t) : S512x1024.Idx → EReal) (ix2 r l)
      = toInput (A m c) (B m c) (C m c) (H m c) (G m c) (E m c) (512 * (t.val % 8) + r) l := by
  have hs : ∑ x : Fin 1024, (k0_pay3 (F := Ideal) (iblk m c 0 t) (iblk m c 1 t) (iblk m c 2 t) : S512x1024.Idx → EReal) (ix2 r x) * (iblk m c 4 t : Vec Ideal S1x1x1024 .f32) (ix3 0 0 x) * (k0_pay5 (F := Ideal) (iblk m c 3 t) : S512x1024.Idx → EReal) (ix2 r x)
      = dot (fun k => reach (A m c) (B m c) (C m c) (512 * (t.val % 8) + r) k * at2 (G m c) 0 k) (fun k => normed (H m c) (512 * (t.val % 8) + r) k) 1024 := by
    rw [← dot_fin]
    refine Finset.sum_congr rfl fun x _ => ?_
    rw [reach_block m c t, normed_block m c t, block4 m c t]
  unfold toInput
  rw [input_apply, hs, scale_block m c t, reach_block m c t, normed_block m c t, block4 m c t, block5 m c t]
  simp only [Nat.mul_zero, Nat.zero_add]

theorem gain_block (w : Vec Ideal S1x1024 .f32) (l : Fin 1024) (b : ℕ) (hb : t.val % 8 = b) (hw : w (ix2 0 l) = toGain (A m c) (B m c) (C m c) (H m c) l (512 * b)) :
    (k0_pay2 (F := Ideal) (k0_pay3 (F := Ideal) (iblk m c 0 t) (iblk m c 1 t) (iblk m c 2 t)) (k0_pay5 (F := Ideal) (iblk m c 3 t)) w : S1x1024.Idx → EReal) (ix2 0 l)
      = toGain (A m c) (B m c) (C m c) (H m c) l (512 * (b + 1)) := by
  rw [gain_apply, hw]
  unfold toGain
  rw [← dot_tile]
  refine congrArg _ (Finset.sum_congr rfl fun x _ => ?_)
  rw [reach_block m c t, normed_block m c t, hb]

end

/-! ## What one grid point leaves in the two output blocks -/

section
variable (m : (ℓ : Loc nD τ sig) → Buf (Elt Ideal) ℓ) (c : Dev nD)

/-- The input's gradient after the point that computes its rows. -/
theorem left6 (t : Fin cfg0.N) (r : Fin 512) (l : Fin 1024) : (outsAt0 m c t.val t.isLt).1 (ix2 r l)
    = toInput (A m c) (B m c) (C m c) (H m c) (G m c) (E m c) (512 * (t.val % 8) + r) l := by
  by_cases h0 : t.val % 8 = 0
  · rw [outsAt0_A m c t h0]
    frame_out
    exact input_block m c t r l
  · rw [outsAt0_B m c t h0]
    frame_out
    exact input_block m c t r l

/-- The gain's gradient after a point: the sums over all rows up to and including the point's block. -/
theorem left7 (l : Fin 1024) : ∀ (k : ℕ) (hk : k < cfg0.N), (outsAt0 m c k hk).2 (ix2 0 l) = toGain (A m c) (B m c) (C m c) (H m c) l (512 * (k % 8 + 1)) := by
  intro k
  induction k with
  | zero =>
    intro hk
    rw [outsAt0_A m c ⟨0, hk⟩ rfl]
    frame_out
    exact gain_block m c ⟨0, hk⟩ _ l 0 rfl ((zero_apply l).trans (by unfold toGain dot; simp))
  | succ k ih =>
    intro hk
    have h8 : k + 1 < 8 := points ⟨k + 1, hk⟩
    rw [outsAt0_B m c ⟨k + 1, hk⟩ (by show ¬(k + 1) % 8 = 0; omega)]
    frame_out
    refine gain_block m c ⟨k + 1, hk⟩ _ l _ rfl ((ih (Nat.lt_of_succ_lt hk)).trans ?_)
    show toGain (A m c) (B m c) (C m c) (H m c) l (512 * (k % 8 + 1)) = toGain (A m c) (B m c) (C m c) (H m c) l (512 * ((k + 1) % 8))
    congr 2
    omega

theorem final6 (i : S4096x1024.Idx) : ((dats m 0 c).arrAt 6 cfg0.N : S4096x1024.Idx → EReal) i = toInput (A m c) (B m c) (C m c) (H m c) (G m c) (E m c) (i 0).val (i 1).val := by
  refine Dat.arrAt_forall_of_cover (dat := dats m 0 c) 6 (fun i x => x = toInput (A m c) (B m c) (C m c) (H m c) (G m c) (E m c) (i 0).val (i 1).val) ?_ ?_ i
  · intro t hft y
    rw [Cert.DXnUIdeal.Value.flushed6]
    obtain ⟨r, l, rfl⟩ : ∃ (r : Fin 512) (l : Fin 1024), y = ix2 r l := ⟨y 0, y 1, funext fun d => by fin_cases d <;> rfl⟩
    have e0 : (((cfg0.win 6).blk t).view.emb (ix2 r l) 0).val = 512 * (t.val % 8) + r.val := by
      exact place win0_6 (index6 t).1 (by show (t.val % 8) * 512 + r.val = _; omega)
    have e1 : (((cfg0.win 6).blk t).view.emb (ix2 r l) 1).val = 1024 * (0) + l.val := by
      exact place win0_6 (index6 t).2 (by show (0) * 1024 + l.val = _; omega)
    rw [e0, e1]
    show (outsAt0 m c t.val t.isLt).1 (ix2 r l) = _
    refine (left6 m c t r l).trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_6 _, ?_⟩
    show i ∈ ((View.whole main_v1_0).slice (win0_6.rect ⟨_, hb⟩)).set
    rw [View.set_slice_whole, Rect.mem_set_unit]
    have hi := index6 ⟨_, hb⟩
    dsimp only at hi
    intro d
    fin_cases d
    · exact between (b := 512) (n := (i 0).val) hi.1 (by omega)
    · exact between (b := 1024) (n := (i 1).val) hi.2 (by omega)

theorem final7 (i : S1x1024.Idx) : ((dats m 0 c).arrAt 7 cfg0.N : S1x1024.Idx → EReal) i = toGain (A m c) (B m c) (C m c) (H m c) (i 1).val 4096 := by
  refine Dat.arrAt_forall_of_cover (dat := dats m 0 c) 7 (fun i x => x = toGain (A m c) (B m c) (C m c) (H m c) (i 1).val 4096) ?_ ?_ i
  · intro t hft y
    rw [Cert.DXnUIdeal.Value.flushed7]
    obtain ⟨r, l, rfl⟩ : ∃ (r : Fin 1) (l : Fin 1024), y = ix2 r l := ⟨y 0, y 1, funext fun d => by fin_cases d <;> rfl⟩
    have e1 : (((cfg0.win 7).blk t).view.emb (ix2 r l) 1).val = 1024 * (0) + l.val := by
      exact place win0_7 (index7 t).2 (by show (0) * 1024 + l.val = _; omega)
    rw [e1]
    obtain rfl : r = 0 := Fin.ext (by omega)
    show (outsAt0 m c t.val t.isLt).2 (ix2 0 l) = _
    have h7 := (flush0_7 t).mp hft
    refine (left7 m c l t.val t.isLt).trans ?_
    rw [h7]
    simp only [Nat.mul_zero, Nat.zero_add]
  · intro i
    have h0 : (i 0).val < 1 := (i 0).isLt
    have h1 : (i 1).val < 1024 := (i 1).isLt
    have hb : 7 < cfg0.N := Nat.lt_of_lt_of_eq (by omega) N_0.symm
    refine ⟨⟨_, hb⟩, (flush0_7 _).mpr rfl, ?_⟩
    show i ∈ ((View.whole main_v1_1).slice (win0_7.rect ⟨_, hb⟩)).set
    rw [View.set_slice_whole, Rect.mem_set_unit]
    have hi := index7 ⟨_, hb⟩
    intro d
    fin_cases d
    · exact between (b := 1) (n := (i 0).val) hi.1 (by omega)
    · exact between (b := 1024) (n := (i 1).val) hi.2 (by omega)

end

/-! ## The reference, and the claims -/

open Cert.DXnURefIdeal.Read

theorem reference_reach (x0 : Vec Ideal S4096x2816 .bf16) (x1 : Vec Ideal S2816x1024 .bf16) (x2 : Vec Ideal S4096x1024 .f32) (r : Fin 4096) (q : Fin 1024) : (val_main_v23 (F := Ideal) x0 x1 x2 : S4096x1024.Idx → EReal) (ix2 r q) = reach x0 x1 x2 r q := by
  have e : (val_main_v23 (F := Ideal) x0 x1 x2 : S4096x1024.Idx → EReal) (ix2 r q) = x2 (ix2 r q) + ∑ x : Fin 2816, x0 (ix2 r x) * x1 (ix2 x q) := by
    pointwise [val_main_v23, val_main_v22, val_main_v21, val_main_v19, val_main_v18]
  unfold reach
  rw [e, ← dot_fin, at2_ix2 x2]
  refine congrArg _ (Finset.sum_congr rfl fun x _ => ?_)
  rw [at2_ix2 x0, at2_ix2 x1]

theorem reference_power (x3 : Vec Ideal S4096x1024 .f32) (r : Fin 4096) :
    (val_main_v8 (F := Ideal) x3 : Cert.DXnURefIdeal.S4096x1.Idx → EReal) (ix2 r 0) = power count (fun k => at2 x3 r k) 1024 := by
  have e : (val_main_v8 (F := Ideal) x3 : Cert.DXnURefIdeal.S4096x1.Idx → EReal) (ix2 r 0) = Ideal.div (∑ x : Fin 1024, x3 (ix2 r x) * x3 (ix2 r x)) count + small := by
    pointwise [val_main_v8, val_main_v7, val_main_v6, val_main_v5, val_main_v4, val_main_v3, val_main_v2, val_main_cst, val_main_cst_0, val_main_cst_1]
  unfold power
  rw [e, ← dot_fin]
  refine congrArg (fun z => Ideal.div z count + small) (Finset.sum_congr rfl fun x _ => ?_)
  rw [at2_ix2 x3]

theorem reference_scale (x3 : Vec Ideal S4096x1024 .f32) (r : Fin 4096) : (val_main_v9 (F := Ideal) x3 : Cert.DXnURefIdeal.S4096x1.Idx → EReal) (ix2 r 0) = rowScale x3 r := by
  have e : (val_main_v9 (F := Ideal) x3 : Cert.DXnURefIdeal.S4096x1.Idx → EReal) (ix2 r 0) = Ideal.rsqrt ((val_main_v8 (F := Ideal) x3 : Cert.DXnURefIdeal.S4096x1.Idx → EReal) (ix2 r 0)) := by
    unfold val_main_v9
    generalize val_main_v8 (F := Ideal) x3 = p
    pointwise
  rw [e, reference_power]
  rfl

theorem reference_gained (x0 : Vec Ideal S4096x2816 .bf16) (x1 : Vec Ideal S2816x1024 .bf16) (x2 : Vec Ideal S4096x1024 .f32) (x4 : Vec Ideal S4x1024 .f32) (r : Fin 4096) (q : Fin 1024) :
    (val_main_v28 (F := Ideal) x0 x1 x2 x4 : S4096x1024.Idx → EReal) (ix2 r q) = reach x0 x1 x2 r q * at2 x4 0 q := by
  have e : (val_main_v28 (F := Ideal) x0 x1 x2 x4 : S4096x1024.Idx → EReal) (ix2 r q) = (val_main_v23 (F := Ideal) x0 x1 x2 : S4096x1024.Idx → EReal) (ix2 r q) * x4 (ix2 0 q) := by
    unfold val_main_v28
    generalize val_main_v23 (F := Ideal) x0 x1 x2 = p
    pointwise [val_main_v27, val_main_v15, val_main_v1, val_main_v0]
  rw [e, reference_reach]
  exact congrArg _ (at2_ix2 x4 0 q)

theorem reference_input (x0 : Vec Ideal S4096x2816 .bf16) (x1 : Vec Ideal S2816x1024 .bf16) (x2 : Vec Ideal S4096x1024 .f32) (x3 : Vec Ideal S4096x1024 .f32) (x4 : Vec Ideal S4x1024 .f32) (x5 : Vec Ideal S4096x1024 .f32) (r : Fin 4096) (q : Fin 1024) :
    (val_main_v44 (F := Ideal) x0 x1 x2 x3 x4 x5 : S4096x1024.Idx → EReal) (ix2 r q) = toInput x0 x1 x2 x3 x4 x5 r q := by
  have e : (val_main_v44 (F := Ideal) x0 x1 x2 x3 x4 x5 : S4096x1024.Idx → EReal) (ix2 r q)
      = x5 (ix2 r q) + (val_main_v28 (F := Ideal) x0 x1 x2 x4 : S4096x1024.Idx → EReal) (ix2 r q) * (val_main_v9 (F := Ideal) x3 : Cert.DXnURefIdeal.S4096x1.Idx → EReal) (ix2 r 0)
        + x3 (ix2 r q) * Ideal.div ((∑ x : Fin 1024, x3 (ix2 r x) * (val_main_v28 (F := Ideal) x0 x1 x2 x4 : S4096x1024.Idx → EReal) (ix2 r x)) * (minusHalf * Ideal.div ((val_main_v9 (F := Ideal) x3 : Cert.DXnURefIdeal.S4096x1.Idx → EReal) (ix2 r 0)) ((val_main_v8 (F := Ideal) x3 : Cert.DXnURefIdeal.S4096x1.Idx → EReal) (ix2 r 0)))) count
        + Ideal.div ((∑ x : Fin 1024, x3 (ix2 r x) * (val_main_v28 (F := Ideal) x0 x1 x2 x4 : S4096x1024.Idx → EReal) (ix2 r x)) * (minusHalf * Ideal.div ((val_main_v9 (F := Ideal) x3 : Cert.DXnURefIdeal.S4096x1.Idx → EReal) (ix2 r 0)) ((val_main_v8 (F := Ideal) x3 : Cert.DXnURefIdeal.S4096x1.Idx → EReal) (ix2 r 0)))) count * x3 (ix2 r q) := by
    unfold val_main_v44 val_main_v43 val_main_v42 val_main_v41 val_main_v40 val_main_v39 val_main_v38 val_main_v36 val_main_v35 val_main_v34 val_main_v33 val_main_v32 val_main_v31 val_main_v30 val_main_v12 val_main_v10
    generalize val_main_v28 (F := Ideal) x0 x1 x2 x4 = p
    generalize val_main_v9 (F := Ideal) x3 = s
    generalize val_main_v8 (F := Ideal) x3 = z
    pointwise [val_main_v37, val_main_v11, val_main_cst_2, val_main_cst_5, val_main_cst_6, val_main_cst_7]
    simp only [Finset.univ_unique, Finset.sum_singleton]
    rfl
  have hs : ∑ x : Fin 1024, x3 (ix2 r x) * (val_main_v28 (F := Ideal) x0 x1 x2 x4 : S4096x1024.Idx → EReal) (ix2 r x)
      = dot (fun k => at2 x3 r k) (fun k => reach x0 x1 x2 r k * at2 x4 0 k) 1024 := by
    rw [← dot_fin]
    refine Finset.sum_congr rfl fun x _ => ?_
    rw [reference_gained, at2_ix2 x3]
  rw [e, hs, reference_gained, reference_scale, reference_power, at2_ix2 x3, at2_ix2 x5]
  unfold toInput
  have key := gradient_eq (by norm_num : (0 : ℝ) < 1024) (fun k => at2 x3 r k) (fun k => reach x0 x1 x2 r k * at2 x4 0 k) 1024 q (at2 x5 r q)
  rw [← count_eq] at key
  exact key.symm

theorem row_eq (i : S1x1024.Idx) : i = ix2 (0 : Fin 1) (i 1) := by
  funext d
  match d with
  | ⟨0, _⟩ => exact Fin.ext (Nat.lt_one_iff.mp (i 0).isLt)
  | ⟨1, _⟩ => rfl

theorem reference_gain (x0 : Vec Ideal S4096x2816 .bf16) (x1 : Vec Ideal S2816x1024 .bf16) (x2 : Vec Ideal S4096x1024 .f32) (x3 : Vec Ideal S4096x1024 .f32) (q : Fin 1024) :
    (val_main_v45 (F := Ideal) x0 x1 x2 x3 : S1x1024.Idx → EReal) (ix2 0 q) = toGain x0 x1 x2 x3 q 4096 := by
  have e : (val_main_v45 (F := Ideal) x0 x1 x2 x3 : S1x1024.Idx → EReal) (ix2 0 q)
      = ∑ r : Fin 4096, x3 (ix2 r q) * (val_main_v9 (F := Ideal) x3 : Cert.DXnURefIdeal.S4096x1.Idx → EReal) (ix2 r 0) * (val_main_v23 (F := Ideal) x0 x1 x2 : S4096x1024.Idx → EReal) (ix2 r q) := by
    unfold val_main_v45 val_main_v29 val_main_v26 val_main_v25 val_main_v24 val_main_v14 val_main_v13
    generalize val_main_v23 (F := Ideal) x0 x1 x2 = p
    generalize val_main_v9 (F := Ideal) x3 = s
    pointwise [val_main_cst_3, val_main_cst_4]
    simp only [Finset.univ_unique, Finset.sum_singleton]
  unfold toGain
  rw [e, ← dot_fin]
  refine Finset.sum_congr rfl fun x _ => ?_
  rw [reference_reach, reference_scale, at2_ix2 x3, mul_comm]

theorem frame_kernel : Cert.quiescent_DXnU := fun m g _ => Cert.DXnU.Gen.frame m g

theorem frame_ideal : Cert.quiescent_DXnUIdeal := fun m g _ => Cert.DXnUIdeal.Gen.frame m g

theorem frame_reference : Cert.quiescent_DXnURefIdeal := fun m g _ =>
  (θ_run Cert.DXnURefIdeal.defs _ _).mono (fun r h => ⟨fun c => (h c).2.2, sem_eq_zero_of_no_sems (by decide) r.2⟩)
    (Cert.DXnURefIdeal.Value.run (F := Ideal) m g)

/-- The reference's run, its results named by stages of its text. -/
theorem run_reference (m : (ℓ : Loc Cert.DXnURefIdeal.nD Cert.DXnURefIdeal.τ Cert.DXnURefIdeal.sig) → Buf (Elt Ideal) ℓ) (g : Dev Cert.DXnURefIdeal.nD → PrngReg) :
    θ_run Cert.DXnURefIdeal.defs (onTc (τ := Cert.DXnURefIdeal.τ) (Cert.DXnURefIdeal.main (F := Ideal))) ⟨m, fun _ => 0, g⟩ fun r =>
      ∀ c : Dev Cert.DXnURefIdeal.nD,
        let x0 := m ((c.tc : Thread Cert.DXnURefIdeal.nD Cert.DXnURefIdeal.τ).loc Cert.DXnURefIdeal.main_arg0)
        let x1 := m ((c.tc : Thread Cert.DXnURefIdeal.nD Cert.DXnURefIdeal.τ).loc Cert.DXnURefIdeal.main_arg1)
        let x2 := m ((c.tc : Thread Cert.DXnURefIdeal.nD Cert.DXnURefIdeal.τ).loc Cert.DXnURefIdeal.main_arg2)
        let x3 := m ((c.tc : Thread Cert.DXnURefIdeal.nD Cert.DXnURefIdeal.τ).loc Cert.DXnURefIdeal.main_arg3)
        let x4 := m ((c.tc : Thread Cert.DXnURefIdeal.nD Cert.DXnURefIdeal.τ).loc Cert.DXnURefIdeal.main_arg4)
        let x5 := m ((c.tc : Thread Cert.DXnURefIdeal.nD Cert.DXnURefIdeal.τ).loc Cert.DXnURefIdeal.main_arg5)
        r.2.mem ((c.tc : Thread Cert.DXnURefIdeal.nD Cert.DXnURefIdeal.τ).loc Cert.DXnURefIdeal.main_v44) = Cert.DXnURefIdeal.Read.val_main_v44 x0 x1 x2 x3 x4 x5
        ∧ r.2.mem ((c.tc : Thread Cert.DXnURefIdeal.nD Cert.DXnURefIdeal.τ).loc Cert.DXnURefIdeal.main_v45) = Cert.DXnURefIdeal.Read.val_main_v45 x0 x1 x2 x3
        ∧ r.2.mem ((c.tc : Thread Cert.DXnURefIdeal.nD Cert.DXnURefIdeal.τ).loc Cert.DXnURefIdeal.main_arg0) = x0
        ∧ r.2.mem ((c.tc : Thread Cert.DXnURefIdeal.nD Cert.DXnURefIdeal.τ).loc Cert.DXnURefIdeal.main_arg1) = x1
        ∧ r.2.mem ((c.tc : Thread Cert.DXnURefIdeal.nD Cert.DXnURefIdeal.τ).loc Cert.DXnURefIdeal.main_arg2) = x2
        ∧ r.2.mem ((c.tc : Thread Cert.DXnURefIdeal.nD Cert.DXnURefIdeal.τ).loc Cert.DXnURefIdeal.main_arg3) = x3
        ∧ r.2.mem ((c.tc : Thread Cert.DXnURefIdeal.nD Cert.DXnURefIdeal.τ).loc Cert.DXnURefIdeal.main_arg4) = x4
        ∧ r.2.mem ((c.tc : Thread Cert.DXnURefIdeal.nD Cert.DXnURefIdeal.τ).loc Cert.DXnURefIdeal.main_arg5) = x5 :=
  (θ_run _ _ _).mono (fun _ h c => ⟨(h c).1.trans (Cert.DXnURefIdeal.Read.val_main_v44_eq _ _).symm, (h c).2.1.trans (Cert.DXnURefIdeal.Read.val_main_v45_eq _ _ _ _).symm, (h c).2.2⟩)
    (Cert.DXnURefIdeal.Value.run m g)

theorem algebraic : Cert.algebraic_DXnUIdeal_DXnURefIdeal := by
  pair_intro
  · run_from Cert.DXnUIdeal.Value.run_blocks m g
  · run_from run_reference m' g'
    · refine funext fun i => ?_
      rw [final6 m c]
      exact (congrArg _ (funext fun d => by fin_cases d <;> rfl)).trans (reference_input _ _ _ _ _ _  (i 0) (i 1))
    · refine funext fun i => ?_
      rw [final7 m c]
      exact (congrArg _ (row_eq i)).trans (reference_gain _ _ _ _  (i 1))

end Cert.DXnUProof

end
-- ==== Proof.DMergedProd.lean ====
/-
  The mixer's gradient of the merged branches through its last product.
-/
module

public import proofs.«01_k».proof.Defs
public import proofs.«01_k».proof.Proof.Gen.DMerged.Frame
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DMergedProof

open Idealize.ShloMosaic Idealize.ShloMosaic.TcCoe Cert.DMergedIdeal Cert.DMergedIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S1024x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val / 1 % 1 ∧ win0_1.index t (1 : Fin 2) = t.val % 1 :=
  (by decide +kernel : ∀ t : Fin grid0.N, win0_1.index t (0 : Fin 2) = t.val / 1 % 1 ∧ win0_1.index t (1 : Fin 2) = t.val % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .f32) (ix2 a b) = at2 (X m c) (1024 * (t.val / 1) + a) (1024 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val / 1 % 1) + a) (1024 * (t.val % 1) + b) :=
  (congrFun (V_main_arg1 m c) (((cfg0.win 1).blk t).view.emb (ix2 a b))).trans (at2_eq _ _ _ _
    (place win0_1 (index1 t).1 (by show (t.val / 1 % 1) * 1024 + a.val = _; omega))
    (place win0_1 (index1 t).2 (by show (t.val % 1) * 1024 + b.val = _; omega)))

/-- What a point computes, at one element. -/
theorem tile_apply (v0 : Vec Ideal S1024x1024 .f32) (v1 : Vec Ideal S1024x1024 .bf16) (r : Fin 1024) (l : Fin 1024) :
    (k0_pay1 (F := Ideal) v0 v1 : S1024x1024.Idx → EReal) (ix2 r l) = ∑ x : Fin 1024, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) (1024 * (t.val / 1 % 1) + l) k

theorem tile_sum (r : Fin 1024) (l : Fin 1024) :
    (k0_pay1 (F := Ideal) (iblk m c 0 t) (iblk m c 1 t) : S1024x1024.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 1024 := by
  unfold out0_2
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) q k) 1024

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.DMergedIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .f32) (x1 : Vec Ideal S1024x1024 .bf16) (r : Fin 4096) (q : Fin 1024) :
    (Cert.DMergedRefIdeal.Read.val_main_v4 (F := Ideal) x0 x1 : S4096x1024.Idx → EReal) (ix2 r q) = dot (fun k => at2 x0 r k) (fun k => at2 x1 q k) 1024 := by
  have e : (Cert.DMergedRefIdeal.Read.val_main_v4 (F := Ideal) x0 x1 : S4096x1024.Idx → EReal) (ix2 r q) = ∑ x : Fin 1024, x0 (ix2 r x) * x1 (ix2 q x) := by
    pointwise [Cert.DMergedRefIdeal.Read.val_main_cst, Cert.DMergedRefIdeal.Read.val_main_v0, Cert.DMergedRefIdeal.Read.val_main_v1, Cert.DMergedRefIdeal.Read.val_main_v2, Cert.DMergedRefIdeal.Read.val_main_v3, Cert.DMergedRefIdeal.Read.val_main_v4]
  rw [e]
  refine Eq.trans (Finset.sum_congr rfl fun x _ => ?_) (dot_fin (fun k => at2 x0 r k) (fun k => at2 x1 q k) 1024)
  rw [at2_ix2 x0, at2_ix2 x1]

theorem frame_kernel : Cert.quiescent_DMerged := fun m g _ => Cert.DMerged.Gen.frame m g

theorem frame_ideal : Cert.quiescent_DMergedIdeal := fun m g _ => Cert.DMergedIdeal.Gen.frame m g

theorem frame_reference : Cert.quiescent_DMergedRefIdeal := fun m g _ =>
  (θ_run Cert.DMergedRefIdeal.defs _ _).mono (fun r h => ⟨fun c => (h c).2, sem_eq_zero_of_no_sems (by decide) r.2⟩)
    (Cert.DMergedRefIdeal.Value.run (F := Ideal) m g)

theorem algebraic : Cert.algebraic_DMergedIdeal_DMergedRefIdeal := by
  pair_intro
  · run_from Cert.DMergedIdeal.Value.run_blocks m g
  · run_from Cert.DMergedRefIdeal.Value.run m' g'
    refine funext fun i => ?_
    rw [Cert.DMergedProof.final m c]
    exact ((congrFun (Cert.DMergedRefIdeal.Read.val_main_v4_eq _ _) i).trans (congrArg _ (funext fun d => by fin_cases d <;> rfl))).trans (reference_apply _ _ (i 0) (i 1))

end Cert.DMergedProof

end
-- ==== Proof.DWoProd.lean ====
/-
  The mixer's gradient of the weight of its last product.
-/
module

public import proofs.«01_k».proof.Defs
public import proofs.«01_k».proof.Proof.Gen.DWo.Frame
public import proofs.«01_k».proof.Proof.Gen.DWoIdeal.Value
public import proofs.«01_k».proof.Proof.Gen.DWoRefIdeal.Run
public import proofs.«01_k».proof.Proof.Gen.DWoRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DWoProof

open Idealize.ShloMosaic Idealize.ShloMosaic.TcCoe Cert.DWoIdeal Cert.DWoIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S4096x1024.Idx → EReal := m ((c : Thread nD τ).loc main_arg1)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = t.val / 2 % 1 :=
  (by decide +kernel : ∀ t : Fin grid0.N, win0_1.index t (0 : Fin 2) = t.val % 2 ∧ win0_1.index t (1 : Fin 2) = t.val / 2 % 1)
theorem index2 : ∀ t : Fin cfg0.N, win0_2.index t (0 : Fin 2) = t.val / 2 ∧ win0_2.index t (1 : Fin 2) = t.val / 2 % 1 :=
  (by decide +kernel : ∀ t : Fin grid0.N, win0_2.index t (0 : Fin 2) = t.val / 2 ∧ win0_2.index t (1 : Fin 2) = t.val / 2 % 1)

theorem points (t : Fin cfg0.N) : t.val < 2 := Nat.lt_of_lt_of_eq t.isLt N_0

theorem hz : (![0, 0] : Fin 2 → Nat) = fun _ => 0 := funext fun a => by fin_cases a <;> rfl

variable (t : Fin cfg0.N)

theorem block0 (a : Fin 2048) (b : Fin 1024) : (iblk m c 0 t : Vec Ideal S2048x1024 .bf16) (ix2 a b) = at2 (X m c) (2048 * (t.val % 2) + a) (1024 * (t.val / 2) + b) :=
  (congrFun (V_main_arg0 m c) (((cfg0.win 0).blk t).view.emb (ix2 a b))).trans (at2_eq _ _ _ _
    (place win0_0 (index0 t).1 (by show (t.val % 2) * 2048 + a.val = _; omega))
    (place win0_0 (index0 t).2 (by show (t.val / 2) * 1024 + b.val = _; omega)))

theorem block1 (a : Fin 2048) (b : Fin 1024) : (iblk m c 1 t : Vec Ideal S2048x1024 .f32) (ix2 a b) = at2 (Y m c) (2048 * (t.val % 2) + a) (1024 * (t.val / 2 % 1) + b) :=
  (congrFun (V_main_arg1 m c) (((cfg0.win 1).blk t).view.emb (ix2 a b))).trans (at2_eq _ _ _ _
    (place win0_1 (index1 t).1 (by show (t.val % 2) * 2048 + a.val = _; omega))
    (place win0_1 (index1 t).2 (by show (t.val / 2 % 1) * 1024 + b.val = _; omega)))

/-- A tile's product at one element. -/
theorem tile_apply (v0 : Vec Ideal S2048x1024 .bf16) (v1 : Vec Ideal S2048x1024 .f32) (r : Fin 1024) (l : Fin 1024) :
    (k0_pay1 (F := Ideal) v0 v1 : S1024x1024.Idx → EReal) (ix2 r l) = ∑ x : Fin 2048, v0 (ix2 x r) * v1 (ix2 x l) := by
  pointwise [k0_pay1]

/-- Row `r` of the tile's left factor and column `l` of its right factor, continued over the whole sum. -/
abbrev left (r : ℕ) : ℕ → EReal := fun k => at2 (X m c) k (1024 * (t.val / 2) + r)
abbrev right (l : ℕ) : ℕ → EReal := fun k => at2 (Y m c) k (1024 * (t.val / 2 % 1) + l)

theorem tile_sum (r : Fin 1024) (l : Fin 1024) :
    (k0_pay1 (F := Ideal) (iblk m c 0 t) (iblk m c 1 t) : S1024x1024.Idx → EReal) (ix2 r l)
      = ∑ x : Fin 2048, left m c t r (2048 * (t.val % 2) + x) * right m c t l (2048 * (t.val % 2) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S2048x1024 .bf16) (h3 : a3.IsWhole) (a4 : Memref sig .tc .vmem S2048x1024 .f32) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S2048x1024 .bf16) (x1 : Vec Ideal S2048x1024 .f32) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last_point (c : Dev nD) (i : grid0.Coords) (a3 : Memref sig .tc .vmem S2048x1024 .bf16) (h3 : a3.IsWhole) (a4 : Memref sig .tc .vmem S2048x1024 .f32) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i) (x0 : Vec Ideal S2048x1024 .bf16) (x1 : Vec Ideal S2048x1024 .f32) (xs : Vec Ideal S1024x1024 .f32) :
    out0_B_2 (F := Ideal) c i a3 h3 a4 h4 a5 h5 a6 h6 hc0 hc1 hc2 x0 x1 xs = k0_pay4 x0 x1 xs := by
  unfold out0_B_2
  rw [View.read_writes_eq_canon _ _ _ (cover0_B_2 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem first_apply (v0 : Vec Ideal S2048x1024 .bf16) (v1 : Vec Ideal S2048x1024 .f32) (r : Fin 1024) (l : Fin 1024) :
    (k0_pay2 (F := Ideal) v0 v1 : S1024x1024.Idx → EReal) (ix2 r l) = (k0_pay1 (F := Ideal) v0 v1 : S1024x1024.Idx → EReal) (ix2 r l) := by
  unfold k0_pay2
  generalize k0_pay1 (F := Ideal) v0 v1 = p
  pointwise

theorem last_apply (v0 : Vec Ideal S2048x1024 .bf16) (v1 : Vec Ideal S2048x1024 .f32) (s : Vec Ideal S1024x1024 .f32) (r : Fin 1024) (l : Fin 1024) :
    (k0_pay4 (F := Ideal) v0 v1 s : S1024x1024.Idx → EReal) (ix2 r l) = (s (ix2 r l) + (k0_pay1 (F := Ideal) v0 v1 : S1024x1024.Idx → EReal) (ix2 r l)) := by
  unfold k0_pay4
  generalize k0_pay1 (F := Ideal) v0 v1 = p
  pointwise

/-- The scratch after a point that is not a sum's last holds the sum of the tiles so far. -/
theorem carried (r : Fin 1024) (l : Fin 1024) : ∀ (n : ℕ) (hn : n < cfg0.N), n % 2 < 1 →
    ((outsAt0 m c n hn).2 : S1024x1024.Idx → EReal) (ix2 r l) = dot (left m c ⟨n, hn⟩ r) (right m c ⟨n, hn⟩ l) (2048 * (n % 2 + 1)) := by
  intro n
  induction n using Nat.strong_induction_on with
  | _ n ih =>
    intro hn hlt
    by_cases h0 : n % 2 = 0
    · rw [outsAt0_A m c ⟨n, hn⟩ h0 (by show ¬n % 2 = 1; omega)]
      dsimp only
      rw [first_point, first_apply, tile_sum m c ⟨n, hn⟩ r l]
      exact dot_first _ _ 2048 (n % 2) h0
    · omega

/-- What a sum's last point leaves in the block of the result. -/
theorem result_block (r : Fin 1024) (l : Fin 1024) (hf : t.val % 2 = 1) :
    ((outsAt0 m c t.val t.isLt).1 : S1024x1024.Idx → EReal) (ix2 r l) = dot (left m c t r) (right m c t l) 4096 := by
  rw [outsAt0_B m c t (by omega) hf]
  dsimp only
  rw [last_point, last_apply, tile_sum m c t r l, carried m c r l (t.val - 1) _ (by omega)]
  have e1 : (t.val - 1) / 2 = t.val / 2 := by omega
  have e2 : (t.val - 1) / 2 = t.val / 2 := by omega
  have e3 : (t.val - 1) % 2 + 1 = t.val % 2 := by omega
  rw [e3]
  have e := dot_tile (left m c t r) (right m c t l) 2048 (t.val % 2)
  have e4 : 2048 * (t.val % 2 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096

/-- The result array after the run. -/
theorem final (i : S1024x1024.Idx) : ((dats m 0 c).arrAt 2 cfg0.N : S1024x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DWoIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 2) + r.val := by
      exact place win0_2 (index2 t).1 (by show (t.val / 2) * 1024 + r.val = _; omega)
    have e1 : (((cfg0.win 2).blk t).view.emb (ix2 r l) 1).val = 1024 * (t.val / 2 % 1) + l.val := by
      exact place win0_2 (index2 t).2 (by show (t.val / 2 % 1) * 1024 + l.val = _; omega)
    rw [e0, e1]
    have key := result_block m c t r l hf
    revert key
    generalize (outsAt0 m c t.val t.isLt).1 = B
    intro key
    exact key
  · intro i
    have h0 : (i 0).val < 1024 := (i 0).isLt
    have h1 : (i 1).val < 1024 := (i 1).isLt
    have hb : 2 * ((i 0).val / 1024) + 2 * ((i 1).val / 1024) + 1 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S4096x1024 .f32) (r : Fin 1024) (q : Fin 1024) :
    (Cert.DWoRefIdeal.Read.val_main_v5 (F := Ideal) x0 x1 : S1024x1024.Idx → EReal) (ix2 r q) = dot (fun k => at2 x0 k r) (fun k => at2 x1 k q) 4096 := by
  have e : (Cert.DWoRefIdeal.Read.val_main_v5 (F := Ideal) x0 x1 : S1024x1024.Idx → EReal) (ix2 r q) = ∑ x : Fin 4096, x1 (ix2 x q) * x0 (ix2 x r) := by
    pointwise [Cert.DWoRefIdeal.Read.val_main_cst, Cert.DWoRefIdeal.Read.val_main_v0, Cert.DWoRefIdeal.Read.val_main_v1, Cert.DWoRefIdeal.Read.val_main_v2, Cert.DWoRefIdeal.Read.val_main_v3, Cert.DWoRefIdeal.Read.val_main_v4, Cert.DWoRefIdeal.Read.val_main_v5]
  rw [e]
  refine Eq.trans (Finset.sum_congr rfl fun x _ => ?_) (dot_fin (fun k => at2 x0 k r) (fun k => at2 x1 k q) 4096)
  rw [at2_ix2 x0, at2_ix2 x1]
  exact mul_comm _ _

theorem frame_kernel : Cert.quiescent_DWo := fun m g _ => Cert.DWo.Gen.frame m g

theorem frame_ideal : Cert.quiescent_DWoIdeal := fun m g _ => Cert.DWoIdeal.Gen.frame m g

theorem frame_reference : Cert.quiescent_DWoRefIdeal := fun m g _ =>
  (θ_run Cert.DWoRefIdeal.defs _ _).mono (fun r h => ⟨fun c => (h c).2, sem_eq_zero_of_no_sems (by decide) r.2⟩)
    (Cert.DWoRefIdeal.Value.run (F := Ideal) m g)

theorem algebraic : Cert.algebraic_DWoIdeal_DWoRefIdeal := by
  pair_intro
  · run_from Cert.DWoIdeal.Value.run_blocks m g
  · run_from Cert.DWoRefIdeal.Value.run m' g'
    refine funext fun i => ?_
    rw [Cert.DWoProof.final m c]
    exact ((congrFun (Cert.DWoRefIdeal.Read.val_main_v5_eq _ _) i).trans (congrArg _ (funext fun d => by fin_cases d <;> rfl))).trans (reference_apply _ _ (i 0) (i 1))

end Cert.DWoProof

end
-- ==== Proof.DScWProd.lean ====
/-
  The gradient of the weight of the convolution branch's output product (and, the same call, of the per-layer gate's weight).
-/
module

public import proofs.«01_k».proof.Defs
public import proofs.«01_k».proof.Proof.Gen.DScW.Frame
public import proofs.«01_k».proof.Proof.Gen.DScWIdeal.Value
public import proofs.«01_k».proof.Proof.Gen.DScWRefIdeal.Run
public import proofs.«01_k».proof.Proof.Gen.DScWRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DScWProof

open Idealize.ShloMosaic Idealize.ShloMosaic.TcCoe Cert.DScWIdeal Cert.DScWIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S4096x1024.Idx → EReal := m ((c : Thread nD τ).loc main_arg1)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = t.val / 2 % 1 :=
  (by decide +kernel : ∀ t : Fin grid0.N, win0_1.index t (0 : Fin 2) = t.val % 2 ∧ win0_1.index t (1 : Fin 2) = t.val / 2 % 1)
theorem index2 : ∀ t : Fin cfg0.N, win0_2.index t (0 : Fin 2) = t.val / 2 ∧ win0_2.index t (1 : Fin 2) = t.val / 2 % 1 :=
  (by decide +kernel : ∀ t : Fin grid0.N, win0_2.index t (0 : Fin 2) = t.val / 2 ∧ win0_2.index t (1 : Fin 2) = t.val / 2 % 1)

theorem points (t : Fin cfg0.N) : t.val < 2 := Nat.lt_of_lt_of_eq t.isLt N_0

theorem hz : (![0, 0] : Fin 2 → Nat) = fun _ => 0 := funext fun a => by fin_cases a <;> rfl

variable (t : Fin cfg0.N)

theorem block0 (a : Fin 2048) (b : Fin 1024) : (iblk m c 0 t : Vec Ideal S2048x1024 .bf16) (ix2 a b) = at2 (X m c) (2048 * (t.val % 2) + a) (1024 * (t.val / 2) + b) :=
  (congrFun (V_main_arg0 m c) (((cfg0.win 0).blk t).view.emb (ix2 a b))).trans (at2_eq _ _ _ _
    (place win0_0 (index0 t).1 (by show (t.val % 2) * 2048 + a.val = _; omega))
    (place win0_0 (index0 t).2 (by show (t.val / 2) * 1024 + b.val = _; omega)))

theorem block1 (a : Fin 2048) (b : Fin 1024) : (iblk m c 1 t : Vec Ideal S2048x1024 .bf16) (ix2 a b) = at2 (Y m c) (2048 * (t.val % 2) + a) (1024 * (t.val / 2 % 1) + b) :=
  (congrFun (V_main_arg1 m c) (((cfg0.win 1).blk t).view.emb (ix2 a b))).trans (at2_eq _ _ _ _
    (place win0_1 (index1 t).1 (by show (t.val % 2) * 2048 + a.val = _; omega))
    (place win0_1 (index1 t).2 (by show (t.val / 2 % 1) * 1024 + b.val = _; omega)))

/-- A tile's product at one element. -/
theorem tile_apply (v0 : Vec Ideal S2048x1024 .bf16) (v1 : Vec Ideal S2048x1024 .bf16) (r : Fin 1024) (l : Fin 1024) :
    (k0_pay1 (F := Ideal) v0 v1 : S1024x1024.Idx → EReal) (ix2 r l) = ∑ x : Fin 2048, v0 (ix2 x r) * v1 (ix2 x l) := by
  pointwise [k0_pay1]

/-- Row `r` of the tile's left factor and column `l` of its right factor, continued over the whole sum. -/
abbrev left (r : ℕ) : ℕ → EReal := fun k => at2 (X m c) k (1024 * (t.val / 2) + r)
abbrev right (l : ℕ) : ℕ → EReal := fun k => at2 (Y m c) k (1024 * (t.val / 2 % 1) + l)

theorem tile_sum (r : Fin 1024) (l : Fin 1024) :
    (k0_pay1 (F := Ideal) (iblk m c 0 t) (iblk m c 1 t) : S1024x1024.Idx → EReal) (ix2 r l)
      = ∑ x : Fin 2048, left m c t r (2048 * (t.val % 2) + x) * right m c t l (2048 * (t.val % 2) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i) (x0 : Vec Ideal S2048x1024 .bf16) (x1 : Vec Ideal S2048x1024 .bf16) (xs : Vec Ideal S1024x1024 .f32) :
    out0_B_2 (F := Ideal) c i a3 h3 a4 h4 a5 h5 a6 h6 hc0 hc1 hc2 x0 x1 xs = k0_pay4 x0 x1 xs := by
  unfold out0_B_2
  rw [View.read_writes_eq_canon _ _ _ (cover0_B_2 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem first_apply (v0 : Vec Ideal S2048x1024 .bf16) (v1 : Vec Ideal S2048x1024 .bf16) (r : Fin 1024) (l : Fin 1024) :
    (k0_pay2 (F := Ideal) v0 v1 : S1024x1024.Idx → EReal) (ix2 r l) = (k0_pay1 (F := Ideal) v0 v1 : S1024x1024.Idx → EReal) (ix2 r l) := by
  unfold k0_pay2
  generalize k0_pay1 (F := Ideal) v0 v1 = p
  pointwise

theorem last_apply (v0 : Vec Ideal S2048x1024 .bf16) (v1 : Vec Ideal S2048x1024 .bf16) (s : Vec Ideal S1024x1024 .f32) (r : Fin 1024) (l : Fin 1024) :
    (k0_pay4 (F := Ideal) v0 v1 s : S1024x1024.Idx → EReal) (ix2 r l) = (s (ix2 r l) + (k0_pay1 (F := Ideal) v0 v1 : S1024x1024.Idx → EReal) (ix2 r l)) := by
  unfold k0_pay4
  generalize k0_pay1 (F := Ideal) v0 v1 = p
  pointwise

/-- The scratch after a point that is not a sum's last holds the sum of the tiles so far. -/
theorem carried (r : Fin 1024) (l : Fin 1024) : ∀ (n : ℕ) (hn : n < cfg0.N), n % 2 < 1 →
    ((outsAt0 m c n hn).2 : S1024x1024.Idx → EReal) (ix2 r l) = dot (left m c ⟨n, hn⟩ r) (right m c ⟨n, hn⟩ l) (2048 * (n % 2 + 1)) := by
  intro n
  induction n using Nat.strong_induction_on with
  | _ n ih =>
    intro hn hlt
    by_cases h0 : n % 2 = 0
    · rw [outsAt0_A m c ⟨n, hn⟩ h0 (by show ¬n % 2 = 1; omega)]
      dsimp only
      rw [first_point, first_apply, tile_sum m c ⟨n, hn⟩ r l]
      exact dot_first _ _ 2048 (n % 2) h0
    · omega

/-- What a sum's last point leaves in the block of the result. -/
theorem result_block (r : Fin 1024) (l : Fin 1024) (hf : t.val % 2 = 1) :
    ((outsAt0 m c t.val t.isLt).1 : S1024x1024.Idx → EReal) (ix2 r l) = dot (left m c t r) (right m c t l) 4096 := by
  rw [outsAt0_B m c t (by omega) hf]
  dsimp only
  rw [last_point, last_apply, tile_sum m c t r l, carried m c r l (t.val - 1) _ (by omega)]
  have e1 : (t.val - 1) / 2 = t.val / 2 := by omega
  have e2 : (t.val - 1) / 2 = t.val / 2 := by omega
  have e3 : (t.val - 1) % 2 + 1 = t.val % 2 := by omega
  rw [e3]
  have e := dot_tile (left m c t r) (right m c t l) 2048 (t.val % 2)
  have e4 : 2048 * (t.val % 2 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096

/-- The result array after the run. -/
theorem final (i : S1024x1024.Idx) : ((dats m 0 c).arrAt 2 cfg0.N : S1024x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DScWIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 2) + r.val := by
      exact place win0_2 (index2 t).1 (by show (t.val / 2) * 1024 + r.val = _; omega)
    have e1 : (((cfg0.win 2).blk t).view.emb (ix2 r l) 1).val = 1024 * (t.val / 2 % 1) + l.val := by
      exact place win0_2 (index2 t).2 (by show (t.val / 2 % 1) * 1024 + l.val = _; omega)
    rw [e0, e1]
    have key := result_block m c t r l hf
    revert key
    generalize (outsAt0 m c t.val t.isLt).1 = B
    intro key
    exact key
  · intro i
    have h0 : (i 0).val < 1024 := (i 0).isLt
    have h1 : (i 1).val < 1024 := (i 1).isLt
    have hb : 2 * ((i 0).val / 1024) + 2 * ((i 1).val / 1024) + 1 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S4096x1024 .bf16) (r : Fin 1024) (q : Fin 1024) :
    (Cert.DScWRefIdeal.Read.val_main_v6 (F := Ideal) x0 x1 : S1024x1024.Idx → EReal) (ix2 r q) = dot (fun k => at2 x0 k r) (fun k => at2 x1 k q) 4096 := by
  have e : (Cert.DScWRefIdeal.Read.val_main_v6 (F := Ideal) x0 x1 : S1024x1024.Idx → EReal) (ix2 r q) = ∑ x : Fin 4096, x1 (ix2 x q) * x0 (ix2 x r) := by
    pointwise [Cert.DScWRefIdeal.Read.val_main_cst, Cert.DScWRefIdeal.Read.val_main_v0, Cert.DScWRefIdeal.Read.val_main_v1, Cert.DScWRefIdeal.Read.val_main_v2, Cert.DScWRefIdeal.Read.val_main_v3, Cert.DScWRefIdeal.Read.val_main_v4, Cert.DScWRefIdeal.Read.val_main_v5, Cert.DScWRefIdeal.Read.val_main_v6]
  rw [e]
  refine Eq.trans (Finset.sum_congr rfl fun x _ => ?_) (dot_fin (fun k => at2 x0 k r) (fun k => at2 x1 k q) 4096)
  rw [at2_ix2 x0, at2_ix2 x1]
  exact mul_comm _ _

theorem frame_kernel : Cert.quiescent_DScW := fun m g _ => Cert.DScW.Gen.frame m g

theorem frame_ideal : Cert.quiescent_DScWIdeal := fun m g _ => Cert.DScWIdeal.Gen.frame m g

theorem frame_reference : Cert.quiescent_DScWRefIdeal := fun m g _ =>
  (θ_run Cert.DScWRefIdeal.defs _ _).mono (fun r h => ⟨fun c => (h c).2, sem_eq_zero_of_no_sems (by decide) r.2⟩)
    (Cert.DScWRefIdeal.Value.run (F := Ideal) m g)

theorem algebraic : Cert.algebraic_DScWIdeal_DScWRefIdeal := by
  pair_intro
  · run_from Cert.DScWIdeal.Value.run_blocks m g
  · run_from Cert.DScWRefIdeal.Value.run m' g'
    refine funext fun i => ?_
    rw [Cert.DScWProof.final m c]
    exact ((congrFun (Cert.DScWRefIdeal.Read.val_main_v6_eq _ _) i).trans (congrArg _ (funext fun d => by fin_cases d <;> rfl))).trans (reference_apply _ _ (i 0) (i 1))

end Cert.DScWProof

end
-- ==== Proof.DVProd.lean ====
/-
  The gradient of the gated convolution's result through the branch's output product.
-/
module

public import proofs.«01_k».proof.Defs
public import proofs.«01_k».proof.Proof.Gen.DV.Frame
public import proofs.«01_k».proof.Proof.Gen.DVIdeal.Value
public import proofs.«01_k».proof.Proof.Gen.DVRefIdeal.Run
public import proofs.«01_k».proof.Proof.Gen.DVRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DVProof

open Idealize.ShloMosaic Idealize.ShloMosaic.TcCoe Cert.DVIdeal Cert.DVIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S1024x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val / 1 % 1 ∧ win0_1.index t (1 : Fin 2) = t.val % 1 :=
  (by decide +kernel : ∀ t : Fin grid0.N, win0_1.index t (0 : Fin 2) = t.val / 1 % 1 ∧ win0_1.index t (1 : Fin 2) = t.val % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 1) + a) (1024 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val / 1 % 1) + a) (1024 * (t.val % 1) + b) :=
  (congrFun (V_main_arg1 m c) (((cfg0.win 1).blk t).view.emb (ix2 a b))).trans (at2_eq _ _ _ _
    (place win0_1 (index1 t).1 (by show (t.val / 1 % 1) * 1024 + a.val = _; omega))
    (place win0_1 (index1 t).2 (by show (t.val % 1) * 1024 + b.val = _; omega)))

/-- What a point computes, at one element. -/
theorem tile_apply (v0 : Vec Ideal S1024x1024 .bf16) (v1 : Vec Ideal S1024x1024 .bf16) (r : Fin 1024) (l : Fin 1024) :
    (k0_pay1 (F := Ideal) v0 v1 : S1024x1024.Idx → EReal) (ix2 r l) = ∑ x : Fin 1024, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) (1024 * (t.val / 1 % 1) + l) k

theorem tile_sum (r : Fin 1024) (l : Fin 1024) :
    (k0_pay1 (F := Ideal) (iblk m c 0 t) (iblk m c 1 t) : S1024x1024.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 1024 := by
  unfold out0_2
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) q k) 1024

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.DVIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S1024x1024 .bf16) (r : Fin 4096) (q : Fin 1024) :
    (Cert.DVRefIdeal.Read.val_main_v5 (F := Ideal) x0 x1 : S4096x1024.Idx → EReal) (ix2 r q) = dot (fun k => at2 x0 r k) (fun k => at2 x1 q k) 1024 := by
  have e : (Cert.DVRefIdeal.Read.val_main_v5 (F := Ideal) x0 x1 : S4096x1024.Idx → EReal) (ix2 r q) = ∑ x : Fin 1024, x0 (ix2 r x) * x1 (ix2 q x) := by
    pointwise [Cert.DVRefIdeal.Read.val_main_cst, Cert.DVRefIdeal.Read.val_main_v0, Cert.DVRefIdeal.Read.val_main_v1, Cert.DVRefIdeal.Read.val_main_v2, Cert.DVRefIdeal.Read.val_main_v3, Cert.DVRefIdeal.Read.val_main_v4, Cert.DVRefIdeal.Read.val_main_v5]
  rw [e]
  refine Eq.trans (Finset.sum_congr rfl fun x _ => ?_) (dot_fin (fun k => at2 x0 r k) (fun k => at2 x1 q k) 1024)
  rw [at2_ix2 x0, at2_ix2 x1]

theorem frame_kernel : Cert.quiescent_DV := fun m g _ => Cert.DV.Gen.frame m g

theorem frame_ideal : Cert.quiescent_DVIdeal := fun m g _ => Cert.DVIdeal.Gen.frame m g

theorem frame_reference : Cert.quiescent_DVRefIdeal := fun m g _ =>
  (θ_run Cert.DVRefIdeal.defs _ _).mono (fun r h => ⟨fun c => (h c).2, sem_eq_zero_of_no_sems (by decide) r.2⟩)
    (Cert.DVRefIdeal.Value.run (F := Ideal) m g)

theorem algebraic : Cert.algebraic_DVIdeal_DVRefIdeal := by
  pair_intro
  · run_from Cert.DVIdeal.Value.run_blocks m g
  · run_from Cert.DVRefIdeal.Value.run m' g'
    refine funext fun i => ?_
    rw [Cert.DVProof.final m c]
    exact ((congrFun (Cert.DVRefIdeal.Read.val_main_v5_eq _ _) i).trans (congrArg _ (funext fun d => by fin_cases d <;> rfl))).trans (reference_apply _ _ (i 0) (i 1))

end Cert.DVProof

end
-- ==== Proof.DMWProd.lean ====
/-
  The gradient of the weight of the recurrence branch's output product.
-/
module

public import proofs.«01_k».proof.Defs
public import proofs.«01_k».proof.Proof.Gen.DMW.Frame
public import proofs.«01_k».proof.Proof.Gen.DMWIdeal.Value
public import proofs.«01_k».proof.Proof.Gen.DMWRefIdeal.Run
public import proofs.«01_k».proof.Proof.Gen.DMWRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DMWProof

open Idealize.ShloMosaic Idealize.ShloMosaic.TcCoe Cert.DMWIdeal Cert.DMWIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2048.Idx → EReal := m ((c : Thread nD τ).loc main_arg0)
abbrev Y : S4096x1024.Idx → EReal := m ((c : Thread nD τ).loc main_arg1)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = t.val / 2 % 1 :=
  (by decide +kernel : ∀ t : Fin grid0.N, win0_1.index t (0 : Fin 2) = t.val % 2 ∧ win0_1.index t (1 : Fin 2) = t.val / 2 % 1)
theorem index2 : ∀ t : Fin cfg0.N, win0_2.index t (0 : Fin 2) = t.val / 2 ∧ win0_2.index t (1 : Fin 2) = t.val / 2 % 1 :=
  (by decide +kernel : ∀ t : Fin grid0.N, win0_2.index t (0 : Fin 2) = t.val / 2 ∧ win0_2.index t (1 : Fin 2) = t.val / 2 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 2048) (b : Fin 1024) : (iblk m c 0 t : Vec Ideal S2048x1024 .bf16) (ix2 a b) = at2 (X m c) (2048 * (t.val % 2) + a) (1024 * (t.val / 2) + b) :=
  (congrFun (V_main_arg0 m c) (((cfg0.win 0).blk t).view.emb (ix2 a b))).trans (at2_eq _ _ _ _
    (place win0_0 (index0 t).1 (by show (t.val % 2) * 2048 + a.val = _; omega))
    (place win0_0 (index0 t).2 (by show (t.val / 2) * 1024 + b.val = _; omega)))

theorem block1 (a : Fin 2048) (b : Fin 1024) : (iblk m c 1 t : Vec Ideal S2048x1024 .bf16) (ix2 a b) = at2 (Y m c) (2048 * (t.val % 2) + a) (1024 * (t.val / 2 % 1) + b) :=
  (congrFun (V_main_arg1 m c) (((cfg0.win 1).blk t).view.emb (ix2 a b))).trans (at2_eq _ _ _ _
    (place win0_1 (index1 t).1 (by show (t.val % 2) * 2048 + a.val = _; omega))
    (place win0_1 (index1 t).2 (by show (t.val / 2 % 1) * 1024 + b.val = _; omega)))

/-- A tile's product at one element. -/
theorem tile_apply (v0 : Vec Ideal S2048x1024 .bf16) (v1 : Vec Ideal S2048x1024 .bf16) (r : Fin 1024) (l : Fin 1024) :
    (k0_pay1 (F := Ideal) v0 v1 : S1024x1024.Idx → EReal) (ix2 r l) = ∑ x : Fin 2048, v0 (ix2 x r) * v1 (ix2 x l) := by
  pointwise [k0_pay1]

/-- Row `r` of the tile's left factor and column `l` of its right factor, continued over the whole sum. -/
abbrev left (r : ℕ) : ℕ → EReal := fun k => at2 (X m c) k (1024 * (t.val / 2) + r)
abbrev right (l : ℕ) : ℕ → EReal := fun k => at2 (Y m c) k (1024 * (t.val / 2 % 1) + l)

theorem tile_sum (r : Fin 1024) (l : Fin 1024) :
    (k0_pay1 (F := Ideal) (iblk m c 0 t) (iblk m c 1 t) : S1024x1024.Idx → EReal) (ix2 r l)
      = ∑ x : Fin 2048, left m c t r (2048 * (t.val % 2) + x) * right m c t l (2048 * (t.val % 2) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i) (x0 : Vec Ideal S2048x1024 .bf16) (x1 : Vec Ideal S2048x1024 .bf16) (xs : Vec Ideal S1024x1024 .f32) :
    out0_B_2 (F := Ideal) c i a3 h3 a4 h4 a5 h5 a6 h6 hc0 hc1 hc2 x0 x1 xs = k0_pay4 x0 x1 xs := by
  unfold out0_B_2
  rw [View.read_writes_eq_canon _ _ _ (cover0_B_2 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem first_apply (v0 : Vec Ideal S2048x1024 .bf16) (v1 : Vec Ideal S2048x1024 .bf16) (r : Fin 1024) (l : Fin 1024) :
    (k0_pay2 (F := Ideal) v0 v1 : S1024x1024.Idx → EReal) (ix2 r l) = (k0_pay1 (F := Ideal) v0 v1 : S1024x1024.Idx → EReal) (ix2 r l) := by
  unfold k0_pay2
  generalize k0_pay1 (F := Ideal) v0 v1 = p
  pointwise

theorem last_apply (v0 : Vec Ideal S2048x1024 .bf16) (v1 : Vec Ideal S2048x1024 .bf16) (s : Vec Ideal S1024x1024 .f32) (r : Fin 1024) (l : Fin 1024) :
    (k0_pay4 (F := Ideal) v0 v1 s : S1024x1024.Idx → EReal) (ix2 r l) = (s (ix2 r l) + (k0_pay1 (F := Ideal) v0 v1 : S1024x1024.Idx → EReal) (ix2 r l)) := by
  unfold k0_pay4
  generalize k0_pay1 (F := Ideal) v0 v1 = p
  pointwise

/-- The scratch after a point that is not a sum's last holds the sum of the tiles so far. -/
theorem carried (r : Fin 1024) (l : Fin 1024) : ∀ (n : ℕ) (hn : n < cfg0.N), n % 2 < 1 →
    ((outsAt0 m c n hn).2 : S1024x1024.Idx → EReal) (ix2 r l) = dot (left m c ⟨n, hn⟩ r) (right m c ⟨n, hn⟩ l) (2048 * (n % 2 + 1)) := by
  intro n
  induction n using Nat.strong_induction_on with
  | _ n ih =>
    intro hn hlt
    by_cases h0 : n % 2 = 0
    · rw [outsAt0_A m c ⟨n, hn⟩ h0 (by show ¬n % 2 = 1; omega)]
      dsimp only
      rw [first_point, first_apply, tile_sum m c ⟨n, hn⟩ r l]
      exact dot_first _ _ 2048 (n % 2) h0
    · omega

/-- What a sum's last point leaves in the block of the result. -/
theorem result_block (r : Fin 1024) (l : Fin 1024) (hf : t.val % 2 = 1) :
    ((outsAt0 m c t.val t.isLt).1 : S1024x1024.Idx → EReal) (ix2 r l) = dot (left m c t r) (right m c t l) 4096 := by
  rw [outsAt0_B m c t (by omega) hf]
  dsimp only
  rw [last_point, last_apply, tile_sum m c t r l, carried m c r l (t.val - 1) _ (by omega)]
  have e1 : (t.val - 1) / 2 = t.val / 2 := by omega
  have e2 : (t.val - 1) / 2 = t.val / 2 := by omega
  have e3 : (t.val - 1) % 2 + 1 = t.val % 2 := by omega
  rw [e3]
  have e := dot_tile (left m c t r) (right m c t l) 2048 (t.val % 2)
  have e4 : 2048 * (t.val % 2 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096

/-- The result array after the run. -/
theorem final (i : S2048x1024.Idx) : ((dats m 0 c).arrAt 2 cfg0.N : S2048x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DMWIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 2) + r.val := by
      exact place win0_2 (index2 t).1 (by show (t.val / 2) * 1024 + r.val = _; omega)
    have e1 : (((cfg0.win 2).blk t).view.emb (ix2 r l) 1).val = 1024 * (t.val / 2 % 1) + l.val := by
      exact place win0_2 (index2 t).2 (by show (t.val / 2 % 1) * 1024 + l.val = _; omega)
    rw [e0, e1]
    have key := result_block m c t r l hf
    revert key
    generalize (outsAt0 m c t.val t.isLt).1 = B
    intro key
    exact key
  · intro i
    have h0 : (i 0).val < 2048 := (i 0).isLt
    have h1 : (i 1).val < 1024 := (i 1).isLt
    have hb : 2 * ((i 0).val / 1024) + 2 * ((i 1).val / 1024) + 1 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x2048 .bf16) (x1 : Vec Ideal S4096x1024 .bf16) (r : Fin 2048) (q : Fin 1024) :
    (Cert.DMWRefIdeal.Read.val_main_v6 (F := Ideal) x0 x1 : S2048x1024.Idx → EReal) (ix2 r q) = dot (fun k => at2 x0 k r) (fun k => at2 x1 k q) 4096 := by
  have e : (Cert.DMWRefIdeal.Read.val_main_v6 (F := Ideal) x0 x1 : S2048x1024.Idx → EReal) (ix2 r q) = ∑ x : Fin 4096, x1 (ix2 x q) * x0 (ix2 x r) := by
    pointwise [Cert.DMWRefIdeal.Read.val_main_cst, Cert.DMWRefIdeal.Read.val_main_v0, Cert.DMWRefIdeal.Read.val_main_v1, Cert.DMWRefIdeal.Read.val_main_v2, Cert.DMWRefIdeal.Read.val_main_v3, Cert.DMWRefIdeal.Read.val_main_v4, Cert.DMWRefIdeal.Read.val_main_v5, Cert.DMWRefIdeal.Read.val_main_v6]
  rw [e]
  refine Eq.trans (Finset.sum_congr rfl fun x _ => ?_) (dot_fin (fun k => at2 x0 k r) (fun k => at2 x1 k q) 4096)
  rw [at2_ix2 x0, at2_ix2 x1]
  exact mul_comm _ _

theorem frame_kernel : Cert.quiescent_DMW := fun m g _ => Cert.DMW.Gen.frame m g

theorem frame_ideal : Cert.quiescent_DMWIdeal := fun m g _ => Cert.DMWIdeal.Gen.frame m g

theorem frame_reference : Cert.quiescent_DMWRefIdeal := fun m g _ =>
  (θ_run Cert.DMWRefIdeal.defs _ _).mono (fun r h => ⟨fun c => (h c).2, sem_eq_zero_of_no_sems (by decide) r.2⟩)
    (Cert.DMWRefIdeal.Value.run (F := Ideal) m g)

theorem algebraic : Cert.algebraic_DMWIdeal_DMWRefIdeal := by
  pair_intro
  · run_from Cert.DMWIdeal.Value.run_blocks m g
  · run_from Cert.DMWRefIdeal.Value.run m' g'
    refine funext fun i => ?_
    rw [Cert.DMWProof.final m c]
    exact ((congrFun (Cert.DMWRefIdeal.Read.val_main_v6_eq _ _) i).trans (congrArg _ (funext fun d => by fin_cases d <;> rfl))).trans (reference_apply _ _ (i 0) (i 1))

end Cert.DMWProof

end
-- ==== Proof.DYnProd.lean ====
/-
  The gradient of the recurrence branch's normed result through its output product.
-/
module

public import proofs.«01_k».proof.Defs
public import proofs.«01_k».proof.Proof.Gen.DYn.Frame
public import proofs.«01_k».proof.Proof.Gen.DYnIdeal.Value
public import proofs.«01_k».proof.Proof.Gen.DYnRefIdeal.Run
public import proofs.«01_k».proof.Proof.Gen.DYnRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DYnProof

open Idealize.ShloMosaic Idealize.ShloMosaic.TcCoe Cert.DYnIdeal Cert.DYnIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S2048x1024.Idx → EReal := m ((c : Thread nD τ).loc main_arg1)

theorem index0 : ∀ t : Fin cfg0.N, win0_0.index t (0 : Fin 2) = t.val / 2 ∧ win0_0.index t (1 : Fin 2) = t.val % 1 :=
  (by decide +kernel : ∀ t : Fin grid0.N, win0_0.index t (0 : Fin 2) = t.val / 2 ∧ win0_0.index t (1 : Fin 2) = t.val % 1)
theorem index1 : ∀ t : Fin cfg0.N, win0_1.index t (0 : Fin 2) = t.val / 1 % 2 ∧ win0_1.index t (1 : Fin 2) = t.val % 1 :=
  (by decide +kernel : ∀ t : Fin grid0.N, win0_1.index t (0 : Fin 2) = t.val / 1 % 2 ∧ win0_1.index t (1 : Fin 2) = t.val % 1)
theorem index2 : ∀ t : Fin cfg0.N, win0_2.index t (0 : Fin 2) = t.val / 2 ∧ win0_2.index t (1 : Fin 2) = t.val / 1 % 2 :=
  (by decide +kernel : ∀ t : Fin grid0.N, win0_2.index t (0 : Fin 2) = t.val / 2 ∧ win0_2.index t (1 : Fin 2) = t.val / 1 % 2)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 2) + a) (1024 * (t.val % 1) + b) :=
  (congrFun (V_main_arg0 m c) (((cfg0.win 0).blk t).view.emb (ix2 a b))).trans (at2_eq _ _ _ _
    (place win0_0 (index0 t).1 (by show (t.val / 2) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val / 1 % 2) + a) (1024 * (t.val % 1) + b) :=
  (congrFun (V_main_arg1 m c) (((cfg0.win 1).blk t).view.emb (ix2 a b))).trans (at2_eq _ _ _ _
    (place win0_1 (index1 t).1 (by show (t.val / 1 % 2) * 1024 + a.val = _; omega))
    (place win0_1 (index1 t).2 (by show (t.val % 1) * 1024 + b.val = _; omega)))

/-- What a point computes, at one element. -/
theorem tile_apply (v0 : Vec Ideal S1024x1024 .bf16) (v1 : Vec Ideal S1024x1024 .bf16) (r : Fin 1024) (l : Fin 1024) :
    (k0_pay1 (F := Ideal) v0 v1 : S1024x1024.Idx → EReal) (ix2 r l) = ∑ x : Fin 1024, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 2) + r) k
abbrev right (l : ℕ) : ℕ → EReal := fun k => at2 (Y m c) (1024 * (t.val / 1 % 2) + l) k

theorem tile_sum (r : Fin 1024) (l : Fin 1024) :
    (k0_pay1 (F := Ideal) (iblk m c 0 t) (iblk m c 1 t) : S1024x1024.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 1024 := by
  unfold out0_2
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) q k) 1024

/-- The result array after the run. -/
theorem final (i : S4096x2048.Idx) : ((dats m 0 c).arrAt 2 cfg0.N : S4096x2048.Idx → EReal) i = value m c (i 0).val (i 1).val := by
  refine Dat.arrAt_forall_of_cover (dat := dats m 0 c) 2 (fun i x => x = value m c (i 0).val (i 1).val) ?_ ?_ i
  · intro t hft y

    rw [Cert.DYnIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 2) + r.val := by
      exact place win0_2 (index2 t).1 (by show (t.val / 2) * 1024 + r.val = _; omega)
    have e1 : (((cfg0.win 2).blk t).view.emb (ix2 r l) 1).val = 1024 * (t.val / 1 % 2) + l.val := by
      exact place win0_2 (index2 t).2 (by show (t.val / 1 % 2) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 2048 := (i 1).isLt
    have hb : 2 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S2048x1024 .bf16) (r : Fin 4096) (q : Fin 2048) :
    (Cert.DYnRefIdeal.Read.val_main_v5 (F := Ideal) x0 x1 : S4096x2048.Idx → EReal) (ix2 r q) = dot (fun k => at2 x0 r k) (fun k => at2 x1 q k) 1024 := by
  have e : (Cert.DYnRefIdeal.Read.val_main_v5 (F := Ideal) x0 x1 : S4096x2048.Idx → EReal) (ix2 r q) = ∑ x : Fin 1024, x0 (ix2 r x) * x1 (ix2 q x) := by
    pointwise [Cert.DYnRefIdeal.Read.val_main_cst, Cert.DYnRefIdeal.Read.val_main_v0, Cert.DYnRefIdeal.Read.val_main_v1, Cert.DYnRefIdeal.Read.val_main_v2, Cert.DYnRefIdeal.Read.val_main_v3, Cert.DYnRefIdeal.Read.val_main_v4, Cert.DYnRefIdeal.Read.val_main_v5]
  rw [e]
  refine Eq.trans (Finset.sum_congr rfl fun x _ => ?_) (dot_fin (fun k => at2 x0 r k) (fun k => at2 x1 q k) 1024)
  rw [at2_ix2 x0, at2_ix2 x1]

theorem frame_kernel : Cert.quiescent_DYn := fun m g _ => Cert.DYn.Gen.frame m g

theorem frame_ideal : Cert.quiescent_DYnIdeal := fun m g _ => Cert.DYnIdeal.Gen.frame m g

theorem frame_reference : Cert.quiescent_DYnRefIdeal := fun m g _ =>
  (θ_run Cert.DYnRefIdeal.defs _ _).mono (fun r h => ⟨fun c => (h c).2, sem_eq_zero_of_no_sems (by decide) r.2⟩)
    (Cert.DYnRefIdeal.Value.run (F := Ideal) m g)

theorem algebraic : Cert.algebraic_DYnIdeal_DYnRefIdeal := by
  pair_intro
  · run_from Cert.DYnIdeal.Value.run_blocks m g
  · run_from Cert.DYnRefIdeal.Value.run m' g'
    refine funext fun i => ?_
    rw [Cert.DYnProof.final m c]
    exact ((congrFun (Cert.DYnRefIdeal.Read.val_main_v5_eq _ _) i).trans (congrArg _ (funext fun d => by fin_cases d <;> rfl))).trans (reference_apply _ _ (i 0) (i 1))

end Cert.DYnProof

end
-- ==== Proof.DUProd.lean ====
/-
  The gradient of the mixer's normed input through its input projection.
-/
module

public import proofs.«01_k».proof.Defs
public import proofs.«01_k».proof.Proof.Gen.DU.Frame
public import proofs.«01_k».proof.Proof.Gen.DUIdeal.Value
public import proofs.«01_k».proof.Proof.Gen.DURefIdeal.Run
public import proofs.«01_k».proof.Proof.Gen.DURefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

set_option maxRecDepth 16384

noncomputable section

namespace Cert.DUProof

open Idealize.ShloMosaic Idealize.ShloMosaic.TcCoe Cert.DUIdeal Cert.DUIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x10240.Idx → EReal := m ((c : Thread nD τ).loc main_arg0)
abbrev Y : S10240x1024.Idx → EReal := m ((c : Thread nD τ).loc main_arg1)

theorem index0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index1 : ∀ t : Fin cfg0.N, win0_1.index t (0 : Fin 2) = t.val % 4 ∧ win0_1.index t (1 : Fin 2) = t.val / 4 % 1 :=
  (by decide +kernel : ∀ t : Fin grid0.N, win0_1.index t (0 : Fin 2) = t.val % 4 ∧ win0_1.index t (1 : Fin 2) = t.val / 4 % 1)
theorem index2 : ∀ t : Fin cfg0.N, win0_2.index t (0 : Fin 2) = t.val / 4 ∧ win0_2.index t (1 : Fin 2) = t.val / 4 % 1 :=
  (by decide +kernel : ∀ t : Fin grid0.N, win0_2.index t (0 : Fin 2) = t.val / 4 ∧ win0_2.index t (1 : Fin 2) = t.val / 4 % 1)

theorem points (t : Fin cfg0.N) : t.val < 16 := Nat.lt_of_lt_of_eq t.isLt N_0

theorem hz : (![0, 0] : Fin 2 → Nat) = fun _ => 0 := funext fun a => by fin_cases a <;> rfl

variable (t : Fin cfg0.N)

theorem block0 (a : Fin 1024) (b : Fin 2560) : (iblk m c 0 t : Vec Ideal S1024x2560 .bf16) (ix2 a b) = at2 (X m c) (1024 * (t.val / 4) + a) (2560 * (t.val % 4) + b) :=
  (congrFun (V_main_arg0 m c) (((cfg0.win 0).blk t).view.emb (ix2 a b))).trans (at2_eq _ _ _ _
    (place win0_0 (index0 t).1 (by show (t.val / 4) * 1024 + a.val = _; omega))
    (place win0_0 (index0 t).2 (by show (t.val % 4) * 2560 + b.val = _; omega)))

theorem block1 (a : Fin 2560) (b : Fin 1024) : (iblk m c 1 t : Vec Ideal S2560x1024 .bf16) (ix2 a b) = at2 (Y m c) (2560 * (t.val % 4) + a) (1024 * (t.val / 4 % 1) + b) :=
  (congrFun (V_main_arg1 m c) (((cfg0.win 1).blk t).view.emb (ix2 a b))).trans (at2_eq _ _ _ _
    (place win0_1 (index1 t).1 (by show (t.val % 4) * 2560 + a.val = _; omega))
    (place win0_1 (index1 t).2 (by show (t.val / 4 % 1) * 1024 + b.val = _; omega)))

/-- A tile's product at one element. -/
theorem tile_apply (v0 : Vec Ideal S1024x2560 .bf16) (v1 : Vec Ideal S2560x1024 .bf16) (r : Fin 1024) (l : Fin 1024) :
    (k0_pay1 (F := Ideal) v0 v1 : S1024x1024.Idx → EReal) (ix2 r l) = ∑ x : Fin 2560, v0 (ix2 r x) * v1 (ix2 x l) := by
  pointwise [k0_pay1]

/-- Row `r` of the tile's left factor and column `l` of its right factor, continued over the whole sum. -/
abbrev left (r : ℕ) : ℕ → EReal := fun k => at2 (X m c) (1024 * (t.val / 4) + r) k
abbrev right (l : ℕ) : ℕ → EReal := fun k => at2 (Y m c) k (1024 * (t.val / 4 % 1) + l)

theorem tile_sum (r : Fin 1024) (l : Fin 1024) :
    (k0_pay1 (F := Ideal) (iblk m c 0 t) (iblk m c 1 t) : S1024x1024.Idx → EReal) (ix2 r l)
      = ∑ x : Fin 2560, left m c t r (2560 * (t.val % 4) + x) * right m c t l (2560 * (t.val % 4) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S1024x2560 .bf16) (h3 : a3.IsWhole) (a4 : Memref sig .tc .vmem S2560x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i) (x0 : Vec Ideal S1024x2560 .bf16) (x1 : Vec Ideal S2560x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S1024x2560) hz, View.ld_unit_zero (S := S2560x1024) hz, View.ld_unit_zero (S := S1024x1024) hz]

theorem next_point (c : Dev nD) (i : grid0.Coords) (a3 : Memref sig .tc .vmem S1024x2560 .bf16) (h3 : a3.IsWhole) (a4 : Memref sig .tc .vmem S2560x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (hc2 : ¬cond0_2 i) (x0 : Vec Ideal S1024x2560 .bf16) (x1 : Vec Ideal S2560x1024 .bf16) (xs : Vec Ideal S1024x1024 .f32) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1024x2560) hz, View.ld_unit_zero (S := S2560x1024) hz, View.ld_unit_zero (S := S1024x1024) hz]

theorem last_point (c : Dev nD) (i : grid0.Coords) (a3 : Memref sig .tc .vmem S1024x2560 .bf16) (h3 : a3.IsWhole) (a4 : Memref sig .tc .vmem S2560x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i) (x0 : Vec Ideal S1024x2560 .bf16) (x1 : Vec Ideal S2560x1024 .bf16) (xs : Vec Ideal S1024x1024 .f32) :
    out0_C_2 (F := Ideal) c i a3 h3 a4 h4 a5 h5 a6 h6 hc0 hc1 hc2 x0 x1 xs = k0_pay4 x0 x1 xs := by
  unfold out0_C_2
  rw [View.read_writes_eq_canon _ _ _ (cover0_C_2 (F := Ideal) c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1024x2560) hz, View.ld_unit_zero (S := S2560x1024) hz, View.ld_unit_zero (S := S1024x1024) hz]

theorem first_apply (v0 : Vec Ideal S1024x2560 .bf16) (v1 : Vec Ideal S2560x1024 .bf16) (r : Fin 1024) (l : Fin 1024) :
    (k0_pay2 (F := Ideal) v0 v1 : S1024x1024.Idx → EReal) (ix2 r l) = (k0_pay1 (F := Ideal) v0 v1 : S1024x1024.Idx → EReal) (ix2 r l) := by
  unfold k0_pay2
  generalize k0_pay1 (F := Ideal) v0 v1 = p
  pointwise

theorem next_apply (v0 : Vec Ideal S1024x2560 .bf16) (v1 : Vec Ideal S2560x1024 .bf16) (s : Vec Ideal S1024x1024 .f32) (r : Fin 1024) (l : Fin 1024) :
    (k0_pay3 (F := Ideal) v0 v1 s : S1024x1024.Idx → EReal) (ix2 r l) = s (ix2 r l) + (k0_pay1 (F := Ideal) v0 v1 : S1024x1024.Idx → EReal) (ix2 r l) := by
  unfold k0_pay3
  generalize k0_pay1 (F := Ideal) v0 v1 = p
  pointwise

theorem last_apply (v0 : Vec Ideal S1024x2560 .bf16) (v1 : Vec Ideal S2560x1024 .bf16) (s : Vec Ideal S1024x1024 .f32) (r : Fin 1024) (l : Fin 1024) :
    (k0_pay4 (F := Ideal) v0 v1 s : S1024x1024.Idx → EReal) (ix2 r l) = (s (ix2 r l) + (k0_pay1 (F := Ideal) v0 v1 : S1024x1024.Idx → EReal) (ix2 r l)) := by
  unfold k0_pay4
  generalize k0_pay1 (F := Ideal) v0 v1 = p
  pointwise

/-- The scratch after a point that is not a sum's last holds the sum of the tiles so far. -/
theorem carried (r : Fin 1024) (l : Fin 1024) : ∀ (n : ℕ) (hn : n < cfg0.N), n % 4 < 3 →
    ((outsAt0 m c n hn).2 : S1024x1024.Idx → EReal) (ix2 r l) = dot (left m c ⟨n, hn⟩ r) (right m c ⟨n, hn⟩ l) (2560 * (n % 4 + 1)) := by
  intro n
  induction n using Nat.strong_induction_on with
  | _ n ih =>
    intro hn hlt
    by_cases h0 : n % 4 = 0
    · rw [outsAt0_A m c ⟨n, hn⟩ h0 (by show ¬(1 ≤ n % 4 ∧ _); omega) (by show ¬n % 4 = 3; omega)]
      dsimp only
      rw [first_point, first_apply, tile_sum m c ⟨n, hn⟩ r l]
      exact dot_first _ _ 2560 (n % 4) h0
    · rw [outsAt0_B m c ⟨n, hn⟩ h0 (show 1 ≤ n % 4 ∧ n % 4 ≤ 2 by omega) (show ¬n % 4 = 3 by omega)]
      dsimp only
      rw [next_point, next_apply, tile_sum m c ⟨n, hn⟩ r l, ih (n - 1) (by omega) _ (by omega)]
      have e1 : (n - 1) / 4 = n / 4 := by omega
      have e2 : (n - 1) / 4 = n / 4 := by omega
      have e3 : (n - 1) % 4 + 1 = n % 4 := by omega
      show dot (left m c ⟨n - 1, _⟩ r) (right m c ⟨n - 1, _⟩ l) (2560 * ((n - 1) % 4 + 1)) + _ = _
      rw [e3]
      unfold left right
      dsimp only
      rw [e1]
      exact dot_tile _ _ 2560 (n % 4)

/-- What a sum's last point leaves in the block of the result. -/
theorem result_block (r : Fin 1024) (l : Fin 1024) (hf : t.val % 4 = 3) :
    ((outsAt0 m c t.val t.isLt).1 : S1024x1024.Idx → EReal) (ix2 r l) = dot (left m c t r) (right m c t l) 10240 := by
  rw [outsAt0_C m c t (by omega) (by omega) hf]
  dsimp only
  rw [last_point, last_apply, tile_sum m c t r l, carried m c r l (t.val - 1) _ (by omega)]
  have e1 : (t.val - 1) / 4 = t.val / 4 := by omega
  have e2 : (t.val - 1) / 4 = t.val / 4 := by omega
  have e3 : (t.val - 1) % 4 + 1 = t.val % 4 := by omega
  rw [e3]
  have e := dot_tile (left m c t r) (right m c t l) 2560 (t.val % 4)
  have e4 : 2560 * (t.val % 4 + 1) = 10240 := by omega
  rw [e4] at e
  rw [← e]
  unfold left right
  dsimp only
  rw [e1]

/-- The result at row `r`, column `q`. -/
def value (r q : ℕ) : EReal := dot (fun k => at2 (X m c) r k) (fun k => at2 (Y m c) k q) 10240

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DUIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 4) + r.val := by
      exact place win0_2 (index2 t).1 (by show (t.val / 4) * 1024 + r.val = _; omega)
    have e1 : (((cfg0.win 2).blk t).view.emb (ix2 r l) 1).val = 1024 * (t.val / 4 % 1) + l.val := by
      exact place win0_2 (index2 t).2 (by show (t.val / 4 % 1) * 1024 + l.val = _; omega)
    rw [e0, e1]
    have key := result_block m c t r l hf
    revert key
    generalize (outsAt0 m c t.val t.isLt).1 = B
    intro key
    exact key
  · intro i
    have h0 : (i 0).val < 4096 := (i 0).isLt
    have h1 : (i 1).val < 1024 := (i 1).isLt
    have hb : 4 * ((i 0).val / 1024) + 4 * ((i 1).val / 1024) + 3 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x10240 .bf16) (x1 : Vec Ideal S10240x1024 .bf16) (r : Fin 4096) (q : Fin 1024) :
    (Cert.DURefIdeal.Read.val_main_v5 (F := Ideal) x0 x1 : S4096x1024.Idx → EReal) (ix2 r q) = dot (fun k => at2 x0 r k) (fun k => at2 x1 k q) 10240 := by
  have e : (Cert.DURefIdeal.Read.val_main_v5 (F := Ideal) x0 x1 : S4096x1024.Idx → EReal) (ix2 r q) = ∑ x : Fin 10240, x0 (ix2 r x) * x1 (ix2 x q) := by
    pointwise [Cert.DURefIdeal.Read.val_main_cst, Cert.DURefIdeal.Read.val_main_v0, Cert.DURefIdeal.Read.val_main_v1, Cert.DURefIdeal.Read.val_main_v2, Cert.DURefIdeal.Read.val_main_v3, Cert.DURefIdeal.Read.val_main_v4, Cert.DURefIdeal.Read.val_main_v5]
  rw [e]
  refine Eq.trans (Finset.sum_congr rfl fun x _ => ?_) (dot_fin (fun k => at2 x0 r k) (fun k => at2 x1 k q) 10240)
  rw [at2_ix2 x0, at2_ix2 x1]

theorem frame_kernel : Cert.quiescent_DU := fun m g _ => Cert.DU.Gen.frame m g

theorem frame_ideal : Cert.quiescent_DUIdeal := fun m g _ => Cert.DUIdeal.Gen.frame m g

theorem frame_reference : Cert.quiescent_DURefIdeal := fun m g _ =>
  (θ_run Cert.DURefIdeal.defs _ _).mono (fun r h => ⟨fun c => (h c).2, sem_eq_zero_of_no_sems (by decide) r.2⟩)
    (Cert.DURefIdeal.Value.run (F := Ideal) m g)

theorem algebraic : Cert.algebraic_DUIdeal_DURefIdeal := by
  pair_intro
  · run_from Cert.DUIdeal.Value.run_blocks m g
  · run_from Cert.DURefIdeal.Value.run m' g'
    refine funext fun i => ?_
    rw [Cert.DUProof.final m c]
    exact ((congrFun (Cert.DURefIdeal.Read.val_main_v5_eq _ _) i).trans (congrArg _ (funext fun d => by fin_cases d <;> rfl))).trans (reference_apply _ _ (i 0) (i 1))

end Cert.DUProof

end
-- ==== Proof.DWinProd.lean ====
/-
  The gradient of the weight of the mixer's input projection.
-/
module

public import proofs.«01_k».proof.Defs
public import proofs.«01_k».proof.Proof.Gen.DWin.Frame
public import proofs.«01_k».proof.Proof.Gen.DWinIdeal.Value
public import proofs.«01_k».proof.Proof.Gen.DWinRefIdeal.Run
public import proofs.«01_k».proof.Proof.Gen.DWinRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DWinProof

open Idealize.ShloMosaic Idealize.ShloMosaic.TcCoe Cert.DWinIdeal Cert.DWinIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x10240.Idx → EReal := m ((c : Thread nD τ).loc main_arg0)
abbrev Y : S4096x1024.Idx → EReal := m ((c : Thread nD τ).loc main_arg1)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = t.val / 2 % 1 :=
  (by decide +kernel : ∀ t : Fin grid0.N, win0_1.index t (0 : Fin 2) = t.val % 2 ∧ win0_1.index t (1 : Fin 2) = t.val / 2 % 1)
theorem index2 : ∀ t : Fin cfg0.N, win0_2.index t (0 : Fin 2) = t.val / 2 ∧ win0_2.index t (1 : Fin 2) = t.val / 2 % 1 :=
  (by decide +kernel : ∀ t : Fin grid0.N, win0_2.index t (0 : Fin 2) = t.val / 2 ∧ win0_2.index t (1 : Fin 2) = t.val / 2 % 1)

theorem points (t : Fin cfg0.N) : t.val < 20 := Nat.lt_of_lt_of_eq t.isLt N_0

theorem hz : (![0, 0] : Fin 2 → Nat) = fun _ => 0 := funext fun a => by fin_cases a <;> rfl

variable (t : Fin cfg0.N)

theorem block0 (a : Fin 2048) (b : Fin 1024) : (iblk m c 0 t : Vec Ideal S2048x1024 .bf16) (ix2 a b) = at2 (X m c) (2048 * (t.val % 2) + a) (1024 * (t.val / 2) + b) :=
  (congrFun (V_main_arg0 m c) (((cfg0.win 0).blk t).view.emb (ix2 a b))).trans (at2_eq _ _ _ _
    (place win0_0 (index0 t).1 (by show (t.val % 2) * 2048 + a.val = _; omega))
    (place win0_0 (index0 t).2 (by show (t.val / 2) * 1024 + b.val = _; omega)))

theorem block1 (a : Fin 2048) (b : Fin 1024) : (iblk m c 1 t : Vec Ideal S2048x1024 .bf16) (ix2 a b) = at2 (Y m c) (2048 * (t.val % 2) + a) (1024 * (t.val / 2 % 1) + b) :=
  (congrFun (V_main_arg1 m c) (((cfg0.win 1).blk t).view.emb (ix2 a b))).trans (at2_eq _ _ _ _
    (place win0_1 (index1 t).1 (by show (t.val % 2) * 2048 + a.val = _; omega))
    (place win0_1 (index1 t).2 (by show (t.val / 2 % 1) * 1024 + b.val = _; omega)))

/-- A tile's product at one element. -/
theorem tile_apply (v0 : Vec Ideal S2048x1024 .bf16) (v1 : Vec Ideal S2048x1024 .bf16) (r : Fin 1024) (l : Fin 1024) :
    (k0_pay1 (F := Ideal) v0 v1 : S1024x1024.Idx → EReal) (ix2 r l) = ∑ x : Fin 2048, v0 (ix2 x r) * v1 (ix2 x l) := by
  pointwise [k0_pay1]

/-- Row `r` of the tile's left factor and column `l` of its right factor, continued over the whole sum. -/
abbrev left (r : ℕ) : ℕ → EReal := fun k => at2 (X m c) k (1024 * (t.val / 2) + r)
abbrev right (l : ℕ) : ℕ → EReal := fun k => at2 (Y m c) k (1024 * (t.val / 2 % 1) + l)

theorem tile_sum (r : Fin 1024) (l : Fin 1024) :
    (k0_pay1 (F := Ideal) (iblk m c 0 t) (iblk m c 1 t) : S1024x1024.Idx → EReal) (ix2 r l)
      = ∑ x : Fin 2048, left m c t r (2048 * (t.val % 2) + x) * right m c t l (2048 * (t.val % 2) + x) := by
  rw [tile_apply]
  refine Finset.sum_congr rfl fun x _ => ?_
  rw [block0 m c t, block1 m c t]
/-! ## What each kind of grid point leaves: the first tile of a sum, a tile added to the sum so far, and the last tile's block of the result -/

theorem first_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem last_point (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i) (x0 : Vec Ideal S2048x1024 .bf16) (x1 : Vec Ideal S2048x1024 .bf16) (xs : Vec Ideal S1024x1024 .f32) :
    out0_B_2 (F := Ideal) c i a3 h3 a4 h4 a5 h5 a6 h6 hc0 hc1 hc2 x0 x1 xs = k0_pay4 x0 x1 xs := by
  unfold out0_B_2
  rw [View.read_writes_eq_canon _ _ _ (cover0_B_2 (F := Ideal) c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem first_apply (v0 : Vec Ideal S2048x1024 .bf16) (v1 : Vec Ideal S2048x1024 .bf16) (r : Fin 1024) (l : Fin 1024) :
    (k0_pay2 (F := Ideal) v0 v1 : S1024x1024.Idx → EReal) (ix2 r l) = (k0_pay1 (F := Ideal) v0 v1 : S1024x1024.Idx → EReal) (ix2 r l) := by
  unfold k0_pay2
  generalize k0_pay1 (F := Ideal) v0 v1 = p
  pointwise

theorem last_apply (v0 : Vec Ideal S2048x1024 .bf16) (v1 : Vec Ideal S2048x1024 .bf16) (s : Vec Ideal S1024x1024 .f32) (r : Fin 1024) (l : Fin 1024) :
    (k0_pay4 (F := Ideal) v0 v1 s : S1024x1024.Idx → EReal) (ix2 r l) = (s (ix2 r l) + (k0_pay1 (F := Ideal) v0 v1 : S1024x1024.Idx → EReal) (ix2 r l)) := by
  unfold k0_pay4
  generalize k0_pay1 (F := Ideal) v0 v1 = p
  pointwise

/-- The scratch after a point that is not a sum's last holds the sum of the tiles so far. -/
theorem carried (r : Fin 1024) (l : Fin 1024) : ∀ (n : ℕ) (hn : n < cfg0.N), n % 2 < 1 →
    ((outsAt0 m c n hn).2 : S1024x1024.Idx → EReal) (ix2 r l) = dot (left m c ⟨n, hn⟩ r) (right m c ⟨n, hn⟩ l) (2048 * (n % 2 + 1)) := by
  intro n
  induction n using Nat.strong_induction_on with
  | _ n ih =>
    intro hn hlt
    by_cases h0 : n % 2 = 0
    · rw [outsAt0_A m c ⟨n, hn⟩ h0 (by show ¬n % 2 = 1; omega)]
      dsimp only
      rw [first_point, first_apply, tile_sum m c ⟨n, hn⟩ r l]
      exact dot_first _ _ 2048 (n % 2) h0
    · omega

/-- What a sum's last point leaves in the block of the result. -/
theorem result_block (r : Fin 1024) (l : Fin 1024) (hf : t.val % 2 = 1) :
    ((outsAt0 m c t.val t.isLt).1 : S1024x1024.Idx → EReal) (ix2 r l) = dot (left m c t r) (right m c t l) 4096 := by
  rw [outsAt0_B m c t (by omega) hf]
  dsimp only
  rw [last_point, last_apply, tile_sum m c t r l, carried m c r l (t.val - 1) _ (by omega)]
  have e1 : (t.val - 1) / 2 = t.val / 2 := by omega
  have e2 : (t.val - 1) / 2 = t.val / 2 := by omega
  have e3 : (t.val - 1) % 2 + 1 = t.val % 2 := by omega
  rw [e3]
  have e := dot_tile (left m c t r) (right m c t l) 2048 (t.val % 2)
  have e4 : 2048 * (t.val % 2 + 1) = 4096 := by omega
  rw [e4] at e
  rw [← e]
  unfold left right
  dsimp only
  rw [e1]

/-- The result at row `r`, column `q`. -/
def value (r q : ℕ) : EReal := dot (fun k => at2 (X m c) k r) (fun k => at2 (Y m c) k q) 4096

/-- The result array after the run. -/
theorem final (i : S10240x1024.Idx) : ((dats m 0 c).arrAt 2 cfg0.N : S10240x1024.Idx → EReal) i = value m c (i 0).val (i 1).val := by
  refine Dat.arrAt_forall_of_cover (dat := dats m 0 c) 2 (fun i x => x = value m c (i 0).val (i 1).val) ?_ ?_ i
  · intro t hft y
    have hf := (flush0_2 t).mp hft
    rw [Cert.DWinIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 2) + r.val := by
      exact place win0_2 (index2 t).1 (by show (t.val / 2) * 1024 + r.val = _; omega)
    have e1 : (((cfg0.win 2).blk t).view.emb (ix2 r l) 1).val = 1024 * (t.val / 2 % 1) + l.val := by
      exact place win0_2 (index2 t).2 (by show (t.val / 2 % 1) * 1024 + l.val = _; omega)
    rw [e0, e1]
    have key := result_block m c t r l hf
    revert key
    generalize (outsAt0 m c t.val t.isLt).1 = B
    intro key
    exact key
  · intro i
    have h0 : (i 0).val < 10240 := (i 0).isLt
    have h1 : (i 1).val < 1024 := (i 1).isLt
    have hb : 2 * ((i 0).val / 1024) + 2 * ((i 1).val / 1024) + 1 < cfg0.N := Nat.lt_of_lt_of_eq (by omega) N_0.symm
    refine ⟨⟨_, hb⟩, (flush0_2 _).mpr (by dsimp only; omega), ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x10240 .bf16) (x1 : Vec Ideal S4096x1024 .bf16) (r : Fin 10240) (q : Fin 1024) :
    (Cert.DWinRefIdeal.Read.val_main_v8 (F := Ideal) x0 x1 : S10240x1024.Idx → EReal) (ix2 r q) = dot (fun k => at2 x0 k r) (fun k => at2 x1 k q) 4096 := by
  have e : (Cert.DWinRefIdeal.Read.val_main_v8 (F := Ideal) x0 x1 : S10240x1024.Idx → EReal) (ix2 r q) = ∑ x : Fin 4096, x0 (ix2 x r) * x1 (ix2 x q) := by
    pointwise [Cert.DWinRefIdeal.Read.val_main_cst, Cert.DWinRefIdeal.Read.val_main_v0, Cert.DWinRefIdeal.Read.val_main_v1, Cert.DWinRefIdeal.Read.val_main_v2, Cert.DWinRefIdeal.Read.val_main_v3, Cert.DWinRefIdeal.Read.val_main_v4, Cert.DWinRefIdeal.Read.val_main_v5, Cert.DWinRefIdeal.Read.val_main_v6, Cert.DWinRefIdeal.Read.val_main_v7, Cert.DWinRefIdeal.Read.val_main_v8]
  rw [e]
  refine Eq.trans (Finset.sum_congr rfl fun x _ => ?_) (dot_fin (fun k => at2 x0 k r) (fun k => at2 x1 k q) 4096)
  rw [at2_ix2 x0, at2_ix2 x1]

theorem frame_kernel : Cert.quiescent_DWin := fun m g _ => Cert.DWin.Gen.frame m g

theorem frame_ideal : Cert.quiescent_DWinIdeal := fun m g _ => Cert.DWinIdeal.Gen.frame m g

theorem frame_reference : Cert.quiescent_DWinRefIdeal := fun m g _ =>
  (θ_run Cert.DWinRefIdeal.defs _ _).mono (fun r h => ⟨fun c => (h c).2, sem_eq_zero_of_no_sems (by decide) r.2⟩)
    (Cert.DWinRefIdeal.Value.run (F := Ideal) m g)

theorem algebraic : Cert.algebraic_DWinIdeal_DWinRefIdeal := by
  pair_intro
  · run_from Cert.DWinIdeal.Value.run_blocks m g
  · run_from Cert.DWinRefIdeal.Value.run m' g'
    refine funext fun i => ?_
    rw [Cert.DWinProof.final m c]
    exact ((congrFun (Cert.DWinRefIdeal.Read.val_main_v8_eq _ _) i).trans (congrArg _ (funext fun d => by fin_cases d <;> rfl))).trans (reference_apply _ _ (i 0) (i 1))

end Cert.DWinProof

end
-- ==== Proof.DUDtNorm.lean ====
/-
  The step sizes' projection backwards and the mixer norm's gradient.
-/
module

public import proofs.«01_k».proof.Defs
public import proofs.«01_k».proof.Proof.Gen.DUDt.Frame
public import proofs.«01_k».proof.Proof.Gen.DUDtIdeal.Value
public import proofs.«01_k».proof.Proof.Gen.DUDtRefIdeal.Run
public import proofs.«01_k».proof.Proof.Gen.DUDtRefIdeal.Read
public import proofs.«01_k».proof.Proof.Norm
public import proofs.«01_k».proof.Proof.Place
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic
public import Idealize.ShloMosaic.Lib.Claim

@[expose] public section

noncomputable section

namespace Cert.DUDtProof

open Idealize.ShloMosaic Idealize.ShloMosaic.TcCoe Cert.DUDtIdeal Cert.DUDtIdeal.Gen Cert.At Cert.Dot Idealize.SL.Sem
open Idealize.ShloMosaic.Pipeline (Dat)
open scoped BigOperators
open Cert.Norm

/-- The gradient reaching the norm's output, what the other branch handed back plus the product, at row `r` and column `q`. -/
def reach (a : S4096x32.Idx → EReal) (b : S32x1024.Idx → EReal) (d : S4096x1024.Idx → EReal) (r q : ℕ) : EReal :=
  at2 d r q + dot (fun k => at2 a r k) (fun k => at2 b k q) 32

/-- The normed row's element. -/
abbrev rowScale (h : S4096x1024.Idx → EReal) (r : ℕ) : EReal := scale count (fun k => at2 h r k) 1024
abbrev normed (h : S4096x1024.Idx → EReal) (r q : ℕ) : EReal := at2 h r q * rowScale h r

/-- The gradient of the norm's input, the residual's gradient included. -/
def toInput (a : S4096x32.Idx → EReal) (b : S32x1024.Idx → EReal) (d : S4096x1024.Idx → EReal) (h : S4096x1024.Idx → EReal) (g : S4x1024.Idx → EReal) (e : S4096x1024.Idx → EReal) (r q : ℕ) : EReal :=
  at2 e r q + rowScale h r * (reach a b d r q * at2 g 0 q
    - normed h r q * Ideal.div (dot (fun k => reach a b d r k * at2 g 0 k) (fun k => normed h r k) 1024) count)

/-- The gradient of the norm's gain, over the first `n` rows. -/
def toGain (a : S4096x32.Idx → EReal) (b : S32x1024.Idx → EReal) (d : S4096x1024.Idx → EReal) (h : S4096x1024.Idx → EReal) (q n : ℕ) : EReal :=
  dot (fun k => reach a b d k q) (fun k => normed h k q) n

section
variable (m : (ℓ : Loc nD τ sig) → Buf (Elt Ideal) ℓ) (c : Dev nD)

/-- The arguments, as launched. -/
abbrev A : S4096x32.Idx → EReal := m ((c : Thread nD τ).loc main_arg0)
abbrev B : S32x1024.Idx → EReal := m ((c : Thread nD τ).loc main_arg1)
abbrev C : S4096x1024.Idx → EReal := m ((c : Thread nD τ).loc main_arg2)
abbrev H : S4096x1024.Idx → EReal := m ((c : Thread nD τ).loc main_arg3)
abbrev G : S4x1024.Idx → EReal := m ((c : Thread nD τ).loc main_arg4)
abbrev E : S4096x1024.Idx → EReal := m ((c : Thread nD τ).loc main_arg5)
theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem index3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem index5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem index6 : ∀ t : Fin cfg0.N, win0_6.index t (0 : Fin 2) = t.val % 8 ∧ win0_6.index t (1 : Fin 2) = 0 :=
  (by decide +kernel : ∀ t : Fin grid0.N, win0_6.index t (0 : Fin 2) = t.val % 8 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)

theorem points (t : Fin cfg0.N) : t.val < 8 := Nat.lt_of_lt_of_eq t.isLt N_0

variable (t : Fin cfg0.N)

theorem block0 (a : Fin 512) (b : Fin 32) : (iblk m c 0 t : Vec Ideal S512x32 .f32) (ix2 a b) = at2 (A m c) (512 * (t.val % 8) + a) (32 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 32 + b.val = _; omega)))

theorem block1 (a : Fin 32) (b : Fin 1024) : (iblk m c 1 t : Vec Ideal S32x1024 .bf16) (ix2 a b) = at2 (B m c) (32 * (0) + a) (1024 * (0) + b) :=
  (congrFun (V_main_arg1 m c) (((cfg0.win 1).blk t).view.emb (ix2 a b))).trans (at2_eq _ _ _ _
    (place win0_1 (index1 t).1 (by show (0) * 32 + a.val = _; omega))
    (place win0_1 (index1 t).2 (by show (0) * 1024 + b.val = _; omega)))

theorem block2 (a : Fin 512) (b : Fin 1024) : (iblk m c 2 t : Vec Ideal S512x1024 .f32) (ix2 a b) = at2 (C m c) (512 * (t.val % 8) + a) (1024 * (0) + b) :=
  (congrFun (V_main_arg2 m c) (((cfg0.win 2).blk t).view.emb (ix2 a b))).trans (at2_eq _ _ _ _
    (place win0_2 (index2 t).1 (by show (t.val % 8) * 512 + a.val = _; omega))
    (place win0_2 (index2 t).2 (by show (0) * 1024 + b.val = _; omega)))

theorem block3 (a : Fin 512) (b : Fin 1024) : (iblk m c 3 t : Vec Ideal S512x1024 .f32) (ix2 a b) = at2 (H m c) (512 * (t.val % 8) + a) (1024 * (0) + b) :=
  (congrFun (V_main_arg3 m c) (((cfg0.win 3).blk t).view.emb (ix2 a b))).trans (at2_eq _ _ _ _
    (place win0_3 (index3 t).1 (by show (t.val % 8) * 512 + a.val = _; omega))
    (place win0_3 (index3 t).2 (by show (0) * 1024 + b.val = _; omega)))

theorem block5 (a : Fin 512) (b : Fin 1024) : (iblk m c 5 t : Vec Ideal S512x1024 .f32) (ix2 a b) = at2 (E m c) (512 * (t.val % 8) + a) (1024 * (0) + b) :=
  (congrFun (V_main_arg5 m c) (((cfg0.win 5).blk t).view.emb (ix2 a b))).trans (at2_eq _ _ _ _
    (place win0_5 (index5 t).1 (by show (t.val % 8) * 512 + a.val = _; omega))
    (place win0_5 (index5 t).2 (by show (0) * 1024 + b.val = _; omega)))

/-- The gains as the grid finds them. -/
theorem V_gains : V m c main_v0 = shapeCast S4x1x1024 (G m c : Vec Ideal S4x1024 .f32) shapeCasts_S4x1024_S4x1x1024 := by
  unfold V hostOps0
  after_results
  rfl

theorem block4 (l : Fin 1024) : (iblk m c 4 t : Vec Ideal S1x1x1024 .f32) (ix3 0 0 l) = at2 (G m c) 0 l := by
  unfold iblk
  rw [View.read_apply]
  show V m c main_v0 (((cfg0.win 4).blk t).view.emb (ix3 0 0 l)) = _
  have h1 : (((cfg0.win 4).blk t).view.emb (ix3 (0 : Fin 1) (0 : Fin 1) l)) = ix3 (n0 := 4) (n1 := 1) (n2 := 1024) 0 0 l := by
    funext d
    refine Fin.ext ?_
    refine (Pipeline.Window.rect_emb_val win0_4 t (ix3 (0 : Fin 1) (0 : Fin 1) l) d).trans ?_
    obtain ⟨h0, h1, h2⟩ := index4 t
    fin_cases d
    · show win0_4.index t (0 : Fin 3) * 1 + 0 = 0
      rw [h0]
    · show win0_4.index t (1 : Fin 3) * 1 + 0 = 0
      rw [h1]
    · show win0_4.index t (2 : Fin 3) * 1024 + l.val = l.val
      rw [h2]; omega
  rw [h1, V_gains]
  have e : (shapeCast S4x1x1024 (G m c : Vec Ideal S4x1024 .f32) shapeCasts_S4x1024_S4x1x1024 : S4x1x1024.Idx → EReal) (ix3 0 0 l) = G m c (ix2 0 l) := by
    pointwise
  rw [e]
  exact at2_eq _ _ _ _ rfl rfl

/-! ## The computations of one grid point -/

theorem zero_apply (l : Fin 1024) : (k0_pay1 (F := Ideal) : S1x1024.Idx → EReal) (ix2 0 l) = 0 := by
  rw [← Ideal.ofBits_zero_f32]
  pointwise [k0_pay1]

theorem gain_apply (u v : FVec Ideal S512x1024 .f32) (w : Vec Ideal S1x1024 .f32) (l : Fin 1024) :
    (k0_pay2 (F := Ideal) u v w : S1x1024.Idx → EReal) (ix2 0 l) = w (ix2 0 l) + ∑ x : Fin 512, u (ix2 x l) * v (ix2 x l) := by
  pointwise [k0_pay2]

theorem reach_apply (a : Vec Ideal S512x32 .f32) (b : Vec Ideal S32x1024 .bf16) (d : Vec Ideal S512x1024 .f32) (r : Fin 512) (l : Fin 1024) :
    (k0_pay3 (F := Ideal) a b d : S512x1024.Idx → EReal) (ix2 r l) = d (ix2 r l) + ∑ x : Fin 32, a (ix2 r x) * b (ix2 x l) := by
  pointwise [k0_pay3]

theorem scale_apply (h : Vec Ideal S512x1024 .f32) (r : Fin 512) :
    (k0_pay4 (F := Ideal) h : S512x1.Idx → EReal) (ix2 r 0) = Ideal.rsqrt (Ideal.div (∑ x : Fin 1024, h (ix2 r x) * h (ix2 r x)) count + small) := by
  pointwise [k0_pay4]

theorem normed_apply (h : Vec Ideal S512x1024 .f32) (r : Fin 512) (l : Fin 1024) :
    (k0_pay5 (F := Ideal) h : S512x1024.Idx → EReal) (ix2 r l) = h (ix2 r l) * (k0_pay4 (F := Ideal) h : S512x1.Idx → EReal) (ix2 r 0) := by
  unfold k0_pay5
  generalize k0_pay4 (F := Ideal) h = p
  pointwise

theorem input_apply (a : Vec Ideal S512x32 .f32) (b : Vec Ideal S32x1024 .bf16) (d : Vec Ideal S512x1024 .f32) (h : Vec Ideal S512x1024 .f32) (g : Vec Ideal S1x1x1024 .f32) (e : Vec Ideal S512x1024 .f32) (r : Fin 512) (l : Fin 1024) :
    (k0_pay6 (F := Ideal) a b d h g e : S512x1024.Idx → EReal) (ix2 r l)
      = e (ix2 r l) + (k0_pay4 (F := Ideal) h : S512x1.Idx → EReal) (ix2 r 0)
        * ((k0_pay3 (F := Ideal) a b d : S512x1024.Idx → EReal) (ix2 r l) * g (ix3 0 0 l)
          - (k0_pay5 (F := Ideal) h : S512x1024.Idx → EReal) (ix2 r l)
            * Ideal.div (∑ x : Fin 1024, (k0_pay3 (F := Ideal) a b d : S512x1024.Idx → EReal) (ix2 r x) * g (ix3 0 0 x) * (k0_pay5 (F := Ideal) h : S512x1024.Idx → EReal) (ix2 r x)) count) := by
  unfold k0_pay6
  generalize k0_pay3 (F := Ideal) a b d = p
  generalize k0_pay4 (F := Ideal) h = q
  generalize k0_pay5 (F := Ideal) h = z
  pointwise

theorem reach_block (r : Fin 512) (l : Fin 1024) :
    (k0_pay3 (F := Ideal) (iblk m c 0 t) (iblk m c 1 t) (iblk m c 2 t) : S512x1024.Idx → EReal) (ix2 r l) = reach (A m c) (B m c) (C m c) (512 * (t.val % 8) + r) l := by
  unfold reach
  rw [reach_apply, ← dot_fin, block2 m c t]
  refine congrArg₂ _ (congrArg (at2 (C m c) _) (by omega)) (Finset.sum_congr rfl fun x _ => ?_)
  rw [block0 m c t, block1 m c t]
  simp only [Nat.mul_zero, Nat.zero_add]

theorem scale_block (r : Fin 512) :
    (k0_pay4 (F := Ideal) (iblk m c 3 t) : S512x1.Idx → EReal) (ix2 r 0) = rowScale (H m c) (512 * (t.val % 8) + r) := by
  unfold rowScale scale power
  rw [scale_apply, ← dot_fin]
  refine congrArg (fun z => Ideal.rsqrt (Ideal.div z count + small)) (Finset.sum_congr rfl fun x _ => ?_)
  rw [block3 m c t]
  simp only [Nat.mul_zero, Nat.zero_add]

theorem normed_block (r : Fin 512) (l : Fin 1024) :
    (k0_pay5 (F := Ideal) (iblk m c 3 t) : S512x1024.Idx → EReal) (ix2 r l) = normed (H m c) (512 * (t.val % 8) + r) l := by
  rw [normed_apply, scale_block m c t, block3 m c t]
  simp only [Nat.mul_zero, Nat.zero_add]

theorem input_block (r : Fin 512) (l : Fin 1024) :
    (k0_pay6 (F := Ideal) (iblk m c 0 t) (iblk m c 1 t) (iblk m c 2 t) (iblk m c 3 t) (iblk m c 4 t) (iblk m c 5 t) : S512x1024.Idx → EReal) (ix2 r l)
      = toInput (A m c) (B m c) (C m c) (H m c) (G m c) (E m c) (512 * (t.val % 8) + r) l := by
  have hs : ∑ x : Fin 1024, (k0_pay3 (F := Ideal) (iblk m c 0 t) (iblk m c 1 t) (iblk m c 2 t) : S512x1024.Idx → EReal) (ix2 r x) * (iblk m c 4 t : Vec Ideal S1x1x1024 .f32) (ix3 0 0 x) * (k0_pay5 (F := Ideal) (iblk m c 3 t) : S512x1024.Idx → EReal) (ix2 r x)
      = dot (fun k => reach (A m c) (B m c) (C m c) (512 * (t.val % 8) + r) k * at2 (G m c) 0 k) (fun k => normed (H m c) (512 * (t.val % 8) + r) k) 1024 := by
    rw [← dot_fin]
    refine Finset.sum_congr rfl fun x _ => ?_
    rw [reach_block m c t, normed_block m c t, block4 m c t]
  unfold toInput
  rw [input_apply, hs, scale_block m c t, reach_block m c t, normed_block m c t, block4 m c t, block5 m c t]
  simp only [Nat.mul_zero, Nat.zero_add]

theorem gain_block (w : Vec Ideal S1x1024 .f32) (l : Fin 1024) (b : ℕ) (hb : t.val % 8 = b) (hw : w (ix2 0 l) = toGain (A m c) (B m c) (C m c) (H m c) l (512 * b)) :
    (k0_pay2 (F := Ideal) (k0_pay3 (F := Ideal) (iblk m c 0 t) (iblk m c 1 t) (iblk m c 2 t)) (k0_pay5 (F := Ideal) (iblk m c 3 t)) w : S1x1024.Idx → EReal) (ix2 0 l)
      = toGain (A m c) (B m c) (C m c) (H m c) l (512 * (b + 1)) := by
  rw [gain_apply, hw]
  unfold toGain
  rw [← dot_tile]
  refine congrArg _ (Finset.sum_congr rfl fun x _ => ?_)
  rw [reach_block m c t, normed_block m c t, hb]

end

/-! ## What one grid point leaves in the two output blocks -/

section
variable (m : (ℓ : Loc nD τ sig) → Buf (Elt Ideal) ℓ) (c : Dev nD)

/-- The input's gradient after the point that computes its rows. -/
theorem left6 (t : Fin cfg0.N) (r : Fin 512) (l : Fin 1024) : (outsAt0 m c t.val t.isLt).1 (ix2 r l)
    = toInput (A m c) (B m c) (C m c) (H m c) (G m c) (E m c) (512 * (t.val % 8) + r) l := by
  by_cases h0 : t.val % 8 = 0
  · rw [outsAt0_A m c t h0]
    frame_out
    exact input_block m c t r l
  · rw [outsAt0_B m c t h0]
    frame_out
    exact input_block m c t r l

/-- The gain's gradient after a point: the sums over all rows up to and including the point's block. -/
theorem left7 (l : Fin 1024) : ∀ (k : ℕ) (hk : k < cfg0.N), (outsAt0 m c k hk).2 (ix2 0 l) = toGain (A m c) (B m c) (C m c) (H m c) l (512 * (k % 8 + 1)) := by
  intro k
  induction k with
  | zero =>
    intro hk
    rw [outsAt0_A m c ⟨0, hk⟩ rfl]
    frame_out
    exact gain_block m c ⟨0, hk⟩ _ l 0 rfl ((zero_apply l).trans (by unfold toGain dot; simp))
  | succ k ih =>
    intro hk
    have h8 : k + 1 < 8 := points ⟨k + 1, hk⟩
    rw [outsAt0_B m c ⟨k + 1, hk⟩ (by show ¬(k + 1) % 8 = 0; omega)]
    frame_out
    refine gain_block m c ⟨k + 1, hk⟩ _ l _ rfl ((ih (Nat.lt_of_succ_lt hk)).trans ?_)
    show toGain (A m c) (B m c) (C m c) (H m c) l (512 * (k % 8 + 1)) = toGain (A m c) (B m c) (C m c) (H m c) l (512 * ((k + 1) % 8))
    congr 2
    omega

theorem final6 (i : S4096x1024.Idx) : ((dats m 0 c).arrAt 6 cfg0.N : S4096x1024.Idx → EReal) i = toInput (A m c) (B m c) (C m c) (H m c) (G m c) (E m c) (i 0).val (i 1).val := by
  refine Dat.arrAt_forall_of_cover (dat := dats m 0 c) 6 (fun i x => x = toInput (A m c) (B m c) (C m c) (H m c) (G m c) (E m c) (i 0).val (i 1).val) ?_ ?_ i
  · intro t hft y
    rw [Cert.DUDtIdeal.Value.flushed6]
    obtain ⟨r, l, rfl⟩ : ∃ (r : Fin 512) (l : Fin 1024), y = ix2 r l := ⟨y 0, y 1, funext fun d => by fin_cases d <;> rfl⟩
    have e0 : (((cfg0.win 6).blk t).view.emb (ix2 r l) 0).val = 512 * (t.val % 8) + r.val := by
      exact place win0_6 (index6 t).1 (by show (t.val % 8) * 512 + r.val = _; omega)
    have e1 : (((cfg0.win 6).blk t).view.emb (ix2 r l) 1).val = 1024 * (0) + l.val := by
      exact place win0_6 (index6 t).2 (by show (0) * 1024 + l.val = _; omega)
    rw [e0, e1]
    show (outsAt0 m c t.val t.isLt).1 (ix2 r l) = _
    refine (left6 m c t r l).trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_6 _, ?_⟩
    show i ∈ ((View.whole main_v1_0).slice (win0_6.rect ⟨_, hb⟩)).set
    rw [View.set_slice_whole, Rect.mem_set_unit]
    have hi := index6 ⟨_, hb⟩
    dsimp only at hi
    intro d
    fin_cases d
    · exact between (b := 512) (n := (i 0).val) hi.1 (by omega)
    · exact between (b := 1024) (n := (i 1).val) hi.2 (by omega)

theorem final7 (i : S1x1024.Idx) : ((dats m 0 c).arrAt 7 cfg0.N : S1x1024.Idx → EReal) i = toGain (A m c) (B m c) (C m c) (H m c) (i 1).val 4096 := by
  refine Dat.arrAt_forall_of_cover (dat := dats m 0 c) 7 (fun i x => x = toGain (A m c) (B m c) (C m c) (H m c) (i 1).val 4096) ?_ ?_ i
  · intro t hft y
    rw [Cert.DUDtIdeal.Value.flushed7]
    obtain ⟨r, l, rfl⟩ : ∃ (r : Fin 1) (l : Fin 1024), y = ix2 r l := ⟨y 0, y 1, funext fun d => by fin_cases d <;> rfl⟩
    have e1 : (((cfg0.win 7).blk t).view.emb (ix2 r l) 1).val = 1024 * (0) + l.val := by
      exact place win0_7 (index7 t).2 (by show (0) * 1024 + l.val = _; omega)
    rw [e1]
    obtain rfl : r = 0 := Fin.ext (by omega)
    show (outsAt0 m c t.val t.isLt).2 (ix2 0 l) = _
    have h7 := (flush0_7 t).mp hft
    refine (left7 m c l t.val t.isLt).trans ?_
    rw [h7]
    simp only [Nat.mul_zero, Nat.zero_add]
  · intro i
    have h0 : (i 0).val < 1 := (i 0).isLt
    have h1 : (i 1).val < 1024 := (i 1).isLt
    have hb : 7 < cfg0.N := Nat.lt_of_lt_of_eq (by omega) N_0.symm
    refine ⟨⟨_, hb⟩, (flush0_7 _).mpr rfl, ?_⟩
    show i ∈ ((View.whole main_v1_1).slice (win0_7.rect ⟨_, hb⟩)).set
    rw [View.set_slice_whole, Rect.mem_set_unit]
    have hi := index7 ⟨_, hb⟩
    intro d
    fin_cases d
    · exact between (b := 1) (n := (i 0).val) hi.1 (by omega)
    · exact between (b := 1024) (n := (i 1).val) hi.2 (by omega)

end

/-! ## The reference, and the claims -/

open Cert.DUDtRefIdeal.Read

theorem reference_reach (x0 : Vec Ideal S4096x32 .f32) (x1 : Vec Ideal S32x1024 .bf16) (x2 : Vec Ideal S4096x1024 .f32) (r : Fin 4096) (q : Fin 1024) : (val_main_v22 (F := Ideal) x0 x1 x2 : S4096x1024.Idx → EReal) (ix2 r q) = reach x0 x1 x2 r q := by
  have e : (val_main_v22 (F := Ideal) x0 x1 x2 : S4096x1024.Idx → EReal) (ix2 r q) = x2 (ix2 r q) + ∑ x : Fin 32, x0 (ix2 r x) * x1 (ix2 x q) := by
    pointwise [val_main_v22, val_main_v21, val_main_v19, val_main_v18]
  unfold reach
  rw [e, ← dot_fin, at2_ix2 x2]
  refine congrArg _ (Finset.sum_congr rfl fun x _ => ?_)
  rw [at2_ix2 x0, at2_ix2 x1]

theorem reference_power (x3 : Vec Ideal S4096x1024 .f32) (r : Fin 4096) :
    (val_main_v8 (F := Ideal) x3 : Cert.DUDtRefIdeal.S4096x1.Idx → EReal) (ix2 r 0) = power count (fun k => at2 x3 r k) 1024 := by
  have e : (val_main_v8 (F := Ideal) x3 : Cert.DUDtRefIdeal.S4096x1.Idx → EReal) (ix2 r 0) = Ideal.div (∑ x : Fin 1024, x3 (ix2 r x) * x3 (ix2 r x)) count + small := by
    pointwise [val_main_v8, val_main_v7, val_main_v6, val_main_v5, val_main_v4, val_main_v3, val_main_v2, val_main_cst, val_main_cst_0, val_main_cst_1]
  unfold power
  rw [e, ← dot_fin]
  refine congrArg (fun z => Ideal.div z count + small) (Finset.sum_congr rfl fun x _ => ?_)
  rw [at2_ix2 x3]

theorem reference_scale (x3 : Vec Ideal S4096x1024 .f32) (r : Fin 4096) : (val_main_v9 (F := Ideal) x3 : Cert.DUDtRefIdeal.S4096x1.Idx → EReal) (ix2 r 0) = rowScale x3 r := by
  have e : (val_main_v9 (F := Ideal) x3 : Cert.DUDtRefIdeal.S4096x1.Idx → EReal) (ix2 r 0) = Ideal.rsqrt ((val_main_v8 (F := Ideal) x3 : Cert.DUDtRefIdeal.S4096x1.Idx → EReal) (ix2 r 0)) := by
    unfold val_main_v9
    generalize val_main_v8 (F := Ideal) x3 = p
    pointwise
  rw [e, reference_power]
  rfl

theorem reference_gained (x0 : Vec Ideal S4096x32 .f32) (x1 : Vec Ideal S32x1024 .bf16) (x2 : Vec Ideal S4096x1024 .f32) (x4 : Vec Ideal S4x1024 .f32) (r : Fin 4096) (q : Fin 1024) :
    (val_main_v27 (F := Ideal) x0 x1 x2 x4 : S4096x1024.Idx → EReal) (ix2 r q) = reach x0 x1 x2 r q * at2 x4 0 q := by
  have e : (val_main_v27 (F := Ideal) x0 x1 x2 x4 : S4096x1024.Idx → EReal) (ix2 r q) = (val_main_v22 (F := Ideal) x0 x1 x2 : S4096x1024.Idx → EReal) (ix2 r q) * x4 (ix2 0 q) := by
    unfold val_main_v27
    generalize val_main_v22 (F := Ideal) x0 x1 x2 = p
    pointwise [val_main_v26, val_main_v15, val_main_v1, val_main_v0]
  rw [e, reference_reach]
  exact congrArg _ (at2_ix2 x4 0 q)

theorem reference_input (x0 : Vec Ideal S4096x32 .f32) (x1 : Vec Ideal S32x1024 .bf16) (x2 : Vec Ideal S4096x1024 .f32) (x3 : Vec Ideal S4096x1024 .f32) (x4 : Vec Ideal S4x1024 .f32) (x5 : Vec Ideal S4096x1024 .f32) (r : Fin 4096) (q : Fin 1024) :
    (val_main_v43 (F := Ideal) x0 x1 x2 x3 x4 x5 : S4096x1024.Idx → EReal) (ix2 r q) = toInput x0 x1 x2 x3 x4 x5 r q := by
  have e : (val_main_v43 (F := Ideal) x0 x1 x2 x3 x4 x5 : S4096x1024.Idx → EReal) (ix2 r q)
      = x5 (ix2 r q) + (val_main_v27 (F := Ideal) x0 x1 x2 x4 : S4096x1024.Idx → EReal) (ix2 r q) * (val_main_v9 (F := Ideal) x3 : Cert.DUDtRefIdeal.S4096x1.Idx → EReal) (ix2 r 0)
        + x3 (ix2 r q) * Ideal.div ((∑ x : Fin 1024, x3 (ix2 r x) * (val_main_v27 (F := Ideal) x0 x1 x2 x4 : S4096x1024.Idx → EReal) (ix2 r x)) * (minusHalf * Ideal.div ((val_main_v9 (F := Ideal) x3 : Cert.DUDtRefIdeal.S4096x1.Idx → EReal) (ix2 r 0)) ((val_main_v8 (F := Ideal) x3 : Cert.DUDtRefIdeal.S4096x1.Idx → EReal) (ix2 r 0)))) count
        + Ideal.div ((∑ x : Fin 1024, x3 (ix2 r x) * (val_main_v27 (F := Ideal) x0 x1 x2 x4 : S4096x1024.Idx → EReal) (ix2 r x)) * (minusHalf * Ideal.div ((val_main_v9 (F := Ideal) x3 : Cert.DUDtRefIdeal.S4096x1.Idx → EReal) (ix2 r 0)) ((val_main_v8 (F := Ideal) x3 : Cert.DUDtRefIdeal.S4096x1.Idx → EReal) (ix2 r 0)))) count * x3 (ix2 r q) := by
    unfold val_main_v43 val_main_v42 val_main_v41 val_main_v40 val_main_v39 val_main_v38 val_main_v37 val_main_v35 val_main_v34 val_main_v33 val_main_v32 val_main_v31 val_main_v30 val_main_v29 val_main_v12 val_main_v10
    generalize val_main_v27 (F := Ideal) x0 x1 x2 x4 = p
    generalize val_main_v9 (F := Ideal) x3 = s
    generalize val_main_v8 (F := Ideal) x3 = z
    pointwise [val_main_v36, val_main_v11, val_main_cst_2, val_main_cst_5, val_main_cst_6, val_main_cst_7]
    simp only [Finset.univ_unique, Finset.sum_singleton]
    rfl
  have hs : ∑ x : Fin 1024, x3 (ix2 r x) * (val_main_v27 (F := Ideal) x0 x1 x2 x4 : S4096x1024.Idx → EReal) (ix2 r x)
      = dot (fun k => at2 x3 r k) (fun k => reach x0 x1 x2 r k * at2 x4 0 k) 1024 := by
    rw [← dot_fin]
    refine Finset.sum_congr rfl fun x _ => ?_
    rw [reference_gained, at2_ix2 x3]
  rw [e, hs, reference_gained, reference_scale, reference_power, at2_ix2 x3, at2_ix2 x5]
  unfold toInput
  have key := gradient_eq (by norm_num : (0 : ℝ) < 1024) (fun k => at2 x3 r k) (fun k => reach x0 x1 x2 r k * at2 x4 0 k) 1024 q (at2 x5 r q)
  rw [← count_eq] at key
  exact key.symm

theorem row_eq (i : S1x1024.Idx) : i = ix2 (0 : Fin 1) (i 1) := by
  funext d
  match d with
  | ⟨0, _⟩ => exact Fin.ext (Nat.lt_one_iff.mp (i 0).isLt)
  | ⟨1, _⟩ => rfl

theorem reference_gain (x0 : Vec Ideal S4096x32 .f32) (x1 : Vec Ideal S32x1024 .bf16) (x2 : Vec Ideal S4096x1024 .f32) (x3 : Vec Ideal S4096x1024 .f32) (q : Fin 1024) :
    (val_main_v44 (F := Ideal) x0 x1 x2 x3 : S1x1024.Idx → EReal) (ix2 0 q) = toGain x0 x1 x2 x3 q 4096 := by
  have e : (val_main_v44 (F := Ideal) x0 x1 x2 x3 : S1x1024.Idx → EReal) (ix2 0 q)
      = ∑ r : Fin 4096, x3 (ix2 r q) * (val_main_v9 (F := Ideal) x3 : Cert.DUDtRefIdeal.S4096x1.Idx → EReal) (ix2 r 0) * (val_main_v22 (F := Ideal) x0 x1 x2 : S4096x1024.Idx → EReal) (ix2 r q) := by
    unfold val_main_v44 val_main_v28 val_main_v25 val_main_v24 val_main_v23 val_main_v14 val_main_v13
    generalize val_main_v22 (F := Ideal) x0 x1 x2 = p
    generalize val_main_v9 (F := Ideal) x3 = s
    pointwise [val_main_cst_3, val_main_cst_4]
    simp only [Finset.univ_unique, Finset.sum_singleton]
  unfold toGain
  rw [e, ← dot_fin]
  refine Finset.sum_congr rfl fun x _ => ?_
  rw [reference_reach, reference_scale, at2_ix2 x3, mul_comm]

theorem frame_kernel : Cert.quiescent_DUDt := fun m g _ => Cert.DUDt.Gen.frame m g

theorem frame_ideal : Cert.quiescent_DUDtIdeal := fun m g _ => Cert.DUDtIdeal.Gen.frame m g

theorem frame_reference : Cert.quiescent_DUDtRefIdeal := fun m g _ =>
  (θ_run Cert.DUDtRefIdeal.defs _ _).mono (fun r h => ⟨fun c => (h c).2.2, sem_eq_zero_of_no_sems (by decide) r.2⟩)
    (Cert.DUDtRefIdeal.Value.run (F := Ideal) m g)

/-- The reference's run, its results named by stages of its text. -/
theorem run_reference (m : (ℓ : Loc Cert.DUDtRefIdeal.nD Cert.DUDtRefIdeal.τ Cert.DUDtRefIdeal.sig) → Buf (Elt Ideal) ℓ) (g : Dev Cert.DUDtRefIdeal.nD → PrngReg) :
    θ_run Cert.DUDtRefIdeal.defs (onTc (τ := Cert.DUDtRefIdeal.τ) (Cert.DUDtRefIdeal.main (F := Ideal))) ⟨m, fun _ => 0, g⟩ fun r =>
      ∀ c : Dev Cert.DUDtRefIdeal.nD,
        let x0 := m ((c.tc : Thread Cert.DUDtRefIdeal.nD Cert.DUDtRefIdeal.τ).loc Cert.DUDtRefIdeal.main_arg0)
        let x1 := m ((c.tc : Thread Cert.DUDtRefIdeal.nD Cert.DUDtRefIdeal.τ).loc Cert.DUDtRefIdeal.main_arg1)
        let x2 := m ((c.tc : Thread Cert.DUDtRefIdeal.nD Cert.DUDtRefIdeal.τ).loc Cert.DUDtRefIdeal.main_arg2)
        let x3 := m ((c.tc : Thread Cert.DUDtRefIdeal.nD Cert.DUDtRefIdeal.τ).loc Cert.DUDtRefIdeal.main_arg3)
        let x4 := m ((c.tc : Thread Cert.DUDtRefIdeal.nD Cert.DUDtRefIdeal.τ).loc Cert.DUDtRefIdeal.main_arg4)
        let x5 := m ((c.tc : Thread Cert.DUDtRefIdeal.nD Cert.DUDtRefIdeal.τ).loc Cert.DUDtRefIdeal.main_arg5)
        r.2.mem ((c.tc : Thread Cert.DUDtRefIdeal.nD Cert.DUDtRefIdeal.τ).loc Cert.DUDtRefIdeal.main_v43) = Cert.DUDtRefIdeal.Read.val_main_v43 x0 x1 x2 x3 x4 x5
        ∧ r.2.mem ((c.tc : Thread Cert.DUDtRefIdeal.nD Cert.DUDtRefIdeal.τ).loc Cert.DUDtRefIdeal.main_v44) = Cert.DUDtRefIdeal.Read.val_main_v44 x0 x1 x2 x3
        ∧ r.2.mem ((c.tc : Thread Cert.DUDtRefIdeal.nD Cert.DUDtRefIdeal.τ).loc Cert.DUDtRefIdeal.main_arg0) = x0
        ∧ r.2.mem ((c.tc : Thread Cert.DUDtRefIdeal.nD Cert.DUDtRefIdeal.τ).loc Cert.DUDtRefIdeal.main_arg1) = x1
        ∧ r.2.mem ((c.tc : Thread Cert.DUDtRefIdeal.nD Cert.DUDtRefIdeal.τ).loc Cert.DUDtRefIdeal.main_arg2) = x2
        ∧ r.2.mem ((c.tc : Thread Cert.DUDtRefIdeal.nD Cert.DUDtRefIdeal.τ).loc Cert.DUDtRefIdeal.main_arg3) = x3
        ∧ r.2.mem ((c.tc : Thread Cert.DUDtRefIdeal.nD Cert.DUDtRefIdeal.τ).loc Cert.DUDtRefIdeal.main_arg4) = x4
        ∧ r.2.mem ((c.tc : Thread Cert.DUDtRefIdeal.nD Cert.DUDtRefIdeal.τ).loc Cert.DUDtRefIdeal.main_arg5) = x5 :=
  (θ_run _ _ _).mono (fun _ h c => ⟨(h c).1.trans (Cert.DUDtRefIdeal.Read.val_main_v43_eq _ _).symm, (h c).2.1.trans (Cert.DUDtRefIdeal.Read.val_main_v44_eq _ _ _ _).symm, (h c).2.2⟩)
    (Cert.DUDtRefIdeal.Value.run m g)

theorem algebraic : Cert.algebraic_DUDtIdeal_DUDtRefIdeal := by
  pair_intro
  · run_from Cert.DUDtIdeal.Value.run_blocks m g
  · run_from run_reference m' g'
    · refine funext fun i => ?_
      rw [final6 m c]
      exact (congrArg _ (funext fun d => by fin_cases d <;> rfl)).trans (reference_input _ _ _ _ _ _  (i 0) (i 1))
    · refine funext fun i => ?_
      rw [final7 m c]
      exact (congrArg _ (row_eq i)).trans (reference_gain _ _ _ _  (i 1))

end Cert.DUDtProof

end
-- ==== Proof.DWinDtProd.lean ====
/-
  The gradient of the weight of the step sizes' projection.
-/
module

public import proofs.«01_k».proof.Defs
public import proofs.«01_k».proof.Proof.Gen.DWinDt.Frame
public import proofs.«01_k».proof.Proof.Gen.DWinDtIdeal.Value
public import proofs.«01_k».proof.Proof.Gen.DWinDtRefIdeal.Run
public import proofs.«01_k».proof.Proof.Gen.DWinDtRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DWinDtProof

open Idealize.ShloMosaic Idealize.ShloMosaic.TcCoe Cert.DWinDtIdeal Cert.DWinDtIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x32.Idx → EReal := m ((c : Thread nD τ).loc main_arg0)
abbrev Y : S4096x1024.Idx → EReal := m ((c : Thread nD τ).loc main_arg1)

theorem index0 : ∀ t : Fin cfg0.N, win0_0.index t (0 : Fin 2) = t.val % 1 ∧ win0_0.index t (1 : Fin 2) = t.val / 1 :=
  (by decide +kernel : ∀ t : Fin grid0.N, win0_0.index t (0 : Fin 2) = t.val % 1 ∧ win0_0.index t (1 : Fin 2) = t.val / 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 1 := Nat.lt_of_lt_of_eq t.isLt N_0

theorem hz : (![0, 0] : Fin 2 → Nat) = fun _ => 0 := funext fun a => by fin_cases a <;> rfl

variable (t : Fin cfg0.N)

theorem block0 (a : Fin 4096) (b : Fin 32) : (iblk m c 0 t : Vec Ideal S4096x32 .f32) (ix2 a b) = at2 (X m c) (4096 * (t.val % 1) + a) (32 * (t.val / 1) + b) :=
  (congrFun (V_main_arg0 m c) (((cfg0.win 0).blk t).view.emb (ix2 a b))).trans (at2_eq _ _ _ _
    (place win0_0 (index0 t).1 (by show (t.val % 1) * 4096 + a.val = _; omega))
    (place win0_0 (index0 t).2 (by show (t.val / 1) * 32 + b.val = _; omega)))

theorem block1 (a : Fin 4096) (b : Fin 1024) : (iblk m c 1 t : Vec Ideal S4096x1024 .bf16) (ix2 a b) = at2 (Y m c) (4096 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 4096 + a.val = _; omega))
    (place win0_1 (index1 t).2 (by show (t.val / 1 % 1) * 1024 + b.val = _; omega)))

/-- What a point computes, at one element. -/
theorem tile_apply (v0 : Vec Ideal S4096x32 .f32) (v1 : Vec Ideal S4096x1024 .bf16) (r : Fin 32) (l : Fin 1024) :
    (k0_pay1 (F := Ideal) v0 v1 : S32x1024.Idx → EReal) (ix2 r l) = ∑ x : Fin 4096, v0 (ix2 x r) * v1 (ix2 x l) := by
  pointwise [k0_pay1]

/-- Row `r` of the tile's left factor and column `l` of its right factor, continued over the whole sum. -/
abbrev left (r : ℕ) : ℕ → EReal := fun k => at2 (X m c) k (32 * (t.val / 1) + r)
abbrev right (l : ℕ) : ℕ → EReal := fun k => at2 (Y m c) k (1024 * (t.val / 1 % 1) + l)

theorem tile_sum (r : Fin 32) (l : Fin 1024) :
    (k0_pay1 (F := Ideal) (iblk m c 0 t) (iblk m c 1 t) : S32x1024.Idx → EReal) (ix2 r l)
      = ∑ x : Fin 4096, left m c t r (4096 * (t.val % 1) + x) * right m c t l (4096 * (t.val % 1) + x) := by
  rw [tile_apply]
  refine Finset.sum_congr rfl fun x _ => ?_
  rw [block0 m c t, block1 m c t]

/-- What a point leaves in the block of the result. -/
theorem result_block (r : Fin 32) (l : Fin 1024) :
    (out0_2 (F := Ideal) (iblk m c 0 t) (iblk m c 1 t) : S32x1024.Idx → EReal) (ix2 r l) = dot (left m c t r) (right m c t l) 4096 := by
  unfold out0_2
  rw [View.canon_unit_zero hz]
  simp only [View.ld_unit_zero (S := S4096x32) hz, View.ld_unit_zero (S := S4096x1024) hz]
  rw [tile_sum m c t r l, dot_first _ _ 4096 (t.val % 1) (by omega)]
  have e4 : 4096 * (t.val % 1 + 1) = 4096 := by omega
  rw [e4]

/-- The result at row `r`, column `q`. -/
def value (r q : ℕ) : EReal := dot (fun k => at2 (X m c) k r) (fun k => at2 (Y m c) k q) 4096

/-- The result array after the run. -/
theorem final (i : S32x1024.Idx) : ((dats m 0 c).arrAt 2 cfg0.N : S32x1024.Idx → EReal) i = value m c (i 0).val (i 1).val := by
  refine Dat.arrAt_forall_of_cover (dat := dats m 0 c) 2 (fun i x => x = value m c (i 0).val (i 1).val) ?_ ?_ i
  · intro t hft y

    rw [Cert.DWinDtIdeal.Value.flushed2]
    obtain ⟨r, l, rfl⟩ : ∃ (r : Fin 32) (l : Fin 1024), y = ix2 r l := ⟨y 0, y 1, funext fun d => by fin_cases d <;> rfl⟩
    have e0 : (((cfg0.win 2).blk t).view.emb (ix2 r l) 0).val = 32 * (t.val / 1) + r.val := by
      exact place win0_2 (index2 t).1 (by show (t.val / 1) * 32 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 32 := (i 0).isLt
    have h1 : (i 1).val < 1024 := (i 1).isLt
    have hb : 1 * ((i 0).val / 32) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 32) (n := (i 0).val) hi.1 (by omega)
    · exact between (b := 1024) (n := (i 1).val) hi.2 (by omega)

end

/-! ## The reference, and the claims -/

/-- The reference's result at one element. -/
theorem reference_apply (x0 : Vec Ideal S4096x32 .f32) (x1 : Vec Ideal S4096x1024 .bf16) (r : Fin 32) (q : Fin 1024) :
    (Cert.DWinDtRefIdeal.Read.val_main_v7 (F := Ideal) x0 x1 : S32x1024.Idx → EReal) (ix2 r q) = dot (fun k => at2 x0 k r) (fun k => at2 x1 k q) 4096 := by
  have e : (Cert.DWinDtRefIdeal.Read.val_main_v7 (F := Ideal) x0 x1 : S32x1024.Idx → EReal) (ix2 r q) = ∑ x : Fin 4096, x0 (ix2 x r) * x1 (ix2 x q) := by
    pointwise [Cert.DWinDtRefIdeal.Read.val_main_cst, Cert.DWinDtRefIdeal.Read.val_main_v0, Cert.DWinDtRefIdeal.Read.val_main_v1, Cert.DWinDtRefIdeal.Read.val_main_v2, Cert.DWinDtRefIdeal.Read.val_main_v3, Cert.DWinDtRefIdeal.Read.val_main_v4, Cert.DWinDtRefIdeal.Read.val_main_v5, Cert.DWinDtRefIdeal.Read.val_main_v6, Cert.DWinDtRefIdeal.Read.val_main_v7]
  rw [e]
  refine Eq.trans (Finset.sum_congr rfl fun x _ => ?_) (dot_fin (fun k => at2 x0 k r) (fun k => at2 x1 k q) 4096)
  rw [at2_ix2 x0, at2_ix2 x1]

theorem frame_kernel : Cert.quiescent_DWinDt := fun m g _ => Cert.DWinDt.Gen.frame m g

theorem frame_ideal : Cert.quiescent_DWinDtIdeal := fun m g _ => Cert.DWinDtIdeal.Gen.frame m g

theorem frame_reference : Cert.quiescent_DWinDtRefIdeal := fun m g _ =>
  (θ_run Cert.DWinDtRefIdeal.defs _ _).mono (fun r h => ⟨fun c => (h c).2, sem_eq_zero_of_no_sems (by decide) r.2⟩)
    (Cert.DWinDtRefIdeal.Value.run (F := Ideal) m g)

theorem algebraic : Cert.algebraic_DWinDtIdeal_DWinDtRefIdeal := by
  pair_intro
  · run_from Cert.DWinDtIdeal.Value.run_blocks m g
  · run_from Cert.DWinDtRefIdeal.Value.run m' g'
    refine funext fun i => ?_
    rw [Cert.DWinDtProof.final m c]
    exact ((congrFun (Cert.DWinDtRefIdeal.Read.val_main_v7_eq _ _) i).trans (congrArg _ (funext fun d => by fin_cases d <;> rfl))).trans (reference_apply _ _ (i 0) (i 1))

end Cert.DWinDtProof

end
-- ==== Proof.DPleNorm.lean ====
/-
  The embedding gate's product backwards and its norm's gradient.
-/
module

public import proofs.«01_k».proof.Defs
public import proofs.«01_k».proof.Proof.Gen.DPle.Frame
public import proofs.«01_k».proof.Proof.Gen.DPleIdeal.Value
public import proofs.«01_k».proof.Proof.Gen.DPleRefIdeal.Run
public import proofs.«01_k».proof.Proof.Gen.DPleRefIdeal.Read
public import proofs.«01_k».proof.Proof.Norm
public import proofs.«01_k».proof.Proof.Place
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic
public import Idealize.ShloMosaic.Lib.Claim

@[expose] public section

noncomputable section

namespace Cert.DPleProof

open Idealize.ShloMosaic Idealize.ShloMosaic.TcCoe Cert.DPleIdeal Cert.DPleIdeal.Gen Cert.At Cert.Dot Idealize.SL.Sem
open Idealize.ShloMosaic.Pipeline (Dat)
open scoped BigOperators
open Cert.Norm

/-- The gradient reaching the norm's output, the product, at row `r` and column `q`. -/
def reach (a : S4096x1024.Idx → EReal) (b : S1024x1024.Idx → EReal) (r q : ℕ) : EReal :=
  dot (fun k => at2 a r k) (fun k => at2 b q k) 1024

/-- The normed row's element. -/
abbrev rowScale (h : S4096x1024.Idx → EReal) (r : ℕ) : EReal := scale count (fun k => at2 h r k) 1024
abbrev normed (h : S4096x1024.Idx → EReal) (r q : ℕ) : EReal := at2 h r q * rowScale h r

/-- The gradient of the norm's input, the residual's gradient included. -/
def toInput (a : S4096x1024.Idx → EReal) (b : S1024x1024.Idx → EReal) (h : S4096x1024.Idx → EReal) (g : S4x1024.Idx → EReal) (e : S4096x1024.Idx → EReal) (r q : ℕ) : EReal :=
  at2 e r q + rowScale h r * (reach a b r q * at2 g 0 q
    - normed h r q * Ideal.div (dot (fun k => reach a b r k * at2 g 0 k) (fun k => normed h r k) 1024) count)

/-- The gradient of the norm's gain, over the first `n` rows. -/
def toGain (a : S4096x1024.Idx → EReal) (b : S1024x1024.Idx → EReal) (h : S4096x1024.Idx → EReal) (q n : ℕ) : EReal :=
  dot (fun k => reach a b k q) (fun k => normed h k q) n

section
variable (m : (ℓ : Loc nD τ sig) → Buf (Elt Ideal) ℓ) (c : Dev nD)

/-- The arguments, as launched. -/
abbrev A : S4096x1024.Idx → EReal := m ((c : Thread nD τ).loc main_arg0)
abbrev B : S1024x1024.Idx → EReal := m ((c : Thread nD τ).loc main_arg1)
abbrev H : S4096x1024.Idx → EReal := m ((c : Thread nD τ).loc main_arg2)
abbrev G : S4x1024.Idx → EReal := m ((c : Thread nD τ).loc main_arg3)
abbrev E : S4096x1024.Idx → EReal := m ((c : Thread nD τ).loc main_arg4)
theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem index4 : ∀ t : Fin cfg0.N, win0_4.index t (0 : Fin 2) = t.val % 8 ∧ win0_4.index t (1 : Fin 2) = 0 :=
  (by decide +kernel : ∀ t : Fin grid0.N, win0_4.index t (0 : Fin 2) = t.val % 8 ∧ win0_4.index t (1 : Fin 2) = 0)
theorem index5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)

theorem points (t : Fin cfg0.N) : t.val < 8 := Nat.lt_of_lt_of_eq t.isLt N_0

variable (t : Fin cfg0.N)

theorem block0 (a : Fin 512) (b : Fin 1024) : (iblk m c 0 t : Vec Ideal S512x1024 .bf16) (ix2 a b) = at2 (A m c) (512 * (t.val % 8) + a) (1024 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 1024 + b.val = _; omega)))

theorem block1 (a : Fin 1024) (b : Fin 1024) : (iblk m c 1 t : Vec Ideal S1024x1024 .bf16) (ix2 a b) = at2 (B m c) (1024 * (0) + a) (1024 * (0) + b) :=
  (congrFun (V_main_arg1 m c) (((cfg0.win 1).blk t).view.emb (ix2 a b))).trans (at2_eq _ _ _ _
    (place win0_1 (index1 t).1 (by show (0) * 1024 + a.val = _; omega))
    (place win0_1 (index1 t).2 (by show (0) * 1024 + b.val = _; omega)))

theorem block2 (a : Fin 512) (b : Fin 1024) : (iblk m c 2 t : Vec Ideal S512x1024 .f32) (ix2 a b) = at2 (H m c) (512 * (t.val % 8) + a) (1024 * (0) + b) :=
  (congrFun (V_main_arg2 m c) (((cfg0.win 2).blk t).view.emb (ix2 a b))).trans (at2_eq _ _ _ _
    (place win0_2 (index2 t).1 (by show (t.val % 8) * 512 + a.val = _; omega))
    (place win0_2 (index2 t).2 (by show (0) * 1024 + b.val = _; omega)))

theorem block4 (a : Fin 512) (b : Fin 1024) : (iblk m c 4 t : Vec Ideal S512x1024 .f32) (ix2 a b) = at2 (E m c) (512 * (t.val % 8) + a) (1024 * (0) + b) :=
  (congrFun (V_main_arg4 m c) (((cfg0.win 4).blk t).view.emb (ix2 a b))).trans (at2_eq _ _ _ _
    (place win0_4 (index4 t).1 (by show (t.val % 8) * 512 + a.val = _; omega))
    (place win0_4 (index4 t).2 (by show (0) * 1024 + b.val = _; omega)))

/-- The gains as the grid finds them. -/
theorem V_gains : V m c main_v0 = shapeCast S4x1x1024 (G m c : Vec Ideal S4x1024 .f32) shapeCasts_S4x1024_S4x1x1024 := by
  unfold V hostOps0
  after_results
  rfl

theorem block3 (l : Fin 1024) : (iblk m c 3 t : Vec Ideal S1x1x1024 .f32) (ix3 0 0 l) = at2 (G m c) 0 l := by
  unfold iblk
  rw [View.read_apply]
  show V m c main_v0 (((cfg0.win 3).blk t).view.emb (ix3 0 0 l)) = _
  have h1 : (((cfg0.win 3).blk t).view.emb (ix3 (0 : Fin 1) (0 : Fin 1) l)) = ix3 (n0 := 4) (n1 := 1) (n2 := 1024) 0 0 l := by
    funext d
    refine Fin.ext ?_
    refine (Pipeline.Window.rect_emb_val win0_3 t (ix3 (0 : Fin 1) (0 : Fin 1) l) d).trans ?_
    obtain ⟨h0, h1, h2⟩ := index3 t
    fin_cases d
    · show win0_3.index t (0 : Fin 3) * 1 + 0 = 0
      rw [h0]
    · show win0_3.index t (1 : Fin 3) * 1 + 0 = 0
      rw [h1]
    · show win0_3.index t (2 : Fin 3) * 1024 + l.val = l.val
      rw [h2]; omega
  rw [h1, V_gains]
  have e : (shapeCast S4x1x1024 (G m c : Vec Ideal S4x1024 .f32) shapeCasts_S4x1024_S4x1x1024 : S4x1x1024.Idx → EReal) (ix3 0 0 l) = G m c (ix2 0 l) := by
    pointwise
  rw [e]
  exact at2_eq _ _ _ _ rfl rfl

/-! ## The computations of one grid point -/

theorem zero_apply (l : Fin 1024) : (k0_pay6 (F := Ideal) : S1x1024.Idx → EReal) (ix2 0 l) = 0 := by
  rw [← Ideal.ofBits_zero_f32]
  pointwise [k0_pay6]

theorem gain_apply (u v : FVec Ideal S512x1024 .f32) (w : Vec Ideal S1x1024 .f32) (l : Fin 1024) :
    (k0_pay1 (F := Ideal) u v w : S1x1024.Idx → EReal) (ix2 0 l) = w (ix2 0 l) + ∑ x : Fin 512, u (ix2 x l) * v (ix2 x l) := by
  pointwise [k0_pay1]

theorem reach_apply (a : Vec Ideal S512x1024 .bf16) (b : Vec Ideal S1024x1024 .bf16) (r : Fin 512) (l : Fin 1024) :
    (k0_pay2 (F := Ideal) a b : S512x1024.Idx → EReal) (ix2 r l) = ∑ x : Fin 1024, a (ix2 r x) * b (ix2 l x) := by
  pointwise [k0_pay2]

theorem scale_apply (h : Vec Ideal S512x1024 .f32) (r : Fin 512) :
    (k0_pay3 (F := Ideal) h : S512x1.Idx → EReal) (ix2 r 0) = Ideal.rsqrt (Ideal.div (∑ x : Fin 1024, h (ix2 r x) * h (ix2 r x)) count + small) := by
  pointwise [k0_pay3]

theorem normed_apply (h : Vec Ideal S512x1024 .f32) (r : Fin 512) (l : Fin 1024) :
    (k0_pay4 (F := Ideal) h : S512x1024.Idx → EReal) (ix2 r l) = h (ix2 r l) * (k0_pay3 (F := Ideal) h : S512x1.Idx → EReal) (ix2 r 0) := by
  unfold k0_pay4
  generalize k0_pay3 (F := Ideal) h = p
  pointwise

theorem input_apply (a : Vec Ideal S512x1024 .bf16) (b : Vec Ideal S1024x1024 .bf16) (h : Vec Ideal S512x1024 .f32) (g : Vec Ideal S1x1x1024 .f32) (e : Vec Ideal S512x1024 .f32) (r : Fin 512) (l : Fin 1024) :
    (k0_pay5 (F := Ideal) a b h g e : S512x1024.Idx → EReal) (ix2 r l)
      = e (ix2 r l) + (k0_pay3 (F := Ideal) h : S512x1.Idx → EReal) (ix2 r 0)
        * ((k0_pay2 (F := Ideal) a b : S512x1024.Idx → EReal) (ix2 r l) * g (ix3 0 0 l)
          - (k0_pay4 (F := Ideal) h : S512x1024.Idx → EReal) (ix2 r l)
            * Ideal.div (∑ x : Fin 1024, (k0_pay2 (F := Ideal) a b : S512x1024.Idx → EReal) (ix2 r x) * g (ix3 0 0 x) * (k0_pay4 (F := Ideal) h : S512x1024.Idx → EReal) (ix2 r x)) count) := by
  unfold k0_pay5
  generalize k0_pay2 (F := Ideal) a b = p
  generalize k0_pay3 (F := Ideal) h = q
  generalize k0_pay4 (F := Ideal) h = z
  pointwise

theorem reach_block (r : Fin 512) (l : Fin 1024) :
    (k0_pay2 (F := Ideal) (iblk m c 0 t) (iblk m c 1 t) : S512x1024.Idx → EReal) (ix2 r l) = reach (A m c) (B m c) (512 * (t.val % 8) + r) l := by
  unfold reach
  rw [reach_apply, ← dot_fin]
  refine Finset.sum_congr rfl fun x _ => ?_
  rw [block0 m c t, block1 m c t]
  simp only [Nat.mul_zero, Nat.zero_add]

theorem scale_block (r : Fin 512) :
    (k0_pay3 (F := Ideal) (iblk m c 2 t) : S512x1.Idx → EReal) (ix2 r 0) = rowScale (H m c) (512 * (t.val % 8) + r) := by
  unfold rowScale scale power
  rw [scale_apply, ← dot_fin]
  refine congrArg (fun z => Ideal.rsqrt (Ideal.div z count + small)) (Finset.sum_congr rfl fun x _ => ?_)
  rw [block2 m c t]
  simp only [Nat.mul_zero, Nat.zero_add]

theorem normed_block (r : Fin 512) (l : Fin 1024) :
    (k0_pay4 (F := Ideal) (iblk m c 2 t) : S512x1024.Idx → EReal) (ix2 r l) = normed (H m c) (512 * (t.val % 8) + r) l := by
  rw [normed_apply, scale_block m c t, block2 m c t]
  simp only [Nat.mul_zero, Nat.zero_add]

theorem input_block (r : Fin 512) (l : Fin 1024) :
    (k0_pay5 (F := Ideal) (iblk m c 0 t) (iblk m c 1 t) (iblk m c 2 t) (iblk m c 3 t) (iblk m c 4 t) : S512x1024.Idx → EReal) (ix2 r l)
      = toInput (A m c) (B m c) (H m c) (G m c) (E m c) (512 * (t.val % 8) + r) l := by
  have hs : ∑ x : Fin 1024, (k0_pay2 (F := Ideal) (iblk m c 0 t) (iblk m c 1 t) : S512x1024.Idx → EReal) (ix2 r x) * (iblk m c 3 t : Vec Ideal S1x1x1024 .f32) (ix3 0 0 x) * (k0_pay4 (F := Ideal) (iblk m c 2 t) : S512x1024.Idx → EReal) (ix2 r x)
      = dot (fun k => reach (A m c) (B m c) (512 * (t.val % 8) + r) k * at2 (G m c) 0 k) (fun k => normed (H m c) (512 * (t.val % 8) + r) k) 1024 := by
    rw [← dot_fin]
    refine Finset.sum_congr rfl fun x _ => ?_
    rw [reach_block m c t, normed_block m c t, block3 m c t]
  unfold toInput
  rw [input_apply, hs, scale_block m c t, reach_block m c t, normed_block m c t, block3 m c t, block4 m c t]
  simp only [Nat.mul_zero, Nat.zero_add]

theorem gain_block (w : Vec Ideal S1x1024 .f32) (l : Fin 1024) (b : ℕ) (hb : t.val % 8 = b) (hw : w (ix2 0 l) = toGain (A m c) (B m c) (H m c) l (512 * b)) :
    (k0_pay1 (F := Ideal) (k0_pay2 (F := Ideal) (iblk m c 0 t) (iblk m c 1 t)) (k0_pay4 (F := Ideal) (iblk m c 2 t)) w : S1x1024.Idx → EReal) (ix2 0 l)
      = toGain (A m c) (B m c) (H m c) l (512 * (b + 1)) := by
  rw [gain_apply, hw]
  unfold toGain
  rw [← dot_tile]
  refine congrArg _ (Finset.sum_congr rfl fun x _ => ?_)
  rw [reach_block m c t, normed_block m c t, hb]

end

/-! ## What one grid point leaves in the two output blocks -/

section
variable (m : (ℓ : Loc nD τ sig) → Buf (Elt Ideal) ℓ) (c : Dev nD)

/-- The input's gradient after the point that computes its rows. -/
theorem left5 (t : Fin cfg0.N) (r : Fin 512) (l : Fin 1024) : (outsAt0 m c t.val t.isLt).1 (ix2 r l)
    = toInput (A m c) (B m c) (H m c) (G m c) (E m c) (512 * (t.val % 8) + r) l := by
  by_cases h0 : t.val % 8 = 0
  · rw [outsAt0_A m c t h0]
    frame_out
    exact input_block m c t r l
  · rw [outsAt0_B m c t h0]
    frame_out
    exact input_block m c t r l

/-- The gain's gradient after a point: the sums over all rows up to and including the point's block. -/
theorem left6 (l : Fin 1024) : ∀ (k : ℕ) (hk : k < cfg0.N), (outsAt0 m c k hk).2 (ix2 0 l) = toGain (A m c) (B m c) (H m c) l (512 * (k % 8 + 1)) := by
  intro k
  induction k with
  | zero =>
    intro hk
    rw [outsAt0_A m c ⟨0, hk⟩ rfl]
    frame_out
    exact gain_block m c ⟨0, hk⟩ _ l 0 rfl ((zero_apply l).trans (by unfold toGain dot; simp))
  | succ k ih =>
    intro hk
    have h8 : k + 1 < 8 := points ⟨k + 1, hk⟩
    rw [outsAt0_B m c ⟨k + 1, hk⟩ (by show ¬(k + 1) % 8 = 0; omega)]
    frame_out
    refine gain_block m c ⟨k + 1, hk⟩ _ l _ rfl ((ih (Nat.lt_of_succ_lt hk)).trans ?_)
    show toGain (A m c) (B m c) (H m c) l (512 * (k % 8 + 1)) = toGain (A m c) (B m c) (H m c) l (512 * ((k + 1) % 8))
    congr 2
    omega

theorem final5 (i : S4096x1024.Idx) : ((dats m 0 c).arrAt 5 cfg0.N : S4096x1024.Idx → EReal) i = toInput (A m c) (B m c) (H m c) (G m c) (E m c) (i 0).val (i 1).val := by
  refine Dat.arrAt_forall_of_cover (dat := dats m 0 c) 5 (fun i x => x = toInput (A m c) (B m c) (H m c) (G m c) (E m c) (i 0).val (i 1).val) ?_ ?_ i
  · intro t hft y
    rw [Cert.DPleIdeal.Value.flushed5]
    obtain ⟨r, l, rfl⟩ : ∃ (r : Fin 512) (l : Fin 1024), y = ix2 r l := ⟨y 0, y 1, funext fun d => by fin_cases d <;> rfl⟩
    have e0 : (((cfg0.win 5).blk t).view.emb (ix2 r l) 0).val = 512 * (t.val % 8) + r.val := by
      exact place win0_5 (index5 t).1 (by show (t.val % 8) * 512 + r.val = _; omega)
    have e1 : (((cfg0.win 5).blk t).view.emb (ix2 r l) 1).val = 1024 * (0) + l.val := by
      exact place win0_5 (index5 t).2 (by show (0) * 1024 + l.val = _; omega)
    rw [e0, e1]
    show (outsAt0 m c t.val t.isLt).1 (ix2 r l) = _
    refine (left5 m c t r l).trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_5 _, ?_⟩
    show i ∈ ((View.whole main_v1_0).slice (win0_5.rect ⟨_, hb⟩)).set
    rw [View.set_slice_whole, Rect.mem_set_unit]
    have hi := index5 ⟨_, hb⟩
    dsimp only at hi
    intro d
    fin_cases d
    · exact between (b := 512) (n := (i 0).val) hi.1 (by omega)
    · exact between (b := 1024) (n := (i 1).val) hi.2 (by omega)

theorem final6 (i : S1x1024.Idx) : ((dats m 0 c).arrAt 6 cfg0.N : S1x1024.Idx → EReal) i = toGain (A m c) (B m c) (H m c) (i 1).val 4096 := by
  refine Dat.arrAt_forall_of_cover (dat := dats m 0 c) 6 (fun i x => x = toGain (A m c) (B m c) (H m c) (i 1).val 4096) ?_ ?_ i
  · intro t hft y
    rw [Cert.DPleIdeal.Value.flushed6]
    obtain ⟨r, l, rfl⟩ : ∃ (r : Fin 1) (l : Fin 1024), y = ix2 r l := ⟨y 0, y 1, funext fun d => by fin_cases d <;> rfl⟩
    have e1 : (((cfg0.win 6).blk t).view.emb (ix2 r l) 1).val = 1024 * (0) + l.val := by
      exact place win0_6 (index6 t).2 (by show (0) * 1024 + l.val = _; omega)
    rw [e1]
    obtain rfl : r = 0 := Fin.ext (by omega)
    show (outsAt0 m c t.val t.isLt).2 (ix2 0 l) = _
    have h7 := (flush0_6 t).mp hft
    refine (left6 m c l t.val t.isLt).trans ?_
    rw [h7]
    simp only [Nat.mul_zero, Nat.zero_add]
  · intro i
    have h0 : (i 0).val < 1 := (i 0).isLt
    have h1 : (i 1).val < 1024 := (i 1).isLt
    have hb : 7 < cfg0.N := Nat.lt_of_lt_of_eq (by omega) N_0.symm
    refine ⟨⟨_, hb⟩, (flush0_6 _).mpr rfl, ?_⟩
    show i ∈ ((View.whole main_v1_1).slice (win0_6.rect ⟨_, hb⟩)).set
    rw [View.set_slice_whole, Rect.mem_set_unit]
    have hi := index6 ⟨_, hb⟩
    intro d
    fin_cases d
    · exact between (b := 1) (n := (i 0).val) hi.1 (by omega)
    · exact between (b := 1024) (n := (i 1).val) hi.2 (by omega)

end

/-! ## The reference, and the claims -/

open Cert.DPleRefIdeal.Read

theorem reference_reach (x0 : Vec Ideal S4096x1024 .bf16) (x1 : Vec Ideal S1024x1024 .bf16) (r : Fin 4096) (q : Fin 1024) : (val_main_v21 (F := Ideal) x0 x1 : S4096x1024.Idx → EReal) (ix2 r q) = reach x0 x1 r q := by
  have e : (val_main_v21 (F := Ideal) x0 x1 : S4096x1024.Idx → EReal) (ix2 r q) = ∑ x : Fin 1024, x0 (ix2 r x) * x1 (ix2 q x) := by
    pointwise [val_main_v21, val_main_v20, val_main_v18]
  unfold reach
  rw [e, ← dot_fin]
  refine Finset.sum_congr rfl fun x _ => ?_
  rw [at2_ix2 x0, at2_ix2 x1]

theorem reference_power (x2 : Vec Ideal S4096x1024 .f32) (r : Fin 4096) :
    (val_main_v8 (F := Ideal) x2 : Cert.DPleRefIdeal.S4096x1.Idx → EReal) (ix2 r 0) = power count (fun k => at2 x2 r k) 1024 := by
  have e : (val_main_v8 (F := Ideal) x2 : Cert.DPleRefIdeal.S4096x1.Idx → EReal) (ix2 r 0) = Ideal.div (∑ x : Fin 1024, x2 (ix2 r x) * x2 (ix2 r x)) count + small := by
    pointwise [val_main_v8, val_main_v7, val_main_v6, val_main_v5, val_main_v4, val_main_v3, val_main_v2, val_main_cst, val_main_cst_0, val_main_cst_1]
  unfold power
  rw [e, ← dot_fin]
  refine congrArg (fun z => Ideal.div z count + small) (Finset.sum_congr rfl fun x _ => ?_)
  rw [at2_ix2 x2]

theorem reference_scale (x2 : Vec Ideal S4096x1024 .f32) (r : Fin 4096) : (val_main_v9 (F := Ideal) x2 : Cert.DPleRefIdeal.S4096x1.Idx → EReal) (ix2 r 0) = rowScale x2 r := by
  have e : (val_main_v9 (F := Ideal) x2 : Cert.DPleRefIdeal.S4096x1.Idx → EReal) (ix2 r 0) = Ideal.rsqrt ((val_main_v8 (F := Ideal) x2 : Cert.DPleRefIdeal.S4096x1.Idx → EReal) (ix2 r 0)) := by
    unfold val_main_v9
    generalize val_main_v8 (F := Ideal) x2 = p
    pointwise
  rw [e, reference_power]
  rfl

theorem reference_gained (x0 : Vec Ideal S4096x1024 .bf16) (x1 : Vec Ideal S1024x1024 .bf16) (x3 : Vec Ideal S4x1024 .f32) (r : Fin 4096) (q : Fin 1024) :
    (val_main_v26 (F := Ideal) x0 x1 x3 : S4096x1024.Idx → EReal) (ix2 r q) = reach x0 x1 r q * at2 x3 0 q := by
  have e : (val_main_v26 (F := Ideal) x0 x1 x3 : S4096x1024.Idx → EReal) (ix2 r q) = (val_main_v21 (F := Ideal) x0 x1 : S4096x1024.Idx → EReal) (ix2 r q) * x3 (ix2 0 q) := by
    unfold val_main_v26
    generalize val_main_v21 (F := Ideal) x0 x1 = p
    pointwise [val_main_v25, val_main_v15, val_main_v1, val_main_v0]
  rw [e, reference_reach]
  exact congrArg _ (at2_ix2 x3 0 q)

theorem reference_input (x0 : Vec Ideal S4096x1024 .bf16) (x1 : Vec Ideal S1024x1024 .bf16) (x2 : Vec Ideal S4096x1024 .f32) (x3 : Vec Ideal S4x1024 .f32) (x4 : Vec Ideal S4096x1024 .f32) (r : Fin 4096) (q : Fin 1024) :
    (val_main_v42 (F := Ideal) x0 x1 x2 x3 x4 : S4096x1024.Idx → EReal) (ix2 r q) = toInput x0 x1 x2 x3 x4 r q := by
  have e : (val_main_v42 (F := Ideal) x0 x1 x2 x3 x4 : S4096x1024.Idx → EReal) (ix2 r q)
      = x4 (ix2 r q) + (val_main_v26 (F := Ideal) x0 x1 x3 : S4096x1024.Idx → EReal) (ix2 r q) * (val_main_v9 (F := Ideal) x2 : Cert.DPleRefIdeal.S4096x1.Idx → EReal) (ix2 r 0)
        + x2 (ix2 r q) * Ideal.div ((∑ x : Fin 1024, x2 (ix2 r x) * (val_main_v26 (F := Ideal) x0 x1 x3 : S4096x1024.Idx → EReal) (ix2 r x)) * (minusHalf * Ideal.div ((val_main_v9 (F := Ideal) x2 : Cert.DPleRefIdeal.S4096x1.Idx → EReal) (ix2 r 0)) ((val_main_v8 (F := Ideal) x2 : Cert.DPleRefIdeal.S4096x1.Idx → EReal) (ix2 r 0)))) count
        + Ideal.div ((∑ x : Fin 1024, x2 (ix2 r x) * (val_main_v26 (F := Ideal) x0 x1 x3 : S4096x1024.Idx → EReal) (ix2 r x)) * (minusHalf * Ideal.div ((val_main_v9 (F := Ideal) x2 : Cert.DPleRefIdeal.S4096x1.Idx → EReal) (ix2 r 0)) ((val_main_v8 (F := Ideal) x2 : Cert.DPleRefIdeal.S4096x1.Idx → EReal) (ix2 r 0)))) count * x2 (ix2 r q) := by
    unfold val_main_v42 val_main_v41 val_main_v40 val_main_v39 val_main_v38 val_main_v37 val_main_v36 val_main_v34 val_main_v33 val_main_v32 val_main_v31 val_main_v30 val_main_v29 val_main_v28 val_main_v12 val_main_v10
    generalize val_main_v26 (F := Ideal) x0 x1 x3 = p
    generalize val_main_v9 (F := Ideal) x2 = s
    generalize val_main_v8 (F := Ideal) x2 = z
    pointwise [val_main_v35, val_main_v11, val_main_cst_2, val_main_cst_5, val_main_cst_6, val_main_cst_7]
    simp only [Finset.univ_unique, Finset.sum_singleton]
    rfl
  have hs : ∑ x : Fin 1024, x2 (ix2 r x) * (val_main_v26 (F := Ideal) x0 x1 x3 : S4096x1024.Idx → EReal) (ix2 r x)
      = dot (fun k => at2 x2 r k) (fun k => reach x0 x1 r k * at2 x3 0 k) 1024 := by
    rw [← dot_fin]
    refine Finset.sum_congr rfl fun x _ => ?_
    rw [reference_gained, at2_ix2 x2]
  rw [e, hs, reference_gained, reference_scale, reference_power, at2_ix2 x2, at2_ix2 x4]
  unfold toInput
  have key := gradient_eq (by norm_num : (0 : ℝ) < 1024) (fun k => at2 x2 r k) (fun k => reach x0 x1 r k * at2 x3 0 k) 1024 q (at2 x4 r q)
  rw [← count_eq] at key
  exact key.symm

theorem row_eq (i : S1x1024.Idx) : i = ix2 (0 : Fin 1) (i 1) := by
  funext d
  match d with
  | ⟨0, _⟩ => exact Fin.ext (Nat.lt_one_iff.mp (i 0).isLt)
  | ⟨1, _⟩ => rfl

theorem reference_gain (x0 : Vec Ideal S4096x1024 .bf16) (x1 : Vec Ideal S1024x1024 .bf16) (x2 : Vec Ideal S4096x1024 .f32) (q : Fin 1024) :
    (val_main_v43 (F := Ideal) x0 x1 x2 : S1x1024.Idx → EReal) (ix2 0 q) = toGain x0 x1 x2 q 4096 := by
  have e : (val_main_v43 (F := Ideal) x0 x1 x2 : S1x1024.Idx → EReal) (ix2 0 q)
      = ∑ r : Fin 4096, x2 (ix2 r q) * (val_main_v9 (F := Ideal) x2 : Cert.DPleRefIdeal.S4096x1.Idx → EReal) (ix2 r 0) * (val_main_v21 (F := Ideal) x0 x1 : S4096x1024.Idx → EReal) (ix2 r q) := by
    unfold val_main_v43 val_main_v27 val_main_v24 val_main_v23 val_main_v22 val_main_v14 val_main_v13
    generalize val_main_v21 (F := Ideal) x0 x1 = p
    generalize val_main_v9 (F := Ideal) x2 = s
    pointwise [val_main_cst_3, val_main_cst_4]
    simp only [Finset.univ_unique, Finset.sum_singleton]
  unfold toGain
  rw [e, ← dot_fin]
  refine Finset.sum_congr rfl fun x _ => ?_
  rw [reference_reach, reference_scale, at2_ix2 x2, mul_comm]

theorem frame_kernel : Cert.quiescent_DPle := fun m g _ => Cert.DPle.Gen.frame m g

theorem frame_ideal : Cert.quiescent_DPleIdeal := fun m g _ => Cert.DPleIdeal.Gen.frame m g

theorem frame_reference : Cert.quiescent_DPleRefIdeal := fun m g _ =>
  (θ_run Cert.DPleRefIdeal.defs _ _).mono (fun r h => ⟨fun c => (h c).2.2, sem_eq_zero_of_no_sems (by decide) r.2⟩)
    (Cert.DPleRefIdeal.Value.run (F := Ideal) m g)

/-- The reference's run, its results named by stages of its text. -/
theorem run_reference (m : (ℓ : Loc Cert.DPleRefIdeal.nD Cert.DPleRefIdeal.τ Cert.DPleRefIdeal.sig) → Buf (Elt Ideal) ℓ) (g : Dev Cert.DPleRefIdeal.nD → PrngReg) :
    θ_run Cert.DPleRefIdeal.defs (onTc (τ := Cert.DPleRefIdeal.τ) (Cert.DPleRefIdeal.main (F := Ideal))) ⟨m, fun _ => 0, g⟩ fun r =>
      ∀ c : Dev Cert.DPleRefIdeal.nD,
        let x0 := m ((c.tc : Thread Cert.DPleRefIdeal.nD Cert.DPleRefIdeal.τ).loc Cert.DPleRefIdeal.main_arg0)
        let x1 := m ((c.tc : Thread Cert.DPleRefIdeal.nD Cert.DPleRefIdeal.τ).loc Cert.DPleRefIdeal.main_arg1)
        let x2 := m ((c.tc : Thread Cert.DPleRefIdeal.nD Cert.DPleRefIdeal.τ).loc Cert.DPleRefIdeal.main_arg2)
        let x3 := m ((c.tc : Thread Cert.DPleRefIdeal.nD Cert.DPleRefIdeal.τ).loc Cert.DPleRefIdeal.main_arg3)
        let x4 := m ((c.tc : Thread Cert.DPleRefIdeal.nD Cert.DPleRefIdeal.τ).loc Cert.DPleRefIdeal.main_arg4)
        r.2.mem ((c.tc : Thread Cert.DPleRefIdeal.nD Cert.DPleRefIdeal.τ).loc Cert.DPleRefIdeal.main_v42) = Cert.DPleRefIdeal.Read.val_main_v42 x0 x1 x2 x3 x4
        ∧ r.2.mem ((c.tc : Thread Cert.DPleRefIdeal.nD Cert.DPleRefIdeal.τ).loc Cert.DPleRefIdeal.main_v43) = Cert.DPleRefIdeal.Read.val_main_v43 x0 x1 x2
        ∧ r.2.mem ((c.tc : Thread Cert.DPleRefIdeal.nD Cert.DPleRefIdeal.τ).loc Cert.DPleRefIdeal.main_arg0) = x0
        ∧ r.2.mem ((c.tc : Thread Cert.DPleRefIdeal.nD Cert.DPleRefIdeal.τ).loc Cert.DPleRefIdeal.main_arg1) = x1
        ∧ r.2.mem ((c.tc : Thread Cert.DPleRefIdeal.nD Cert.DPleRefIdeal.τ).loc Cert.DPleRefIdeal.main_arg2) = x2
        ∧ r.2.mem ((c.tc : Thread Cert.DPleRefIdeal.nD Cert.DPleRefIdeal.τ).loc Cert.DPleRefIdeal.main_arg3) = x3
        ∧ r.2.mem ((c.tc : Thread Cert.DPleRefIdeal.nD Cert.DPleRefIdeal.τ).loc Cert.DPleRefIdeal.main_arg4) = x4 :=
  (θ_run _ _ _).mono (fun _ h c => ⟨(h c).1.trans (Cert.DPleRefIdeal.Read.val_main_v42_eq _ _).symm, (h c).2.1.trans (Cert.DPleRefIdeal.Read.val_main_v43_eq _ _ _).symm, (h c).2.2⟩)
    (Cert.DPleRefIdeal.Value.run m g)

theorem algebraic : Cert.algebraic_DPleIdeal_DPleRefIdeal := by
  pair_intro
  · run_from Cert.DPleIdeal.Value.run_blocks m g
  · run_from run_reference m' g'
    · refine funext fun i => ?_
      rw [final5 m c]
      exact (congrArg _ (funext fun d => by fin_cases d <;> rfl)).trans (reference_input _ _ _ _ _  (i 0) (i 1))
    · refine funext fun i => ?_
      rw [final6 m c]
      exact (congrArg _ (row_eq i)).trans (reference_gain _ _ _  (i 1))

end Cert.DPleProof

end
-- ==== Proof.DPleProjProd.lean ====
/-
  The gradient of the weight of the per-layer embedding's projection.
-/
module

public import proofs.«01_k».proof.Defs
public import proofs.«01_k».proof.Proof.Gen.DPleProj.Frame
public import proofs.«01_k».proof.Proof.Gen.DPleProjIdeal.Value
public import proofs.«01_k».proof.Proof.Gen.DPleProjRefIdeal.Run
public import proofs.«01_k».proof.Proof.Gen.DPleProjRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DPleProjProof

open Idealize.ShloMosaic Idealize.ShloMosaic.TcCoe Cert.DPleProjIdeal Cert.DPleProjIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S4096x256.Idx → EReal := m ((c : Thread nD τ).loc main_arg1)

theorem index0 : ∀ t : Fin cfg0.N, win0_0.index t (0 : Fin 2) = t.val % 1 ∧ win0_0.index t (1 : Fin 2) = t.val / 1 :=
  (by decide +kernel : ∀ t : Fin grid0.N, win0_0.index t (0 : Fin 2) = t.val % 1 ∧ win0_0.index t (1 : Fin 2) = t.val / 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 1 := Nat.lt_of_lt_of_eq t.isLt N_0

theorem hz : (![0, 0] : Fin 2 → Nat) = fun _ => 0 := funext fun a => by fin_cases a <;> rfl

variable (t : Fin cfg0.N)

theorem block0 (a : Fin 4096) (b : Fin 1024) : (iblk m c 0 t : Vec Ideal S4096x1024 .bf16) (ix2 a b) = at2 (X m c) (4096 * (t.val % 1) + a) (1024 * (t.val / 1) + b) :=
  (congrFun (V_main_arg0 m c) (((cfg0.win 0).blk t).view.emb (ix2 a b))).trans (at2_eq _ _ _ _
    (place win0_0 (index0 t).1 (by show (t.val % 1) * 4096 + a.val = _; omega))
    (place win0_0 (index0 t).2 (by show (t.val / 1) * 1024 + b.val = _; omega)))

theorem block1 (a : Fin 4096) (b : Fin 256) : (iblk m c 1 t : Vec Ideal S4096x256 .f32) (ix2 a b) = at2 (Y m c) (4096 * (t.val % 1) + a) (256 * (t.val / 1 % 1) + b) :=
  (congrFun (V_main_arg1 m c) (((cfg0.win 1).blk t).view.emb (ix2 a b))).trans (at2_eq _ _ _ _
    (place win0_1 (index1 t).1 (by show (t.val % 1) * 4096 + a.val = _; omega))
    (place win0_1 (index1 t).2 (by show (t.val / 1 % 1) * 256 + b.val = _; omega)))

/-- What a point computes, at one element. -/
theorem tile_apply (v0 : Vec Ideal S4096x1024 .bf16) (v1 : Vec Ideal S4096x256 .f32) (r : Fin 1024) (l : Fin 256) :
    (k0_pay1 (F := Ideal) v0 v1 : S1024x256.Idx → EReal) (ix2 r l) = ∑ x : Fin 4096, v0 (ix2 x r) * v1 (ix2 x l) := by
  pointwise [k0_pay1]

/-- Row `r` of the tile's left factor and column `l` of its right factor, continued over the whole sum. -/
abbrev left (r : ℕ) : ℕ → EReal := fun k => at2 (X m c) k (1024 * (t.val / 1) + r)
abbrev right (l : ℕ) : ℕ → EReal := fun k => at2 (Y m c) k (256 * (t.val / 1 % 1) + l)

theorem tile_sum (r : Fin 1024) (l : Fin 256) :
    (k0_pay1 (F := Ideal) (iblk m c 0 t) (iblk m c 1 t) : S1024x256.Idx → EReal) (ix2 r l)
      = ∑ x : Fin 4096, left m c t r (4096 * (t.val % 1) + x) * right m c t l (4096 * (t.val % 1) + x) := by
  rw [tile_apply]
  refine Finset.sum_congr rfl fun x _ => ?_
  rw [block0 m c t, block1 m c t]

/-- What a point leaves in the block of the result. -/
theorem result_block (r : Fin 1024) (l : Fin 256) :
    (out0_2 (F := Ideal) (iblk m c 0 t) (iblk m c 1 t) : S1024x256.Idx → EReal) (ix2 r l) = dot (left m c t r) (right m c t l) 4096 := by
  unfold out0_2
  rw [View.canon_unit_zero hz]
  simp only [View.ld_unit_zero (S := S4096x1024) hz, View.ld_unit_zero (S := S4096x256) hz]
  rw [tile_sum m c t r l, dot_first _ _ 4096 (t.val % 1) (by omega)]
  have e4 : 4096 * (t.val % 1 + 1) = 4096 := by omega
  rw [e4]

/-- The result at row `r`, column `q`. -/
def value (r q : ℕ) : EReal := dot (fun k => at2 (X m c) k r) (fun k => at2 (Y m c) k q) 4096

/-- The result array after the run. -/
theorem final (i : S1024x256.Idx) : ((dats m 0 c).arrAt 2 cfg0.N : S1024x256.Idx → EReal) i = value m c (i 0).val (i 1).val := by
  refine Dat.arrAt_forall_of_cover (dat := dats m 0 c) 2 (fun i x => x = value m c (i 0).val (i 1).val) ?_ ?_ i
  · intro t hft y

    rw [Cert.DPleProjIdeal.Value.flushed2]
    obtain ⟨r, l, rfl⟩ : ∃ (r : Fin 1024) (l : Fin 256), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 256 * (t.val / 1 % 1) + l.val := by
      exact place win0_2 (index2 t).2 (by show (t.val / 1 % 1) * 256 + l.val = _; omega)
    rw [e0, e1]
    have key := result_block m c t r l
    revert key
    generalize out0_2 (F := Ideal) (iblk m c 0 t) (iblk m c 1 t) = B
    intro key
    exact key
  · intro i
    have h0 : (i 0).val < 1024 := (i 0).isLt
    have h1 : (i 1).val < 256 := (i 1).isLt
    have hb : 1 * ((i 0).val / 1024) + 1 * ((i 1).val / 256) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 256) (n := (i 1).val) hi.2 (by omega)

end

/-! ## The reference, and the claims -/

/-- The reference's result at one element. -/
theorem reference_apply (x0 : Vec Ideal S4096x1024 .bf16) (x1 : Vec Ideal S4096x256 .f32) (r : Fin 1024) (q : Fin 256) :
    (Cert.DPleProjRefIdeal.Read.val_main_v7 (F := Ideal) x0 x1 : S1024x256.Idx → EReal) (ix2 r q) = dot (fun k => at2 x0 k r) (fun k => at2 x1 k q) 4096 := by
  have e : (Cert.DPleProjRefIdeal.Read.val_main_v7 (F := Ideal) x0 x1 : S1024x256.Idx → EReal) (ix2 r q) = ∑ x : Fin 4096, x0 (ix2 x r) * x1 (ix2 x q) := by
    pointwise [Cert.DPleProjRefIdeal.Read.val_main_cst, Cert.DPleProjRefIdeal.Read.val_main_v0, Cert.DPleProjRefIdeal.Read.val_main_v1, Cert.DPleProjRefIdeal.Read.val_main_v2, Cert.DPleProjRefIdeal.Read.val_main_v3, Cert.DPleProjRefIdeal.Read.val_main_v4, Cert.DPleProjRefIdeal.Read.val_main_v5, Cert.DPleProjRefIdeal.Read.val_main_v6, Cert.DPleProjRefIdeal.Read.val_main_v7]
  rw [e]
  refine Eq.trans (Finset.sum_congr rfl fun x _ => ?_) (dot_fin (fun k => at2 x0 k r) (fun k => at2 x1 k q) 4096)
  rw [at2_ix2 x0, at2_ix2 x1]

theorem frame_kernel : Cert.quiescent_DPleProj := fun m g _ => Cert.DPleProj.Gen.frame m g

theorem frame_ideal : Cert.quiescent_DPleProjIdeal := fun m g _ => Cert.DPleProjIdeal.Gen.frame m g

theorem frame_reference : Cert.quiescent_DPleProjRefIdeal := fun m g _ =>
  (θ_run Cert.DPleProjRefIdeal.defs _ _).mono (fun r h => ⟨fun c => (h c).2, sem_eq_zero_of_no_sems (by decide) r.2⟩)
    (Cert.DPleProjRefIdeal.Value.run (F := Ideal) m g)

theorem algebraic : Cert.algebraic_DPleProjIdeal_DPleProjRefIdeal := by
  pair_intro
  · run_from Cert.DPleProjIdeal.Value.run_blocks m g
  · run_from Cert.DPleProjRefIdeal.Value.run m' g'
    refine funext fun i => ?_
    rw [Cert.DPleProjProof.final m c]
    exact ((congrFun (Cert.DPleProjRefIdeal.Read.val_main_v7_eq _ _) i).trans (congrArg _ (funext fun d => by fin_cases d <;> rfl))).trans (reference_apply _ _ (i 0) (i 1))

end Cert.DPleProjProof

end
-- ==== Proof.FfnUpAct.lean ====
/-
  The two products of the feed-forward block and its gated activation, `silu(xn @ wg) * (xn @ wu)`.
-/
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gate
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.FfnUpProof

open Idealize.ShloMosaic Idealize.ShloMosaic.TcCoe Cert.FfnUpIdeal Cert.FfnUpIdeal.Gen Cert.At Cert.Dot Idealize.SL.Sem
open Idealize.ShloMosaic.Pipeline (Dat)
open scoped BigOperators
open Cert.Gate

/-- A product's element: row `r` of the normed input times row `q` of a weight held transposed. -/
abbrev prod (x : S4096x1024.Idx → EReal) (w : S2816x1024.Idx → EReal) (r q : ℕ) : EReal :=
  dot (fun k => at2 x r k) (fun k => at2 w q k) 1024

/-- The gated activation's element. -/
abbrev gated (x : S4096x1024.Idx → EReal) (wg wu : S2816x1024.Idx → EReal) (r q : ℕ) : EReal :=
  prod x wg r q * sigm (prod x wg r q) * prod x wu r q

section
variable (m : (ℓ : Loc nD τ sig) → Buf (Elt Ideal) ℓ) (c : Dev nD)

/-- The arguments, as launched. -/
abbrev X : S4096x1024.Idx → EReal := m ((c : Thread nD τ).loc main_arg0)
abbrev G : S2816x1024.Idx → EReal := m ((c : Thread nD τ).loc main_arg1)
abbrev U : S2816x1024.Idx → EReal := m ((c : Thread nD τ).loc main_arg2)

theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem index3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)
theorem index4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem index5 : ∀ t : Fin cfg0.N, win0_5.index t (0 : Fin 2) = t.val % 8 ∧ win0_5.index t (1 : Fin 2) = t.val / 8 :=
  (by decide +kernel : ∀ t : Fin grid0.N, win0_5.index t (0 : Fin 2) = t.val % 8 ∧ win0_5.index t (1 : Fin 2) = t.val / 8)

theorem points (t : Fin cfg0.N) : t.val < 16 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .bf16) (ix2 a b) = at2 (X m c) (512 * (t.val % 8) + a) (1024 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 1024 + b.val = _; omega)))

theorem block1 (a : Fin 1408) (b : Fin 1024) : (iblk m c 1 t : Vec Ideal S1408x1024 .bf16) (ix2 a b) = at2 (G m c) (1408 * (t.val / 8) + a) (1024 * (0) + b) :=
  (congrFun (V_main_arg1 m c) (((cfg0.win 1).blk t).view.emb (ix2 a b))).trans (at2_eq _ _ _ _
    (place win0_1 (index1 t).1 (by show (t.val / 8) * 1408 + a.val = _; omega))
    (place win0_1 (index1 t).2 (by show (0) * 1024 + b.val = _; omega)))

theorem block2 (a : Fin 1408) (b : Fin 1024) : (iblk m c 2 t : Vec Ideal S1408x1024 .bf16) (ix2 a b) = at2 (U m c) (1408 * (t.val / 8) + a) (1024 * (0) + b) :=
  (congrFun (V_main_arg2 m c) (((cfg0.win 2).blk t).view.emb (ix2 a b))).trans (at2_eq _ _ _ _
    (place win0_2 (index2 t).1 (by show (t.val / 8) * 1408 + a.val = _; omega))
    (place win0_2 (index2 t).2 (by show (0) * 1024 + b.val = _; omega)))

/-- A tile's products at one element. -/
theorem gate_apply (v0 : Vec Ideal S512x1024 .bf16) (v1 : Vec Ideal S1408x1024 .bf16) (r : Fin 512) (l : Fin 1408) :
    (k0_pay1 (F := Ideal) v0 v1 : S512x1408.Idx → EReal) (ix2 r l) = ∑ x : Fin 1024, v0 (ix2 r x) * v1 (ix2 l x) := by
  pointwise [k0_pay1]

theorem up_apply (v0 : Vec Ideal S512x1024 .bf16) (v3 : Vec Ideal S1408x1024 .bf16) (r : Fin 512) (l : Fin 1408) :
    (k0_pay2 (F := Ideal) v0 v3 : S512x1408.Idx → EReal) (ix2 r l) = ∑ x : Fin 1024, v0 (ix2 r x) * v3 (ix2 l x) := by
  pointwise [k0_pay2]

theorem gate_block (r : Fin 512) (l : Fin 1408) :
    (k0_pay1 (F := Ideal) (iblk m c 0 t) (iblk m c 1 t) : S512x1408.Idx → EReal) (ix2 r l) = prod (X m c) (G m c) (512 * (t.val % 8) + r) (1408 * (t.val / 8) + l) := by
  unfold prod
  rw [gate_apply, ← dot_fin]
  refine Finset.sum_congr rfl fun x _ => ?_
  rw [block0 m c t, block1 m c t]
  simp only [Nat.mul_zero, Nat.zero_add]

theorem up_block (r : Fin 512) (l : Fin 1408) :
    (k0_pay2 (F := Ideal) (iblk m c 0 t) (iblk m c 2 t) : S512x1408.Idx → EReal) (ix2 r l) = prod (X m c) (U m c) (512 * (t.val % 8) + r) (1408 * (t.val / 8) + l) := by
  unfold prod
  rw [up_apply, ← dot_fin]
  refine Finset.sum_congr rfl fun x _ => ?_
  rw [block0 m c t, block2 m c t]
  simp only [Nat.mul_zero, Nat.zero_add]

theorem kept_gate_apply (v0 : Vec Ideal S512x1024 .bf16) (v1 : Vec Ideal S1408x1024 .bf16) (r : Fin 512) (l : Fin 1408) :
    (k0_pay3 (F := Ideal) v0 v1 : S512x1408.Idx → EReal) (ix2 r l) = (k0_pay1 (F := Ideal) v0 v1 : S512x1408.Idx → EReal) (ix2 r l) := by
  unfold k0_pay3
  generalize k0_pay1 (F := Ideal) v0 v1 = p
  pointwise

theorem kept_up_apply (v0 : Vec Ideal S512x1024 .bf16) (v3 : Vec Ideal S1408x1024 .bf16) (r : Fin 512) (l : Fin 1408) :
    (k0_pay4 (F := Ideal) v0 v3 : S512x1408.Idx → EReal) (ix2 r l) = (k0_pay2 (F := Ideal) v0 v3 : S512x1408.Idx → EReal) (ix2 r l) := by
  unfold k0_pay4
  generalize k0_pay2 (F := Ideal) v0 v3 = p
  pointwise

theorem gated_apply (v0 : Vec Ideal S512x1024 .bf16) (v1 v3 : Vec Ideal S1408x1024 .bf16) (r : Fin 512) (l : Fin 1408) :
    (k0_pay5 (F := Ideal) v0 v1 v3 : S512x1408.Idx → EReal) (ix2 r l)
      = (k0_pay1 (F := Ideal) v0 v1 : S512x1408.Idx → EReal) (ix2 r l) * sigm ((k0_pay1 (F := Ideal) v0 v1 : S512x1408.Idx → EReal) (ix2 r l))
        * (k0_pay2 (F := Ideal) v0 v3 : S512x1408.Idx → EReal) (ix2 r l) := by
  unfold k0_pay5
  generalize k0_pay1 (F := Ideal) v0 v1 = p
  generalize k0_pay2 (F := Ideal) v0 v3 = q
  unfold sigm
  rw [← zero_sub, ← Ideal.ofBits_one_f32, ← Ideal.ofBits_zero_f32]
  pointwise

theorem result_block3 (r : Fin 512) (l : Fin 1408) :
    (out0_3 (F := Ideal) (iblk m c 0 t) (iblk m c 1 t) (iblk m c 2 t) : S512x1408.Idx → EReal) (ix2 r l) = prod (X m c) (G m c) (512 * (t.val % 8) + r) (1408 * (t.val / 8) + l) := by
  unfold out0_3
  rw [View.canon_unit_zero hz]
  simp only [View.ld_unit_zero (S := S512x1024) hz, View.ld_unit_zero (S := S1408x1024) hz]
  rw [kept_gate_apply, gate_block m c t]

theorem result_block4 (r : Fin 512) (l : Fin 1408) :
    (out0_4 (F := Ideal) (iblk m c 0 t) (iblk m c 1 t) (iblk m c 2 t) : S512x1408.Idx → EReal) (ix2 r l) = prod (X m c) (U m c) (512 * (t.val % 8) + r) (1408 * (t.val / 8) + l) := by
  unfold out0_4
  rw [View.canon_unit_zero hz]
  simp only [View.ld_unit_zero (S := S512x1024) hz, View.ld_unit_zero (S := S1408x1024) hz]
  rw [kept_up_apply, up_block m c t]

theorem result_block5 (r : Fin 512) (l : Fin 1408) :
    (out0_5 (F := Ideal) (iblk m c 0 t) (iblk m c 1 t) (iblk m c 2 t) : S512x1408.Idx → EReal) (ix2 r l) = gated (X m c) (G m c) (U m c) (512 * (t.val % 8) + r) (1408 * (t.val / 8) + l) := by
  unfold out0_5
  rw [View.canon_unit_zero hz]
  simp only [View.ld_unit_zero (S := S512x1024) hz, View.ld_unit_zero (S := S1408x1024) hz]
  rw [gated_apply, gate_block m c t, up_block m c t]

theorem final3 (i : S4096x2816.Idx) : ((dats m 0 c).arrAt 3 cfg0.N : S4096x2816.Idx → EReal) i = prod (X m c) (G m c) (i 0).val (i 1).val := by
  refine Dat.arrAt_forall_of_cover (dat := dats m 0 c) 3 (fun i x => x = prod (X m c) (G m c) (i 0).val (i 1).val) ?_ ?_ i
  · intro t hft y
    rw [Cert.FfnUpIdeal.Value.flushed3]
    obtain ⟨r, l, rfl⟩ : ∃ (r : Fin 512) (l : Fin 1408), y = ix2 r l := ⟨y 0, y 1, funext fun d => by fin_cases d <;> rfl⟩
    have e0 : (((cfg0.win 3).blk t).view.emb (ix2 r l) 0).val = 512 * (t.val % 8) + r.val := by
      exact place win0_3 (index3 t).1 (by show (t.val % 8) * 512 + r.val = _; omega)
    have e1 : (((cfg0.win 3).blk t).view.emb (ix2 r l) 1).val = 1408 * (t.val / 8) + l.val := by
      exact place win0_3 (index3 t).2 (by show (t.val / 8) * 1408 + l.val = _; omega)
    rw [e0, e1]
    have key := result_block3 m c t r l
    revert key
    generalize out0_3 (F := Ideal) (iblk m c 0 t) (iblk m c 1 t) (iblk m c 2 t) = B
    intro key
    exact key
  · intro i
    have h0 : (i 0).val < 4096 := (i 0).isLt
    have h1 : (i 1).val < 2816 := (i 1).isLt
    have hb : 8 * ((i 1).val / 1408) + (i 0).val / 512 < cfg0.N := Nat.lt_of_lt_of_eq (by omega) N_0.symm
    refine ⟨⟨_, hb⟩, flush0_3 _, ?_⟩
    show i ∈ ((View.whole main_v0_0).slice (win0_3.rect ⟨_, hb⟩)).set
    rw [View.set_slice_whole, Rect.mem_set_unit]
    have hi := index3 ⟨_, hb⟩
    dsimp only at hi
    intro d
    fin_cases d
    · exact between (b := 512) (n := (i 0).val) hi.1 (by omega)
    · exact between (b := 1408) (n := (i 1).val) hi.2 (by omega)

theorem final4 (i : S4096x2816.Idx) : ((dats m 0 c).arrAt 4 cfg0.N : S4096x2816.Idx → EReal) i = prod (X m c) (U m c) (i 0).val (i 1).val := by
  refine Dat.arrAt_forall_of_cover (dat := dats m 0 c) 4 (fun i x => x = prod (X m c) (U m c) (i 0).val (i 1).val) ?_ ?_ i
  · intro t hft y
    rw [Cert.FfnUpIdeal.Value.flushed4]
    obtain ⟨r, l, rfl⟩ : ∃ (r : Fin 512) (l : Fin 1408), y = ix2 r l := ⟨y 0, y 1, funext fun d => by fin_cases d <;> rfl⟩
    have e0 : (((cfg0.win 4).blk t).view.emb (ix2 r l) 0).val = 512 * (t.val % 8) + r.val := by
      exact place win0_4 (index4 t).1 (by show (t.val % 8) * 512 + r.val = _; omega)
    have e1 : (((cfg0.win 4).blk t).view.emb (ix2 r l) 1).val = 1408 * (t.val / 8) + l.val := by
      exact place win0_4 (index4 t).2 (by show (t.val / 8) * 1408 + l.val = _; omega)
    rw [e0, e1]
    have key := result_block4 m c t r l
    revert key
    generalize out0_4 (F := Ideal) (iblk m c 0 t) (iblk m c 1 t) (iblk m c 2 t) = B
    intro key
    exact key
  · intro i
    have h0 : (i 0).val < 4096 := (i 0).isLt
    have h1 : (i 1).val < 2816 := (i 1).isLt
    have hb : 8 * ((i 1).val / 1408) + (i 0).val / 512 < cfg0.N := Nat.lt_of_lt_of_eq (by omega) N_0.symm
    refine ⟨⟨_, hb⟩, flush0_4 _, ?_⟩
    show i ∈ ((View.whole main_v0_1).slice (win0_4.rect ⟨_, hb⟩)).set
    rw [View.set_slice_whole, Rect.mem_set_unit]
    have hi := index4 ⟨_, hb⟩
    dsimp only at hi
    intro d
    fin_cases d
    · exact between (b := 512) (n := (i 0).val) hi.1 (by omega)
    · exact between (b := 1408) (n := (i 1).val) hi.2 (by omega)

theorem final5 (i : S4096x2816.Idx) : ((dats m 0 c).arrAt 5 cfg0.N : S4096x2816.Idx → EReal) i = gated (X m c) (G m c) (U m c) (i 0).val (i 1).val := by
  refine Dat.arrAt_forall_of_cover (dat := dats m 0 c) 5 (fun i x => x = gated (X m c) (G m c) (U m c) (i 0).val (i 1).val) ?_ ?_ i
  · intro t hft y
    rw [Cert.FfnUpIdeal.Value.flushed5]
    obtain ⟨r, l, rfl⟩ : ∃ (r : Fin 512) (l : Fin 1408), y = ix2 r l := ⟨y 0, y 1, funext fun d => by fin_cases d <;> rfl⟩
    have e0 : (((cfg0.win 5).blk t).view.emb (ix2 r l) 0).val = 512 * (t.val % 8) + r.val := by
      exact place win0_5 (index5 t).1 (by show (t.val % 8) * 512 + r.val = _; omega)
    have e1 : (((cfg0.win 5).blk t).view.emb (ix2 r l) 1).val = 1408 * (t.val / 8) + l.val := by
      exact place win0_5 (index5 t).2 (by show (t.val / 8) * 1408 + l.val = _; omega)
    rw [e0, e1]
    have key := result_block5 m c t r l
    revert key
    generalize out0_5 (F := Ideal) (iblk m c 0 t) (iblk m c 1 t) (iblk m c 2 t) = B
    intro key
    exact key
  · intro i
    have h0 : (i 0).val < 4096 := (i 0).isLt
    have h1 : (i 1).val < 2816 := (i 1).isLt
    have hb : 8 * ((i 1).val / 1408) + (i 0).val / 512 < cfg0.N := Nat.lt_of_lt_of_eq (by omega) N_0.symm
    refine ⟨⟨_, hb⟩, flush0_5 _, ?_⟩
    show i ∈ ((View.whole main_v0_2).slice (win0_5.rect ⟨_, hb⟩)).set
    rw [View.set_slice_whole, Rect.mem_set_unit]
    have hi := index5 ⟨_, hb⟩
    dsimp only at hi
    intro d
    fin_cases d
    · exact between (b := 512) (n := (i 0).val) hi.1 (by omega)
    · exact between (b := 1408) (n := (i 1).val) hi.2 (by omega)

end

/-! ## The reference, and the claims -/

open Cert.FfnUpRefIdeal.Read

theorem reference_gate (x0 : Vec Ideal S4096x1024 .bf16) (x1 : Vec Ideal S2816x1024 .bf16) (r : Fin 4096) (q : Fin 2816) :
    (val_main_v3 (F := Ideal) x0 x1 : S4096x2816.Idx → EReal) (ix2 r q) = prod x0 x1 r q := by
  have e : (val_main_v3 (F := Ideal) x0 x1 : S4096x2816.Idx → EReal) (ix2 r q) = ∑ x : Fin 1024, x0 (ix2 r x) * x1 (ix2 q x) := by
    pointwise [val_main_v0, val_main_v1, val_main_v2, val_main_v3]
  unfold prod
  rw [e, ← dot_fin]
  refine Finset.sum_congr rfl fun x _ => ?_
  rw [at2_ix2 x0, at2_ix2 x1]

theorem reference_up (x0 : Vec Ideal S4096x1024 .bf16) (x2 : Vec Ideal S2816x1024 .bf16) (r : Fin 4096) (q : Fin 2816) :
    (val_main_v7 (F := Ideal) x0 x2 : S4096x2816.Idx → EReal) (ix2 r q) = prod x0 x2 r q := by
  have e : (val_main_v7 (F := Ideal) x0 x2 : S4096x2816.Idx → EReal) (ix2 r q) = ∑ x : Fin 1024, x0 (ix2 r x) * x2 (ix2 q x) := by
    pointwise [val_main_v4, val_main_v5, val_main_v6, val_main_v7]
  unfold prod
  rw [e, ← dot_fin]
  refine Finset.sum_congr rfl fun x _ => ?_
  rw [at2_ix2 x0, at2_ix2 x2]

theorem reference_kept_gate (x0 : Vec Ideal S4096x1024 .bf16) (x1 : Vec Ideal S2816x1024 .bf16) (r : Fin 4096) (q : Fin 2816) :
    (val_main_v8 (F := Ideal) x0 x1 : S4096x2816.Idx → EReal) (ix2 r q) = prod x0 x1 r q := by
  rw [← reference_gate]
  unfold val_main_v8
  generalize val_main_v3 (F := Ideal) x0 x1 = p
  pointwise

theorem reference_kept_up (x0 : Vec Ideal S4096x1024 .bf16) (x2 : Vec Ideal S2816x1024 .bf16) (r : Fin 4096) (q : Fin 2816) :
    (val_main_v9 (F := Ideal) x0 x2 : S4096x2816.Idx → EReal) (ix2 r q) = prod x0 x2 r q := by
  rw [← reference_up]
  unfold val_main_v9
  generalize val_main_v7 (F := Ideal) x0 x2 = p
  pointwise

theorem reference_gated (x0 : Vec Ideal S4096x1024 .bf16) (x1 x2 : Vec Ideal S2816x1024 .bf16) (r : Fin 4096) (q : Fin 2816) :
    (val_main_v12 (F := Ideal) x0 x1 x2 : S4096x2816.Idx → EReal) (ix2 r q) = gated x0 x1 x2 r q := by
  unfold gated
  rw [← reference_gate, ← reference_up]
  unfold sigm
  rw [← Ideal.ofBits_one_f32]
  unfold val_main_v12 val_main_v11 val_main_v10 val_main_call0_v5 val_main_call0_v3 val_main_call0_v1 val_main_call0_v0
  generalize val_main_v3 (F := Ideal) x0 x1 = p
  generalize val_main_v7 (F := Ideal) x0 x2 = q
  pointwise [val_main_call0_v4, val_main_call0_v2, val_main_call0_cst, val_main_call0_cst_0]

theorem frame_kernel : Cert.quiescent_FfnUp := fun m g _ => Cert.FfnUp.Gen.frame m g

theorem frame_ideal : Cert.quiescent_FfnUpIdeal := fun m g _ => Cert.FfnUpIdeal.Gen.frame m g

theorem frame_reference : Cert.quiescent_FfnUpRefIdeal := fun m g _ =>
  (θ_run Cert.FfnUpRefIdeal.defs _ _).mono (fun r h => ⟨fun c => (h c).2.2.2, sem_eq_zero_of_no_sems (by decide) r.2⟩)
    (Cert.FfnUpRefIdeal.Value.run (F := Ideal) m g)

theorem algebraic : Cert.algebraic_FfnUpIdeal_FfnUpRefIdeal := by
  pair_intro
  · run_from Cert.FfnUpIdeal.Value.run_blocks m g
  · run_from Cert.FfnUpRefIdeal.Value.run m' g'
    · refine funext fun i => ?_
      rw [final3 m c]
      exact ((congrFun (Cert.FfnUpRefIdeal.Read.val_main_v8_eq _ _) i).trans (congrArg _ (funext fun d => by fin_cases d <;> rfl))).trans (reference_kept_gate _ _ (i 0) (i 1))
    · refine funext fun i => ?_
      rw [final4 m c]
      exact ((congrFun (Cert.FfnUpRefIdeal.Read.val_main_v9_eq _ _) i).trans (congrArg _ (funext fun d => by fin_cases d <;> rfl))).trans (reference_kept_up _ _ (i 0) (i 1))
    · refine funext fun i => ?_
      rw [final5 m c]
      exact ((congrFun (Cert.FfnUpRefIdeal.Read.val_main_v12_eq _ _ _) i).trans (congrArg _ (funext fun d => by fin_cases d <;> rfl))).trans (reference_gated _ _ _ (i 0) (i 1))

end Cert.FfnUpProof

end
-- ==== Proof.DownProd.lean ====
/-
  The feed-forward block's down projection, halved and added to the block's input.
-/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.DownProof

open Idealize.ShloMosaic Idealize.ShloMosaic.TcCoe Cert.DownIdeal Cert.DownIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2816.Idx → EReal := m ((c : Thread nD τ).loc main_arg0)
abbrev Y : S2816x1024.Idx → EReal := m ((c : Thread nD τ).loc main_arg1)
/-- What the product is added to. -/
abbrev Z : S4096x1024.Idx → EReal := m ((c : Thread nD τ).loc main_arg2)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)
theorem index3 : ∀ t : Fin cfg0.N, win0_3.index t (0 : Fin 2) = t.val / 1 ∧ win0_3.index t (1 : Fin 2) = t.val / 1 % 1 :=
  (by decide +kernel : ∀ t : Fin grid0.N, win0_3.index t (0 : Fin 2) = t.val / 1 ∧ win0_3.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 2816) : (iblk m c 0 t : Vec Ideal S1024x2816 .bf16) (ix2 a b) = at2 (X m c) (1024 * (t.val / 1) + a) (2816 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 2816 + b.val = _; omega)))

theorem block1 (a : Fin 2816) (b : Fin 1024) : (iblk m c 1 t : Vec Ideal S2816x1024 .bf16) (ix2 a b) = at2 (Y m c) (2816 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 2816 + a.val = _; omega))
    (place win0_1 (index1 t).2 (by show (t.val / 1 % 1) * 1024 + b.val = _; omega)))

theorem block2 (a : Fin 1024) (b : Fin 1024) : (iblk m c 2 t : Vec Ideal S1024x1024 .f32) (ix2 a b) = at2 (Z m c) (1024 * (t.val / 1) + a) (1024 * (t.val / 1 % 1) + b) :=
  (congrFun (V_main_arg2 m c) (((cfg0.win 2).blk t).view.emb (ix2 a b))).trans (at2_eq _ _ _ _
    (place win0_2 (index2 t).1 (by show (t.val / 1) * 1024 + a.val = _; omega))
    (place win0_2 (index2 t).2 (by show (t.val / 1 % 1) * 1024 + b.val = _; omega)))

/-- What a point computes, at one element. -/
theorem tile_apply (v0 : Vec Ideal S1024x2816 .bf16) (v1 : Vec Ideal S2816x1024 .bf16) (v2 : Vec Ideal S1024x1024 .f32) (r : Fin 1024) (l : Fin 1024) :
    (k0_pay1 (F := Ideal) v0 v1 v2 : S1024x1024.Idx → EReal) (ix2 r l) = v2 (ix2 r l) + (∑ x : Fin 2816, v0 (ix2 r x) * v1 (ix2 x l)) * Ideal.ofBits .f32 0x3F000000#32 := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) k (1024 * (t.val / 1 % 1) + l)

theorem tile_sum (r : Fin 1024) (l : Fin 1024) :
    (k0_pay1 (F := Ideal) (iblk m c 0 t) (iblk m c 1 t) (iblk m c 2 t) : S1024x1024.Idx → EReal) (ix2 r l)
      = at2 (Z m c) (1024 * (t.val / 1) + r) (1024 * (t.val / 1 % 1) + l) + (∑ x : Fin 2816, left m c t r (2816 * (t.val % 1) + x) * right m c t l (2816 * (t.val % 1) + x)) * Ideal.ofBits .f32 0x3F000000#32 := by
  rw [tile_apply, block2 m c t]
  refine congrArg (_ + ·) ?_
  refine congrArg (· * _) ?_
  refine Finset.sum_congr rfl fun x _ => ?_
  rw [block0 m c t, block1 m c t]

/-- What a point leaves in the block of the result. -/
theorem result_block (r : Fin 1024) (l : Fin 1024) :
    (out0_3 (F := Ideal) (iblk m c 0 t) (iblk m c 1 t) (iblk m c 2 t) : S1024x1024.Idx → EReal) (ix2 r l) = at2 (Z m c) (1024 * (t.val / 1) + r) (1024 * (t.val / 1 % 1) + l) + dot (left m c t r) (right m c t l) 2816 * Ideal.ofBits .f32 0x3F000000#32 := by
  unfold out0_3
  rw [View.canon_unit_zero hz]
  simp only [View.ld_unit_zero (S := S1024x2816) hz, View.ld_unit_zero (S := S2816x1024) hz, View.ld_unit_zero (S := S1024x1024) hz]
  rw [tile_sum m c t r l, dot_first _ _ 2816 (t.val % 1) (by omega)]
  have e4 : 2816 * (t.val % 1 + 1) = 2816 := by omega
  rw [e4]

/-- The result at row `r`, column `q`. -/
def value (r q : ℕ) : EReal := at2 (Z m c) r q + dot (fun k => at2 (X m c) r k) (fun k => at2 (Y m c) k q) 2816 * Ideal.ofBits .f32 0x3F000000#32

/-- The result array after the run. -/
theorem final (i : S4096x1024.Idx) : ((dats m 0 c).arrAt 3 cfg0.N : S4096x1024.Idx → EReal) i = value m c (i 0).val (i 1).val := by
  refine Dat.arrAt_forall_of_cover (dat := dats m 0 c) 3 (fun i x => x = value m c (i 0).val (i 1).val) ?_ ?_ i
  · intro t hft y

    rw [Cert.DownIdeal.Value.flushed3]
    obtain ⟨r, l, rfl⟩ : ∃ (r : Fin 1024) (l : Fin 1024), y = ix2 r l := ⟨y 0, y 1, funext fun d => by fin_cases d <;> rfl⟩
    have e0 : (((cfg0.win 3).blk t).view.emb (ix2 r l) 0).val = 1024 * (t.val / 1) + r.val := by
      exact place win0_3 (index3 t).1 (by show (t.val / 1) * 1024 + r.val = _; omega)
    have e1 : (((cfg0.win 3).blk t).view.emb (ix2 r l) 1).val = 1024 * (t.val / 1 % 1) + l.val := by
      exact place win0_3 (index3 t).2 (by show (t.val / 1 % 1) * 1024 + l.val = _; omega)
    rw [e0, e1]
    have key := result_block m c t r l
    revert key
    generalize out0_3 (F := Ideal) (iblk m c 0 t) (iblk m c 1 t) (iblk m c 2 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_3 _, ?_⟩
    show i ∈ ((View.whole main_v0).slice (win0_3.rect ⟨_, hb⟩)).set
    rw [View.set_slice_whole, Rect.mem_set_unit]
    have hi := index3 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x2816 .bf16) (x1 : Vec Ideal S2816x1024 .bf16) (x2 : Vec Ideal S4096x1024 .f32) (r : Fin 4096) (q : Fin 1024) :
    (Cert.DownRefIdeal.Read.val_main_v5 (F := Ideal) x0 x1 x2 : S4096x1024.Idx → EReal) (ix2 r q) = at2 x2 r q + dot (fun k => at2 x0 r k) (fun k => at2 x1 k q) 2816 * Ideal.ofBits .f32 0x3F000000#32 := by
  have e : (Cert.DownRefIdeal.Read.val_main_v5 (F := Ideal) x0 x1 x2 : S4096x1024.Idx → EReal) (ix2 r q) = x2 (ix2 r q) + (Ideal.ofBits .f32 0x3F000000#32) * (∑ x : Fin 2816, x0 (ix2 r x) * x1 (ix2 x q)) := by
    pointwise [Cert.DownRefIdeal.Read.val_main_v0, Cert.DownRefIdeal.Read.val_main_v1, Cert.DownRefIdeal.Read.val_main_v2, Cert.DownRefIdeal.Read.val_main_cst, Cert.DownRefIdeal.Read.val_main_v3, Cert.DownRefIdeal.Read.val_main_v4, Cert.DownRefIdeal.Read.val_main_v5]
  rw [e]
  rw [at2_ix2 x2]
  refine congrArg (_ + ·) ?_
  rw [mul_comm]
  refine congrArg (· * _) ?_
  refine Eq.trans (Finset.sum_congr rfl fun x _ => ?_) (dot_fin (fun k => at2 x0 r k) (fun k => at2 x1 k q) 2816)
  rw [at2_ix2 x0, at2_ix2 x1]

theorem frame_kernel : Cert.quiescent_Down := fun m g _ => Cert.Down.Gen.frame m g

theorem frame_ideal : Cert.quiescent_DownIdeal := fun m g _ => Cert.DownIdeal.Gen.frame m g

theorem frame_reference : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem algebraic : Cert.algebraic_DownIdeal_DownRefIdeal := by
  pair_intro
  · run_from Cert.DownIdeal.Value.run_blocks m g
  · run_from Cert.DownRefIdeal.Value.run m' g'
    refine funext fun i => ?_
    rw [Cert.DownProof.final m c]
    exact ((congrFun (Cert.DownRefIdeal.Read.val_main_v5_eq _ _ _) i).trans (congrArg _ (funext fun d => by fin_cases d <;> rfl))).trans (reference_apply _ _ _ (i 0) (i 1))

end Cert.DownProof

end
-- ==== Proof.InProjProd.lean ====
/-
  The mixer's input projection.
-/
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.InProjProof

open Idealize.ShloMosaic Idealize.ShloMosaic.TcCoe Cert.InProjIdeal Cert.InProjIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S10240x1024.Idx → EReal := m ((c : Thread nD τ).loc main_arg1)

theorem index0 : ∀ t : Fin cfg0.N, win0_0.index t (0 : Fin 2) = t.val / 10 ∧ win0_0.index t (1 : Fin 2) = t.val % 1 :=
  (by decide +kernel : ∀ t : Fin grid0.N, win0_0.index t (0 : Fin 2) = t.val / 10 ∧ win0_0.index t (1 : Fin 2) = t.val % 1)
theorem index1 : ∀ t : Fin cfg0.N, win0_1.index t (0 : Fin 2) = t.val / 1 % 10 ∧ win0_1.index t (1 : Fin 2) = t.val % 1 :=
  (by decide +kernel : ∀ t : Fin grid0.N, win0_1.index t (0 : Fin 2) = t.val / 1 % 10 ∧ win0_1.index t (1 : Fin 2) = t.val % 1)
theorem index2 : ∀ t : Fin cfg0.N, win0_2.index t (0 : Fin 2) = t.val / 10 ∧ win0_2.index t (1 : Fin 2) = t.val / 1 % 10 :=
  (by decide +kernel : ∀ t : Fin grid0.N, win0_2.index t (0 : Fin 2) = t.val / 10 ∧ win0_2.index t (1 : Fin 2) = t.val / 1 % 10)

theorem points (t : Fin cfg0.N) : t.val < 40 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 10) + a) (1024 * (t.val % 1) + b) :=
  (congrFun (V_main_arg0 m c) (((cfg0.win 0).blk t).view.emb (ix2 a b))).trans (at2_eq _ _ _ _
    (place win0_0 (index0 t).1 (by show (t.val / 10) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val / 1 % 10) + a) (1024 * (t.val % 1) + b) :=
  (congrFun (V_main_arg1 m c) (((cfg0.win 1).blk t).view.emb (ix2 a b))).trans (at2_eq _ _ _ _
    (place win0_1 (index1 t).1 (by show (t.val / 1 % 10) * 1024 + a.val = _; omega))
    (place win0_1 (index1 t).2 (by show (t.val % 1) * 1024 + b.val = _; omega)))

/-- What a point computes, at one element. -/
theorem tile_apply (v0 : Vec Ideal S1024x1024 .bf16) (v1 : Vec Ideal S1024x1024 .bf16) (r : Fin 1024) (l : Fin 1024) :
    (k0_pay1 (F := Ideal) v0 v1 : S1024x1024.Idx → EReal) (ix2 r l) = ∑ x : Fin 1024, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 10) + r) k
abbrev right (l : ℕ) : ℕ → EReal := fun k => at2 (Y m c) (1024 * (t.val / 1 % 10) + l) k

theorem tile_sum (r : Fin 1024) (l : Fin 1024) :
    (k0_pay1 (F := Ideal) (iblk m c 0 t) (iblk m c 1 t) : S1024x1024.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 1024 := by
  unfold out0_2
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) q k) 1024

/-- The result array after the run. -/
theorem final (i : S4096x10240.Idx) : ((dats m 0 c).arrAt 2 cfg0.N : S4096x10240.Idx → EReal) i = value m c (i 0).val (i 1).val := by
  refine Dat.arrAt_forall_of_cover (dat := dats m 0 c) 2 (fun i x => x = value m c (i 0).val (i 1).val) ?_ ?_ i
  · intro t hft y

    rw [Cert.InProjIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 10) + r.val := by
      exact place win0_2 (index2 t).1 (by show (t.val / 10) * 1024 + r.val = _; omega)
    have e1 : (((cfg0.win 2).blk t).view.emb (ix2 r l) 1).val = 1024 * (t.val / 1 % 10) + l.val := by
      exact place win0_2 (index2 t).2 (by show (t.val / 1 % 10) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 10240 := (i 1).isLt
    have hb : 10 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S10240x1024 .bf16) (r : Fin 4096) (q : Fin 10240) :
    (Cert.InProjRefIdeal.Read.val_main_v4 (F := Ideal) x0 x1 : S4096x10240.Idx → EReal) (ix2 r q) = dot (fun k => at2 x0 r k) (fun k => at2 x1 q k) 1024 := by
  have e : (Cert.InProjRefIdeal.Read.val_main_v4 (F := Ideal) x0 x1 : S4096x10240.Idx → EReal) (ix2 r q) = ∑ x : Fin 1024, x0 (ix2 r x) * x1 (ix2 q x) := by
    pointwise [Cert.InProjRefIdeal.Read.val_main_v0, Cert.InProjRefIdeal.Read.val_main_v1, Cert.InProjRefIdeal.Read.val_main_v2, Cert.InProjRefIdeal.Read.val_main_v3, Cert.InProjRefIdeal.Read.val_main_v4]
  rw [e]
  refine Eq.trans (Finset.sum_congr rfl fun x _ => ?_) (dot_fin (fun k => at2 x0 r k) (fun k => at2 x1 q k) 1024)
  rw [at2_ix2 x0, at2_ix2 x1]

theorem frame_kernel : Cert.quiescent_InProj := fun m g _ => Cert.InProj.Gen.frame m g

theorem frame_ideal : Cert.quiescent_InProjIdeal := fun m g _ => Cert.InProjIdeal.Gen.frame m g

theorem frame_reference : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

theorem algebraic : Cert.algebraic_InProjIdeal_InProjRefIdeal := by
  pair_intro
  · run_from Cert.InProjIdeal.Value.run_blocks m g
  · run_from Cert.InProjRefIdeal.Value.run m' g'
    refine funext fun i => ?_
    rw [Cert.InProjProof.final m c]
    exact ((congrFun (Cert.InProjRefIdeal.Read.val_main_v4_eq _ _) i).trans (congrArg _ (funext fun d => by fin_cases d <;> rfl))).trans (reference_apply _ _ (i 0) (i 1))

end Cert.InProjProof

end
-- ==== Proof.InProjDtProd.lean ====
/-
  The step sizes' projection.
-/
module

public import proofs.«01_k».proof.Defs
public import proofs.«01_k».proof.Proof.Gen.InProjDt.Frame
public import proofs.«01_k».proof.Proof.Gen.InProjDtIdeal.Value
public import proofs.«01_k».proof.Proof.Gen.InProjDtRefIdeal.Run
public import proofs.«01_k».proof.Proof.Gen.InProjDtRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.InProjDtProof

open Idealize.ShloMosaic Idealize.ShloMosaic.TcCoe Cert.InProjDtIdeal Cert.InProjDtIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S32x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val / 1 % 1 ∧ win0_1.index t (1 : Fin 2) = t.val % 1 :=
  (by decide +kernel : ∀ t : Fin grid0.N, win0_1.index t (0 : Fin 2) = t.val / 1 % 1 ∧ win0_1.index t (1 : Fin 2) = t.val % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 1) + a) (1024 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 1024 + b.val = _; omega)))

theorem block1 (a : Fin 32) (b : Fin 1024) : (iblk m c 1 t : Vec Ideal S32x1024 .bf16) (ix2 a b) = at2 (Y m c) (32 * (t.val / 1 % 1) + a) (1024 * (t.val % 1) + b) :=
  (congrFun (V_main_arg1 m c) (((cfg0.win 1).blk t).view.emb (ix2 a b))).trans (at2_eq _ _ _ _
    (place win0_1 (index1 t).1 (by show (t.val / 1 % 1) * 32 + a.val = _; omega))
    (place win0_1 (index1 t).2 (by show (t.val % 1) * 1024 + b.val = _; omega)))

/-- What a point computes, at one element. -/
theorem tile_apply (v0 : Vec Ideal S1024x1024 .bf16) (v1 : Vec Ideal S32x1024 .bf16) (r : Fin 1024) (l : Fin 32) :
    (k0_pay1 (F := Ideal) v0 v1 : S1024x32.Idx → EReal) (ix2 r l) = ∑ x : Fin 1024, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) (32 * (t.val / 1 % 1) + l) k

theorem tile_sum (r : Fin 1024) (l : Fin 32) :
    (k0_pay1 (F := Ideal) (iblk m c 0 t) (iblk m c 1 t) : S1024x32.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 32) :
    (out0_2 (F := Ideal) (iblk m c 0 t) (iblk m c 1 t) : S1024x32.Idx → EReal) (ix2 r l) = dot (left m c t r) (right m c t l) 1024 := by
  unfold out0_2
  rw [View.canon_unit_zero hz]
  simp only [View.ld_unit_zero (S := S1024x1024) hz, View.ld_unit_zero (S := S32x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) q k) 1024

/-- The result array after the run. -/
theorem final (i : S4096x32.Idx) : ((dats m 0 c).arrAt 2 cfg0.N : S4096x32.Idx → EReal) i = value m c (i 0).val (i 1).val := by
  refine Dat.arrAt_forall_of_cover (dat := dats m 0 c) 2 (fun i x => x = value m c (i 0).val (i 1).val) ?_ ?_ i
  · intro t hft y

    rw [Cert.InProjDtIdeal.Value.flushed2]
    obtain ⟨r, l, rfl⟩ : ∃ (r : Fin 1024) (l : Fin 32), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 32 * (t.val / 1 % 1) + l.val := by
      exact place win0_2 (index2 t).2 (by show (t.val / 1 % 1) * 32 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 32 := (i 1).isLt
    have hb : 1 * ((i 0).val / 1024) + 1 * ((i 1).val / 32) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 32) (n := (i 1).val) hi.2 (by omega)

end

/-! ## The reference, and the claims -/

/-- The reference's result at one element. -/
theorem reference_apply (x0 : Vec Ideal S4096x1024 .bf16) (x1 : Vec Ideal S32x1024 .bf16) (r : Fin 4096) (q : Fin 32) :
    (Cert.InProjDtRefIdeal.Read.val_main_v3 (F := Ideal) x0 x1 : S4096x32.Idx → EReal) (ix2 r q) = dot (fun k => at2 x0 r k) (fun k => at2 x1 q k) 1024 := by
  have e : (Cert.InProjDtRefIdeal.Read.val_main_v3 (F := Ideal) x0 x1 : S4096x32.Idx → EReal) (ix2 r q) = ∑ x : Fin 1024, x0 (ix2 r x) * x1 (ix2 q x) := by
    pointwise [Cert.InProjDtRefIdeal.Read.val_main_v0, Cert.InProjDtRefIdeal.Read.val_main_v1, Cert.InProjDtRefIdeal.Read.val_main_v2, Cert.InProjDtRefIdeal.Read.val_main_v3]
  rw [e]
  refine Eq.trans (Finset.sum_congr rfl fun x _ => ?_) (dot_fin (fun k => at2 x0 r k) (fun k => at2 x1 q k) 1024)
  rw [at2_ix2 x0, at2_ix2 x1]

theorem frame_kernel : Cert.quiescent_InProjDt := fun m g _ => Cert.InProjDt.Gen.frame m g

theorem frame_ideal : Cert.quiescent_InProjDtIdeal := fun m g _ => Cert.InProjDtIdeal.Gen.frame m g

theorem frame_reference : Cert.quiescent_InProjDtRefIdeal := fun m g _ =>
  (θ_run Cert.InProjDtRefIdeal.defs _ _).mono (fun r h => ⟨fun c => (h c).2, sem_eq_zero_of_no_sems (by decide) r.2⟩)
    (Cert.InProjDtRefIdeal.Value.run (F := Ideal) m g)

theorem algebraic : Cert.algebraic_InProjDtIdeal_InProjDtRefIdeal := by
  pair_intro
  · run_from Cert.InProjDtIdeal.Value.run_blocks m g
  · run_from Cert.InProjDtRefIdeal.Value.run m' g'
    refine funext fun i => ?_
    rw [Cert.InProjDtProof.final m c]
    exact ((congrFun (Cert.InProjDtRefIdeal.Read.val_main_v3_eq _ _) i).trans (congrArg _ (funext fun d => by fin_cases d <;> rfl))).trans (reference_apply _ _ (i 0) (i 1))

end Cert.InProjDtProof

end
-- ==== Proof.PleProjProd.lean ====
/-
  The per-layer embedding's projection.
-/
module

public import proofs.«01_k».proof.Defs
public import proofs.«01_k».proof.Proof.Gen.PleProj.Frame
public import proofs.«01_k».proof.Proof.Gen.PleProjIdeal.Value
public import proofs.«01_k».proof.Proof.Gen.PleProjRefIdeal.Run
public import proofs.«01_k».proof.Proof.Gen.PleProjRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.PleProjProof

open Idealize.ShloMosaic Idealize.ShloMosaic.TcCoe Cert.PleProjIdeal Cert.PleProjIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x256.Idx → EReal := m ((c : Thread nD τ).loc main_arg0)
abbrev Y : S1024x256.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val / 1 % 1 ∧ win0_1.index t (1 : Fin 2) = t.val % 1 :=
  (by decide +kernel : ∀ t : Fin grid0.N, win0_1.index t (0 : Fin 2) = t.val / 1 % 1 ∧ win0_1.index t (1 : Fin 2) = t.val % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 256) : (iblk m c 0 t : Vec Ideal S1024x256 .f32) (ix2 a b) = at2 (X m c) (1024 * (t.val / 1) + a) (256 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 256 + b.val = _; omega)))

theorem block1 (a : Fin 1024) (b : Fin 256) : (iblk m c 1 t : Vec Ideal S1024x256 .bf16) (ix2 a b) = at2 (Y m c) (1024 * (t.val / 1 % 1) + a) (256 * (t.val % 1) + b) :=
  (congrFun (V_main_arg1 m c) (((cfg0.win 1).blk t).view.emb (ix2 a b))).trans (at2_eq _ _ _ _
    (place win0_1 (index1 t).1 (by show (t.val / 1 % 1) * 1024 + a.val = _; omega))
    (place win0_1 (index1 t).2 (by show (t.val % 1) * 256 + b.val = _; omega)))

/-- What a point computes, at one element. -/
theorem tile_apply (v0 : Vec Ideal S1024x256 .f32) (v1 : Vec Ideal S1024x256 .bf16) (r : Fin 1024) (l : Fin 1024) :
    (k0_pay1 (F := Ideal) v0 v1 : S1024x1024.Idx → EReal) (ix2 r l) = ∑ x : Fin 256, v0 (ix2 r x) * v1 (ix2 l x) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) (1024 * (t.val / 1 % 1) + l) k

theorem tile_sum (r : Fin 1024) (l : Fin 1024) :
    (k0_pay1 (F := Ideal) (iblk m c 0 t) (iblk m c 1 t) : S1024x1024.Idx → EReal) (ix2 r l)
      = ∑ x : Fin 256, left m c t r (256 * (t.val % 1) + x) * right m c t l (256 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 256 := by
  unfold out0_2
  rw [View.canon_unit_zero hz]
  simp only [View.ld_unit_zero (S := S1024x256) hz]
  rw [tile_sum m c t r l, dot_first _ _ 256 (t.val % 1) (by omega)]
  have e4 : 256 * (t.val % 1 + 1) = 256 := by omega
  rw [e4]

/-- The result at row `r`, column `q`. -/
def value (r q : ℕ) : EReal := dot (fun k => at2 (X m c) r k) (fun k => at2 (Y m c) q k) 256

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.PleProjIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x256 .f32) (x1 : Vec Ideal S1024x256 .bf16) (r : Fin 4096) (q : Fin 1024) :
    (Cert.PleProjRefIdeal.Read.val_main_v3 (F := Ideal) x0 x1 : S4096x1024.Idx → EReal) (ix2 r q) = dot (fun k => at2 x0 r k) (fun k => at2 x1 q k) 256 := by
  have e : (Cert.PleProjRefIdeal.Read.val_main_v3 (F := Ideal) x0 x1 : S4096x1024.Idx → EReal) (ix2 r q) = ∑ x : Fin 256, x0 (ix2 r x) * x1 (ix2 q x) := by
    pointwise [Cert.PleProjRefIdeal.Read.val_main_v0, Cert.PleProjRefIdeal.Read.val_main_v1, Cert.PleProjRefIdeal.Read.val_main_v2, Cert.PleProjRefIdeal.Read.val_main_v3]
  rw [e]
  refine Eq.trans (Finset.sum_congr rfl fun x _ => ?_) (dot_fin (fun k => at2 x0 r k) (fun k => at2 x1 q k) 256)
  rw [at2_ix2 x0, at2_ix2 x1]

theorem frame_kernel : Cert.quiescent_PleProj := fun m g _ => Cert.PleProj.Gen.frame m g

theorem frame_ideal : Cert.quiescent_PleProjIdeal := fun m g _ => Cert.PleProjIdeal.Gen.frame m g

theorem frame_reference : Cert.quiescent_PleProjRefIdeal := fun m g _ =>
  (θ_run Cert.PleProjRefIdeal.defs _ _).mono (fun r h => ⟨fun c => (h c).2, sem_eq_zero_of_no_sems (by decide) r.2⟩)
    (Cert.PleProjRefIdeal.Value.run (F := Ideal) m g)

theorem algebraic : Cert.algebraic_PleProjIdeal_PleProjRefIdeal := by
  pair_intro
  · run_from Cert.PleProjIdeal.Value.run_blocks m g
  · run_from Cert.PleProjRefIdeal.Value.run m' g'
    refine funext fun i => ?_
    rw [Cert.PleProjProof.final m c]
    exact ((congrFun (Cert.PleProjRefIdeal.Read.val_main_v3_eq _ _) i).trans (congrArg _ (funext fun d => by fin_cases d <;> rfl))).trans (reference_apply _ _ (i 0) (i 1))

end Cert.PleProjProof

end
-- ==== Proof.ScOutProd.lean ====
/-
  The convolution branch's output product (and, the same call, the per-layer gate's product).
-/
module

public import proofs.«01_k».proof.Defs
public import proofs.«01_k».proof.Proof.Gen.ScOut.Frame
public import proofs.«01_k».proof.Proof.Gen.ScOutIdeal.Value
public import proofs.«01_k».proof.Proof.Gen.ScOutRefIdeal.Run
public import proofs.«01_k».proof.Proof.Gen.ScOutRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.ScOutProof

open Idealize.ShloMosaic Idealize.ShloMosaic.TcCoe Cert.ScOutIdeal Cert.ScOutIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S1024x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 1) + a) (1024 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 1024 + a.val = _; omega))
    (place win0_1 (index1 t).2 (by show (t.val / 1 % 1) * 1024 + b.val = _; omega)))

/-- What a point computes, at one element. -/
theorem tile_apply (v0 : Vec Ideal S1024x1024 .bf16) (v1 : Vec Ideal S1024x1024 .bf16) (r : Fin 1024) (l : Fin 1024) :
    (k0_pay1 (F := Ideal) v0 v1 : S1024x1024.Idx → EReal) (ix2 r l) = ∑ x : Fin 1024, v0 (ix2 r x) * v1 (ix2 x l) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) k (1024 * (t.val / 1 % 1) + l)

theorem tile_sum (r : Fin 1024) (l : Fin 1024) :
    (k0_pay1 (F := Ideal) (iblk m c 0 t) (iblk m c 1 t) : S1024x1024.Idx → EReal) (ix2 r l)
      = ∑ x : Fin 1024, left m c t r (1024 * (t.val % 1) + x) * right m c t l (1024 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 1024 := by
  unfold out0_2
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := dot (fun k => at2 (X m c) r k) (fun k => at2 (Y m c) k q) 1024

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.ScOutIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S1024x1024 .bf16) (r : Fin 4096) (q : Fin 1024) :
    (Cert.ScOutRefIdeal.Read.val_main_v3 (F := Ideal) x0 x1 : S4096x1024.Idx → EReal) (ix2 r q) = dot (fun k => at2 x0 r k) (fun k => at2 x1 k q) 1024 := by
  have e : (Cert.ScOutRefIdeal.Read.val_main_v3 (F := Ideal) x0 x1 : S4096x1024.Idx → EReal) (ix2 r q) = ∑ x : Fin 1024, x0 (ix2 r x) * x1 (ix2 x q) := by
    pointwise [Cert.ScOutRefIdeal.Read.val_main_v0, Cert.ScOutRefIdeal.Read.val_main_v1, Cert.ScOutRefIdeal.Read.val_main_v2, Cert.ScOutRefIdeal.Read.val_main_v3]
  rw [e]
  refine Eq.trans (Finset.sum_congr rfl fun x _ => ?_) (dot_fin (fun k => at2 x0 r k) (fun k => at2 x1 k q) 1024)
  rw [at2_ix2 x0, at2_ix2 x1]

theorem frame_kernel : Cert.quiescent_ScOut := fun m g _ => Cert.ScOut.Gen.frame m g

theorem frame_ideal : Cert.quiescent_ScOutIdeal := fun m g _ => Cert.ScOutIdeal.Gen.frame m g

theorem frame_reference : Cert.quiescent_ScOutRefIdeal := fun m g _ =>
  (θ_run Cert.ScOutRefIdeal.defs _ _).mono (fun r h => ⟨fun c => (h c).2, sem_eq_zero_of_no_sems (by decide) r.2⟩)
    (Cert.ScOutRefIdeal.Value.run (F := Ideal) m g)

theorem algebraic : Cert.algebraic_ScOutIdeal_ScOutRefIdeal := by
  pair_intro
  · run_from Cert.ScOutIdeal.Value.run_blocks m g
  · run_from Cert.ScOutRefIdeal.Value.run m' g'
    refine funext fun i => ?_
    rw [Cert.ScOutProof.final m c]
    exact ((congrFun (Cert.ScOutRefIdeal.Read.val_main_v3_eq _ _) i).trans (congrArg _ (funext fun d => by fin_cases d <;> rfl))).trans (reference_apply _ _ (i 0) (i 1))

end Cert.ScOutProof

end
-- ==== Proof.MOutProd.lean ====
/-
  The recurrence branch's output product.
-/
module

public import proofs.«01_k».proof.Defs
public import proofs.«01_k».proof.Proof.Gen.MOut.Frame
public import proofs.«01_k».proof.Proof.Gen.MOutIdeal.Value
public import proofs.«01_k».proof.Proof.Gen.MOutRefIdeal.Run
public import proofs.«01_k».proof.Proof.Gen.MOutRefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.MOutProof

open Idealize.ShloMosaic Idealize.ShloMosaic.TcCoe Cert.MOutIdeal Cert.MOutIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x2048.Idx → EReal := m ((c : Thread nD τ).loc main_arg0)
abbrev Y : S2048x1024.Idx → EReal := m ((c : Thread nD τ).loc main_arg1)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 2048) : (iblk m c 0 t : Vec Ideal S1024x2048 .bf16) (ix2 a b) = at2 (X m c) (1024 * (t.val / 1) + a) (2048 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 2048 + b.val = _; omega)))

theorem block1 (a : Fin 2048) (b : Fin 1024) : (iblk m c 1 t : Vec Ideal S2048x1024 .bf16) (ix2 a b) = at2 (Y m c) (2048 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 2048 + a.val = _; omega))
    (place win0_1 (index1 t).2 (by show (t.val / 1 % 1) * 1024 + b.val = _; omega)))

/-- What a point computes, at one element. -/
theorem tile_apply (v0 : Vec Ideal S1024x2048 .bf16) (v1 : Vec Ideal S2048x1024 .bf16) (r : Fin 1024) (l : Fin 1024) :
    (k0_pay1 (F := Ideal) v0 v1 : S1024x1024.Idx → EReal) (ix2 r l) = ∑ x : Fin 2048, v0 (ix2 r x) * v1 (ix2 x l) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) k (1024 * (t.val / 1 % 1) + l)

theorem tile_sum (r : Fin 1024) (l : Fin 1024) :
    (k0_pay1 (F := Ideal) (iblk m c 0 t) (iblk m c 1 t) : S1024x1024.Idx → EReal) (ix2 r l)
      = ∑ x : Fin 2048, left m c t r (2048 * (t.val % 1) + x) * right m c t l (2048 * (t.val % 1) + x) := by
  rw [tile_apply]
  refine Finset.sum_congr rfl fun x _ => ?_
  rw [block0 m c t, block1 m c t]

/-- What a point leaves in the block of the result. -/
theorem result_block (r : Fin 1024) (l : Fin 1024) :
    (out0_2 (F := Ideal) (iblk m c 0 t) (iblk m c 1 t) : S1024x1024.Idx → EReal) (ix2 r l) = dot (left m c t r) (right m c t l) 2048 := by
  unfold out0_2
  rw [View.canon_unit_zero hz]
  simp only [View.ld_unit_zero (S := S1024x2048) hz, View.ld_unit_zero (S := S2048x1024) hz]
  rw [tile_sum m c t r l, dot_first _ _ 2048 (t.val % 1) (by omega)]
  have e4 : 2048 * (t.val % 1 + 1) = 2048 := by omega
  rw [e4]

/-- The result at row `r`, column `q`. -/
def value (r q : ℕ) : EReal := dot (fun k => at2 (X m c) r k) (fun k => at2 (Y m c) k q) 2048

/-- The result array after the run. -/
theorem final (i : S4096x1024.Idx) : ((dats m 0 c).arrAt 2 cfg0.N : S4096x1024.Idx → EReal) i = value m c (i 0).val (i 1).val := by
  refine Dat.arrAt_forall_of_cover (dat := dats m 0 c) 2 (fun i x => x = value m c (i 0).val (i 1).val) ?_ ?_ i
  · intro t hft y

    rw [Cert.MOutIdeal.Value.flushed2]
    obtain ⟨r, l, rfl⟩ : ∃ (r : Fin 1024) (l : Fin 1024), y = ix2 r l := ⟨y 0, y 1, funext fun d => by fin_cases d <;> rfl⟩
    have e0 : (((cfg0.win 2).blk t).view.emb (ix2 r l) 0).val = 1024 * (t.val / 1) + r.val := by
      exact place win0_2 (index2 t).1 (by show (t.val / 1) * 1024 + r.val = _; omega)
    have e1 : (((cfg0.win 2).blk t).view.emb (ix2 r l) 1).val = 1024 * (t.val / 1 % 1) + l.val := by
      exact place win0_2 (index2 t).2 (by show (t.val / 1 % 1) * 1024 + l.val = _; omega)
    rw [e0, e1]
    have key := result_block m c t r l
    revert key
    generalize out0_2 (F := Ideal) (iblk m c 0 t) (iblk m c 1 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_2 _, ?_⟩
    show i ∈ ((View.whole main_v0).slice (win0_2.rect ⟨_, hb⟩)).set
    rw [View.set_slice_whole, Rect.mem_set_unit]
    have hi := index2 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x2048 .bf16) (x1 : Vec Ideal S2048x1024 .bf16) (r : Fin 4096) (q : Fin 1024) :
    (Cert.MOutRefIdeal.Read.val_main_v3 (F := Ideal) x0 x1 : S4096x1024.Idx → EReal) (ix2 r q) = dot (fun k => at2 x0 r k) (fun k => at2 x1 k q) 2048 := by
  have e : (Cert.MOutRefIdeal.Read.val_main_v3 (F := Ideal) x0 x1 : S4096x1024.Idx → EReal) (ix2 r q) = ∑ x : Fin 2048, x0 (ix2 r x) * x1 (ix2 x q) := by
    pointwise [Cert.MOutRefIdeal.Read.val_main_v0, Cert.MOutRefIdeal.Read.val_main_v1, Cert.MOutRefIdeal.Read.val_main_v2, Cert.MOutRefIdeal.Read.val_main_v3]
  rw [e]
  refine Eq.trans (Finset.sum_congr rfl fun x _ => ?_) (dot_fin (fun k => at2 x0 r k) (fun k => at2 x1 k q) 2048)
  rw [at2_ix2 x0, at2_ix2 x1]

theorem frame_kernel : Cert.quiescent_MOut := fun m g _ => Cert.MOut.Gen.frame m g

theorem frame_ideal : Cert.quiescent_MOutIdeal := fun m g _ => Cert.MOutIdeal.Gen.frame m g

theorem frame_reference : Cert.quiescent_MOutRefIdeal := fun m g _ =>
  (θ_run Cert.MOutRefIdeal.defs _ _).mono (fun r h => ⟨fun c => (h c).2, sem_eq_zero_of_no_sems (by decide) r.2⟩)
    (Cert.MOutRefIdeal.Value.run (F := Ideal) m g)

theorem algebraic : Cert.algebraic_MOutIdeal_MOutRefIdeal := by
  pair_intro
  · run_from Cert.MOutIdeal.Value.run_blocks m g
  · run_from Cert.MOutRefIdeal.Value.run m' g'
    refine funext fun i => ?_
    rw [Cert.MOutProof.final m c]
    exact ((congrFun (Cert.MOutRefIdeal.Read.val_main_v3_eq _ _) i).trans (congrArg _ (funext fun d => by fin_cases d <;> rfl))).trans (reference_apply _ _ (i 0) (i 1))

end Cert.MOutProof

end
-- ==== Proof.WOProd.lean ====
/-
  The mixer's last product, added to the block's input.
-/
module

public import proofs.«01_k».proof.Defs
public import proofs.«01_k».proof.Proof.Gen.WO.Frame
public import proofs.«01_k».proof.Proof.Gen.WOIdeal.Value
public import proofs.«01_k».proof.Proof.Gen.WORefIdeal.Run
public import proofs.«01_k».proof.Proof.Gen.WORefIdeal.Read
public import proofs.«01_k».proof.Proof.Dot
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.WOProof

open Idealize.ShloMosaic Idealize.ShloMosaic.TcCoe Cert.WOIdeal Cert.WOIdeal.Gen Cert.At Cert.Dot Idealize.SL.Sem
open Idealize.ShloMosaic.Pipeline (Dat)
open scoped BigOperators

section
variable (m : (ℓ : Loc nD τ sig) → Buf (Elt Ideal) ℓ) (c : Dev nD)

/-- The two factors, as launched. -/
abbrev X : S4096x1024.Idx → EReal := m ((c : Thread nD τ).loc main_arg0)
abbrev Y : S1024x1024.Idx → EReal := m ((c : Thread nD τ).loc main_arg1)
/-- What the product is added to. -/
abbrev Z : S4096x1024.Idx → EReal := m ((c : Thread nD τ).loc main_arg2)

theorem index0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)
theorem index3 : ∀ t : Fin cfg0.N, win0_3.index t (0 : Fin 2) = t.val / 1 ∧ win0_3.index t (1 : Fin 2) = t.val / 1 % 1 :=
  (by decide +kernel : ∀ t : Fin grid0.N, win0_3.index t (0 : Fin 2) = t.val / 1 ∧ win0_3.index t (1 : Fin 2) = t.val / 1 % 1)

theorem points (t : Fin cfg0.N) : t.val < 4 := Nat.lt_of_lt_of_eq t.isLt N_0

theorem hz : (![0, 0] : Fin 2 → Nat) = fun _ => 0 := funext fun a => by fin_cases a <;> rfl

variable (t : Fin cfg0.N)

theorem block0 (a : Fin 1024) (b : Fin 1024) : (iblk m c 0 t : Vec Ideal S1024x1024 .bf16) (ix2 a b) = at2 (X m c) (1024 * (t.val / 1) + a) (1024 * (t.val % 1) + b) :=
  (congrFun (V_main_arg0 m c) (((cfg0.win 0).blk t).view.emb (ix2 a b))).trans (at2_eq _ _ _ _
    (place win0_0 (index0 t).1 (by show (t.val / 1) * 1024 + a.val = _; omega))
    (place win0_0 (index0 t).2 (by show (t.val % 1) * 1024 + b.val = _; omega)))

theorem block1 (a : Fin 1024) (b : Fin 1024) : (iblk m c 1 t : Vec Ideal S1024x1024 .bf16) (ix2 a b) = at2 (Y m c) (1024 * (t.val % 1) + a) (1024 * (t.val / 1 % 1) + b) :=
  (congrFun (V_main_arg1 m c) (((cfg0.win 1).blk t).view.emb (ix2 a b))).trans (at2_eq _ _ _ _
    (place win0_1 (index1 t).1 (by show (t.val % 1) * 1024 + a.val = _; omega))
    (place win0_1 (index1 t).2 (by show (t.val / 1 % 1) * 1024 + b.val = _; omega)))

theorem block2 (a : Fin 1024) (b : Fin 1024) : (iblk m c 2 t : Vec Ideal S1024x1024 .f32) (ix2 a b) = at2 (Z m c) (1024 * (t.val / 1) + a) (1024 * (t.val / 1 % 1) + b) :=
  (congrFun (V_main_arg2 m c) (((cfg0.win 2).blk t).view.emb (ix2 a b))).trans (at2_eq _ _ _ _
    (place win0_2 (index2 t).1 (by show (t.val / 1) * 1024 + a.val = _; omega))
    (place win0_2 (index2 t).2 (by show (t.val / 1 % 1) * 1024 + b.val = _; omega)))

/-- What a point computes, at one element. -/
theorem tile_apply (v0 : Vec Ideal S1024x1024 .bf16) (v1 : Vec Ideal S1024x1024 .bf16) (v2 : Vec Ideal S1024x1024 .f32) (r : Fin 1024) (l : Fin 1024) :
    (k0_pay1 (F := Ideal) v0 v1 v2 : S1024x1024.Idx → EReal) (ix2 r l) = v2 (ix2 r l) + ∑ x : Fin 1024, v0 (ix2 r x) * v1 (ix2 x l) := by
  pointwise [k0_pay1]

/-- Row `r` of the tile's left factor and column `l` of its right factor, continued over the whole sum. -/
abbrev left (r : ℕ) : ℕ → EReal := fun k => at2 (X m c) (1024 * (t.val / 1) + r) k
abbrev right (l : ℕ) : ℕ → EReal := fun k => at2 (Y m c) k (1024 * (t.val / 1 % 1) + l)

theorem tile_sum (r : Fin 1024) (l : Fin 1024) :
    (k0_pay1 (F := Ideal) (iblk m c 0 t) (iblk m c 1 t) (iblk m c 2 t) : S1024x1024.Idx → EReal) (ix2 r l)
      = at2 (Z m c) (1024 * (t.val / 1) + r) (1024 * (t.val / 1 % 1) + l) + ∑ x : Fin 1024, left m c t r (1024 * (t.val % 1) + x) * right m c t l (1024 * (t.val % 1) + x) := by
  rw [tile_apply, block2 m c t]
  refine congrArg (_ + ·) ?_
  refine Finset.sum_congr rfl fun x _ => ?_
  rw [block0 m c t, block1 m c t]

/-- What a point leaves in the block of the result. -/
theorem result_block (r : Fin 1024) (l : Fin 1024) :
    (out0_3 (F := Ideal) (iblk m c 0 t) (iblk m c 1 t) (iblk m c 2 t) : S1024x1024.Idx → EReal) (ix2 r l) = at2 (Z m c) (1024 * (t.val / 1) + r) (1024 * (t.val / 1 % 1) + l) + dot (left m c t r) (right m c t l) 1024 := by
  unfold out0_3
  rw [View.canon_unit_zero hz]
  simp only [View.ld_unit_zero (S := S1024x1024) hz]
  rw [tile_sum m c t r l, dot_first _ _ 1024 (t.val % 1) (by omega)]
  have e4 : 1024 * (t.val % 1 + 1) = 1024 := by omega
  rw [e4]

/-- The result at row `r`, column `q`. -/
def value (r q : ℕ) : EReal := at2 (Z m c) r q + dot (fun k => at2 (X m c) r k) (fun k => at2 (Y m c) k q) 1024

/-- The result array after the run. -/
theorem final (i : S4096x1024.Idx) : ((dats m 0 c).arrAt 3 cfg0.N : S4096x1024.Idx → EReal) i = value m c (i 0).val (i 1).val := by
  refine Dat.arrAt_forall_of_cover (dat := dats m 0 c) 3 (fun i x => x = value m c (i 0).val (i 1).val) ?_ ?_ i
  · intro t hft y

    rw [Cert.WOIdeal.Value.flushed3]
    obtain ⟨r, l, rfl⟩ : ∃ (r : Fin 1024) (l : Fin 1024), y = ix2 r l := ⟨y 0, y 1, funext fun d => by fin_cases d <;> rfl⟩
    have e0 : (((cfg0.win 3).blk t).view.emb (ix2 r l) 0).val = 1024 * (t.val / 1) + r.val := by
      exact place win0_3 (index3 t).1 (by show (t.val / 1) * 1024 + r.val = _; omega)
    have e1 : (((cfg0.win 3).blk t).view.emb (ix2 r l) 1).val = 1024 * (t.val / 1 % 1) + l.val := by
      exact place win0_3 (index3 t).2 (by show (t.val / 1 % 1) * 1024 + l.val = _; omega)
    rw [e0, e1]
    have key := result_block m c t r l
    revert key
    generalize out0_3 (F := Ideal) (iblk m c 0 t) (iblk m c 1 t) (iblk m c 2 t) = B
    intro key
    exact key
  · intro i
    have h0 : (i 0).val < 4096 := (i 0).isLt
    have h1 : (i 1).val < 1024 := (i 1).isLt
    have hb : 1 * ((i 0).val / 1024) + 1 * ((i 1).val / 1024) + 0 < cfg0.N := Nat.lt_of_lt_of_eq (by omega) N_0.symm
    refine ⟨⟨_, hb⟩, flush0_3 _, ?_⟩
    show i ∈ ((View.whole main_v0).slice (win0_3.rect ⟨_, hb⟩)).set
    rw [View.set_slice_whole, Rect.mem_set_unit]
    have hi := index3 ⟨_, hb⟩
    dsimp only at hi
    intro d
    fin_cases d
    · exact between (b := 1024) (n := (i 0).val) hi.1 (by omega)
    · exact between (b := 1024) (n := (i 1).val) hi.2 (by omega)

end

/-! ## The reference, and the claims -/

/-- The reference's result at one element. -/
theorem reference_apply (x0 : Vec Ideal S4096x1024 .bf16) (x1 : Vec Ideal S1024x1024 .bf16) (x2 : Vec Ideal S4096x1024 .f32) (r : Fin 4096) (q : Fin 1024) :
    (Cert.WORefIdeal.Read.val_main_v3 (F := Ideal) x0 x1 x2 : S4096x1024.Idx → EReal) (ix2 r q) = at2 x2 r q + dot (fun k => at2 x0 r k) (fun k => at2 x1 k q) 1024 := by
  have e : (Cert.WORefIdeal.Read.val_main_v3 (F := Ideal) x0 x1 x2 : S4096x1024.Idx → EReal) (ix2 r q) = x2 (ix2 r q) + ∑ x : Fin 1024, x0 (ix2 r x) * x1 (ix2 x q) := by
    pointwise [Cert.WORefIdeal.Read.val_main_v0, Cert.WORefIdeal.Read.val_main_v1, Cert.WORefIdeal.Read.val_main_v2, Cert.WORefIdeal.Read.val_main_v3]
  rw [e]
  rw [at2_ix2 x2]
  refine congrArg (_ + ·) ?_
  refine Eq.trans (Finset.sum_congr rfl fun x _ => ?_) (dot_fin (fun k => at2 x0 r k) (fun k => at2 x1 k q) 1024)
  rw [at2_ix2 x0, at2_ix2 x1]

theorem frame_kernel : Cert.quiescent_WO := fun m g _ => Cert.WO.Gen.frame m g

theorem frame_ideal : Cert.quiescent_WOIdeal := fun m g _ => Cert.WOIdeal.Gen.frame m g

theorem frame_reference : Cert.quiescent_WORefIdeal := fun m g _ =>
  (θ_run Cert.WORefIdeal.defs _ _).mono (fun r h => ⟨fun c => (h c).2, sem_eq_zero_of_no_sems (by decide) r.2⟩)
    (Cert.WORefIdeal.Value.run (F := Ideal) m g)

theorem algebraic : Cert.algebraic_WOIdeal_WORefIdeal := by
  pair_intro
  · run_from Cert.WOIdeal.Value.run_blocks m g
  · run_from Cert.WORefIdeal.Value.run m' g'
    refine funext fun i => ?_
    rw [Cert.WOProof.final m c]
    exact ((congrFun (Cert.WORefIdeal.Read.val_main_v3_eq _ _ _) i).trans (congrArg _ (funext fun d => by fin_cases d <;> rfl))).trans (reference_apply _ _ _ (i 0) (i 1))

end Cert.WOProof

end
-- ==== Proof.MergeBEw.lean ====
/-
  The gradient of the two branches' merge `sigmoid(ga) * ya + sigmoid(gm) * ym`.
-/
module

public import proofs.«01_k».proof.Defs
public import proofs.«01_k».proof.Proof.Gen.MergeB.Frame
public import proofs.«01_k».proof.Proof.Gen.MergeBIdeal.Value
public import proofs.«01_k».proof.Proof.Gen.MergeBRefIdeal.Run
public import proofs.«01_k».proof.Proof.Gen.MergeBRefIdeal.Read
public import proofs.«01_k».proof.Proof.Gate
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.MergeBProof

open Idealize.ShloMosaic Idealize.ShloMosaic.TcCoe Cert.MergeBIdeal Cert.MergeBIdeal.Gen Cert.At Cert.Dot Idealize.SL.Sem
open Idealize.ShloMosaic.Pipeline (Dat)
open scoped BigOperators
open Cert.Gate

/-- The convolution branch's gate. -/
def value5 (d : S4096x1024.Idx → EReal) (p : S4096x10240.Idx → EReal) (ya : S4096x1024.Idx → EReal) (ym : S4096x1024.Idx → EReal) (r q : ℕ) : EReal :=
  at2 d r q * at2 ya r q * sigm (at2 p r (5120 + q)) * (1 - sigm (at2 p r (5120 + q)))

/-- The recurrence branch's gate. -/
def value6 (d : S4096x1024.Idx → EReal) (p : S4096x10240.Idx → EReal) (ya : S4096x1024.Idx → EReal) (ym : S4096x1024.Idx → EReal) (r q : ℕ) : EReal :=
  at2 d r q * at2 ym r q * sigm (at2 p r (6144 + q)) * (1 - sigm (at2 p r (6144 + q)))

/-- The convolution branch's output. -/
def value7 (d : S4096x1024.Idx → EReal) (p : S4096x10240.Idx → EReal) (ya : S4096x1024.Idx → EReal) (ym : S4096x1024.Idx → EReal) (r q : ℕ) : EReal :=
  at2 d r q * sigm (at2 p r (5120 + q))

/-- The recurrence branch's output. -/
def value8 (d : S4096x1024.Idx → EReal) (p : S4096x10240.Idx → EReal) (ya : S4096x1024.Idx → EReal) (ym : S4096x1024.Idx → EReal) (r q : ℕ) : EReal :=
  at2 d r q * sigm (at2 p r (6144 + q))

section
variable (m : (ℓ : Loc nD τ sig) → Buf (Elt Ideal) ℓ) (c : Dev nD)

/-- The arguments, as launched. -/
abbrev D : S4096x1024.Idx → EReal := m ((c : Thread nD τ).loc main_arg0)
abbrev P : S4096x10240.Idx → EReal := m ((c : Thread nD τ).loc main_arg1)
abbrev Ya : S4096x1024.Idx → EReal := m ((c : Thread nD τ).loc main_arg2)
abbrev Ym : S4096x1024.Idx → EReal := m ((c : Thread nD τ).loc main_arg3)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 5 :=
  (by decide +kernel : ∀ t : Fin grid0.N, win0_1.index t (0 : Fin 2) = t.val ∧ win0_1.index t (1 : Fin 2) = 5)
theorem index2 : ∀ t : Fin cfg0.N, win0_2.index t (0 : Fin 2) = t.val ∧ win0_2.index t (1 : Fin 2) = 6 :=
  (by decide +kernel : ∀ t : Fin grid0.N, win0_2.index t (0 : Fin 2) = t.val ∧ win0_2.index t (1 : Fin 2) = 6)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .bf16) (ix2 a b) = at2 (D m c) (512 * (t.val) + a) (1024 * (0) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (0) * 1024 + b.val = _; omega)))

theorem block1 (a : Fin 512) (b : Fin 1024) : (iblk m c 1 t : Vec Ideal S512x1024 .bf16) (ix2 a b) = at2 (P m c) (512 * (t.val) + a) (1024 * (5) + b) :=
  (congrFun (V_main_arg1 m c) (((cfg0.win 1).blk t).view.emb (ix2 a b))).trans (at2_eq _ _ _ _
    (place win0_1 (index1 t).1 (by show (t.val) * 512 + a.val = _; omega))
    (place win0_1 (index1 t).2 (by show (5) * 1024 + b.val = _; omega)))

theorem block2 (a : Fin 512) (b : Fin 1024) : (iblk m c 2 t : Vec Ideal S512x1024 .bf16) (ix2 a b) = at2 (P m c) (512 * (t.val) + a) (1024 * (6) + b) :=
  (congrFun (V_main_arg1 m c) (((cfg0.win 2).blk t).view.emb (ix2 a b))).trans (at2_eq _ _ _ _
    (place win0_2 (index2 t).1 (by show (t.val) * 512 + a.val = _; omega))
    (place win0_2 (index2 t).2 (by show (6) * 1024 + b.val = _; omega)))

theorem block3 (a : Fin 512) (b : Fin 1024) : (iblk m c 3 t : Vec Ideal S512x1024 .bf16) (ix2 a b) = at2 (Ya m c) (512 * (t.val) + a) (1024 * (0) + b) :=
  (congrFun (V_main_arg2 m c) (((cfg0.win 3).blk t).view.emb (ix2 a b))).trans (at2_eq _ _ _ _
    (place win0_3 (index3 t).1 (by show (t.val) * 512 + a.val = _; omega))
    (place win0_3 (index3 t).2 (by show (0) * 1024 + b.val = _; omega)))

theorem block4 (a : Fin 512) (b : Fin 1024) : (iblk m c 4 t : Vec Ideal S512x1024 .bf16) (ix2 a b) = at2 (Ym m c) (512 * (t.val) + a) (1024 * (0) + b) :=
  (congrFun (V_main_arg3 m c) (((cfg0.win 4).blk t).view.emb (ix2 a b))).trans (at2_eq _ _ _ _
    (place win0_4 (index4 t).1 (by show (t.val) * 512 + a.val = _; omega))
    (place win0_4 (index4 t).2 (by show (0) * 1024 + b.val = _; omega)))

/-! ## The computations of one grid point -/

theorem value5_apply (v0 : Vec Ideal S512x1024 .bf16) (v1 : Vec Ideal S512x1024 .bf16) (v2 : Vec Ideal S512x1024 .bf16) (v3 : Vec Ideal S512x1024 .bf16) (v4 : Vec Ideal S512x1024 .bf16) (r : Fin 512) (l : Fin 1024) :
    (k0_pay6 (F := Ideal) v0 v1 v3 : S512x1024.Idx → EReal) (ix2 r l) = v0 (ix2 r l) * v3 (ix2 r l) * sigm (v1 (ix2 r l)) * (1 - sigm (v1 (ix2 r l))) := by
  unfold sigm
  rw [← zero_sub, ← Ideal.ofBits_one_f32, ← Ideal.ofBits_zero_f32]
  pointwise [k0_pay6, k0_pay3, k0_pay4]

theorem result_block5 (r : Fin 512) (l : Fin 1024) :
    (out0_5 (F := Ideal) (iblk m c 0 t) (iblk m c 1 t) (iblk m c 2 t) (iblk m c 3 t) (iblk m c 4 t) : S512x1024.Idx → EReal) (ix2 r l) = value5 (D m c) (P m c) (Ya m c) (Ym m c) (512 * t.val + r) l := by
  unfold out0_5
  rw [View.canon_unit_zero hz]
  simp only [k0_pay8, View.ld_unit_zero (S := S512x1024) hz]
  rw [value5_apply (iblk m c 0 t) (iblk m c 1 t) (iblk m c 2 t) (iblk m c 3 t) (iblk m c 4 t), block0 m c t, block1 m c t, block3 m c t]
  unfold value5
  simp only [Nat.mul_zero, Nat.zero_add, Nat.reduceMul]

theorem value6_apply (v0 : Vec Ideal S512x1024 .bf16) (v1 : Vec Ideal S512x1024 .bf16) (v2 : Vec Ideal S512x1024 .bf16) (v3 : Vec Ideal S512x1024 .bf16) (v4 : Vec Ideal S512x1024 .bf16) (r : Fin 512) (l : Fin 1024) :
    (k0_pay7 (F := Ideal) v0 v2 v4 : S512x1024.Idx → EReal) (ix2 r l) = v0 (ix2 r l) * v4 (ix2 r l) * sigm (v2 (ix2 r l)) * (1 - sigm (v2 (ix2 r l))) := by
  unfold sigm
  rw [← zero_sub, ← Ideal.ofBits_one_f32, ← Ideal.ofBits_zero_f32]
  pointwise [k0_pay7, k0_pay3, k0_pay5]

theorem result_block6 (r : Fin 512) (l : Fin 1024) :
    (out0_6 (F := Ideal) (iblk m c 0 t) (iblk m c 1 t) (iblk m c 2 t) (iblk m c 3 t) (iblk m c 4 t) : S512x1024.Idx → EReal) (ix2 r l) = value6 (D m c) (P m c) (Ya m c) (Ym m c) (512 * t.val + r) l := by
  unfold out0_6
  rw [View.canon_unit_zero hz]
  simp only [k0_pay8, View.ld_unit_zero (S := S512x1024) hz]
  rw [value6_apply (iblk m c 0 t) (iblk m c 1 t) (iblk m c 2 t) (iblk m c 3 t) (iblk m c 4 t), block0 m c t, block2 m c t, block4 m c t]
  unfold value6
  simp only [Nat.mul_zero, Nat.zero_add, Nat.reduceMul]

theorem value7_apply (v0 : Vec Ideal S512x1024 .bf16) (v1 : Vec Ideal S512x1024 .bf16) (v2 : Vec Ideal S512x1024 .bf16) (v3 : Vec Ideal S512x1024 .bf16) (v4 : Vec Ideal S512x1024 .bf16) (r : Fin 512) (l : Fin 1024) :
    (k0_pay1 (F := Ideal) (k0_pay3 v0) (k0_pay4 v1) : S512x1024.Idx → EReal) (ix2 r l) = v0 (ix2 r l) * sigm (v1 (ix2 r l)) := by
  unfold sigm
  rw [← zero_sub, ← Ideal.ofBits_one_f32, ← Ideal.ofBits_zero_f32]
  pointwise [k0_pay1, k0_pay3, k0_pay4]

theorem result_block7 (r : Fin 512) (l : Fin 1024) :
    (out0_7 (F := Ideal) (iblk m c 0 t) (iblk m c 1 t) (iblk m c 2 t) (iblk m c 3 t) (iblk m c 4 t) : S512x1024.Idx → EReal) (ix2 r l) = value7 (D m c) (P m c) (Ya m c) (Ym m c) (512 * t.val + r) l := by
  unfold out0_7
  rw [View.canon_unit_zero hz]
  simp only [k0_pay8, View.ld_unit_zero (S := S512x1024) hz]
  rw [value7_apply (iblk m c 0 t) (iblk m c 1 t) (iblk m c 2 t) (iblk m c 3 t) (iblk m c 4 t), block0 m c t, block1 m c t]
  unfold value7
  simp only [Nat.mul_zero, Nat.zero_add, Nat.reduceMul]

theorem value8_apply (v0 : Vec Ideal S512x1024 .bf16) (v1 : Vec Ideal S512x1024 .bf16) (v2 : Vec Ideal S512x1024 .bf16) (v3 : Vec Ideal S512x1024 .bf16) (v4 : Vec Ideal S512x1024 .bf16) (r : Fin 512) (l : Fin 1024) :
    (k0_pay2 (F := Ideal) (k0_pay3 v0) (k0_pay5 v2) : S512x1024.Idx → EReal) (ix2 r l) = v0 (ix2 r l) * sigm (v2 (ix2 r l)) := by
  unfold sigm
  rw [← zero_sub, ← Ideal.ofBits_one_f32, ← Ideal.ofBits_zero_f32]
  pointwise [k0_pay2, k0_pay3, k0_pay5]

theorem result_block8 (r : Fin 512) (l : Fin 1024) :
    (out0_8 (F := Ideal) (iblk m c 0 t) (iblk m c 1 t) (iblk m c 2 t) (iblk m c 3 t) (iblk m c 4 t) : S512x1024.Idx → EReal) (ix2 r l) = value8 (D m c) (P m c) (Ya m c) (Ym m c) (512 * t.val + r) l := by
  unfold out0_8
  rw [View.canon_unit_zero hz]
  simp only [k0_pay8, View.ld_unit_zero (S := S512x1024) hz]
  rw [value8_apply (iblk m c 0 t) (iblk m c 1 t) (iblk m c 2 t) (iblk m c 3 t) (iblk m c 4 t), block0 m c t, block2 m c t]
  unfold value8
  simp only [Nat.mul_zero, Nat.zero_add, Nat.reduceMul]

theorem final5 (i : S4096x1024.Idx) : ((dats m 0 c).arrAt 5 cfg0.N : S4096x1024.Idx → EReal) i = value5 (D m c) (P m c) (Ya m c) (Ym m c) (i 0).val (i 1).val := by
  refine Dat.arrAt_forall_of_cover (dat := dats m 0 c) 5 (fun i x => x = value5 (D m c) (P m c) (Ya m c) (Ym m c) (i 0).val (i 1).val) ?_ ?_ i
  · intro t hft y
    rw [Cert.MergeBIdeal.Value.flushed5]
    obtain ⟨r, l, rfl⟩ : ∃ (r : Fin 512) (l : Fin 1024), y = ix2 r l := ⟨y 0, y 1, funext fun d => by fin_cases d <;> rfl⟩
    have e0 : (((cfg0.win 5).blk t).view.emb (ix2 r l) 0).val = 512 * (t.val) + r.val := by
      exact place win0_5 (index5 t).1 (by show (t.val) * 512 + r.val = _; omega)
    have e1 : (((cfg0.win 5).blk t).view.emb (ix2 r l) 1).val = 1024 * (0) + l.val := by
      exact place win0_5 (index5 t).2 (by show (0) * 1024 + l.val = _; omega)
    rw [e0, e1]
    have key := result_block5 m c t r l
    revert key
    generalize out0_5 (F := Ideal) (iblk m c 0 t) (iblk m c 1 t) (iblk m c 2 t) (iblk m c 3 t) (iblk m c 4 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_5 _, ?_⟩
    show i ∈ ((View.whole main_v0_0).slice (win0_5.rect ⟨_, hb⟩)).set
    rw [View.set_slice_whole, Rect.mem_set_unit]
    have hi := index5 ⟨_, hb⟩
    dsimp only at hi
    intro d
    fin_cases d
    · exact between (b := 512) (n := (i 0).val) hi.1 (by omega)
    · exact between (b := 1024) (n := (i 1).val) hi.2 (by omega)

theorem final6 (i : S4096x1024.Idx) : ((dats m 0 c).arrAt 6 cfg0.N : S4096x1024.Idx → EReal) i = value6 (D m c) (P m c) (Ya m c) (Ym m c) (i 0).val (i 1).val := by
  refine Dat.arrAt_forall_of_cover (dat := dats m 0 c) 6 (fun i x => x = value6 (D m c) (P m c) (Ya m c) (Ym m c) (i 0).val (i 1).val) ?_ ?_ i
  · intro t hft y
    rw [Cert.MergeBIdeal.Value.flushed6]
    obtain ⟨r, l, rfl⟩ : ∃ (r : Fin 512) (l : Fin 1024), y = ix2 r l := ⟨y 0, y 1, funext fun d => by fin_cases d <;> rfl⟩
    have e0 : (((cfg0.win 6).blk t).view.emb (ix2 r l) 0).val = 512 * (t.val) + r.val := by
      exact place win0_6 (index6 t).1 (by show (t.val) * 512 + r.val = _; omega)
    have e1 : (((cfg0.win 6).blk t).view.emb (ix2 r l) 1).val = 1024 * (0) + l.val := by
      exact place win0_6 (index6 t).2 (by show (0) * 1024 + l.val = _; omega)
    rw [e0, e1]
    have key := result_block6 m c t r l
    revert key
    generalize out0_6 (F := Ideal) (iblk m c 0 t) (iblk m c 1 t) (iblk m c 2 t) (iblk m c 3 t) (iblk m c 4 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_6 _, ?_⟩
    show i ∈ ((View.whole main_v0_1).slice (win0_6.rect ⟨_, hb⟩)).set
    rw [View.set_slice_whole, Rect.mem_set_unit]
    have hi := index6 ⟨_, hb⟩
    dsimp only at hi
    intro d
    fin_cases d
    · exact between (b := 512) (n := (i 0).val) hi.1 (by omega)
    · exact between (b := 1024) (n := (i 1).val) hi.2 (by omega)

theorem final7 (i : S4096x1024.Idx) : ((dats m 0 c).arrAt 7 cfg0.N : S4096x1024.Idx → EReal) i = value7 (D m c) (P m c) (Ya m c) (Ym m c) (i 0).val (i 1).val := by
  refine Dat.arrAt_forall_of_cover (dat := dats m 0 c) 7 (fun i x => x = value7 (D m c) (P m c) (Ya m c) (Ym m c) (i 0).val (i 1).val) ?_ ?_ i
  · intro t hft y
    rw [Cert.MergeBIdeal.Value.flushed7]
    obtain ⟨r, l, rfl⟩ : ∃ (r : Fin 512) (l : Fin 1024), y = ix2 r l := ⟨y 0, y 1, funext fun d => by fin_cases d <;> rfl⟩
    have e0 : (((cfg0.win 7).blk t).view.emb (ix2 r l) 0).val = 512 * (t.val) + r.val := by
      exact place win0_7 (index7 t).1 (by show (t.val) * 512 + r.val = _; omega)
    have e1 : (((cfg0.win 7).blk t).view.emb (ix2 r l) 1).val = 1024 * (0) + l.val := by
      exact place win0_7 (index7 t).2 (by show (0) * 1024 + l.val = _; omega)
    rw [e0, e1]
    have key := result_block7 m c t r l
    revert key
    generalize out0_7 (F := Ideal) (iblk m c 0 t) (iblk m c 1 t) (iblk m c 2 t) (iblk m c 3 t) (iblk m c 4 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_7 _, ?_⟩
    show i ∈ ((View.whole main_v0_2).slice (win0_7.rect ⟨_, hb⟩)).set
    rw [View.set_slice_whole, Rect.mem_set_unit]
    have hi := index7 ⟨_, hb⟩
    dsimp only at hi
    intro d
    fin_cases d
    · exact between (b := 512) (n := (i 0).val) hi.1 (by omega)
    · exact between (b := 1024) (n := (i 1).val) hi.2 (by omega)

theorem final8 (i : S4096x1024.Idx) : ((dats m 0 c).arrAt 8 cfg0.N : S4096x1024.Idx → EReal) i = value8 (D m c) (P m c) (Ya m c) (Ym m c) (i 0).val (i 1).val := by
  refine Dat.arrAt_forall_of_cover (dat := dats m 0 c) 8 (fun i x => x = value8 (D m c) (P m c) (Ya m c) (Ym m c) (i 0).val (i 1).val) ?_ ?_ i
  · intro t hft y
    rw [Cert.MergeBIdeal.Value.flushed8]
    obtain ⟨r, l, rfl⟩ : ∃ (r : Fin 512) (l : Fin 1024), y = ix2 r l := ⟨y 0, y 1, funext fun d => by fin_cases d <;> rfl⟩
    have e0 : (((cfg0.win 8).blk t).view.emb (ix2 r l) 0).val = 512 * (t.val) + r.val := by
      exact place win0_8 (index8 t).1 (by show (t.val) * 512 + r.val = _; omega)
    have e1 : (((cfg0.win 8).blk t).view.emb (ix2 r l) 1).val = 1024 * (0) + l.val := by
      exact place win0_8 (index8 t).2 (by show (0) * 1024 + l.val = _; omega)
    rw [e0, e1]
    have key := result_block8 m c t r l
    revert key
    generalize out0_8 (F := Ideal) (iblk m c 0 t) (iblk m c 1 t) (iblk m c 2 t) (iblk m c 3 t) (iblk m c 4 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_8 _, ?_⟩
    show i ∈ ((View.whole main_v0_3).slice (win0_8.rect ⟨_, hb⟩)).set
    rw [View.set_slice_whole, Rect.mem_set_unit]
    have hi := index8 ⟨_, hb⟩
    dsimp only at hi
    intro d
    fin_cases d
    · exact between (b := 512) (n := (i 0).val) hi.1 (by omega)
    · exact between (b := 1024) (n := (i 1).val) hi.2 (by omega)

end

/-! ## The reference, and the claims -/

open Cert.MergeBRefIdeal.Read

theorem reference5 (x0 : Vec Ideal S4096x1024 .bf16) (x1 : Vec Ideal S4096x10240 .bf16) (x2 : Vec Ideal S4096x1024 .bf16) (x3 : Vec Ideal S4096x1024 .bf16) (r : Fin 4096) (q : Fin 1024) :
    (val_main_v34 (F := Ideal) x0 x1 x2 : S4096x1024.Idx → EReal) (ix2 r q) = value5 x0 x1 x2 x3 r q := by
  have e : (val_main_v34 (F := Ideal) x0 x1 x2 : S4096x1024.Idx → EReal) (ix2 r q) = x0 (ix2 r q) * x2 (ix2 r q) * (sigm (x1 (ix2 r ⟨5120 + q.val, by omega⟩)) * (1 - sigm (x1 (ix2 r ⟨5120 + q.val, by omega⟩)))) := by
    unfold sigm
    rw [← Ideal.ofBits_one_f32]
    pointwise [val_main_v34, val_main_v33, val_main_v32, val_main_v27, val_main_v14, val_main_v13, val_main_v12, val_main_v11, val_main_v10, val_main_v9, val_main_v8, val_main_v7, val_main_v6, val_main_v4, val_main_v2, val_main_v0, val_main_cst, val_main_cst_0, val_main_cst_1, val_main_cst_2, val_main_cst_3, val_main_cst_4]
  unfold value5
  rw [e, at2_ix2 x0, at2_ix2 x2, show x1 (ix2 r ⟨5120 + q.val, by omega⟩) = at2 x1 r (5120 + q) from at2_ix2 x1 r ⟨5120 + q.val, by omega⟩, ← mul_assoc]

theorem reference6 (x0 : Vec Ideal S4096x1024 .bf16) (x1 : Vec Ideal S4096x10240 .bf16) (x2 : Vec Ideal S4096x1024 .bf16) (x3 : Vec Ideal S4096x1024 .bf16) (r : Fin 4096) (q : Fin 1024) :
    (val_main_v35 (F := Ideal) x0 x1 x3 : S4096x1024.Idx → EReal) (ix2 r q) = value6 x0 x1 x2 x3 r q := by
  have e : (val_main_v35 (F := Ideal) x0 x1 x3 : S4096x1024.Idx → EReal) (ix2 r q) = x0 (ix2 r q) * x3 (ix2 r q) * (sigm (x1 (ix2 r ⟨6144 + q.val, by omega⟩)) * (1 - sigm (x1 (ix2 r ⟨6144 + q.val, by omega⟩)))) := by
    unfold sigm
    rw [← Ideal.ofBits_one_f32]
    pointwise [val_main_v35, val_main_v30, val_main_v29, val_main_v27, val_main_v24, val_main_v23, val_main_v22, val_main_v21, val_main_v20, val_main_v19, val_main_v18, val_main_v17, val_main_v16, val_main_v5, val_main_v3, val_main_v1, val_main_cst, val_main_cst_0, val_main_cst_1, val_main_cst_2, val_main_cst_3, val_main_cst_4]
  unfold value6
  rw [e, at2_ix2 x0, at2_ix2 x3, show x1 (ix2 r ⟨6144 + q.val, by omega⟩) = at2 x1 r (6144 + q) from at2_ix2 x1 r ⟨6144 + q.val, by omega⟩, ← mul_assoc]

theorem reference7 (x0 : Vec Ideal S4096x1024 .bf16) (x1 : Vec Ideal S4096x10240 .bf16) (x2 : Vec Ideal S4096x1024 .bf16) (x3 : Vec Ideal S4096x1024 .bf16) (r : Fin 4096) (q : Fin 1024) :
    (val_main_v36 (F := Ideal) x0 x1 : S4096x1024.Idx → EReal) (ix2 r q) = value7 x0 x1 x2 x3 r q := by
  have e : (val_main_v36 (F := Ideal) x0 x1 : S4096x1024.Idx → EReal) (ix2 r q) = sigm (x1 (ix2 r ⟨5120 + q.val, by omega⟩)) * x0 (ix2 r q) := by
    unfold sigm
    rw [← Ideal.ofBits_one_f32]
    pointwise [val_main_v36, val_main_v31, val_main_v27, val_main_v11, val_main_v10, val_main_v9, val_main_v8, val_main_v7, val_main_v6, val_main_v2, val_main_v0, val_main_cst, val_main_cst_0, val_main_cst_1, val_main_cst_2, val_main_cst_3, val_main_cst_4]
  unfold value7
  rw [e, at2_ix2 x0, show x1 (ix2 r ⟨5120 + q.val, by omega⟩) = at2 x1 r (5120 + q) from at2_ix2 x1 r ⟨5120 + q.val, by omega⟩, mul_comm]

theorem reference8 (x0 : Vec Ideal S4096x1024 .bf16) (x1 : Vec Ideal S4096x10240 .bf16) (x2 : Vec Ideal S4096x1024 .bf16) (x3 : Vec Ideal S4096x1024 .bf16) (r : Fin 4096) (q : Fin 1024) :
    (val_main_v37 (F := Ideal) x0 x1 : S4096x1024.Idx → EReal) (ix2 r q) = value8 x0 x1 x2 x3 r q := by
  have e : (val_main_v37 (F := Ideal) x0 x1 : S4096x1024.Idx → EReal) (ix2 r q) = sigm (x1 (ix2 r ⟨6144 + q.val, by omega⟩)) * x0 (ix2 r q) := by
    unfold sigm
    rw [← Ideal.ofBits_one_f32]
    pointwise [val_main_v37, val_main_v28, val_main_v27, val_main_v21, val_main_v20, val_main_v19, val_main_v18, val_main_v17, val_main_v16, val_main_v3, val_main_v1, val_main_cst, val_main_cst_0, val_main_cst_1, val_main_cst_2, val_main_cst_3, val_main_cst_4]
  unfold value8
  rw [e, at2_ix2 x0, show x1 (ix2 r ⟨6144 + q.val, by omega⟩) = at2 x1 r (6144 + q) from at2_ix2 x1 r ⟨6144 + q.val, by omega⟩, mul_comm]

theorem frame_kernel : Cert.quiescent_MergeB := fun m g _ => Cert.MergeB.Gen.frame m g

theorem frame_ideal : Cert.quiescent_MergeBIdeal := fun m g _ => Cert.MergeBIdeal.Gen.frame m g

theorem frame_reference : Cert.quiescent_MergeBRefIdeal := fun m g _ =>
  (θ_run Cert.MergeBRefIdeal.defs _ _).mono (fun r h => ⟨fun c => (h c).2.2.2.2, sem_eq_zero_of_no_sems (by decide) r.2⟩)
    (Cert.MergeBRefIdeal.Value.run (F := Ideal) m g)

theorem algebraic : Cert.algebraic_MergeBIdeal_MergeBRefIdeal := by
  pair_intro
  · run_from Cert.MergeBIdeal.Value.run_blocks m g
  · run_from Cert.MergeBRefIdeal.Value.run m' g'
    · refine funext fun i => ?_
      rw [final5 m c]
      exact ((congrFun (Cert.MergeBRefIdeal.Read.val_main_v34_eq _ _ _) i).trans (congrArg _ (funext fun d => by fin_cases d <;> rfl))).trans (reference5 _ _ _ (m (((c : Thread nD τ)).loc main_arg3)) (i 0) (i 1))
    · refine funext fun i => ?_
      rw [final6 m c]
      exact ((congrFun (Cert.MergeBRefIdeal.Read.val_main_v35_eq _ _ _) i).trans (congrArg _ (funext fun d => by fin_cases d <;> rfl))).trans (reference6 _ _ (m (((c : Thread nD τ)).loc main_arg2)) _ (i 0) (i 1))
    · refine funext fun i => ?_
      rw [final7 m c]
      exact ((congrFun (Cert.MergeBRefIdeal.Read.val_main_v36_eq _ _) i).trans (congrArg _ (funext fun d => by fin_cases d <;> rfl))).trans (reference7 _ _ (m (((c : Thread nD τ)).loc main_arg2)) (m (((c : Thread nD τ)).loc main_arg3)) (i 0) (i 1))
    · refine funext fun i => ?_
      rw [final8 m c]
      exact ((congrFun (Cert.MergeBRefIdeal.Read.val_main_v37_eq _ _) i).trans (congrArg _ (funext fun d => by fin_cases d <;> rfl))).trans (reference8 _ _ (m (((c : Thread nD τ)).loc main_arg2)) (m (((c : Thread nD τ)).loc main_arg3)) (i 0) (i 1))

end Cert.MergeBProof

end
-- ==== Proof.PleBEw.lean ====
/-
  The gradient of the gated embedding `h + sigmoid(g) * p` with respect to `g` and `p`.
-/
module

public import proofs.«01_k».proof.Defs
public import proofs.«01_k».proof.Proof.Gen.PleB.Frame
public import proofs.«01_k».proof.Proof.Gen.PleBIdeal.Value
public import proofs.«01_k».proof.Proof.Gen.PleBRefIdeal.Run
public import proofs.«01_k».proof.Proof.Gen.PleBRefIdeal.Read
public import proofs.«01_k».proof.Proof.Gate
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.PleBProof

open Idealize.ShloMosaic Idealize.ShloMosaic.TcCoe Cert.PleBIdeal Cert.PleBIdeal.Gen Cert.At Cert.Dot Idealize.SL.Sem
open Idealize.ShloMosaic.Pipeline (Dat)
open scoped BigOperators
open Cert.Gate

/-- The gate's gradient. -/
def value3 (d : S4096x1024.Idx → EReal) (g : S4096x1024.Idx → EReal) (p : S4096x1024.Idx → EReal) (r q : ℕ) : EReal :=
  at2 d r q * at2 p r q * sigm (at2 g r q) * (1 - sigm (at2 g r q))

/-- The projection's gradient. -/
def value4 (d : S4096x1024.Idx → EReal) (g : S4096x1024.Idx → EReal) (p : S4096x1024.Idx → EReal) (r q : ℕ) : EReal :=
  at2 d r q * sigm (at2 g r q)

section
variable (m : (ℓ : Loc nD τ sig) → Buf (Elt Ideal) ℓ) (c : Dev nD)

/-- The arguments, as launched. -/
abbrev D : S4096x1024.Idx → EReal := m ((c : Thread nD τ).loc main_arg0)
abbrev G : S4096x1024.Idx → EReal := m ((c : Thread nD τ).loc main_arg1)
abbrev P : S4096x1024.Idx → EReal := m ((c : Thread nD τ).loc main_arg2)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .f32) (ix2 a b) = at2 (D m c) (512 * (t.val) + a) (1024 * (0) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (0) * 1024 + b.val = _; omega)))

theorem block1 (a : Fin 512) (b : Fin 1024) : (iblk m c 1 t : Vec Ideal S512x1024 .bf16) (ix2 a b) = at2 (G m c) (512 * (t.val) + a) (1024 * (0) + b) :=
  (congrFun (V_main_arg1 m c) (((cfg0.win 1).blk t).view.emb (ix2 a b))).trans (at2_eq _ _ _ _
    (place win0_1 (index1 t).1 (by show (t.val) * 512 + a.val = _; omega))
    (place win0_1 (index1 t).2 (by show (0) * 1024 + b.val = _; omega)))

theorem block2 (a : Fin 512) (b : Fin 1024) : (iblk m c 2 t : Vec Ideal S512x1024 .bf16) (ix2 a b) = at2 (P m c) (512 * (t.val) + a) (1024 * (0) + b) :=
  (congrFun (V_main_arg2 m c) (((cfg0.win 2).blk t).view.emb (ix2 a b))).trans (at2_eq _ _ _ _
    (place win0_2 (index2 t).1 (by show (t.val) * 512 + a.val = _; omega))
    (place win0_2 (index2 t).2 (by show (0) * 1024 + b.val = _; omega)))

/-! ## The computations of one grid point -/

theorem value3_apply (v0 : Vec Ideal S512x1024 .f32) (v1 : Vec Ideal S512x1024 .bf16) (v2 : Vec Ideal S512x1024 .bf16) (r : Fin 512) (l : Fin 1024) :
    (k0_pay2 (F := Ideal) v0 v1 v2 : S512x1024.Idx → EReal) (ix2 r l) = v0 (ix2 r l) * v2 (ix2 r l) * sigm (v1 (ix2 r l)) * (1 - sigm (v1 (ix2 r l))) := by
  unfold sigm
  rw [← zero_sub, ← Ideal.ofBits_one_f32, ← Ideal.ofBits_zero_f32]
  pointwise [k0_pay2, k0_pay1]

theorem result_block3 (r : Fin 512) (l : Fin 1024) :
    (out0_3 (F := Ideal) (iblk m c 0 t) (iblk m c 1 t) (iblk m c 2 t) : S512x1024.Idx → EReal) (ix2 r l) = value3 (D m c) (G m c) (P m c) (512 * t.val + r) l := by
  unfold out0_3
  rw [View.canon_unit_zero hz]
  simp only [View.ld_unit_zero (S := S512x1024) hz]
  rw [value3_apply (iblk m c 0 t) (iblk m c 1 t) (iblk m c 2 t), block0 m c t, block1 m c t, block2 m c t]
  unfold value3
  simp only [Nat.mul_zero, Nat.zero_add, Nat.reduceMul]

theorem value4_apply (v0 : Vec Ideal S512x1024 .f32) (v1 : Vec Ideal S512x1024 .bf16) (v2 : Vec Ideal S512x1024 .bf16) (r : Fin 512) (l : Fin 1024) :
    (k0_pay3 (F := Ideal) v0 v1 : S512x1024.Idx → EReal) (ix2 r l) = v0 (ix2 r l) * sigm (v1 (ix2 r l)) := by
  unfold sigm
  rw [← zero_sub, ← Ideal.ofBits_one_f32, ← Ideal.ofBits_zero_f32]
  pointwise [k0_pay3, k0_pay1]

theorem result_block4 (r : Fin 512) (l : Fin 1024) :
    (out0_4 (F := Ideal) (iblk m c 0 t) (iblk m c 1 t) (iblk m c 2 t) : S512x1024.Idx → EReal) (ix2 r l) = value4 (D m c) (G m c) (P m c) (512 * t.val + r) l := by
  unfold out0_4
  rw [View.canon_unit_zero hz]
  simp only [View.ld_unit_zero (S := S512x1024) hz]
  rw [value4_apply (iblk m c 0 t) (iblk m c 1 t) (iblk m c 2 t), block0 m c t, block1 m c t]
  unfold value4
  simp only [Nat.mul_zero, Nat.zero_add, Nat.reduceMul]

theorem final3 (i : S4096x1024.Idx) : ((dats m 0 c).arrAt 3 cfg0.N : S4096x1024.Idx → EReal) i = value3 (D m c) (G m c) (P m c) (i 0).val (i 1).val := by
  refine Dat.arrAt_forall_of_cover (dat := dats m 0 c) 3 (fun i x => x = value3 (D m c) (G m c) (P m c) (i 0).val (i 1).val) ?_ ?_ i
  · intro t hft y
    rw [Cert.PleBIdeal.Value.flushed3]
    obtain ⟨r, l, rfl⟩ : ∃ (r : Fin 512) (l : Fin 1024), y = ix2 r l := ⟨y 0, y 1, funext fun d => by fin_cases d <;> rfl⟩
    have e0 : (((cfg0.win 3).blk t).view.emb (ix2 r l) 0).val = 512 * (t.val) + r.val := by
      exact place win0_3 (index3 t).1 (by show (t.val) * 512 + r.val = _; omega)
    have e1 : (((cfg0.win 3).blk t).view.emb (ix2 r l) 1).val = 1024 * (0) + l.val := by
      exact place win0_3 (index3 t).2 (by show (0) * 1024 + l.val = _; omega)
    rw [e0, e1]
    have key := result_block3 m c t r l
    revert key
    generalize out0_3 (F := Ideal) (iblk m c 0 t) (iblk m c 1 t) (iblk m c 2 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_3 _, ?_⟩
    show i ∈ ((View.whole main_v0_0).slice (win0_3.rect ⟨_, hb⟩)).set
    rw [View.set_slice_whole, Rect.mem_set_unit]
    have hi := index3 ⟨_, hb⟩
    dsimp only at hi
    intro d
    fin_cases d
    · exact between (b := 512) (n := (i 0).val) hi.1 (by omega)
    · exact between (b := 1024) (n := (i 1).val) hi.2 (by omega)

theorem final4 (i : S4096x1024.Idx) : ((dats m 0 c).arrAt 4 cfg0.N : S4096x1024.Idx → EReal) i = value4 (D m c) (G m c) (P m c) (i 0).val (i 1).val := by
  refine Dat.arrAt_forall_of_cover (dat := dats m 0 c) 4 (fun i x => x = value4 (D m c) (G m c) (P m c) (i 0).val (i 1).val) ?_ ?_ i
  · intro t hft y
    rw [Cert.PleBIdeal.Value.flushed4]
    obtain ⟨r, l, rfl⟩ : ∃ (r : Fin 512) (l : Fin 1024), y = ix2 r l := ⟨y 0, y 1, funext fun d => by fin_cases d <;> rfl⟩
    have e0 : (((cfg0.win 4).blk t).view.emb (ix2 r l) 0).val = 512 * (t.val) + r.val := by
      exact place win0_4 (index4 t).1 (by show (t.val) * 512 + r.val = _; omega)
    have e1 : (((cfg0.win 4).blk t).view.emb (ix2 r l) 1).val = 1024 * (0) + l.val := by
      exact place win0_4 (index4 t).2 (by show (0) * 1024 + l.val = _; omega)
    rw [e0, e1]
    have key := result_block4 m c t r l
    revert key
    generalize out0_4 (F := Ideal) (iblk m c 0 t) (iblk m c 1 t) (iblk m c 2 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_4 _, ?_⟩
    show i ∈ ((View.whole main_v0_1).slice (win0_4.rect ⟨_, hb⟩)).set
    rw [View.set_slice_whole, Rect.mem_set_unit]
    have hi := index4 ⟨_, hb⟩
    dsimp only at hi
    intro d
    fin_cases d
    · exact between (b := 512) (n := (i 0).val) hi.1 (by omega)
    · exact between (b := 1024) (n := (i 1).val) hi.2 (by omega)

end

/-! ## The reference, and the claims -/

open Cert.PleBRefIdeal.Read

theorem reference3 (x0 : Vec Ideal S4096x1024 .f32) (x1 : Vec Ideal S4096x1024 .bf16) (x2 : Vec Ideal S4096x1024 .bf16) (r : Fin 4096) (q : Fin 1024) :
    (val_main_v17 (F := Ideal) x0 x1 x2 : S4096x1024.Idx → EReal) (ix2 r q) = value3 x0 x1 x2 r q := by
  have e : (val_main_v17 (F := Ideal) x0 x1 x2 : S4096x1024.Idx → EReal) (ix2 r q) = x0 (ix2 r q) * x2 (ix2 r q) * (sigm (x1 (ix2 r q)) * (1 - sigm (x1 (ix2 r q)))) := by
    unfold sigm
    rw [← Ideal.ofBits_one_f32]
    pointwise [val_main_v17, val_main_v16, val_main_v15, val_main_v11, val_main_v10, val_main_v9, val_main_v8, val_main_v7, val_main_v6, val_main_v5, val_main_v4, val_main_v3, val_main_v1, val_main_v0, val_main_cst, val_main_cst_0, val_main_cst_1, val_main_cst_2]
  unfold value3
  rw [e, at2_ix2 x0, at2_ix2 x1, at2_ix2 x2, ← mul_assoc]

theorem reference4 (x0 : Vec Ideal S4096x1024 .f32) (x1 : Vec Ideal S4096x1024 .bf16) (x2 : Vec Ideal S4096x1024 .bf16) (r : Fin 4096) (q : Fin 1024) :
    (val_main_v18 (F := Ideal) x0 x1 : S4096x1024.Idx → EReal) (ix2 r q) = value4 x0 x1 x2 r q := by
  have e : (val_main_v18 (F := Ideal) x0 x1 : S4096x1024.Idx → EReal) (ix2 r q) = sigm (x1 (ix2 r q)) * x0 (ix2 r q) := by
    unfold sigm
    rw [← Ideal.ofBits_one_f32]
    pointwise [val_main_v18, val_main_v14, val_main_v8, val_main_v7, val_main_v6, val_main_v5, val_main_v4, val_main_v3, val_main_v0, val_main_cst, val_main_cst_0, val_main_cst_1, val_main_cst_2]
  unfold value4
  rw [e, at2_ix2 x0, at2_ix2 x1, mul_comm]

theorem frame_kernel : Cert.quiescent_PleB := fun m g _ => Cert.PleB.Gen.frame m g

theorem frame_ideal : Cert.quiescent_PleBIdeal := fun m g _ => Cert.PleBIdeal.Gen.frame m g

theorem frame_reference : Cert.quiescent_PleBRefIdeal := fun m g _ =>
  (θ_run Cert.PleBRefIdeal.defs _ _).mono (fun r h => ⟨fun c => (h c).2.2, sem_eq_zero_of_no_sems (by decide) r.2⟩)
    (Cert.PleBRefIdeal.Value.run (F := Ideal) m g)

theorem algebraic : Cert.algebraic_PleBIdeal_PleBRefIdeal := by
  pair_intro
  · run_from Cert.PleBIdeal.Value.run_blocks m g
  · run_from Cert.PleBRefIdeal.Value.run m' g'
    · refine funext fun i => ?_
      rw [final3 m c]
      exact ((congrFun (Cert.PleBRefIdeal.Read.val_main_v17_eq _ _ _) i).trans (congrArg _ (funext fun d => by fin_cases d <;> rfl))).trans (reference3 _ _ _ (i 0) (i 1))
    · refine funext fun i => ?_
      rw [final4 m c]
      exact ((congrFun (Cert.PleBRefIdeal.Read.val_main_v18_eq _ _) i).trans (congrArg _ (funext fun d => by fin_cases d <;> rfl))).trans (reference4 _ _ (m (((c : Thread nD τ)).loc main_arg2)) (i 0) (i 1))

end Cert.PleBProof

end
-- ==== Proof.Lag.lean ====
/-
  A column read with a delay, as a causal convolution reads it, and the way a kernel that works on blocks of 512 rows
  reads it: out of the block and the 16 rows before it.
-/
module

public import Idealize.ShloMosaic.PureOps.Ideal
public import Idealize.ShloMosaic.Lib.Pointwise

@[expose] public section

noncomputable section

namespace Cert.Lag

open Idealize.ShloMosaic

/-- What tap `k` of a causal convolution of `d + 1` taps reads at row `t`: row `t - d + k`, zero before the first row. -/
def lag (d : ℕ) (x : ℕ → EReal) (k t : ℕ) : EReal := if t + k < d then 0 else x (t + k - d)

/-- The convolutions of three and of four taps at row `t`. -/
def conv3 (w x : ℕ → EReal) (t : ℕ) : EReal := w 0 * lag 2 x 0 t + w 1 * lag 2 x 1 t + w 2 * lag 2 x 2 t
def conv4 (w x : ℕ → EReal) (t : ℕ) : EReal := w 0 * lag 3 x 0 t + w 1 * lag 3 x 1 t + w 2 * lag 3 x 2 t + w 3 * lag 3 x 3 t

/-- A kernel's test of its row block's number, as a test of the number. -/
theorem select_eq (n k : ℕ) (hn : n < 8) (hk : k < 8) (x y : EReal) :
    Scalar.select (Scalar.cmpi CmpIPredicate.eq (BitVec.ofNat 32 n) (BitVec.ofNat 32 k)) x y = if n = k then x else y := by
  have e : BitVec.ofNat 32 n = BitVec.ofNat 32 k ↔ n = k :=
    ⟨fun h => by have := congrArg BitVec.toNat h; simp only [BitVec.toNat_ofNat] at this; omega, fun h => h ▸ rfl⟩
  unfold Scalar.select Scalar.cmpi IntOp.cmpi
  by_cases h : n = k
  · subst h; simp
  · have hf : (BitVec.ofNat 32 n == BitVec.ofNat 32 k) = false := beq_eq_false_iff_ne.mpr fun h' => h (e.mp h')
    rw [if_neg h, if_neg]
    simp only [hf]
    decide

/-- The block's rows with the 16 rows before them, zero before the first block: row `n` of these, `k` rows after the
    one that lies `d` rows before the block's row `r`. -/
theorem padded_eq (b : ℕ) (hb : b < 8) (x : ℕ → EReal) (prev : Fin 16 → EReal) (cur : Fin 512 → EReal)
    (hp : b ≠ 0 → ∀ r, prev r = x (512 * b + r - 16)) (hc : ∀ r, cur r = x (512 * b + r))
    (d k r n : ℕ) (hn : n < 528) (hd : d ≤ 16) (h : n + d = 16 + r + k) :
    (if h : n < 16 then Scalar.select (Scalar.cmpi CmpIPredicate.eq (BitVec.ofNat 32 b) (BitVec.ofNat 32 0)) 0 (prev ⟨n, h⟩) else cur ⟨n - 16, by omega⟩)
      = lag d x k (512 * b + r) := by
  unfold lag
  by_cases hr : n < 16
  · rw [dif_pos hr, select_eq _ 0 hb (by omega)]
    by_cases hz : b = 0
    · rw [if_pos hz, if_pos (by omega)]
    · rw [if_neg hz, if_neg (by omega), hp hz]
      exact congrArg x (by show 512 * b + n - 16 = _; omega)
  · rw [dif_neg hr, if_neg (by omega), hc]
    exact congrArg x (by show 512 * b + (n - 16) = _; omega)

end Cert.Lag

end
-- ==== Proof.MConvBPay.lean ====
/-
  The gradient of the recurrence's causal convolution of four taps, its bias and `silu`, column by column; and what the
  kernel's pure computations of one block of rows are of it.
-/
module

public import proofs.«01_k».proof.Proof.Gen.MConvBIdeal.Skeleton
public import proofs.«01_k».proof.Proof.Gate
public import proofs.«01_k».proof.Proof.Lag
public import Idealize.ShloMosaic.Lib.Pointwise

@[expose] public section

noncomputable section

namespace Cert.MConvBPay

open Idealize.ShloMosaic Cert.MConvBIdeal Cert.MConvBIdeal.Gen Cert.Gate Cert.Lag
open scoped BigOperators

/-- The gradient with respect to the convolution's output, before `silu`: the incoming gradient times `silu`'s slope there. -/
def dpre (w X D : ℕ → EReal) (β : EReal) (t : ℕ) : EReal :=
  D t * (sigm (conv4 w X t + β) * (1 + (conv4 w X t + β) * (1 - sigm (conv4 w X t + β))))

/-- From it the gradient with respect to the convolution's input: the taps in reverse. -/
def dx (w P : ℕ → EReal) (t : ℕ) : EReal := w 0 * P (t + 3) + w 1 * P (t + 2) + w 2 * P (t + 1) + w 3 * P t

/-- A column's sum over its first `n` rows; tap `k`'s gradient and the bias's are such sums. -/
def total (f : ℕ → EReal) (n : ℕ) : EReal := ∑ t ∈ Finset.range n, f t

theorem total_block (f : ℕ → EReal) (b : ℕ) : total f (512 * (b + 1)) = total f (512 * b) + ∑ x : Fin 512, f (512 * b + x) := by
  unfold total
  rw [show 512 * (b + 1) = 512 * b + 512 by ring, Finset.sum_range_add, Finset.sum_range (n := 512)]

section
variable [Facts] (i : grid0.Coords) (xp : Vec Ideal S16x512 .bf16) (x : Vec Ideal S512x512 .bf16) (xn : Vec Ideal S16x512 .bf16)
  (t0 t1 t2 t3 β : Vec Ideal S1x1x512 .f32) (dn : Vec Ideal S16x512 .bf16) (d : Vec Ideal S512x512 .bf16)
  (l : Fin 512) (b : ℕ) (w X D : ℕ → EReal) (B : EReal)

/-- The gradient before `silu` as the kernel computes it, for the block's rows and the 16 after them. -/
abbrev U : FVec Ideal S528x512 .f32 := k0_pay11 (BitVec.ofNat 32 (i 1).val) (k0_pay9 i xp x xn t0 t1 t2) (k0_pay10 i xp x xn t3) β dn d

/-- That the loaded blocks are, in column `l`, block `b` of the columns `X` and `D`, the rows around it, the taps and the bias. -/
structure Loaded : Prop where
  hi : (i 1).val = b
  hp : b ≠ 0 → ∀ r : Fin 16, xp (ix2 r l) = X (512 * b + r - 16)
  hx : ∀ r : Fin 512, x (ix2 r l) = X (512 * b + r)
  hn : b ≠ 7 → ∀ r : Fin 16, xn (ix2 r l) = X (512 * b + 512 + r)
  h0 : t0 (ix3 0 0 l) = w 0
  h1 : t1 (ix3 0 0 l) = w 1
  h2 : t2 (ix3 0 0 l) = w 2
  h3 : t3 (ix3 0 0 l) = w 3
  hβ : β (ix3 0 0 l) = B
  hdn : b ≠ 7 → ∀ r : Fin 16, dn (ix2 r l) = D (512 * b + 512 + r)
  hd : ∀ r : Fin 512, d (ix2 r l) = D (512 * b + r)
  hz : ∀ t, 4096 ≤ t → D t = 0

variable {i xp x xn t0 t1 t2 t3 β dn d l b w X D B}
variable (h : Loaded i xp x xn t0 t1 t2 t3 β dn d l b w X D B)
include h

/-- Row `n` of the block with the rows around it. -/
theorem around_apply (n : Fin 544) (hn : n.val < 528 ∨ b ≠ 7) :
    k0_pay4 (F := Ideal) i xp x xn (ix2 n l) = if 512 * b + n < 16 then 0 else X (512 * b + n - 16) := by
  have hb : (i 1).val < 8 := (i 1).isLt
  have hi := h.hi
  pointwise [k0_pay4]
  by_cases h16 : n.val < 16
  · rw [dif_pos h16, select_eq _ 0 hb (by omega), hi]
    by_cases h0 : b = 0
    · rw [if_pos h0, if_pos (show 512 * b + n.val < 16 by omega)]
    · rw [if_neg h0, if_neg (show ¬512 * b + n.val < 16 by omega), h.hp h0]
  rw [dif_neg h16, if_neg (show ¬512 * b + n.val < 16 by omega)]
  split
  · rw [h.hx]
    exact congrArg X (by show 512 * b + (n.val - 16) = _; omega)
  · rw [h.hn (by omega)]
    exact congrArg X (by show 512 * b + 512 + (n.val - 16 - 512) = _; omega)

theorem view_apply (r : Fin 528) (hr : r.val < 512 ∨ b ≠ 7) :
    k0_pay5 (F := Ideal) i xp x xn (ix2 r l) = lag 3 X 0 (512 * b + r) ∧ k0_pay6 (F := Ideal) i xp x xn (ix2 r l) = lag 3 X 1 (512 * b + r)
      ∧ k0_pay7 (F := Ideal) i xp x xn (ix2 r l) = lag 3 X 2 (512 * b + r) ∧ k0_pay8 (F := Ideal) i xp x xn (ix2 r l) = lag 3 X 3 (512 * b + r) := by
  have key : ∀ (n : Fin 544) (k : ℕ), k ≤ 3 → n.val = r + 13 + k → k0_pay4 (F := Ideal) i xp x xn (ix2 n l) = lag 3 X k (512 * b + r) := by
    intro n k hk hn
    rw [around_apply h n (by omega)]
    unfold lag
    by_cases hc : 512 * b + n.val < 16
    · rw [if_pos hc, if_pos (by omega)]
    · rw [if_neg hc, if_neg (by omega)]
      exact congrArg X (by omega)
  have e5 : (16 + (r : ℕ) + 544 - 3) % 544 = r + 13 := by omega
  have e6 : (16 + (r : ℕ) + 544 - 2) % 544 = r + 14 := by omega
  have e7 : (16 + (r : ℕ) + 544 - 1) % 544 = r + 15 := by omega
  refine ⟨?_, ?_, ?_, ?_⟩
  · pointwise [k0_pay5]
    exact key _ 0 (by omega) (by simp only [e5])
  · pointwise [k0_pay6]
    exact key _ 1 (by omega) (by simp only [e6])
  · pointwise [k0_pay7]
    exact key _ 2 (by omega) (by simp only [e7])
  · pointwise [k0_pay8]
    exact key _ 3 (by omega) (by show 16 + r.val = _; omega)

theorem before_apply (r : Fin 528) (hr : r.val < 512 ∨ b ≠ 7) :
    (k0_pay9 (F := Ideal) i xp x xn t0 t1 t2 (ix2 r l) + k0_pay10 (F := Ideal) i xp x xn t3 (ix2 r l)) = conv4 w X (512 * b + r) := by
  obtain ⟨v0, v1, v2, v3⟩ := view_apply h r hr
  unfold conv4
  rw [← v0, ← v1, ← v2, ← v3, ← h.h0, ← h.h1, ← h.h2, ← h.h3]
  unfold k0_pay9 k0_pay10
  generalize k0_pay5 (F := Ideal) i xp x xn = y0
  generalize k0_pay6 (F := Ideal) i xp x xn = y1
  generalize k0_pay7 (F := Ideal) i xp x xn = y2
  generalize k0_pay8 (F := Ideal) i xp x xn = y3
  pointwise

theorem U_apply (r : Fin 528) : U i xp x xn t0 t1 t2 t3 β dn d (ix2 r l) = dpre w X D B (512 * b + r) := by
  have e : U i xp x xn t0 t1 t2 t3 β dn d (ix2 r l) = (if h : r.val < 512 then d (ix2 ⟨r, h⟩ l)
        else Scalar.select (Scalar.cmpi CmpIPredicate.eq (BitVec.ofNat 32 (i 1).val) 7#32) 0 (dn (ix2 ⟨r - 512, by omega⟩ l)))
      * (sigm (k0_pay9 (F := Ideal) i xp x xn t0 t1 t2 (ix2 r l) + k0_pay10 (F := Ideal) i xp x xn t3 (ix2 r l) + β (ix3 0 0 l))
        * (1 + (k0_pay9 (F := Ideal) i xp x xn t0 t1 t2 (ix2 r l) + k0_pay10 (F := Ideal) i xp x xn t3 (ix2 r l) + β (ix3 0 0 l))
          * (1 - sigm (k0_pay9 (F := Ideal) i xp x xn t0 t1 t2 (ix2 r l) + k0_pay10 (F := Ideal) i xp x xn t3 (ix2 r l) + β (ix3 0 0 l))))) := by
    unfold U
    generalize k0_pay9 (F := Ideal) i xp x xn t0 t1 t2 = u
    generalize k0_pay10 (F := Ideal) i xp x xn t3 = v
    unfold sigm
    rw [← zero_sub, ← Ideal.ofBits_one_f32, ← Ideal.ofBits_zero_f32]
    pointwise [k0_pay11]
  rw [e]
  unfold dpre
  by_cases hr : r.val < 512
  · rw [dif_pos hr, h.hd, before_apply h r (Or.inl hr), h.hβ]
  have hb : (i 1).val < 8 := (i 1).isLt
  rw [dif_neg hr, select_eq _ 7 hb (by omega), h.hi]
  by_cases h7 : b = 7
  · rw [if_pos h7, zero_mul, h.hz _ (by omega), zero_mul]
  · have e' : 512 * b + 512 + ((⟨r - 512, by omega⟩ : Fin 16) : ℕ) = 512 * b + r := by
      show 512 * b + 512 + (r.val - 512) = _
      omega
    rw [if_neg h7, h.hdn h7, before_apply h r (Or.inr h7), h.hβ, e']

theorem dx_apply (r : Fin 512) :
    k0_pay15 (F := Ideal) (U i xp x xn t0 t1 t2 t3 β dn d)
      (k0_pay12 (BitVec.ofNat 32 (i 1).val) (k0_pay9 i xp x xn t0 t1 t2) (k0_pay10 i xp x xn t3) β dn d t0)
      (k0_pay13 (BitVec.ofNat 32 (i 1).val) (k0_pay9 i xp x xn t0 t1 t2) (k0_pay10 i xp x xn t3) β dn d) (k0_pay14 t1) t2 t3 (ix2 r l)
      = dx w (dpre w X D B) (512 * b + r) := by
  have key : ∀ (n : Fin 528) (k : ℕ), n.val = r + k → U i xp x xn t0 t1 t2 t3 β dn d (ix2 n l) = dpre w X D B (512 * b + r + k) :=
    fun n k hn => (U_apply h n).trans (congrArg _ (by omega))
  have e3 : ((r : ℕ) + 528 - 525) % 528 = r + 3 := by omega
  have e2 : ((r : ℕ) + 528 - 526) % 528 = r + 2 := by omega
  have e1 : ((r : ℕ) + 528 - 527) % 528 = r + 1 := by omega
  unfold dx
  rw [← key ⟨r + 3, by omega⟩ 3 rfl, ← key ⟨r + 2, by omega⟩ 2 rfl, ← key ⟨r + 1, by omega⟩ 1 rfl, ← Nat.add_zero (512 * b + r), ← key ⟨r, by omega⟩ 0 rfl,
    ← h.h0, ← h.h1, ← h.h2, ← h.h3]
  unfold k0_pay12 k0_pay13 U
  generalize k0_pay11 (BitVec.ofNat 32 (i 1).val) (k0_pay9 i xp x xn t0 t1 t2) (k0_pay10 i xp x xn t3) β dn d = u
  pointwise [k0_pay15, k0_pay14]
  simp only [e3, e2, e1]

/-- What a sum over the block's rows adds to the sum over the rows before. -/
theorem step (k : ℕ) (V : FVec Ideal S528x512 .f32) (hV : ∀ r : Fin 528, r.val < 512 → V (ix2 r l) = lag 3 X k (512 * b + r)) :
    total (fun t => dpre w X D B t * lag 3 X k t) (512 * b)
        + ∑ r : Fin 512, U i xp x xn t0 t1 t2 t3 β dn d (ix2 ⟨r, by omega⟩ l) * V (ix2 ⟨r, by omega⟩ l)
      = total (fun t => dpre w X D B t * lag 3 X k t) (512 * (b + 1)) := by
  rw [total_block]
  exact congrArg _ (Finset.sum_congr rfl fun r _ => by rw [U_apply h, hV _ r.isLt])

theorem step_bias : total (dpre w X D B) (512 * b) + ∑ r : Fin 512, U i xp x xn t0 t1 t2 t3 β dn d (ix2 ⟨r, by omega⟩ l)
      = total (dpre w X D B) (512 * (b + 1)) := by
  rw [total_block]
  exact congrArg _ (Finset.sum_congr rfl fun r _ => U_apply h _)

omit h in
/-- A row of a sum kept in an output: what it held plus the block's sum. -/
theorem pay19_apply (u : FVec Ideal S528x512 .f32) (o : Vec Ideal S1x512 .f32) :
    k0_pay19 (F := Ideal) u o (ix2 0 l) = o (ix2 0 l) + ∑ r : Fin 512, u (ix2 ⟨r, by omega⟩ l) := by
  pointwise [k0_pay19, k0_pay16]

omit h in
theorem rows_apply (V u : FVec Ideal S528x512 .f32) (o : Vec Ideal S1x512 .f32) :
    k0_pay20 (F := Ideal) V u o (ix2 0 l) = o (ix2 0 l) + ∑ r : Fin 512, u (ix2 ⟨r, by omega⟩ l) * V (ix2 ⟨r, by omega⟩ l)
      ∧ k0_pay1 (F := Ideal) V (k0_pay16 u) o (ix2 0 l) = o (ix2 0 l) + ∑ r : Fin 512, u (ix2 ⟨r, by omega⟩ l) * V (ix2 ⟨r, by omega⟩ l)
      ∧ k0_pay2 (F := Ideal) V (k0_pay16 u) o (ix2 0 l) = o (ix2 0 l) + ∑ r : Fin 512, u (ix2 ⟨r, by omega⟩ l) * V (ix2 ⟨r, by omega⟩ l)
      ∧ k0_pay3 (F := Ideal) V (k0_pay16 u) o (ix2 0 l) = o (ix2 0 l) + ∑ r : Fin 512, u (ix2 ⟨r, by omega⟩ l) * V (ix2 ⟨r, by omega⟩ l) := by
  refine ⟨?_, ?_, ?_, ?_⟩
  · pointwise [k0_pay20, k0_pay16]
  · pointwise [k0_pay1, k0_pay16]
  · pointwise [k0_pay2, k0_pay16]
  · pointwise [k0_pay3, k0_pay16]

/-- Rows of the kept sums after a point: tap `k`'s row gains the block's sum, the other rows stay. -/
theorem rows_step (r : Fin 8) (z : EReal) (o0 o1 o2 o3 : Vec Ideal S1x512 .f32)
    (hz : z = if r.val < 4 then total (fun t => dpre w X D B t * lag 3 X r t) (512 * b) else 0)
    (ho0 : r.val = 0 → o0 (ix2 0 l) = z) (ho1 : r.val = 1 → o1 (ix2 0 l) = z) (ho2 : r.val = 2 → o2 (ix2 0 l) = z) (ho3 : r.val = 3 → o3 (ix2 0 l) = z) :
    (if r.val = 3 then k0_pay3 (F := Ideal) (k0_pay8 i xp x xn) (k0_pay16 (U i xp x xn t0 t1 t2 t3 β dn d)) o3 (ix2 0 l)
      else if r.val = 2 then k0_pay2 (F := Ideal) (k0_pay7 i xp x xn) (k0_pay16 (U i xp x xn t0 t1 t2 t3 β dn d)) o2 (ix2 0 l)
      else if r.val = 1 then k0_pay1 (F := Ideal) (k0_pay6 i xp x xn) (k0_pay16 (U i xp x xn t0 t1 t2 t3 β dn d)) o1 (ix2 0 l)
      else if r.val = 0 then k0_pay20 (F := Ideal) (k0_pay5 i xp x xn) (U i xp x xn t0 t1 t2 t3 β dn d) o0 (ix2 0 l)
      else z) = if r.val < 4 then total (fun t => dpre w X D B t * lag 3 X r t) (512 * (b + 1)) else 0 := by
  split
  · next hr =>
    rw [if_pos (by omega)] at hz ⊢
    rw [(rows_apply _ _ _).2.2.2, ho3 hr, hz, hr]
    exact step h 3 _ fun r hr => (view_apply h r (Or.inl hr)).2.2.2
  split
  · next hr =>
    rw [if_pos (by omega)] at hz ⊢
    rw [(rows_apply _ _ _).2.2.1, ho2 hr, hz, hr]
    exact step h 2 _ fun r hr => (view_apply h r (Or.inl hr)).2.2.1
  split
  · next hr =>
    rw [if_pos (by omega)] at hz ⊢
    rw [(rows_apply _ _ _).2.1, ho1 hr, hz, hr]
    exact step h 1 _ fun r hr => (view_apply h r (Or.inl hr)).2.1
  split
  · next hr =>
    rw [if_pos (by omega)] at hz ⊢
    rw [(rows_apply _ _ _).1, ho0 hr, hz, hr]
    exact step h 0 _ fun r hr => (view_apply h r (Or.inl hr)).1
  rw [if_neg (by omega)] at hz ⊢
  exact hz

end

end Cert.MConvBPay

end
-- ==== Proof.MConvBRef.lean ====
/-
  The reference gradient of the recurrence's convolution, element by element.
-/
module

public import proofs.«01_k».proof.Proof.Gen.MConvBRefIdeal.Read
public import proofs.«01_k».proof.Proof.MConvBPay
public import proofs.«01_k».proof.Proof.At
public import proofs.«01_k».proof.Proof.Finite

@[expose] public section

noncomputable section

namespace Cert.MConvBRef

open Idealize.ShloMosaic Cert.MConvBRefIdeal Cert.MConvBRefIdeal.Gen Cert.MConvBRefIdeal.Read Cert.At Cert.Gate Cert.Lag Cert.Finite
open Cert.MConvBPay (dpre dx total)
open scoped BigOperators

/-- Columns of the arguments: the incoming gradient, the convolution's input, the taps, and the bias. -/
abbrev cD (x0 : S4096x3072.Idx → EReal) (q t : ℕ) : EReal := at2 x0 t q
abbrev cX (x1 : S4096x10240.Idx → EReal) (q t : ℕ) : EReal := at2 x1 t (7168 + q)
abbrev cW (x2 : S4x4x3072.Idx → EReal) (q k : ℕ) : EReal := at3 x2 0 k q

/-- The gradient before `silu` at row `t` of column `q`. -/
abbrev P (x0 : S4096x3072.Idx → EReal) (x1 : S4096x10240.Idx → EReal) (x2 : S4x4x3072.Idx → EReal) (x3 : S4x3072.Idx → EReal) (q : ℕ) : ℕ → EReal :=
  dpre (cW x2 q) (cX x1 q) (cD x0 q) (at2 x3 0 q)

theorem late (x0 : S4096x3072.Idx → EReal) (q t : ℕ) (h : 4096 ≤ t) : cD x0 q t = 0 := by
  unfold cD at2
  rw [dif_neg fun hh => absurd hh.1 (by omega)]

variable (x0 : Vec Ideal S4096x3072 .bf16) (x1 : Vec Ideal S4096x10240 .bf16) (x2 : Vec Ideal S4x4x3072 .f32) (x3 : Vec Ideal S4x3072 .f32) (q : Fin 3072)

theorem P_late (t : ℕ) (h : 4096 ≤ t) : P x0 x1 x2 x3 q t = 0 := by
  unfold P dpre
  rw [late x0 q t h, zero_mul]

theorem column (r : Fin 4096) : val_main_v1 (F := Ideal) x1 (ix2 r q) = cX x1 q r := by
  rw [val_main_v1_apply, val_main_v0_apply]
  exact at2_eq _ _ _ _ rfl rfl

theorem delayed (r : Fin 4099) (k t : ℕ) (h : r.val = t + k) : val_main_v7 (F := Ideal) x1 (ix2 r q) = lag 3 (cX x1 q) k t := by
  unfold val_main_v7 val_main_v6 val_main_cst lag
  pointwise
  rw [← h]
  split
  · rfl
  · rw [column]

theorem taps (k : Fin 4) : val_main_v3 (F := Ideal) x2 (ix2 k q) = cW x2 q k := by
  unfold val_main_v3 val_main_v2
  pointwise
  exact at3_eq _ _ _ _ _ rfl rfl rfl

theorem views (r : Fin 4096) : val_main_v11 (F := Ideal) x1 (ix2 r q) = lag 3 (cX x1 q) 0 r ∧ val_main_v17 (F := Ideal) x1 (ix2 r q) = lag 3 (cX x1 q) 1 r
    ∧ val_main_v24 (F := Ideal) x1 (ix2 r q) = lag 3 (cX x1 q) 2 r ∧ val_main_v31 (F := Ideal) x1 (ix2 r q) = lag 3 (cX x1 q) 3 r := by
  unfold val_main_v11 val_main_v17 val_main_v24 val_main_v31
  pointwise
  exact ⟨delayed _ _ _ _ _ (by simp), delayed _ _ _ _ _ (by simp; omega), delayed _ _ _ _ _ (by simp; omega), delayed _ _ _ _ _ (by simp; omega)⟩

theorem before (r : Fin 4096) : (val_main_v38 (F := Ideal) x1 x2 x3 : S4096x3072.Idx → EReal) (ix2 r q) = conv4 (cW x2 q) (cX x1 q) r + at2 x3 0 q := by
  obtain ⟨v0, v1, v2, v3⟩ := views x1 q r
  unfold conv4
  rw [← v0, ← v1, ← v2, ← v3, show at2 x3 0 q = x3 (ix2 0 q) from (at2_ix2 x3 (0 : Fin 4) q).symm]
  have hw := fun k => (taps x2 q k).symm
  rw [show cW x2 q 0 = _ from hw 0, show cW x2 q 1 = _ from hw 1, show cW x2 q 2 = _ from hw 2, show cW x2 q 3 = _ from hw 3]
  unfold val_main_v38 val_main_v37 val_main_v36 val_main_v35 val_main_v34 val_main_v33 val_main_v32 val_main_v30 val_main_v29 val_main_v28 val_main_v27 val_main_v26 val_main_v25 val_main_v23 val_main_v22 val_main_v21 val_main_v20 val_main_v19 val_main_v18 val_main_v16 val_main_v15 val_main_v14 val_main_v13 val_main_v12 val_main_v10 val_main_v9
  generalize val_main_v11 (F := Ideal) x1 = u0
  generalize val_main_v17 (F := Ideal) x1 = u1
  generalize val_main_v24 (F := Ideal) x1 = u2
  generalize val_main_v31 (F := Ideal) x1 = u3
  generalize val_main_v3 (F := Ideal) x2 = v
  pointwise [val_main_v4, val_main_v5]

theorem logistic (r : Fin 4096) :
    (val_main_v39_2 (F := Ideal) x1 x2 x3 : S4096x3072.Idx → EReal) (ix2 r q) = sigm (val_main_v38 (F := Ideal) x1 x2 x3 (ix2 r q)) := by
  unfold sigm
  rw [← Ideal.ofBits_one_f32]
  unfold val_main_v39_2 val_main_call0_v3 val_main_call0_v1 val_main_call0_v0
  generalize val_main_v38 (F := Ideal) x1 x2 x3 = u
  pointwise [val_main_call0_v4, val_main_call0_v2, val_main_call0_cst, val_main_call0_cst_0]

/-- Where the incoming gradient is real, the reference's gradient before `silu`. -/
theorem slope (h0 : ∀ i, IsReal (x0 i)) (r : Fin 4096) : (val_main_v41 (F := Ideal) x0 x1 x2 x3 : S4096x3072.Idx → EReal) (ix2 r q) = P x0 x1 x2 x3 q r := by
  have e : (val_main_v41 (F := Ideal) x0 x1 x2 x3 : S4096x3072.Idx → EReal) (ix2 r q)
      = x0 (ix2 r q) * (val_main_v39_2 (F := Ideal) x1 x2 x3 : S4096x3072.Idx → EReal) (ix2 r q)
        + (val_main_v38 (F := Ideal) x1 x2 x3 : S4096x3072.Idx → EReal) (ix2 r q) * x0 (ix2 r q)
          * ((val_main_v39_2 (F := Ideal) x1 x2 x3 : S4096x3072.Idx → EReal) (ix2 r q) * (1 - (val_main_v39_2 (F := Ideal) x1 x2 x3 : S4096x3072.Idx → EReal) (ix2 r q))) := by
    unfold val_main_v41 val_main_call1_v1 val_main_call1_v2 val_main_call1_v0 val_main_v39_1 val_main_call0_v7
    generalize val_main_v39_2 (F := Ideal) x1 x2 x3 = s
    generalize val_main_v38 (F := Ideal) x1 x2 x3 = u
    rw [← Ideal.ofBits_one_f32]
    pointwise [val_main_v40, val_main_call0_v6, val_main_call0_cst_1]
  obtain ⟨p, hp⟩ : IsReal (at2 x0 r q) := isReal_at2 h0 r q
  unfold P dpre
  rw [e, logistic, before, at2_ix2 x0, show cD x0 q r = _ from hp, hp]
  exact silu_slope p _

/-- The gradient with respect to the convolution's input. -/
theorem input (h0 : ∀ i, IsReal (x0 i)) (r : Fin 4096) : (val_main_v89 (F := Ideal) x0 x1 x2 x3 : S4096x3072.Idx → EReal) (ix2 r q) = dx (cW x2 q) (P x0 x1 x2 x3 q) r := by
  have hu := slope x0 x1 x2 x3 q h0
  have hP := P_late x0 x1 x2 x3 q
  revert hu hP
  unfold val_main_v89 val_main_v88 val_main_v83 val_main_v82 val_main_v77 val_main_v76 val_main_v72 val_main_v71 val_main_v66 val_main_v65 val_main_v61 val_main_v60 val_main_v55 val_main_v54
    val_main_v51 val_main_v46 val_main_v45 val_main_cst_5 val_main_cst_9 val_main_cst_13 val_main_cst_17
    val_main_v32 val_main_v30 val_main_v29 val_main_v25 val_main_v23 val_main_v22 val_main_v18 val_main_v16 val_main_v15 val_main_v12 val_main_v10 val_main_v9
  generalize P x0 x1 x2 x3 q = P
  generalize val_main_v41 (F := Ideal) x0 x1 x2 x3 = u
  intro hu hP
  pointwise
  simp only [hu, taps]
  have key : ∀ (n k : ℕ) (A : Prop) [Decidable A] (w : EReal), n = r + k → (A ↔ n < 4096) → (if h : A then w * P n else 0) = w * P (r + k) := by
    intro n k A _ w hn hA
    subst hn
    by_cases h : A
    · rw [dif_pos h]
    · rw [dif_neg h, hP _ (by have := mt hA.mpr h; omega), mul_zero]
  rw [key (3 + r - 2) 1 _ _ (by omega) (by omega), key (3 + r - 1) 2 _ _ (by omega) (by omega), key (3 + r) 3 _ _ (by omega) (by omega)]
  unfold dx
  show cW x2 q 3 * P r + cW x2 q 2 * P (r + 1) + cW x2 q 1 * P (r + 2) + cW x2 q 0 * P (r + 3) = _
  abel

/-- The gradient with respect to the taps, in the first four of eight rows. -/
theorem tap_rows (h0 : ∀ i, IsReal (x0 i)) (r : Fin 8) : (val_main_v91 (F := Ideal) x0 x1 x2 x3 : S8x3072.Idx → EReal) (ix2 r q)
    = if r.val < 4 then total (fun t => P x0 x1 x2 x3 q t * lag 3 (cX x1 q) r t) 4096 else 0 := by
  have hu := slope x0 x1 x2 x3 q h0
  have hv := fun r => views x1 q r
  revert hu hv
  unfold val_main_v91 val_main_v90 val_main_v86 val_main_v85 val_main_v84 val_main_v81 val_main_v80 val_main_v79 val_main_v78 val_main_v75 val_main_v74 val_main_v73 val_main_v70 val_main_v69
    val_main_v68 val_main_v67 val_main_v64 val_main_v63 val_main_v62 val_main_v59 val_main_v58 val_main_v57 val_main_v56 val_main_v53 val_main_v52 val_main_v50 val_main_v49 val_main_v48 val_main_v47
    val_main_cst_3 val_main_cst_4 val_main_cst_6 val_main_cst_7 val_main_cst_8 val_main_cst_10 val_main_cst_11 val_main_cst_12 val_main_cst_14 val_main_cst_15 val_main_cst_16 val_main_cst_18 val_main_cst_19
  generalize P x0 x1 x2 x3 q = P
  generalize val_main_v41 (F := Ideal) x0 x1 x2 x3 = u
  generalize val_main_v11 (F := Ideal) x1 = u0
  generalize val_main_v17 (F := Ideal) x1 = u1
  generalize val_main_v24 (F := Ideal) x1 = u2
  generalize val_main_v31 (F := Ideal) x1 = u3
  intro hu hv
  pointwise
  simp only [hu, (hv _).1, (hv _).2.1, (hv _).2.2.1, (hv _).2.2.2]
  have hs : ∀ k : ℕ, (∑ _y : Fin 1, ∑ x : Fin 4096, P x * lag 3 (cX x1 q) k x) = total (fun t => P t * lag 3 (cX x1 q) k t) 4096 := by
    intro k
    unfold total
    rw [Fin.sum_univ_one, Finset.sum_range]
  simp only [hs]
  obtain ⟨r, hr⟩ := r
  by_cases h4 : r < 4
  · simp only [dif_pos h4, if_pos h4]
    interval_cases r <;> simp
  · simp only [dif_neg h4, if_neg h4]

/-- The gradient with respect to the bias. -/
theorem bias (h0 : ∀ i, IsReal (x0 i)) : (val_main_v92 (F := Ideal) x0 x1 x2 x3 : S1x3072.Idx → EReal) (ix2 0 q) = total (P x0 x1 x2 x3 q) 4096 := by
  have hu := slope x0 x1 x2 x3 q h0
  revert hu
  unfold val_main_v92 val_main_v44 val_main_v43 val_main_v42 val_main_cst_1 val_main_cst_2 total
  generalize P x0 x1 x2 x3 q = P
  generalize val_main_v41 (F := Ideal) x0 x1 x2 x3 = u
  intro hu
  pointwise
  simp only [hu]
  rw [Fin.sum_univ_one, Finset.sum_range]

end Cert.MConvBRef

end
-- ==== Proof.MConvBEw.lean ====
/-
  The gradient of the recurrence's causal convolution, its bias and `silu`: the kernel's three results, and the claims.
-/
module

public import proofs.«01_k».proof.Defs
public import proofs.«01_k».proof.Proof.Gen.MConvB.Frame
public import proofs.«01_k».proof.Proof.Gen.MConvBIdeal.Value
public import proofs.«01_k».proof.Proof.Gen.MConvBRefIdeal.Run
public import proofs.«01_k».proof.Proof.Gen.Pre_mcb_finite
public import proofs.«01_k».proof.Proof.MConvBRef
public import proofs.«01_k».proof.Proof.Place
public import proofs.«01_k».proof.Proof.Rows
public import Idealize.ShloMosaic.Lib.Pipeline.Value
public import Idealize.ShloMosaic.Lib.Pipeline.ValueKit
public import Idealize.ShloMosaic.Lib.WritesUnit
public import Idealize.ShloMosaic.Lib.Tactic
public import Idealize.ShloMosaic.Lib.Claim

@[expose] public section

noncomputable section

namespace Cert.MConvBProof

open Idealize.ShloMosaic Idealize.ShloMosaic.TcCoe Cert.MConvBIdeal Cert.MConvBIdeal.Gen Cert.At Cert.Finite Cert.Lag Cert.Rows Idealize.SL.Sem
open Idealize.ShloMosaic.Pipeline (Dat)
open Cert.MConvBPay
open Cert.MConvBRef (cD cX cW)
open scoped BigOperators

/-- The zeros a column's first point writes. -/
theorem zeros_apply (r : Fin 8) (l : Fin 512) : (k0_pay17 (F := Ideal) : S8x512.Idx → EReal) (ix2 r l) = 0 := by pointwise [k0_pay17]

section
variable (m : (ℓ : Loc nD τ sig) → Buf (Elt Ideal) ℓ) (c : Dev nD)

/-- The arguments, as launched, and the gradient before `silu`. -/
abbrev D : S4096x3072.Idx → EReal := m ((c : Thread nD τ).loc main_arg0)
abbrev X : S4096x10240.Idx → EReal := m ((c : Thread nD τ).loc main_arg1)
abbrev W : S4x4x3072.Idx → EReal := m ((c : Thread nD τ).loc main_arg2)
abbrev B : S4x3072.Idx → EReal := m ((c : Thread nD τ).loc main_arg3)
abbrev P (q : ℕ) : ℕ → EReal := Cert.MConvBRef.P (D m c) (X m c) (W m c) (B m c) q

theorem index0 : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem index1 : ∀ t : Fin cfg0.N, win0_1.index t (0 : Fin 2) = min (32 * (t.val % 8) + 32) 255 ∧ win0_1.index t (1 : Fin 2) = t.val / 8 :=
  (by decide +kernel : ∀ t : Fin grid0.N, win0_1.index t (0 : Fin 2) = min (32 * (t.val % 8) + 32) 255 ∧ win0_1.index t (1 : Fin 2) = t.val / 8)
theorem index2 : ∀ t : Fin cfg0.N, win0_2.index t (0 : Fin 2) = t.val % 8 ∧ win0_2.index t (1 : Fin 2) = 14 + t.val / 8 :=
  (by decide +kernel : ∀ t : Fin grid0.N, win0_2.index t (0 : Fin 2) = t.val % 8 ∧ win0_2.index t (1 : Fin 2) = 14 + t.val / 8)
theorem index3 : ∀ t : Fin cfg0.N, win0_3.index t (0 : Fin 2) = 32 * (t.val % 8) - 1 ∧ win0_3.index t (1 : Fin 2) = 14 + t.val / 8 :=
  (by decide +kernel : ∀ t : Fin grid0.N, win0_3.index t (0 : Fin 2) = 32 * (t.val % 8) - 1 ∧ win0_3.index t (1 : Fin 2) = 14 + t.val / 8)
theorem index4 : ∀ t : Fin cfg0.N, win0_4.index t (0 : Fin 2) = min (32 * (t.val % 8) + 32) 255 ∧ win0_4.index t (1 : Fin 2) = 14 + t.val / 8 :=
  (by decide +kernel : ∀ t : Fin grid0.N, win0_4.index t (0 : Fin 2) = min (32 * (t.val % 8) + 32) 255 ∧ win0_4.index t (1 : Fin 2) = 14 + t.val / 8)
theorem index5 : ∀ t : Fin cfg0.N, win0_5.index t (0 : Fin 3) = 0 ∧ win0_5.index t (1 : Fin 3) = 0 ∧ win0_5.index t (2 : Fin 3) = t.val / 8 :=
  (by decide +kernel : ∀ t : Fin grid0.N, win0_5.index t (0 : Fin 3) = 0 ∧ win0_5.index t (1 : Fin 3) = 0 ∧ win0_5.index t (2 : Fin 3) = t.val / 8)
theorem index6 : ∀ t : Fin cfg0.N, win0_6.index t (0 : Fin 3) = 0 ∧ win0_6.index t (1 : Fin 3) = 0 ∧ win0_6.index t (2 : Fin 3) = t.val / 8 :=
  (by decide +kernel : ∀ t : Fin grid0.N, win0_6.index t (0 : Fin 3) = 0 ∧ win0_6.index t (1 : Fin 3) = 0 ∧ win0_6.index t (2 : Fin 3) = t.val / 8)
theorem index7 : ∀ t : Fin cfg0.N, win0_7.index t (0 : Fin 2) = t.val % 8 ∧ win0_7.index t (1 : Fin 2) = t.val / 8 :=
  (by decide +kernel : ∀ t : Fin grid0.N, win0_7.index t (0 : Fin 2) = t.val % 8 ∧ win0_7.index t (1 : Fin 2) = t.val / 8)
theorem index8 : ∀ t : Fin cfg0.N, win0_8.index t (0 : Fin 2) = 0 ∧ win0_8.index t (1 : Fin 2) = t.val / 8 :=
  (by decide +kernel : ∀ t : Fin grid0.N, win0_8.index t (0 : Fin 2) = 0 ∧ win0_8.index t (1 : Fin 2) = t.val / 8)
theorem index9 : ∀ t : Fin cfg0.N, win0_9.index t (0 : Fin 2) = 0 ∧ win0_9.index t (1 : Fin 2) = t.val / 8 :=
  (by decide +kernel : ∀ t : Fin grid0.N, win0_9.index t (0 : Fin 2) = 0 ∧ win0_9.index t (1 : Fin 2) = t.val / 8)
theorem coord : ∀ t : Fin cfg0.N, (grid0.coords t 1).val = t.val % 8 :=
  (by decide +kernel : ∀ t : Fin grid0.N, (grid0.coords t 1).val = t.val % 8)

theorem points (t : Fin cfg0.N) : t.val < 48 := Nat.lt_of_lt_of_eq t.isLt N_0

theorem hz3 : (![0, 0, 0] : Fin 3 → Nat) = fun _ => 0 := funext fun a => by fin_cases a <;> rfl

theorem hz : (![0, 0] : Fin 2 → Nat) = fun _ => 0 := funext fun a => by fin_cases a <;> rfl

/-- The taps' array as the grid finds it: the taps followed by rows of zeros. -/
theorem V_taps : V m c main_v1 = concatenate S4x8x3072 1 [⟨S4x4x3072, W m c⟩,
    ⟨S4x4x3072, (broadcastInDim S4x4x3072 ![] bcast_S_S4x4x3072 : (⟨S_, .f32⟩ : BufTy).Contents (Elt Ideal) → (⟨S4x4x3072, .f32⟩ : BufTy).Contents (Elt Ideal)) (constant (F := Ideal) S_ .f32 0x00000000#32)⟩] concatenates_S4x4x3072_S4x4x3072_S4x8x3072_d1 := by
  unfold V hostOps0
  after_results

/-- The bias as the grid finds it. -/
theorem V_bias : V m c main_v2 = shapeCast S4x1x3072 (B m c : Vec Ideal S4x3072 .f32) shapeCasts_S4x3072_S4x1x3072 := by
  unfold V hostOps0
  after_results
  rfl

variable (t : Fin cfg0.N) (l : Fin 512)

theorem block5 (k : Fin 8) (hk : k.val < 4) : (iblk m c 5 t : Vec Ideal S1x8x512 .f32) (ix3 0 k l) = at3 (W m c) 0 k (512 * (t.val / 8) + l) := by
  unfold iblk
  rw [View.read_apply]
  show V m c main_v1 (((cfg0.win 5).blk t).view.emb (ix3 0 k l)) = _
  have h1 : (((cfg0.win 5).blk t).view.emb (ix3 (0 : Fin 1) k l)) = ix3 (n0 := 4) (n1 := 8) (n2 := 3072) 0 k ⟨512 * (t.val / 8) + l, by have := points t; omega⟩ := by
    refine funext fun d => Fin.ext ?_
    fin_cases d
    · exact place win0_5 (index5 t).1 (by show 0 * 1 + 0 = 0; omega)
    · exact place win0_5 (index5 t).2.1 (by show 0 * 8 + k.val = k.val; omega)
    · exact place win0_5 (index5 t).2.2 (by show (t.val / 8) * 512 + l.val = 512 * (t.val / 8) + l.val; omega)
  rw [h1, V_taps]
  pointwise
  rw [dif_pos hk]
  exact at3_eq _ _ _ _ _ rfl rfl rfl

theorem tap_apply (k : ℕ) (inb : ∀ d, (![0, k, 0] : Fin 3 → ℕ) d + (![1, 1, 512] : Fin 3 → ℕ) d ≤ S1x8x512.size d) (hk : k < 4) :
    View.ld (iblk m c 5 t : Vec Ideal S1x8x512 .f32) (Rect.unit ![0, k, 0] ![1, 1, 512] inb) (ix3 (0 : Fin 1) (0 : Fin 1) l) = at3 (W m c) 0 k (512 * (t.val / 8) + l) :=
  (congrArg (iblk m c 5 t : Vec Ideal S1x8x512 .f32) (funext fun d => Fin.ext (by fin_cases d <;> simp [Rect.emb, Rect.unit] <;> rfl))).trans (block5 m c t l ⟨k, by omega⟩ hk)

theorem block6 : (iblk m c 6 t : Vec Ideal S1x1x512 .f32) (ix3 0 0 l) = at2 (B m c) 0 (512 * (t.val / 8) + l) := by
  unfold iblk
  rw [View.read_apply]
  show V m c main_v2 (((cfg0.win 6).blk t).view.emb (ix3 0 0 l)) = _
  have h1 : (((cfg0.win 6).blk t).view.emb (ix3 (0 : Fin 1) (0 : Fin 1) l)) = ix3 (n0 := 4) (n1 := 1) (n2 := 3072) 0 (0 : Fin 1) ⟨512 * (t.val / 8) + l, by have := points t; omega⟩ := by
    refine funext fun d => Fin.ext ?_
    fin_cases d
    · exact place win0_6 (index6 t).1 (by show 0 * 1 + 0 = 0; omega)
    · exact place win0_6 (index6 t).2.1 (by show 0 * 1 + 0 = 0; omega)
    · exact place win0_6 (index6 t).2.2 (by show (t.val / 8) * 512 + l.val = 512 * (t.val / 8) + l.val; omega)
  rw [h1, V_bias]
  have e : ∀ q : Fin 3072, (shapeCast S4x1x3072 (B m c : Vec Ideal S4x3072 .f32) shapeCasts_S4x3072_S4x1x3072 : S4x1x3072.Idx → EReal) (ix3 0 0 q) = B m c (ix2 0 q) := by
    intro q
    pointwise
  rw [e]
  exact at2_eq _ _ _ _ rfl rfl

/-- What a point loads. -/
theorem loaded : Loaded (grid0.coords t) (iblk m c 3 t) (iblk m c 2 t) (iblk m c 4 t)
    (View.ld (iblk m c 5 t : Vec Ideal S1x8x512 .f32) (Rect.unit ![0, 0, 0] ![1, 1, 512] inb_S1x8x512_S1x1x512_0_0_0))
    (View.ld (iblk m c 5 t : Vec Ideal S1x8x512 .f32) (Rect.unit ![0, 1, 0] ![1, 1, 512] inb_S1x8x512_S1x1x512_0_1_0))
    (View.ld (iblk m c 5 t : Vec Ideal S1x8x512 .f32) (Rect.unit ![0, 2, 0] ![1, 1, 512] inb_S1x8x512_S1x1x512_0_2_0))
    (View.ld (iblk m c 5 t : Vec Ideal S1x8x512 .f32) (Rect.unit ![0, 3, 0] ![1, 1, 512] inb_S1x8x512_S1x1x512_0_3_0))
    (iblk m c 6 t) (iblk m c 1 t) (iblk m c 0 t) l (t.val % 8) (cW (W m c) (512 * (t.val / 8) + l)) (cX (X m c) (512 * (t.val / 8) + l))
    (cD (D m c) (512 * (t.val / 8) + l)) (at2 (B m c) 0 (512 * (t.val / 8) + l)) where
  hi := coord t
  hp := fun hb r => (congrFun (V_main_arg1 m c) (((cfg0.win 3).blk t).view.emb (ix2 r l))).trans (at2_eq _ _ _ _
    (place win0_3 (index3 t).1 (by show (32 * (t.val % 8) - 1) * 16 + r.val = _; omega))
    (place win0_3 (index3 t).2 (by show (14 + t.val / 8) * 512 + l.val = _; omega)))
  hx := fun r => (congrFun (V_main_arg1 m c) (((cfg0.win 2).blk t).view.emb (ix2 r l))).trans (at2_eq _ _ _ _
    (place win0_2 (index2 t).1 (by show (t.val % 8) * 512 + r.val = _; omega))
    (place win0_2 (index2 t).2 (by show (14 + t.val / 8) * 512 + l.val = _; omega)))
  hn := fun hb r => (congrFun (V_main_arg1 m c) (((cfg0.win 4).blk t).view.emb (ix2 r l))).trans (at2_eq _ _ _ _
    (place win0_4 (index4 t).1 (by show (min (32 * (t.val % 8) + 32) 255) * 16 + r.val = _; omega))
    (place win0_4 (index4 t).2 (by show (14 + t.val / 8) * 512 + l.val = _; omega)))
  h0 := tap_apply m c t l 0 _ (by omega)
  h1 := tap_apply m c t l 1 _ (by omega)
  h2 := tap_apply m c t l 2 _ (by omega)
  h3 := tap_apply m c t l 3 _ (by omega)
  hβ := block6 m c t l
  hdn := fun hb r => (congrFun (V_main_arg0 m c) (((cfg0.win 1).blk t).view.emb (ix2 r l))).trans (at2_eq _ _ _ _
    (place win0_1 (index1 t).1 (by show (min (32 * (t.val % 8) + 32) 255) * 16 + r.val = _; omega))
    (place win0_1 (index1 t).2 (by show (t.val / 8) * 512 + l.val = _; omega)))
  hd := fun r => (congrFun (V_main_arg0 m c) (((cfg0.win 0).blk t).view.emb (ix2 r l))).trans (at2_eq _ _ _ _
    (place win0_0 (index0 t).1 (by show (t.val % 8) * 512 + r.val = _; omega))
    (place win0_0 (index0 t).2 (by show (t.val / 8) * 512 + l.val = _; omega)))
  hz := fun n hn => Cert.MConvBRef.late (D m c) _ n hn

/-! ## What the points leave in the output blocks -/

/-- A quantity that the first point of a column sets and each later one takes further. -/
theorem carried {α : Type} (f : ∀ n, n < cfg0.N → α) (g : ℕ → ℕ → α)
    (hA : ∀ t : Fin cfg0.N, t.val % 8 = 0 → f t.val t.isLt = g (t.val / 8) (512 * (t.val % 8 + 1)))
    (hB : ∀ t : Fin cfg0.N, ¬t.val % 8 = 0 → f (t.val - 1) (Nat.lt_of_le_of_lt (Nat.sub_le _ _) t.isLt) = g (t.val / 8) (512 * (t.val % 8)) → f t.val t.isLt = g (t.val / 8) (512 * (t.val % 8 + 1))) :
    ∀ (n : ℕ) (hn : n < cfg0.N), f n hn = g (n / 8) (512 * (n % 8 + 1)) := by
  intro n
  induction n with
  | zero => exact fun hn => hA ⟨0, hn⟩ rfl
  | succ n ih =>
    intro hn
    by_cases h0 : (n + 1) % 8 = 0
    · exact hA ⟨n + 1, hn⟩ h0
    · refine hB ⟨n + 1, hn⟩ h0 ((ih (Nat.lt_of_succ_lt hn)).trans ?_)
      rw [show (n + 1) / 8 = n / 8 by omega, show (n + 1) % 8 = n % 8 + 1 by omega]

theorem left7 (r : Fin 512) : (outsAt0 m c t.val t.isLt).1 (ix2 r l) = dx (cW (W m c) (512 * (t.val / 8) + l)) (P m c (512 * (t.val / 8) + l)) (512 * (t.val % 8) + r) := by
  by_cases h0 : t.val % 8 = 0
  · rw [outsAt0_A m c t h0]
    frame_out
    exact dx_apply (loaded m c t l) r
  · rw [outsAt0_B m c t h0]
    frame_out
    exact dx_apply (loaded m c t l) r

/-- The bias's gradient after a point: the sum over all rows up to and including the point's block. -/
theorem left9 (n : ℕ) (hn : n < cfg0.N) : (outsAt0 m c n hn).2.2 (ix2 0 l) = total (P m c (512 * (n / 8) + l)) (512 * (n % 8 + 1)) := by
  refine carried (fun n hn => (outsAt0 m c n hn).2.2 (ix2 0 l)) (fun a b => total (P m c (512 * a + l)) b) ?_ ?_ n hn
  · intro t h0
    beta_reduce
    rw [outsAt0_A m c t h0]
    frame_out
    rw [pay19_apply]
    have e : k0_pay18 (F := Ideal) (ix2 0 l) = total (P m c (512 * (t.val / 8) + l)) (512 * (t.val % 8)) := by
      rw [h0]
      pointwise [k0_pay18]
      rfl
    rw [e]
    exact step_bias (loaded m c t l)
  · intro t h0 ih
    beta_reduce at ih ⊢
    rw [outsAt0_B m c t h0]
    frame_out
    rw [pay19_apply, ih]
    exact step_bias (loaded m c t l)

/-- The taps' gradient after a point. -/
theorem left8 (n : ℕ) (hn : n < cfg0.N) (r : Fin 8) : (outsAt0 m c n hn).2.1 (ix2 r l)
    = if r.val < 4 then total (fun s => P m c (512 * (n / 8) + l) s * lag 3 (cX (X m c) (512 * (n / 8) + l)) r s) (512 * (n % 8 + 1)) else 0 := by
  refine carried (fun n hn => (outsAt0 m c n hn).2.1 (ix2 r l))
    (fun a b => if r.val < 4 then total (fun s => P m c (512 * a + l) s * lag 3 (cX (X m c) (512 * a + l)) r s) b else 0) ?_ ?_ n hn
  · intro t h0
    beta_reduce
    have hz : ∀ f : ℕ → EReal, (0 : EReal) = total f (512 * (t.val % 8)) := fun f => by rw [h0]; rfl
    rw [outsAt0_A m c t h0]
    dsimp only
    unfold out0_A_8 kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x512) Cert.MConvBProof.hz, View.ld_unit_zero (S := S16x512) Cert.MConvBProof.hz, View.ld_unit_zero (S := S1x1x512) hz3]
    rw [row_apply, row_apply, row_apply, row_apply, whole_apply, zeros_apply]
    refine rows_step (loaded m c t l) r 0 _ _ _ _ (by split <;> first | exact hz _ | rfl) ?_ ?_ ?_ ?_ <;> intro h <;> rw [back_apply (r := r) (h := h)] <;> simp only [row_apply, whole_apply, h, zeros_apply] <;> rfl
  · intro t h0 ih
    beta_reduce at ih ⊢
    rw [outsAt0_B m c t h0]
    dsimp only
    unfold out0_B_8 kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      (hs0_8 t).read_unread, View.ld_unit_zero (S := S512x512) hz, View.ld_unit_zero (S := S16x512) hz, View.ld_unit_zero (S := S1x1x512) hz3]
    rw [row_apply, row_apply, row_apply, row_apply, View.writes_nil, (hs0_8 t).read_unread]
    exact rows_step (loaded m c t l) r _ _ _ _ _ ih (load_apply l 0 _ r _) (load_apply l 1 _ r _) (load_apply l 2 _ r _) (load_apply l 3 _ r _)

/-! ## The result arrays -/

theorem final7 (i : S4096x3072.Idx) : ((dats m 0 c).arrAt 7 cfg0.N : S4096x3072.Idx → EReal) i = dx (cW (W m c) (i 1).val) (P m c (i 1).val) (i 0).val := by
  refine Dat.arrAt_forall_of_cover (dat := dats m 0 c) 7 (fun i x => x = dx (cW (W m c) (i 1).val) (P m c (i 1).val) (i 0).val) ?_ ?_ i
  · intro t hf y
    rw [Cert.MConvBIdeal.Value.flushed7]
    obtain ⟨r, l, rfl⟩ : ∃ (r : Fin 512) (l : Fin 512), y = ix2 r l := ⟨y 0, y 1, funext fun d => by fin_cases d <;> rfl⟩
    have e0 : (((cfg0.win 7).blk t).view.emb (ix2 r l) 0).val = 512 * (t.val % 8) + r.val := by
      exact place win0_7 (index7 t).1 (by show _ * 512 + r.val = _; omega)
    have e1 : (((cfg0.win 7).blk t).view.emb (ix2 r l) 1).val = 512 * (t.val / 8) + l.val := by
      exact place win0_7 (index7 t).2 (by show (t.val / 8) * 512 + l.val = _; omega)
    rw [e0, e1]
    show (outsAt0 m c t.val t.isLt).1 (ix2 r l) = _
    exact left7 m c t l r
  · intro i
    have h0 : (i 0).val < 4096 := (i 0).isLt
    have h1 : (i 1).val < 3072 := (i 1).isLt
    have hb : 8 * ((i 1).val / 512) + (i 0).val / 512 < cfg0.N := Nat.lt_of_lt_of_eq (by omega) N_0.symm
    refine ⟨⟨_, hb⟩, flush0_7 _, ?_⟩
    show i ∈ ((View.whole main_v3_0).slice (win0_7.rect ⟨_, hb⟩)).set
    rw [View.set_slice_whole, Rect.mem_set_unit]
    have hi := index7 ⟨_, hb⟩
    dsimp only at hi
    intro d
    fin_cases d
    · exact between (b := 512) (n := (i 0).val) hi.1 (by omega)
    · exact between (b := 512) (n := (i 1).val) hi.2 (by omega)

theorem final8 (i : S8x3072.Idx) : ((dats m 0 c).arrAt 8 cfg0.N : S8x3072.Idx → EReal) i = if (i 0).val < 4 then total (fun s => P m c (i 1).val s * lag 3 (cX (X m c) (i 1).val) (i 0).val s) 4096 else 0 := by
  refine Dat.arrAt_forall_of_cover (dat := dats m 0 c) 8 (fun i x => x = if (i 0).val < 4 then total (fun s => P m c (i 1).val s * lag 3 (cX (X m c) (i 1).val) (i 0).val s) 4096 else 0) ?_ ?_ i
  · intro t hf y
    rw [Cert.MConvBIdeal.Value.flushed8]
    obtain ⟨r, l, rfl⟩ : ∃ (r : Fin 8) (l : Fin 512), y = ix2 r l := ⟨y 0, y 1, funext fun d => by fin_cases d <;> rfl⟩
    have e0 : (((cfg0.win 8).blk t).view.emb (ix2 r l) 0).val = r.val := by
      exact place win0_8 (index8 t).1 (by show _ * 8 + r.val = _; omega)
    have e1 : (((cfg0.win 8).blk t).view.emb (ix2 r l) 1).val = 512 * (t.val / 8) + l.val := by
      exact place win0_8 (index8 t).2 (by show (t.val / 8) * 512 + l.val = _; omega)
    rw [e0, e1]
    have h7 : t.val % 8 = 7 := (flush0_8 t).mp hf
    show (outsAt0 m c t.val t.isLt).2.1 (ix2 r l) = _
    refine (left8 m c l t.val t.isLt r).trans ?_
    rw [h7]
  · intro i
    have h0 : (i 0).val < 8 := (i 0).isLt
    have h1 : (i 1).val < 3072 := (i 1).isLt
    have hb : 8 * ((i 1).val / 512) + 7 < cfg0.N := Nat.lt_of_lt_of_eq (by omega) N_0.symm
    refine ⟨⟨_, hb⟩, (flush0_8 _).mpr (by dsimp only; omega), ?_⟩
    show i ∈ ((View.whole main_v3_1).slice (win0_8.rect ⟨_, hb⟩)).set
    rw [View.set_slice_whole, Rect.mem_set_unit]
    have hi := index8 ⟨_, hb⟩
    dsimp only at hi
    intro d
    fin_cases d
    · exact between (b := 8) (n := (i 0).val) hi.1 (by omega)
    · exact between (b := 512) (n := (i 1).val) hi.2 (by omega)

theorem final9 (i : S1x3072.Idx) : ((dats m 0 c).arrAt 9 cfg0.N : S1x3072.Idx → EReal) i = total (P m c (i 1).val) 4096 := by
  refine Dat.arrAt_forall_of_cover (dat := dats m 0 c) 9 (fun i x => x = total (P m c (i 1).val) 4096) ?_ ?_ i
  · intro t hf y
    rw [Cert.MConvBIdeal.Value.flushed9]
    obtain ⟨r, l, rfl⟩ : ∃ (r : Fin 1) (l : Fin 512), y = ix2 r l := ⟨y 0, y 1, funext fun d => by fin_cases d <;> rfl⟩
    have e1 : (((cfg0.win 9).blk t).view.emb (ix2 r l) 1).val = 512 * (t.val / 8) + l.val := by
      exact place win0_9 (index9 t).2 (by show (t.val / 8) * 512 + l.val = _; omega)
    rw [e1]
    have h7 : t.val % 8 = 7 := (flush0_9 t).mp hf
    show (outsAt0 m c t.val t.isLt).2.2 (ix2 r l) = _
    rw [Fin.fin_one_eq_zero r]
    refine (left9 m c l t.val t.isLt).trans ?_
    rw [h7]
  · intro i
    have h0 : (i 0).val < 1 := (i 0).isLt
    have h1 : (i 1).val < 3072 := (i 1).isLt
    have hb : 8 * ((i 1).val / 512) + 7 < cfg0.N := Nat.lt_of_lt_of_eq (by omega) N_0.symm
    refine ⟨⟨_, hb⟩, (flush0_9 _).mpr (by dsimp only; omega), ?_⟩
    show i ∈ ((View.whole main_v3_2).slice (win0_9.rect ⟨_, hb⟩)).set
    rw [View.set_slice_whole, Rect.mem_set_unit]
    have hi := index9 ⟨_, hb⟩
    dsimp only at hi
    intro d
    fin_cases d
    · exact between (b := 1) (n := (i 0).val) hi.1 (by omega)
    · exact between (b := 512) (n := (i 1).val) hi.2 (by omega)

end

/-! ## The claims -/

theorem frame_kernel : Cert.quiescent_MConvB := fun m g _ => Cert.MConvB.Gen.frame m g

theorem frame_ideal : Cert.quiescent_MConvBIdeal := fun m g _ => Cert.MConvBIdeal.Gen.frame m g

theorem frame_reference : Cert.quiescent_MConvBRefIdeal := fun m g _ =>
  (θ_run Cert.MConvBRefIdeal.defs _ _).mono (fun r h => ⟨fun c => (h c).2.2.2, sem_eq_zero_of_no_sems (by decide) r.2⟩)
    (Cert.MConvBRefIdeal.Value.run (F := Ideal) m g)

theorem frame_ideal_pre : Cert.quiescent_MConvBIdeal_pre_mcb_finite := fun m g _ => frame_ideal m g trivial

theorem frame_reference_pre : Cert.quiescent_MConvBRefIdeal_pre_mcb_finite := fun m g _ => frame_reference m g trivial

/-- The reference's run, its results named by stages of its text. -/
theorem run_reference (m : (ℓ : Loc Cert.MConvBRefIdeal.nD Cert.MConvBRefIdeal.τ Cert.MConvBRefIdeal.sig) → Buf (Elt Ideal) ℓ) (g : Dev Cert.MConvBRefIdeal.nD → PrngReg) :
    θ_run Cert.MConvBRefIdeal.defs (onTc (τ := Cert.MConvBRefIdeal.τ) (Cert.MConvBRefIdeal.main (F := Ideal))) ⟨m, fun _ => 0, g⟩ fun r =>
      ∀ c : Dev Cert.MConvBRefIdeal.nD,
        let x0 := m ((c.tc : Thread Cert.MConvBRefIdeal.nD Cert.MConvBRefIdeal.τ).loc Cert.MConvBRefIdeal.main_arg0)
        let x1 := m ((c.tc : Thread Cert.MConvBRefIdeal.nD Cert.MConvBRefIdeal.τ).loc Cert.MConvBRefIdeal.main_arg1)
        let x2 := m ((c.tc : Thread Cert.MConvBRefIdeal.nD Cert.MConvBRefIdeal.τ).loc Cert.MConvBRefIdeal.main_arg2)
        let x3 := m ((c.tc : Thread Cert.MConvBRefIdeal.nD Cert.MConvBRefIdeal.τ).loc Cert.MConvBRefIdeal.main_arg3)
        r.2.mem ((c.tc : Thread Cert.MConvBRefIdeal.nD Cert.MConvBRefIdeal.τ).loc Cert.MConvBRefIdeal.main_v89) = Cert.MConvBRefIdeal.Read.val_main_v89 x0 x1 x2 x3
        ∧ r.2.mem ((c.tc : Thread Cert.MConvBRefIdeal.nD Cert.MConvBRefIdeal.τ).loc Cert.MConvBRefIdeal.main_v91) = Cert.MConvBRefIdeal.Read.val_main_v91 x0 x1 x2 x3
        ∧ r.2.mem ((c.tc : Thread Cert.MConvBRefIdeal.nD Cert.MConvBRefIdeal.τ).loc Cert.MConvBRefIdeal.main_v92) = Cert.MConvBRefIdeal.Read.val_main_v92 x0 x1 x2 x3
        ∧ r.2.mem ((c.tc : Thread Cert.MConvBRefIdeal.nD Cert.MConvBRefIdeal.τ).loc Cert.MConvBRefIdeal.main_arg0) = x0
        ∧ r.2.mem ((c.tc : Thread Cert.MConvBRefIdeal.nD Cert.MConvBRefIdeal.τ).loc Cert.MConvBRefIdeal.main_arg1) = x1
        ∧ r.2.mem ((c.tc : Thread Cert.MConvBRefIdeal.nD Cert.MConvBRefIdeal.τ).loc Cert.MConvBRefIdeal.main_arg2) = x2
        ∧ r.2.mem ((c.tc : Thread Cert.MConvBRefIdeal.nD Cert.MConvBRefIdeal.τ).loc Cert.MConvBRefIdeal.main_arg3) = x3 :=
  (θ_run _ _ _).mono (fun _ h c => ⟨(h c).1.trans (Cert.MConvBRefIdeal.Read.val_main_v89_eq _ _).symm, (h c).2.1.trans (Cert.MConvBRefIdeal.Read.val_main_v91_eq _ _).symm,
      (h c).2.2.1.trans (Cert.MConvBRefIdeal.Read.val_main_v92_eq _ _).symm, (h c).2.2.2⟩) (Cert.MConvBRefIdeal.Value.run m g)

/-- What the precondition says of a launch's arguments. -/
theorem finite_argument (m : (ℓ : Loc nD τ sig) → Buf (Elt Ideal) ℓ) (h : Cert.Pre_MConvBIdeal_mcb_finite m) (c : Dev nD) : ∀ i, IsReal (D m c i) :=
  fun i => isReal_of_test (congrFun (h c) i)

theorem algebraic : Cert.algebraic_MConvBIdeal_MConvBRefIdeal_pre_mcb_finite := by
  pair_intro
  · run_from Cert.MConvBIdeal.Value.run_blocks m g
  · run_from run_reference m' g'
    · refine funext fun i => ?_
      rw [final7 m c]
      exact (congrArg _ (funext fun d => by fin_cases d <;> rfl)).trans (Cert.MConvBRef.input _ _ _ _ (i 1) (finite_argument m hpre c) (i 0))
    · refine funext fun i => ?_
      rw [final8 m c]
      exact (congrArg _ (funext fun d => by fin_cases d <;> rfl)).trans (Cert.MConvBRef.tap_rows _ _ _ _ (i 1) (finite_argument m hpre c) (i 0))
    · refine funext fun i => ?_
      rw [final9 m c]
      exact (congrArg _ (funext fun d => by fin_cases d <;> first | rfl | exact Fin.fin_one_eq_zero _)).trans (Cert.MConvBRef.bias _ _ _ _ (i 1) (finite_argument m hpre c))

end Cert.MConvBProof

end
-- ==== Proof.MergeFEw.lean ====
/-
  The two branches' merge `sigmoid(ga) * ya + sigmoid(gm) * ym`.
-/
module

public import proofs.«01_k».proof.Defs
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeFRefIdeal.Read
public import proofs.«01_k».proof.Proof.Gate
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.MergeFProof

open Idealize.ShloMosaic Idealize.ShloMosaic.TcCoe Cert.MergeFIdeal Cert.MergeFIdeal.Gen Cert.At Cert.Dot Idealize.SL.Sem
open Idealize.ShloMosaic.Pipeline (Dat)
open scoped BigOperators
open Cert.Gate

/-- The merged branches. -/
def value4 (p : S4096x10240.Idx → EReal) (ya : S4096x1024.Idx → EReal) (ym : S4096x1024.Idx → EReal) (r q : ℕ) : EReal :=
  sigm (at2 p r (5120 + q)) * at2 ya r q + sigm (at2 p r (6144 + q)) * at2 ym r q

section
variable (m : (ℓ : Loc nD τ sig) → Buf (Elt Ideal) ℓ) (c : Dev nD)

/-- The arguments, as launched. -/
abbrev P : S4096x10240.Idx → EReal := m ((c : Thread nD τ).loc main_arg0)
abbrev Ya : S4096x1024.Idx → EReal := m ((c : Thread nD τ).loc main_arg1)
abbrev Ym : S4096x1024.Idx → EReal := m ((c : Thread nD τ).loc main_arg2)

theorem index0 : ∀ t : Fin cfg0.N, win0_0.index t (0 : Fin 2) = t.val ∧ win0_0.index t (1 : Fin 2) = 5 :=
  (by decide +kernel : ∀ t : Fin grid0.N, win0_0.index t (0 : Fin 2) = t.val ∧ win0_0.index t (1 : Fin 2) = 5)
theorem index1 : ∀ t : Fin cfg0.N, win0_1.index t (0 : Fin 2) = t.val ∧ win0_1.index t (1 : Fin 2) = 6 :=
  (by decide +kernel : ∀ t : Fin grid0.N, win0_1.index t (0 : Fin 2) = t.val ∧ win0_1.index t (1 : Fin 2) = 6)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .bf16) (ix2 a b) = at2 (P m c) (512 * (t.val) + a) (1024 * (5) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (5) * 1024 + b.val = _; omega)))

theorem block1 (a : Fin 512) (b : Fin 1024) : (iblk m c 1 t : Vec Ideal S512x1024 .bf16) (ix2 a b) = at2 (P m c) (512 * (t.val) + a) (1024 * (6) + b) :=
  (congrFun (V_main_arg0 m c) (((cfg0.win 1).blk t).view.emb (ix2 a b))).trans (at2_eq _ _ _ _
    (place win0_1 (index1 t).1 (by show (t.val) * 512 + a.val = _; omega))
    (place win0_1 (index1 t).2 (by show (6) * 1024 + b.val = _; omega)))

theorem block2 (a : Fin 512) (b : Fin 1024) : (iblk m c 2 t : Vec Ideal S512x1024 .bf16) (ix2 a b) = at2 (Ya m c) (512 * (t.val) + a) (1024 * (0) + b) :=
  (congrFun (V_main_arg1 m c) (((cfg0.win 2).blk t).view.emb (ix2 a b))).trans (at2_eq _ _ _ _
    (place win0_2 (index2 t).1 (by show (t.val) * 512 + a.val = _; omega))
    (place win0_2 (index2 t).2 (by show (0) * 1024 + b.val = _; omega)))

theorem block3 (a : Fin 512) (b : Fin 1024) : (iblk m c 3 t : Vec Ideal S512x1024 .bf16) (ix2 a b) = at2 (Ym m c) (512 * (t.val) + a) (1024 * (0) + b) :=
  (congrFun (V_main_arg2 m c) (((cfg0.win 3).blk t).view.emb (ix2 a b))).trans (at2_eq _ _ _ _
    (place win0_3 (index3 t).1 (by show (t.val) * 512 + a.val = _; omega))
    (place win0_3 (index3 t).2 (by show (0) * 1024 + b.val = _; omega)))

/-! ## The computations of one grid point -/

theorem value4_apply (v0 : Vec Ideal S512x1024 .bf16) (v1 : Vec Ideal S512x1024 .bf16) (v2 : Vec Ideal S512x1024 .bf16) (v3 : Vec Ideal S512x1024 .bf16) (r : Fin 512) (l : Fin 1024) :
    (k0_pay1 (F := Ideal) v0 v2 v1 v3 : S512x1024.Idx → EReal) (ix2 r l) = sigm (v0 (ix2 r l)) * v2 (ix2 r l) + sigm (v1 (ix2 r l)) * v3 (ix2 r l) := by
  unfold sigm
  rw [← zero_sub, ← zero_sub, ← Ideal.ofBits_one_f32, ← Ideal.ofBits_zero_f32]
  pointwise [k0_pay1]

theorem result_block4 (r : Fin 512) (l : Fin 1024) :
    (out0_4 (F := Ideal) (iblk m c 0 t) (iblk m c 1 t) (iblk m c 2 t) (iblk m c 3 t) : S512x1024.Idx → EReal) (ix2 r l) = value4 (P m c) (Ya m c) (Ym m c) (512 * t.val + r) l := by
  unfold out0_4
  rw [View.canon_unit_zero hz]
  simp only [View.ld_unit_zero (S := S512x1024) hz]
  rw [value4_apply (iblk m c 0 t) (iblk m c 1 t) (iblk m c 2 t) (iblk m c 3 t), block0 m c t, block1 m c t, block2 m c t, block3 m c t]
  unfold value4
  simp only [Nat.mul_zero, Nat.zero_add, Nat.reduceMul]

theorem final4 (i : S4096x1024.Idx) : ((dats m 0 c).arrAt 4 cfg0.N : S4096x1024.Idx → EReal) i = value4 (P m c) (Ya m c) (Ym m c) (i 0).val (i 1).val := by
  refine Dat.arrAt_forall_of_cover (dat := dats m 0 c) 4 (fun i x => x = value4 (P m c) (Ya m c) (Ym m c) (i 0).val (i 1).val) ?_ ?_ i
  · intro t hft y
    rw [Cert.MergeFIdeal.Value.flushed4]
    obtain ⟨r, l, rfl⟩ : ∃ (r : Fin 512) (l : Fin 1024), y = ix2 r l := ⟨y 0, y 1, funext fun d => by fin_cases d <;> rfl⟩
    have e0 : (((cfg0.win 4).blk t).view.emb (ix2 r l) 0).val = 512 * (t.val) + r.val := by
      exact place win0_4 (index4 t).1 (by show (t.val) * 512 + r.val = _; omega)
    have e1 : (((cfg0.win 4).blk t).view.emb (ix2 r l) 1).val = 1024 * (0) + l.val := by
      exact place win0_4 (index4 t).2 (by show (0) * 1024 + l.val = _; omega)
    rw [e0, e1]
    have key := result_block4 m c t r l
    revert key
    generalize out0_4 (F := Ideal) (iblk m c 0 t) (iblk m c 1 t) (iblk m c 2 t) (iblk m c 3 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_4 _, ?_⟩
    show i ∈ ((View.whole main_v0).slice (win0_4.rect ⟨_, hb⟩)).set
    rw [View.set_slice_whole, Rect.mem_set_unit]
    have hi := index4 ⟨_, hb⟩
    dsimp only at hi
    intro d
    fin_cases d
    · exact between (b := 512) (n := (i 0).val) hi.1 (by omega)
    · exact between (b := 1024) (n := (i 1).val) hi.2 (by omega)

end

/-! ## The reference, and the claims -/

open Cert.MergeFRefIdeal.Read

theorem reference4 (x0 : Vec Ideal S4096x10240 .bf16) (x1 : Vec Ideal S4096x1024 .bf16) (x2 : Vec Ideal S4096x1024 .bf16) (r : Fin 4096) (q : Fin 1024) :
    (val_main_v21 (F := Ideal) x0 x1 x2 : S4096x1024.Idx → EReal) (ix2 r q) = value4 x0 x1 x2 r q := by
  have e : (val_main_v21 (F := Ideal) x0 x1 x2 : S4096x1024.Idx → EReal) (ix2 r q) = sigm (x0 (ix2 r ⟨5120 + q.val, by omega⟩)) * x1 (ix2 r q) + sigm (x0 (ix2 r ⟨6144 + q.val, by omega⟩)) * x2 (ix2 r q) := by
    unfold sigm
    rw [← Ideal.ofBits_one_f32]
    pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold value4
  rw [e, at2_ix2 x1, at2_ix2 x2, show x0 (ix2 r ⟨5120 + q.val, by omega⟩) = at2 x0 r (5120 + q) from at2_ix2 x0 r ⟨5120 + q.val, by omega⟩, show x0 (ix2 r ⟨6144 + q.val, by omega⟩) = at2 x0 r (6144 + q) from at2_ix2 x0 r ⟨6144 + q.val, by omega⟩]

theorem frame_kernel : Cert.quiescent_MergeF := fun m g _ => Cert.MergeF.Gen.frame m g

theorem frame_ideal : Cert.quiescent_MergeFIdeal := fun m g _ => Cert.MergeFIdeal.Gen.frame m g

theorem frame_reference : Cert.quiescent_MergeFRefIdeal := fun m g _ =>
  (θ_run Cert.MergeFRefIdeal.defs _ _).mono (fun r h => ⟨fun c => (h c).2, sem_eq_zero_of_no_sems (by decide) r.2⟩)
    (Cert.MergeFRefIdeal.Value.run (F := Ideal) m g)

theorem algebraic : Cert.algebraic_MergeFIdeal_MergeFRefIdeal := by
  pair_intro
  · run_from Cert.MergeFIdeal.Value.run_blocks m g
  · run_from Cert.MergeFRefIdeal.Value.run m' g'
    refine funext fun i => ?_
    rw [final4 m c]
    exact ((congrFun (Cert.MergeFRefIdeal.Read.val_main_v21_eq _ _ _) i).trans (congrArg _ (funext fun d => by fin_cases d <;> rfl))).trans (reference4 _ _ _ (i 0) (i 1))

end Cert.MergeFProof

end
-- ==== Proof.PleFEw.lean ====
/-
  The gated embedding `h + sigmoid(g) * p`.
-/
module

public import proofs.«01_k».proof.Defs
public import proofs.«01_k».proof.Proof.Gen.PleF.Frame
public import proofs.«01_k».proof.Proof.Gen.PleFIdeal.Value
public import proofs.«01_k».proof.Proof.Gen.PleFRefIdeal.Run
public import proofs.«01_k».proof.Proof.Gen.PleFRefIdeal.Read
public import proofs.«01_k».proof.Proof.Gate
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.PleFProof

open Idealize.ShloMosaic Idealize.ShloMosaic.TcCoe Cert.PleFIdeal Cert.PleFIdeal.Gen Cert.At Cert.Dot Idealize.SL.Sem
open Idealize.ShloMosaic.Pipeline (Dat)
open scoped BigOperators
open Cert.Gate

/-- The block's output. -/
def value3 (h : S4096x1024.Idx → EReal) (g : S4096x1024.Idx → EReal) (p : S4096x1024.Idx → EReal) (r q : ℕ) : EReal :=
  at2 h r q + sigm (at2 g r q) * at2 p r q

section
variable (m : (ℓ : Loc nD τ sig) → Buf (Elt Ideal) ℓ) (c : Dev nD)

/-- The arguments, as launched. -/
abbrev H : S4096x1024.Idx → EReal := m ((c : Thread nD τ).loc main_arg0)
abbrev G : S4096x1024.Idx → EReal := m ((c : Thread nD τ).loc main_arg1)
abbrev P : S4096x1024.Idx → EReal := m ((c : Thread nD τ).loc main_arg2)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 512) (b : Fin 1024) : (iblk m c 0 t : Vec Ideal S512x1024 .f32) (ix2 a b) = at2 (H m c) (512 * (t.val) + a) (1024 * (0) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (0) * 1024 + b.val = _; omega)))

theorem block1 (a : Fin 512) (b : Fin 1024) : (iblk m c 1 t : Vec Ideal S512x1024 .bf16) (ix2 a b) = at2 (G m c) (512 * (t.val) + a) (1024 * (0) + b) :=
  (congrFun (V_main_arg1 m c) (((cfg0.win 1).blk t).view.emb (ix2 a b))).trans (at2_eq _ _ _ _
    (place win0_1 (index1 t).1 (by show (t.val) * 512 + a.val = _; omega))
    (place win0_1 (index1 t).2 (by show (0) * 1024 + b.val = _; omega)))

theorem block2 (a : Fin 512) (b : Fin 1024) : (iblk m c 2 t : Vec Ideal S512x1024 .bf16) (ix2 a b) = at2 (P m c) (512 * (t.val) + a) (1024 * (0) + b) :=
  (congrFun (V_main_arg2 m c) (((cfg0.win 2).blk t).view.emb (ix2 a b))).trans (at2_eq _ _ _ _
    (place win0_2 (index2 t).1 (by show (t.val) * 512 + a.val = _; omega))
    (place win0_2 (index2 t).2 (by show (0) * 1024 + b.val = _; omega)))

/-! ## The computations of one grid point -/

theorem value3_apply (v0 : Vec Ideal S512x1024 .f32) (v1 : Vec Ideal S512x1024 .bf16) (v2 : Vec Ideal S512x1024 .bf16) (r : Fin 512) (l : Fin 1024) :
    (k0_pay1 (F := Ideal) v0 v1 v2 : S512x1024.Idx → EReal) (ix2 r l) = v0 (ix2 r l) + sigm (v1 (ix2 r l)) * v2 (ix2 r l) := by
  unfold sigm
  rw [← zero_sub, ← Ideal.ofBits_one_f32, ← Ideal.ofBits_zero_f32]
  pointwise [k0_pay1]

theorem result_block3 (r : Fin 512) (l : Fin 1024) :
    (out0_3 (F := Ideal) (iblk m c 0 t) (iblk m c 1 t) (iblk m c 2 t) : S512x1024.Idx → EReal) (ix2 r l) = value3 (H m c) (G m c) (P m c) (512 * t.val + r) l := by
  unfold out0_3
  rw [View.canon_unit_zero hz]
  simp only [View.ld_unit_zero (S := S512x1024) hz]
  rw [value3_apply (iblk m c 0 t) (iblk m c 1 t) (iblk m c 2 t), block0 m c t, block1 m c t, block2 m c t]
  unfold value3
  simp only [Nat.mul_zero, Nat.zero_add, Nat.reduceMul]

theorem final3 (i : S4096x1024.Idx) : ((dats m 0 c).arrAt 3 cfg0.N : S4096x1024.Idx → EReal) i = value3 (H m c) (G m c) (P m c) (i 0).val (i 1).val := by
  refine Dat.arrAt_forall_of_cover (dat := dats m 0 c) 3 (fun i x => x = value3 (H m c) (G m c) (P m c) (i 0).val (i 1).val) ?_ ?_ i
  · intro t hft y
    rw [Cert.PleFIdeal.Value.flushed3]
    obtain ⟨r, l, rfl⟩ : ∃ (r : Fin 512) (l : Fin 1024), y = ix2 r l := ⟨y 0, y 1, funext fun d => by fin_cases d <;> rfl⟩
    have e0 : (((cfg0.win 3).blk t).view.emb (ix2 r l) 0).val = 512 * (t.val) + r.val := by
      exact place win0_3 (index3 t).1 (by show (t.val) * 512 + r.val = _; omega)
    have e1 : (((cfg0.win 3).blk t).view.emb (ix2 r l) 1).val = 1024 * (0) + l.val := by
      exact place win0_3 (index3 t).2 (by show (0) * 1024 + l.val = _; omega)
    rw [e0, e1]
    have key := result_block3 m c t r l
    revert key
    generalize out0_3 (F := Ideal) (iblk m c 0 t) (iblk m c 1 t) (iblk m c 2 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_3 _, ?_⟩
    show i ∈ ((View.whole main_v0).slice (win0_3.rect ⟨_, hb⟩)).set
    rw [View.set_slice_whole, Rect.mem_set_unit]
    have hi := index3 ⟨_, hb⟩
    dsimp only at hi
    intro d
    fin_cases d
    · exact between (b := 512) (n := (i 0).val) hi.1 (by omega)
    · exact between (b := 1024) (n := (i 1).val) hi.2 (by omega)

end

/-! ## The reference, and the claims -/

open Cert.PleFRefIdeal.Read

theorem reference3 (x0 : Vec Ideal S4096x1024 .f32) (x1 : Vec Ideal S4096x1024 .bf16) (x2 : Vec Ideal S4096x1024 .bf16) (r : Fin 4096) (q : Fin 1024) :
    (val_main_v9 (F := Ideal) x0 x1 x2 : S4096x1024.Idx → EReal) (ix2 r q) = value3 x0 x1 x2 r q := by
  have e : (val_main_v9 (F := Ideal) x0 x1 x2 : S4096x1024.Idx → EReal) (ix2 r q) = x0 (ix2 r q) + sigm (x1 (ix2 r q)) * x2 (ix2 r q) := by
    unfold sigm
    rw [← Ideal.ofBits_one_f32]
    pointwise [val_main_v9, val_main_v8, val_main_v7, val_main_v6, val_main_v5, val_main_v4, val_main_v3, val_main_v2, val_main_v1, val_main_v0, val_main_cst, val_main_cst_0]
  unfold value3
  rw [e, at2_ix2 x0, at2_ix2 x1, at2_ix2 x2]

theorem frame_kernel : Cert.quiescent_PleF := fun m g _ => Cert.PleF.Gen.frame m g

theorem frame_ideal : Cert.quiescent_PleFIdeal := fun m g _ => Cert.PleFIdeal.Gen.frame m g

theorem frame_reference : Cert.quiescent_PleFRefIdeal := fun m g _ =>
  (θ_run Cert.PleFRefIdeal.defs _ _).mono (fun r h => ⟨fun c => (h c).2, sem_eq_zero_of_no_sems (by decide) r.2⟩)
    (Cert.PleFRefIdeal.Value.run (F := Ideal) m g)

theorem algebraic : Cert.algebraic_PleFIdeal_PleFRefIdeal := by
  pair_intro
  · run_from Cert.PleFIdeal.Value.run_blocks m g
  · run_from Cert.PleFRefIdeal.Value.run m' g'
    refine funext fun i => ?_
    rw [final3 m c]
    exact ((congrFun (Cert.PleFRefIdeal.Read.val_main_v9_eq _ _ _) i).trans (congrArg _ (funext fun d => by fin_cases d <;> rfl))).trans (reference3 _ _ _ (i 0) (i 1))

end Cert.PleFProof

end
-- ==== Proof.RmsEw.lean ====
/-
  A row's root-mean-square norm with its gain.
-/
module

public import proofs.«01_k».proof.Defs
public import proofs.«01_k».proof.Proof.Gen.Rms.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Norm
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.RmsProof

open Idealize.ShloMosaic Idealize.ShloMosaic.TcCoe Cert.RmsIdeal Cert.RmsIdeal.Gen Cert.At Cert.Dot Idealize.SL.Sem
open Idealize.ShloMosaic.Pipeline (Dat)
open scoped BigOperators
open Cert.Norm

/-- The normed element at row `r` and column `q`. -/
def normed (h : S4096x1024.Idx → EReal) (g : S4x1024.Idx → EReal) (r q : ℕ) : EReal :=
  at2 h r q * scale count (fun k => at2 h r k) 1024 * at2 g 0 q

section
variable (m : (ℓ : Loc nD τ sig) → Buf (Elt Ideal) ℓ) (c : Dev nD)

/-- The arguments, as launched. -/
abbrev H : S4096x1024.Idx → EReal := m ((c : Thread nD τ).loc main_arg0)
abbrev G : S4x1024.Idx → EReal := m ((c : Thread nD τ).loc main_arg1)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

theorem points (t : Fin cfg0.N) : t.val < 8 := Nat.lt_of_lt_of_eq t.isLt N_0

theorem hz3 : (![0, 0, 0] : Fin 3 → Nat) = fun _ => 0 := funext fun a => by fin_cases a <;> rfl

theorem hz : (![0, 0] : Fin 2 → Nat) = fun _ => 0 := funext fun a => by fin_cases a <;> rfl

variable (t : Fin cfg0.N)

theorem block0 (a : Fin 512) (b : Fin 1024) : (iblk m c 0 t : Vec Ideal S512x1024 .f32) (ix2 a b) = at2 (H m c) (512 * (t.val) + a) (1024 * (0) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (0) * 1024 + b.val = _; omega)))

/-- The gains as the grid finds them. -/
theorem V_gains : V m c main_v0 = shapeCast S4x1x1024 (G m c : Vec Ideal S4x1024 .f32) shapeCasts_S4x1024_S4x1x1024 := by
  unfold V hostOps0
  after_results
  rfl

theorem block1 (l : Fin 1024) : (iblk m c 1 t : Vec Ideal S1x1x1024 .f32) (ix3 0 0 l) = at2 (G m c) 0 l := by
  unfold iblk
  rw [View.read_apply]
  show V m c main_v0 (((cfg0.win 1).blk t).view.emb (ix3 0 0 l)) = _
  have h1 : (((cfg0.win 1).blk t).view.emb (ix3 (0 : Fin 1) (0 : Fin 1) l)) = ix3 (n0 := 4) (n1 := 1) (n2 := 1024) 0 0 l := by
    funext d
    refine Fin.ext ?_
    refine (Pipeline.Window.rect_emb_val win0_1 t (ix3 (0 : Fin 1) (0 : Fin 1) l) d).trans ?_
    obtain ⟨h0, h1, h2⟩ := index1 t
    fin_cases d
    · show win0_1.index t (0 : Fin 3) * 1 + 0 = 0
      rw [h0]
    · show win0_1.index t (1 : Fin 3) * 1 + 0 = 0
      rw [h1]
    · show win0_1.index t (2 : Fin 3) * 1024 + l.val = l.val
      rw [h2]; omega
  rw [h1, V_gains]
  have e : (shapeCast S4x1x1024 (G m c : Vec Ideal S4x1024 .f32) shapeCasts_S4x1024_S4x1x1024 : S4x1x1024.Idx → EReal) (ix3 0 0 l) = G m c (ix2 0 l) := by
    pointwise
  rw [e]
  exact at2_eq _ _ _ _ rfl rfl

theorem normed_apply (h : Vec Ideal S512x1024 .f32) (g : Vec Ideal S1x1x1024 .f32) (r : Fin 512) (l : Fin 1024) (x : ℕ → EReal)
    (hx : ∀ k : Fin 1024, h (ix2 r k) = x k) :
    (k0_pay1 (F := Ideal) h g : S512x1024.Idx → EReal) (ix2 r l) = x l * scale count x 1024 * g (ix3 0 0 l) := by
  unfold scale power
  rw [← dot_fin]
  simp only [← hx]
  pointwise [k0_pay1]

theorem result_block2 (r : Fin 512) (l : Fin 1024) :
    (out0_2 (F := Ideal) (iblk m c 0 t) (iblk m c 1 t) : S512x1024.Idx → EReal) (ix2 r l) = normed (H m c) (G m c) (512 * t.val + r) l := by
  unfold out0_2 normed
  rw [View.canon_unit_zero hz]
  simp only [View.ld_unit_zero (S := S512x1024) hz, View.ld_unit_zero (S := S1x1x1024) hz3]
  rw [normed_apply _ _ r l (fun k => at2 (H m c) (512 * t.val + r) k) fun k => by rw [block0 m c t]; simp only [Nat.mul_zero, Nat.zero_add], block1 m c t]

theorem final2 (i : S4096x1024.Idx) : ((dats m 0 c).arrAt 2 cfg0.N : S4096x1024.Idx → EReal) i = normed (H m c) (G m c) (i 0).val (i 1).val := by
  refine Dat.arrAt_forall_of_cover (dat := dats m 0 c) 2 (fun i x => x = normed (H m c) (G m c) (i 0).val (i 1).val) ?_ ?_ i
  · intro t hft y
    rw [Cert.RmsIdeal.Value.flushed2]
    obtain ⟨r, l, rfl⟩ : ∃ (r : Fin 512) (l : Fin 1024), y = ix2 r l := ⟨y 0, y 1, funext fun d => by fin_cases d <;> rfl⟩
    have e0 : (((cfg0.win 2).blk t).view.emb (ix2 r l) 0).val = 512 * (t.val) + r.val := by
      exact place win0_2 (index2 t).1 (by show (t.val) * 512 + r.val = _; omega)
    have e1 : (((cfg0.win 2).blk t).view.emb (ix2 r l) 1).val = 1024 * (0) + l.val := by
      exact place win0_2 (index2 t).2 (by show (0) * 1024 + l.val = _; omega)
    rw [e0, e1]
    have key := result_block2 m c t r l
    revert key
    generalize out0_2 (F := Ideal) (iblk m c 0 t) (iblk m c 1 t) = B
    intro key
    refine key.trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_2 _, ?_⟩
    show i ∈ ((View.whole main_v1).slice (win0_2.rect ⟨_, hb⟩)).set
    rw [View.set_slice_whole, Rect.mem_set_unit]
    have hi := index2 ⟨_, hb⟩
    dsimp only at hi
    intro d
    fin_cases d
    · exact between (b := 512) (n := (i 0).val) hi.1 (by omega)
    · exact between (b := 1024) (n := (i 1).val) hi.2 (by omega)

end

/-! ## The reference, and the claims -/

open Cert.RmsRefIdeal.Read

theorem reference2 (x0 : Vec Ideal S4096x1024 .f32) (x1 : Vec Ideal S4x1024 .f32) (r : Fin 4096) (q : Fin 1024) :
    (val_main_v15 (F := Ideal) x0 x1 : S4096x1024.Idx → EReal) (ix2 r q) = normed x0 x1 r q := by
  have e : (val_main_v15 (F := Ideal) x0 x1 : S4096x1024.Idx → EReal) (ix2 r q)
      = x0 (ix2 r q) * Ideal.rsqrt (Ideal.div (∑ x : Fin 1024, x0 (ix2 r x) * x0 (ix2 r x)) count + small) * x1 (ix2 0 q) := by
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have hs : ∑ x : Fin 1024, x0 (ix2 r x) * x0 (ix2 r x) = dot (fun k => at2 x0 r k) (fun k => at2 x0 r k) 1024 := by
    rw [← dot_fin]
    exact Finset.sum_congr rfl fun x _ => by rw [at2_ix2 x0]
  unfold normed scale power
  rw [e, hs, at2_ix2 x0]
  exact congrArg _ (at2_ix2 x1 0 q)

theorem frame_kernel : Cert.quiescent_Rms := fun m g _ => Cert.Rms.Gen.frame m g

theorem frame_ideal : Cert.quiescent_RmsIdeal := fun m g _ => Cert.RmsIdeal.Gen.frame m g

theorem frame_reference : Cert.quiescent_RmsRefIdeal := fun m g _ =>
  (θ_run Cert.RmsRefIdeal.defs _ _).mono (fun r h => ⟨fun c => (h c).2, sem_eq_zero_of_no_sems (by decide) r.2⟩)
    (Cert.RmsRefIdeal.Value.run (F := Ideal) m g)

theorem algebraic : Cert.algebraic_RmsIdeal_RmsRefIdeal := by
  pair_intro
  · run_from Cert.RmsIdeal.Value.run_blocks m g
  · run_from Cert.RmsRefIdeal.Value.run m' g'
    refine funext fun i => ?_
    rw [final2 m c]
    exact ((congrFun (Cert.RmsRefIdeal.Read.val_main_v15_eq _ _) i).trans (congrArg _ (funext fun d => by fin_cases d <;> rfl))).trans (reference2 _ _ (i 0) (i 1))

end Cert.RmsProof

end
-- ==== Proof.GNormFEw.lean ====
/-
  The recurrence's output gated by `z * σ(z)` and normed over groups of 512 columns, with its gain.
-/
module

public import proofs.«01_k».proof.Defs
public import proofs.«01_k».proof.Proof.Gen.GNormF.Frame
public import proofs.«01_k».proof.Proof.Gen.GNormFIdeal.Value
public import proofs.«01_k».proof.Proof.Gen.GNormFRefIdeal.Run
public import proofs.«01_k».proof.Proof.Gen.GNormFRefIdeal.Read
public import proofs.«01_k».proof.Proof.Gate
public import proofs.«01_k».proof.Proof.Norm
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.GNormFProof

open Idealize.ShloMosaic Idealize.ShloMosaic.TcCoe Cert.GNormFIdeal Cert.GNormFIdeal.Gen Cert.At Cert.Dot Idealize.SL.Sem
open Idealize.ShloMosaic.Pipeline (Dat)
open scoped BigOperators
open Cert.Gate Cert.Norm

/-- The number of columns of a group, as the programs write it. -/
abbrev width : EReal := Ideal.ofBits .f32 0x44000000#32

/-- The gated element, and the normed one, at row `r` and column `q`. -/
def gated (y : S4096x2048.Idx → EReal) (p : S4096x10240.Idx → EReal) (r q : ℕ) : EReal := at2 y r q * (at2 p r q * sigm (at2 p r q))
def normed (y : S4096x2048.Idx → EReal) (p : S4096x10240.Idx → EReal) (g : S4x2048.Idx → EReal) (r q : ℕ) : EReal :=
  gated y p r q * scale width (fun k => gated y p r (512 * (q / 512) + k)) 512 * at2 g 0 q

section
variable (m : (ℓ : Loc nD τ sig) → Buf (Elt Ideal) ℓ) (c : Dev nD)

/-- The arguments, as launched. -/
abbrev Y : S4096x2048.Idx → EReal := m ((c : Thread nD τ).loc main_arg0)
abbrev P : S4096x10240.Idx → EReal := m ((c : Thread nD τ).loc main_arg1)
abbrev G : S4x2048.Idx → EReal := m ((c : Thread nD τ).loc main_arg2)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

theorem points (t : Fin cfg0.N) : t.val < 8 := Nat.lt_of_lt_of_eq t.isLt N_0

theorem hz : (![0, 0] : Fin 2 → Nat) = fun _ => 0 := funext fun a => by fin_cases a <;> rfl

variable (t : Fin cfg0.N)

theorem block0 (a : Fin 512) (b : Fin 2048) : (iblk m c 0 t : Vec Ideal S512x2048 .bf16) (ix2 a b) = at2 (Y m c) (512 * (t.val) + a) (2048 * (0) + b) :=
  (congrFun (V_main_arg0 m c) (((cfg0.win 0).blk t).view.emb (ix2 a b))).trans (at2_eq _ _ _ _
    (place win0_0 (index0 t).1 (by show (t.val) * 512 + a.val = _; omega))
    (place win0_0 (index0 t).2 (by show (0) * 2048 + b.val = _; omega)))

theorem block1 (a : Fin 512) (b : Fin 2048) : (iblk m c 1 t : Vec Ideal S512x2048 .bf16) (ix2 a b) = at2 (P m c) (512 * (t.val) + a) (2048 * (0) + b) :=
  (congrFun (V_main_arg1 m c) (((cfg0.win 1).blk t).view.emb (ix2 a b))).trans (at2_eq _ _ _ _
    (place win0_1 (index1 t).1 (by show (t.val) * 512 + a.val = _; omega))
    (place win0_1 (index1 t).2 (by show (0) * 2048 + b.val = _; omega)))

/-- The gains as the grid finds them. -/
theorem V_gains : V m c main_v0 = shapeCast S4x1x2048 (G m c : Vec Ideal S4x2048 .f32) shapeCasts_S4x2048_S4x1x2048 := by
  unfold V hostOps0
  after_results
  rfl

theorem block2 (l : Fin 2048) : (iblk m c 2 t : Vec Ideal S1x1x2048 .f32) (ix3 0 0 l) = at2 (G m c) 0 l := by
  unfold iblk
  rw [View.read_apply]
  show V m c main_v0 (((cfg0.win 2).blk t).view.emb (ix3 0 0 l)) = _
  have h1 : (((cfg0.win 2).blk t).view.emb (ix3 (0 : Fin 1) (0 : Fin 1) l)) = ix3 (n0 := 4) (n1 := 1) (n2 := 2048) 0 0 l := by
    funext d
    refine Fin.ext ?_
    refine (Pipeline.Window.rect_emb_val win0_2 t (ix3 (0 : Fin 1) (0 : Fin 1) l) d).trans ?_
    obtain ⟨h0, h1, h2⟩ := index2 t
    fin_cases d
    · show win0_2.index t (0 : Fin 3) * 1 + 0 = 0
      rw [h0]
    · show win0_2.index t (1 : Fin 3) * 1 + 0 = 0
      rw [h1]
    · show win0_2.index t (2 : Fin 3) * 2048 + l.val = l.val
      rw [h2]; omega
  rw [h1, V_gains]
  have e : (shapeCast S4x1x2048 (G m c : Vec Ideal S4x2048 .f32) shapeCasts_S4x2048_S4x1x2048 : S4x1x2048.Idx → EReal) (ix3 0 0 l) = G m c (ix2 0 l) := by
    pointwise
  rw [e]
  exact at2_eq _ _ _ _ rfl rfl

/-! ## One group of columns -/

theorem group_apply (z y : Vec Ideal S512x512 .bf16) (g : Vec Ideal S1x1x512 .f32) (r l : Fin 512) (u : ℕ → EReal)
    (hu : ∀ k : Fin 512, y (ix2 r k) * (z (ix2 r k) * sigm (z (ix2 r k))) = u k) :
    (k0_pay1 (F := Ideal) z y g : S512x512.Idx → EReal) (ix2 r l) = u l * scale width u 512 * g (ix3 0 0 l) := by
  unfold scale power
  rw [← dot_fin]
  simp only [← hu]
  unfold sigm
  simp only [← zero_sub]
  rw [← Ideal.ofBits_one_f32, ← Ideal.ofBits_zero_f32]
  pointwise [k0_pay1]

/-- The four groups are computed alike. -/
theorem group2 (z y : Vec Ideal S512x512 .bf16) (g : Vec Ideal S1x1x512 .f32) :
    k0_pay6 (k0_pay2 z) (k0_pay3 y) (k0_pay4 z) (k0_pay5 (F := Ideal)) g = k0_pay1 z y g := rfl
theorem group3 (z y : Vec Ideal S512x512 .bf16) (g : Vec Ideal S1x1x512 .f32) :
    k0_pay10 (k0_pay7 z y) (k0_pay8 z y) (k0_pay9 (F := Ideal)) g = k0_pay1 z y g := rfl
theorem group4 (z y : Vec Ideal S512x512 .bf16) (g : Vec Ideal S1x1x512 .f32) : k0_pay11 (F := Ideal) z y g = k0_pay1 z y g := rfl

/-- The group that starts at column `512 * o`, read through its rectangles. -/
theorem group_block (o : ℕ) (ho : o < 4) (z y : Vec Ideal S512x512 .bf16) (g : Vec Ideal S1x1x512 .f32)
    (hz : ∀ i j : Fin 512, z (ix2 i j) = (iblk m c 1 t : Vec Ideal S512x2048 .bf16) (ix2 i ⟨512 * o + j, by omega⟩))
    (hy : ∀ i j : Fin 512, y (ix2 i j) = (iblk m c 0 t : Vec Ideal S512x2048 .bf16) (ix2 i ⟨512 * o + j, by omega⟩))
    (hg : ∀ j : Fin 512, g (ix3 0 0 j) = (iblk m c 2 t : Vec Ideal S1x1x2048 .f32) (ix3 0 0 ⟨512 * o + j, by omega⟩)) (r l : Fin 512) :
    (k0_pay1 (F := Ideal) z y g : S512x512.Idx → EReal) (ix2 r l) = normed (Y m c) (P m c) (G m c) (512 * t.val + r) (512 * o + l) := by
  rw [group_apply z y g r l (fun k => gated (Y m c) (P m c) (512 * t.val + r) (512 * o + k)) fun k => by
    rw [hz, hy, block0 m c t, block1 m c t]; unfold gated; simp only [Nat.mul_zero, Nat.zero_add], hg, block2 m c t]
  unfold normed
  rw [show (512 * o + l.val) / 512 = o by omega]

/-- What the block of the result holds. -/
abbrev blockValue : Vec Ideal S512x2048 .bf16 := fun i => normed (Y m c) (P m c) (G m c) (512 * t.val + (i 0).val) (i 1).val

theorem result_block3 (r : Fin 512) (l : Fin 2048) :
    (out0_3 (F := Ideal) (iblk m c 0 t) (iblk m c 1 t) (iblk m c 2 t) : S512x2048.Idx → EReal) (ix2 r l) = normed (Y m c) (P m c) (G m c) (512 * t.val + r) l := by
  unfold out0_3
  simp only [group2, group3, group4]
  refine View.canon_apply_of_pieces (blockValue m c t) _ (fun p hp x => ?_) (ix2 r l) (cover0_3 _ _ _ _ _)
  simp only [List.mem_cons, List.mem_nil_iff, or_false] at hp
  rcases hp with rfl | rfl | rfl | rfl
  · obtain ⟨i, j, rfl⟩ : ∃ i j : Fin 512, x = ix2 i j := ⟨x 0, x 1, funext fun d => by fin_cases d <;> rfl⟩
    refine (group_block m c t 3 (by decide) _ _ _ (fun i j => congrArg (iblk m c 1 t : Vec Ideal S512x2048 .bf16) (funext fun d => Fin.ext (by fin_cases d <;> simp [Rect.emb, Rect.unit]))) (fun i j => congrArg (iblk m c 0 t : Vec Ideal S512x2048 .bf16) (funext fun d => Fin.ext (by fin_cases d <;> simp [Rect.emb, Rect.unit]))) (fun j => congrArg (iblk m c 2 t : Vec Ideal S1x1x2048 .f32) (funext fun d => Fin.ext (by fin_cases d <;> simp [Rect.emb, Rect.unit]))) i j).trans ?_
    exact congrArg₂ (normed (Y m c) (P m c) (G m c)) (by simp [Rect.emb, Rect.unit]) (by simp [Rect.emb, Rect.unit])
  · obtain ⟨i, j, rfl⟩ : ∃ i j : Fin 512, x = ix2 i j := ⟨x 0, x 1, funext fun d => by fin_cases d <;> rfl⟩
    refine (group_block m c t 2 (by decide) _ _ _ (fun i j => congrArg (iblk m c 1 t : Vec Ideal S512x2048 .bf16) (funext fun d => Fin.ext (by fin_cases d <;> simp [Rect.emb, Rect.unit]))) (fun i j => congrArg (iblk m c 0 t : Vec Ideal S512x2048 .bf16) (funext fun d => Fin.ext (by fin_cases d <;> simp [Rect.emb, Rect.unit]))) (fun j => congrArg (iblk m c 2 t : Vec Ideal S1x1x2048 .f32) (funext fun d => Fin.ext (by fin_cases d <;> simp [Rect.emb, Rect.unit]))) i j).trans ?_
    exact congrArg₂ (normed (Y m c) (P m c) (G m c)) (by simp [Rect.emb, Rect.unit]) (by simp [Rect.emb, Rect.unit])
  · obtain ⟨i, j, rfl⟩ : ∃ i j : Fin 512, x = ix2 i j := ⟨x 0, x 1, funext fun d => by fin_cases d <;> rfl⟩
    refine (group_block m c t 1 (by decide) _ _ _ (fun i j => congrArg (iblk m c 1 t : Vec Ideal S512x2048 .bf16) (funext fun d => Fin.ext (by fin_cases d <;> simp [Rect.emb, Rect.unit]))) (fun i j => congrArg (iblk m c 0 t : Vec Ideal S512x2048 .bf16) (funext fun d => Fin.ext (by fin_cases d <;> simp [Rect.emb, Rect.unit]))) (fun j => congrArg (iblk m c 2 t : Vec Ideal S1x1x2048 .f32) (funext fun d => Fin.ext (by fin_cases d <;> simp [Rect.emb, Rect.unit]))) i j).trans ?_
    exact congrArg₂ (normed (Y m c) (P m c) (G m c)) (by simp [Rect.emb, Rect.unit]) (by simp [Rect.emb, Rect.unit])
  · obtain ⟨i, j, rfl⟩ : ∃ i j : Fin 512, x = ix2 i j := ⟨x 0, x 1, funext fun d => by fin_cases d <;> rfl⟩
    refine (group_block m c t 0 (by decide) _ _ _ (fun i j => congrArg (iblk m c 1 t : Vec Ideal S512x2048 .bf16) (funext fun d => Fin.ext (by fin_cases d <;> simp [Rect.emb, Rect.unit]))) (fun i j => congrArg (iblk m c 0 t : Vec Ideal S512x2048 .bf16) (funext fun d => Fin.ext (by fin_cases d <;> simp [Rect.emb, Rect.unit]))) (fun j => congrArg (iblk m c 2 t : Vec Ideal S1x1x2048 .f32) (funext fun d => Fin.ext (by fin_cases d <;> simp [Rect.emb, Rect.unit]))) i j).trans ?_
    exact congrArg₂ (normed (Y m c) (P m c) (G m c)) (by simp [Rect.emb, Rect.unit]) (by simp [Rect.emb, Rect.unit])

theorem final3 (i : S4096x2048.Idx) : ((dats m 0 c).arrAt 3 cfg0.N : S4096x2048.Idx → EReal) i = normed (Y m c) (P m c) (G m c) (i 0).val (i 1).val := by
  refine Dat.arrAt_forall_of_cover (dat := dats m 0 c) 3 (fun i x => x = normed (Y m c) (P m c) (G m c) (i 0).val (i 1).val) ?_ ?_ i
  · intro t hft y
    rw [Cert.GNormFIdeal.Value.flushed3]
    obtain ⟨r, l, rfl⟩ : ∃ (r : Fin 512) (l : Fin 2048), y = ix2 r l := ⟨y 0, y 1, funext fun d => by fin_cases d <;> rfl⟩
    have e0 : (((cfg0.win 3).blk t).view.emb (ix2 r l) 0).val = 512 * (t.val) + r.val := by
      exact place win0_3 (index3 t).1 (by show (t.val) * 512 + r.val = _; omega)
    have e1 : (((cfg0.win 3).blk t).view.emb (ix2 r l) 1).val = 2048 * (0) + l.val := by
      exact place win0_3 (index3 t).2 (by show (0) * 2048 + l.val = _; omega)
    rw [e0, e1]
    have key := result_block3 m c t r l
    revert key
    generalize out0_3 (F := Ideal) (iblk m c 0 t) (iblk m c 1 t) (iblk m c 2 t) = B
    intro key
    refine key.trans ?_
    simp only [Nat.mul_zero, Nat.zero_add]
  · intro i
    have h0 : (i 0).val < 4096 := (i 0).isLt
    have h1 : (i 1).val < 2048 := (i 1).isLt
    have hb : (i 0).val / 512 < cfg0.N := Nat.lt_of_lt_of_eq (by omega) N_0.symm
    refine ⟨⟨_, hb⟩, flush0_3 _, ?_⟩
    show i ∈ ((View.whole main_v1).slice (win0_3.rect ⟨_, hb⟩)).set
    rw [View.set_slice_whole, Rect.mem_set_unit]
    have hi := index3 ⟨_, hb⟩
    dsimp only at hi
    intro d
    fin_cases d
    · exact between (b := 512) (n := (i 0).val) hi.1 (by omega)
    · exact between (b := 2048) (n := (i 1).val) hi.2 (by omega)

end

/-! ## The reference, and the claims -/

open Cert.GNormFRefIdeal.Read

theorem reference_gated (x0 : Vec Ideal S4096x2048 .bf16) (x1 : Vec Ideal S4096x10240 .bf16) (r : Fin 4096) (q : Fin 2048) : (val_main_v6 (F := Ideal) x0 x1 : S4096x2048.Idx → EReal) (ix2 r q) = gated x0 x1 r q := by
  have h1 : val_main_v2 (F := Ideal) x1 (ix2 r q) = at2 x1 r q := by
    rw [val_main_v2_apply, val_main_v1_apply]
    exact at2_eq _ _ _ _ rfl rfl
  unfold gated sigm
  rw [← h1, ← at2_ix2 x0, ← Ideal.ofBits_one_f32]
  unfold val_main_v6 val_main_v5 val_main_call0_v5 val_main_call0_v3 val_main_call0_v1 val_main_call0_v0
  generalize val_main_v2 (F := Ideal) x1 = u
  pointwise [val_main_v0, val_main_call0_v4, val_main_call0_v2, val_main_call0_cst, val_main_call0_cst_0]

theorem reference_group (x0 : Vec Ideal S4096x2048 .bf16) (x1 : Vec Ideal S4096x10240 .bf16) (r : Fin 4096) (g : Fin 4) (k : Fin 512) :
    (val_main_v7 (F := Ideal) x0 x1 : Cert.GNormFRefIdeal.S4096x4x512.Idx → EReal) (ix3 r g k) = gated x0 x1 r (512 * g + k) := by
  rw [val_main_v7_apply, ← reference_gated x0 x1 r ⟨512 * g + k, by omega⟩]
  refine congrArg _ (funext fun d => Fin.ext ?_)
  fin_cases d
  · show (((r.val * 4 + g.val) * 512 + k.val) / 2048) = r.val
    omega
  · show (((r.val * 4 + g.val) * 512 + k.val) % 2048) = 512 * g.val + k.val
    omega

theorem reference_normed (x0 : Vec Ideal S4096x2048 .bf16) (x1 : Vec Ideal S4096x10240 .bf16) (r : Fin 4096) (g : Fin 4) (k : Fin 512) :
    (val_main_v17 (F := Ideal) x0 x1 : Cert.GNormFRefIdeal.S4096x4x512.Idx → EReal) (ix3 r g k)
      = gated x0 x1 r (512 * g + k) * scale width (fun k => gated x0 x1 r (512 * g + k)) 512 := by
  unfold scale power
  rw [← dot_fin]
  simp only [← reference_group]
  unfold val_main_v17 val_main_v16 val_main_v15 val_main_v14 val_main_v12 val_main_v10 val_main_v9 val_main_v8
  generalize val_main_v7 (F := Ideal) x0 x1 = u
  pointwise [val_main_v13, val_main_v11, val_main_cst, val_main_cst_0, val_main_cst_1]

theorem reference3 (x0 : Vec Ideal S4096x2048 .bf16) (x1 : Vec Ideal S4096x10240 .bf16) (x2 : Vec Ideal S4x2048 .f32) (r : Fin 4096) (q : Fin 2048) :
    (val_main_v22 (F := Ideal) x0 x1 x2 : S4096x2048.Idx → EReal) (ix2 r q) = normed x0 x1 x2 r q := by
  have h18 : (val_main_v18 (F := Ideal) x0 x1 : S4096x2048.Idx → EReal) (ix2 r q) = gated x0 x1 r q * scale width (fun k => gated x0 x1 r (512 * (q / 512) + k)) 512 := by
    have key := reference_normed x0 x1 r ⟨q / 512, by omega⟩ ⟨q % 512, by omega⟩
    rw [val_main_v18_apply, show gated x0 x1 r q = gated x0 x1 r (512 * (q / 512) + q % 512) from congrArg _ (by omega), ← key]
    refine congrArg _ (funext fun d => Fin.ext ?_)
    fin_cases d
    · show (r.val * 2048 + q.val) / 2048 = r.val
      omega
    · show (r.val * 2048 + q.val) / 512 % 4 = q.val / 512
      omega
    · show (r.val * 2048 + q.val) % 512 = q.val % 512
      omega
  unfold normed
  rw [← h18, show at2 x2 0 q = x2 (ix2 0 q) from (at2_ix2 x2 (0 : Fin 4) q).symm]
  unfold val_main_v22 val_main_v21
  generalize val_main_v18 (F := Ideal) x0 x1 = u
  pointwise [val_main_v20, val_main_v19, val_main_v4, val_main_v3]

theorem frame_kernel : Cert.quiescent_GNormF := fun m g _ => Cert.GNormF.Gen.frame m g

theorem frame_ideal : Cert.quiescent_GNormFIdeal := fun m g _ => Cert.GNormFIdeal.Gen.frame m g

theorem frame_reference : Cert.quiescent_GNormFRefIdeal := fun m g _ =>
  (θ_run Cert.GNormFRefIdeal.defs _ _).mono (fun r h => ⟨fun c => (h c).2, sem_eq_zero_of_no_sems (by decide) r.2⟩)
    (Cert.GNormFRefIdeal.Value.run (F := Ideal) m g)

theorem algebraic : Cert.algebraic_GNormFIdeal_GNormFRefIdeal := by
  pair_intro
  · run_from Cert.GNormFIdeal.Value.run_blocks m g
  · run_from Cert.GNormFRefIdeal.Value.run m' g'
    refine funext fun i => ?_
    rw [final3 m c]
    exact ((congrFun (Cert.GNormFRefIdeal.Read.val_main_v22_eq _ _ _) i).trans (congrArg _ (funext fun d => by fin_cases d <;> rfl))).trans (reference3 _ _ _ (i 0) (i 1))

end Cert.GNormFProof

end
-- ==== Proof.ScConvFEw.lean ====
/-
  The gated causal convolution of three taps.
-/
module

public import proofs.«01_k».proof.Defs
public import proofs.«01_k».proof.Proof.Gen.ScConvF.Frame
public import proofs.«01_k».proof.Proof.Gen.ScConvFIdeal.Value
public import proofs.«01_k».proof.Proof.Gen.ScConvFRefIdeal.Run
public import proofs.«01_k».proof.Proof.Gen.ScConvFRefIdeal.Read
public import proofs.«01_k».proof.Proof.Dot
public import proofs.«01_k».proof.Proof.Lag
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.ScConvFProof

open Idealize.ShloMosaic Idealize.ShloMosaic.TcCoe Cert.ScConvFIdeal Cert.ScConvFIdeal.Gen Cert.At Cert.Dot Idealize.SL.Sem
open Idealize.ShloMosaic.Pipeline (Dat)
open scoped BigOperators
open Cert.Lag

/-- The gated convolution at row `r` and column `q`. -/
def value (p : S4096x10240.Idx → EReal) (w : S4x3x1024.Idx → EReal) (r q : ℕ) : EReal :=
  at2 p r (2048 + q) * conv3 (fun k => at3 w 0 k q) (fun k => at2 p k (3072 + q) * at2 p k (4096 + q)) r

section
variable (m : (ℓ : Loc nD τ sig) → Buf (Elt Ideal) ℓ) (c : Dev nD)

/-- The arguments, as launched. -/
abbrev P : S4096x10240.Idx → EReal := m ((c : Thread nD τ).loc main_arg0)
abbrev W : S4x3x1024.Idx → EReal := m ((c : Thread nD τ).loc main_arg1)

theorem index0 : ∀ t : Fin cfg0.N, win0_0.index t (0 : Fin 2) = t.val % 8 ∧ win0_0.index t (1 : Fin 2) = 4 + t.val / 8 :=
  (by decide +kernel : ∀ t : Fin grid0.N, win0_0.index t (0 : Fin 2) = t.val % 8 ∧ win0_0.index t (1 : Fin 2) = 4 + t.val / 8)
theorem index1 : ∀ t : Fin cfg0.N, win0_1.index t (0 : Fin 2) = t.val % 8 ∧ win0_1.index t (1 : Fin 2) = 6 + t.val / 8 :=
  (by decide +kernel : ∀ t : Fin grid0.N, win0_1.index t (0 : Fin 2) = t.val % 8 ∧ win0_1.index t (1 : Fin 2) = 6 + t.val / 8)
theorem index2 : ∀ t : Fin cfg0.N, win0_2.index t (0 : Fin 2) = t.val % 8 ∧ win0_2.index t (1 : Fin 2) = 8 + t.val / 8 :=
  (by decide +kernel : ∀ t : Fin grid0.N, win0_2.index t (0 : Fin 2) = t.val % 8 ∧ win0_2.index t (1 : Fin 2) = 8 + t.val / 8)
theorem index3 : ∀ t : Fin cfg0.N, win0_3.index t (0 : Fin 2) = 32 * (t.val % 8) - 1 ∧ win0_3.index t (1 : Fin 2) = 6 + t.val / 8 :=
  (by decide +kernel : ∀ t : Fin grid0.N, win0_3.index t (0 : Fin 2) = 32 * (t.val % 8) - 1 ∧ win0_3.index t (1 : Fin 2) = 6 + t.val / 8)
theorem index4 : ∀ t : Fin cfg0.N, win0_4.index t (0 : Fin 2) = 32 * (t.val % 8) - 1 ∧ win0_4.index t (1 : Fin 2) = 8 + t.val / 8 :=
  (by decide +kernel : ∀ t : Fin grid0.N, win0_4.index t (0 : Fin 2) = 32 * (t.val % 8) - 1 ∧ win0_4.index t (1 : Fin 2) = 8 + t.val / 8)
theorem index5 : ∀ t : Fin cfg0.N, win0_5.index t (0 : Fin 3) = 0 ∧ win0_5.index t (1 : Fin 3) = 0 ∧ win0_5.index t (2 : Fin 3) = t.val / 8 :=
  (by decide +kernel : ∀ t : Fin grid0.N, win0_5.index t (0 : Fin 3) = 0 ∧ win0_5.index t (1 : Fin 3) = 0 ∧ win0_5.index t (2 : Fin 3) = t.val / 8)
theorem index6 : ∀ t : Fin cfg0.N, win0_6.index t (0 : Fin 2) = t.val % 8 ∧ win0_6.index t (1 : Fin 2) = t.val / 8 :=
  (by decide +kernel : ∀ t : Fin grid0.N, win0_6.index t (0 : Fin 2) = t.val % 8 ∧ win0_6.index t (1 : Fin 2) = t.val / 8)
theorem coord : ∀ t : Fin cfg0.N, (grid0.coords t 1).val = t.val % 8 :=
  (by decide +kernel : ∀ t : Fin grid0.N, (grid0.coords t 1).val = t.val % 8)

theorem points (t : Fin cfg0.N) : t.val < 16 := Nat.lt_of_lt_of_eq t.isLt N_0

theorem hz : (![0, 0] : Fin 2 → Nat) = fun _ => 0 := funext fun a => by fin_cases a <;> rfl

variable (t : Fin cfg0.N)

theorem block0 (a : Fin 512) (b : Fin 512) : (iblk m c 0 t : Vec Ideal S512x512 .bf16) (ix2 a b) = at2 (P m c) (512 * (t.val % 8) + a) (512 * (4 + t.val / 8) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (4 + t.val / 8) * 512 + b.val = _; omega)))

theorem block1 (a : Fin 512) (b : Fin 512) : (iblk m c 1 t : Vec Ideal S512x512 .bf16) (ix2 a b) = at2 (P m c) (512 * (t.val % 8) + a) (512 * (6 + t.val / 8) + b) :=
  (congrFun (V_main_arg0 m c) (((cfg0.win 1).blk t).view.emb (ix2 a b))).trans (at2_eq _ _ _ _
    (place win0_1 (index1 t).1 (by show (t.val % 8) * 512 + a.val = _; omega))
    (place win0_1 (index1 t).2 (by show (6 + t.val / 8) * 512 + b.val = _; omega)))

theorem block2 (a : Fin 512) (b : Fin 512) : (iblk m c 2 t : Vec Ideal S512x512 .bf16) (ix2 a b) = at2 (P m c) (512 * (t.val % 8) + a) (512 * (8 + t.val / 8) + b) :=
  (congrFun (V_main_arg0 m c) (((cfg0.win 2).blk t).view.emb (ix2 a b))).trans (at2_eq _ _ _ _
    (place win0_2 (index2 t).1 (by show (t.val % 8) * 512 + a.val = _; omega))
    (place win0_2 (index2 t).2 (by show (8 + t.val / 8) * 512 + b.val = _; omega)))

theorem block3 (hb : t.val % 8 ≠ 0) (a : Fin 16) (b : Fin 512) : (iblk m c 3 t : Vec Ideal S16x512 .bf16) (ix2 a b) = at2 (P m c) (512 * (t.val % 8) + a - 16) (512 * (6 + t.val / 8) + b) :=
  (congrFun (V_main_arg0 m c) (((cfg0.win 3).blk t).view.emb (ix2 a b))).trans (at2_eq _ _ _ _
    (place win0_3 (index3 t).1 (by show (32 * (t.val % 8) - 1) * 16 + a.val = _; omega))
    (place win0_3 (index3 t).2 (by show (6 + t.val / 8) * 512 + b.val = _; omega)))

theorem block4 (hb : t.val % 8 ≠ 0) (a : Fin 16) (b : Fin 512) : (iblk m c 4 t : Vec Ideal S16x512 .bf16) (ix2 a b) = at2 (P m c) (512 * (t.val % 8) + a - 16) (512 * (8 + t.val / 8) + b) :=
  (congrFun (V_main_arg0 m c) (((cfg0.win 4).blk t).view.emb (ix2 a b))).trans (at2_eq _ _ _ _
    (place win0_4 (index4 t).1 (by show (32 * (t.val % 8) - 1) * 16 + a.val = _; omega))
    (place win0_4 (index4 t).2 (by show (8 + t.val / 8) * 512 + b.val = _; omega)))

/-- The taps' array as the grid finds it: the taps followed by rows of zeros. -/
theorem V_taps : V m c main_v1 = concatenate S4x8x1024 1 [⟨S4x3x1024, W m c⟩,
    ⟨S4x5x1024, (broadcastInDim S4x5x1024 ![] bcast_S_S4x5x1024 : (⟨S_, .f32⟩ : BufTy).Contents (Elt Ideal) → (⟨S4x5x1024, .f32⟩ : BufTy).Contents (Elt Ideal)) (constant (F := Ideal) S_ .f32 0x00000000#32)⟩] concatenates_S4x3x1024_S4x5x1024_S4x8x1024_d1 := by
  unfold V hostOps0
  after_results

theorem block5 (l : Fin 512) (k : Fin 8) (hk : k.val < 3) : (iblk m c 5 t : Vec Ideal S1x8x512 .f32) (ix3 0 k l) = at3 (W m c) 0 k (512 * (t.val / 8) + l) := by
  unfold iblk
  rw [View.read_apply]
  show V m c main_v1 (((cfg0.win 5).blk t).view.emb (ix3 0 k l)) = _
  have h1 : (((cfg0.win 5).blk t).view.emb (ix3 (0 : Fin 1) k l)) = ix3 (n0 := 4) (n1 := 8) (n2 := 1024) 0 k ⟨512 * (t.val / 8) + l, by have := points t; omega⟩ := by
    funext d
    refine Fin.ext ?_
    refine (Pipeline.Window.rect_emb_val win0_5 t (ix3 (0 : Fin 1) k l) d).trans ?_
    obtain ⟨h0, h1, h2⟩ := index5 t
    fin_cases d
    · show win0_5.index t (0 : Fin 3) * 1 + 0 = 0
      rw [h0]
    · show win0_5.index t (1 : Fin 3) * 8 + k.val = k.val
      rw [h1]; omega
    · show win0_5.index t (2 : Fin 3) * 512 + l.val = 512 * (t.val / 8) + l.val
      rw [h2]; omega
  rw [h1, V_taps]
  pointwise
  rw [dif_pos hk]
  exact at3_eq _ _ _ _ _ rfl rfl rfl

theorem tap0 (l : Fin 512) : View.ld (iblk m c 5 t : Vec Ideal S1x8x512 .f32) r0_2 (ix3 0 0 l) = at3 (W m c) 0 0 (512 * (t.val / 8) + l) :=
  (congrArg (iblk m c 5 t : Vec Ideal S1x8x512 .f32) (funext fun d => Fin.ext (by fin_cases d <;> simp [Rect.emb, Rect.unit] <;> rfl))).trans (block5 m c t l 0 (by decide))

theorem tap1 (l : Fin 512) : View.ld (iblk m c 5 t : Vec Ideal S1x8x512 .f32) r0_3 (ix3 0 0 l) = at3 (W m c) 0 1 (512 * (t.val / 8) + l) :=
  (congrArg (iblk m c 5 t : Vec Ideal S1x8x512 .f32) (funext fun d => Fin.ext (by fin_cases d <;> simp [Rect.emb, Rect.unit] <;> rfl))).trans (block5 m c t l 1 (by decide))

theorem tap2 (l : Fin 512) : View.ld (iblk m c 5 t : Vec Ideal S1x8x512 .f32) r0_4 (ix3 0 0 l) = at3 (W m c) 0 2 (512 * (t.val / 8) + l) :=
  (congrArg (iblk m c 5 t : Vec Ideal S1x8x512 .f32) (funext fun d => Fin.ext (by fin_cases d <;> simp [Rect.emb, Rect.unit] <;> rfl))).trans (block5 m c t l 2 (by decide))

/-! ## The computations of one grid point -/

theorem conv_apply (i : grid0.Coords) (u v : Vec Ideal S512x512 .bf16) (up vp : Vec Ideal S16x512 .bf16) (t0 t1 t2 : Vec Ideal S1x1x512 .f32)
    (l : Fin 512) (r : Fin 512) (b : ℕ) (w x : ℕ → EReal) (hi : (i 1).val = b)
    (hp : b ≠ 0 → ∀ k : Fin 16, up (ix2 k l) * vp (ix2 k l) = x (512 * b + k - 16)) (hc : ∀ k : Fin 512, u (ix2 k l) * v (ix2 k l) = x (512 * b + k))
    (h0 : t0 (ix3 0 0 l) = w 0) (h1 : t1 (ix3 0 0 l) = w 1) (h2 : t2 (ix3 0 0 l) = w 2) :
    (k0_pay3 (F := Ideal) i u v up vp t0 t1 t2 : S512x512.Idx → EReal) (ix2 r l) = conv3 w x (512 * b + r) := by
  subst hi
  have key := padded_eq (i 1).val (i 1).isLt x (fun k => up (ix2 k l) * vp (ix2 k l)) (fun k => u (ix2 k l) * v (ix2 k l)) hp hc
  beta_reduce at key
  have e2 : (16 + (r : ℕ) + 528 - 2) % 528 = r + 14 := by omega
  have e1 : (16 + (r : ℕ) + 528 - 1) % 528 = r + 15 := by omega
  unfold conv3
  rw [← key 2 0 r (r + 14) (by omega) (by omega) (by omega),
    ← key 2 1 r (r + 15) (by omega) (by omega) (by omega), ← key 2 2 r (16 + r) (by omega) (by omega) (by omega), ← h0, ← h1, ← h2]
  pointwise [k0_pay3]
  simp only [e2, e1]

theorem gate_apply (a : Vec Ideal S512x512 .bf16) (u : FVec Ideal S512x512 .f32) (r l : Fin 512) :
    (k0_pay1 (F := Ideal) (k0_pay2 a) u : S512x512.Idx → EReal) (ix2 r l) = a (ix2 r l) * u (ix2 r l) := by
  pointwise [k0_pay1, k0_pay2]

theorem result_block6 (r l : Fin 512) :
    (out0_6 (F := Ideal) (grid0.coords t) (iblk m c 0 t) (iblk m c 1 t) (iblk m c 2 t) (iblk m c 3 t) (iblk m c 4 t) (iblk m c 5 t) : S512x512.Idx → EReal) (ix2 r l)
      = value (P m c) (W m c) (512 * (t.val % 8) + r) (512 * (t.val / 8) + l) := by
  unfold out0_6 value
  rw [View.canon_unit_zero hz]
  simp only [View.ld_unit_zero (S := S512x512) hz, View.ld_unit_zero (S := S16x512) hz]
  have h0 : 2048 + (512 * (t.val / 8) + l.val) = 512 * (4 + t.val / 8) + l.val := by omega
  have h1 : 3072 + (512 * (t.val / 8) + l.val) = 512 * (6 + t.val / 8) + l.val := by omega
  have h2 : 4096 + (512 * (t.val / 8) + l.val) = 512 * (8 + t.val / 8) + l.val := by omega
  rw [gate_apply, block0 m c t, h0]
  exact congrArg (_ * ·) (conv_apply _ _ _ _ _ _ _ _ l r (t.val % 8) (fun k => at3 (W m c) 0 k (512 * (t.val / 8) + l))
    (fun k => at2 (P m c) k (3072 + (512 * (t.val / 8) + l)) * at2 (P m c) k (4096 + (512 * (t.val / 8) + l)))
    (coord t) (fun hb k => by rw [block3 m c t hb, block4 m c t hb, h1, h2]) (fun k => by rw [block1 m c t, block2 m c t, h1, h2]) (tap0 m c t l) (tap1 m c t l) (tap2 m c t l))

theorem final6 (i : S4096x1024.Idx) : ((dats m 0 c).arrAt 6 cfg0.N : S4096x1024.Idx → EReal) i = value (P m c) (W m c) (i 0).val (i 1).val := by
  refine Dat.arrAt_forall_of_cover (dat := dats m 0 c) 6 (fun i x => x = value (P m c) (W m c) (i 0).val (i 1).val) ?_ ?_ i
  · intro t hft y
    rw [Cert.ScConvFIdeal.Value.flushed6]
    obtain ⟨r, l, rfl⟩ : ∃ (r : Fin 512) (l : Fin 512), y = ix2 r l := ⟨y 0, y 1, funext fun d => by fin_cases d <;> rfl⟩
    have e0 : (((cfg0.win 6).blk t).view.emb (ix2 r l) 0).val = 512 * (t.val % 8) + r.val := by
      exact place win0_6 (index6 t).1 (by show (t.val % 8) * 512 + r.val = _; omega)
    have e1 : (((cfg0.win 6).blk t).view.emb (ix2 r l) 1).val = 512 * (t.val / 8) + l.val := by
      exact place win0_6 (index6 t).2 (by show (t.val / 8) * 512 + l.val = _; omega)
    rw [e0, e1]
    have key := result_block6 m c t r l
    revert key
    generalize out0_6 (F := Ideal) (grid0.coords t) (iblk m c 0 t) (iblk m c 1 t) (iblk m c 2 t) (iblk m c 3 t) (iblk m c 4 t) (iblk m c 5 t) = B
    intro key
    exact key
  · intro i
    have h0 : (i 0).val < 4096 := (i 0).isLt
    have h1 : (i 1).val < 1024 := (i 1).isLt
    have hb : 8 * ((i 1).val / 512) + (i 0).val / 512 < cfg0.N := Nat.lt_of_lt_of_eq (by omega) N_0.symm
    refine ⟨⟨_, hb⟩, flush0_6 _, ?_⟩
    show i ∈ ((View.whole main_v2).slice (win0_6.rect ⟨_, hb⟩)).set
    rw [View.set_slice_whole, Rect.mem_set_unit]
    have hi := index6 ⟨_, hb⟩
    dsimp only at hi
    intro d
    fin_cases d
    · exact between (b := 512) (n := (i 0).val) hi.1 (by omega)
    · exact between (b := 512) (n := (i 1).val) hi.2 (by omega)

end

/-! ## The reference, and the claims -/

open Cert.ScConvFRefIdeal.Read

theorem reference_column (x0 : Vec Ideal S4096x10240 .bf16) (q : Fin 1024) (r : Fin 4096) : val_main_v9 (F := Ideal) x0 (ix2 r q) = at2 x0 r (3072 + q) * at2 x0 r (4096 + q) := by
  rw [val_main_v9_apply, val_main_v3_apply, val_main_v2_apply, val_main_v5_apply, val_main_v4_apply]
  exact congrArg₂ (· * ·) (at2_eq _ _ _ _ rfl rfl) (at2_eq _ _ _ _ rfl rfl)

theorem reference_lag (x0 : Vec Ideal S4096x10240 .bf16) (q : Fin 1024) (r : Fin 4098) (k t : ℕ) (h : r.val = t + k) :
    val_main_v10 (F := Ideal) x0 (ix2 r q) = lag 2 (fun n => at2 x0 n (3072 + q) * at2 x0 n (4096 + q)) k t := by
  unfold val_main_v10 val_main_v8 val_main_cst lag
  generalize hv : val_main_v9 (F := Ideal) x0 = v
  pointwise
  subst hv
  rw [← h]
  split
  · rfl
  · rw [reference_column]

theorem reference_tap (x1 : Vec Ideal S4x3x1024 .f32) (q : Fin 1024) (k : Fin 3) : val_main_v7 (F := Ideal) x1 (ix2 k q) = at3 x1 0 k q := by
  unfold val_main_v7 val_main_v6
  pointwise
  exact at3_eq _ _ _ _ _ rfl rfl rfl

theorem reference6 (x0 : Vec Ideal S4096x10240 .bf16) (x1 : Vec Ideal S4x3x1024 .f32) (r : Fin 4096) (q : Fin 1024) :
    (val_main_v32 (F := Ideal) x0 x1 : S4096x1024.Idx → EReal) (ix2 r q) = value x0 x1 r q := by
  have h1 : val_main_v1 (F := Ideal) x0 (ix2 r q) = at2 x0 r (2048 + q) := by
    rw [val_main_v1_apply, val_main_v0_apply]
    exact at2_eq _ _ _ _ rfl rfl
  unfold value conv3
  rw [← h1, ← reference_lag x0 q ⟨r, by omega⟩ 0 r rfl, ← reference_lag x0 q ⟨1 + r, by omega⟩ 1 r (add_comm _ _), ← reference_lag x0 q ⟨2 + r, by omega⟩ 2 r (add_comm _ _)]
  beta_reduce
  have hw := fun k => (reference_tap x1 q k).symm
  rw [show at3 x1 0 0 q = _ from hw 0, show at3 x1 0 1 q = _ from hw 1, show at3 x1 0 2 q = _ from hw 2]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11
  generalize val_main_v10 (F := Ideal) x0 = u
  generalize val_main_v7 (F := Ideal) x1 = v
  generalize val_main_v1 (F := Ideal) x0 = y
  pointwise

theorem frame_kernel : Cert.quiescent_ScConvF := fun m g _ => Cert.ScConvF.Gen.frame m g

theorem frame_ideal : Cert.quiescent_ScConvFIdeal := fun m g _ => Cert.ScConvFIdeal.Gen.frame m g

theorem frame_reference : Cert.quiescent_ScConvFRefIdeal := fun m g _ =>
  (θ_run Cert.ScConvFRefIdeal.defs _ _).mono (fun r h => ⟨fun c => (h c).2, sem_eq_zero_of_no_sems (by decide) r.2⟩)
    (Cert.ScConvFRefIdeal.Value.run (F := Ideal) m g)

theorem algebraic : Cert.algebraic_ScConvFIdeal_ScConvFRefIdeal := by
  pair_intro
  · run_from Cert.ScConvFIdeal.Value.run_blocks m g
  · run_from Cert.ScConvFRefIdeal.Value.run m' g'
    refine funext fun i => ?_
    rw [final6 m c]
    exact ((congrFun (Cert.ScConvFRefIdeal.Read.val_main_v32_eq _ _) i).trans (congrArg _ (funext fun d => by fin_cases d <;> rfl))).trans (reference6 _ _ (i 0) (i 1))

end Cert.ScConvFProof

end
-- ==== Proof.MConvFEw.lean ====
/-
  The recurrence's causal convolution of four taps, its bias and `silu`.
-/
module

public import proofs.«01_k».proof.Defs
public import proofs.«01_k».proof.Proof.Gen.MConvF.Frame
public import proofs.«01_k».proof.Proof.Gen.MConvFIdeal.Value
public import proofs.«01_k».proof.Proof.Gen.MConvFRefIdeal.Run
public import proofs.«01_k».proof.Proof.Gen.MConvFRefIdeal.Read
public import proofs.«01_k».proof.Proof.Gate
public import proofs.«01_k».proof.Proof.Lag
public import proofs.«01_k».proof.Proof.Place
public import Idealize.ShloMosaic.Lib.Pipeline.Value
public import Idealize.ShloMosaic.Lib.WritesUnit
public import Idealize.ShloMosaic.Lib.Pointwise
public import Idealize.ShloMosaic.Lib.Tactic
public import Idealize.ShloMosaic.Lib.Claim

@[expose] public section

noncomputable section

namespace Cert.MConvFProof

open Idealize.ShloMosaic Idealize.ShloMosaic.TcCoe Cert.MConvFIdeal Cert.MConvFIdeal.Gen Cert.At Cert.Dot Idealize.SL.Sem
open Idealize.ShloMosaic.Pipeline (Dat)
open scoped BigOperators
open Cert.Gate Cert.Lag

/-- The convolution's output before `silu`, and after it, at row `r` and column `q`. -/
def before (p : S4096x10240.Idx → EReal) (w : S4x4x3072.Idx → EReal) (b : S4x3072.Idx → EReal) (r q : ℕ) : EReal :=
  conv4 (fun k => at3 w 0 k q) (fun k => at2 p k (7168 + q)) r + at2 b 0 q
def value (p : S4096x10240.Idx → EReal) (w : S4x4x3072.Idx → EReal) (b : S4x3072.Idx → EReal) (r q : ℕ) : EReal :=
  before p w b r q * sigm (before p w b r q)

section
variable (m : (ℓ : Loc nD τ sig) → Buf (Elt Ideal) ℓ) (c : Dev nD)

/-- The arguments, as launched. -/
abbrev P : S4096x10240.Idx → EReal := m ((c : Thread nD τ).loc main_arg0)
abbrev W : S4x4x3072.Idx → EReal := m ((c : Thread nD τ).loc main_arg1)
abbrev B : S4x3072.Idx → EReal := m ((c : Thread nD τ).loc main_arg2)

theorem index0 : ∀ t : Fin cfg0.N, win0_0.index t (0 : Fin 2) = t.val % 8 ∧ win0_0.index t (1 : Fin 2) = 14 + t.val / 8 :=
  (by decide +kernel : ∀ t : Fin grid0.N, win0_0.index t (0 : Fin 2) = t.val % 8 ∧ win0_0.index t (1 : Fin 2) = 14 + t.val / 8)
theorem index1 : ∀ t : Fin cfg0.N, win0_1.index t (0 : Fin 2) = 32 * (t.val % 8) - 1 ∧ win0_1.index t (1 : Fin 2) = 14 + t.val / 8 :=
  (by decide +kernel : ∀ t : Fin grid0.N, win0_1.index t (0 : Fin 2) = 32 * (t.val % 8) - 1 ∧ win0_1.index t (1 : Fin 2) = 14 + t.val / 8)
theorem index2 : ∀ t : Fin cfg0.N, win0_2.index t (0 : Fin 3) = 0 ∧ win0_2.index t (1 : Fin 3) = 0 ∧ win0_2.index t (2 : Fin 3) = t.val / 8 :=
  (by decide +kernel : ∀ t : Fin grid0.N, win0_2.index t (0 : Fin 3) = 0 ∧ win0_2.index t (1 : Fin 3) = 0 ∧ win0_2.index t (2 : Fin 3) = t.val / 8)
theorem index3 : ∀ t : Fin cfg0.N, win0_3.index t (0 : Fin 3) = 0 ∧ win0_3.index t (1 : Fin 3) = 0 ∧ win0_3.index t (2 : Fin 3) = t.val / 8 :=
  (by decide +kernel : ∀ t : Fin grid0.N, win0_3.index t (0 : Fin 3) = 0 ∧ win0_3.index t (1 : Fin 3) = 0 ∧ win0_3.index t (2 : Fin 3) = t.val / 8)
theorem index4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem coord : ∀ t : Fin cfg0.N, (grid0.coords t 1).val = t.val % 8 :=
  (by decide +kernel : ∀ t : Fin grid0.N, (grid0.coords t 1).val = t.val % 8)

theorem points (t : Fin cfg0.N) : t.val < 48 := Nat.lt_of_lt_of_eq t.isLt N_0

theorem hz3 : (![0, 0, 0] : Fin 3 → Nat) = fun _ => 0 := funext fun a => by fin_cases a <;> rfl

theorem hz : (![0, 0] : Fin 2 → Nat) = fun _ => 0 := funext fun a => by fin_cases a <;> rfl

variable (t : Fin cfg0.N)

theorem block0 (a : Fin 512) (b : Fin 512) : (iblk m c 0 t : Vec Ideal S512x512 .bf16) (ix2 a b) = at2 (P m c) (512 * (t.val % 8) + a) (512 * (14 + t.val / 8) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (14 + t.val / 8) * 512 + b.val = _; omega)))

theorem block1 (hb : t.val % 8 ≠ 0) (a : Fin 16) (b : Fin 512) : (iblk m c 1 t : Vec Ideal S16x512 .bf16) (ix2 a b) = at2 (P m c) (512 * (t.val % 8) + a - 16) (512 * (14 + t.val / 8) + b) :=
  (congrFun (V_main_arg0 m c) (((cfg0.win 1).blk t).view.emb (ix2 a b))).trans (at2_eq _ _ _ _
    (place win0_1 (index1 t).1 (by show (32 * (t.val % 8) - 1) * 16 + a.val = _; omega))
    (place win0_1 (index1 t).2 (by show (14 + t.val / 8) * 512 + b.val = _; omega)))

/-- The taps' array as the grid finds it: the taps followed by rows of zeros. -/
theorem V_taps : V m c main_v1 = concatenate S4x8x3072 1 [⟨S4x4x3072, W m c⟩,
    ⟨S4x4x3072, (broadcastInDim S4x4x3072 ![] bcast_S_S4x4x3072 : (⟨S_, .f32⟩ : BufTy).Contents (Elt Ideal) → (⟨S4x4x3072, .f32⟩ : BufTy).Contents (Elt Ideal)) (constant (F := Ideal) S_ .f32 0x00000000#32)⟩] concatenates_S4x4x3072_S4x4x3072_S4x8x3072_d1 := by
  unfold V hostOps0
  after_results

theorem block2 (l : Fin 512) (k : Fin 8) (hk : k.val < 4) : (iblk m c 2 t : Vec Ideal S1x8x512 .f32) (ix3 0 k l) = at3 (W m c) 0 k (512 * (t.val / 8) + l) := by
  unfold iblk
  rw [View.read_apply]
  show V m c main_v1 (((cfg0.win 2).blk t).view.emb (ix3 0 k l)) = _
  have h1 : (((cfg0.win 2).blk t).view.emb (ix3 (0 : Fin 1) k l)) = ix3 (n0 := 4) (n1 := 8) (n2 := 3072) 0 k ⟨512 * (t.val / 8) + l, by have := points t; omega⟩ := by
    funext d
    refine Fin.ext ?_
    refine (Pipeline.Window.rect_emb_val win0_2 t (ix3 (0 : Fin 1) k l) d).trans ?_
    obtain ⟨h0, h1, h2⟩ := index2 t
    fin_cases d
    · show win0_2.index t (0 : Fin 3) * 1 + 0 = 0
      rw [h0]
    · show win0_2.index t (1 : Fin 3) * 8 + k.val = k.val
      rw [h1]; omega
    · show win0_2.index t (2 : Fin 3) * 512 + l.val = 512 * (t.val / 8) + l.val
      rw [h2]; omega
  rw [h1, V_taps]
  pointwise
  rw [dif_pos hk]
  exact at3_eq _ _ _ _ _ rfl rfl rfl

theorem tap0 (l : Fin 512) : View.ld (iblk m c 2 t : Vec Ideal S1x8x512 .f32) r0_2 (ix3 0 0 l) = at3 (W m c) 0 0 (512 * (t.val / 8) + l) :=
  (congrArg (iblk m c 2 t : Vec Ideal S1x8x512 .f32) (funext fun d => Fin.ext (by fin_cases d <;> simp [Rect.emb, Rect.unit] <;> rfl))).trans (block2 m c t l 0 (by decide))

theorem tap1 (l : Fin 512) : View.ld (iblk m c 2 t : Vec Ideal S1x8x512 .f32) r0_3 (ix3 0 0 l) = at3 (W m c) 0 1 (512 * (t.val / 8) + l) :=
  (congrArg (iblk m c 2 t : Vec Ideal S1x8x512 .f32) (funext fun d => Fin.ext (by fin_cases d <;> simp [Rect.emb, Rect.unit] <;> rfl))).trans (block2 m c t l 1 (by decide))

theorem tap2 (l : Fin 512) : View.ld (iblk m c 2 t : Vec Ideal S1x8x512 .f32) r0_4 (ix3 0 0 l) = at3 (W m c) 0 2 (512 * (t.val / 8) + l) :=
  (congrArg (iblk m c 2 t : Vec Ideal S1x8x512 .f32) (funext fun d => Fin.ext (by fin_cases d <;> simp [Rect.emb, Rect.unit] <;> rfl))).trans (block2 m c t l 2 (by decide))

theorem tap3 (l : Fin 512) : View.ld (iblk m c 2 t : Vec Ideal S1x8x512 .f32) r0_5 (ix3 0 0 l) = at3 (W m c) 0 3 (512 * (t.val / 8) + l) :=
  (congrArg (iblk m c 2 t : Vec Ideal S1x8x512 .f32) (funext fun d => Fin.ext (by fin_cases d <;> simp [Rect.emb, Rect.unit] <;> rfl))).trans (block2 m c t l 3 (by decide))

/-- The bias as the grid finds it. -/
theorem V_bias : V m c main_v2 = shapeCast S4x1x3072 (B m c : Vec Ideal S4x3072 .f32) shapeCasts_S4x3072_S4x1x3072 := by
  unfold V hostOps0
  after_results
  rfl

theorem block3 (l : Fin 512) : (iblk m c 3 t : Vec Ideal S1x1x512 .f32) (ix3 0 0 l) = at2 (B m c) 0 (512 * (t.val / 8) + l) := by
  unfold iblk
  rw [View.read_apply]
  show V m c main_v2 (((cfg0.win 3).blk t).view.emb (ix3 0 0 l)) = _
  have h1 : (((cfg0.win 3).blk t).view.emb (ix3 (0 : Fin 1) (0 : Fin 1) l)) = ix3 (n0 := 4) (n1 := 1) (n2 := 3072) 0 (0 : Fin 1) ⟨512 * (t.val / 8) + l, by have := points t; omega⟩ := by
    funext d
    refine Fin.ext ?_
    refine (Pipeline.Window.rect_emb_val win0_3 t (ix3 (0 : Fin 1) (0 : Fin 1) l) d).trans ?_
    obtain ⟨h0, h1, h2⟩ := index3 t
    fin_cases d
    · show win0_3.index t (0 : Fin 3) * 1 + 0 = 0
      rw [h0]
    · show win0_3.index t (1 : Fin 3) * 1 + 0 = 0
      rw [h1]
    · show win0_3.index t (2 : Fin 3) * 512 + l.val = 512 * (t.val / 8) + l.val
      rw [h2]; omega
  rw [h1, V_bias]
  have e : ∀ q : Fin 3072, (shapeCast S4x1x3072 (B m c : Vec Ideal S4x3072 .f32) shapeCasts_S4x3072_S4x1x3072 : S4x1x3072.Idx → EReal) (ix3 0 0 q) = B m c (ix2 0 q) := by
    intro q
    pointwise
  rw [e]
  exact at2_eq _ _ _ _ rfl rfl

/-! ## The computations of one grid point -/

theorem conv_apply (i : grid0.Coords) (v1 : Vec Ideal S16x512 .bf16) (v5 : Vec Ideal S512x512 .bf16) (t0 t1 t2 t3 : Vec Ideal S1x1x512 .f32)
    (l : Fin 512) (r : Fin 512) (b : ℕ) (w x : ℕ → EReal) (hi : (i 1).val = b)
    (hp : b ≠ 0 → ∀ k : Fin 16, v1 (ix2 k l) = x (512 * b + k - 16)) (hc : ∀ k : Fin 512, v5 (ix2 k l) = x (512 * b + k))
    (h0 : t0 (ix3 0 0 l) = w 0) (h1 : t1 (ix3 0 0 l) = w 1) (h2 : t2 (ix3 0 0 l) = w 2) (h3 : t3 (ix3 0 0 l) = w 3) :
    (k0_pay2 (F := Ideal) i v1 v5 t0 t1 t2 t3 : S512x512.Idx → EReal) (ix2 r l) = conv4 w x (512 * b + r) := by
  subst hi
  have key := padded_eq (i 1).val (i 1).isLt x (fun k => v1 (ix2 k l)) (fun k => v5 (ix2 k l)) hp hc
  beta_reduce at key
  have e3 : (16 + (r : ℕ) + 528 - 3) % 528 = r + 13 := by omega
  have e2 : (16 + (r : ℕ) + 528 - 2) % 528 = r + 14 := by omega
  have e1 : (16 + (r : ℕ) + 528 - 1) % 528 = r + 15 := by omega
  unfold conv4
  rw [← key 3 0 r (r + 13) (by omega) (by omega) (by omega), ← key 3 1 r (r + 14) (by omega) (by omega) (by omega),
    ← key 3 2 r (r + 15) (by omega) (by omega) (by omega), ← key 3 3 r (16 + r) (by omega) (by omega) (by omega), ← h0, ← h1, ← h2, ← h3]
  pointwise [k0_pay2]
  simp only [e3, e2, e1]

theorem silu_apply (u : FVec Ideal S512x512 .f32) (v : Vec Ideal S1x1x512 .f32) (r l : Fin 512) :
    (k0_pay1 (F := Ideal) u v : S512x512.Idx → EReal) (ix2 r l) = (u (ix2 r l) + v (ix3 0 0 l)) * sigm (u (ix2 r l) + v (ix3 0 0 l)) := by
  unfold sigm
  rw [← zero_sub, ← Ideal.ofBits_one_f32, ← Ideal.ofBits_zero_f32]
  pointwise [k0_pay1]

theorem result_block4 (r l : Fin 512) :
    (out0_4 (F := Ideal) (grid0.coords t) (iblk m c 0 t) (iblk m c 1 t) (iblk m c 2 t) (iblk m c 3 t) : S512x512.Idx → EReal) (ix2 r l)
      = value (P m c) (W m c) (B m c) (512 * (t.val % 8) + r) (512 * (t.val / 8) + l) := by
  unfold out0_4 value before
  rw [View.canon_unit_zero hz]
  simp only [View.ld_unit_zero (S := S512x512) hz, View.ld_unit_zero (S := S16x512) hz, View.ld_unit_zero (S := S1x1x512) hz3]
  have hcol : 7168 + (512 * (t.val / 8) + l.val) = 512 * (14 + t.val / 8) + l.val := by omega
  rw [silu_apply, block3 m c t]
  exact congrArg (fun a => (a + _) * sigm (a + _)) (conv_apply _ _ _ _ _ _ _ l r (t.val % 8) (fun k => at3 (W m c) 0 k (512 * (t.val / 8) + l)) (fun k => at2 (P m c) k (7168 + (512 * (t.val / 8) + l)))
    (coord t) (fun hb k => by rw [block1 m c t hb, hcol]) (fun k => by rw [block0 m c t, hcol]) (tap0 m c t l) (tap1 m c t l) (tap2 m c t l) (tap3 m c t l))

theorem final4 (i : S4096x3072.Idx) : ((dats m 0 c).arrAt 4 cfg0.N : S4096x3072.Idx → EReal) i = value (P m c) (W m c) (B m c) (i 0).val (i 1).val := by
  refine Dat.arrAt_forall_of_cover (dat := dats m 0 c) 4 (fun i x => x = value (P m c) (W m c) (B m c) (i 0).val (i 1).val) ?_ ?_ i
  · intro t hft y
    rw [Cert.MConvFIdeal.Value.flushed4]
    obtain ⟨r, l, rfl⟩ : ∃ (r : Fin 512) (l : Fin 512), y = ix2 r l := ⟨y 0, y 1, funext fun d => by fin_cases d <;> rfl⟩
    have e0 : (((cfg0.win 4).blk t).view.emb (ix2 r l) 0).val = 512 * (t.val % 8) + r.val := by
      exact place win0_4 (index4 t).1 (by show (t.val % 8) * 512 + r.val = _; omega)
    have e1 : (((cfg0.win 4).blk t).view.emb (ix2 r l) 1).val = 512 * (t.val / 8) + l.val := by
      exact place win0_4 (index4 t).2 (by show (t.val / 8) * 512 + l.val = _; omega)
    rw [e0, e1]
    have key := result_block4 m c t r l
    revert key
    generalize out0_4 (F := Ideal) (grid0.coords t) (iblk m c 0 t) (iblk m c 1 t) (iblk m c 2 t) (iblk m c 3 t) = B
    intro key
    exact key
  · intro i
    have h0 : (i 0).val < 4096 := (i 0).isLt
    have h1 : (i 1).val < 3072 := (i 1).isLt
    have hb : 8 * ((i 1).val / 512) + (i 0).val / 512 < cfg0.N := Nat.lt_of_lt_of_eq (by omega) N_0.symm
    refine ⟨⟨_, hb⟩, flush0_4 _, ?_⟩
    show i ∈ ((View.whole main_v3).slice (win0_4.rect ⟨_, hb⟩)).set
    rw [View.set_slice_whole, Rect.mem_set_unit]
    have hi := index4 ⟨_, hb⟩
    dsimp only at hi
    intro d
    fin_cases d
    · exact between (b := 512) (n := (i 0).val) hi.1 (by omega)
    · exact between (b := 512) (n := (i 1).val) hi.2 (by omega)

end

/-! ## The reference, and the claims -/

open Cert.MConvFRefIdeal.Read

theorem reference_column (x0 : Vec Ideal S4096x10240 .bf16) (q : Fin 3072) (r : Fin 4096) : val_main_v1 (F := Ideal) x0 (ix2 r q) = at2 x0 r (7168 + q) := by
  rw [val_main_v1_apply, val_main_v0_apply]
  exact at2_eq _ _ _ _ rfl rfl

theorem reference_lag (x0 : Vec Ideal S4096x10240 .bf16) (q : Fin 3072) (r : Fin 4099) (k t : ℕ) (h : r.val = t + k) :
    val_main_v7 (F := Ideal) x0 (ix2 r q) = lag 3 (fun n => at2 x0 n (7168 + q)) k t := by
  unfold val_main_v7 val_main_v6 val_main_cst lag
  pointwise
  rw [← h]
  split
  · rfl
  · rw [reference_column]

theorem reference_tap (x1 : Vec Ideal S4x4x3072 .f32) (q : Fin 3072) (k : Fin 4) : val_main_v3 (F := Ideal) x1 (ix2 k q) = at3 x1 0 k q := by
  unfold val_main_v3 val_main_v2
  pointwise
  exact at3_eq _ _ _ _ _ rfl rfl rfl

theorem reference_before (x0 : Vec Ideal S4096x10240 .bf16) (x1 : Vec Ideal S4x4x3072 .f32) (x2 : Vec Ideal S4x3072 .f32) (r : Fin 4096) (q : Fin 3072) :
    (val_main_v37 (F := Ideal) x0 x1 x2 : S4096x3072.Idx → EReal) (ix2 r q) = before x0 x1 x2 r q := by
  unfold before conv4
  rw [← reference_lag x0 q ⟨r, by omega⟩ 0 r rfl, ← reference_lag x0 q ⟨1 + r, by omega⟩ 1 r (add_comm _ _), ← reference_lag x0 q ⟨2 + r, by omega⟩ 2 r (add_comm _ _),
    ← reference_lag x0 q ⟨3 + r, by omega⟩ 3 r (add_comm _ _), show at2 x2 0 q = x2 (ix2 0 q) from (at2_ix2 x2 (0 : Fin 4) q).symm]
  beta_reduce
  have hw := fun k => (reference_tap x1 q k).symm
  rw [show at3 x1 0 0 q = _ from hw 0, show at3 x1 0 1 q = _ from hw 1, show at3 x1 0 2 q = _ from hw 2, show at3 x1 0 3 q = _ from hw 3]
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8
  generalize val_main_v7 (F := Ideal) x0 = u
  generalize val_main_v3 (F := Ideal) x1 = v
  pointwise [val_main_v4, val_main_v5]

theorem reference4 (x0 : Vec Ideal S4096x10240 .bf16) (x1 : Vec Ideal S4x4x3072 .f32) (x2 : Vec Ideal S4x3072 .f32) (r : Fin 4096) (q : Fin 3072) :
    (val_main_v39 (F := Ideal) x0 x1 x2 : S4096x3072.Idx → EReal) (ix2 r q) = value x0 x1 x2 r q := by
  unfold value
  rw [← reference_before]
  unfold sigm
  rw [← Ideal.ofBits_one_f32]
  unfold val_main_v39 val_main_v38 val_main_call0_v5 val_main_call0_v3 val_main_call0_v1 val_main_call0_v0
  generalize val_main_v37 (F := Ideal) x0 x1 x2 = u
  pointwise [val_main_call0_v4, val_main_call0_v2, val_main_call0_cst, val_main_call0_cst_0]

theorem frame_kernel : Cert.quiescent_MConvF := fun m g _ => Cert.MConvF.Gen.frame m g

theorem frame_ideal : Cert.quiescent_MConvFIdeal := fun m g _ => Cert.MConvFIdeal.Gen.frame m g

theorem frame_reference : Cert.quiescent_MConvFRefIdeal := fun m g _ =>
  (θ_run Cert.MConvFRefIdeal.defs _ _).mono (fun r h => ⟨fun c => (h c).2, sem_eq_zero_of_no_sems (by decide) r.2⟩)
    (Cert.MConvFRefIdeal.Value.run (F := Ideal) m g)

/-- The reference's run, its results named by stages of its text. -/
theorem run_reference (m : (ℓ : Loc Cert.MConvFRefIdeal.nD Cert.MConvFRefIdeal.τ Cert.MConvFRefIdeal.sig) → Buf (Elt Ideal) ℓ) (g : Dev Cert.MConvFRefIdeal.nD → PrngReg) :
    θ_run Cert.MConvFRefIdeal.defs (onTc (τ := Cert.MConvFRefIdeal.τ) (Cert.MConvFRefIdeal.main (F := Ideal))) ⟨m, fun _ => 0, g⟩ fun r =>
      ∀ c : Dev Cert.MConvFRefIdeal.nD,
        let x0 := m ((c.tc : Thread Cert.MConvFRefIdeal.nD Cert.MConvFRefIdeal.τ).loc Cert.MConvFRefIdeal.main_arg0)
        let x1 := m ((c.tc : Thread Cert.MConvFRefIdeal.nD Cert.MConvFRefIdeal.τ).loc Cert.MConvFRefIdeal.main_arg1)
        let x2 := m ((c.tc : Thread Cert.MConvFRefIdeal.nD Cert.MConvFRefIdeal.τ).loc Cert.MConvFRefIdeal.main_arg2)
        r.2.mem ((c.tc : Thread Cert.MConvFRefIdeal.nD Cert.MConvFRefIdeal.τ).loc Cert.MConvFRefIdeal.main_v39) = Cert.MConvFRefIdeal.Read.val_main_v39 x0 x1 x2
        ∧ r.2.mem ((c.tc : Thread Cert.MConvFRefIdeal.nD Cert.MConvFRefIdeal.τ).loc Cert.MConvFRefIdeal.main_arg0) = x0
        ∧ r.2.mem ((c.tc : Thread Cert.MConvFRefIdeal.nD Cert.MConvFRefIdeal.τ).loc Cert.MConvFRefIdeal.main_arg1) = x1
        ∧ r.2.mem ((c.tc : Thread Cert.MConvFRefIdeal.nD Cert.MConvFRefIdeal.τ).loc Cert.MConvFRefIdeal.main_arg2) = x2 :=
  (θ_run _ _ _).mono (fun _ h c => ⟨(h c).1.trans (Cert.MConvFRefIdeal.Read.val_main_v39_eq _ _).symm, (h c).2⟩)
    (Cert.MConvFRefIdeal.Value.run m g)

theorem algebraic : Cert.algebraic_MConvFIdeal_MConvFRefIdeal := by
  pair_intro
  · run_from Cert.MConvFIdeal.Value.run_blocks m g
  · run_from run_reference m' g'
    refine funext fun i => ?_
    rw [final4 m c]
    exact (congrArg _ (funext fun d => by fin_cases d <;> rfl)).trans (reference4 _ _ _ (i 0) (i 1))

end Cert.MConvFProof

end
-- ==== Proof.LossHEw.lean ====
/-
  The loss over the normed rows, and its gradients.
-/
module

public import proofs.«01_k».proof.Defs
public import proofs.«01_k».proof.Proof.Gen.LossH.Frame
public import proofs.«01_k».proof.Proof.Gen.LossHIdeal.Value
public import proofs.«01_k».proof.Proof.Gen.LossHRefIdeal.Run
public import proofs.«01_k».proof.Proof.Gen.LossHRefIdeal.Read
public import proofs.«01_k».proof.Proof.Norm
public import proofs.«01_k».proof.Proof.Place
public import Idealize.ShloMosaic.Lib.Pipeline.Value
public import Idealize.ShloMosaic.Lib.Pipeline.ValueKit
public import Idealize.ShloMosaic.Lib.WritesUnit
public import Idealize.ShloMosaic.Lib.Pointwise
public import Idealize.ShloMosaic.Lib.Tactic
public import Idealize.ShloMosaic.Lib.Claim

@[expose] public section

noncomputable section

namespace Cert.LossHProof

open Idealize.ShloMosaic Idealize.ShloMosaic.TcCoe Cert.LossHIdeal Cert.LossHIdeal.Gen Cert.At Cert.Dot Idealize.SL.Sem
open Idealize.ShloMosaic.Pipeline (Dat)
open scoped BigOperators
open Cert.Norm

/-- The gain's element at column `q`. -/
def along (g : S1024.Idx → EReal) (q : ℕ) : EReal := if h : q < 1024 then g (ix1 ⟨q, h⟩) else 0

theorem along_eq (g : S1024.Idx → EReal) (q : Fin 1024) : g (ix1 q) = along g q.val := by
  unfold along
  rw [dif_pos q.isLt]

/-- One half, and one part in 1024, as the programs write them. -/
abbrev half : EReal := Ideal.ofBits .f32 0x3F000000#32
abbrev part : EReal := Ideal.ofBits .f32 0x3A800000#32

theorem part_eq : part = ((1 / 1024 : ℝ) : EReal) := by
  simp [Ideal.ofBits, Ideal.ieee, -EReal.coe_mul]; norm_num

/-- Half of an error's slope taken twice is the whole of it. -/
theorem slope_twice (x : EReal) :
    x * Ideal.div (half * Ideal.ofBits .f32 0x3F800000#32) count + Ideal.div (half * Ideal.ofBits .f32 0x3F800000#32) count * x = x * part := by
  have e : Ideal.div (half * Ideal.ofBits .f32 0x3F800000#32) count = ((1 / 2048 : ℝ) : EReal) := by
    rw [Ideal.ofBits_one_f32, mul_one, count_eq, show half = ((1 / 2 : ℝ) : EReal) from half_eq, div_real _ (by norm_num), ← EReal.coe_mul]
    norm_num
  have h0 : (0 : EReal) ≤ ((1 / 2048 : ℝ) : EReal) := by exact_mod_cast (by norm_num : (0 : ℝ) ≤ 1 / 2048)
  rw [e, mul_comm _ x, ← EReal.left_distrib_of_nonneg h0 h0, ← EReal.coe_add, part_eq]
  norm_num

/-- The normed row's element, its distance from the target, and that distance's share in the gradient. -/
abbrev rowScale (h : S4096x1024.Idx → EReal) (r : ℕ) : EReal := scale count (fun k => at2 h r k) 1024
abbrev normed (h : S4096x1024.Idx → EReal) (r q : ℕ) : EReal := at2 h r q * rowScale h r
def miss (h : S4096x1024.Idx → EReal) (g : S1024.Idx → EReal) (e : S4096x1024.Idx → EReal) (r q : ℕ) : EReal := normed h r q * along g q - at2 e r q
def slope (h : S4096x1024.Idx → EReal) (g : S1024.Idx → EReal) (e : S4096x1024.Idx → EReal) (r q : ℕ) : EReal := miss h g e r q * part

/-- The gradient of the rows, of the gain over the first `n` rows, and the loss over the first `n` rows. -/
def toInput (h : S4096x1024.Idx → EReal) (g : S1024.Idx → EReal) (e : S4096x1024.Idx → EReal) (r q : ℕ) : EReal :=
  rowScale h r * (slope h g e r q * along g q - normed h r q * Ideal.div (dot (fun k => slope h g e r k * along g k) (fun k => normed h r k) 1024) count)
def toGain (h : S4096x1024.Idx → EReal) (g : S1024.Idx → EReal) (e : S4096x1024.Idx → EReal) (q n : ℕ) : EReal :=
  dot (fun k => slope h g e k q) (fun k => normed h k q) n
def rowLoss (h : S4096x1024.Idx → EReal) (g : S1024.Idx → EReal) (e : S4096x1024.Idx → EReal) (r : ℕ) : EReal :=
  Ideal.div (dot (fun k => miss h g e r k) (fun k => miss h g e r k) 1024) count
def loss (h : S4096x1024.Idx → EReal) (g : S1024.Idx → EReal) (e : S4096x1024.Idx → EReal) (n : ℕ) : EReal :=
  half * dot (fun _ => 1) (fun k => rowLoss h g e k) n

section
variable (m : (ℓ : Loc nD τ sig) → Buf (Elt Ideal) ℓ) (c : Dev nD)

/-- The arguments, as launched. -/
abbrev H : S4096x1024.Idx → EReal := m ((c : Thread nD τ).loc main_arg0)
abbrev G : S1024.Idx → EReal := m ((c : Thread nD τ).loc main_arg1)
abbrev E : S4096x1024.Idx → EReal := m ((c : Thread nD τ).loc main_arg2)

theorem index0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem points (t : Fin cfg0.N) : t.val < 8 := Nat.lt_of_lt_of_eq t.isLt N_0

variable (t : Fin cfg0.N)

theorem block0 (a : Fin 512) (b : Fin 1024) : (iblk m c 0 t : Vec Ideal S512x1024 .f32) (ix2 a b) = at2 (H m c) (512 * (t.val % 8) + a) (1024 * (0) + b) :=
  (congrFun (V_main_arg0 m c) (((cfg0.win 0).blk t).view.emb (ix2 a b))).trans (at2_eq _ _ _ _
    (place win0_0 (index0 t).1 (by show (t.val % 8) * 512 + a.val = _; omega))
    (place win0_0 (index0 t).2 (by show (0) * 1024 + b.val = _; omega)))

theorem block1 (a : Fin 512) (b : Fin 1024) : (iblk m c 1 t : Vec Ideal S512x1024 .f32) (ix2 a b) = at2 (E m c) (512 * (t.val % 8) + a) (1024 * (0) + b) :=
  (congrFun (V_main_arg2 m c) (((cfg0.win 1).blk t).view.emb (ix2 a b))).trans (at2_eq _ _ _ _
    (place win0_1 (index1 t).1 (by show (t.val % 8) * 512 + a.val = _; omega))
    (place win0_1 (index1 t).2 (by show (0) * 1024 + b.val = _; omega)))

/-- The gain as the grid finds it. -/
theorem V_gain : V m c main_v0 = shapeCast S1x1024 (G m c : Vec Ideal S1024 .f32) shapeCasts_S1024_S1x1024 := by
  unfold V hostOps0
  after_results
  rfl

theorem block2 (l : Fin 1024) : (iblk m c 2 t : Vec Ideal S1x1024 .f32) (ix2 0 l) = along (G m c) l := by
  unfold iblk
  rw [View.read_apply]
  show V m c main_v0 (((cfg0.win 2).blk t).view.emb (ix2 0 l)) = _
  have h1 : (((cfg0.win 2).blk t).view.emb (ix2 (0 : Fin 1) l)) = ix2 (n0 := 1) (n1 := 1024) 0 l := by
    funext d
    refine Fin.ext ?_
    refine (Pipeline.Window.rect_emb_val win0_2 t (ix2 (0 : Fin 1) l) d).trans ?_
    obtain ⟨h0, h1⟩ := index2 t
    fin_cases d
    · show win0_2.index t (0 : Fin 2) * 1 + 0 = 0
      rw [h0]
    · show win0_2.index t (1 : Fin 2) * 1024 + l.val = l.val
      rw [h1]; omega
  rw [h1, V_gain, ← along_eq]
  have e : (shapeCast S1x1024 (G m c : Vec Ideal S1024 .f32) shapeCasts_S1024_S1x1024 : S1x1024.Idx → EReal) (ix2 0 l) = G m c (ix1 l) := by
    pointwise
  exact e

/-! ## The computations of one grid point -/

theorem zero_loss (l : Fin 128) : (k0_pay2 (F := Ideal) : S1x128.Idx → EReal) (ix2 0 l) = 0 := by
  rw [← Ideal.ofBits_zero_f32]
  pointwise [k0_pay2]

theorem zero_gain (l : Fin 1024) : (k0_pay3 (F := Ideal) : S1x1024.Idx → EReal) (ix2 0 l) = 0 := by
  rw [← Ideal.ofBits_zero_f32]
  pointwise [k0_pay3]

theorem loss_add (u : FVec Ideal S1x1 .f32) (w : Vec Ideal S1x128 .f32) (l : Fin 128) :
    (k0_pay4 (F := Ideal) u w : S1x128.Idx → EReal) (ix2 0 l) = w (ix2 0 l) + u (ix2 0 0) := by
  pointwise [k0_pay4]

theorem gain_add (u v : FVec Ideal S512x1024 .f32) (w : Vec Ideal S1x1024 .f32) (l : Fin 1024) :
    (k0_pay5 (F := Ideal) u v w : S1x1024.Idx → EReal) (ix2 0 l) = w (ix2 0 l) + ∑ x : Fin 512, v (ix2 x l) * u (ix2 x l) := by
  pointwise [k0_pay5]

theorem scale_apply (h : Vec Ideal S512x1024 .f32) (r : Fin 512) (x : ℕ → EReal) (hx : ∀ k : Fin 1024, h (ix2 r k) = x k) :
    (k0_pay6 (F := Ideal) h : S512x1.Idx → EReal) (ix2 r 0) = scale count x 1024 := by
  unfold scale power
  rw [← dot_fin]
  simp only [← hx]
  pointwise [k0_pay6]

theorem normed_apply (h : Vec Ideal S512x1024 .f32) (r : Fin 512) (l : Fin 1024) : (k0_pay7 (F := Ideal) h : S512x1024.Idx → EReal) (ix2 r l) = h (ix2 r l) * (k0_pay6 (F := Ideal) h : S512x1.Idx → EReal) (ix2 r 0) := by
  unfold k0_pay7
  generalize k0_pay6 (F := Ideal) h = p
  pointwise

theorem miss_apply (h : Vec Ideal S512x1024 .f32) (g : Vec Ideal S1x1024 .f32) (e : Vec Ideal S512x1024 .f32) (r : Fin 512) (l : Fin 1024) : (k0_pay8 (F := Ideal) h g e : S512x1024.Idx → EReal) (ix2 r l) = (k0_pay7 (F := Ideal) h : S512x1024.Idx → EReal) (ix2 r l) * g (ix2 0 l) - e (ix2 r l) := by
  unfold k0_pay8
  generalize k0_pay7 (F := Ideal) h = p
  pointwise

theorem loss_apply (h : Vec Ideal S512x1024 .f32) (g : Vec Ideal S1x1024 .f32) (e : Vec Ideal S512x1024 .f32) :
    (k0_pay9 (F := Ideal) h g e : S1x1.Idx → EReal) (ix2 0 0) = half * ∑ r : Fin 512, Ideal.div (∑ l : Fin 1024, (k0_pay8 (F := Ideal) h g e : S512x1024.Idx → EReal) (ix2 r l) * (k0_pay8 (F := Ideal) h g e : S512x1024.Idx → EReal) (ix2 r l)) count := by
  unfold k0_pay9
  generalize k0_pay8 (F := Ideal) h g e = p
  pointwise

theorem slope_apply (h : Vec Ideal S512x1024 .f32) (g : Vec Ideal S1x1024 .f32) (e : Vec Ideal S512x1024 .f32) (r : Fin 512) (l : Fin 1024) : (k0_pay10 (F := Ideal) h g e : S512x1024.Idx → EReal) (ix2 r l) = (k0_pay8 (F := Ideal) h g e : S512x1024.Idx → EReal) (ix2 r l) * part := by
  unfold k0_pay10
  generalize k0_pay8 (F := Ideal) h g e = p
  pointwise

theorem gained_apply (h : Vec Ideal S512x1024 .f32) (g : Vec Ideal S1x1024 .f32) (e : Vec Ideal S512x1024 .f32) (f : Vec Ideal S1x1024 .f32) (r : Fin 512) (l : Fin 1024) : (k0_pay11 (F := Ideal) h g e f : S512x1024.Idx → EReal) (ix2 r l) = (k0_pay10 (F := Ideal) h g e : S512x1024.Idx → EReal) (ix2 r l) * f (ix2 0 l) := by
  unfold k0_pay11
  generalize k0_pay10 (F := Ideal) h g e = p
  pointwise

theorem along_apply (h : Vec Ideal S512x1024 .f32) (g : Vec Ideal S1x1024 .f32) (e : Vec Ideal S512x1024 .f32) (f : Vec Ideal S1x1024 .f32) (r : Fin 512) (l : Fin 1024) :
    (k0_pay12 (F := Ideal) h g e f : S512x1024.Idx → EReal) (ix2 r l) = (k0_pay7 (F := Ideal) h : S512x1024.Idx → EReal) (ix2 r l) * Ideal.div (∑ x : Fin 1024, (k0_pay11 (F := Ideal) h g e f : S512x1024.Idx → EReal) (ix2 r x) * (k0_pay7 (F := Ideal) h : S512x1024.Idx → EReal) (ix2 r x)) count := by
  unfold k0_pay12
  generalize k0_pay11 (F := Ideal) h g e f = p
  generalize k0_pay7 (F := Ideal) h = q
  pointwise

theorem input_apply (a : FVec Ideal S512x1 .f32) (u v : FVec Ideal S512x1024 .f32) (r : Fin 512) (l : Fin 1024) :
    (k0_pay1 (F := Ideal) a u v : S512x1024.Idx → EReal) (ix2 r l) = a (ix2 r 0) * (u (ix2 r l) - v (ix2 r l)) := by
  pointwise [k0_pay1]

theorem scale_block (r : Fin 512) : (k0_pay6 (F := Ideal) (iblk m c 0 t) : S512x1.Idx → EReal) (ix2 r 0) = rowScale (H m c) (512 * (t.val % 8) + r) :=
  scale_apply _ r (fun k => at2 (H m c) (512 * (t.val % 8) + r) k) fun k => by
    rw [block0 m c t]
    simp only [Nat.mul_zero, Nat.zero_add]

theorem normed_block (r : Fin 512) (l : Fin 1024) : (k0_pay7 (F := Ideal) (iblk m c 0 t) : S512x1024.Idx → EReal) (ix2 r l) = normed (H m c) (512 * (t.val % 8) + r) l := by
  rw [normed_apply, scale_block m c t, block0 m c t]
  simp only [Nat.mul_zero, Nat.zero_add]

theorem miss_block (r : Fin 512) (l : Fin 1024) : (k0_pay8 (F := Ideal) (iblk m c 0 t) (iblk m c 2 t) (iblk m c 1 t) : S512x1024.Idx → EReal) (ix2 r l) = miss (H m c) (G m c) (E m c) (512 * (t.val % 8) + r) l := by
  unfold miss
  rw [miss_apply, normed_block m c t, block1 m c t, block2 m c t]
  simp only [Nat.mul_zero, Nat.zero_add]

theorem slope_block (r : Fin 512) (l : Fin 1024) : (k0_pay10 (F := Ideal) (iblk m c 0 t) (iblk m c 2 t) (iblk m c 1 t) : S512x1024.Idx → EReal) (ix2 r l) = slope (H m c) (G m c) (E m c) (512 * (t.val % 8) + r) l := by
  rw [slope_apply, miss_block m c t]
  rfl

theorem gained_block (r : Fin 512) (l : Fin 1024) : (k0_pay11 (F := Ideal) (iblk m c 0 t) (iblk m c 2 t) (iblk m c 1 t) (iblk m c 2 t) : S512x1024.Idx → EReal) (ix2 r l) = slope (H m c) (G m c) (E m c) (512 * (t.val % 8) + r) l * along (G m c) l := by
  rw [gained_apply, slope_block m c t, block2 m c t]

theorem input_block (r : Fin 512) (l : Fin 1024) :
    (k0_pay1 (F := Ideal) (k0_pay6 (iblk m c 0 t)) (k0_pay11 (iblk m c 0 t) (iblk m c 2 t) (iblk m c 1 t) (iblk m c 2 t)) (k0_pay12 (iblk m c 0 t) (iblk m c 2 t) (iblk m c 1 t) (iblk m c 2 t)) : S512x1024.Idx → EReal) (ix2 r l) = toInput (H m c) (G m c) (E m c) (512 * (t.val % 8) + r) l := by
  unfold toInput
  rw [input_apply, along_apply, scale_block m c t, gained_block m c t, normed_block m c t]
  simp only [gained_block m c t, normed_block m c t]
  rw [← dot_fin]

theorem gain_block (w : Vec Ideal S1x1024 .f32) (l : Fin 1024) (b : ℕ) (hb : t.val % 8 = b) (hw : w (ix2 0 l) = toGain (H m c) (G m c) (E m c) l (512 * b)) :
    (k0_pay5 (F := Ideal) (k0_pay7 (iblk m c 0 t)) (k0_pay10 (iblk m c 0 t) (iblk m c 2 t) (iblk m c 1 t)) w : S1x1024.Idx → EReal) (ix2 0 l) = toGain (H m c) (G m c) (E m c) l (512 * (b + 1)) := by
  rw [gain_add, hw]
  unfold toGain
  rw [← dot_tile]
  refine congrArg _ (Finset.sum_congr rfl fun x _ => ?_)
  rw [slope_block m c t, normed_block m c t, hb]

theorem loss_block (w : Vec Ideal S1x128 .f32) (l : Fin 128) (b : ℕ) (hb : t.val % 8 = b) (hw : w (ix2 0 l) = loss (H m c) (G m c) (E m c) (512 * b)) :
    (k0_pay4 (F := Ideal) (k0_pay9 (iblk m c 0 t) (iblk m c 2 t) (iblk m c 1 t)) w : S1x128.Idx → EReal) (ix2 0 l) = loss (H m c) (G m c) (E m c) (512 * (b + 1)) := by
  rw [loss_add, hw, loss_apply]
  unfold loss
  rw [← EReal.left_distrib_of_nonneg_of_ne_top half_nonneg half_ne_top, ← dot_tile]
  refine congrArg (fun z => half * (_ + z)) (Finset.sum_congr rfl fun x _ => ?_)
  unfold rowLoss
  rw [one_mul, ← dot_fin]
  refine congrArg (fun z => Ideal.div z count) (Finset.sum_congr rfl fun k _ => ?_)
  rw [miss_block m c t, hb]

end

/-! ## What one grid point leaves in the three output blocks -/

section
variable (m : (ℓ : Loc nD τ sig) → Buf (Elt Ideal) ℓ) (c : Dev nD)

/-- The rows' gradient after the point that computes them. -/
theorem left3 (t : Fin cfg0.N) (r : Fin 512) (l : Fin 1024) : (outsAt0 m c t.val t.isLt).1 (ix2 r l) = toInput (H m c) (G m c) (E m c) (512 * (t.val % 8) + r) l := by
  by_cases h0 : t.val % 8 = 0
  · rw [outsAt0_A m c t h0]
    frame_out
    exact input_block m c t r l
  · rw [outsAt0_B m c t h0]
    frame_out
    exact input_block m c t r l

/-- The loss after a point: the sums over all rows up to and including the point's block. -/
theorem left4 (l : Fin 128) : ∀ (k : ℕ) (hk : k < cfg0.N), (outsAt0 m c k hk).2.1 (ix2 0 l) = loss (H m c) (G m c) (E m c) (512 * (k % 8 + 1)) := by
  intro k
  induction k with
  | zero =>
    intro hk
    rw [outsAt0_A m c ⟨0, hk⟩ rfl]
    frame_out
    exact loss_block m c ⟨0, hk⟩ _ l 0 rfl ((zero_loss l).trans (by unfold loss dot; simp))
  | succ k ih =>
    intro hk
    have h8 : k + 1 < 8 := points ⟨k + 1, hk⟩
    rw [outsAt0_B m c ⟨k + 1, hk⟩ (by show ¬(k + 1) % 8 = 0; omega)]
    frame_out
    refine loss_block m c ⟨k + 1, hk⟩ _ l _ rfl ((ih (Nat.lt_of_succ_lt hk)).trans ?_)
    show loss (H m c) (G m c) (E m c) (512 * (k % 8 + 1)) = loss (H m c) (G m c) (E m c) (512 * ((k + 1) % 8))
    congr 2
    omega

/-- The gain's gradient after a point: the sums over all rows up to and including the point's block. -/
theorem left5 (l : Fin 1024) : ∀ (k : ℕ) (hk : k < cfg0.N), (outsAt0 m c k hk).2.2 (ix2 0 l) = toGain (H m c) (G m c) (E m c) l (512 * (k % 8 + 1)) := by
  intro k
  induction k with
  | zero =>
    intro hk
    rw [outsAt0_A m c ⟨0, hk⟩ rfl]
    frame_out
    exact gain_block m c ⟨0, hk⟩ _ l 0 rfl ((zero_gain l).trans (by unfold toGain dot; simp))
  | succ k ih =>
    intro hk
    have h8 : k + 1 < 8 := points ⟨k + 1, hk⟩
    rw [outsAt0_B m c ⟨k + 1, hk⟩ (by show ¬(k + 1) % 8 = 0; omega)]
    frame_out
    refine gain_block m c ⟨k + 1, hk⟩ _ l _ rfl ((ih (Nat.lt_of_succ_lt hk)).trans ?_)
    show toGain (H m c) (G m c) (E m c) l (512 * (k % 8 + 1)) = toGain (H m c) (G m c) (E m c) l (512 * ((k + 1) % 8))
    congr 2
    omega

theorem final3 (i : S4096x1024.Idx) : ((dats m 0 c).arrAt 3 cfg0.N : S4096x1024.Idx → EReal) i = toInput (H m c) (G m c) (E m c) (i 0).val (i 1).val := by
  refine Dat.arrAt_forall_of_cover (dat := dats m 0 c) 3 (fun i x => x = toInput (H m c) (G m c) (E m c) (i 0).val (i 1).val) ?_ ?_ i
  · intro t hft y
    rw [Cert.LossHIdeal.Value.flushed3]
    obtain ⟨r, l, rfl⟩ : ∃ (r : Fin 512) (l : Fin 1024), y = ix2 r l := ⟨y 0, y 1, funext fun d => by fin_cases d <;> rfl⟩
    have e0 : (((cfg0.win 3).blk t).view.emb (ix2 r l) 0).val = 512 * (t.val % 8) + r.val := by
      exact place win0_3 (index3 t).1 (by show (t.val % 8) * 512 + r.val = _; omega)
    have e1 : (((cfg0.win 3).blk t).view.emb (ix2 r l) 1).val = 1024 * (0) + l.val := by
      exact place win0_3 (index3 t).2 (by show (0) * 1024 + l.val = _; omega)
    rw [e0, e1]
    show (outsAt0 m c t.val t.isLt).1 (ix2 r l) = _
    refine (left3 m c t r l).trans ?_
    simp only [Nat.mul_zero, Nat.zero_add]
  · intro i
    have h0 : (i 0).val < 4096 := (i 0).isLt
    have h1 : (i 1).val < 1024 := (i 1).isLt
    have hb : (i 0).val / 512 < cfg0.N := Nat.lt_of_lt_of_eq (by omega) N_0.symm
    refine ⟨⟨_, hb⟩, flush0_3 _, ?_⟩
    show i ∈ ((View.whole main_v1_0).slice (win0_3.rect ⟨_, hb⟩)).set
    rw [View.set_slice_whole, Rect.mem_set_unit]
    have hi := index3 ⟨_, hb⟩
    dsimp only at hi
    intro d
    fin_cases d
    · exact between (b := 512) (n := (i 0).val) hi.1 (by omega)
    · exact between (b := 1024) (n := (i 1).val) hi.2 (by omega)

theorem final4 (i : S1x128.Idx) : ((dats m 0 c).arrAt 4 cfg0.N : S1x128.Idx → EReal) i = loss (H m c) (G m c) (E m c) 4096 := by
  refine Dat.arrAt_forall_of_cover (dat := dats m 0 c) 4 (fun i x => x = loss (H m c) (G m c) (E m c) 4096) ?_ ?_ i
  · intro t hft y
    rw [Cert.LossHIdeal.Value.flushed4]
    obtain ⟨r, l, rfl⟩ : ∃ (r : Fin 1) (l : Fin 128), y = ix2 r l := ⟨y 0, y 1, funext fun d => by fin_cases d <;> rfl⟩
    obtain rfl : r = 0 := Fin.ext (by omega)
    show (outsAt0 m c t.val t.isLt).2.1 (ix2 0 l) = _
    have h7 := (flush0_4 t).mp hft
    refine (left4 m c l t.val t.isLt).trans ?_
    rw [h7]
  · intro i
    have h0 : (i 0).val < 1 := (i 0).isLt
    have h1 : (i 1).val < 128 := (i 1).isLt
    have hb : 7 < cfg0.N := Nat.lt_of_lt_of_eq (by omega) N_0.symm
    refine ⟨⟨_, hb⟩, (flush0_4 _).mpr rfl, ?_⟩
    show i ∈ ((View.whole main_v1_1).slice (win0_4.rect ⟨_, hb⟩)).set
    rw [View.set_slice_whole, Rect.mem_set_unit]
    have hi := index4 ⟨_, hb⟩
    intro d
    fin_cases d
    · exact between (b := 1) (n := (i 0).val) hi.1 (by omega)
    · exact between (b := 128) (n := (i 1).val) hi.2 (by omega)

theorem final5 (i : S1x1024.Idx) : ((dats m 0 c).arrAt 5 cfg0.N : S1x1024.Idx → EReal) i = toGain (H m c) (G m c) (E m c) (i 1).val 4096 := by
  refine Dat.arrAt_forall_of_cover (dat := dats m 0 c) 5 (fun i x => x = toGain (H m c) (G m c) (E m c) (i 1).val 4096) ?_ ?_ i
  · intro t hft y
    rw [Cert.LossHIdeal.Value.flushed5]
    obtain ⟨r, l, rfl⟩ : ∃ (r : Fin 1) (l : Fin 1024), y = ix2 r l := ⟨y 0, y 1, funext fun d => by fin_cases d <;> rfl⟩
    have e1 : (((cfg0.win 5).blk t).view.emb (ix2 r l) 1).val = 1024 * (0) + l.val := by
      exact place win0_5 (index5 t).2 (by show (0) * 1024 + l.val = _; omega)
    rw [e1]
    obtain rfl : r = 0 := Fin.ext (by omega)
    show (outsAt0 m c t.val t.isLt).2.2 (ix2 0 l) = _
    have h7 := (flush0_5 t).mp hft
    refine (left5 m c l t.val t.isLt).trans ?_
    rw [h7]
    simp only [Nat.mul_zero, Nat.zero_add]
  · intro i
    have h0 : (i 0).val < 1 := (i 0).isLt
    have h1 : (i 1).val < 1024 := (i 1).isLt
    have hb : 7 < cfg0.N := Nat.lt_of_lt_of_eq (by omega) N_0.symm
    refine ⟨⟨_, hb⟩, (flush0_5 _).mpr rfl, ?_⟩
    show i ∈ ((View.whole main_v1_2).slice (win0_5.rect ⟨_, hb⟩)).set
    rw [View.set_slice_whole, Rect.mem_set_unit]
    have hi := index5 ⟨_, hb⟩
    intro d
    fin_cases d
    · exact between (b := 1) (n := (i 0).val) hi.1 (by omega)
    · exact between (b := 1024) (n := (i 1).val) hi.2 (by omega)

end

/-! ## The reference, and the claims -/

open Cert.LossHRefIdeal.Read

theorem reference_power (x0 : Vec Ideal S4096x1024 .f32) (r : Fin 4096) : (val_main_v6 (F := Ideal) x0 : Cert.LossHRefIdeal.S4096x1.Idx → EReal) (ix2 r 0) = power count (fun k => at2 x0 r k) 1024 := by
  unfold power
  rw [← dot_fin]
  simp only [← at2_ix2 x0]
  pointwise [val_main_v6, val_main_v5, val_main_v4, val_main_v3, val_main_v2, val_main_v1, val_main_v0, val_main_cst, val_main_cst_0, val_main_cst_1]

theorem reference_scale (x0 : Vec Ideal S4096x1024 .f32) (r : Fin 4096) : (val_main_v7 (F := Ideal) x0 : Cert.LossHRefIdeal.S4096x1.Idx → EReal) (ix2 r 0) = rowScale x0 r := by
  unfold rowScale scale
  rw [← reference_power]
  unfold val_main_v7
  generalize val_main_v6 (F := Ideal) x0 = p
  pointwise

theorem reference_normed (x0 : Vec Ideal S4096x1024 .f32) (r : Fin 4096) (q : Fin 1024) : (val_main_v12 (F := Ideal) x0 : S4096x1024.Idx → EReal) (ix2 r q) = normed x0 r q := by
  unfold normed
  rw [← reference_scale, ← at2_ix2 x0]
  unfold val_main_v12 val_main_v11
  generalize val_main_v7 (F := Ideal) x0 = p
  pointwise

theorem reference_miss (x0 : Vec Ideal S4096x1024 .f32) (x1 : Vec Ideal S1024 .f32) (x2 : Vec Ideal S4096x1024 .f32) (r : Fin 4096) (q : Fin 1024) : (val_main_v16 (F := Ideal) x0 x1 x2 : S4096x1024.Idx → EReal) (ix2 r q) = miss x0 x1 x2 r q := by
  unfold miss
  rw [← reference_normed, ← at2_ix2 x2, ← along_eq]
  unfold val_main_v16 val_main_v15
  generalize val_main_v12 (F := Ideal) x0 = p
  pointwise [val_main_v14, val_main_v13]

theorem reference_slope (x0 : Vec Ideal S4096x1024 .f32) (x1 : Vec Ideal S1024 .f32) (x2 : Vec Ideal S4096x1024 .f32) (r : Fin 4096) (q : Fin 1024) : (val_main_v30 (F := Ideal) x0 x1 x2 : S4096x1024.Idx → EReal) (ix2 r q) = slope x0 x1 x2 r q := by
  unfold slope
  rw [← slope_twice, ← reference_miss]
  unfold val_main_v30 val_main_v29 val_main_v28
  generalize val_main_v16 (F := Ideal) x0 x1 x2 = p
  pointwise [val_main_v27, val_main_v26, val_main_v25, val_main_v24, val_main_v23, val_main_cst_7, val_main_cst_8, val_main_cst_9]

theorem reference_gained (x0 : Vec Ideal S4096x1024 .f32) (x1 : Vec Ideal S1024 .f32) (x2 : Vec Ideal S4096x1024 .f32) (r : Fin 4096) (q : Fin 1024) : (val_main_v35 (F := Ideal) x0 x1 x2 : S4096x1024.Idx → EReal) (ix2 r q) = slope x0 x1 x2 r q * along x1 q := by
  rw [← reference_slope, ← along_eq]
  unfold val_main_v35
  generalize val_main_v30 (F := Ideal) x0 x1 x2 = p
  pointwise [val_main_v34, val_main_v13]

theorem reference_input (x0 : Vec Ideal S4096x1024 .f32) (x1 : Vec Ideal S1024 .f32) (x2 : Vec Ideal S4096x1024 .f32) (r : Fin 4096) (q : Fin 1024) : (val_main_v50 (F := Ideal) x0 x1 x2 : S4096x1024.Idx → EReal) (ix2 r q) = toInput x0 x1 x2 r q := by
  have e : (val_main_v50 (F := Ideal) x0 x1 x2 : S4096x1024.Idx → EReal) (ix2 r q) = (val_main_v35 (F := Ideal) x0 x1 x2 : S4096x1024.Idx → EReal) (ix2 r q) * (val_main_v7 (F := Ideal) x0 : Cert.LossHRefIdeal.S4096x1.Idx → EReal) (ix2 r 0)
        + x0 (ix2 r q) * Ideal.div ((∑ x : Fin 1024, x0 (ix2 r x) * (val_main_v35 (F := Ideal) x0 x1 x2 : S4096x1024.Idx → EReal) (ix2 r x)) * (minusHalf * Ideal.div ((val_main_v7 (F := Ideal) x0 : Cert.LossHRefIdeal.S4096x1.Idx → EReal) (ix2 r 0)) ((val_main_v6 (F := Ideal) x0 : Cert.LossHRefIdeal.S4096x1.Idx → EReal) (ix2 r 0)))) count
        + Ideal.div ((∑ x : Fin 1024, x0 (ix2 r x) * (val_main_v35 (F := Ideal) x0 x1 x2 : S4096x1024.Idx → EReal) (ix2 r x)) * (minusHalf * Ideal.div ((val_main_v7 (F := Ideal) x0 : Cert.LossHRefIdeal.S4096x1.Idx → EReal) (ix2 r 0)) ((val_main_v6 (F := Ideal) x0 : Cert.LossHRefIdeal.S4096x1.Idx → EReal) (ix2 r 0)))) count * x0 (ix2 r q) := by
    unfold val_main_v50 val_main_v49 val_main_v48 val_main_v47 val_main_v46 val_main_v45 val_main_v44 val_main_v42 val_main_v41 val_main_v40 val_main_v39 val_main_v38 val_main_v37 val_main_v10 val_main_v8
    generalize val_main_v35 (F := Ideal) x0 x1 x2 = p
    generalize val_main_v7 (F := Ideal) x0 = s
    generalize val_main_v6 (F := Ideal) x0 = z
    pointwise [val_main_v43, val_main_v9, val_main_cst_2, val_main_cst_12, val_main_cst_13, val_main_cst_14]
    simp only [Finset.univ_unique, Finset.sum_singleton]
    rfl
  have hs : (∑ x : Fin 1024, x0 (ix2 r x) * (val_main_v35 (F := Ideal) x0 x1 x2 : S4096x1024.Idx → EReal) (ix2 r x)) = dot (fun k => at2 x0 r k) (fun k => slope x0 x1 x2 r k * along x1 k) 1024 := by
    rw [← dot_fin]
    refine Finset.sum_congr rfl fun x _ => ?_
    rw [reference_gained, at2_ix2 x0]
  rw [e, hs, reference_gained, reference_scale, reference_power, at2_ix2 x0]
  unfold toInput
  have key := gradient_eq (by norm_num : (0 : ℝ) < 1024) (fun k => at2 x0 r k) (fun k => slope x0 x1 x2 r k * along x1 k) 1024 q 0
  rw [← count_eq, zero_add, zero_add] at key
  exact key.symm

theorem reference_gain (x0 : Vec Ideal S4096x1024 .f32) (x1 : Vec Ideal S1024 .f32) (x2 : Vec Ideal S4096x1024 .f32) (q : Fin 1024) : (val_main_v52 (F := Ideal) x0 x1 x2 : S1x1024.Idx → EReal) (ix2 0 q) = toGain x0 x1 x2 q 4096 := by
  have e : (val_main_v52 (F := Ideal) x0 x1 x2 : S1x1024.Idx → EReal) (ix2 0 q) = ∑ r : Fin 4096, (val_main_v12 (F := Ideal) x0 : S4096x1024.Idx → EReal) (ix2 r q) * (val_main_v30 (F := Ideal) x0 x1 x2 : S4096x1024.Idx → EReal) (ix2 r q) := by
    unfold val_main_v52 val_main_v36 val_main_v33 val_main_v32 val_main_v31
    generalize val_main_v12 (F := Ideal) x0 = p
    generalize val_main_v30 (F := Ideal) x0 x1 x2 = s
    pointwise [val_main_cst_10, val_main_cst_11]
    simp only [Finset.univ_unique, Finset.sum_singleton]
  unfold toGain
  rw [e, ← dot_fin]
  refine Finset.sum_congr rfl fun x _ => ?_
  rw [reference_slope, reference_normed, mul_comm]

theorem reference_loss (x0 : Vec Ideal S4096x1024 .f32) (x1 : Vec Ideal S1024 .f32) (x2 : Vec Ideal S4096x1024 .f32) (q : Fin 128) : (val_main_v51 (F := Ideal) x0 x1 x2 : S1x128.Idx → EReal) (ix2 0 q) = loss x0 x1 x2 4096 := by
  have e : (val_main_v51 (F := Ideal) x0 x1 x2 : S1x128.Idx → EReal) (ix2 0 q) = half * ∑ r : Fin 4096, (val_main_v20 (F := Ideal) x0 x1 x2 : Cert.LossHRefIdeal.S4096.Idx → EReal) (ix1 r) := by
    unfold val_main_v51 val_main_v22 val_main_v21
    generalize val_main_v20 (F := Ideal) x0 x1 x2 = p
    pointwise [val_main_cst_5, val_main_cst_6]
  unfold loss
  rw [e, ← dot_fin]
  refine congrArg _ (Finset.sum_congr rfl fun r _ => ?_)
  unfold rowLoss
  rw [one_mul, ← dot_fin]
  simp only [← reference_miss]
  unfold val_main_v20 val_main_v18 val_main_v17
  generalize val_main_v16 (F := Ideal) x0 x1 x2 = p
  pointwise [val_main_v19, val_main_cst_3, val_main_cst_4]

theorem row_eq {n : ℕ} (i : (⟨2, ![1, n]⟩ : Shape).Idx) : i = ix2 (0 : Fin 1) (i 1) := by
  funext d
  match d with
  | ⟨0, _⟩ => exact Fin.ext (Nat.lt_one_iff.mp (i 0).isLt)
  | ⟨1, _⟩ => rfl

theorem frame_kernel : Cert.quiescent_LossH := fun m g _ => Cert.LossH.Gen.frame m g

theorem frame_ideal : Cert.quiescent_LossHIdeal := fun m g _ => Cert.LossHIdeal.Gen.frame m g

theorem frame_reference : Cert.quiescent_LossHRefIdeal := fun m g _ =>
  (θ_run Cert.LossHRefIdeal.defs _ _).mono (fun r h => ⟨fun c => (h c).2.2.2, sem_eq_zero_of_no_sems (by decide) r.2⟩)
    (Cert.LossHRefIdeal.Value.run (F := Ideal) m g)

/-- The reference's run, its results named by stages of its text. -/
theorem run_reference (m : (ℓ : Loc Cert.LossHRefIdeal.nD Cert.LossHRefIdeal.τ Cert.LossHRefIdeal.sig) → Buf (Elt Ideal) ℓ) (g : Dev Cert.LossHRefIdeal.nD → PrngReg) :
    θ_run Cert.LossHRefIdeal.defs (onTc (τ := Cert.LossHRefIdeal.τ) (Cert.LossHRefIdeal.main (F := Ideal))) ⟨m, fun _ => 0, g⟩ fun r =>
      ∀ c : Dev Cert.LossHRefIdeal.nD,
        let x0 := m ((c.tc : Thread Cert.LossHRefIdeal.nD Cert.LossHRefIdeal.τ).loc Cert.LossHRefIdeal.main_arg0)
        let x1 := m ((c.tc : Thread Cert.LossHRefIdeal.nD Cert.LossHRefIdeal.τ).loc Cert.LossHRefIdeal.main_arg1)
        let x2 := m ((c.tc : Thread Cert.LossHRefIdeal.nD Cert.LossHRefIdeal.τ).loc Cert.LossHRefIdeal.main_arg2)
        r.2.mem ((c.tc : Thread Cert.LossHRefIdeal.nD Cert.LossHRefIdeal.τ).loc Cert.LossHRefIdeal.main_v50) = Cert.LossHRefIdeal.Read.val_main_v50 x0 x1 x2
        ∧ r.2.mem ((c.tc : Thread Cert.LossHRefIdeal.nD Cert.LossHRefIdeal.τ).loc Cert.LossHRefIdeal.main_v51) = Cert.LossHRefIdeal.Read.val_main_v51 x0 x1 x2
        ∧ r.2.mem ((c.tc : Thread Cert.LossHRefIdeal.nD Cert.LossHRefIdeal.τ).loc Cert.LossHRefIdeal.main_v52) = Cert.LossHRefIdeal.Read.val_main_v52 x0 x1 x2
        ∧ r.2.mem ((c.tc : Thread Cert.LossHRefIdeal.nD Cert.LossHRefIdeal.τ).loc Cert.LossHRefIdeal.main_arg0) = x0
        ∧ r.2.mem ((c.tc : Thread Cert.LossHRefIdeal.nD Cert.LossHRefIdeal.τ).loc Cert.LossHRefIdeal.main_arg1) = x1
        ∧ r.2.mem ((c.tc : Thread Cert.LossHRefIdeal.nD Cert.LossHRefIdeal.τ).loc Cert.LossHRefIdeal.main_arg2) = x2 :=
  (θ_run _ _ _).mono (fun _ h c => ⟨(h c).1.trans (Cert.LossHRefIdeal.Read.val_main_v50_eq _ _).symm, (h c).2.1.trans (Cert.LossHRefIdeal.Read.val_main_v51_eq _ _ _).symm, (h c).2.2.1.trans (Cert.LossHRefIdeal.Read.val_main_v52_eq _ _ _).symm, (h c).2.2.2⟩)
    (Cert.LossHRefIdeal.Value.run m g)

theorem algebraic : Cert.algebraic_LossHIdeal_LossHRefIdeal := by
  pair_intro
  · run_from Cert.LossHIdeal.Value.run_blocks m g
  · run_from run_reference m' g'
    · refine funext fun i => ?_
      rw [final3 m c]
      exact (congrArg _ (funext fun d => by fin_cases d <;> rfl)).trans (reference_input _ _ _ (i 0) (i 1))
    · refine funext fun i => ?_
      rw [final4 m c]
      exact (congrArg _ (row_eq i)).trans (reference_loss _ _ _ (i 1))
    · refine funext fun i => ?_
      rw [final5 m c]
      exact (congrArg _ (row_eq i)).trans (reference_gain _ _ _ (i 1))

end Cert.LossHProof

end
-- ==== Proof.lean ====
/-
  The certificate's claims put together: for each program its frames, and for each kernel its equality with its reference.
-/
module

public import proofs.«01_k».proof.Defs
public import proofs.«01_k».proof.Proof.Gen.Pre_dact_finite
public import proofs.«01_k».proof.Proof.Gen.Pre_mcb_finite
public import proofs.«01_k».proof.Proof.Gen.ScConv.Frame
public import proofs.«01_k».proof.Proof.Gen.ScConvIdeal.Value
public import proofs.«01_k».proof.Proof.Gen.ScConvRefIdeal.Run
public import proofs.«01_k».proof.Proof.Gen.ScConvRefIdeal.Read
public import proofs.«01_k».proof.Proof.ScConvClaims
public import proofs.«01_k».proof.Proof.Gen.DAct.Frame
public import proofs.«01_k».proof.Proof.Gen.DActIdeal.Value
public import proofs.«01_k».proof.Proof.Gen.DActRefIdeal.Run
public import proofs.«01_k».proof.Proof.Gen.DActRefIdeal.Read
public import proofs.«01_k».proof.Proof.DActAct
public import proofs.«01_k».proof.Proof.Gen.DWd.Frame
public import proofs.«01_k».proof.Proof.Gen.DWdIdeal.Value
public import proofs.«01_k».proof.Proof.Gen.DWdRefIdeal.Run
public import proofs.«01_k».proof.Proof.Gen.DWdRefIdeal.Read
public import proofs.«01_k».proof.Proof.DWdProd
public import proofs.«01_k».proof.Proof.Gen.DWg.Frame
public import proofs.«01_k».proof.Proof.Gen.DWgIdeal.Value
public import proofs.«01_k».proof.Proof.Gen.DWgRefIdeal.Run
public import proofs.«01_k».proof.Proof.Gen.DWgRefIdeal.Read
public import proofs.«01_k».proof.Proof.DWgProd
public import proofs.«01_k».proof.Proof.Gen.DXn.Frame
public import proofs.«01_k».proof.Proof.Gen.DXnIdeal.Value
public import proofs.«01_k».proof.Proof.Gen.DXnRefIdeal.Run
public import proofs.«01_k».proof.Proof.Gen.DXnRefIdeal.Read
public import proofs.«01_k».proof.Proof.DXnProd
public import proofs.«01_k».proof.Proof.Gen.DXnU.Frame
public import proofs.«01_k».proof.Proof.Gen.DXnUIdeal.Value
public import proofs.«01_k».proof.Proof.Gen.DXnURefIdeal.Run
public import proofs.«01_k».proof.Proof.Gen.DXnURefIdeal.Read
public import proofs.«01_k».proof.Proof.DXnUNorm
public import proofs.«01_k».proof.Proof.Gen.DMerged.Frame
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.DMergedProd
public import proofs.«01_k».proof.Proof.Gen.DWo.Frame
public import proofs.«01_k».proof.Proof.Gen.DWoIdeal.Value
public import proofs.«01_k».proof.Proof.Gen.DWoRefIdeal.Run
public import proofs.«01_k».proof.Proof.Gen.DWoRefIdeal.Read
public import proofs.«01_k».proof.Proof.DWoProd
public import proofs.«01_k».proof.Proof.Gen.DScW.Frame
public import proofs.«01_k».proof.Proof.Gen.DScWIdeal.Value
public import proofs.«01_k».proof.Proof.Gen.DScWRefIdeal.Run
public import proofs.«01_k».proof.Proof.Gen.DScWRefIdeal.Read
public import proofs.«01_k».proof.Proof.DScWProd
public import proofs.«01_k».proof.Proof.Gen.DV.Frame
public import proofs.«01_k».proof.Proof.Gen.DVIdeal.Value
public import proofs.«01_k».proof.Proof.Gen.DVRefIdeal.Run
public import proofs.«01_k».proof.Proof.Gen.DVRefIdeal.Read
public import proofs.«01_k».proof.Proof.DVProd
public import proofs.«01_k».proof.Proof.Gen.DMW.Frame
public import proofs.«01_k».proof.Proof.Gen.DMWIdeal.Value
public import proofs.«01_k».proof.Proof.Gen.DMWRefIdeal.Run
public import proofs.«01_k».proof.Proof.Gen.DMWRefIdeal.Read
public import proofs.«01_k».proof.Proof.DMWProd
public import proofs.«01_k».proof.Proof.Gen.DYn.Frame
public import proofs.«01_k».proof.Proof.Gen.DYnIdeal.Value
public import proofs.«01_k».proof.Proof.Gen.DYnRefIdeal.Run
public import proofs.«01_k».proof.Proof.Gen.DYnRefIdeal.Read
public import proofs.«01_k».proof.Proof.DYnProd
public import proofs.«01_k».proof.Proof.Gen.DU.Frame
public import proofs.«01_k».proof.Proof.Gen.DUIdeal.Value
public import proofs.«01_k».proof.Proof.Gen.DURefIdeal.Run
public import proofs.«01_k».proof.Proof.Gen.DURefIdeal.Read
public import proofs.«01_k».proof.Proof.DUProd
public import proofs.«01_k».proof.Proof.Gen.DWin.Frame
public import proofs.«01_k».proof.Proof.Gen.DWinIdeal.Value
public import proofs.«01_k».proof.Proof.Gen.DWinRefIdeal.Run
public import proofs.«01_k».proof.Proof.Gen.DWinRefIdeal.Read
public import proofs.«01_k».proof.Proof.DWinProd
public import proofs.«01_k».proof.Proof.Gen.DUDt.Frame
public import proofs.«01_k».proof.Proof.Gen.DUDtIdeal.Value
public import proofs.«01_k».proof.Proof.Gen.DUDtRefIdeal.Run
public import proofs.«01_k».proof.Proof.Gen.DUDtRefIdeal.Read
public import proofs.«01_k».proof.Proof.DUDtNorm
public import proofs.«01_k».proof.Proof.Gen.DWinDt.Frame
public import proofs.«01_k».proof.Proof.Gen.DWinDtIdeal.Value
public import proofs.«01_k».proof.Proof.Gen.DWinDtRefIdeal.Run
public import proofs.«01_k».proof.Proof.Gen.DWinDtRefIdeal.Read
public import proofs.«01_k».proof.Proof.DWinDtProd
public import proofs.«01_k».proof.Proof.Gen.DPle.Frame
public import proofs.«01_k».proof.Proof.Gen.DPleIdeal.Value
public import proofs.«01_k».proof.Proof.Gen.DPleRefIdeal.Run
public import proofs.«01_k».proof.Proof.Gen.DPleRefIdeal.Read
public import proofs.«01_k».proof.Proof.DPleNorm
public import proofs.«01_k».proof.Proof.Gen.DPleProj.Frame
public import proofs.«01_k».proof.Proof.Gen.DPleProjIdeal.Value
public import proofs.«01_k».proof.Proof.Gen.DPleProjRefIdeal.Run
public import proofs.«01_k».proof.Proof.Gen.DPleProjRefIdeal.Read
public import proofs.«01_k».proof.Proof.DPleProjProd
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpAct
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownProd
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjProd
public import proofs.«01_k».proof.Proof.Gen.InProjDt.Frame
public import proofs.«01_k».proof.Proof.Gen.InProjDtIdeal.Value
public import proofs.«01_k».proof.Proof.Gen.InProjDtRefIdeal.Run
public import proofs.«01_k».proof.Proof.Gen.InProjDtRefIdeal.Read
public import proofs.«01_k».proof.Proof.InProjDtProd
public import proofs.«01_k».proof.Proof.Gen.PleProj.Frame
public import proofs.«01_k».proof.Proof.Gen.PleProjIdeal.Value
public import proofs.«01_k».proof.Proof.Gen.PleProjRefIdeal.Run
public import proofs.«01_k».proof.Proof.Gen.PleProjRefIdeal.Read
public import proofs.«01_k».proof.Proof.PleProjProd
public import proofs.«01_k».proof.Proof.Gen.ScOut.Frame
public import proofs.«01_k».proof.Proof.Gen.ScOutIdeal.Value
public import proofs.«01_k».proof.Proof.Gen.ScOutRefIdeal.Run
public import proofs.«01_k».proof.Proof.Gen.ScOutRefIdeal.Read
public import proofs.«01_k».proof.Proof.ScOutProd
public import proofs.«01_k».proof.Proof.Gen.MOut.Frame
public import proofs.«01_k».proof.Proof.Gen.MOutIdeal.Value
public import proofs.«01_k».proof.Proof.Gen.MOutRefIdeal.Run
public import proofs.«01_k».proof.Proof.Gen.MOutRefIdeal.Read
public import proofs.«01_k».proof.Proof.MOutProd
public import proofs.«01_k».proof.Proof.Gen.WO.Frame
public import proofs.«01_k».proof.Proof.Gen.WOIdeal.Value
public import proofs.«01_k».proof.Proof.Gen.WORefIdeal.Run
public import proofs.«01_k».proof.Proof.Gen.WORefIdeal.Read
public import proofs.«01_k».proof.Proof.WOProd
public import proofs.«01_k».proof.Proof.Gen.MergeB.Frame
public import proofs.«01_k».proof.Proof.Gen.MergeBIdeal.Value
public import proofs.«01_k».proof.Proof.Gen.MergeBRefIdeal.Run
public import proofs.«01_k».proof.Proof.Gen.MergeBRefIdeal.Read
public import proofs.«01_k».proof.Proof.MergeBEw
public import proofs.«01_k».proof.Proof.Gen.PleB.Frame
public import proofs.«01_k».proof.Proof.Gen.PleBIdeal.Value
public import proofs.«01_k».proof.Proof.Gen.PleBRefIdeal.Run
public import proofs.«01_k».proof.Proof.Gen.PleBRefIdeal.Read
public import proofs.«01_k».proof.Proof.PleBEw
public import proofs.«01_k».proof.Proof.Gen.MConvB.Frame
public import proofs.«01_k».proof.Proof.Gen.MConvBIdeal.Value
public import proofs.«01_k».proof.Proof.Gen.MConvBRefIdeal.Run
public import proofs.«01_k».proof.Proof.Gen.MConvBRefIdeal.Read
public import proofs.«01_k».proof.Proof.MConvBEw
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeFRefIdeal.Read
public import proofs.«01_k».proof.Proof.MergeFEw
public import proofs.«01_k».proof.Proof.Gen.PleF.Frame
public import proofs.«01_k».proof.Proof.Gen.PleFIdeal.Value
public import proofs.«01_k».proof.Proof.Gen.PleFRefIdeal.Run
public import proofs.«01_k».proof.Proof.Gen.PleFRefIdeal.Read
public import proofs.«01_k».proof.Proof.PleFEw
public import proofs.«01_k».proof.Proof.Gen.Rms.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.RmsEw
public import proofs.«01_k».proof.Proof.Gen.GNormF.Frame
public import proofs.«01_k».proof.Proof.Gen.GNormFIdeal.Value
public import proofs.«01_k».proof.Proof.Gen.GNormFRefIdeal.Run
public import proofs.«01_k».proof.Proof.Gen.GNormFRefIdeal.Read
public import proofs.«01_k».proof.Proof.GNormFEw
public import proofs.«01_k».proof.Proof.Gen.ScConvF.Frame
public import proofs.«01_k».proof.Proof.Gen.ScConvFIdeal.Value
public import proofs.«01_k».proof.Proof.Gen.ScConvFRefIdeal.Run
public import proofs.«01_k».proof.Proof.Gen.ScConvFRefIdeal.Read
public import proofs.«01_k».proof.Proof.ScConvFEw
public import proofs.«01_k».proof.Proof.Gen.MConvF.Frame
public import proofs.«01_k».proof.Proof.Gen.MConvFIdeal.Value
public import proofs.«01_k».proof.Proof.Gen.MConvFRefIdeal.Run
public import proofs.«01_k».proof.Proof.Gen.MConvFRefIdeal.Read
public import proofs.«01_k».proof.Proof.MConvFEw
public import proofs.«01_k».proof.Proof.Gen.LossH.Frame
public import proofs.«01_k».proof.Proof.Gen.LossHIdeal.Value
public import proofs.«01_k».proof.Proof.Gen.LossHRefIdeal.Run
public import proofs.«01_k».proof.Proof.Gen.LossHRefIdeal.Read
public import proofs.«01_k».proof.Proof.LossHEw
public import Idealize.ShloMosaic.Adequacy
public import Idealize.ShloMosaic.Init

@[expose] public section

noncomputable section

namespace Cert.Proof

open Idealize.ShloMosaic Idealize.SL.Sem

theorem claim : Cert.Claim := ⟨
  Cert.ScConv.Gen.facts, Cert.ScConvIdeal.Gen.facts, Cert.ScConvRefIdeal.Gen.facts, Cert.DAct.Gen.facts,
  Cert.DActIdeal.Gen.facts, Cert.DActRefIdeal.Gen.facts, Cert.DWd.Gen.facts, Cert.DWdIdeal.Gen.facts,
  Cert.DWdRefIdeal.Gen.facts, Cert.DWg.Gen.facts, Cert.DWgIdeal.Gen.facts, Cert.DWgRefIdeal.Gen.facts,
  Cert.DXn.Gen.facts, Cert.DXnIdeal.Gen.facts, Cert.DXnRefIdeal.Gen.facts, Cert.DXnU.Gen.facts,
  Cert.DXnUIdeal.Gen.facts, Cert.DXnURefIdeal.Gen.facts, Cert.DMerged.Gen.facts, Cert.DMergedIdeal.Gen.facts,
  Cert.DMergedRefIdeal.Gen.facts, Cert.DWo.Gen.facts, Cert.DWoIdeal.Gen.facts, Cert.DWoRefIdeal.Gen.facts,
  Cert.DScW.Gen.facts, Cert.DScWIdeal.Gen.facts, Cert.DScWRefIdeal.Gen.facts, Cert.DV.Gen.facts,
  Cert.DVIdeal.Gen.facts, Cert.DVRefIdeal.Gen.facts, Cert.DMW.Gen.facts, Cert.DMWIdeal.Gen.facts,
  Cert.DMWRefIdeal.Gen.facts, Cert.DYn.Gen.facts, Cert.DYnIdeal.Gen.facts, Cert.DYnRefIdeal.Gen.facts,
  Cert.DU.Gen.facts, Cert.DUIdeal.Gen.facts, Cert.DURefIdeal.Gen.facts, Cert.DWin.Gen.facts,
  Cert.DWinIdeal.Gen.facts, Cert.DWinRefIdeal.Gen.facts, Cert.DUDt.Gen.facts, Cert.DUDtIdeal.Gen.facts,
  Cert.DUDtRefIdeal.Gen.facts, Cert.DWinDt.Gen.facts, Cert.DWinDtIdeal.Gen.facts, Cert.DWinDtRefIdeal.Gen.facts,
  Cert.DPle.Gen.facts, Cert.DPleIdeal.Gen.facts, Cert.DPleRefIdeal.Gen.facts, Cert.DPleProj.Gen.facts,
  Cert.DPleProjIdeal.Gen.facts, Cert.DPleProjRefIdeal.Gen.facts, Cert.FfnUp.Gen.facts,
  Cert.FfnUpIdeal.Gen.facts, Cert.FfnUpRefIdeal.Gen.facts, Cert.Down.Gen.facts, Cert.DownIdeal.Gen.facts,
  Cert.DownRefIdeal.Gen.facts, Cert.InProj.Gen.facts, Cert.InProjIdeal.Gen.facts, Cert.InProjRefIdeal.Gen.facts,
  Cert.InProjDt.Gen.facts, Cert.InProjDtIdeal.Gen.facts, Cert.InProjDtRefIdeal.Gen.facts,
  Cert.PleProj.Gen.facts, Cert.PleProjIdeal.Gen.facts, Cert.PleProjRefIdeal.Gen.facts, Cert.ScOut.Gen.facts,
  Cert.ScOutIdeal.Gen.facts, Cert.ScOutRefIdeal.Gen.facts, Cert.MOut.Gen.facts, Cert.MOutIdeal.Gen.facts,
  Cert.MOutRefIdeal.Gen.facts, Cert.WO.Gen.facts, Cert.WOIdeal.Gen.facts, Cert.WORefIdeal.Gen.facts,
  Cert.MergeB.Gen.facts, Cert.MergeBIdeal.Gen.facts, Cert.MergeBRefIdeal.Gen.facts, Cert.PleB.Gen.facts,
  Cert.PleBIdeal.Gen.facts, Cert.PleBRefIdeal.Gen.facts, Cert.MConvB.Gen.facts, Cert.MConvBIdeal.Gen.facts,
  Cert.MConvBRefIdeal.Gen.facts, Cert.MergeF.Gen.facts, Cert.MergeFIdeal.Gen.facts,
  Cert.MergeFRefIdeal.Gen.facts, Cert.PleF.Gen.facts, Cert.PleFIdeal.Gen.facts, Cert.PleFRefIdeal.Gen.facts,
  Cert.Rms.Gen.facts, Cert.RmsIdeal.Gen.facts, Cert.RmsRefIdeal.Gen.facts, Cert.GNormF.Gen.facts,
  Cert.GNormFIdeal.Gen.facts, Cert.GNormFRefIdeal.Gen.facts, Cert.ScConvF.Gen.facts,
  Cert.ScConvFIdeal.Gen.facts, Cert.ScConvFRefIdeal.Gen.facts, Cert.MConvF.Gen.facts,
  Cert.MConvFIdeal.Gen.facts, Cert.MConvFRefIdeal.Gen.facts, Cert.LossH.Gen.facts, Cert.LossHIdeal.Gen.facts,
  Cert.LossHRefIdeal.Gen.facts, Cert.Pre_dact_finite.Gen.facts, Cert.Pre_mcb_finite.Gen.facts,
  Cert.ScConvClaims.frame_kernel, Cert.ScConvClaims.frame_ideal, Cert.ScConvClaims.frame_reference,
  Cert.DActProof.frame_kernel, Cert.DActProof.frame_ideal, Cert.DActProof.frame_ideal_pre,
  Cert.DActProof.frame_reference, Cert.DActProof.frame_reference_pre, Cert.DWdProof.frame_kernel,
  Cert.DWdProof.frame_ideal, Cert.DWdProof.frame_reference, Cert.DWgProof.frame_kernel,
  Cert.DWgProof.frame_ideal, Cert.DWgProof.frame_reference, Cert.DXnProof.frame_kernel,
  Cert.DXnProof.frame_ideal, Cert.DXnProof.frame_reference, Cert.DXnUProof.frame_kernel,
  Cert.DXnUProof.frame_ideal, Cert.DXnUProof.frame_reference, Cert.DMergedProof.frame_kernel,
  Cert.DMergedProof.frame_ideal, Cert.DMergedProof.frame_reference, Cert.DWoProof.frame_kernel,
  Cert.DWoProof.frame_ideal, Cert.DWoProof.frame_reference, Cert.DScWProof.frame_kernel,
  Cert.DScWProof.frame_ideal, Cert.DScWProof.frame_reference, Cert.DVProof.frame_kernel,
  Cert.DVProof.frame_ideal, Cert.DVProof.frame_reference, Cert.DMWProof.frame_kernel, Cert.DMWProof.frame_ideal,
  Cert.DMWProof.frame_reference, Cert.DYnProof.frame_kernel, Cert.DYnProof.frame_ideal,
  Cert.DYnProof.frame_reference, Cert.DUProof.frame_kernel, Cert.DUProof.frame_ideal,
  Cert.DUProof.frame_reference, Cert.DWinProof.frame_kernel, Cert.DWinProof.frame_ideal,
  Cert.DWinProof.frame_reference, Cert.DUDtProof.frame_kernel, Cert.DUDtProof.frame_ideal,
  Cert.DUDtProof.frame_reference, Cert.DWinDtProof.frame_kernel, Cert.DWinDtProof.frame_ideal,
  Cert.DWinDtProof.frame_reference, Cert.DPleProof.frame_kernel, Cert.DPleProof.frame_ideal,
  Cert.DPleProof.frame_reference, Cert.DPleProjProof.frame_kernel, Cert.DPleProjProof.frame_ideal,
  Cert.DPleProjProof.frame_reference, Cert.FfnUpProof.frame_kernel, Cert.FfnUpProof.frame_ideal,
  Cert.FfnUpProof.frame_reference, Cert.DownProof.frame_kernel, Cert.DownProof.frame_ideal,
  Cert.DownProof.frame_reference, Cert.InProjProof.frame_kernel, Cert.InProjProof.frame_ideal,
  Cert.InProjProof.frame_reference, Cert.InProjDtProof.frame_kernel, Cert.InProjDtProof.frame_ideal,
  Cert.InProjDtProof.frame_reference, Cert.PleProjProof.frame_kernel, Cert.PleProjProof.frame_ideal,
  Cert.PleProjProof.frame_reference, Cert.ScOutProof.frame_kernel, Cert.ScOutProof.frame_ideal,
  Cert.ScOutProof.frame_reference, Cert.MOutProof.frame_kernel, Cert.MOutProof.frame_ideal,
  Cert.MOutProof.frame_reference, Cert.WOProof.frame_kernel, Cert.WOProof.frame_ideal,
  Cert.WOProof.frame_reference, Cert.MergeBProof.frame_kernel, Cert.MergeBProof.frame_ideal,
  Cert.MergeBProof.frame_reference, Cert.PleBProof.frame_kernel, Cert.PleBProof.frame_ideal,
  Cert.PleBProof.frame_reference, Cert.MConvBProof.frame_kernel, Cert.MConvBProof.frame_ideal,
  Cert.MConvBProof.frame_ideal_pre, Cert.MConvBProof.frame_reference, Cert.MConvBProof.frame_reference_pre,
  Cert.MergeFProof.frame_kernel, Cert.MergeFProof.frame_ideal, Cert.MergeFProof.frame_reference,
  Cert.PleFProof.frame_kernel, Cert.PleFProof.frame_ideal, Cert.PleFProof.frame_reference,
  Cert.RmsProof.frame_kernel, Cert.RmsProof.frame_ideal, Cert.RmsProof.frame_reference,
  Cert.GNormFProof.frame_kernel, Cert.GNormFProof.frame_ideal, Cert.GNormFProof.frame_reference,
  Cert.ScConvFProof.frame_kernel, Cert.ScConvFProof.frame_ideal, Cert.ScConvFProof.frame_reference,
  Cert.MConvFProof.frame_kernel, Cert.MConvFProof.frame_ideal, Cert.MConvFProof.frame_reference,
  Cert.LossHProof.frame_kernel, Cert.LossHProof.frame_ideal, Cert.LossHProof.frame_reference, trivial,
  Cert.ScConvClaims.algebraic, trivial, Cert.DActProof.algebraic, trivial, Cert.DWdProof.algebraic, trivial,
  Cert.DWgProof.algebraic, trivial, Cert.DXnProof.algebraic, trivial, Cert.DXnUProof.algebraic, trivial,
  Cert.DMergedProof.algebraic, trivial, Cert.DWoProof.algebraic, trivial, Cert.DScWProof.algebraic, trivial,
  Cert.DVProof.algebraic, trivial, Cert.DMWProof.algebraic, trivial, Cert.DYnProof.algebraic, trivial,
  Cert.DUProof.algebraic, trivial, Cert.DWinProof.algebraic, trivial, Cert.DUDtProof.algebraic, trivial,
  Cert.DWinDtProof.algebraic, trivial, Cert.DPleProof.algebraic, trivial, Cert.DPleProjProof.algebraic, trivial,
  Cert.FfnUpProof.algebraic, trivial, Cert.DownProof.algebraic, trivial, Cert.InProjProof.algebraic, trivial,
  Cert.InProjDtProof.algebraic, trivial, Cert.PleProjProof.algebraic, trivial, Cert.ScOutProof.algebraic,
  trivial, Cert.MOutProof.algebraic, trivial, Cert.WOProof.algebraic, trivial, Cert.MergeBProof.algebraic,
  trivial, Cert.PleBProof.algebraic, trivial, Cert.MConvBProof.algebraic, trivial, Cert.MergeFProof.algebraic,
  trivial, Cert.PleFProof.algebraic, trivial, Cert.RmsProof.algebraic, trivial, Cert.GNormFProof.algebraic,
  trivial, Cert.ScConvFProof.algebraic, trivial, Cert.MConvFProof.algebraic, trivial, Cert.LossHProof.algebraic⟩

end Cert.Proof

end
